-- ==== Defs.lean ====
def Pre_Du (m : (ℓ : Loc Cert.Du.nD Cert.Du.τ Cert.Du.sig) → Buf (Elt Bits) ℓ) : Prop :=
  True

def Pre_DuIdeal (m : (ℓ : Loc Cert.DuIdeal.nD Cert.DuIdeal.τ Cert.DuIdeal.sig) → Buf (Elt Ideal) ℓ) : Prop :=
  True

def Pre_DuIdeal_finite_du [hPre_finite_du : Cert.Pre_finite_du.Facts] (m : (ℓ : Loc Cert.DuIdeal.nD Cert.DuIdeal.τ Cert.DuIdeal.sig) → Buf (Elt Ideal) ℓ) : Prop :=
  ∀ c : Dev Cert.DuIdeal.nD,
    (Cert.Pre_finite_du.fn (F := Ideal) (m ((c.tc : Thread Cert.DuIdeal.nD Cert.DuIdeal.τ).loc Cert.DuIdeal.main_arg0)) (m ((c.tc : Thread Cert.DuIdeal.nD Cert.DuIdeal.τ).loc Cert.DuIdeal.main_arg1)) (m ((c.tc : Thread Cert.DuIdeal.nD Cert.DuIdeal.τ).loc Cert.DuIdeal.main_arg2)) (m ((c.tc : Thread Cert.DuIdeal.nD Cert.DuIdeal.τ).loc Cert.DuIdeal.main_arg3)) (m ((c.tc : Thread Cert.DuIdeal.nD Cert.DuIdeal.τ).loc Cert.DuIdeal.main_arg4))).1 = (fun _ => 1#1)
    ∧ (Cert.Pre_finite_du.fn (F := Ideal) (m ((c.tc : Thread Cert.DuIdeal.nD Cert.DuIdeal.τ).loc Cert.DuIdeal.main_arg0)) (m ((c.tc : Thread Cert.DuIdeal.nD Cert.DuIdeal.τ).loc Cert.DuIdeal.main_arg1)) (m ((c.tc : Thread Cert.DuIdeal.nD Cert.DuIdeal.τ).loc Cert.DuIdeal.main_arg2)) (m ((c.tc : Thread Cert.DuIdeal.nD Cert.DuIdeal.τ).loc Cert.DuIdeal.main_arg3)) (m ((c.tc : Thread Cert.DuIdeal.nD Cert.DuIdeal.τ).loc Cert.DuIdeal.main_arg4))).2.1 = (fun _ => 1#1)
    ∧ (Cert.Pre_finite_du.fn (F := Ideal) (m ((c.tc : Thread Cert.DuIdeal.nD Cert.DuIdeal.τ).loc Cert.DuIdeal.main_arg0)) (m ((c.tc : Thread Cert.DuIdeal.nD Cert.DuIdeal.τ).loc Cert.DuIdeal.main_arg1)) (m ((c.tc : Thread Cert.DuIdeal.nD Cert.DuIdeal.τ).loc Cert.DuIdeal.main_arg2)) (m ((c.tc : Thread Cert.DuIdeal.nD Cert.DuIdeal.τ).loc Cert.DuIdeal.main_arg3)) (m ((c.tc : Thread Cert.DuIdeal.nD Cert.DuIdeal.τ).loc Cert.DuIdeal.main_arg4))).2.2.1 = (fun _ => 1#1)
    ∧ (Cert.Pre_finite_du.fn (F := Ideal) (m ((c.tc : Thread Cert.DuIdeal.nD Cert.DuIdeal.τ).loc Cert.DuIdeal.main_arg0)) (m ((c.tc : Thread Cert.DuIdeal.nD Cert.DuIdeal.τ).loc Cert.DuIdeal.main_arg1)) (m ((c.tc : Thread Cert.DuIdeal.nD Cert.DuIdeal.τ).loc Cert.DuIdeal.main_arg2)) (m ((c.tc : Thread Cert.DuIdeal.nD Cert.DuIdeal.τ).loc Cert.DuIdeal.main_arg3)) (m ((c.tc : Thread Cert.DuIdeal.nD Cert.DuIdeal.τ).loc Cert.DuIdeal.main_arg4))).2.2.2 = (fun _ => 1#1)

def Pre_DuRefIdeal (m : (ℓ : Loc Cert.DuRefIdeal.nD Cert.DuRefIdeal.τ Cert.DuRefIdeal.sig) → Buf (Elt Ideal) ℓ) : Prop :=
  True

def Pre_DuRefIdeal_finite_du [hPre_finite_du : Cert.Pre_finite_du.Facts] (m : (ℓ : Loc Cert.DuRefIdeal.nD Cert.DuRefIdeal.τ Cert.DuRefIdeal.sig) → Buf (Elt Ideal) ℓ) : Prop :=
  ∀ c : Dev Cert.DuRefIdeal.nD,
    (Cert.Pre_finite_du.fn (F := Ideal) (m ((c.tc : Thread Cert.DuRefIdeal.nD Cert.DuRefIdeal.τ).loc Cert.DuRefIdeal.main_arg0)) (m ((c.tc : Thread Cert.DuRefIdeal.nD Cert.DuRefIdeal.τ).loc Cert.DuRefIdeal.main_arg1)) (m ((c.tc : Thread Cert.DuRefIdeal.nD Cert.DuRefIdeal.τ).loc Cert.DuRefIdeal.main_arg2)) (m ((c.tc : Thread Cert.DuRefIdeal.nD Cert.DuRefIdeal.τ).loc Cert.DuRefIdeal.main_arg3)) (m ((c.tc : Thread Cert.DuRefIdeal.nD Cert.DuRefIdeal.τ).loc Cert.DuRefIdeal.main_arg4))).1 = (fun _ => 1#1)
    ∧ (Cert.Pre_finite_du.fn (F := Ideal) (m ((c.tc : Thread Cert.DuRefIdeal.nD Cert.DuRefIdeal.τ).loc Cert.DuRefIdeal.main_arg0)) (m ((c.tc : Thread Cert.DuRefIdeal.nD Cert.DuRefIdeal.τ).loc Cert.DuRefIdeal.main_arg1)) (m ((c.tc : Thread Cert.DuRefIdeal.nD Cert.DuRefIdeal.τ).loc Cert.DuRefIdeal.main_arg2)) (m ((c.tc : Thread Cert.DuRefIdeal.nD Cert.DuRefIdeal.τ).loc Cert.DuRefIdeal.main_arg3)) (m ((c.tc : Thread Cert.DuRefIdeal.nD Cert.DuRefIdeal.τ).loc Cert.DuRefIdeal.main_arg4))).2.1 = (fun _ => 1#1)
    ∧ (Cert.Pre_finite_du.fn (F := Ideal) (m ((c.tc : Thread Cert.DuRefIdeal.nD Cert.DuRefIdeal.τ).loc Cert.DuRefIdeal.main_arg0)) (m ((c.tc : Thread Cert.DuRefIdeal.nD Cert.DuRefIdeal.τ).loc Cert.DuRefIdeal.main_arg1)) (m ((c.tc : Thread Cert.DuRefIdeal.nD Cert.DuRefIdeal.τ).loc Cert.DuRefIdeal.main_arg2)) (m ((c.tc : Thread Cert.DuRefIdeal.nD Cert.DuRefIdeal.τ).loc Cert.DuRefIdeal.main_arg3)) (m ((c.tc : Thread Cert.DuRefIdeal.nD Cert.DuRefIdeal.τ).loc Cert.DuRefIdeal.main_arg4))).2.2.1 = (fun _ => 1#1)
    ∧ (Cert.Pre_finite_du.fn (F := Ideal) (m ((c.tc : Thread Cert.DuRefIdeal.nD Cert.DuRefIdeal.τ).loc Cert.DuRefIdeal.main_arg0)) (m ((c.tc : Thread Cert.DuRefIdeal.nD Cert.DuRefIdeal.τ).loc Cert.DuRefIdeal.main_arg1)) (m ((c.tc : Thread Cert.DuRefIdeal.nD Cert.DuRefIdeal.τ).loc Cert.DuRefIdeal.main_arg2)) (m ((c.tc : Thread Cert.DuRefIdeal.nD Cert.DuRefIdeal.τ).loc Cert.DuRefIdeal.main_arg3)) (m ((c.tc : Thread Cert.DuRefIdeal.nD Cert.DuRefIdeal.τ).loc Cert.DuRefIdeal.main_arg4))).2.2.2 = (fun _ => 1#1)

def Pre_Swa (m : (ℓ : Loc Cert.Swa.nD Cert.Swa.τ Cert.Swa.sig) → Buf (Elt Bits) ℓ) : Prop :=
  True

def Pre_SwaIdeal (m : (ℓ : Loc Cert.SwaIdeal.nD Cert.SwaIdeal.τ Cert.SwaIdeal.sig) → Buf (Elt Ideal) ℓ) : Prop :=
  True

def Pre_SwaIdeal_finite_swa [hPre_finite_swa : Cert.Pre_finite_swa.Facts] (m : (ℓ : Loc Cert.SwaIdeal.nD Cert.SwaIdeal.τ Cert.SwaIdeal.sig) → Buf (Elt Ideal) ℓ) : Prop :=
  ∀ c : Dev Cert.SwaIdeal.nD,
    (Cert.Pre_finite_swa.fn (F := Ideal) (m ((c.tc : Thread Cert.SwaIdeal.nD Cert.SwaIdeal.τ).loc Cert.SwaIdeal.main_arg0)) (m ((c.tc : Thread Cert.SwaIdeal.nD Cert.SwaIdeal.τ).loc Cert.SwaIdeal.main_arg1)) (m ((c.tc : Thread Cert.SwaIdeal.nD Cert.SwaIdeal.τ).loc Cert.SwaIdeal.main_arg2))).1 = (fun _ => 1#1)
    ∧ (Cert.Pre_finite_swa.fn (F := Ideal) (m ((c.tc : Thread Cert.SwaIdeal.nD Cert.SwaIdeal.τ).loc Cert.SwaIdeal.main_arg0)) (m ((c.tc : Thread Cert.SwaIdeal.nD Cert.SwaIdeal.τ).loc Cert.SwaIdeal.main_arg1)) (m ((c.tc : Thread Cert.SwaIdeal.nD Cert.SwaIdeal.τ).loc Cert.SwaIdeal.main_arg2))).2.1 = (fun _ => 1#1)
    ∧ (Cert.Pre_finite_swa.fn (F := Ideal) (m ((c.tc : Thread Cert.SwaIdeal.nD Cert.SwaIdeal.τ).loc Cert.SwaIdeal.main_arg0)) (m ((c.tc : Thread Cert.SwaIdeal.nD Cert.SwaIdeal.τ).loc Cert.SwaIdeal.main_arg1)) (m ((c.tc : Thread Cert.SwaIdeal.nD Cert.SwaIdeal.τ).loc Cert.SwaIdeal.main_arg2))).2.2 = (fun _ => 1#1)

def Pre_SwaRefIdeal (m : (ℓ : Loc Cert.SwaRefIdeal.nD Cert.SwaRefIdeal.τ Cert.SwaRefIdeal.sig) → Buf (Elt Ideal) ℓ) : Prop :=
  True

def Pre_SwaRefIdeal_finite_swa [hPre_finite_swa : Cert.Pre_finite_swa.Facts] (m : (ℓ : Loc Cert.SwaRefIdeal.nD Cert.SwaRefIdeal.τ Cert.SwaRefIdeal.sig) → Buf (Elt Ideal) ℓ) : Prop :=
  ∀ c : Dev Cert.SwaRefIdeal.nD,
    (Cert.Pre_finite_swa.fn (F := Ideal) (m ((c.tc : Thread Cert.SwaRefIdeal.nD Cert.SwaRefIdeal.τ).loc Cert.SwaRefIdeal.main_arg0)) (m ((c.tc : Thread Cert.SwaRefIdeal.nD Cert.SwaRefIdeal.τ).loc Cert.SwaRefIdeal.main_arg1)) (m ((c.tc : Thread Cert.SwaRefIdeal.nD Cert.SwaRefIdeal.τ).loc Cert.SwaRefIdeal.main_arg2))).1 = (fun _ => 1#1)
    ∧ (Cert.Pre_finite_swa.fn (F := Ideal) (m ((c.tc : Thread Cert.SwaRefIdeal.nD Cert.SwaRefIdeal.τ).loc Cert.SwaRefIdeal.main_arg0)) (m ((c.tc : Thread Cert.SwaRefIdeal.nD Cert.SwaRefIdeal.τ).loc Cert.SwaRefIdeal.main_arg1)) (m ((c.tc : Thread Cert.SwaRefIdeal.nD Cert.SwaRefIdeal.τ).loc Cert.SwaRefIdeal.main_arg2))).2.1 = (fun _ => 1#1)
    ∧ (Cert.Pre_finite_swa.fn (F := Ideal) (m ((c.tc : Thread Cert.SwaRefIdeal.nD Cert.SwaRefIdeal.τ).loc Cert.SwaRefIdeal.main_arg0)) (m ((c.tc : Thread Cert.SwaRefIdeal.nD Cert.SwaRefIdeal.τ).loc Cert.SwaRefIdeal.main_arg1)) (m ((c.tc : Thread Cert.SwaRefIdeal.nD Cert.SwaRefIdeal.τ).loc Cert.SwaRefIdeal.main_arg2))).2.2 = (fun _ => 1#1)

def Pre_Cross (m : (ℓ : Loc Cert.Cross.nD Cert.Cross.τ Cert.Cross.sig) → Buf (Elt Bits) ℓ) : Prop :=
  True

def Pre_CrossIdeal (m : (ℓ : Loc Cert.CrossIdeal.nD Cert.CrossIdeal.τ Cert.CrossIdeal.sig) → Buf (Elt Ideal) ℓ) : Prop :=
  True

def Pre_CrossIdeal_finite_x [hPre_finite_x : Cert.Pre_finite_x.Facts] (m : (ℓ : Loc Cert.CrossIdeal.nD Cert.CrossIdeal.τ Cert.CrossIdeal.sig) → Buf (Elt Ideal) ℓ) : Prop :=
  ∀ c : Dev Cert.CrossIdeal.nD,
    (Cert.Pre_finite_x.fn (F := Ideal) (m ((c.tc : Thread Cert.CrossIdeal.nD Cert.CrossIdeal.τ).loc Cert.CrossIdeal.main_arg0)) (m ((c.tc : Thread Cert.CrossIdeal.nD Cert.CrossIdeal.τ).loc Cert.CrossIdeal.main_arg1)) (m ((c.tc : Thread Cert.CrossIdeal.nD Cert.CrossIdeal.τ).loc Cert.CrossIdeal.main_arg2)) (m ((c.tc : Thread Cert.CrossIdeal.nD Cert.CrossIdeal.τ).loc Cert.CrossIdeal.main_arg3)) (m ((c.tc : Thread Cert.CrossIdeal.nD Cert.CrossIdeal.τ).loc Cert.CrossIdeal.main_arg4)) (m ((c.tc : Thread Cert.CrossIdeal.nD Cert.CrossIdeal.τ).loc Cert.CrossIdeal.main_arg5)) (m ((c.tc : Thread Cert.CrossIdeal.nD Cert.CrossIdeal.τ).loc Cert.CrossIdeal.main_arg6)) (m ((c.tc : Thread Cert.CrossIdeal.nD Cert.CrossIdeal.τ).loc Cert.CrossIdeal.main_arg7)) (m ((c.tc : Thread Cert.CrossIdeal.nD Cert.CrossIdeal.τ).loc Cert.CrossIdeal.main_arg8)) (m ((c.tc : Thread Cert.CrossIdeal.nD Cert.CrossIdeal.τ).loc Cert.CrossIdeal.main_arg9))).1 = (fun _ => 1#1)
    ∧ (Cert.Pre_finite_x.fn (F := Ideal) (m ((c.tc : Thread Cert.CrossIdeal.nD Cert.CrossIdeal.τ).loc Cert.CrossIdeal.main_arg0)) (m ((c.tc : Thread Cert.CrossIdeal.nD Cert.CrossIdeal.τ).loc Cert.CrossIdeal.main_arg1)) (m ((c.tc : Thread Cert.CrossIdeal.nD Cert.CrossIdeal.τ).loc Cert.CrossIdeal.main_arg2)) (m ((c.tc : Thread Cert.CrossIdeal.nD Cert.CrossIdeal.τ).loc Cert.CrossIdeal.main_arg3)) (m ((c.tc : Thread Cert.CrossIdeal.nD Cert.CrossIdeal.τ).loc Cert.CrossIdeal.main_arg4)) (m ((c.tc : Thread Cert.CrossIdeal.nD Cert.CrossIdeal.τ).loc Cert.CrossIdeal.main_arg5)) (m ((c.tc : Thread Cert.CrossIdeal.nD Cert.CrossIdeal.τ).loc Cert.CrossIdeal.main_arg6)) (m ((c.tc : Thread Cert.CrossIdeal.nD Cert.CrossIdeal.τ).loc Cert.CrossIdeal.main_arg7)) (m ((c.tc : Thread Cert.CrossIdeal.nD Cert.CrossIdeal.τ).loc Cert.CrossIdeal.main_arg8)) (m ((c.tc : Thread Cert.CrossIdeal.nD Cert.CrossIdeal.τ).loc Cert.CrossIdeal.main_arg9))).2.1 = (fun _ => 1#1)
    ∧ (Cert.Pre_finite_x.fn (F := Ideal) (m ((c.tc : Thread Cert.CrossIdeal.nD Cert.CrossIdeal.τ).loc Cert.CrossIdeal.main_arg0)) (m ((c.tc : Thread Cert.CrossIdeal.nD Cert.CrossIdeal.τ).loc Cert.CrossIdeal.main_arg1)) (m ((c.tc : Thread Cert.CrossIdeal.nD Cert.CrossIdeal.τ).loc Cert.CrossIdeal.main_arg2)) (m ((c.tc : Thread Cert.CrossIdeal.nD Cert.CrossIdeal.τ).loc Cert.CrossIdeal.main_arg3)) (m ((c.tc : Thread Cert.CrossIdeal.nD Cert.CrossIdeal.τ).loc Cert.CrossIdeal.main_arg4)) (m ((c.tc : Thread Cert.CrossIdeal.nD Cert.CrossIdeal.τ).loc Cert.CrossIdeal.main_arg5)) (m ((c.tc : Thread Cert.CrossIdeal.nD Cert.CrossIdeal.τ).loc Cert.CrossIdeal.main_arg6)) (m ((c.tc : Thread Cert.CrossIdeal.nD Cert.CrossIdeal.τ).loc Cert.CrossIdeal.main_arg7)) (m ((c.tc : Thread Cert.CrossIdeal.nD Cert.CrossIdeal.τ).loc Cert.CrossIdeal.main_arg8)) (m ((c.tc : Thread Cert.CrossIdeal.nD Cert.CrossIdeal.τ).loc Cert.CrossIdeal.main_arg9))).2.2.1 = (fun _ => 1#1)
    ∧ (Cert.Pre_finite_x.fn (F := Ideal) (m ((c.tc : Thread Cert.CrossIdeal.nD Cert.CrossIdeal.τ).loc Cert.CrossIdeal.main_arg0)) (m ((c.tc : Thread Cert.CrossIdeal.nD Cert.CrossIdeal.τ).loc Cert.CrossIdeal.main_arg1)) (m ((c.tc : Thread Cert.CrossIdeal.nD Cert.CrossIdeal.τ).loc Cert.CrossIdeal.main_arg2)) (m ((c.tc : Thread Cert.CrossIdeal.nD Cert.CrossIdeal.τ).loc Cert.CrossIdeal.main_arg3)) (m ((c.tc : Thread Cert.CrossIdeal.nD Cert.CrossIdeal.τ).loc Cert.CrossIdeal.main_arg4)) (m ((c.tc : Thread Cert.CrossIdeal.nD Cert.CrossIdeal.τ).loc Cert.CrossIdeal.main_arg5)) (m ((c.tc : Thread Cert.CrossIdeal.nD Cert.CrossIdeal.τ).loc Cert.CrossIdeal.main_arg6)) (m ((c.tc : Thread Cert.CrossIdeal.nD Cert.CrossIdeal.τ).loc Cert.CrossIdeal.main_arg7)) (m ((c.tc : Thread Cert.CrossIdeal.nD Cert.CrossIdeal.τ).loc Cert.CrossIdeal.main_arg8)) (m ((c.tc : Thread Cert.CrossIdeal.nD Cert.CrossIdeal.τ).loc Cert.CrossIdeal.main_arg9))).2.2.2.1 = (fun _ => 1#1)
    ∧ (Cert.Pre_finite_x.fn (F := Ideal) (m ((c.tc : Thread Cert.CrossIdeal.nD Cert.CrossIdeal.τ).loc Cert.CrossIdeal.main_arg0)) (m ((c.tc : Thread Cert.CrossIdeal.nD Cert.CrossIdeal.τ).loc Cert.CrossIdeal.main_arg1)) (m ((c.tc : Thread Cert.CrossIdeal.nD Cert.CrossIdeal.τ).loc Cert.CrossIdeal.main_arg2)) (m ((c.tc : Thread Cert.CrossIdeal.nD Cert.CrossIdeal.τ).loc Cert.CrossIdeal.main_arg3)) (m ((c.tc : Thread Cert.CrossIdeal.nD Cert.CrossIdeal.τ).loc Cert.CrossIdeal.main_arg4)) (m ((c.tc : Thread Cert.CrossIdeal.nD Cert.CrossIdeal.τ).loc Cert.CrossIdeal.main_arg5)) (m ((c.tc : Thread Cert.CrossIdeal.nD Cert.CrossIdeal.τ).loc Cert.CrossIdeal.main_arg6)) (m ((c.tc : Thread Cert.CrossIdeal.nD Cert.CrossIdeal.τ).loc Cert.CrossIdeal.main_arg7)) (m ((c.tc : Thread Cert.CrossIdeal.nD Cert.CrossIdeal.τ).loc Cert.CrossIdeal.main_arg8)) (m ((c.tc : Thread Cert.CrossIdeal.nD Cert.CrossIdeal.τ).loc Cert.CrossIdeal.main_arg9))).2.2.2.2.1 = (fun _ => 1#1)
    ∧ (Cert.Pre_finite_x.fn (F := Ideal) (m ((c.tc : Thread Cert.CrossIdeal.nD Cert.CrossIdeal.τ).loc Cert.CrossIdeal.main_arg0)) (m ((c.tc : Thread Cert.CrossIdeal.nD Cert.CrossIdeal.τ).loc Cert.CrossIdeal.main_arg1)) (m ((c.tc : Thread Cert.CrossIdeal.nD Cert.CrossIdeal.τ).loc Cert.CrossIdeal.main_arg2)) (m ((c.tc : Thread Cert.CrossIdeal.nD Cert.CrossIdeal.τ).loc Cert.CrossIdeal.main_arg3)) (m ((c.tc : Thread Cert.CrossIdeal.nD Cert.CrossIdeal.τ).loc Cert.CrossIdeal.main_arg4)) (m ((c.tc : Thread Cert.CrossIdeal.nD Cert.CrossIdeal.τ).loc Cert.CrossIdeal.main_arg5)) (m ((c.tc : Thread Cert.CrossIdeal.nD Cert.CrossIdeal.τ).loc Cert.CrossIdeal.main_arg6)) (m ((c.tc : Thread Cert.CrossIdeal.nD Cert.CrossIdeal.τ).loc Cert.CrossIdeal.main_arg7)) (m ((c.tc : Thread Cert.CrossIdeal.nD Cert.CrossIdeal.τ).loc Cert.CrossIdeal.main_arg8)) (m ((c.tc : Thread Cert.CrossIdeal.nD Cert.CrossIdeal.τ).loc Cert.CrossIdeal.main_arg9))).2.2.2.2.2.1 = (fun _ => 1#1)
    ∧ (Cert.Pre_finite_x.fn (F := Ideal) (m ((c.tc : Thread Cert.CrossIdeal.nD Cert.CrossIdeal.τ).loc Cert.CrossIdeal.main_arg0)) (m ((c.tc : Thread Cert.CrossIdeal.nD Cert.CrossIdeal.τ).loc Cert.CrossIdeal.main_arg1)) (m ((c.tc : Thread Cert.CrossIdeal.nD Cert.CrossIdeal.τ).loc Cert.CrossIdeal.main_arg2)) (m ((c.tc : Thread Cert.CrossIdeal.nD Cert.CrossIdeal.τ).loc Cert.CrossIdeal.main_arg3)) (m ((c.tc : Thread Cert.CrossIdeal.nD Cert.CrossIdeal.τ).loc Cert.CrossIdeal.main_arg4)) (m ((c.tc : Thread Cert.CrossIdeal.nD Cert.CrossIdeal.τ).loc Cert.CrossIdeal.main_arg5)) (m ((c.tc : Thread Cert.CrossIdeal.nD Cert.CrossIdeal.τ).loc Cert.CrossIdeal.main_arg6)) (m ((c.tc : Thread Cert.CrossIdeal.nD Cert.CrossIdeal.τ).loc Cert.CrossIdeal.main_arg7)) (m ((c.tc : Thread Cert.CrossIdeal.nD Cert.CrossIdeal.τ).loc Cert.CrossIdeal.main_arg8)) (m ((c.tc : Thread Cert.CrossIdeal.nD Cert.CrossIdeal.τ).loc Cert.CrossIdeal.main_arg9))).2.2.2.2.2.2.1 = (fun _ => 1#1)
    ∧ (Cert.Pre_finite_x.fn (F := Ideal) (m ((c.tc : Thread Cert.CrossIdeal.nD Cert.CrossIdeal.τ).loc Cert.CrossIdeal.main_arg0)) (m ((c.tc : Thread Cert.CrossIdeal.nD Cert.CrossIdeal.τ).loc Cert.CrossIdeal.main_arg1)) (m ((c.tc : Thread Cert.CrossIdeal.nD Cert.CrossIdeal.τ).loc Cert.CrossIdeal.main_arg2)) (m ((c.tc : Thread Cert.CrossIdeal.nD Cert.CrossIdeal.τ).loc Cert.CrossIdeal.main_arg3)) (m ((c.tc : Thread Cert.CrossIdeal.nD Cert.CrossIdeal.τ).loc Cert.CrossIdeal.main_arg4)) (m ((c.tc : Thread Cert.CrossIdeal.nD Cert.CrossIdeal.τ).loc Cert.CrossIdeal.main_arg5)) (m ((c.tc : Thread Cert.CrossIdeal.nD Cert.CrossIdeal.τ).loc Cert.CrossIdeal.main_arg6)) (m ((c.tc : Thread Cert.CrossIdeal.nD Cert.CrossIdeal.τ).loc Cert.CrossIdeal.main_arg7)) (m ((c.tc : Thread Cert.CrossIdeal.nD Cert.CrossIdeal.τ).loc Cert.CrossIdeal.main_arg8)) (m ((c.tc : Thread Cert.CrossIdeal.nD Cert.CrossIdeal.τ).loc Cert.CrossIdeal.main_arg9))).2.2.2.2.2.2.2.1 = (fun _ => 1#1)
    ∧ (Cert.Pre_finite_x.fn (F := Ideal) (m ((c.tc : Thread Cert.CrossIdeal.nD Cert.CrossIdeal.τ).loc Cert.CrossIdeal.main_arg0)) (m ((c.tc : Thread Cert.CrossIdeal.nD Cert.CrossIdeal.τ).loc Cert.CrossIdeal.main_arg1)) (m ((c.tc : Thread Cert.CrossIdeal.nD Cert.CrossIdeal.τ).loc Cert.CrossIdeal.main_arg2)) (m ((c.tc : Thread Cert.CrossIdeal.nD Cert.CrossIdeal.τ).loc Cert.CrossIdeal.main_arg3)) (m ((c.tc : Thread Cert.CrossIdeal.nD Cert.CrossIdeal.τ).loc Cert.CrossIdeal.main_arg4)) (m ((c.tc : Thread Cert.CrossIdeal.nD Cert.CrossIdeal.τ).loc Cert.CrossIdeal.main_arg5)) (m ((c.tc : Thread Cert.CrossIdeal.nD Cert.CrossIdeal.τ).loc Cert.CrossIdeal.main_arg6)) (m ((c.tc : Thread Cert.CrossIdeal.nD Cert.CrossIdeal.τ).loc Cert.CrossIdeal.main_arg7)) (m ((c.tc : Thread Cert.CrossIdeal.nD Cert.CrossIdeal.τ).loc Cert.CrossIdeal.main_arg8)) (m ((c.tc : Thread Cert.CrossIdeal.nD Cert.CrossIdeal.τ).loc Cert.CrossIdeal.main_arg9))).2.2.2.2.2.2.2.2.1 = (fun _ => 1#1)
    ∧ (Cert.Pre_finite_x.fn (F := Ideal) (m ((c.tc : Thread Cert.CrossIdeal.nD Cert.CrossIdeal.τ).loc Cert.CrossIdeal.main_arg0)) (m ((c.tc : Thread Cert.CrossIdeal.nD Cert.CrossIdeal.τ).loc Cert.CrossIdeal.main_arg1)) (m ((c.tc : Thread Cert.CrossIdeal.nD Cert.CrossIdeal.τ).loc Cert.CrossIdeal.main_arg2)) (m ((c.tc : Thread Cert.CrossIdeal.nD Cert.CrossIdeal.τ).loc Cert.CrossIdeal.main_arg3)) (m ((c.tc : Thread Cert.CrossIdeal.nD Cert.CrossIdeal.τ).loc Cert.CrossIdeal.main_arg4)) (m ((c.tc : Thread Cert.CrossIdeal.nD Cert.CrossIdeal.τ).loc Cert.CrossIdeal.main_arg5)) (m ((c.tc : Thread Cert.CrossIdeal.nD Cert.CrossIdeal.τ).loc Cert.CrossIdeal.main_arg6)) (m ((c.tc : Thread Cert.CrossIdeal.nD Cert.CrossIdeal.τ).loc Cert.CrossIdeal.main_arg7)) (m ((c.tc : Thread Cert.CrossIdeal.nD Cert.CrossIdeal.τ).loc Cert.CrossIdeal.main_arg8)) (m ((c.tc : Thread Cert.CrossIdeal.nD Cert.CrossIdeal.τ).loc Cert.CrossIdeal.main_arg9))).2.2.2.2.2.2.2.2.2 = (fun _ => 1#1)

def Pre_CrossRefIdeal (m : (ℓ : Loc Cert.CrossRefIdeal.nD Cert.CrossRefIdeal.τ Cert.CrossRefIdeal.sig) → Buf (Elt Ideal) ℓ) : Prop :=
  True

def Pre_CrossRefIdeal_finite_x [hPre_finite_x : Cert.Pre_finite_x.Facts] (m : (ℓ : Loc Cert.CrossRefIdeal.nD Cert.CrossRefIdeal.τ Cert.CrossRefIdeal.sig) → Buf (Elt Ideal) ℓ) : Prop :=
  ∀ c : Dev Cert.CrossRefIdeal.nD,
    (Cert.Pre_finite_x.fn (F := Ideal) (m ((c.tc : Thread Cert.CrossRefIdeal.nD Cert.CrossRefIdeal.τ).loc Cert.CrossRefIdeal.main_arg0)) (m ((c.tc : Thread Cert.CrossRefIdeal.nD Cert.CrossRefIdeal.τ).loc Cert.CrossRefIdeal.main_arg1)) (m ((c.tc : Thread Cert.CrossRefIdeal.nD Cert.CrossRefIdeal.τ).loc Cert.CrossRefIdeal.main_arg2)) (m ((c.tc : Thread Cert.CrossRefIdeal.nD Cert.CrossRefIdeal.τ).loc Cert.CrossRefIdeal.main_arg3)) (m ((c.tc : Thread Cert.CrossRefIdeal.nD Cert.CrossRefIdeal.τ).loc Cert.CrossRefIdeal.main_arg4)) (m ((c.tc : Thread Cert.CrossRefIdeal.nD Cert.CrossRefIdeal.τ).loc Cert.CrossRefIdeal.main_arg5)) (m ((c.tc : Thread Cert.CrossRefIdeal.nD Cert.CrossRefIdeal.τ).loc Cert.CrossRefIdeal.main_arg6)) (m ((c.tc : Thread Cert.CrossRefIdeal.nD Cert.CrossRefIdeal.τ).loc Cert.CrossRefIdeal.main_arg7)) (m ((c.tc : Thread Cert.CrossRefIdeal.nD Cert.CrossRefIdeal.τ).loc Cert.CrossRefIdeal.main_arg8)) (m ((c.tc : Thread Cert.CrossRefIdeal.nD Cert.CrossRefIdeal.τ).loc Cert.CrossRefIdeal.main_arg9))).1 = (fun _ => 1#1)
    ∧ (Cert.Pre_finite_x.fn (F := Ideal) (m ((c.tc : Thread Cert.CrossRefIdeal.nD Cert.CrossRefIdeal.τ).loc Cert.CrossRefIdeal.main_arg0)) (m ((c.tc : Thread Cert.CrossRefIdeal.nD Cert.CrossRefIdeal.τ).loc Cert.CrossRefIdeal.main_arg1)) (m ((c.tc : Thread Cert.CrossRefIdeal.nD Cert.CrossRefIdeal.τ).loc Cert.CrossRefIdeal.main_arg2)) (m ((c.tc : Thread Cert.CrossRefIdeal.nD Cert.CrossRefIdeal.τ).loc Cert.CrossRefIdeal.main_arg3)) (m ((c.tc : Thread Cert.CrossRefIdeal.nD Cert.CrossRefIdeal.τ).loc Cert.CrossRefIdeal.main_arg4)) (m ((c.tc : Thread Cert.CrossRefIdeal.nD Cert.CrossRefIdeal.τ).loc Cert.CrossRefIdeal.main_arg5)) (m ((c.tc : Thread Cert.CrossRefIdeal.nD Cert.CrossRefIdeal.τ).loc Cert.CrossRefIdeal.main_arg6)) (m ((c.tc : Thread Cert.CrossRefIdeal.nD Cert.CrossRefIdeal.τ).loc Cert.CrossRefIdeal.main_arg7)) (m ((c.tc : Thread Cert.CrossRefIdeal.nD Cert.CrossRefIdeal.τ).loc Cert.CrossRefIdeal.main_arg8)) (m ((c.tc : Thread Cert.CrossRefIdeal.nD Cert.CrossRefIdeal.τ).loc Cert.CrossRefIdeal.main_arg9))).2.1 = (fun _ => 1#1)
    ∧ (Cert.Pre_finite_x.fn (F := Ideal) (m ((c.tc : Thread Cert.CrossRefIdeal.nD Cert.CrossRefIdeal.τ).loc Cert.CrossRefIdeal.main_arg0)) (m ((c.tc : Thread Cert.CrossRefIdeal.nD Cert.CrossRefIdeal.τ).loc Cert.CrossRefIdeal.main_arg1)) (m ((c.tc : Thread Cert.CrossRefIdeal.nD Cert.CrossRefIdeal.τ).loc Cert.CrossRefIdeal.main_arg2)) (m ((c.tc : Thread Cert.CrossRefIdeal.nD Cert.CrossRefIdeal.τ).loc Cert.CrossRefIdeal.main_arg3)) (m ((c.tc : Thread Cert.CrossRefIdeal.nD Cert.CrossRefIdeal.τ).loc Cert.CrossRefIdeal.main_arg4)) (m ((c.tc : Thread Cert.CrossRefIdeal.nD Cert.CrossRefIdeal.τ).loc Cert.CrossRefIdeal.main_arg5)) (m ((c.tc : Thread Cert.CrossRefIdeal.nD Cert.CrossRefIdeal.τ).loc Cert.CrossRefIdeal.main_arg6)) (m ((c.tc : Thread Cert.CrossRefIdeal.nD Cert.CrossRefIdeal.τ).loc Cert.CrossRefIdeal.main_arg7)) (m ((c.tc : Thread Cert.CrossRefIdeal.nD Cert.CrossRefIdeal.τ).loc Cert.CrossRefIdeal.main_arg8)) (m ((c.tc : Thread Cert.CrossRefIdeal.nD Cert.CrossRefIdeal.τ).loc Cert.CrossRefIdeal.main_arg9))).2.2.1 = (fun _ => 1#1)
    ∧ (Cert.Pre_finite_x.fn (F := Ideal) (m ((c.tc : Thread Cert.CrossRefIdeal.nD Cert.CrossRefIdeal.τ).loc Cert.CrossRefIdeal.main_arg0)) (m ((c.tc : Thread Cert.CrossRefIdeal.nD Cert.CrossRefIdeal.τ).loc Cert.CrossRefIdeal.main_arg1)) (m ((c.tc : Thread Cert.CrossRefIdeal.nD Cert.CrossRefIdeal.τ).loc Cert.CrossRefIdeal.main_arg2)) (m ((c.tc : Thread Cert.CrossRefIdeal.nD Cert.CrossRefIdeal.τ).loc Cert.CrossRefIdeal.main_arg3)) (m ((c.tc : Thread Cert.CrossRefIdeal.nD Cert.CrossRefIdeal.τ).loc Cert.CrossRefIdeal.main_arg4)) (m ((c.tc : Thread Cert.CrossRefIdeal.nD Cert.CrossRefIdeal.τ).loc Cert.CrossRefIdeal.main_arg5)) (m ((c.tc : Thread Cert.CrossRefIdeal.nD Cert.CrossRefIdeal.τ).loc Cert.CrossRefIdeal.main_arg6)) (m ((c.tc : Thread Cert.CrossRefIdeal.nD Cert.CrossRefIdeal.τ).loc Cert.CrossRefIdeal.main_arg7)) (m ((c.tc : Thread Cert.CrossRefIdeal.nD Cert.CrossRefIdeal.τ).loc Cert.CrossRefIdeal.main_arg8)) (m ((c.tc : Thread Cert.CrossRefIdeal.nD Cert.CrossRefIdeal.τ).loc Cert.CrossRefIdeal.main_arg9))).2.2.2.1 = (fun _ => 1#1)
    ∧ (Cert.Pre_finite_x.fn (F := Ideal) (m ((c.tc : Thread Cert.CrossRefIdeal.nD Cert.CrossRefIdeal.τ).loc Cert.CrossRefIdeal.main_arg0)) (m ((c.tc : Thread Cert.CrossRefIdeal.nD Cert.CrossRefIdeal.τ).loc Cert.CrossRefIdeal.main_arg1)) (m ((c.tc : Thread Cert.CrossRefIdeal.nD Cert.CrossRefIdeal.τ).loc Cert.CrossRefIdeal.main_arg2)) (m ((c.tc : Thread Cert.CrossRefIdeal.nD Cert.CrossRefIdeal.τ).loc Cert.CrossRefIdeal.main_arg3)) (m ((c.tc : Thread Cert.CrossRefIdeal.nD Cert.CrossRefIdeal.τ).loc Cert.CrossRefIdeal.main_arg4)) (m ((c.tc : Thread Cert.CrossRefIdeal.nD Cert.CrossRefIdeal.τ).loc Cert.CrossRefIdeal.main_arg5)) (m ((c.tc : Thread Cert.CrossRefIdeal.nD Cert.CrossRefIdeal.τ).loc Cert.CrossRefIdeal.main_arg6)) (m ((c.tc : Thread Cert.CrossRefIdeal.nD Cert.CrossRefIdeal.τ).loc Cert.CrossRefIdeal.main_arg7)) (m ((c.tc : Thread Cert.CrossRefIdeal.nD Cert.CrossRefIdeal.τ).loc Cert.CrossRefIdeal.main_arg8)) (m ((c.tc : Thread Cert.CrossRefIdeal.nD Cert.CrossRefIdeal.τ).loc Cert.CrossRefIdeal.main_arg9))).2.2.2.2.1 = (fun _ => 1#1)
    ∧ (Cert.Pre_finite_x.fn (F := Ideal) (m ((c.tc : Thread Cert.CrossRefIdeal.nD Cert.CrossRefIdeal.τ).loc Cert.CrossRefIdeal.main_arg0)) (m ((c.tc : Thread Cert.CrossRefIdeal.nD Cert.CrossRefIdeal.τ).loc Cert.CrossRefIdeal.main_arg1)) (m ((c.tc : Thread Cert.CrossRefIdeal.nD Cert.CrossRefIdeal.τ).loc Cert.CrossRefIdeal.main_arg2)) (m ((c.tc : Thread Cert.CrossRefIdeal.nD Cert.CrossRefIdeal.τ).loc Cert.CrossRefIdeal.main_arg3)) (m ((c.tc : Thread Cert.CrossRefIdeal.nD Cert.CrossRefIdeal.τ).loc Cert.CrossRefIdeal.main_arg4)) (m ((c.tc : Thread Cert.CrossRefIdeal.nD Cert.CrossRefIdeal.τ).loc Cert.CrossRefIdeal.main_arg5)) (m ((c.tc : Thread Cert.CrossRefIdeal.nD Cert.CrossRefIdeal.τ).loc Cert.CrossRefIdeal.main_arg6)) (m ((c.tc : Thread Cert.CrossRefIdeal.nD Cert.CrossRefIdeal.τ).loc Cert.CrossRefIdeal.main_arg7)) (m ((c.tc : Thread Cert.CrossRefIdeal.nD Cert.CrossRefIdeal.τ).loc Cert.CrossRefIdeal.main_arg8)) (m ((c.tc : Thread Cert.CrossRefIdeal.nD Cert.CrossRefIdeal.τ).loc Cert.CrossRefIdeal.main_arg9))).2.2.2.2.2.1 = (fun _ => 1#1)
    ∧ (Cert.Pre_finite_x.fn (F := Ideal) (m ((c.tc : Thread Cert.CrossRefIdeal.nD Cert.CrossRefIdeal.τ).loc Cert.CrossRefIdeal.main_arg0)) (m ((c.tc : Thread Cert.CrossRefIdeal.nD Cert.CrossRefIdeal.τ).loc Cert.CrossRefIdeal.main_arg1)) (m ((c.tc : Thread Cert.CrossRefIdeal.nD Cert.CrossRefIdeal.τ).loc Cert.CrossRefIdeal.main_arg2)) (m ((c.tc : Thread Cert.CrossRefIdeal.nD Cert.CrossRefIdeal.τ).loc Cert.CrossRefIdeal.main_arg3)) (m ((c.tc : Thread Cert.CrossRefIdeal.nD Cert.CrossRefIdeal.τ).loc Cert.CrossRefIdeal.main_arg4)) (m ((c.tc : Thread Cert.CrossRefIdeal.nD Cert.CrossRefIdeal.τ).loc Cert.CrossRefIdeal.main_arg5)) (m ((c.tc : Thread Cert.CrossRefIdeal.nD Cert.CrossRefIdeal.τ).loc Cert.CrossRefIdeal.main_arg6)) (m ((c.tc : Thread Cert.CrossRefIdeal.nD Cert.CrossRefIdeal.τ).loc Cert.CrossRefIdeal.main_arg7)) (m ((c.tc : Thread Cert.CrossRefIdeal.nD Cert.CrossRefIdeal.τ).loc Cert.CrossRefIdeal.main_arg8)) (m ((c.tc : Thread Cert.CrossRefIdeal.nD Cert.CrossRefIdeal.τ).loc Cert.CrossRefIdeal.main_arg9))).2.2.2.2.2.2.1 = (fun _ => 1#1)
    ∧ (Cert.Pre_finite_x.fn (F := Ideal) (m ((c.tc : Thread Cert.CrossRefIdeal.nD Cert.CrossRefIdeal.τ).loc Cert.CrossRefIdeal.main_arg0)) (m ((c.tc : Thread Cert.CrossRefIdeal.nD Cert.CrossRefIdeal.τ).loc Cert.CrossRefIdeal.main_arg1)) (m ((c.tc : Thread Cert.CrossRefIdeal.nD Cert.CrossRefIdeal.τ).loc Cert.CrossRefIdeal.main_arg2)) (m ((c.tc : Thread Cert.CrossRefIdeal.nD Cert.CrossRefIdeal.τ).loc Cert.CrossRefIdeal.main_arg3)) (m ((c.tc : Thread Cert.CrossRefIdeal.nD Cert.CrossRefIdeal.τ).loc Cert.CrossRefIdeal.main_arg4)) (m ((c.tc : Thread Cert.CrossRefIdeal.nD Cert.CrossRefIdeal.τ).loc Cert.CrossRefIdeal.main_arg5)) (m ((c.tc : Thread Cert.CrossRefIdeal.nD Cert.CrossRefIdeal.τ).loc Cert.CrossRefIdeal.main_arg6)) (m ((c.tc : Thread Cert.CrossRefIdeal.nD Cert.CrossRefIdeal.τ).loc Cert.CrossRefIdeal.main_arg7)) (m ((c.tc : Thread Cert.CrossRefIdeal.nD Cert.CrossRefIdeal.τ).loc Cert.CrossRefIdeal.main_arg8)) (m ((c.tc : Thread Cert.CrossRefIdeal.nD Cert.CrossRefIdeal.τ).loc Cert.CrossRefIdeal.main_arg9))).2.2.2.2.2.2.2.1 = (fun _ => 1#1)
    ∧ (Cert.Pre_finite_x.fn (F := Ideal) (m ((c.tc : Thread Cert.CrossRefIdeal.nD Cert.CrossRefIdeal.τ).loc Cert.CrossRefIdeal.main_arg0)) (m ((c.tc : Thread Cert.CrossRefIdeal.nD Cert.CrossRefIdeal.τ).loc Cert.CrossRefIdeal.main_arg1)) (m ((c.tc : Thread Cert.CrossRefIdeal.nD Cert.CrossRefIdeal.τ).loc Cert.CrossRefIdeal.main_arg2)) (m ((c.tc : Thread Cert.CrossRefIdeal.nD Cert.CrossRefIdeal.τ).loc Cert.CrossRefIdeal.main_arg3)) (m ((c.tc : Thread Cert.CrossRefIdeal.nD Cert.CrossRefIdeal.τ).loc Cert.CrossRefIdeal.main_arg4)) (m ((c.tc : Thread Cert.CrossRefIdeal.nD Cert.CrossRefIdeal.τ).loc Cert.CrossRefIdeal.main_arg5)) (m ((c.tc : Thread Cert.CrossRefIdeal.nD Cert.CrossRefIdeal.τ).loc Cert.CrossRefIdeal.main_arg6)) (m ((c.tc : Thread Cert.CrossRefIdeal.nD Cert.CrossRefIdeal.τ).loc Cert.CrossRefIdeal.main_arg7)) (m ((c.tc : Thread Cert.CrossRefIdeal.nD Cert.CrossRefIdeal.τ).loc Cert.CrossRefIdeal.main_arg8)) (m ((c.tc : Thread Cert.CrossRefIdeal.nD Cert.CrossRefIdeal.τ).loc Cert.CrossRefIdeal.main_arg9))).2.2.2.2.2.2.2.2.1 = (fun _ => 1#1)
    ∧ (Cert.Pre_finite_x.fn (F := Ideal) (m ((c.tc : Thread Cert.CrossRefIdeal.nD Cert.CrossRefIdeal.τ).loc Cert.CrossRefIdeal.main_arg0)) (m ((c.tc : Thread Cert.CrossRefIdeal.nD Cert.CrossRefIdeal.τ).loc Cert.CrossRefIdeal.main_arg1)) (m ((c.tc : Thread Cert.CrossRefIdeal.nD Cert.CrossRefIdeal.τ).loc Cert.CrossRefIdeal.main_arg2)) (m ((c.tc : Thread Cert.CrossRefIdeal.nD Cert.CrossRefIdeal.τ).loc Cert.CrossRefIdeal.main_arg3)) (m ((c.tc : Thread Cert.CrossRefIdeal.nD Cert.CrossRefIdeal.τ).loc Cert.CrossRefIdeal.main_arg4)) (m ((c.tc : Thread Cert.CrossRefIdeal.nD Cert.CrossRefIdeal.τ).loc Cert.CrossRefIdeal.main_arg5)) (m ((c.tc : Thread Cert.CrossRefIdeal.nD Cert.CrossRefIdeal.τ).loc Cert.CrossRefIdeal.main_arg6)) (m ((c.tc : Thread Cert.CrossRefIdeal.nD Cert.CrossRefIdeal.τ).loc Cert.CrossRefIdeal.main_arg7)) (m ((c.tc : Thread Cert.CrossRefIdeal.nD Cert.CrossRefIdeal.τ).loc Cert.CrossRefIdeal.main_arg8)) (m ((c.tc : Thread Cert.CrossRefIdeal.nD Cert.CrossRefIdeal.τ).loc Cert.CrossRefIdeal.main_arg9))).2.2.2.2.2.2.2.2.2 = (fun _ => 1#1)

def Pre_Memory (m : (ℓ : Loc Cert.Memory.nD Cert.Memory.τ Cert.Memory.sig) → Buf (Elt Bits) ℓ) : Prop :=
  True

def Pre_MemoryIdeal (m : (ℓ : Loc Cert.MemoryIdeal.nD Cert.MemoryIdeal.τ Cert.MemoryIdeal.sig) → Buf (Elt Ideal) ℓ) : Prop :=
  True

def Pre_MemoryRefIdeal (m : (ℓ : Loc Cert.MemoryRefIdeal.nD Cert.MemoryRefIdeal.τ Cert.MemoryRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnIdeal_finite_ffn [hPre_finite_ffn : Cert.Pre_finite_ffn.Facts] (m : (ℓ : Loc Cert.FfnIdeal.nD Cert.FfnIdeal.τ Cert.FfnIdeal.sig) → Buf (Elt Ideal) ℓ) : Prop :=
  ∀ c : Dev Cert.FfnIdeal.nD,
    (Cert.Pre_finite_ffn.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6)) (m ((c.tc : Thread Cert.FfnIdeal.nD Cert.FfnIdeal.τ).loc Cert.FfnIdeal.main_arg7)) (m ((c.tc : Thread Cert.FfnIdeal.nD Cert.FfnIdeal.τ).loc Cert.FfnIdeal.main_arg8)) (m ((c.tc : Thread Cert.FfnIdeal.nD Cert.FfnIdeal.τ).loc Cert.FfnIdeal.main_arg9))).1 = (fun _ => 1#1)
    ∧ (Cert.Pre_finite_ffn.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6)) (m ((c.tc : Thread Cert.FfnIdeal.nD Cert.FfnIdeal.τ).loc Cert.FfnIdeal.main_arg7)) (m ((c.tc : Thread Cert.FfnIdeal.nD Cert.FfnIdeal.τ).loc Cert.FfnIdeal.main_arg8)) (m ((c.tc : Thread Cert.FfnIdeal.nD Cert.FfnIdeal.τ).loc Cert.FfnIdeal.main_arg9))).2.1 = (fun _ => 1#1)
    ∧ (Cert.Pre_finite_ffn.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6)) (m ((c.tc : Thread Cert.FfnIdeal.nD Cert.FfnIdeal.τ).loc Cert.FfnIdeal.main_arg7)) (m ((c.tc : Thread Cert.FfnIdeal.nD Cert.FfnIdeal.τ).loc Cert.FfnIdeal.main_arg8)) (m ((c.tc : Thread Cert.FfnIdeal.nD Cert.FfnIdeal.τ).loc Cert.FfnIdeal.main_arg9))).2.2.1 = (fun _ => 1#1)
    ∧ (Cert.Pre_finite_ffn.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6)) (m ((c.tc : Thread Cert.FfnIdeal.nD Cert.FfnIdeal.τ).loc Cert.FfnIdeal.main_arg7)) (m ((c.tc : Thread Cert.FfnIdeal.nD Cert.FfnIdeal.τ).loc Cert.FfnIdeal.main_arg8)) (m ((c.tc : Thread Cert.FfnIdeal.nD Cert.FfnIdeal.τ).loc Cert.FfnIdeal.main_arg9))).2.2.2.1 = (fun _ => 1#1)
    ∧ (Cert.Pre_finite_ffn.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6)) (m ((c.tc : Thread Cert.FfnIdeal.nD Cert.FfnIdeal.τ).loc Cert.FfnIdeal.main_arg7)) (m ((c.tc : Thread Cert.FfnIdeal.nD Cert.FfnIdeal.τ).loc Cert.FfnIdeal.main_arg8)) (m ((c.tc : Thread Cert.FfnIdeal.nD Cert.FfnIdeal.τ).loc Cert.FfnIdeal.main_arg9))).2.2.2.2.1 = (fun _ => 1#1)
    ∧ (Cert.Pre_finite_ffn.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6)) (m ((c.tc : Thread Cert.FfnIdeal.nD Cert.FfnIdeal.τ).loc Cert.FfnIdeal.main_arg7)) (m ((c.tc : Thread Cert.FfnIdeal.nD Cert.FfnIdeal.τ).loc Cert.FfnIdeal.main_arg8)) (m ((c.tc : Thread Cert.FfnIdeal.nD Cert.FfnIdeal.τ).loc Cert.FfnIdeal.main_arg9))).2.2.2.2.2.1 = (fun _ => 1#1)
    ∧ (Cert.Pre_finite_ffn.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6)) (m ((c.tc : Thread Cert.FfnIdeal.nD Cert.FfnIdeal.τ).loc Cert.FfnIdeal.main_arg7)) (m ((c.tc : Thread Cert.FfnIdeal.nD Cert.FfnIdeal.τ).loc Cert.FfnIdeal.main_arg8)) (m ((c.tc : Thread Cert.FfnIdeal.nD Cert.FfnIdeal.τ).loc Cert.FfnIdeal.main_arg9))).2.2.2.2.2.2.1 = (fun _ => 1#1)
    ∧ (Cert.Pre_finite_ffn.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6)) (m ((c.tc : Thread Cert.FfnIdeal.nD Cert.FfnIdeal.τ).loc Cert.FfnIdeal.main_arg7)) (m ((c.tc : Thread Cert.FfnIdeal.nD Cert.FfnIdeal.τ).loc Cert.FfnIdeal.main_arg8)) (m ((c.tc : Thread Cert.FfnIdeal.nD Cert.FfnIdeal.τ).loc Cert.FfnIdeal.main_arg9))).2.2.2.2.2.2.2.1 = (fun _ => 1#1)
    ∧ (Cert.Pre_finite_ffn.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6)) (m ((c.tc : Thread Cert.FfnIdeal.nD Cert.FfnIdeal.τ).loc Cert.FfnIdeal.main_arg7)) (m ((c.tc : Thread Cert.FfnIdeal.nD Cert.FfnIdeal.τ).loc Cert.FfnIdeal.main_arg8)) (m ((c.tc : Thread Cert.FfnIdeal.nD Cert.FfnIdeal.τ).loc Cert.FfnIdeal.main_arg9))).2.2.2.2.2.2.2.2.1 = (fun _ => 1#1)
    ∧ (Cert.Pre_finite_ffn.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6)) (m ((c.tc : Thread Cert.FfnIdeal.nD Cert.FfnIdeal.τ).loc Cert.FfnIdeal.main_arg7)) (m ((c.tc : Thread Cert.FfnIdeal.nD Cert.FfnIdeal.τ).loc Cert.FfnIdeal.main_arg8)) (m ((c.tc : Thread Cert.FfnIdeal.nD Cert.FfnIdeal.τ).loc Cert.FfnIdeal.main_arg9))).2.2.2.2.2.2.2.2.2 = (fun _ => 1#1)

def Pre_FfnRefIdeal (m : (ℓ : Loc Cert.FfnRefIdeal.nD Cert.FfnRefIdeal.τ Cert.FfnRefIdeal.sig) → Buf (Elt Ideal) ℓ) : Prop :=
  True

def Pre_FfnRefIdeal_finite_ffn [hPre_finite_ffn : Cert.Pre_finite_ffn.Facts] (m : (ℓ : Loc Cert.FfnRefIdeal.nD Cert.FfnRefIdeal.τ Cert.FfnRefIdeal.sig) → Buf (Elt Ideal) ℓ) : Prop :=
  ∀ c : Dev Cert.FfnRefIdeal.nD,
    (Cert.Pre_finite_ffn.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6)) (m ((c.tc : Thread Cert.FfnRefIdeal.nD Cert.FfnRefIdeal.τ).loc Cert.FfnRefIdeal.main_arg7)) (m ((c.tc : Thread Cert.FfnRefIdeal.nD Cert.FfnRefIdeal.τ).loc Cert.FfnRefIdeal.main_arg8)) (m ((c.tc : Thread Cert.FfnRefIdeal.nD Cert.FfnRefIdeal.τ).loc Cert.FfnRefIdeal.main_arg9))).1 = (fun _ => 1#1)
    ∧ (Cert.Pre_finite_ffn.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6)) (m ((c.tc : Thread Cert.FfnRefIdeal.nD Cert.FfnRefIdeal.τ).loc Cert.FfnRefIdeal.main_arg7)) (m ((c.tc : Thread Cert.FfnRefIdeal.nD Cert.FfnRefIdeal.τ).loc Cert.FfnRefIdeal.main_arg8)) (m ((c.tc : Thread Cert.FfnRefIdeal.nD Cert.FfnRefIdeal.τ).loc Cert.FfnRefIdeal.main_arg9))).2.1 = (fun _ => 1#1)
    ∧ (Cert.Pre_finite_ffn.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6)) (m ((c.tc : Thread Cert.FfnRefIdeal.nD Cert.FfnRefIdeal.τ).loc Cert.FfnRefIdeal.main_arg7)) (m ((c.tc : Thread Cert.FfnRefIdeal.nD Cert.FfnRefIdeal.τ).loc Cert.FfnRefIdeal.main_arg8)) (m ((c.tc : Thread Cert.FfnRefIdeal.nD Cert.FfnRefIdeal.τ).loc Cert.FfnRefIdeal.main_arg9))).2.2.1 = (fun _ => 1#1)
    ∧ (Cert.Pre_finite_ffn.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6)) (m ((c.tc : Thread Cert.FfnRefIdeal.nD Cert.FfnRefIdeal.τ).loc Cert.FfnRefIdeal.main_arg7)) (m ((c.tc : Thread Cert.FfnRefIdeal.nD Cert.FfnRefIdeal.τ).loc Cert.FfnRefIdeal.main_arg8)) (m ((c.tc : Thread Cert.FfnRefIdeal.nD Cert.FfnRefIdeal.τ).loc Cert.FfnRefIdeal.main_arg9))).2.2.2.1 = (fun _ => 1#1)
    ∧ (Cert.Pre_finite_ffn.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6)) (m ((c.tc : Thread Cert.FfnRefIdeal.nD Cert.FfnRefIdeal.τ).loc Cert.FfnRefIdeal.main_arg7)) (m ((c.tc : Thread Cert.FfnRefIdeal.nD Cert.FfnRefIdeal.τ).loc Cert.FfnRefIdeal.main_arg8)) (m ((c.tc : Thread Cert.FfnRefIdeal.nD Cert.FfnRefIdeal.τ).loc Cert.FfnRefIdeal.main_arg9))).2.2.2.2.1 = (fun _ => 1#1)
    ∧ (Cert.Pre_finite_ffn.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6)) (m ((c.tc : Thread Cert.FfnRefIdeal.nD Cert.FfnRefIdeal.τ).loc Cert.FfnRefIdeal.main_arg7)) (m ((c.tc : Thread Cert.FfnRefIdeal.nD Cert.FfnRefIdeal.τ).loc Cert.FfnRefIdeal.main_arg8)) (m ((c.tc : Thread Cert.FfnRefIdeal.nD Cert.FfnRefIdeal.τ).loc Cert.FfnRefIdeal.main_arg9))).2.2.2.2.2.1 = (fun _ => 1#1)
    ∧ (Cert.Pre_finite_ffn.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6)) (m ((c.tc : Thread Cert.FfnRefIdeal.nD Cert.FfnRefIdeal.τ).loc Cert.FfnRefIdeal.main_arg7)) (m ((c.tc : Thread Cert.FfnRefIdeal.nD Cert.FfnRefIdeal.τ).loc Cert.FfnRefIdeal.main_arg8)) (m ((c.tc : Thread Cert.FfnRefIdeal.nD Cert.FfnRefIdeal.τ).loc Cert.FfnRefIdeal.main_arg9))).2.2.2.2.2.2.1 = (fun _ => 1#1)
    ∧ (Cert.Pre_finite_ffn.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6)) (m ((c.tc : Thread Cert.FfnRefIdeal.nD Cert.FfnRefIdeal.τ).loc Cert.FfnRefIdeal.main_arg7)) (m ((c.tc : Thread Cert.FfnRefIdeal.nD Cert.FfnRefIdeal.τ).loc Cert.FfnRefIdeal.main_arg8)) (m ((c.tc : Thread Cert.FfnRefIdeal.nD Cert.FfnRefIdeal.τ).loc Cert.FfnRefIdeal.main_arg9))).2.2.2.2.2.2.2.1 = (fun _ => 1#1)
    ∧ (Cert.Pre_finite_ffn.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6)) (m ((c.tc : Thread Cert.FfnRefIdeal.nD Cert.FfnRefIdeal.τ).loc Cert.FfnRefIdeal.main_arg7)) (m ((c.tc : Thread Cert.FfnRefIdeal.nD Cert.FfnRefIdeal.τ).loc Cert.FfnRefIdeal.main_arg8)) (m ((c.tc : Thread Cert.FfnRefIdeal.nD Cert.FfnRefIdeal.τ).loc Cert.FfnRefIdeal.main_arg9))).2.2.2.2.2.2.2.2.1 = (fun _ => 1#1)
    ∧ (Cert.Pre_finite_ffn.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6)) (m ((c.tc : Thread Cert.FfnRefIdeal.nD Cert.FfnRefIdeal.τ).loc Cert.FfnRefIdeal.main_arg7)) (m ((c.tc : Thread Cert.FfnRefIdeal.nD Cert.FfnRefIdeal.τ).loc Cert.FfnRefIdeal.main_arg8)) (m ((c.tc : Thread Cert.FfnRefIdeal.nD Cert.FfnRefIdeal.τ).loc Cert.FfnRefIdeal.main_arg9))).2.2.2.2.2.2.2.2.2 = (fun _ => 1#1)

def quiescent_Du [hDu : Cert.Du.Facts] : Prop :=
  ∀ (m : (ℓ : Loc Cert.Du.nD Cert.Du.τ Cert.Du.sig) → Buf (Elt Bits) ℓ) (g : Dev Cert.Du.nD → PrngReg), Pre_Du m →
    θ_run (Cert.Du.defs (F := Bits)) (onTc (τ := Cert.Du.τ) (Cert.Du.main (F := Bits))) ⟨m, fun _ => 0, g⟩ (fun r => (∀ c : Dev Cert.Du.nD,
      r.2.mem ((c.tc : Thread Cert.Du.nD Cert.Du.τ).loc Cert.Du.main_arg0) = m ((c.tc : Thread Cert.Du.nD Cert.Du.τ).loc Cert.Du.main_arg0)
      ∧ r.2.mem ((c.tc : Thread Cert.Du.nD Cert.Du.τ).loc Cert.Du.main_arg1) = m ((c.tc : Thread Cert.Du.nD Cert.Du.τ).loc Cert.Du.main_arg1)
      ∧ r.2.mem ((c.tc : Thread Cert.Du.nD Cert.Du.τ).loc Cert.Du.main_arg2) = m ((c.tc : Thread Cert.Du.nD Cert.Du.τ).loc Cert.Du.main_arg2)
      ∧ r.2.mem ((c.tc : Thread Cert.Du.nD Cert.Du.τ).loc Cert.Du.main_arg3) = m ((c.tc : Thread Cert.Du.nD Cert.Du.τ).loc Cert.Du.main_arg3)
      ∧ r.2.mem ((c.tc : Thread Cert.Du.nD Cert.Du.τ).loc Cert.Du.main_arg4) = m ((c.tc : Thread Cert.Du.nD Cert.Du.τ).loc Cert.Du.main_arg4))
      ∧ r.2.sem = fun _ => 0)

def quiescent_DuIdeal [hDuIdeal : Cert.DuIdeal.Facts] : Prop :=
  ∀ (m : (ℓ : Loc Cert.DuIdeal.nD Cert.DuIdeal.τ Cert.DuIdeal.sig) → Buf (Elt Ideal) ℓ) (g : Dev Cert.DuIdeal.nD → PrngReg), Pre_DuIdeal m →
    θ_run (Cert.DuIdeal.defs (F := Ideal)) (onTc (τ := Cert.DuIdeal.τ) (Cert.DuIdeal.main (F := Ideal))) ⟨m, fun _ => 0, g⟩ (fun r => (∀ c : Dev Cert.DuIdeal.nD,
      r.2.mem ((c.tc : Thread Cert.DuIdeal.nD Cert.DuIdeal.τ).loc Cert.DuIdeal.main_arg0) = m ((c.tc : Thread Cert.DuIdeal.nD Cert.DuIdeal.τ).loc Cert.DuIdeal.main_arg0)
      ∧ r.2.mem ((c.tc : Thread Cert.DuIdeal.nD Cert.DuIdeal.τ).loc Cert.DuIdeal.main_arg1) = m ((c.tc : Thread Cert.DuIdeal.nD Cert.DuIdeal.τ).loc Cert.DuIdeal.main_arg1)
      ∧ r.2.mem ((c.tc : Thread Cert.DuIdeal.nD Cert.DuIdeal.τ).loc Cert.DuIdeal.main_arg2) = m ((c.tc : Thread Cert.DuIdeal.nD Cert.DuIdeal.τ).loc Cert.DuIdeal.main_arg2)
      ∧ r.2.mem ((c.tc : Thread Cert.DuIdeal.nD Cert.DuIdeal.τ).loc Cert.DuIdeal.main_arg3) = m ((c.tc : Thread Cert.DuIdeal.nD Cert.DuIdeal.τ).loc Cert.DuIdeal.main_arg3)
      ∧ r.2.mem ((c.tc : Thread Cert.DuIdeal.nD Cert.DuIdeal.τ).loc Cert.DuIdeal.main_arg4) = m ((c.tc : Thread Cert.DuIdeal.nD Cert.DuIdeal.τ).loc Cert.DuIdeal.main_arg4))
      ∧ r.2.sem = fun _ => 0)

def quiescent_DuIdeal_pre_finite_du [hDuIdeal : Cert.DuIdeal.Facts] [hPre_finite_du : Cert.Pre_finite_du.Facts] : Prop :=
  ∀ (m : (ℓ : Loc Cert.DuIdeal.nD Cert.DuIdeal.τ Cert.DuIdeal.sig) → Buf (Elt Ideal) ℓ) (g : Dev Cert.DuIdeal.nD → PrngReg), Pre_DuIdeal_finite_du m →
    θ_run (Cert.DuIdeal.defs (F := Ideal)) (onTc (τ := Cert.DuIdeal.τ) (Cert.DuIdeal.main (F := Ideal))) ⟨m, fun _ => 0, g⟩ (fun r => (∀ c : Dev Cert.DuIdeal.nD,
      r.2.mem ((c.tc : Thread Cert.DuIdeal.nD Cert.DuIdeal.τ).loc Cert.DuIdeal.main_arg0) = m ((c.tc : Thread Cert.DuIdeal.nD Cert.DuIdeal.τ).loc Cert.DuIdeal.main_arg0)
      ∧ r.2.mem ((c.tc : Thread Cert.DuIdeal.nD Cert.DuIdeal.τ).loc Cert.DuIdeal.main_arg1) = m ((c.tc : Thread Cert.DuIdeal.nD Cert.DuIdeal.τ).loc Cert.DuIdeal.main_arg1)
      ∧ r.2.mem ((c.tc : Thread Cert.DuIdeal.nD Cert.DuIdeal.τ).loc Cert.DuIdeal.main_arg2) = m ((c.tc : Thread Cert.DuIdeal.nD Cert.DuIdeal.τ).loc Cert.DuIdeal.main_arg2)
      ∧ r.2.mem ((c.tc : Thread Cert.DuIdeal.nD Cert.DuIdeal.τ).loc Cert.DuIdeal.main_arg3) = m ((c.tc : Thread Cert.DuIdeal.nD Cert.DuIdeal.τ).loc Cert.DuIdeal.main_arg3)
      ∧ r.2.mem ((c.tc : Thread Cert.DuIdeal.nD Cert.DuIdeal.τ).loc Cert.DuIdeal.main_arg4) = m ((c.tc : Thread Cert.DuIdeal.nD Cert.DuIdeal.τ).loc Cert.DuIdeal.main_arg4))
      ∧ r.2.sem = fun _ => 0)

def quiescent_DuRefIdeal [hDuRefIdeal : Cert.DuRefIdeal.Facts] : Prop :=
  ∀ (m : (ℓ : Loc Cert.DuRefIdeal.nD Cert.DuRefIdeal.τ Cert.DuRefIdeal.sig) → Buf (Elt Ideal) ℓ) (g : Dev Cert.DuRefIdeal.nD → PrngReg), Pre_DuRefIdeal m →
    θ_run (Cert.DuRefIdeal.defs (F := Ideal)) (onTc (τ := Cert.DuRefIdeal.τ) (Cert.DuRefIdeal.main (F := Ideal))) ⟨m, fun _ => 0, g⟩ (fun r => (∀ c : Dev Cert.DuRefIdeal.nD,
      r.2.mem ((c.tc : Thread Cert.DuRefIdeal.nD Cert.DuRefIdeal.τ).loc Cert.DuRefIdeal.main_arg0) = m ((c.tc : Thread Cert.DuRefIdeal.nD Cert.DuRefIdeal.τ).loc Cert.DuRefIdeal.main_arg0)
      ∧ r.2.mem ((c.tc : Thread Cert.DuRefIdeal.nD Cert.DuRefIdeal.τ).loc Cert.DuRefIdeal.main_arg1) = m ((c.tc : Thread Cert.DuRefIdeal.nD Cert.DuRefIdeal.τ).loc Cert.DuRefIdeal.main_arg1)
      ∧ r.2.mem ((c.tc : Thread Cert.DuRefIdeal.nD Cert.DuRefIdeal.τ).loc Cert.DuRefIdeal.main_arg2) = m ((c.tc : Thread Cert.DuRefIdeal.nD Cert.DuRefIdeal.τ).loc Cert.DuRefIdeal.main_arg2)
      ∧ r.2.mem ((c.tc : Thread Cert.DuRefIdeal.nD Cert.DuRefIdeal.τ).loc Cert.DuRefIdeal.main_arg3) = m ((c.tc : Thread Cert.DuRefIdeal.nD Cert.DuRefIdeal.τ).loc Cert.DuRefIdeal.main_arg3)
      ∧ r.2.mem ((c.tc : Thread Cert.DuRefIdeal.nD Cert.DuRefIdeal.τ).loc Cert.DuRefIdeal.main_arg4) = m ((c.tc : Thread Cert.DuRefIdeal.nD Cert.DuRefIdeal.τ).loc Cert.DuRefIdeal.main_arg4))
      ∧ r.2.sem = fun _ => 0)

def quiescent_DuRefIdeal_pre_finite_du [hDuRefIdeal : Cert.DuRefIdeal.Facts] [hPre_finite_du : Cert.Pre_finite_du.Facts] : Prop :=
  ∀ (m : (ℓ : Loc Cert.DuRefIdeal.nD Cert.DuRefIdeal.τ Cert.DuRefIdeal.sig) → Buf (Elt Ideal) ℓ) (g : Dev Cert.DuRefIdeal.nD → PrngReg), Pre_DuRefIdeal_finite_du m →
    θ_run (Cert.DuRefIdeal.defs (F := Ideal)) (onTc (τ := Cert.DuRefIdeal.τ) (Cert.DuRefIdeal.main (F := Ideal))) ⟨m, fun _ => 0, g⟩ (fun r => (∀ c : Dev Cert.DuRefIdeal.nD,
      r.2.mem ((c.tc : Thread Cert.DuRefIdeal.nD Cert.DuRefIdeal.τ).loc Cert.DuRefIdeal.main_arg0) = m ((c.tc : Thread Cert.DuRefIdeal.nD Cert.DuRefIdeal.τ).loc Cert.DuRefIdeal.main_arg0)
      ∧ r.2.mem ((c.tc : Thread Cert.DuRefIdeal.nD Cert.DuRefIdeal.τ).loc Cert.DuRefIdeal.main_arg1) = m ((c.tc : Thread Cert.DuRefIdeal.nD Cert.DuRefIdeal.τ).loc Cert.DuRefIdeal.main_arg1)
      ∧ r.2.mem ((c.tc : Thread Cert.DuRefIdeal.nD Cert.DuRefIdeal.τ).loc Cert.DuRefIdeal.main_arg2) = m ((c.tc : Thread Cert.DuRefIdeal.nD Cert.DuRefIdeal.τ).loc Cert.DuRefIdeal.main_arg2)
      ∧ r.2.mem ((c.tc : Thread Cert.DuRefIdeal.nD Cert.DuRefIdeal.τ).loc Cert.DuRefIdeal.main_arg3) = m ((c.tc : Thread Cert.DuRefIdeal.nD Cert.DuRefIdeal.τ).loc Cert.DuRefIdeal.main_arg3)
      ∧ r.2.mem ((c.tc : Thread Cert.DuRefIdeal.nD Cert.DuRefIdeal.τ).loc Cert.DuRefIdeal.main_arg4) = m ((c.tc : Thread Cert.DuRefIdeal.nD Cert.DuRefIdeal.τ).loc Cert.DuRefIdeal.main_arg4))
      ∧ r.2.sem = fun _ => 0)

def quiescent_Swa [hSwa : Cert.Swa.Facts] : Prop :=
  ∀ (m : (ℓ : Loc Cert.Swa.nD Cert.Swa.τ Cert.Swa.sig) → Buf (Elt Bits) ℓ) (g : Dev Cert.Swa.nD → PrngReg), Pre_Swa m →
    θ_run (Cert.Swa.defs (F := Bits)) (onTc (τ := Cert.Swa.τ) (Cert.Swa.main (F := Bits))) ⟨m, fun _ => 0, g⟩ (fun r => (∀ c : Dev Cert.Swa.nD,
      r.2.mem ((c.tc : Thread Cert.Swa.nD Cert.Swa.τ).loc Cert.Swa.main_arg0) = m ((c.tc : Thread Cert.Swa.nD Cert.Swa.τ).loc Cert.Swa.main_arg0)
      ∧ r.2.mem ((c.tc : Thread Cert.Swa.nD Cert.Swa.τ).loc Cert.Swa.main_arg1) = m ((c.tc : Thread Cert.Swa.nD Cert.Swa.τ).loc Cert.Swa.main_arg1)
      ∧ r.2.mem ((c.tc : Thread Cert.Swa.nD Cert.Swa.τ).loc Cert.Swa.main_arg2) = m ((c.tc : Thread Cert.Swa.nD Cert.Swa.τ).loc Cert.Swa.main_arg2))
      ∧ r.2.sem = fun _ => 0)

def quiescent_SwaIdeal [hSwaIdeal : Cert.SwaIdeal.Facts] : Prop :=
  ∀ (m : (ℓ : Loc Cert.SwaIdeal.nD Cert.SwaIdeal.τ Cert.SwaIdeal.sig) → Buf (Elt Ideal) ℓ) (g : Dev Cert.SwaIdeal.nD → PrngReg), Pre_SwaIdeal m →
    θ_run (Cert.SwaIdeal.defs (F := Ideal)) (onTc (τ := Cert.SwaIdeal.τ) (Cert.SwaIdeal.main (F := Ideal))) ⟨m, fun _ => 0, g⟩ (fun r => (∀ c : Dev Cert.SwaIdeal.nD,
      r.2.mem ((c.tc : Thread Cert.SwaIdeal.nD Cert.SwaIdeal.τ).loc Cert.SwaIdeal.main_arg0) = m ((c.tc : Thread Cert.SwaIdeal.nD Cert.SwaIdeal.τ).loc Cert.SwaIdeal.main_arg0)
      ∧ r.2.mem ((c.tc : Thread Cert.SwaIdeal.nD Cert.SwaIdeal.τ).loc Cert.SwaIdeal.main_arg1) = m ((c.tc : Thread Cert.SwaIdeal.nD Cert.SwaIdeal.τ).loc Cert.SwaIdeal.main_arg1)
      ∧ r.2.mem ((c.tc : Thread Cert.SwaIdeal.nD Cert.SwaIdeal.τ).loc Cert.SwaIdeal.main_arg2) = m ((c.tc : Thread Cert.SwaIdeal.nD Cert.SwaIdeal.τ).loc Cert.SwaIdeal.main_arg2))
      ∧ r.2.sem = fun _ => 0)

def quiescent_SwaIdeal_pre_finite_swa [hSwaIdeal : Cert.SwaIdeal.Facts] [hPre_finite_swa : Cert.Pre_finite_swa.Facts] : Prop :=
  ∀ (m : (ℓ : Loc Cert.SwaIdeal.nD Cert.SwaIdeal.τ Cert.SwaIdeal.sig) → Buf (Elt Ideal) ℓ) (g : Dev Cert.SwaIdeal.nD → PrngReg), Pre_SwaIdeal_finite_swa m →
    θ_run (Cert.SwaIdeal.defs (F := Ideal)) (onTc (τ := Cert.SwaIdeal.τ) (Cert.SwaIdeal.main (F := Ideal))) ⟨m, fun _ => 0, g⟩ (fun r => (∀ c : Dev Cert.SwaIdeal.nD,
      r.2.mem ((c.tc : Thread Cert.SwaIdeal.nD Cert.SwaIdeal.τ).loc Cert.SwaIdeal.main_arg0) = m ((c.tc : Thread Cert.SwaIdeal.nD Cert.SwaIdeal.τ).loc Cert.SwaIdeal.main_arg0)
      ∧ r.2.mem ((c.tc : Thread Cert.SwaIdeal.nD Cert.SwaIdeal.τ).loc Cert.SwaIdeal.main_arg1) = m ((c.tc : Thread Cert.SwaIdeal.nD Cert.SwaIdeal.τ).loc Cert.SwaIdeal.main_arg1)
      ∧ r.2.mem ((c.tc : Thread Cert.SwaIdeal.nD Cert.SwaIdeal.τ).loc Cert.SwaIdeal.main_arg2) = m ((c.tc : Thread Cert.SwaIdeal.nD Cert.SwaIdeal.τ).loc Cert.SwaIdeal.main_arg2))
      ∧ r.2.sem = fun _ => 0)

def quiescent_SwaRefIdeal [hSwaRefIdeal : Cert.SwaRefIdeal.Facts] : Prop :=
  ∀ (m : (ℓ : Loc Cert.SwaRefIdeal.nD Cert.SwaRefIdeal.τ Cert.SwaRefIdeal.sig) → Buf (Elt Ideal) ℓ) (g : Dev Cert.SwaRefIdeal.nD → PrngReg), Pre_SwaRefIdeal m →
    θ_run (Cert.SwaRefIdeal.defs (F := Ideal)) (onTc (τ := Cert.SwaRefIdeal.τ) (Cert.SwaRefIdeal.main (F := Ideal))) ⟨m, fun _ => 0, g⟩ (fun r => (∀ c : Dev Cert.SwaRefIdeal.nD,
      r.2.mem ((c.tc : Thread Cert.SwaRefIdeal.nD Cert.SwaRefIdeal.τ).loc Cert.SwaRefIdeal.main_arg0) = m ((c.tc : Thread Cert.SwaRefIdeal.nD Cert.SwaRefIdeal.τ).loc Cert.SwaRefIdeal.main_arg0)
      ∧ r.2.mem ((c.tc : Thread Cert.SwaRefIdeal.nD Cert.SwaRefIdeal.τ).loc Cert.SwaRefIdeal.main_arg1) = m ((c.tc : Thread Cert.SwaRefIdeal.nD Cert.SwaRefIdeal.τ).loc Cert.SwaRefIdeal.main_arg1)
      ∧ r.2.mem ((c.tc : Thread Cert.SwaRefIdeal.nD Cert.SwaRefIdeal.τ).loc Cert.SwaRefIdeal.main_arg2) = m ((c.tc : Thread Cert.SwaRefIdeal.nD Cert.SwaRefIdeal.τ).loc Cert.SwaRefIdeal.main_arg2))
      ∧ r.2.sem = fun _ => 0)

def quiescent_SwaRefIdeal_pre_finite_swa [hSwaRefIdeal : Cert.SwaRefIdeal.Facts] [hPre_finite_swa : Cert.Pre_finite_swa.Facts] : Prop :=
  ∀ (m : (ℓ : Loc Cert.SwaRefIdeal.nD Cert.SwaRefIdeal.τ Cert.SwaRefIdeal.sig) → Buf (Elt Ideal) ℓ) (g : Dev Cert.SwaRefIdeal.nD → PrngReg), Pre_SwaRefIdeal_finite_swa m →
    θ_run (Cert.SwaRefIdeal.defs (F := Ideal)) (onTc (τ := Cert.SwaRefIdeal.τ) (Cert.SwaRefIdeal.main (F := Ideal))) ⟨m, fun _ => 0, g⟩ (fun r => (∀ c : Dev Cert.SwaRefIdeal.nD,
      r.2.mem ((c.tc : Thread Cert.SwaRefIdeal.nD Cert.SwaRefIdeal.τ).loc Cert.SwaRefIdeal.main_arg0) = m ((c.tc : Thread Cert.SwaRefIdeal.nD Cert.SwaRefIdeal.τ).loc Cert.SwaRefIdeal.main_arg0)
      ∧ r.2.mem ((c.tc : Thread Cert.SwaRefIdeal.nD Cert.SwaRefIdeal.τ).loc Cert.SwaRefIdeal.main_arg1) = m ((c.tc : Thread Cert.SwaRefIdeal.nD Cert.SwaRefIdeal.τ).loc Cert.SwaRefIdeal.main_arg1)
      ∧ r.2.mem ((c.tc : Thread Cert.SwaRefIdeal.nD Cert.SwaRefIdeal.τ).loc Cert.SwaRefIdeal.main_arg2) = m ((c.tc : Thread Cert.SwaRefIdeal.nD Cert.SwaRefIdeal.τ).loc Cert.SwaRefIdeal.main_arg2))
      ∧ r.2.sem = fun _ => 0)

def quiescent_Cross [hCross : Cert.Cross.Facts] : Prop :=
  ∀ (m : (ℓ : Loc Cert.Cross.nD Cert.Cross.τ Cert.Cross.sig) → Buf (Elt Bits) ℓ) (g : Dev Cert.Cross.nD → PrngReg), Pre_Cross m →
    θ_run (Cert.Cross.defs (F := Bits)) (onTc (τ := Cert.Cross.τ) (Cert.Cross.main (F := Bits))) ⟨m, fun _ => 0, g⟩ (fun r => (∀ c : Dev Cert.Cross.nD,
      r.2.mem ((c.tc : Thread Cert.Cross.nD Cert.Cross.τ).loc Cert.Cross.main_arg0) = m ((c.tc : Thread Cert.Cross.nD Cert.Cross.τ).loc Cert.Cross.main_arg0)
      ∧ r.2.mem ((c.tc : Thread Cert.Cross.nD Cert.Cross.τ).loc Cert.Cross.main_arg1) = m ((c.tc : Thread Cert.Cross.nD Cert.Cross.τ).loc Cert.Cross.main_arg1)
      ∧ r.2.mem ((c.tc : Thread Cert.Cross.nD Cert.Cross.τ).loc Cert.Cross.main_arg2) = m ((c.tc : Thread Cert.Cross.nD Cert.Cross.τ).loc Cert.Cross.main_arg2)
      ∧ r.2.mem ((c.tc : Thread Cert.Cross.nD Cert.Cross.τ).loc Cert.Cross.main_arg3) = m ((c.tc : Thread Cert.Cross.nD Cert.Cross.τ).loc Cert.Cross.main_arg3)
      ∧ r.2.mem ((c.tc : Thread Cert.Cross.nD Cert.Cross.τ).loc Cert.Cross.main_arg4) = m ((c.tc : Thread Cert.Cross.nD Cert.Cross.τ).loc Cert.Cross.main_arg4)
      ∧ r.2.mem ((c.tc : Thread Cert.Cross.nD Cert.Cross.τ).loc Cert.Cross.main_arg5) = m ((c.tc : Thread Cert.Cross.nD Cert.Cross.τ).loc Cert.Cross.main_arg5)
      ∧ r.2.mem ((c.tc : Thread Cert.Cross.nD Cert.Cross.τ).loc Cert.Cross.main_arg6) = m ((c.tc : Thread Cert.Cross.nD Cert.Cross.τ).loc Cert.Cross.main_arg6)
      ∧ r.2.mem ((c.tc : Thread Cert.Cross.nD Cert.Cross.τ).loc Cert.Cross.main_arg7) = m ((c.tc : Thread Cert.Cross.nD Cert.Cross.τ).loc Cert.Cross.main_arg7)
      ∧ r.2.mem ((c.tc : Thread Cert.Cross.nD Cert.Cross.τ).loc Cert.Cross.main_arg8) = m ((c.tc : Thread Cert.Cross.nD Cert.Cross.τ).loc Cert.Cross.main_arg8)
      ∧ r.2.mem ((c.tc : Thread Cert.Cross.nD Cert.Cross.τ).loc Cert.Cross.main_arg9) = m ((c.tc : Thread Cert.Cross.nD Cert.Cross.τ).loc Cert.Cross.main_arg9))
      ∧ r.2.sem = fun _ => 0)

def quiescent_CrossIdeal [hCrossIdeal : Cert.CrossIdeal.Facts] : Prop :=
  ∀ (m : (ℓ : Loc Cert.CrossIdeal.nD Cert.CrossIdeal.τ Cert.CrossIdeal.sig) → Buf (Elt Ideal) ℓ) (g : Dev Cert.CrossIdeal.nD → PrngReg), Pre_CrossIdeal m →
    θ_run (Cert.CrossIdeal.defs (F := Ideal)) (onTc (τ := Cert.CrossIdeal.τ) (Cert.CrossIdeal.main (F := Ideal))) ⟨m, fun _ => 0, g⟩ (fun r => (∀ c : Dev Cert.CrossIdeal.nD,
      r.2.mem ((c.tc : Thread Cert.CrossIdeal.nD Cert.CrossIdeal.τ).loc Cert.CrossIdeal.main_arg0) = m ((c.tc : Thread Cert.CrossIdeal.nD Cert.CrossIdeal.τ).loc Cert.CrossIdeal.main_arg0)
      ∧ r.2.mem ((c.tc : Thread Cert.CrossIdeal.nD Cert.CrossIdeal.τ).loc Cert.CrossIdeal.main_arg1) = m ((c.tc : Thread Cert.CrossIdeal.nD Cert.CrossIdeal.τ).loc Cert.CrossIdeal.main_arg1)
      ∧ r.2.mem ((c.tc : Thread Cert.CrossIdeal.nD Cert.CrossIdeal.τ).loc Cert.CrossIdeal.main_arg2) = m ((c.tc : Thread Cert.CrossIdeal.nD Cert.CrossIdeal.τ).loc Cert.CrossIdeal.main_arg2)
      ∧ r.2.mem ((c.tc : Thread Cert.CrossIdeal.nD Cert.CrossIdeal.τ).loc Cert.CrossIdeal.main_arg3) = m ((c.tc : Thread Cert.CrossIdeal.nD Cert.CrossIdeal.τ).loc Cert.CrossIdeal.main_arg3)
      ∧ r.2.mem ((c.tc : Thread Cert.CrossIdeal.nD Cert.CrossIdeal.τ).loc Cert.CrossIdeal.main_arg4) = m ((c.tc : Thread Cert.CrossIdeal.nD Cert.CrossIdeal.τ).loc Cert.CrossIdeal.main_arg4)
      ∧ r.2.mem ((c.tc : Thread Cert.CrossIdeal.nD Cert.CrossIdeal.τ).loc Cert.CrossIdeal.main_arg5) = m ((c.tc : Thread Cert.CrossIdeal.nD Cert.CrossIdeal.τ).loc Cert.CrossIdeal.main_arg5)
      ∧ r.2.mem ((c.tc : Thread Cert.CrossIdeal.nD Cert.CrossIdeal.τ).loc Cert.CrossIdeal.main_arg6) = m ((c.tc : Thread Cert.CrossIdeal.nD Cert.CrossIdeal.τ).loc Cert.CrossIdeal.main_arg6)
      ∧ r.2.mem ((c.tc : Thread Cert.CrossIdeal.nD Cert.CrossIdeal.τ).loc Cert.CrossIdeal.main_arg7) = m ((c.tc : Thread Cert.CrossIdeal.nD Cert.CrossIdeal.τ).loc Cert.CrossIdeal.main_arg7)
      ∧ r.2.mem ((c.tc : Thread Cert.CrossIdeal.nD Cert.CrossIdeal.τ).loc Cert.CrossIdeal.main_arg8) = m ((c.tc : Thread Cert.CrossIdeal.nD Cert.CrossIdeal.τ).loc Cert.CrossIdeal.main_arg8)
      ∧ r.2.mem ((c.tc : Thread Cert.CrossIdeal.nD Cert.CrossIdeal.τ).loc Cert.CrossIdeal.main_arg9) = m ((c.tc : Thread Cert.CrossIdeal.nD Cert.CrossIdeal.τ).loc Cert.CrossIdeal.main_arg9))
      ∧ r.2.sem = fun _ => 0)

def quiescent_CrossIdeal_pre_finite_x [hCrossIdeal : Cert.CrossIdeal.Facts] [hPre_finite_x : Cert.Pre_finite_x.Facts] : Prop :=
  ∀ (m : (ℓ : Loc Cert.CrossIdeal.nD Cert.CrossIdeal.τ Cert.CrossIdeal.sig) → Buf (Elt Ideal) ℓ) (g : Dev Cert.CrossIdeal.nD → PrngReg), Pre_CrossIdeal_finite_x m →
    θ_run (Cert.CrossIdeal.defs (F := Ideal)) (onTc (τ := Cert.CrossIdeal.τ) (Cert.CrossIdeal.main (F := Ideal))) ⟨m, fun _ => 0, g⟩ (fun r => (∀ c : Dev Cert.CrossIdeal.nD,
      r.2.mem ((c.tc : Thread Cert.CrossIdeal.nD Cert.CrossIdeal.τ).loc Cert.CrossIdeal.main_arg0) = m ((c.tc : Thread Cert.CrossIdeal.nD Cert.CrossIdeal.τ).loc Cert.CrossIdeal.main_arg0)
      ∧ r.2.mem ((c.tc : Thread Cert.CrossIdeal.nD Cert.CrossIdeal.τ).loc Cert.CrossIdeal.main_arg1) = m ((c.tc : Thread Cert.CrossIdeal.nD Cert.CrossIdeal.τ).loc Cert.CrossIdeal.main_arg1)
      ∧ r.2.mem ((c.tc : Thread Cert.CrossIdeal.nD Cert.CrossIdeal.τ).loc Cert.CrossIdeal.main_arg2) = m ((c.tc : Thread Cert.CrossIdeal.nD Cert.CrossIdeal.τ).loc Cert.CrossIdeal.main_arg2)
      ∧ r.2.mem ((c.tc : Thread Cert.CrossIdeal.nD Cert.CrossIdeal.τ).loc Cert.CrossIdeal.main_arg3) = m ((c.tc : Thread Cert.CrossIdeal.nD Cert.CrossIdeal.τ).loc Cert.CrossIdeal.main_arg3)
      ∧ r.2.mem ((c.tc : Thread Cert.CrossIdeal.nD Cert.CrossIdeal.τ).loc Cert.CrossIdeal.main_arg4) = m ((c.tc : Thread Cert.CrossIdeal.nD Cert.CrossIdeal.τ).loc Cert.CrossIdeal.main_arg4)
      ∧ r.2.mem ((c.tc : Thread Cert.CrossIdeal.nD Cert.CrossIdeal.τ).loc Cert.CrossIdeal.main_arg5) = m ((c.tc : Thread Cert.CrossIdeal.nD Cert.CrossIdeal.τ).loc Cert.CrossIdeal.main_arg5)
      ∧ r.2.mem ((c.tc : Thread Cert.CrossIdeal.nD Cert.CrossIdeal.τ).loc Cert.CrossIdeal.main_arg6) = m ((c.tc : Thread Cert.CrossIdeal.nD Cert.CrossIdeal.τ).loc Cert.CrossIdeal.main_arg6)
      ∧ r.2.mem ((c.tc : Thread Cert.CrossIdeal.nD Cert.CrossIdeal.τ).loc Cert.CrossIdeal.main_arg7) = m ((c.tc : Thread Cert.CrossIdeal.nD Cert.CrossIdeal.τ).loc Cert.CrossIdeal.main_arg7)
      ∧ r.2.mem ((c.tc : Thread Cert.CrossIdeal.nD Cert.CrossIdeal.τ).loc Cert.CrossIdeal.main_arg8) = m ((c.tc : Thread Cert.CrossIdeal.nD Cert.CrossIdeal.τ).loc Cert.CrossIdeal.main_arg8)
      ∧ r.2.mem ((c.tc : Thread Cert.CrossIdeal.nD Cert.CrossIdeal.τ).loc Cert.CrossIdeal.main_arg9) = m ((c.tc : Thread Cert.CrossIdeal.nD Cert.CrossIdeal.τ).loc Cert.CrossIdeal.main_arg9))
      ∧ r.2.sem = fun _ => 0)

def quiescent_CrossRefIdeal [hCrossRefIdeal : Cert.CrossRefIdeal.Facts] : Prop :=
  ∀ (m : (ℓ : Loc Cert.CrossRefIdeal.nD Cert.CrossRefIdeal.τ Cert.CrossRefIdeal.sig) → Buf (Elt Ideal) ℓ) (g : Dev Cert.CrossRefIdeal.nD → PrngReg), Pre_CrossRefIdeal m →
    θ_run (Cert.CrossRefIdeal.defs (F := Ideal)) (onTc (τ := Cert.CrossRefIdeal.τ) (Cert.CrossRefIdeal.main (F := Ideal))) ⟨m, fun _ => 0, g⟩ (fun r => (∀ c : Dev Cert.CrossRefIdeal.nD,
      r.2.mem ((c.tc : Thread Cert.CrossRefIdeal.nD Cert.CrossRefIdeal.τ).loc Cert.CrossRefIdeal.main_arg0) = m ((c.tc : Thread Cert.CrossRefIdeal.nD Cert.CrossRefIdeal.τ).loc Cert.CrossRefIdeal.main_arg0)
      ∧ r.2.mem ((c.tc : Thread Cert.CrossRefIdeal.nD Cert.CrossRefIdeal.τ).loc Cert.CrossRefIdeal.main_arg1) = m ((c.tc : Thread Cert.CrossRefIdeal.nD Cert.CrossRefIdeal.τ).loc Cert.CrossRefIdeal.main_arg1)
      ∧ r.2.mem ((c.tc : Thread Cert.CrossRefIdeal.nD Cert.CrossRefIdeal.τ).loc Cert.CrossRefIdeal.main_arg2) = m ((c.tc : Thread Cert.CrossRefIdeal.nD Cert.CrossRefIdeal.τ).loc Cert.CrossRefIdeal.main_arg2)
      ∧ r.2.mem ((c.tc : Thread Cert.CrossRefIdeal.nD Cert.CrossRefIdeal.τ).loc Cert.CrossRefIdeal.main_arg3) = m ((c.tc : Thread Cert.CrossRefIdeal.nD Cert.CrossRefIdeal.τ).loc Cert.CrossRefIdeal.main_arg3)
      ∧ r.2.mem ((c.tc : Thread Cert.CrossRefIdeal.nD Cert.CrossRefIdeal.τ).loc Cert.CrossRefIdeal.main_arg4) = m ((c.tc : Thread Cert.CrossRefIdeal.nD Cert.CrossRefIdeal.τ).loc Cert.CrossRefIdeal.main_arg4)
      ∧ r.2.mem ((c.tc : Thread Cert.CrossRefIdeal.nD Cert.CrossRefIdeal.τ).loc Cert.CrossRefIdeal.main_arg5) = m ((c.tc : Thread Cert.CrossRefIdeal.nD Cert.CrossRefIdeal.τ).loc Cert.CrossRefIdeal.main_arg5)
      ∧ r.2.mem ((c.tc : Thread Cert.CrossRefIdeal.nD Cert.CrossRefIdeal.τ).loc Cert.CrossRefIdeal.main_arg6) = m ((c.tc : Thread Cert.CrossRefIdeal.nD Cert.CrossRefIdeal.τ).loc Cert.CrossRefIdeal.main_arg6)
      ∧ r.2.mem ((c.tc : Thread Cert.CrossRefIdeal.nD Cert.CrossRefIdeal.τ).loc Cert.CrossRefIdeal.main_arg7) = m ((c.tc : Thread Cert.CrossRefIdeal.nD Cert.CrossRefIdeal.τ).loc Cert.CrossRefIdeal.main_arg7)
      ∧ r.2.mem ((c.tc : Thread Cert.CrossRefIdeal.nD Cert.CrossRefIdeal.τ).loc Cert.CrossRefIdeal.main_arg8) = m ((c.tc : Thread Cert.CrossRefIdeal.nD Cert.CrossRefIdeal.τ).loc Cert.CrossRefIdeal.main_arg8)
      ∧ r.2.mem ((c.tc : Thread Cert.CrossRefIdeal.nD Cert.CrossRefIdeal.τ).loc Cert.CrossRefIdeal.main_arg9) = m ((c.tc : Thread Cert.CrossRefIdeal.nD Cert.CrossRefIdeal.τ).loc Cert.CrossRefIdeal.main_arg9))
      ∧ r.2.sem = fun _ => 0)

def quiescent_CrossRefIdeal_pre_finite_x [hCrossRefIdeal : Cert.CrossRefIdeal.Facts] [hPre_finite_x : Cert.Pre_finite_x.Facts] : Prop :=
  ∀ (m : (ℓ : Loc Cert.CrossRefIdeal.nD Cert.CrossRefIdeal.τ Cert.CrossRefIdeal.sig) → Buf (Elt Ideal) ℓ) (g : Dev Cert.CrossRefIdeal.nD → PrngReg), Pre_CrossRefIdeal_finite_x m →
    θ_run (Cert.CrossRefIdeal.defs (F := Ideal)) (onTc (τ := Cert.CrossRefIdeal.τ) (Cert.CrossRefIdeal.main (F := Ideal))) ⟨m, fun _ => 0, g⟩ (fun r => (∀ c : Dev Cert.CrossRefIdeal.nD,
      r.2.mem ((c.tc : Thread Cert.CrossRefIdeal.nD Cert.CrossRefIdeal.τ).loc Cert.CrossRefIdeal.main_arg0) = m ((c.tc : Thread Cert.CrossRefIdeal.nD Cert.CrossRefIdeal.τ).loc Cert.CrossRefIdeal.main_arg0)
      ∧ r.2.mem ((c.tc : Thread Cert.CrossRefIdeal.nD Cert.CrossRefIdeal.τ).loc Cert.CrossRefIdeal.main_arg1) = m ((c.tc : Thread Cert.CrossRefIdeal.nD Cert.CrossRefIdeal.τ).loc Cert.CrossRefIdeal.main_arg1)
      ∧ r.2.mem ((c.tc : Thread Cert.CrossRefIdeal.nD Cert.CrossRefIdeal.τ).loc Cert.CrossRefIdeal.main_arg2) = m ((c.tc : Thread Cert.CrossRefIdeal.nD Cert.CrossRefIdeal.τ).loc Cert.CrossRefIdeal.main_arg2)
      ∧ r.2.mem ((c.tc : Thread Cert.CrossRefIdeal.nD Cert.CrossRefIdeal.τ).loc Cert.CrossRefIdeal.main_arg3) = m ((c.tc : Thread Cert.CrossRefIdeal.nD Cert.CrossRefIdeal.τ).loc Cert.CrossRefIdeal.main_arg3)
      ∧ r.2.mem ((c.tc : Thread Cert.CrossRefIdeal.nD Cert.CrossRefIdeal.τ).loc Cert.CrossRefIdeal.main_arg4) = m ((c.tc : Thread Cert.CrossRefIdeal.nD Cert.CrossRefIdeal.τ).loc Cert.CrossRefIdeal.main_arg4)
      ∧ r.2.mem ((c.tc : Thread Cert.CrossRefIdeal.nD Cert.CrossRefIdeal.τ).loc Cert.CrossRefIdeal.main_arg5) = m ((c.tc : Thread Cert.CrossRefIdeal.nD Cert.CrossRefIdeal.τ).loc Cert.CrossRefIdeal.main_arg5)
      ∧ r.2.mem ((c.tc : Thread Cert.CrossRefIdeal.nD Cert.CrossRefIdeal.τ).loc Cert.CrossRefIdeal.main_arg6) = m ((c.tc : Thread Cert.CrossRefIdeal.nD Cert.CrossRefIdeal.τ).loc Cert.CrossRefIdeal.main_arg6)
      ∧ r.2.mem ((c.tc : Thread Cert.CrossRefIdeal.nD Cert.CrossRefIdeal.τ).loc Cert.CrossRefIdeal.main_arg7) = m ((c.tc : Thread Cert.CrossRefIdeal.nD Cert.CrossRefIdeal.τ).loc Cert.CrossRefIdeal.main_arg7)
      ∧ r.2.mem ((c.tc : Thread Cert.CrossRefIdeal.nD Cert.CrossRefIdeal.τ).loc Cert.CrossRefIdeal.main_arg8) = m ((c.tc : Thread Cert.CrossRefIdeal.nD Cert.CrossRefIdeal.τ).loc Cert.CrossRefIdeal.main_arg8)
      ∧ r.2.mem ((c.tc : Thread Cert.CrossRefIdeal.nD Cert.CrossRefIdeal.τ).loc Cert.CrossRefIdeal.main_arg9) = m ((c.tc : Thread Cert.CrossRefIdeal.nD Cert.CrossRefIdeal.τ).loc Cert.CrossRefIdeal.main_arg9))
      ∧ r.2.sem = fun _ => 0)

def quiescent_Memory [hMemory : Cert.Memory.Facts] : Prop :=
  ∀ (m : (ℓ : Loc Cert.Memory.nD Cert.Memory.τ Cert.Memory.sig) → Buf (Elt Bits) ℓ) (g : Dev Cert.Memory.nD → PrngReg), Pre_Memory m →
    θ_run (Cert.Memory.defs (F := Bits)) (onTc (τ := Cert.Memory.τ) (Cert.Memory.main (F := Bits))) ⟨m, fun _ => 0, g⟩ (fun r => (∀ c : Dev Cert.Memory.nD,
      r.2.mem ((c.tc : Thread Cert.Memory.nD Cert.Memory.τ).loc Cert.Memory.main_arg0) = m ((c.tc : Thread Cert.Memory.nD Cert.Memory.τ).loc Cert.Memory.main_arg0)
      ∧ r.2.mem ((c.tc : Thread Cert.Memory.nD Cert.Memory.τ).loc Cert.Memory.main_arg1) = m ((c.tc : Thread Cert.Memory.nD Cert.Memory.τ).loc Cert.Memory.main_arg1)
      ∧ r.2.mem ((c.tc : Thread Cert.Memory.nD Cert.Memory.τ).loc Cert.Memory.main_arg2) = m ((c.tc : Thread Cert.Memory.nD Cert.Memory.τ).loc Cert.Memory.main_arg2)
      ∧ r.2.mem ((c.tc : Thread Cert.Memory.nD Cert.Memory.τ).loc Cert.Memory.main_arg3) = m ((c.tc : Thread Cert.Memory.nD Cert.Memory.τ).loc Cert.Memory.main_arg3)
      ∧ r.2.mem ((c.tc : Thread Cert.Memory.nD Cert.Memory.τ).loc Cert.Memory.main_arg4) = m ((c.tc : Thread Cert.Memory.nD Cert.Memory.τ).loc Cert.Memory.main_arg4)
      ∧ r.2.mem ((c.tc : Thread Cert.Memory.nD Cert.Memory.τ).loc Cert.Memory.main_arg5) = m ((c.tc : Thread Cert.Memory.nD Cert.Memory.τ).loc Cert.Memory.main_arg5))
      ∧ r.2.sem = fun _ => 0)

def quiescent_MemoryIdeal [hMemoryIdeal : Cert.MemoryIdeal.Facts] : Prop :=
  ∀ (m : (ℓ : Loc Cert.MemoryIdeal.nD Cert.MemoryIdeal.τ Cert.MemoryIdeal.sig) → Buf (Elt Ideal) ℓ) (g : Dev Cert.MemoryIdeal.nD → PrngReg), Pre_MemoryIdeal m →
    θ_run (Cert.MemoryIdeal.defs (F := Ideal)) (onTc (τ := Cert.MemoryIdeal.τ) (Cert.MemoryIdeal.main (F := Ideal))) ⟨m, fun _ => 0, g⟩ (fun r => (∀ c : Dev Cert.MemoryIdeal.nD,
      r.2.mem ((c.tc : Thread Cert.MemoryIdeal.nD Cert.MemoryIdeal.τ).loc Cert.MemoryIdeal.main_arg0) = m ((c.tc : Thread Cert.MemoryIdeal.nD Cert.MemoryIdeal.τ).loc Cert.MemoryIdeal.main_arg0)
      ∧ r.2.mem ((c.tc : Thread Cert.MemoryIdeal.nD Cert.MemoryIdeal.τ).loc Cert.MemoryIdeal.main_arg1) = m ((c.tc : Thread Cert.MemoryIdeal.nD Cert.MemoryIdeal.τ).loc Cert.MemoryIdeal.main_arg1)
      ∧ r.2.mem ((c.tc : Thread Cert.MemoryIdeal.nD Cert.MemoryIdeal.τ).loc Cert.MemoryIdeal.main_arg2) = m ((c.tc : Thread Cert.MemoryIdeal.nD Cert.MemoryIdeal.τ).loc Cert.MemoryIdeal.main_arg2)
      ∧ r.2.mem ((c.tc : Thread Cert.MemoryIdeal.nD Cert.MemoryIdeal.τ).loc Cert.MemoryIdeal.main_arg3) = m ((c.tc : Thread Cert.MemoryIdeal.nD Cert.MemoryIdeal.τ).loc Cert.MemoryIdeal.main_arg3)
      ∧ r.2.mem ((c.tc : Thread Cert.MemoryIdeal.nD Cert.MemoryIdeal.τ).loc Cert.MemoryIdeal.main_arg4) = m ((c.tc : Thread Cert.MemoryIdeal.nD Cert.MemoryIdeal.τ).loc Cert.MemoryIdeal.main_arg4)
      ∧ r.2.mem ((c.tc : Thread Cert.MemoryIdeal.nD Cert.MemoryIdeal.τ).loc Cert.MemoryIdeal.main_arg5) = m ((c.tc : Thread Cert.MemoryIdeal.nD Cert.MemoryIdeal.τ).loc Cert.MemoryIdeal.main_arg5))
      ∧ r.2.sem = fun _ => 0)

def quiescent_MemoryRefIdeal [hMemoryRefIdeal : Cert.MemoryRefIdeal.Facts] : Prop :=
  ∀ (m : (ℓ : Loc Cert.MemoryRefIdeal.nD Cert.MemoryRefIdeal.τ Cert.MemoryRefIdeal.sig) → Buf (Elt Ideal) ℓ) (g : Dev Cert.MemoryRefIdeal.nD → PrngReg), Pre_MemoryRefIdeal m →
    θ_run (Cert.MemoryRefIdeal.defs (F := Ideal)) (onTc (τ := Cert.MemoryRefIdeal.τ) (Cert.MemoryRefIdeal.main (F := Ideal))) ⟨m, fun _ => 0, g⟩ (fun r => (∀ c : Dev Cert.MemoryRefIdeal.nD,
      r.2.mem ((c.tc : Thread Cert.MemoryRefIdeal.nD Cert.MemoryRefIdeal.τ).loc Cert.MemoryRefIdeal.main_arg0) = m ((c.tc : Thread Cert.MemoryRefIdeal.nD Cert.MemoryRefIdeal.τ).loc Cert.MemoryRefIdeal.main_arg0)
      ∧ r.2.mem ((c.tc : Thread Cert.MemoryRefIdeal.nD Cert.MemoryRefIdeal.τ).loc Cert.MemoryRefIdeal.main_arg1) = m ((c.tc : Thread Cert.MemoryRefIdeal.nD Cert.MemoryRefIdeal.τ).loc Cert.MemoryRefIdeal.main_arg1)
      ∧ r.2.mem ((c.tc : Thread Cert.MemoryRefIdeal.nD Cert.MemoryRefIdeal.τ).loc Cert.MemoryRefIdeal.main_arg2) = m ((c.tc : Thread Cert.MemoryRefIdeal.nD Cert.MemoryRefIdeal.τ).loc Cert.MemoryRefIdeal.main_arg2)
      ∧ r.2.mem ((c.tc : Thread Cert.MemoryRefIdeal.nD Cert.MemoryRefIdeal.τ).loc Cert.MemoryRefIdeal.main_arg3) = m ((c.tc : Thread Cert.MemoryRefIdeal.nD Cert.MemoryRefIdeal.τ).loc Cert.MemoryRefIdeal.main_arg3)
      ∧ r.2.mem ((c.tc : Thread Cert.MemoryRefIdeal.nD Cert.MemoryRefIdeal.τ).loc Cert.MemoryRefIdeal.main_arg4) = m ((c.tc : Thread Cert.MemoryRefIdeal.nD Cert.MemoryRefIdeal.τ).loc Cert.MemoryRefIdeal.main_arg4)
      ∧ r.2.mem ((c.tc : Thread Cert.MemoryRefIdeal.nD Cert.MemoryRefIdeal.τ).loc Cert.MemoryRefIdeal.main_arg5) = m ((c.tc : Thread Cert.MemoryRefIdeal.nD Cert.MemoryRefIdeal.τ).loc Cert.MemoryRefIdeal.main_arg5))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6)
      ∧ r.2.mem ((c.tc : Thread Cert.Ffn.nD Cert.Ffn.τ).loc Cert.Ffn.main_arg7) = m ((c.tc : Thread Cert.Ffn.nD Cert.Ffn.τ).loc Cert.Ffn.main_arg7)
      ∧ r.2.mem ((c.tc : Thread Cert.Ffn.nD Cert.Ffn.τ).loc Cert.Ffn.main_arg8) = m ((c.tc : Thread Cert.Ffn.nD Cert.Ffn.τ).loc Cert.Ffn.main_arg8)
      ∧ r.2.mem ((c.tc : Thread Cert.Ffn.nD Cert.Ffn.τ).loc Cert.Ffn.main_arg9) = m ((c.tc : Thread Cert.Ffn.nD Cert.Ffn.τ).loc Cert.Ffn.main_arg9))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
      ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8)
      ∧ r.2.mem ((c.tc : Thread Cert.FfnIdeal.nD Cert.FfnIdeal.τ).loc Cert.FfnIdeal.main_arg9) = m ((c.tc : Thread Cert.FfnIdeal.nD Cert.FfnIdeal.τ).loc Cert.FfnIdeal.main_arg9))
      ∧ r.2.sem = fun _ => 0)

def quiescent_FfnIdeal_pre_finite_ffn [hFfnIdeal : Cert.FfnIdeal.Facts] [hPre_finite_ffn : Cert.Pre_finite_ffn.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal_finite_ffn m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
      ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8)
      ∧ r.2.mem ((c.tc : Thread Cert.FfnIdeal.nD Cert.FfnIdeal.τ).loc Cert.FfnIdeal.main_arg9) = m ((c.tc : Thread Cert.FfnIdeal.nD Cert.FfnIdeal.τ).loc Cert.FfnIdeal.main_arg9))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6)
      ∧ r.2.mem ((c.tc : Thread Cert.FfnRefIdeal.nD Cert.FfnRefIdeal.τ).loc Cert.FfnRefIdeal.main_arg7) = m ((c.tc : Thread Cert.FfnRefIdeal.nD Cert.FfnRefIdeal.τ).loc Cert.FfnRefIdeal.main_arg7)
      ∧ r.2.mem ((c.tc : Thread Cert.FfnRefIdeal.nD Cert.FfnRefIdeal.τ).loc Cert.FfnRefIdeal.main_arg8) = m ((c.tc : Thread Cert.FfnRefIdeal.nD Cert.FfnRefIdeal.τ).loc Cert.FfnRefIdeal.main_arg8)
      ∧ r.2.mem ((c.tc : Thread Cert.FfnRefIdeal.nD Cert.FfnRefIdeal.τ).loc Cert.FfnRefIdeal.main_arg9) = m ((c.tc : Thread Cert.FfnRefIdeal.nD Cert.FfnRefIdeal.τ).loc Cert.FfnRefIdeal.main_arg9))
      ∧ r.2.sem = fun _ => 0)

def quiescent_FfnRefIdeal_pre_finite_ffn [hFfnRefIdeal : Cert.FfnRefIdeal.Facts] [hPre_finite_ffn : Cert.Pre_finite_ffn.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal_finite_ffn m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6)
      ∧ r.2.mem ((c.tc : Thread Cert.FfnRefIdeal.nD Cert.FfnRefIdeal.τ).loc Cert.FfnRefIdeal.main_arg7) = m ((c.tc : Thread Cert.FfnRefIdeal.nD Cert.FfnRefIdeal.τ).loc Cert.FfnRefIdeal.main_arg7)
      ∧ r.2.mem ((c.tc : Thread Cert.FfnRefIdeal.nD Cert.FfnRefIdeal.τ).loc Cert.FfnRefIdeal.main_arg8) = m ((c.tc : Thread Cert.FfnRefIdeal.nD Cert.FfnRefIdeal.τ).loc Cert.FfnRefIdeal.main_arg8)
      ∧ r.2.mem ((c.tc : Thread Cert.FfnRefIdeal.nD Cert.FfnRefIdeal.τ).loc Cert.FfnRefIdeal.main_arg9) = m ((c.tc : Thread Cert.FfnRefIdeal.nD Cert.FfnRefIdeal.τ).loc Cert.FfnRefIdeal.main_arg9))
      ∧ r.2.sem = fun _ => 0)

def preserves_Du_DuIdeal : Prop :=
  True

def algebraic_DuIdeal_DuRefIdeal_pre_finite_du [hDuIdeal : Cert.DuIdeal.Facts] [hDuRefIdeal : Cert.DuRefIdeal.Facts] [hPre_finite_du : Cert.Pre_finite_du.Facts] : Prop :=
  ∀ (m : (ℓ : Loc Cert.DuIdeal.nD Cert.DuIdeal.τ Cert.DuIdeal.sig) → Buf (Elt Ideal) ℓ) (g : Dev Cert.DuIdeal.nD → PrngReg)
    (m' : (ℓ : Loc Cert.DuRefIdeal.nD Cert.DuRefIdeal.τ Cert.DuRefIdeal.sig) → Buf (Elt Ideal) ℓ) (g' : Dev Cert.DuRefIdeal.nD → PrngReg), Pre_DuIdeal_finite_du m →
    (∀ c : Dev Cert.DuIdeal.nD,
      m' ((c.tc : Thread Cert.DuRefIdeal.nD Cert.DuRefIdeal.τ).loc Cert.DuRefIdeal.main_arg0) = m ((c.tc : Thread Cert.DuIdeal.nD Cert.DuIdeal.τ).loc Cert.DuIdeal.main_arg0)
      ∧ m' ((c.tc : Thread Cert.DuRefIdeal.nD Cert.DuRefIdeal.τ).loc Cert.DuRefIdeal.main_arg1) = m ((c.tc : Thread Cert.DuIdeal.nD Cert.DuIdeal.τ).loc Cert.DuIdeal.main_arg1)
      ∧ m' ((c.tc : Thread Cert.DuRefIdeal.nD Cert.DuRefIdeal.τ).loc Cert.DuRefIdeal.main_arg2) = m ((c.tc : Thread Cert.DuIdeal.nD Cert.DuIdeal.τ).loc Cert.DuIdeal.main_arg2)
      ∧ m' ((c.tc : Thread Cert.DuRefIdeal.nD Cert.DuRefIdeal.τ).loc Cert.DuRefIdeal.main_arg3) = m ((c.tc : Thread Cert.DuIdeal.nD Cert.DuIdeal.τ).loc Cert.DuIdeal.main_arg3)
      ∧ m' ((c.tc : Thread Cert.DuRefIdeal.nD Cert.DuRefIdeal.τ).loc Cert.DuRefIdeal.main_arg4) = m ((c.tc : Thread Cert.DuIdeal.nD Cert.DuIdeal.τ).loc Cert.DuIdeal.main_arg4)) →
    ∃ (v0 : (c : Dev Cert.DuIdeal.nD) → Buf (Elt Ideal) ((c.tc : Thread Cert.DuIdeal.nD Cert.DuIdeal.τ).loc Cert.DuIdeal.main_v2_0)) (v1 : (c : Dev Cert.DuIdeal.nD) → Buf (Elt Ideal) ((c.tc : Thread Cert.DuIdeal.nD Cert.DuIdeal.τ).loc Cert.DuIdeal.main_v4)),
      θ_run (Cert.DuIdeal.defs (F := Ideal)) (onTc (τ := Cert.DuIdeal.τ) (Cert.DuIdeal.main (F := Ideal))) ⟨m, fun _ => 0, g⟩ (fun r => ∀ c : Dev Cert.DuIdeal.nD,
          r.2.mem ((c.tc : Thread Cert.DuIdeal.nD Cert.DuIdeal.τ).loc Cert.DuIdeal.main_v2_0) = v0 c
          ∧ r.2.mem ((c.tc : Thread Cert.DuIdeal.nD Cert.DuIdeal.τ).loc Cert.DuIdeal.main_v4) = v1 c
          ∧ r.2.mem ((c.tc : Thread Cert.DuIdeal.nD Cert.DuIdeal.τ).loc Cert.DuIdeal.main_arg0) = m ((c.tc : Thread Cert.DuIdeal.nD Cert.DuIdeal.τ).loc Cert.DuIdeal.main_arg0)
          ∧ r.2.mem ((c.tc : Thread Cert.DuIdeal.nD Cert.DuIdeal.τ).loc Cert.DuIdeal.main_arg1) = m ((c.tc : Thread Cert.DuIdeal.nD Cert.DuIdeal.τ).loc Cert.DuIdeal.main_arg1)
          ∧ r.2.mem ((c.tc : Thread Cert.DuIdeal.nD Cert.DuIdeal.τ).loc Cert.DuIdeal.main_arg2) = m ((c.tc : Thread Cert.DuIdeal.nD Cert.DuIdeal.τ).loc Cert.DuIdeal.main_arg2)
          ∧ r.2.mem ((c.tc : Thread Cert.DuIdeal.nD Cert.DuIdeal.τ).loc Cert.DuIdeal.main_arg3) = m ((c.tc : Thread Cert.DuIdeal.nD Cert.DuIdeal.τ).loc Cert.DuIdeal.main_arg3)
          ∧ r.2.mem ((c.tc : Thread Cert.DuIdeal.nD Cert.DuIdeal.τ).loc Cert.DuIdeal.main_arg4) = m ((c.tc : Thread Cert.DuIdeal.nD Cert.DuIdeal.τ).loc Cert.DuIdeal.main_arg4))
      ∧ θ_run (Cert.DuRefIdeal.defs (F := Ideal)) (onTc (τ := Cert.DuRefIdeal.τ) (Cert.DuRefIdeal.main (F := Ideal))) ⟨m', fun _ => 0, g'⟩ (fun r => ∀ c : Dev Cert.DuRefIdeal.nD,
          r.2.mem ((c.tc : Thread Cert.DuRefIdeal.nD Cert.DuRefIdeal.τ).loc Cert.DuRefIdeal.main_v37) = v0 c
          ∧ r.2.mem ((c.tc : Thread Cert.DuRefIdeal.nD Cert.DuRefIdeal.τ).loc Cert.DuRefIdeal.main_v20) = v1 c
          ∧ r.2.mem ((c.tc : Thread Cert.DuRefIdeal.nD Cert.DuRefIdeal.τ).loc Cert.DuRefIdeal.main_arg0) = m' ((c.tc : Thread Cert.DuRefIdeal.nD Cert.DuRefIdeal.τ).loc Cert.DuRefIdeal.main_arg0)
          ∧ r.2.mem ((c.tc : Thread Cert.DuRefIdeal.nD Cert.DuRefIdeal.τ).loc Cert.DuRefIdeal.main_arg1) = m' ((c.tc : Thread Cert.DuRefIdeal.nD Cert.DuRefIdeal.τ).loc Cert.DuRefIdeal.main_arg1)
          ∧ r.2.mem ((c.tc : Thread Cert.DuRefIdeal.nD Cert.DuRefIdeal.τ).loc Cert.DuRefIdeal.main_arg2) = m' ((c.tc : Thread Cert.DuRefIdeal.nD Cert.DuRefIdeal.τ).loc Cert.DuRefIdeal.main_arg2)
          ∧ r.2.mem ((c.tc : Thread Cert.DuRefIdeal.nD Cert.DuRefIdeal.τ).loc Cert.DuRefIdeal.main_arg3) = m' ((c.tc : Thread Cert.DuRefIdeal.nD Cert.DuRefIdeal.τ).loc Cert.DuRefIdeal.main_arg3)
          ∧ r.2.mem ((c.tc : Thread Cert.DuRefIdeal.nD Cert.DuRefIdeal.τ).loc Cert.DuRefIdeal.main_arg4) = m' ((c.tc : Thread Cert.DuRefIdeal.nD Cert.DuRefIdeal.τ).loc Cert.DuRefIdeal.main_arg4))

def preserves_Swa_SwaIdeal : Prop :=
  True

def algebraic_SwaIdeal_SwaRefIdeal_pre_finite_swa [hSwaIdeal : Cert.SwaIdeal.Facts] [hSwaRefIdeal : Cert.SwaRefIdeal.Facts] [hPre_finite_swa : Cert.Pre_finite_swa.Facts] : Prop :=
  ∀ (m : (ℓ : Loc Cert.SwaIdeal.nD Cert.SwaIdeal.τ Cert.SwaIdeal.sig) → Buf (Elt Ideal) ℓ) (g : Dev Cert.SwaIdeal.nD → PrngReg)
    (m' : (ℓ : Loc Cert.SwaRefIdeal.nD Cert.SwaRefIdeal.τ Cert.SwaRefIdeal.sig) → Buf (Elt Ideal) ℓ) (g' : Dev Cert.SwaRefIdeal.nD → PrngReg), Pre_SwaIdeal_finite_swa m →
    (∀ c : Dev Cert.SwaIdeal.nD,
      m' ((c.tc : Thread Cert.SwaRefIdeal.nD Cert.SwaRefIdeal.τ).loc Cert.SwaRefIdeal.main_arg0) = m ((c.tc : Thread Cert.SwaIdeal.nD Cert.SwaIdeal.τ).loc Cert.SwaIdeal.main_arg0)
      ∧ m' ((c.tc : Thread Cert.SwaRefIdeal.nD Cert.SwaRefIdeal.τ).loc Cert.SwaRefIdeal.main_arg1) = m ((c.tc : Thread Cert.SwaIdeal.nD Cert.SwaIdeal.τ).loc Cert.SwaIdeal.main_arg1)
      ∧ m' ((c.tc : Thread Cert.SwaRefIdeal.nD Cert.SwaRefIdeal.τ).loc Cert.SwaRefIdeal.main_arg2) = m ((c.tc : Thread Cert.SwaIdeal.nD Cert.SwaIdeal.τ).loc Cert.SwaIdeal.main_arg2)) →
    ∃ (v0 : (c : Dev Cert.SwaIdeal.nD) → Buf (Elt Ideal) ((c.tc : Thread Cert.SwaIdeal.nD Cert.SwaIdeal.τ).loc Cert.SwaIdeal.main_v63_0)) (v1 : (c : Dev Cert.SwaIdeal.nD) → Buf (Elt Ideal) ((c.tc : Thread Cert.SwaIdeal.nD Cert.SwaIdeal.τ).loc Cert.SwaIdeal.main_v63_1)) (v2 : (c : Dev Cert.SwaIdeal.nD) → Buf (Elt Ideal) ((c.tc : Thread Cert.SwaIdeal.nD Cert.SwaIdeal.τ).loc Cert.SwaIdeal.main_v63_2)) (v3 : (c : Dev Cert.SwaIdeal.nD) → Buf (Elt Ideal) ((c.tc : Thread Cert.SwaIdeal.nD Cert.SwaIdeal.τ).loc Cert.SwaIdeal.main_v66)),
      θ_run (Cert.SwaIdeal.defs (F := Ideal)) (onTc (τ := Cert.SwaIdeal.τ) (Cert.SwaIdeal.main (F := Ideal))) ⟨m, fun _ => 0, g⟩ (fun r => ∀ c : Dev Cert.SwaIdeal.nD,
          r.2.mem ((c.tc : Thread Cert.SwaIdeal.nD Cert.SwaIdeal.τ).loc Cert.SwaIdeal.main_v63_0) = v0 c
          ∧ r.2.mem ((c.tc : Thread Cert.SwaIdeal.nD Cert.SwaIdeal.τ).loc Cert.SwaIdeal.main_v63_1) = v1 c
          ∧ r.2.mem ((c.tc : Thread Cert.SwaIdeal.nD Cert.SwaIdeal.τ).loc Cert.SwaIdeal.main_v63_2) = v2 c
          ∧ r.2.mem ((c.tc : Thread Cert.SwaIdeal.nD Cert.SwaIdeal.τ).loc Cert.SwaIdeal.main_v66) = v3 c
          ∧ r.2.mem ((c.tc : Thread Cert.SwaIdeal.nD Cert.SwaIdeal.τ).loc Cert.SwaIdeal.main_arg0) = m ((c.tc : Thread Cert.SwaIdeal.nD Cert.SwaIdeal.τ).loc Cert.SwaIdeal.main_arg0)
          ∧ r.2.mem ((c.tc : Thread Cert.SwaIdeal.nD Cert.SwaIdeal.τ).loc Cert.SwaIdeal.main_arg1) = m ((c.tc : Thread Cert.SwaIdeal.nD Cert.SwaIdeal.τ).loc Cert.SwaIdeal.main_arg1)
          ∧ r.2.mem ((c.tc : Thread Cert.SwaIdeal.nD Cert.SwaIdeal.τ).loc Cert.SwaIdeal.main_arg2) = m ((c.tc : Thread Cert.SwaIdeal.nD Cert.SwaIdeal.τ).loc Cert.SwaIdeal.main_arg2))
      ∧ θ_run (Cert.SwaRefIdeal.defs (F := Ideal)) (onTc (τ := Cert.SwaRefIdeal.τ) (Cert.SwaRefIdeal.main (F := Ideal))) ⟨m', fun _ => 0, g'⟩ (fun r => ∀ c : Dev Cert.SwaRefIdeal.nD,
          r.2.mem ((c.tc : Thread Cert.SwaRefIdeal.nD Cert.SwaRefIdeal.τ).loc Cert.SwaRefIdeal.main_v145) = v0 c
          ∧ r.2.mem ((c.tc : Thread Cert.SwaRefIdeal.nD Cert.SwaRefIdeal.τ).loc Cert.SwaRefIdeal.main_v149) = v1 c
          ∧ r.2.mem ((c.tc : Thread Cert.SwaRefIdeal.nD Cert.SwaRefIdeal.τ).loc Cert.SwaRefIdeal.main_v153) = v2 c
          ∧ r.2.mem ((c.tc : Thread Cert.SwaRefIdeal.nD Cert.SwaRefIdeal.τ).loc Cert.SwaRefIdeal.main_v102) = v3 c
          ∧ r.2.mem ((c.tc : Thread Cert.SwaRefIdeal.nD Cert.SwaRefIdeal.τ).loc Cert.SwaRefIdeal.main_arg0) = m' ((c.tc : Thread Cert.SwaRefIdeal.nD Cert.SwaRefIdeal.τ).loc Cert.SwaRefIdeal.main_arg0)
          ∧ r.2.mem ((c.tc : Thread Cert.SwaRefIdeal.nD Cert.SwaRefIdeal.τ).loc Cert.SwaRefIdeal.main_arg1) = m' ((c.tc : Thread Cert.SwaRefIdeal.nD Cert.SwaRefIdeal.τ).loc Cert.SwaRefIdeal.main_arg1)
          ∧ r.2.mem ((c.tc : Thread Cert.SwaRefIdeal.nD Cert.SwaRefIdeal.τ).loc Cert.SwaRefIdeal.main_arg2) = m' ((c.tc : Thread Cert.SwaRefIdeal.nD Cert.SwaRefIdeal.τ).loc Cert.SwaRefIdeal.main_arg2))

def preserves_Cross_CrossIdeal : Prop :=
  True

def algebraic_CrossIdeal_CrossRefIdeal_pre_finite_x [hCrossIdeal : Cert.CrossIdeal.Facts] [hCrossRefIdeal : Cert.CrossRefIdeal.Facts] [hPre_finite_x : Cert.Pre_finite_x.Facts] : Prop :=
  ∀ (m : (ℓ : Loc Cert.CrossIdeal.nD Cert.CrossIdeal.τ Cert.CrossIdeal.sig) → Buf (Elt Ideal) ℓ) (g : Dev Cert.CrossIdeal.nD → PrngReg)
    (m' : (ℓ : Loc Cert.CrossRefIdeal.nD Cert.CrossRefIdeal.τ Cert.CrossRefIdeal.sig) → Buf (Elt Ideal) ℓ) (g' : Dev Cert.CrossRefIdeal.nD → PrngReg), Pre_CrossIdeal_finite_x m →
    (∀ c : Dev Cert.CrossIdeal.nD,
      m' ((c.tc : Thread Cert.CrossRefIdeal.nD Cert.CrossRefIdeal.τ).loc Cert.CrossRefIdeal.main_arg0) = m ((c.tc : Thread Cert.CrossIdeal.nD Cert.CrossIdeal.τ).loc Cert.CrossIdeal.main_arg0)
      ∧ m' ((c.tc : Thread Cert.CrossRefIdeal.nD Cert.CrossRefIdeal.τ).loc Cert.CrossRefIdeal.main_arg1) = m ((c.tc : Thread Cert.CrossIdeal.nD Cert.CrossIdeal.τ).loc Cert.CrossIdeal.main_arg1)
      ∧ m' ((c.tc : Thread Cert.CrossRefIdeal.nD Cert.CrossRefIdeal.τ).loc Cert.CrossRefIdeal.main_arg2) = m ((c.tc : Thread Cert.CrossIdeal.nD Cert.CrossIdeal.τ).loc Cert.CrossIdeal.main_arg2)
      ∧ m' ((c.tc : Thread Cert.CrossRefIdeal.nD Cert.CrossRefIdeal.τ).loc Cert.CrossRefIdeal.main_arg3) = m ((c.tc : Thread Cert.CrossIdeal.nD Cert.CrossIdeal.τ).loc Cert.CrossIdeal.main_arg3)
      ∧ m' ((c.tc : Thread Cert.CrossRefIdeal.nD Cert.CrossRefIdeal.τ).loc Cert.CrossRefIdeal.main_arg4) = m ((c.tc : Thread Cert.CrossIdeal.nD Cert.CrossIdeal.τ).loc Cert.CrossIdeal.main_arg4)
      ∧ m' ((c.tc : Thread Cert.CrossRefIdeal.nD Cert.CrossRefIdeal.τ).loc Cert.CrossRefIdeal.main_arg5) = m ((c.tc : Thread Cert.CrossIdeal.nD Cert.CrossIdeal.τ).loc Cert.CrossIdeal.main_arg5)
      ∧ m' ((c.tc : Thread Cert.CrossRefIdeal.nD Cert.CrossRefIdeal.τ).loc Cert.CrossRefIdeal.main_arg6) = m ((c.tc : Thread Cert.CrossIdeal.nD Cert.CrossIdeal.τ).loc Cert.CrossIdeal.main_arg6)
      ∧ m' ((c.tc : Thread Cert.CrossRefIdeal.nD Cert.CrossRefIdeal.τ).loc Cert.CrossRefIdeal.main_arg7) = m ((c.tc : Thread Cert.CrossIdeal.nD Cert.CrossIdeal.τ).loc Cert.CrossIdeal.main_arg7)
      ∧ m' ((c.tc : Thread Cert.CrossRefIdeal.nD Cert.CrossRefIdeal.τ).loc Cert.CrossRefIdeal.main_arg8) = m ((c.tc : Thread Cert.CrossIdeal.nD Cert.CrossIdeal.τ).loc Cert.CrossIdeal.main_arg8)
      ∧ m' ((c.tc : Thread Cert.CrossRefIdeal.nD Cert.CrossRefIdeal.τ).loc Cert.CrossRefIdeal.main_arg9) = m ((c.tc : Thread Cert.CrossIdeal.nD Cert.CrossIdeal.τ).loc Cert.CrossIdeal.main_arg9)) →
    ∃ (v0 : (c : Dev Cert.CrossIdeal.nD) → Buf (Elt Ideal) ((c.tc : Thread Cert.CrossIdeal.nD Cert.CrossIdeal.τ).loc Cert.CrossIdeal.main_v32_0)) (v1 : (c : Dev Cert.CrossIdeal.nD) → Buf (Elt Ideal) ((c.tc : Thread Cert.CrossIdeal.nD Cert.CrossIdeal.τ).loc Cert.CrossIdeal.main_v32_1)) (v2 : (c : Dev Cert.CrossIdeal.nD) → Buf (Elt Ideal) ((c.tc : Thread Cert.CrossIdeal.nD Cert.CrossIdeal.τ).loc Cert.CrossIdeal.main_v32_2)) (v3 : (c : Dev Cert.CrossIdeal.nD) → Buf (Elt Ideal) ((c.tc : Thread Cert.CrossIdeal.nD Cert.CrossIdeal.τ).loc Cert.CrossIdeal.main_v32_3)) (v4 : (c : Dev Cert.CrossIdeal.nD) → Buf (Elt Ideal) ((c.tc : Thread Cert.CrossIdeal.nD Cert.CrossIdeal.τ).loc Cert.CrossIdeal.main_v32_4)) (v5 : (c : Dev Cert.CrossIdeal.nD) → Buf (Elt Ideal) ((c.tc : Thread Cert.CrossIdeal.nD Cert.CrossIdeal.τ).loc Cert.CrossIdeal.main_v32_5)) (v6 : (c : Dev Cert.CrossIdeal.nD) → Buf (Elt Ideal) ((c.tc : Thread Cert.CrossIdeal.nD Cert.CrossIdeal.τ).loc Cert.CrossIdeal.main_v34)) (v7 : (c : Dev Cert.CrossIdeal.nD) → Buf (Elt Ideal) ((c.tc : Thread Cert.CrossIdeal.nD Cert.CrossIdeal.τ).loc Cert.CrossIdeal.main_v36)),
      θ_run (Cert.CrossIdeal.defs (F := Ideal)) (onTc (τ := Cert.CrossIdeal.τ) (Cert.CrossIdeal.main (F := Ideal))) ⟨m, fun _ => 0, g⟩ (fun r => ∀ c : Dev Cert.CrossIdeal.nD,
          r.2.mem ((c.tc : Thread Cert.CrossIdeal.nD Cert.CrossIdeal.τ).loc Cert.CrossIdeal.main_v32_0) = v0 c
          ∧ r.2.mem ((c.tc : Thread Cert.CrossIdeal.nD Cert.CrossIdeal.τ).loc Cert.CrossIdeal.main_v32_1) = v1 c
          ∧ r.2.mem ((c.tc : Thread Cert.CrossIdeal.nD Cert.CrossIdeal.τ).loc Cert.CrossIdeal.main_v32_2) = v2 c
          ∧ r.2.mem ((c.tc : Thread Cert.CrossIdeal.nD Cert.CrossIdeal.τ).loc Cert.CrossIdeal.main_v32_3) = v3 c
          ∧ r.2.mem ((c.tc : Thread Cert.CrossIdeal.nD Cert.CrossIdeal.τ).loc Cert.CrossIdeal.main_v32_4) = v4 c
          ∧ r.2.mem ((c.tc : Thread Cert.CrossIdeal.nD Cert.CrossIdeal.τ).loc Cert.CrossIdeal.main_v32_5) = v5 c
          ∧ r.2.mem ((c.tc : Thread Cert.CrossIdeal.nD Cert.CrossIdeal.τ).loc Cert.CrossIdeal.main_v34) = v6 c
          ∧ r.2.mem ((c.tc : Thread Cert.CrossIdeal.nD Cert.CrossIdeal.τ).loc Cert.CrossIdeal.main_v36) = v7 c
          ∧ r.2.mem ((c.tc : Thread Cert.CrossIdeal.nD Cert.CrossIdeal.τ).loc Cert.CrossIdeal.main_arg0) = m ((c.tc : Thread Cert.CrossIdeal.nD Cert.CrossIdeal.τ).loc Cert.CrossIdeal.main_arg0)
          ∧ r.2.mem ((c.tc : Thread Cert.CrossIdeal.nD Cert.CrossIdeal.τ).loc Cert.CrossIdeal.main_arg1) = m ((c.tc : Thread Cert.CrossIdeal.nD Cert.CrossIdeal.τ).loc Cert.CrossIdeal.main_arg1)
          ∧ r.2.mem ((c.tc : Thread Cert.CrossIdeal.nD Cert.CrossIdeal.τ).loc Cert.CrossIdeal.main_arg2) = m ((c.tc : Thread Cert.CrossIdeal.nD Cert.CrossIdeal.τ).loc Cert.CrossIdeal.main_arg2)
          ∧ r.2.mem ((c.tc : Thread Cert.CrossIdeal.nD Cert.CrossIdeal.τ).loc Cert.CrossIdeal.main_arg3) = m ((c.tc : Thread Cert.CrossIdeal.nD Cert.CrossIdeal.τ).loc Cert.CrossIdeal.main_arg3)
          ∧ r.2.mem ((c.tc : Thread Cert.CrossIdeal.nD Cert.CrossIdeal.τ).loc Cert.CrossIdeal.main_arg4) = m ((c.tc : Thread Cert.CrossIdeal.nD Cert.CrossIdeal.τ).loc Cert.CrossIdeal.main_arg4)
          ∧ r.2.mem ((c.tc : Thread Cert.CrossIdeal.nD Cert.CrossIdeal.τ).loc Cert.CrossIdeal.main_arg5) = m ((c.tc : Thread Cert.CrossIdeal.nD Cert.CrossIdeal.τ).loc Cert.CrossIdeal.main_arg5)
          ∧ r.2.mem ((c.tc : Thread Cert.CrossIdeal.nD Cert.CrossIdeal.τ).loc Cert.CrossIdeal.main_arg6) = m ((c.tc : Thread Cert.CrossIdeal.nD Cert.CrossIdeal.τ).loc Cert.CrossIdeal.main_arg6)
          ∧ r.2.mem ((c.tc : Thread Cert.CrossIdeal.nD Cert.CrossIdeal.τ).loc Cert.CrossIdeal.main_arg7) = m ((c.tc : Thread Cert.CrossIdeal.nD Cert.CrossIdeal.τ).loc Cert.CrossIdeal.main_arg7)
          ∧ r.2.mem ((c.tc : Thread Cert.CrossIdeal.nD Cert.CrossIdeal.τ).loc Cert.CrossIdeal.main_arg8) = m ((c.tc : Thread Cert.CrossIdeal.nD Cert.CrossIdeal.τ).loc Cert.CrossIdeal.main_arg8)
          ∧ r.2.mem ((c.tc : Thread Cert.CrossIdeal.nD Cert.CrossIdeal.τ).loc Cert.CrossIdeal.main_arg9) = m ((c.tc : Thread Cert.CrossIdeal.nD Cert.CrossIdeal.τ).loc Cert.CrossIdeal.main_arg9))
      ∧ θ_run (Cert.CrossRefIdeal.defs (F := Ideal)) (onTc (τ := Cert.CrossRefIdeal.τ) (Cert.CrossRefIdeal.main (F := Ideal))) ⟨m', fun _ => 0, g'⟩ (fun r => ∀ c : Dev Cert.CrossRefIdeal.nD,
          r.2.mem ((c.tc : Thread Cert.CrossRefIdeal.nD Cert.CrossRefIdeal.τ).loc Cert.CrossRefIdeal.main_v140) = v0 c
          ∧ r.2.mem ((c.tc : Thread Cert.CrossRefIdeal.nD Cert.CrossRefIdeal.τ).loc Cert.CrossRefIdeal.main_v96) = v1 c
          ∧ r.2.mem ((c.tc : Thread Cert.CrossRefIdeal.nD Cert.CrossRefIdeal.τ).loc Cert.CrossRefIdeal.main_v95) = v2 c
          ∧ r.2.mem ((c.tc : Thread Cert.CrossRefIdeal.nD Cert.CrossRefIdeal.τ).loc Cert.CrossRefIdeal.main_v118) = v3 c
          ∧ r.2.mem ((c.tc : Thread Cert.CrossRefIdeal.nD Cert.CrossRefIdeal.τ).loc Cert.CrossRefIdeal.main_v141) = v4 c
          ∧ r.2.mem ((c.tc : Thread Cert.CrossRefIdeal.nD Cert.CrossRefIdeal.τ).loc Cert.CrossRefIdeal.main_v142) = v5 c
          ∧ r.2.mem ((c.tc : Thread Cert.CrossRefIdeal.nD Cert.CrossRefIdeal.τ).loc Cert.CrossRefIdeal.main_v101) = v6 c
          ∧ r.2.mem ((c.tc : Thread Cert.CrossRefIdeal.nD Cert.CrossRefIdeal.τ).loc Cert.CrossRefIdeal.main_v121) = v7 c
          ∧ r.2.mem ((c.tc : Thread Cert.CrossRefIdeal.nD Cert.CrossRefIdeal.τ).loc Cert.CrossRefIdeal.main_arg0) = m' ((c.tc : Thread Cert.CrossRefIdeal.nD Cert.CrossRefIdeal.τ).loc Cert.CrossRefIdeal.main_arg0)
          ∧ r.2.mem ((c.tc : Thread Cert.CrossRefIdeal.nD Cert.CrossRefIdeal.τ).loc Cert.CrossRefIdeal.main_arg1) = m' ((c.tc : Thread Cert.CrossRefIdeal.nD Cert.CrossRefIdeal.τ).loc Cert.CrossRefIdeal.main_arg1)
          ∧ r.2.mem ((c.tc : Thread Cert.CrossRefIdeal.nD Cert.CrossRefIdeal.τ).loc Cert.CrossRefIdeal.main_arg2) = m' ((c.tc : Thread Cert.CrossRefIdeal.nD Cert.CrossRefIdeal.τ).loc Cert.CrossRefIdeal.main_arg2)
          ∧ r.2.mem ((c.tc : Thread Cert.CrossRefIdeal.nD Cert.CrossRefIdeal.τ).loc Cert.CrossRefIdeal.main_arg3) = m' ((c.tc : Thread Cert.CrossRefIdeal.nD Cert.CrossRefIdeal.τ).loc Cert.CrossRefIdeal.main_arg3)
          ∧ r.2.mem ((c.tc : Thread Cert.CrossRefIdeal.nD Cert.CrossRefIdeal.τ).loc Cert.CrossRefIdeal.main_arg4) = m' ((c.tc : Thread Cert.CrossRefIdeal.nD Cert.CrossRefIdeal.τ).loc Cert.CrossRefIdeal.main_arg4)
          ∧ r.2.mem ((c.tc : Thread Cert.CrossRefIdeal.nD Cert.CrossRefIdeal.τ).loc Cert.CrossRefIdeal.main_arg5) = m' ((c.tc : Thread Cert.CrossRefIdeal.nD Cert.CrossRefIdeal.τ).loc Cert.CrossRefIdeal.main_arg5)
          ∧ r.2.mem ((c.tc : Thread Cert.CrossRefIdeal.nD Cert.CrossRefIdeal.τ).loc Cert.CrossRefIdeal.main_arg6) = m' ((c.tc : Thread Cert.CrossRefIdeal.nD Cert.CrossRefIdeal.τ).loc Cert.CrossRefIdeal.main_arg6)
          ∧ r.2.mem ((c.tc : Thread Cert.CrossRefIdeal.nD Cert.CrossRefIdeal.τ).loc Cert.CrossRefIdeal.main_arg7) = m' ((c.tc : Thread Cert.CrossRefIdeal.nD Cert.CrossRefIdeal.τ).loc Cert.CrossRefIdeal.main_arg7)
          ∧ r.2.mem ((c.tc : Thread Cert.CrossRefIdeal.nD Cert.CrossRefIdeal.τ).loc Cert.CrossRefIdeal.main_arg8) = m' ((c.tc : Thread Cert.CrossRefIdeal.nD Cert.CrossRefIdeal.τ).loc Cert.CrossRefIdeal.main_arg8)
          ∧ r.2.mem ((c.tc : Thread Cert.CrossRefIdeal.nD Cert.CrossRefIdeal.τ).loc Cert.CrossRefIdeal.main_arg9) = m' ((c.tc : Thread Cert.CrossRefIdeal.nD Cert.CrossRefIdeal.τ).loc Cert.CrossRefIdeal.main_arg9))

def preserves_Memory_MemoryIdeal : Prop :=
  True

def algebraic_MemoryIdeal_MemoryRefIdeal [hMemoryIdeal : Cert.MemoryIdeal.Facts] [hMemoryRefIdeal : Cert.MemoryRefIdeal.Facts] : Prop :=
  ∀ (m : (ℓ : Loc Cert.MemoryIdeal.nD Cert.MemoryIdeal.τ Cert.MemoryIdeal.sig) → Buf (Elt Ideal) ℓ) (g : Dev Cert.MemoryIdeal.nD → PrngReg)
    (m' : (ℓ : Loc Cert.MemoryRefIdeal.nD Cert.MemoryRefIdeal.τ Cert.MemoryRefIdeal.sig) → Buf (Elt Ideal) ℓ) (g' : Dev Cert.MemoryRefIdeal.nD → PrngReg), Pre_MemoryIdeal m →
    (∀ c : Dev Cert.MemoryIdeal.nD,
      m' ((c.tc : Thread Cert.MemoryRefIdeal.nD Cert.MemoryRefIdeal.τ).loc Cert.MemoryRefIdeal.main_arg0) = m ((c.tc : Thread Cert.MemoryIdeal.nD Cert.MemoryIdeal.τ).loc Cert.MemoryIdeal.main_arg0)
      ∧ m' ((c.tc : Thread Cert.MemoryRefIdeal.nD Cert.MemoryRefIdeal.τ).loc Cert.MemoryRefIdeal.main_arg1) = m ((c.tc : Thread Cert.MemoryIdeal.nD Cert.MemoryIdeal.τ).loc Cert.MemoryIdeal.main_arg1)
      ∧ m' ((c.tc : Thread Cert.MemoryRefIdeal.nD Cert.MemoryRefIdeal.τ).loc Cert.MemoryRefIdeal.main_arg2) = m ((c.tc : Thread Cert.MemoryIdeal.nD Cert.MemoryIdeal.τ).loc Cert.MemoryIdeal.main_arg2)
      ∧ m' ((c.tc : Thread Cert.MemoryRefIdeal.nD Cert.MemoryRefIdeal.τ).loc Cert.MemoryRefIdeal.main_arg3) = m ((c.tc : Thread Cert.MemoryIdeal.nD Cert.MemoryIdeal.τ).loc Cert.MemoryIdeal.main_arg3)
      ∧ m' ((c.tc : Thread Cert.MemoryRefIdeal.nD Cert.MemoryRefIdeal.τ).loc Cert.MemoryRefIdeal.main_arg4) = m ((c.tc : Thread Cert.MemoryIdeal.nD Cert.MemoryIdeal.τ).loc Cert.MemoryIdeal.main_arg4)
      ∧ m' ((c.tc : Thread Cert.MemoryRefIdeal.nD Cert.MemoryRefIdeal.τ).loc Cert.MemoryRefIdeal.main_arg5) = m ((c.tc : Thread Cert.MemoryIdeal.nD Cert.MemoryIdeal.τ).loc Cert.MemoryIdeal.main_arg5)) →
    ∃ (v0 : (c : Dev Cert.MemoryIdeal.nD) → Buf (Elt Ideal) ((c.tc : Thread Cert.MemoryIdeal.nD Cert.MemoryIdeal.τ).loc Cert.MemoryIdeal.main_v3_0)) (v1 : (c : Dev Cert.MemoryIdeal.nD) → Buf (Elt Ideal) ((c.tc : Thread Cert.MemoryIdeal.nD Cert.MemoryIdeal.τ).loc Cert.MemoryIdeal.main_v3_1)) (v2 : (c : Dev Cert.MemoryIdeal.nD) → Buf (Elt Ideal) ((c.tc : Thread Cert.MemoryIdeal.nD Cert.MemoryIdeal.τ).loc Cert.MemoryIdeal.main_v5)),
      θ_run (Cert.MemoryIdeal.defs (F := Ideal)) (onTc (τ := Cert.MemoryIdeal.τ) (Cert.MemoryIdeal.main (F := Ideal))) ⟨m, fun _ => 0, g⟩ (fun r => ∀ c : Dev Cert.MemoryIdeal.nD,
          r.2.mem ((c.tc : Thread Cert.MemoryIdeal.nD Cert.MemoryIdeal.τ).loc Cert.MemoryIdeal.main_v3_0) = v0 c
          ∧ r.2.mem ((c.tc : Thread Cert.MemoryIdeal.nD Cert.MemoryIdeal.τ).loc Cert.MemoryIdeal.main_v3_1) = v1 c
          ∧ r.2.mem ((c.tc : Thread Cert.MemoryIdeal.nD Cert.MemoryIdeal.τ).loc Cert.MemoryIdeal.main_v5) = v2 c
          ∧ r.2.mem ((c.tc : Thread Cert.MemoryIdeal.nD Cert.MemoryIdeal.τ).loc Cert.MemoryIdeal.main_arg0) = m ((c.tc : Thread Cert.MemoryIdeal.nD Cert.MemoryIdeal.τ).loc Cert.MemoryIdeal.main_arg0)
          ∧ r.2.mem ((c.tc : Thread Cert.MemoryIdeal.nD Cert.MemoryIdeal.τ).loc Cert.MemoryIdeal.main_arg1) = m ((c.tc : Thread Cert.MemoryIdeal.nD Cert.MemoryIdeal.τ).loc Cert.MemoryIdeal.main_arg1)
          ∧ r.2.mem ((c.tc : Thread Cert.MemoryIdeal.nD Cert.MemoryIdeal.τ).loc Cert.MemoryIdeal.main_arg2) = m ((c.tc : Thread Cert.MemoryIdeal.nD Cert.MemoryIdeal.τ).loc Cert.MemoryIdeal.main_arg2)
          ∧ r.2.mem ((c.tc : Thread Cert.MemoryIdeal.nD Cert.MemoryIdeal.τ).loc Cert.MemoryIdeal.main_arg3) = m ((c.tc : Thread Cert.MemoryIdeal.nD Cert.MemoryIdeal.τ).loc Cert.MemoryIdeal.main_arg3)
          ∧ r.2.mem ((c.tc : Thread Cert.MemoryIdeal.nD Cert.MemoryIdeal.τ).loc Cert.MemoryIdeal.main_arg4) = m ((c.tc : Thread Cert.MemoryIdeal.nD Cert.MemoryIdeal.τ).loc Cert.MemoryIdeal.main_arg4)
          ∧ r.2.mem ((c.tc : Thread Cert.MemoryIdeal.nD Cert.MemoryIdeal.τ).loc Cert.MemoryIdeal.main_arg5) = m ((c.tc : Thread Cert.MemoryIdeal.nD Cert.MemoryIdeal.τ).loc Cert.MemoryIdeal.main_arg5))
      ∧ θ_run (Cert.MemoryRefIdeal.defs (F := Ideal)) (onTc (τ := Cert.MemoryRefIdeal.τ) (Cert.MemoryRefIdeal.main (F := Ideal))) ⟨m', fun _ => 0, g'⟩ (fun r => ∀ c : Dev Cert.MemoryRefIdeal.nD,
          r.2.mem ((c.tc : Thread Cert.MemoryRefIdeal.nD Cert.MemoryRefIdeal.τ).loc Cert.MemoryRefIdeal.main_v24) = v0 c
          ∧ r.2.mem ((c.tc : Thread Cert.MemoryRefIdeal.nD Cert.MemoryRefIdeal.τ).loc Cert.MemoryRefIdeal.main_v25) = v1 c
          ∧ r.2.mem ((c.tc : Thread Cert.MemoryRefIdeal.nD Cert.MemoryRefIdeal.τ).loc Cert.MemoryRefIdeal.main_v23) = v2 c
          ∧ r.2.mem ((c.tc : Thread Cert.MemoryRefIdeal.nD Cert.MemoryRefIdeal.τ).loc Cert.MemoryRefIdeal.main_arg0) = m' ((c.tc : Thread Cert.MemoryRefIdeal.nD Cert.MemoryRefIdeal.τ).loc Cert.MemoryRefIdeal.main_arg0)
          ∧ r.2.mem ((c.tc : Thread Cert.MemoryRefIdeal.nD Cert.MemoryRefIdeal.τ).loc Cert.MemoryRefIdeal.main_arg1) = m' ((c.tc : Thread Cert.MemoryRefIdeal.nD Cert.MemoryRefIdeal.τ).loc Cert.MemoryRefIdeal.main_arg1)
          ∧ r.2.mem ((c.tc : Thread Cert.MemoryRefIdeal.nD Cert.MemoryRefIdeal.τ).loc Cert.MemoryRefIdeal.main_arg2) = m' ((c.tc : Thread Cert.MemoryRefIdeal.nD Cert.MemoryRefIdeal.τ).loc Cert.MemoryRefIdeal.main_arg2)
          ∧ r.2.mem ((c.tc : Thread Cert.MemoryRefIdeal.nD Cert.MemoryRefIdeal.τ).loc Cert.MemoryRefIdeal.main_arg3) = m' ((c.tc : Thread Cert.MemoryRefIdeal.nD Cert.MemoryRefIdeal.τ).loc Cert.MemoryRefIdeal.main_arg3)
          ∧ r.2.mem ((c.tc : Thread Cert.MemoryRefIdeal.nD Cert.MemoryRefIdeal.τ).loc Cert.MemoryRefIdeal.main_arg4) = m' ((c.tc : Thread Cert.MemoryRefIdeal.nD Cert.MemoryRefIdeal.τ).loc Cert.MemoryRefIdeal.main_arg4)
          ∧ r.2.mem ((c.tc : Thread Cert.MemoryRefIdeal.nD Cert.MemoryRefIdeal.τ).loc Cert.MemoryRefIdeal.main_arg5) = m' ((c.tc : Thread Cert.MemoryRefIdeal.nD Cert.MemoryRefIdeal.τ).loc Cert.MemoryRefIdeal.main_arg5))

def preserves_Ffn_FfnIdeal : Prop :=
  True

def algebraic_FfnIdeal_FfnRefIdeal_pre_finite_ffn [hFfnIdeal : Cert.FfnIdeal.Facts] [hFfnRefIdeal : Cert.FfnRefIdeal.Facts] [hPre_finite_ffn : Cert.Pre_finite_ffn.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal_finite_ffn m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)
      ∧ m' ((c.tc : Thread Cert.FfnRefIdeal.nD Cert.FfnRefIdeal.τ).loc Cert.FfnRefIdeal.main_arg7) = m ((c.tc : Thread Cert.FfnIdeal.nD Cert.FfnIdeal.τ).loc Cert.FfnIdeal.main_arg7)
      ∧ m' ((c.tc : Thread Cert.FfnRefIdeal.nD Cert.FfnRefIdeal.τ).loc Cert.FfnRefIdeal.main_arg8) = m ((c.tc : Thread Cert.FfnIdeal.nD Cert.FfnIdeal.τ).loc Cert.FfnIdeal.main_arg8)
      ∧ m' ((c.tc : Thread Cert.FfnRefIdeal.nD Cert.FfnRefIdeal.τ).loc Cert.FfnRefIdeal.main_arg9) = m ((c.tc : Thread Cert.FfnIdeal.nD Cert.FfnIdeal.τ).loc Cert.FfnIdeal.main_arg9)) →
    ∃ (v0 : (c : Dev Cert.FfnIdeal.nD) → Buf (Elt Ideal) ((c.tc : Thread Cert.FfnIdeal.nD Cert.FfnIdeal.τ).loc Cert.FfnIdeal.main_v33_0)) (v1 : (c : Dev Cert.FfnIdeal.nD) → Buf (Elt Ideal) ((c.tc : Thread Cert.FfnIdeal.nD Cert.FfnIdeal.τ).loc Cert.FfnIdeal.main_v33_1)) (v2 : (c : Dev Cert.FfnIdeal.nD) → Buf (Elt Ideal) ((c.tc : Thread Cert.FfnIdeal.nD Cert.FfnIdeal.τ).loc Cert.FfnIdeal.main_v33_2)) (v3 : (c : Dev Cert.FfnIdeal.nD) → Buf (Elt Ideal) ((c.tc : Thread Cert.FfnIdeal.nD Cert.FfnIdeal.τ).loc Cert.FfnIdeal.main_v33_3)) (v4 : (c : Dev Cert.FfnIdeal.nD) → Buf (Elt Ideal) ((c.tc : Thread Cert.FfnIdeal.nD Cert.FfnIdeal.τ).loc Cert.FfnIdeal.main_v33_4)) (v5 : (c : Dev Cert.FfnIdeal.nD) → Buf (Elt Ideal) ((c.tc : Thread Cert.FfnIdeal.nD Cert.FfnIdeal.τ).loc Cert.FfnIdeal.main_v33_5)) (v6 : (c : Dev Cert.FfnIdeal.nD) → Buf (Elt Ideal) ((c.tc : Thread Cert.FfnIdeal.nD Cert.FfnIdeal.τ).loc Cert.FfnIdeal.main_v33_6)) (v7 : (c : Dev Cert.FfnIdeal.nD) → Buf (Elt Ideal) ((c.tc : Thread Cert.FfnIdeal.nD Cert.FfnIdeal.τ).loc Cert.FfnIdeal.main_v35)) (v8 : (c : Dev Cert.FfnIdeal.nD) → Buf (Elt Ideal) ((c.tc : Thread Cert.FfnIdeal.nD Cert.FfnIdeal.τ).loc Cert.FfnIdeal.main_v37)) (v9 : (c : Dev Cert.FfnIdeal.nD) → Buf (Elt Ideal) ((c.tc : Thread Cert.FfnIdeal.nD Cert.FfnIdeal.τ).loc Cert.FfnIdeal.main_v39)) (v10 : (c : Dev Cert.FfnIdeal.nD) → Buf (Elt Ideal) ((c.tc : Thread Cert.FfnIdeal.nD Cert.FfnIdeal.τ).loc Cert.FfnIdeal.main_v41)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v33_0) = v0 c
          ∧ r.2.mem ((c.tc : Thread Cert.FfnIdeal.nD Cert.FfnIdeal.τ).loc Cert.FfnIdeal.main_v33_1) = v1 c
          ∧ r.2.mem ((c.tc : Thread Cert.FfnIdeal.nD Cert.FfnIdeal.τ).loc Cert.FfnIdeal.main_v33_2) = v2 c
          ∧ r.2.mem ((c.tc : Thread Cert.FfnIdeal.nD Cert.FfnIdeal.τ).loc Cert.FfnIdeal.main_v33_3) = v3 c
          ∧ r.2.mem ((c.tc : Thread Cert.FfnIdeal.nD Cert.FfnIdeal.τ).loc Cert.FfnIdeal.main_v33_4) = v4 c
          ∧ r.2.mem ((c.tc : Thread Cert.FfnIdeal.nD Cert.FfnIdeal.τ).loc Cert.FfnIdeal.main_v33_5) = v5 c
          ∧ r.2.mem ((c.tc : Thread Cert.FfnIdeal.nD Cert.FfnIdeal.τ).loc Cert.FfnIdeal.main_v33_6) = v6 c
          ∧ r.2.mem ((c.tc : Thread Cert.FfnIdeal.nD Cert.FfnIdeal.τ).loc Cert.FfnIdeal.main_v35) = v7 c
          ∧ r.2.mem ((c.tc : Thread Cert.FfnIdeal.nD Cert.FfnIdeal.τ).loc Cert.FfnIdeal.main_v37) = v8 c
          ∧ r.2.mem ((c.tc : Thread Cert.FfnIdeal.nD Cert.FfnIdeal.τ).loc Cert.FfnIdeal.main_v39) = v9 c
          ∧ r.2.mem ((c.tc : Thread Cert.FfnIdeal.nD Cert.FfnIdeal.τ).loc Cert.FfnIdeal.main_v41) = v10 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
          ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
          ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8)
          ∧ r.2.mem ((c.tc : Thread Cert.FfnIdeal.nD Cert.FfnIdeal.τ).loc Cert.FfnIdeal.main_arg9) = m ((c.tc : Thread Cert.FfnIdeal.nD Cert.FfnIdeal.τ).loc Cert.FfnIdeal.main_arg9))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v135) = v0 c
          ∧ r.2.mem ((c.tc : Thread Cert.FfnRefIdeal.nD Cert.FfnRefIdeal.τ).loc Cert.FfnRefIdeal.main_v136) = v1 c
          ∧ r.2.mem ((c.tc : Thread Cert.FfnRefIdeal.nD Cert.FfnRefIdeal.τ).loc Cert.FfnRefIdeal.main_v137) = v2 c
          ∧ r.2.mem ((c.tc : Thread Cert.FfnRefIdeal.nD Cert.FfnRefIdeal.τ).loc Cert.FfnRefIdeal.main_v138) = v3 c
          ∧ r.2.mem ((c.tc : Thread Cert.FfnRefIdeal.nD Cert.FfnRefIdeal.τ).loc Cert.FfnRefIdeal.main_v113) = v4 c
          ∧ r.2.mem ((c.tc : Thread Cert.FfnRefIdeal.nD Cert.FfnRefIdeal.τ).loc Cert.FfnRefIdeal.main_v139) = v5 c
          ∧ r.2.mem ((c.tc : Thread Cert.FfnRefIdeal.nD Cert.FfnRefIdeal.τ).loc Cert.FfnRefIdeal.main_v140) = v6 c
          ∧ r.2.mem ((c.tc : Thread Cert.FfnRefIdeal.nD Cert.FfnRefIdeal.τ).loc Cert.FfnRefIdeal.main_v61) = v7 c
          ∧ r.2.mem ((c.tc : Thread Cert.FfnRefIdeal.nD Cert.FfnRefIdeal.τ).loc Cert.FfnRefIdeal.main_v70) = v8 c
          ∧ r.2.mem ((c.tc : Thread Cert.FfnRefIdeal.nD Cert.FfnRefIdeal.τ).loc Cert.FfnRefIdeal.main_v96) = v9 c
          ∧ r.2.mem ((c.tc : Thread Cert.FfnRefIdeal.nD Cert.FfnRefIdeal.τ).loc Cert.FfnRefIdeal.main_v116) = v10 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6)
          ∧ r.2.mem ((c.tc : Thread Cert.FfnRefIdeal.nD Cert.FfnRefIdeal.τ).loc Cert.FfnRefIdeal.main_arg7) = m' ((c.tc : Thread Cert.FfnRefIdeal.nD Cert.FfnRefIdeal.τ).loc Cert.FfnRefIdeal.main_arg7)
          ∧ r.2.mem ((c.tc : Thread Cert.FfnRefIdeal.nD Cert.FfnRefIdeal.τ).loc Cert.FfnRefIdeal.main_arg8) = m' ((c.tc : Thread Cert.FfnRefIdeal.nD Cert.FfnRefIdeal.τ).loc Cert.FfnRefIdeal.main_arg8)
          ∧ r.2.mem ((c.tc : Thread Cert.FfnRefIdeal.nD Cert.FfnRefIdeal.τ).loc Cert.FfnRefIdeal.main_arg9) = m' ((c.tc : Thread Cert.FfnRefIdeal.nD Cert.FfnRefIdeal.τ).loc Cert.FfnRefIdeal.main_arg9))

def Claim : Prop :=
  ∃ (hDu : Cert.Du.Facts) (hDuIdeal : Cert.DuIdeal.Facts) (hDuRefIdeal : Cert.DuRefIdeal.Facts) (hSwa : Cert.Swa.Facts) (hSwaIdeal : Cert.SwaIdeal.Facts) (hSwaRefIdeal : Cert.SwaRefIdeal.Facts) (hCross : Cert.Cross.Facts) (hCrossIdeal : Cert.CrossIdeal.Facts) (hCrossRefIdeal : Cert.CrossRefIdeal.Facts) (hMemory : Cert.Memory.Facts) (hMemoryIdeal : Cert.MemoryIdeal.Facts) (hMemoryRefIdeal : Cert.MemoryRefIdeal.Facts) (hFfn : Cert.Ffn.Facts) (hFfnIdeal : Cert.FfnIdeal.Facts) (hFfnRefIdeal : Cert.FfnRefIdeal.Facts) (hPre_finite_du : Cert.Pre_finite_du.Facts) (hPre_finite_swa : Cert.Pre_finite_swa.Facts) (hPre_finite_x : Cert.Pre_finite_x.Facts) (hPre_finite_ffn : Cert.Pre_finite_ffn.Facts),
    quiescent_Du (hDu := hDu)
    ∧ quiescent_DuIdeal (hDuIdeal := hDuIdeal)
    ∧ quiescent_DuIdeal_pre_finite_du (hDuIdeal := hDuIdeal) (hPre_finite_du := hPre_finite_du)
    ∧ quiescent_DuRefIdeal (hDuRefIdeal := hDuRefIdeal)
    ∧ quiescent_DuRefIdeal_pre_finite_du (hDuRefIdeal := hDuRefIdeal) (hPre_finite_du := hPre_finite_du)
    ∧ quiescent_Swa (hSwa := hSwa)
    ∧ quiescent_SwaIdeal (hSwaIdeal := hSwaIdeal)
    ∧ quiescent_SwaIdeal_pre_finite_swa (hSwaIdeal := hSwaIdeal) (hPre_finite_swa := hPre_finite_swa)
    ∧ quiescent_SwaRefIdeal (hSwaRefIdeal := hSwaRefIdeal)
    ∧ quiescent_SwaRefIdeal_pre_finite_swa (hSwaRefIdeal := hSwaRefIdeal) (hPre_finite_swa := hPre_finite_swa)
    ∧ quiescent_Cross (hCross := hCross)
    ∧ quiescent_CrossIdeal (hCrossIdeal := hCrossIdeal)
    ∧ quiescent_CrossIdeal_pre_finite_x (hCrossIdeal := hCrossIdeal) (hPre_finite_x := hPre_finite_x)
    ∧ quiescent_CrossRefIdeal (hCrossRefIdeal := hCrossRefIdeal)
    ∧ quiescent_CrossRefIdeal_pre_finite_x (hCrossRefIdeal := hCrossRefIdeal) (hPre_finite_x := hPre_finite_x)
    ∧ quiescent_Memory (hMemory := hMemory)
    ∧ quiescent_MemoryIdeal (hMemoryIdeal := hMemoryIdeal)
    ∧ quiescent_MemoryRefIdeal (hMemoryRefIdeal := hMemoryRefIdeal)
    ∧ quiescent_Ffn (hFfn := hFfn)
    ∧ quiescent_FfnIdeal (hFfnIdeal := hFfnIdeal)
    ∧ quiescent_FfnIdeal_pre_finite_ffn (hFfnIdeal := hFfnIdeal) (hPre_finite_ffn := hPre_finite_ffn)
    ∧ quiescent_FfnRefIdeal (hFfnRefIdeal := hFfnRefIdeal)
    ∧ quiescent_FfnRefIdeal_pre_finite_ffn (hFfnRefIdeal := hFfnRefIdeal) (hPre_finite_ffn := hPre_finite_ffn)
    ∧ preserves_Du_DuIdeal
    ∧ algebraic_DuIdeal_DuRefIdeal_pre_finite_du (hDuIdeal := hDuIdeal) (hDuRefIdeal := hDuRefIdeal) (hPre_finite_du := hPre_finite_du)
    ∧ preserves_Swa_SwaIdeal
    ∧ algebraic_SwaIdeal_SwaRefIdeal_pre_finite_swa (hSwaIdeal := hSwaIdeal) (hSwaRefIdeal := hSwaRefIdeal) (hPre_finite_swa := hPre_finite_swa)
    ∧ preserves_Cross_CrossIdeal
    ∧ algebraic_CrossIdeal_CrossRefIdeal_pre_finite_x (hCrossIdeal := hCrossIdeal) (hCrossRefIdeal := hCrossRefIdeal) (hPre_finite_x := hPre_finite_x)
    ∧ preserves_Memory_MemoryIdeal
    ∧ algebraic_MemoryIdeal_MemoryRefIdeal (hMemoryIdeal := hMemoryIdeal) (hMemoryRefIdeal := hMemoryRefIdeal)
    ∧ preserves_Ffn_FfnIdeal
    ∧ algebraic_FfnIdeal_FfnRefIdeal_pre_finite_ffn (hFfnIdeal := hFfnIdeal) (hFfnRefIdeal := hFfnRefIdeal) (hPre_finite_ffn := hPre_finite_ffn)
-- ==== Pre_finite_du.lean ====
abbrev S4096x1024 : Shape := ⟨2, ![4096, 1024]⟩
abbrev S1x1024 : Shape := ⟨2, ![1, 1024]⟩
abbrev S1024x2816 : Shape := ⟨2, ![1024, 2816]⟩
abbrev S4096x2816 : Shape := ⟨2, ![4096, 2816]⟩
abbrev S_ : Shape := ⟨0, ![]⟩

class Facts : Prop where
  bcast_S_S4096x1024 : S_.BroadcastsInDim S4096x1024 (![] : Fin 0 → Fin S4096x1024.rank)
  bcast_S_S1x1024 : S_.BroadcastsInDim S1x1024 (![] : Fin 0 → Fin S1x1024.rank)
  bcast_S_S1024x2816 : S_.BroadcastsInDim S1024x2816 (![] : Fin 0 → Fin S1024x2816.rank)
  bitsLt_bf16_f32 : FTy.bits .bf16 < FTy.bits .f32
  bcast_S_S4096x2816 : S_.BroadcastsInDim S4096x2816 (![] : Fin 0 → Fin S4096x2816.rank)

variable [Facts]

def fn {F : FTy → Type} [FloatOps F] (main_arg0 : FVec F S4096x1024 .f32) (main_arg1 : FVec F S1x1024 .f32) (main_arg2 : FVec F S1024x2816 .f32) (main_arg3 : FVec F S4096x1024 .f32) (main_arg4 : FVec F S4096x2816 .bf16) : IVec S4096x1024 1 × IVec S1x1024 1 × IVec S1024x2816 1 × IVec S4096x2816 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1024x2816 .f32 := Host.absf main_arg2
  let main_cst_1 : FVec F S_ .f32 := constant S_ .f32 0x7F800000#32
  let main_v7 : FVec F S1024x2816 .f32 := broadcastInDim S1024x2816 ![] bcast_S_S1024x2816 main_cst_1
  let main_v8 : IVec S1024x2816 1 := cmpf .olt main_v6 main_v7
  let main_v9 : FVec F S4096x2816 .f32 := (extf .f32 · bitsLt_bf16_f32) main_arg4
  let main_v10 : FVec F S4096x2816 .f32 := Host.absf main_v9
  let main_cst_2 : FVec F S_ .f32 := constant S_ .f32 0x7F800000#32
  let main_v11 : FVec F S4096x2816 .f32 := broadcastInDim S4096x2816 ![] bcast_S_S4096x2816 main_cst_2
  let main_v12 : IVec S4096x2816 1 := cmpf .olt main_v10 main_v11
  (main_v2, main_v5, main_v8, main_v12)
-- ==== Pre_finite_ffn.lean ====
abbrev S4096x1024 : Shape := ⟨2, ![4096, 1024]⟩
abbrev S1024x2816 : Shape := ⟨2, ![1024, 2816]⟩
abbrev S2816x1024 : Shape := ⟨2, ![2816, 1024]⟩
abbrev S1024x1024 : Shape := ⟨2, ![1024, 1024]⟩
abbrev S1x1024 : Shape := ⟨2, ![1, 1024]⟩
abbrev S_ : Shape := ⟨0, ![]⟩

class Facts : Prop where
  bitsLt_bf16_f32 : FTy.bits .bf16 < FTy.bits .f32
  bcast_S_S4096x1024 : S_.BroadcastsInDim S4096x1024 (![] : Fin 0 → Fin S4096x1024.rank)
  bcast_S_S1024x2816 : S_.BroadcastsInDim S1024x2816 (![] : Fin 0 → Fin S1024x2816.rank)
  bcast_S_S2816x1024 : S_.BroadcastsInDim S2816x1024 (![] : Fin 0 → Fin S2816x1024.rank)
  bcast_S_S1024x1024 : S_.BroadcastsInDim S1024x1024 (![] : Fin 0 → Fin S1024x1024.rank)
  bcast_S_S1x1024 : S_.BroadcastsInDim S1x1024 (![] : Fin 0 → Fin S1x1024.rank)

variable [Facts]

def fn_part1 {F : FTy → Type} [FloatOps F] (main_arg6 : FVec F S1024x1024 .f32) (main_arg7 : FVec F S1x1024 .f32) (main_arg8 : FVec F S1x1024 .f32) (main_arg9 : FVec F S1x1024 .f32) (main_v3 : IVec S4096x1024 1) (main_v6 : IVec S4096x1024 1) (main_v9 : IVec S4096x1024 1) (main_v12 : IVec S1024x2816 1) (main_v15 : IVec S1024x2816 1) (main_v16 : FVec F S2816x1024 .f32) (main_v17 : FVec F S2816x1024 .f32) : IVec S4096x1024 1 × IVec S4096x1024 1 × IVec S4096x1024 1 × IVec S1024x2816 1 × IVec S1024x2816 1 × IVec S2816x1024 1 × IVec S1024x1024 1 × IVec S1x1024 1 × IVec S1x1024 1 × IVec S1x1024 1 :=
  let main_v18 : IVec S2816x1024 1 := cmpf .olt main_v16 main_v17
  let main_v19 : FVec F S1024x1024 .f32 := Host.absf main_arg6
  let main_cst_5 : FVec F S_ .f32 := constant S_ .f32 0x7F800000#32
  let main_v20 : FVec F S1024x1024 .f32 := broadcastInDim S1024x1024 ![] bcast_S_S1024x1024 main_cst_5
  let main_v21 : IVec S1024x1024 1 := cmpf .olt main_v19 main_v20
  let main_v22 : FVec F S1x1024 .f32 := Host.absf main_arg7
  let main_cst_6 : FVec F S_ .f32 := constant S_ .f32 0x7F800000#32
  let main_v23 : FVec F S1x1024 .f32 := broadcastInDim S1x1024 ![] bcast_S_S1x1024 main_cst_6
  let main_v24 : IVec S1x1024 1 := cmpf .olt main_v22 main_v23
  let main_v25 : FVec F S1x1024 .f32 := Host.absf main_arg8
  let main_cst_7 : FVec F S_ .f32 := constant S_ .f32 0x7F800000#32
  let main_v26 : FVec F S1x1024 .f32 := broadcastInDim S1x1024 ![] bcast_S_S1x1024 main_cst_7
  let main_v27 : IVec S1x1024 1 := cmpf .olt main_v25 main_v26
  let main_v28 : FVec F S1x1024 .f32 := Host.absf main_arg9
  let main_cst_8 : FVec F S_ .f32 := constant S_ .f32 0x7F800000#32
  let main_v29 : FVec F S1x1024 .f32 := broadcastInDim S1x1024 ![] bcast_S_S1x1024 main_cst_8
  let main_v30 : IVec S1x1024 1 := cmpf .olt main_v28 main_v29
  (main_v3, main_v6, main_v9, main_v12, main_v15, main_v18, main_v21, main_v24, main_v27, main_v30)

def fn {F : FTy → Type} [FloatOps F] (main_arg0 : FVec F S4096x1024 .bf16) (main_arg1 : FVec F S4096x1024 .f32) (main_arg2 : FVec F S4096x1024 .f32) (main_arg3 : FVec F S1024x2816 .f32) (main_arg4 : FVec F S1024x2816 .f32) (main_arg5 : FVec F S2816x1024 .f32) (main_arg6 : FVec F S1024x1024 .f32) (main_arg7 : FVec F S1x1024 .f32) (main_arg8 : FVec F S1x1024 .f32) (main_arg9 : FVec F S1x1024 .f32) : IVec S4096x1024 1 × IVec S4096x1024 1 × IVec S4096x1024 1 × IVec S1024x2816 1 × IVec S1024x2816 1 × IVec S2816x1024 1 × IVec S1024x1024 1 × IVec S1x1024 1 × IVec S1x1024 1 × IVec S1x1024 1 :=
  let main_v0 : FVec F S4096x1024 .f32 := (extf .f32 · bitsLt_bf16_f32) main_arg0
  let main_v1 : FVec F S4096x1024 .f32 := Host.absf main_v0
  let main_cst : FVec F S_ .f32 := constant S_ .f32 0x7F800000#32
  let main_v2 : FVec F S4096x1024 .f32 := broadcastInDim S4096x1024 ![] bcast_S_S4096x1024 main_cst
  let main_v3 : IVec S4096x1024 1 := cmpf .olt main_v1 main_v2
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_v7 : FVec F S4096x1024 .f32 := Host.absf main_arg2
  let main_cst_1 : FVec F S_ .f32 := constant S_ .f32 0x7F800000#32
  let main_v8 : FVec F S4096x1024 .f32 := broadcastInDim S4096x1024 ![] bcast_S_S4096x1024 main_cst_1
  let main_v9 : IVec S4096x1024 1 := cmpf .olt main_v7 main_v8
  let main_v10 : FVec F S1024x2816 .f32 := Host.absf main_arg3
  let main_cst_2 : FVec F S_ .f32 := constant S_ .f32 0x7F800000#32
  let main_v11 : FVec F S1024x2816 .f32 := broadcastInDim S1024x2816 ![] bcast_S_S1024x2816 main_cst_2
  let main_v12 : IVec S1024x2816 1 := cmpf .olt main_v10 main_v11
  let main_v13 : FVec F S1024x2816 .f32 := Host.absf main_arg4
  let main_cst_3 : FVec F S_ .f32 := constant S_ .f32 0x7F800000#32
  let main_v14 : FVec F S1024x2816 .f32 := broadcastInDim S1024x2816 ![] bcast_S_S1024x2816 main_cst_3
  let main_v15 : IVec S1024x2816 1 := cmpf .olt main_v13 main_v14
  let main_v16 : FVec F S2816x1024 .f32 := Host.absf main_arg5
  let main_cst_4 : FVec F S_ .f32 := constant S_ .f32 0x7F800000#32
  let main_v17 : FVec F S2816x1024 .f32 := broadcastInDim S2816x1024 ![] bcast_S_S2816x1024 main_cst_4
  fn_part1 (F := F) main_arg6 main_arg7 main_arg8 main_arg9 main_v3 main_v6 main_v9 main_v12 main_v15 main_v16 main_v17
-- ==== Pre_finite_swa.lean ====
abbrev S4096x2816 : Shape := ⟨2, ![4096, 2816]⟩
abbrev S1x8 : Shape := ⟨2, ![1, 8]⟩
abbrev S4096x1024 : Shape := ⟨2, ![4096, 1024]⟩
abbrev S_ : Shape := ⟨0, ![]⟩

class Facts : Prop where
  bcast_S_S4096x2816 : S_.BroadcastsInDim S4096x2816 (![] : Fin 0 → Fin S4096x2816.rank)
  bcast_S_S1x8 : S_.BroadcastsInDim S1x8 (![] : Fin 0 → Fin S1x8.rank)
  bitsLt_bf16_f32 : FTy.bits .bf16 < FTy.bits .f32
  bcast_S_S4096x1024 : S_.BroadcastsInDim S4096x1024 (![] : Fin 0 → Fin S4096x1024.rank)

variable [Facts]

def fn {F : FTy → Type} [FloatOps F] (main_arg0 : FVec F S4096x2816 .f32) (main_arg1 : FVec F S1x8 .f32) (main_arg2 : FVec F S4096x1024 .bf16) : IVec S4096x2816 1 × IVec S1x8 1 × IVec S4096x1024 1 :=
  let main_v0 : FVec F S4096x2816 .f32 := Host.absf main_arg0
  let main_cst : FVec F S_ .f32 := constant S_ .f32 0x7F800000#32
  let main_v1 : FVec F S4096x2816 .f32 := broadcastInDim S4096x2816 ![] bcast_S_S4096x2816 main_cst
  let main_v2 : IVec S4096x2816 1 := cmpf .olt main_v0 main_v1
  let main_v3 : FVec F S1x8 .f32 := Host.absf main_arg1
  let main_cst_0 : FVec F S_ .f32 := constant S_ .f32 0x7F800000#32
  let main_v4 : FVec F S1x8 .f32 := broadcastInDim S1x8 ![] bcast_S_S1x8 main_cst_0
  let main_v5 : IVec S1x8 1 := cmpf .olt main_v3 main_v4
  let main_v6 : FVec F S4096x1024 .f32 := (extf .f32 · bitsLt_bf16_f32) main_arg2
  let main_v7 : FVec F S4096x1024 .f32 := Host.absf main_v6
  let main_cst_1 : FVec F S_ .f32 := constant S_ .f32 0x7F800000#32
  let main_v8 : FVec F S4096x1024 .f32 := broadcastInDim S4096x1024 ![] bcast_S_S4096x1024 main_cst_1
  let main_v9 : IVec S4096x1024 1 := cmpf .olt main_v7 main_v8
  (main_v2, main_v5, main_v9)
-- ==== Pre_finite_x.lean ====
abbrev S4096x1024 : Shape := ⟨2, ![4096, 1024]⟩
abbrev S256x1024 : Shape := ⟨2, ![256, 1024]⟩
abbrev S1024x1024 : Shape := ⟨2, ![1024, 1024]⟩
abbrev S1x1024 : Shape := ⟨2, ![1, 1024]⟩
abbrev S_ : Shape := ⟨0, ![]⟩

class Facts : Prop where
  bitsLt_bf16_f32 : FTy.bits .bf16 < FTy.bits .f32
  bcast_S_S4096x1024 : S_.BroadcastsInDim S4096x1024 (![] : Fin 0 → Fin S4096x1024.rank)
  bcast_S_S256x1024 : S_.BroadcastsInDim S256x1024 (![] : Fin 0 → Fin S256x1024.rank)
  bcast_S_S1024x1024 : S_.BroadcastsInDim S1024x1024 (![] : Fin 0 → Fin S1024x1024.rank)
  bcast_S_S1x1024 : S_.BroadcastsInDim S1x1024 (![] : Fin 0 → Fin S1x1024.rank)

variable [Facts]

def fn_part1 {F : FTy → Type} [FloatOps F] (main_arg6 : FVec F S1x1024 .f32) (main_arg7 : FVec F S1x1024 .f32) (main_arg8 : FVec F S4096x1024 .bf16) (main_arg9 : FVec F S4096x1024 .f32) (main_v3 : IVec S4096x1024 1) (main_v6 : IVec S4096x1024 1) (main_v9 : IVec S256x1024 1) (main_v12 : IVec S256x1024 1) (main_v15 : IVec S1024x1024 1) (main_v16 : FVec F S1024x1024 .f32) (main_v17 : FVec F S1024x1024 .f32) : IVec S4096x1024 1 × IVec S4096x1024 1 × IVec S256x1024 1 × IVec S256x1024 1 × IVec S1024x1024 1 × IVec S1024x1024 1 × IVec S1x1024 1 × IVec S1x1024 1 × IVec S4096x1024 1 × IVec S4096x1024 1 :=
  let main_v18 : IVec S1024x1024 1 := cmpf .olt main_v16 main_v17
  let main_v19 : FVec F S1x1024 .f32 := Host.absf main_arg6
  let main_cst_5 : FVec F S_ .f32 := constant S_ .f32 0x7F800000#32
  let main_v20 : FVec F S1x1024 .f32 := broadcastInDim S1x1024 ![] bcast_S_S1x1024 main_cst_5
  let main_v21 : IVec S1x1024 1 := cmpf .olt main_v19 main_v20
  let main_v22 : FVec F S1x1024 .f32 := Host.absf main_arg7
  let main_cst_6 : FVec F S_ .f32 := constant S_ .f32 0x7F800000#32
  let main_v23 : FVec F S1x1024 .f32 := broadcastInDim S1x1024 ![] bcast_S_S1x1024 main_cst_6
  let main_v24 : IVec S1x1024 1 := cmpf .olt main_v22 main_v23
  let main_v25 : FVec F S4096x1024 .f32 := (extf .f32 · bitsLt_bf16_f32) main_arg8
  let main_v26 : FVec F S4096x1024 .f32 := Host.absf main_v25
  let main_cst_7 : FVec F S_ .f32 := constant S_ .f32 0x7F800000#32
  let main_v27 : FVec F S4096x1024 .f32 := broadcastInDim S4096x1024 ![] bcast_S_S4096x1024 main_cst_7
  let main_v28 : IVec S4096x1024 1 := cmpf .olt main_v26 main_v27
  let main_v29 : FVec F S4096x1024 .f32 := Host.absf main_arg9
  let main_cst_8 : FVec F S_ .f32 := constant S_ .f32 0x7F800000#32
  let main_v30 : FVec F S4096x1024 .f32 := broadcastInDim S4096x1024 ![] bcast_S_S4096x1024 main_cst_8
  let main_v31 : IVec S4096x1024 1 := cmpf .olt main_v29 main_v30
  (main_v3, main_v6, main_v9, main_v12, main_v15, main_v18, main_v21, main_v24, main_v28, main_v31)

def fn {F : FTy → Type} [FloatOps F] (main_arg0 : FVec F S4096x1024 .bf16) (main_arg1 : FVec F S4096x1024 .f32) (main_arg2 : FVec F S256x1024 .f32) (main_arg3 : FVec F S256x1024 .f32) (main_arg4 : FVec F S1024x1024 .f32) (main_arg5 : FVec F S1024x1024 .f32) (main_arg6 : FVec F S1x1024 .f32) (main_arg7 : FVec F S1x1024 .f32) (main_arg8 : FVec F S4096x1024 .bf16) (main_arg9 : FVec F S4096x1024 .f32) : IVec S4096x1024 1 × IVec S4096x1024 1 × IVec S256x1024 1 × IVec S256x1024 1 × IVec S1024x1024 1 × IVec S1024x1024 1 × IVec S1x1024 1 × IVec S1x1024 1 × IVec S4096x1024 1 × IVec S4096x1024 1 :=
  let main_v0 : FVec F S4096x1024 .f32 := (extf .f32 · bitsLt_bf16_f32) main_arg0
  let main_v1 : FVec F S4096x1024 .f32 := Host.absf main_v0
  let main_cst : FVec F S_ .f32 := constant S_ .f32 0x7F800000#32
  let main_v2 : FVec F S4096x1024 .f32 := broadcastInDim S4096x1024 ![] bcast_S_S4096x1024 main_cst
  let main_v3 : IVec S4096x1024 1 := cmpf .olt main_v1 main_v2
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_v7 : FVec F S256x1024 .f32 := Host.absf main_arg2
  let main_cst_1 : FVec F S_ .f32 := constant S_ .f32 0x7F800000#32
  let main_v8 : FVec F S256x1024 .f32 := broadcastInDim S256x1024 ![] bcast_S_S256x1024 main_cst_1
  let main_v9 : IVec S256x1024 1 := cmpf .olt main_v7 main_v8
  let main_v10 : FVec F S256x1024 .f32 := Host.absf main_arg3
  let main_cst_2 : FVec F S_ .f32 := constant S_ .f32 0x7F800000#32
  let main_v11 : FVec F S256x1024 .f32 := broadcastInDim S256x1024 ![] bcast_S_S256x1024 main_cst_2
  let main_v12 : IVec S256x1024 1 := cmpf .olt main_v10 main_v11
  let main_v13 : FVec F S1024x1024 .f32 := Host.absf main_arg4
  let main_cst_3 : FVec F S_ .f32 := constant S_ .f32 0x7F800000#32
  let main_v14 : FVec F S1024x1024 .f32 := broadcastInDim S1024x1024 ![] bcast_S_S1024x1024 main_cst_3
  let main_v15 : IVec S1024x1024 1 := cmpf .olt main_v13 main_v14
  let main_v16 : FVec F S1024x1024 .f32 := Host.absf main_arg5
  let main_cst_4 : FVec F S_ .f32 := constant S_ .f32 0x7F800000#32
  let main_v17 : FVec F S1024x1024 .f32 := broadcastInDim S1024x1024 ![] bcast_S_S1024x1024 main_cst_4
  fn_part1 (F := F) main_arg6 main_arg7 main_arg8 main_arg9 main_v3 main_v6 main_v9 main_v12 main_v15 main_v16 main_v17
-- ==== Du.lean ====
abbrev S4096x1024 : Shape := ⟨2, ![4096, 1024]⟩
abbrev S1x1024 : Shape := ⟨2, ![1, 1024]⟩
abbrev S1024x2816 : Shape := ⟨2, ![1024, 2816]⟩
abbrev S4096x2816 : Shape := ⟨2, ![4096, 2816]⟩
abbrev S2816x1024 : Shape := ⟨2, ![2816, 1024]⟩
abbrev S8x1024 : Shape := ⟨2, ![8, 1024]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩
abbrev S64x8x1024 : Shape := ⟨3, ![64, 8, 1024]⟩
abbrev S_ : Shape := ⟨0, ![]⟩
abbrev S1024 : Shape := ⟨1, ![1024]⟩

abbrev nBuf : Space → Nat
  | .hbm => 12
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x2816, .f32⟩
  | .hbm, ⟨3, _⟩ => ⟨S4096x1024, .f32⟩
  | .hbm, ⟨4, _⟩ => ⟨S4096x2816, .bf16⟩
  | .hbm, ⟨5, _⟩ => ⟨S2816x1024, .f32⟩
  | .hbm, ⟨6, _⟩ => ⟨S2816x1024, .bf16⟩
  | .hbm, ⟨7, _⟩ => ⟨S4096x1024, .f32⟩
  | .hbm, ⟨8, _⟩ => ⟨S8x1024, .f32⟩
  | .hbm, ⟨9, _⟩ => ⟨S_, .f32⟩
  | .hbm, ⟨10, _⟩ => ⟨S1024, .f32⟩
  | .hbm, ⟨11, _⟩ => ⟨S1x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S8x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== DuRefIdeal.lean ====
abbrev S4096x1024 : Shape := ⟨2, ![4096, 1024]⟩
abbrev S1x1024 : Shape := ⟨2, ![1, 1024]⟩
abbrev S1024x2816 : Shape := ⟨2, ![1024, 2816]⟩
abbrev S4096x2816 : Shape := ⟨2, ![4096, 2816]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 51
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x2816, .f32⟩
  | .hbm, ⟨3, _⟩ => ⟨S4096x1024, .f32⟩
  | .hbm, ⟨4, _⟩ => ⟨S4096x2816, .bf16⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x2816, .f32⟩
  | .hbm, ⟨25, _⟩ => ⟨S4096x2816, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S_, .f32⟩
  | .hbm, ⟨35, _⟩ => ⟨S4096, .f32⟩
  | .hbm, ⟨36, _⟩ => ⟨S4096x1, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1, .f32⟩
  | .hbm, ⟨41, _⟩ => ⟨S_, .f32⟩
  | .hbm, ⟨42, _⟩ => ⟨S4096x1, .f32⟩
  | .hbm, ⟨43, _⟩ => ⟨S4096x1, .f32⟩
  | .hbm, ⟨44, _⟩ => ⟨S_, .f32⟩
  | .hbm, ⟨45, _⟩ => ⟨S4096, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== Swa.lean ====
abbrev S4096x2816 : Shape := ⟨2, ![4096, 2816]⟩
abbrev S1x8 : Shape := ⟨2, ![1, 8]⟩
abbrev S4096x1024 : Shape := ⟨2, ![4096, 1024]⟩
abbrev S4096x512 : Shape := ⟨2, ![4096, 512]⟩
abbrev S1x64x64x2x4x64 : Shape := ⟨6, ![1, 64, 64, 2, 4, 64]⟩
abbrev S_ : Shape := ⟨0, ![]⟩
abbrev S1x128x2x64 : Shape := ⟨4, ![1, 128, 2, 64]⟩
abbrev S4096x128 : Shape := ⟨2, ![4096, 128]⟩
abbrev S1x4096x2x64 : Shape := ⟨4, ![1, 4096, 2, 64]⟩
abbrev S1x4224x2x64 : Shape := ⟨4, ![1, 4224, 2, 64]⟩
abbrev S1x66x64x2x64 : Shape := ⟨5, ![1, 66, 64, 2, 64]⟩
abbrev S1x64x64x2x64 : Shape := ⟨5, ![1, 64, 64, 2, 64]⟩
abbrev S1x64x192x2x64 : Shape := ⟨5, ![1, 64, 192, 2, 64]⟩
abbrev S64 : Shape := ⟨1, ![64]⟩
abbrev S64x1 : Shape := ⟨2, ![64, 1]⟩
abbrev S3 : Shape := ⟨1, ![3]⟩
abbrev S1x3 : Shape := ⟨2, ![1, 3]⟩
abbrev S64x3 : Shape := ⟨2, ![64, 3]⟩
abbrev S64x3x64 : Shape := ⟨3, ![64, 3, 64]⟩
abbrev S64x192 : Shape := ⟨2, ![64, 192]⟩
abbrev S1x64x2x192x64x4 : Shape := ⟨6, ![1, 64, 2, 192, 64, 4]⟩
abbrev S1x64x2x4x64x192 : Shape := ⟨6, ![1, 64, 2, 4, 64, 192]⟩
abbrev S1x64x1x1x1x192 : Shape := ⟨6, ![1, 64, 1, 1, 1, 192]⟩
abbrev S1x1x2x4x1x1 : Shape := ⟨6, ![1, 1, 2, 4, 1, 1]⟩
abbrev S1x64x2x4x64x1 : Shape := ⟨6, ![1, 64, 2, 4, 64, 1]⟩
abbrev S1x64x2x4x64x193 : Shape := ⟨6, ![1, 64, 2, 4, 64, 193]⟩
abbrev S1x64x2x4x64 : Shape := ⟨5, ![1, 64, 2, 4, 64]⟩
abbrev S1x64x2x64x4x64 : Shape := ⟨6, ![1, 64, 2, 64, 4, 64]⟩
abbrev S1x64x64x2x4x1 : Shape := ⟨6, ![1, 64, 64, 2, 4, 1]⟩
abbrev S4096x8 : Shape := ⟨2, ![4096, 8]⟩
abbrev S4096x120 : Shape := ⟨2, ![4096, 120]⟩
abbrev S2048x256 : Shape := ⟨2, ![2048, 256]⟩
abbrev S8x128 : Shape := ⟨2, ![8, 128]⟩
abbrev S256x512 : Shape := ⟨2, ![256, 512]⟩
abbrev S128x128 : Shape := ⟨2, ![128, 128]⟩
abbrev S256x128 : Shape := ⟨2, ![256, 128]⟩
abbrev S128x256 : Shape := ⟨2, ![128, 256]⟩
abbrev S384x128 : Shape := ⟨2, ![384, 128]⟩
abbrev S256x384 : Shape := ⟨2, ![256, 384]⟩
abbrev S128x384 : Shape := ⟨2, ![128, 384]⟩
abbrev S256 : Shape := ⟨1, ![256]⟩
abbrev S256x1 : Shape := ⟨2, ![256, 1]⟩
abbrev S1x1 : Shape := ⟨2, ![1, 1]⟩
abbrev S32x8x128 : Shape := ⟨3, ![32, 8, 128]⟩
abbrev S384x256 : Shape := ⟨2, ![384, 256]⟩
abbrev S128 : Shape := ⟨1, ![128]⟩
abbrev S1x128 : Shape := ⟨2, ![1, 128]⟩

abbrev nBuf : Space → Nat
  | .hbm => 86
  | .vmem => 24
  | .smem => 1
  | _ => 0

abbrev bufTy : (tb : Table) → Fin (tcTables nBuf tb) → BufTy
  | .hbm, ⟨0, _⟩ => ⟨S4096x2816, .f32⟩
  | .hbm, ⟨1, _⟩ => ⟨S1x8, .f32⟩
  | .hbm, ⟨2, _⟩ => ⟨S4096x1024, .bf16⟩
  | .hbm, ⟨3, _⟩ => ⟨S4096x512, .f32⟩
  | .hbm, ⟨4, _⟩ => ⟨S1x64x64x2x4x64, .f32⟩
  | .hbm, ⟨5, _⟩ => ⟨S_, .f32⟩
  | .hbm, ⟨6, _⟩ => ⟨S1x128x2x64, .f32⟩
  | .hbm, ⟨7, _⟩ => ⟨S4096x128, .f32⟩
  | .hbm, ⟨8, _⟩ => ⟨S1x4096x2x64, .f32⟩
  | .hbm, ⟨9, _⟩ => ⟨S1x4224x2x64, .f32⟩
  | .hbm, ⟨10, _⟩ => ⟨S1x66x64x2x64, .f32⟩
  | .hbm, ⟨11, _⟩ => ⟨S4096x128, .f32⟩
  | .hbm, ⟨12, _⟩ => ⟨S1x4096x2x64, .f32⟩
  | .hbm, ⟨13, _⟩ => ⟨S1x4224x2x64, .f32⟩
  | .hbm, ⟨14, _⟩ => ⟨S1x66x64x2x64, .f32⟩
  | .hbm, ⟨15, _⟩ => ⟨S1x64x64x2x64, .f32⟩
  | .hbm, ⟨16, _⟩ => ⟨S1x64x64x2x64, .f32⟩
  | .hbm, ⟨17, _⟩ => ⟨S1x64x64x2x64, .f32⟩
  | .hbm, ⟨18, _⟩ => ⟨S1x64x192x2x64, .f32⟩
  | .hbm, ⟨19, _⟩ => ⟨S1x64x64x2x64, .f32⟩
  | .hbm, ⟨20, _⟩ => ⟨S1x64x64x2x64, .f32⟩
  | .hbm, ⟨21, _⟩ => ⟨S1x64x64x2x64, .f32⟩
  | .hbm, ⟨22, _⟩ => ⟨S1x64x192x2x64, .f32⟩
  | .hbm, ⟨23, _⟩ => ⟨S64, .i32⟩
  | .hbm, ⟨24, _⟩ => ⟨S64x1, .i32⟩
  | .hbm, ⟨25, _⟩ => ⟨S_, .i32⟩
  | .hbm, ⟨26, _⟩ => ⟨S64x1, .i32⟩
  | .hbm, ⟨27, _⟩ => ⟨S64x1, .i32⟩
  | .hbm, ⟨28, _⟩ => ⟨S3, .i32⟩
  | .hbm, ⟨29, _⟩ => ⟨S1x3, .i32⟩
  | .hbm, ⟨30, _⟩ => ⟨S64x3, .i32⟩
  | .hbm, ⟨31, _⟩ => ⟨S64x3, .i32⟩
  | .hbm, ⟨32, _⟩ => ⟨S64x3, .i32⟩
  | .hbm, ⟨33, _⟩ => ⟨S_, .i32⟩
  | .hbm, ⟨34, _⟩ => ⟨S64x3, .i32⟩
  | .hbm, ⟨35, _⟩ => ⟨S64x3, .i1⟩
  | .hbm, ⟨36, _⟩ => ⟨S64x3x64, .i1⟩
  | .hbm, ⟨37, _⟩ => ⟨S64x192, .i1⟩
  | .hbm, ⟨38, _⟩ => ⟨S1x64x2x192x64x4, .f32⟩
  | .hbm, ⟨39, _⟩ => ⟨S1x64x2x4x64x192, .f32⟩
  | .hbm, ⟨40, _⟩ => ⟨S_, .f32⟩
  | .hbm, ⟨41, _⟩ => ⟨S1x64x2x4x64x192, .f32⟩
  | .hbm, ⟨42, _⟩ => ⟨S1x64x2x4x64x192, .f32⟩
  | .hbm, ⟨43, _⟩ => ⟨S1x64x1x1x1x192, .i1⟩
  | .hbm, ⟨44, _⟩ => ⟨S_, .f32⟩
  | .hbm, ⟨45, _⟩ => ⟨S_, .f32⟩
  | .hbm, ⟨46, _⟩ => ⟨S1x64x2x4x64x192, .i1⟩
  | .hbm, ⟨47, _⟩ => ⟨S1x64x2x4x64x192, .f32⟩
  | .hbm, ⟨48, _⟩ => ⟨S1x64x2x4x64x192, .f32⟩
  | .hbm, ⟨49, _⟩ => ⟨S1x1x2x4x1x1, .f32⟩
  | .hbm, ⟨50, _⟩ => ⟨S1x64x2x4x64x1, .f32⟩
  | .hbm, ⟨51, _⟩ => ⟨S1x64x2x4x64x193, .f32⟩
  | .hbm, ⟨52, _⟩ => ⟨S_, .f32⟩
  | .hbm, ⟨53, _⟩ => ⟨S1x64x2x4x64, .f32⟩
  | .hbm, ⟨54, _⟩ => ⟨S1x64x2x4x64x1, .f32⟩
  | .hbm, ⟨55, _⟩ => ⟨S1x64x2x4x64x193, .f32⟩
  | .hbm, ⟨56, _⟩ => ⟨S1x64x2x4x64x193, .f32⟩
  | .hbm, ⟨57, _⟩ => ⟨S1x64x2x4x64x193, .f32⟩
  | .hbm, ⟨58, _⟩ => ⟨S_, .f32⟩
  | .hbm, ⟨59, _⟩ => ⟨S1x64x2x4x64, .f32⟩
  | .hbm, ⟨60, _⟩ => ⟨S1x64x2x4x64x1, .f32⟩
  | .hbm, ⟨61, _⟩ => ⟨S1x64x2x4x64x193, .f32⟩
  | .hbm, ⟨62, _⟩ => ⟨S1x64x2x4x64x193, .f32⟩
  | .hbm, ⟨63, _⟩ => ⟨S1x64x2x4x64x192, .f32⟩
  | .hbm, ⟨64, _⟩ => ⟨S1x64x2x64x4x64, .f32⟩
  | .hbm, ⟨65, _⟩ => ⟨S1x64x64x2x4x64, .f32⟩
  | .hbm, ⟨66, _⟩ => ⟨S4096x512, .f32⟩
  | .hbm, ⟨67, _⟩ => ⟨S1x64x2x4x64x1, .f32⟩
  | .hbm, ⟨68, _⟩ => ⟨S1x64x2x4x64x1, .f32⟩
  | .hbm, ⟨69, _⟩ => ⟨S1x64x64x2x4x1, .f32⟩
  | .hbm, ⟨70, _⟩ => ⟨S4096x8, .f32⟩
  | .hbm, ⟨71, _⟩ => ⟨S_, .f32⟩
  | .hbm, ⟨72, _⟩ => ⟨S4096x512, .f32⟩
  | .hbm, ⟨73, _⟩ => ⟨S4096x1024, .f32⟩
  | .hbm, ⟨74, _⟩ => ⟨S4096x1024, .bf16⟩
  | .hbm, ⟨75, _⟩ => ⟨S_, .f32⟩
  | .hbm, ⟨76, _⟩ => ⟨S4096x120, .f32⟩
  | .hbm, ⟨77, _⟩ => ⟨S4096x128, .f32⟩
  | .hbm, ⟨78, _⟩ => ⟨S4096x512, .bf16⟩
  | .hbm, ⟨79, _⟩ => ⟨S2048x256, .bf16⟩
  | .hbm, ⟨80, _⟩ => ⟨S2048x256, .bf16⟩
  | .hbm, ⟨81, _⟩ => ⟨S8x128, .f32⟩
  | .hbm, ⟨82, _⟩ => ⟨S_, .f32⟩
  | .hbm, ⟨83, _⟩ => ⟨S128, .f32⟩
  | .hbm, ⟨84, _⟩ => ⟨S1x128, .f32⟩
  | .hbm, ⟨85, _⟩ => ⟨S1x8, .f32⟩
  | .local _ .vmem, ⟨0, _⟩ => ⟨S256x512, .f32⟩
  | .local _ .vmem, ⟨1, _⟩ => ⟨S256x512, .f32⟩
  | .local _ .vmem, ⟨2, _⟩ => ⟨S128x128, .f32⟩
  | .local _ .vmem, ⟨3, _⟩ => ⟨S128x128, .f32⟩
  | .local _ .vmem, ⟨4, _⟩ => ⟨S256x128, .f32⟩
  | .local _ .vmem, ⟨5, _⟩ => ⟨S256x128, .f32⟩
  | .local _ .vmem, ⟨6, _⟩ => ⟨S128x128, .f32⟩
  | .local _ .vmem, ⟨7, _⟩ => ⟨S128x128, .f32⟩
  | .local _ .vmem, ⟨8, _⟩ => ⟨S256x128, .f32⟩
  | .local _ .vmem, ⟨9, _⟩ => ⟨S256x128, .f32⟩
  | .local _ .vmem, ⟨10, _⟩ => ⟨S256x512, .bf16⟩
  | .local _ .vmem, ⟨11, _⟩ => ⟨S256x512, .bf16⟩
  | .local _ .vmem, ⟨12, _⟩ => ⟨S256x512, .bf16⟩
  | .local _ .vmem, ⟨13, _⟩ => ⟨S256x512, .bf16⟩
  | .local _ .vmem, ⟨14, _⟩ => ⟨S256x128, .f32⟩
  | .local _ .vmem, ⟨15, _⟩ => ⟨S256x128, .f32⟩
  | .local _ .vmem, ⟨16, _⟩ => ⟨S256x512, .bf16⟩
  | .local _ .vmem, ⟨17, _⟩ => ⟨S256x512, .bf16⟩
  | .local _ .vmem, ⟨18, _⟩ => ⟨S128x256, .bf16⟩
  | .local _ .vmem, ⟨19, _⟩ => ⟨S128x256, .bf16⟩
  | .local _ .vmem, ⟨20, _⟩ => ⟨S128x256, .bf16⟩
  | .local _ .vmem, ⟨21, _⟩ => ⟨S128x256, .bf16⟩
  | .local _ .vmem, ⟨22, _⟩ => ⟨S8x128, .f32⟩
  | .local _ .vmem, ⟨23, _⟩ => ⟨S128x256, .f32⟩
  | .local _ .smem, ⟨0, _⟩ => ⟨S1x8, .f32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .smem, ⟨0, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_c : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_c_0 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_cst_1 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_cst_2 : Ref sig .tc := ⟨.hbm, 44, rfl⟩
abbrev main_call0_v0 : Ref sig .tc := ⟨.hbm, 45, rfl⟩
abbrev main_call0_v1 : Ref sig .tc := ⟨.hbm, 46, rfl⟩
abbrev main_call0_v2 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_cst_3 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_cst_4 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_cst_5 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_cst_6 : Ref sig .tc := ⟨.hbm, 75, rfl⟩
abbrev main_v61 : Ref sig .tc := ⟨.hbm, 76, rfl⟩
abbrev main_v62 : Ref sig .tc := ⟨.hbm, 77, rfl⟩
abbrev main_v63_0 : Ref sig .tc := ⟨.hbm, 78, rfl⟩
abbrev main_v63_1 : Ref sig .tc := ⟨.hbm, 79, rfl⟩
abbrev main_v63_2 : Ref sig .tc := ⟨.hbm, 80, rfl⟩
abbrev main_v63_3 : Ref sig .tc := ⟨.hbm, 81, rfl⟩
abbrev main_cst_7 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_scratch0 : Ref sig .tc := ⟨.vmem, 23, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23

abbrev nD : Nat := 1
abbrev τ : Topo := Topo.v7x

variable {F : FTy → Type} [FloatOps F]

abbrev grid0 : Pipeline.Grid := ⟨1, ![17], ![false]⟩

def k0_cond2 (i : grid0.Coords) : BitVec 1 :=
  let arg0 : BitVec 32 := BitVec.ofNat 32 (i 0).val
  let c16_i32 : BitVec 32 := 16#32
  let v0 : BitVec 1 := Scalar.cmpi .slt arg0 c16_i32
  let v823 : BitVec 32 := Scalar.extui v0
  let c0_i32_292 : BitVec 32 := 0#32
  let v824 : BitVec 1 := Scalar.cmpi .ne v823 c0_i32_292
  v824

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c15_i32 : BitVec 32 := 15#32
  let v0 : BitVec 32 := Scalar.minsi arg0 c15_i32
  let c2_i32 : BitVec 32 := 2#32
  let v1 : BitVec 32 := Scalar.muli c2_i32 v0
  let c1_i32 : BitVec 32 := 1#32
  let v2 : BitVec 32 := Scalar.subi v1 c1_i32
  let c0_i32 : BitVec 32 := 0#32
  let v3 : BitVec 32 := Scalar.maxsi v2 c0_i32
  let c4_i32 : BitVec 32 := 4#32
  let c0_i32_0 : BitVec 32 := 0#32
  ![v3.toNat, c4_i32.toNat]

def cc0_transform_3 (i : grid0.Coords) : Fin 2 → Nat :=
  let arg0 : BitVec 32 := BitVec.ofNat 32 (i 0).val
  let c15_i32 : BitVec 32 := 15#32
  let v0 : BitVec 32 := Scalar.minsi arg0 c15_i32
  let c4_i32 : BitVec 32 := 4#32
  let c0_i32 : BitVec 32 := 0#32
  ![v0.toNat, c4_i32.toNat]

def cc0_transform_4 (i : grid0.Coords) : Fin 2 → Nat :=
  let arg0 : BitVec 32 := BitVec.ofNat 32 (i 0).val
  let c15_i32 : BitVec 32 := 15#32
  let v0 : BitVec 32 := Scalar.minsi arg0 c15_i32
  let c2_i32 : BitVec 32 := 2#32
  let v1 : BitVec 32 := Scalar.muli c2_i32 v0
  let c1_i32 : BitVec 32 := 1#32
  let v2 : BitVec 32 := Scalar.subi v1 c1_i32
  let c0_i32 : BitVec 32 := 0#32
  let v3 : BitVec 32 := Scalar.maxsi v2 c0_i32
  let c5_i32 : BitVec 32 := 5#32
  let c0_i32_0 : BitVec 32 := 0#32
  ![v3.toNat, c5_i32.toNat]

def cc0_transform_5 (i : grid0.Coords) : Fin 2 → Nat :=
  let arg0 : BitVec 32 := BitVec.ofNat 32 (i 0).val
  let c15_i32 : BitVec 32 := 15#32
  let v0 : BitVec 32 := Scalar.minsi arg0 c15_i32
  let c5_i32 : BitVec 32 := 5#32
  let c0_i32 : BitVec 32 := 0#32
  ![v0.toNat, c5_i32.toNat]

def cc0_transform_6 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S1x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S8x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== SwaRefIdeal.lean ====
abbrev S4096x2816 : Shape := ⟨2, ![4096, 2816]⟩
abbrev S1x8 : Shape := ⟨2, ![1, 8]⟩
abbrev S4096x1024 : Shape := ⟨2, ![4096, 1024]⟩
abbrev S4096x512 : Shape := ⟨2, ![4096, 512]⟩
abbrev S4096x128 : Shape := ⟨2, ![4096, 128]⟩
abbrev S1x4096x8x64 : Shape := ⟨4, ![1, 4096, 8, 64]⟩
abbrev S1x4096x2x64 : Shape := ⟨4, ![1, 4096, 2, 64]⟩
abbrev S1x64x64x2x4x64 : Shape := ⟨6, ![1, 64, 64, 2, 4, 64]⟩
abbrev S_ : Shape := ⟨0, ![]⟩
abbrev S1x128x2x64 : Shape := ⟨4, ![1, 128, 2, 64]⟩
abbrev S1x4224x2x64 : Shape := ⟨4, ![1, 4224, 2, 64]⟩
abbrev S1x66x64x2x64 : Shape := ⟨5, ![1, 66, 64, 2, 64]⟩
abbrev S1x64x64x2x64 : Shape := ⟨5, ![1, 64, 64, 2, 64]⟩
abbrev S1x64x192x2x64 : Shape := ⟨5, ![1, 64, 192, 2, 64]⟩
abbrev S64 : Shape := ⟨1, ![64]⟩
abbrev S64x1 : Shape := ⟨2, ![64, 1]⟩
abbrev S3 : Shape := ⟨1, ![3]⟩
abbrev S1x3 : Shape := ⟨2, ![1, 3]⟩
abbrev S64x3 : Shape := ⟨2, ![64, 3]⟩
abbrev S64x3x64 : Shape := ⟨3, ![64, 3, 64]⟩
abbrev S64x192 : Shape := ⟨2, ![64, 192]⟩
abbrev S1x64x2x192x64x4 : Shape := ⟨6, ![1, 64, 2, 192, 64, 4]⟩
abbrev S1x64x2x4x64x192 : Shape := ⟨6, ![1, 64, 2, 4, 64, 192]⟩
abbrev S1x64x1x1x1x192 : Shape := ⟨6, ![1, 64, 1, 1, 1, 192]⟩
abbrev S1x1x2x4x1x1 : Shape := ⟨6, ![1, 1, 2, 4, 1, 1]⟩
abbrev S1x64x2x4x64x1 : Shape := ⟨6, ![1, 64, 2, 4, 64, 1]⟩
abbrev S1x64x2x4x64x193 : Shape := ⟨6, ![1, 64, 2, 4, 64, 193]⟩
abbrev S1x64x2x4x64 : Shape := ⟨5, ![1, 64, 2, 4, 64]⟩
abbrev S1x64x2x64x4x64 : Shape := ⟨6, ![1, 64, 2, 64, 4, 64]⟩
abbrev S1x4096x512 : Shape := ⟨3, ![1, 4096, 512]⟩
abbrev S1x64x2x64x192 : Shape := ⟨5, ![1, 64, 2, 64, 192]⟩
abbrev S64x2x4x64 : Shape := ⟨4, ![64, 2, 4, 64]⟩
abbrev S2x4 : Shape := ⟨2, ![2, 4]⟩
abbrev S1x64x2x192x64 : Shape := ⟨5, ![1, 64, 2, 192, 64]⟩
abbrev S4096x256 : Shape := ⟨2, ![4096, 256]⟩
abbrev S16x2x128x256 : Shape := ⟨4, ![16, 2, 128, 256]⟩
abbrev S16x1x128x256 : Shape := ⟨4, ![16, 1, 128, 256]⟩
abbrev S16x128x256 : Shape := ⟨3, ![16, 128, 256]⟩
abbrev S2048x256 : Shape := ⟨2, ![2048, 256]⟩

abbrev nBuf : Space → Nat
  | .hbm => 195
  | .vmem => 0
  | .smem => 0
  | _ => 0

abbrev hbmTy0_0 (i : Nat) : BufTy := match i % 128 with
  | 0 => ⟨S4096x2816, .f32⟩
  | 1 => ⟨S1x8, .f32⟩
  | 2 => ⟨S4096x1024, .bf16⟩
  | 3 => ⟨S4096x512, .f32⟩
  | 4 => ⟨S4096x128, .f32⟩
  | 5 => ⟨S4096x128, .f32⟩
  | 6 => ⟨S1x4096x8x64, .f32⟩
  | 7 => ⟨S1x4096x2x64, .f32⟩
  | 8 => ⟨S1x4096x2x64, .f32⟩
  | 9 => ⟨S1x64x64x2x4x64, .f32⟩
  | 10 => ⟨S_, .f32⟩
  | 11 => ⟨S1x128x2x64, .f32⟩
  | 12 => ⟨S1x4224x2x64, .f32⟩
  | 13 => ⟨S_, .f32⟩
  | 14 => ⟨S1x128x2x64, .f32⟩
  | 15 => ⟨S1x66x64x2x64, .f32⟩
  | 16 => ⟨S1x4224x2x64, .f32⟩
  | 17 => ⟨S_, .f32⟩
  | 18 => ⟨S1x128x2x64, .f32⟩
  | 19 => ⟨S1x66x64x2x64, .f32⟩
  | 20 => ⟨S1x64x64x2x64, .f32⟩
  | 21 => ⟨S1x64x64x2x64, .f32⟩
  | 22 => ⟨S1x64x64x2x64, .f32⟩
  | 23 => ⟨S1x64x192x2x64, .f32⟩
  | 24 => ⟨S1x64x64x2x64, .f32⟩
  | 25 => ⟨S1x64x64x2x64, .f32⟩
  | 26 => ⟨S1x64x64x2x64, .f32⟩
  | 27 => ⟨S1x64x192x2x64, .f32⟩
  | 28 => ⟨S64, .i32⟩
  | 29 => ⟨S64x1, .i32⟩
  | 30 => ⟨S_, .i32⟩
  | 31 => ⟨S64x1, .i32⟩
  | 32 => ⟨S64x1, .i32⟩
  | 33 => ⟨S3, .i32⟩
  | 34 => ⟨S1x3, .i32⟩
  | 35 => ⟨S64x3, .i32⟩
  | 36 => ⟨S64x3, .i32⟩
  | 37 => ⟨S64x3, .i32⟩
  | 38 => ⟨S_, .i32⟩
  | 39 => ⟨S64x3, .i32⟩
  | 40 => ⟨S64x3, .i1⟩
  | 41 => ⟨S64x3x64, .i1⟩
  | 42 => ⟨S64x192, .i1⟩
  | 43 => ⟨S1x64x2x192x64x4, .f32⟩
  | 44 => ⟨S1x64x2x4x64x192, .f32⟩
  | 45 => ⟨S_, .f32⟩
  | 46 => ⟨S1x64x2x4x64x192, .f32⟩
  | 47 => ⟨S1x64x2x4x64x192, .f32⟩
  | 48 => ⟨S1x64x1x1x1x192, .i1⟩
  | 49 => ⟨S_, .f32⟩
  | 50 => ⟨S_, .f32⟩
  | 51 => ⟨S1x64x2x4x64x192, .i1⟩
  | 52 => ⟨S1x64x2x4x64x192, .f32⟩
  | 53 => ⟨S1x64x2x4x64x192, .f32⟩
  | 54 => ⟨S_, .f32⟩
  | 55 => ⟨S1x64x2x4x64x192, .f32⟩
  | 56 => ⟨S1x1x2x4x1x1, .f32⟩
  | 57 => ⟨S1x64x2x4x64x1, .f32⟩
  | 58 => ⟨S1x64x2x4x64x193, .f32⟩
  | 59 => ⟨S_, .f32⟩
  | 60 => ⟨S1x64x2x4x64, .f32⟩
  | 61 => ⟨S1x64x2x4x64x1, .f32⟩
  | 62 => ⟨S1x64x2x4x64x193, .f32⟩
  | 63 => ⟨S1x64x2x4x64x193, .i1⟩
  | 64 => ⟨S1x64x2x4x64x193, .f32⟩
  | 65 => ⟨S_, .f32⟩
  | 66 => ⟨S1x64x2x4x64, .f32⟩
  | 67 => ⟨S_, .f32⟩
  | 68 => ⟨S1x64x2x4x64, .f32⟩
  | 69 => ⟨S1x64x2x4x64, .f32⟩
  | 70 => ⟨S_, .f32⟩
  | 71 => ⟨S1x64x2x4x64, .f32⟩
  | 72 => ⟨S1x64x2x4x64, .i1⟩
  | 73 => ⟨S_, .f32⟩
  | 74 => ⟨S1x64x2x4x64, .f32⟩
  | 75 => ⟨S1x64x2x4x64, .i1⟩
  | 76 => ⟨S_, .f32⟩
  | 77 => ⟨S1x64x2x4x64, .f32⟩
  | 78 => ⟨S_, .f32⟩
  | 79 => ⟨S1x64x2x4x64, .f32⟩
  | 80 => ⟨S_, .f32⟩
  | 81 => ⟨S1x64x2x4x64, .f32⟩
  | 82 => ⟨S1x64x2x4x64, .f32⟩
  | 83 => ⟨S1x64x2x4x64, .f32⟩
  | 84 => ⟨S1x64x2x4x64x1, .f32⟩
  | 85 => ⟨S1x64x2x4x64x193, .f32⟩
  | 86 => ⟨S1x64x2x4x64x193, .f32⟩
  | 87 => ⟨S1x64x2x4x64x193, .f32⟩
  | 88 => ⟨S_, .f32⟩
  | 89 => ⟨S1x64x2x4x64, .f32⟩
  | 90 => ⟨S1x64x2x4x64x1, .f32⟩
  | 91 => ⟨S1x64x2x4x64x193, .f32⟩
  | 92 => ⟨S1x64x2x4x64x193, .f32⟩
  | 93 => ⟨S1x64x2x4x64x1, .f32⟩
  | 94 => ⟨S_, .f32⟩
  | 95 => ⟨S1x64x2x4x64x1, .f32⟩
  | 96 => ⟨S1x64x2x4x64x1, .f32⟩
  | 97 => ⟨S1x64x2x4x64x192, .f32⟩
  | 98 => ⟨S1x64x2x64x4x64, .f32⟩
  | 99 => ⟨S1x64x64x2x4x64, .f32⟩
  | 100 => ⟨S1x4096x512, .f32⟩
  | 101 => ⟨S4096x512, .bf16⟩
  | 102 => ⟨S1x4096x512, .bf16⟩
  | 103 => ⟨S1x4096x512, .f32⟩
  | 104 => ⟨S1x64x64x2x4x64, .f32⟩
  | 105 => ⟨S1x64x2x64x4x64, .f32⟩
  | 106 => ⟨S1x64x2x4x64x192, .f32⟩
  | 107 => ⟨S1x64x2x64x192, .f32⟩
  | 108 => ⟨S1x64x192x2x64, .f32⟩
  | 109 => ⟨S_, .f32⟩
  | 110 => ⟨S1x64x2x4x64x193, .f32⟩
  | 111 => ⟨S1x64x2x4x64x193, .f32⟩
  | 112 => ⟨S1x64x2x4x64x193, .f32⟩
  | 113 => ⟨S1x64x2x4x64x193, .f32⟩
  | 114 => ⟨S_, .f32⟩
  | 115 => ⟨S1x64x2x4x64, .f32⟩
  | 116 => ⟨S1x64x2x4x64x1, .f32⟩
  | 117 => ⟨S1x64x2x4x64x1, .f32⟩
  | 118 => ⟨S1x64x2x4x64x193, .f32⟩
  | 119 => ⟨S1x64x2x4x64x193, .f32⟩
  | 120 => ⟨S_, .f32⟩
  | 121 => ⟨S64x2x4x64, .f32⟩
  | 122 => ⟨S1x64x2x4x64, .f32⟩
  | 123 => ⟨S1x64x2x4x64x193, .f32⟩
  | 124 => ⟨S1x64x2x4x64x193, .f32⟩
  | 125 => ⟨S1x64x2x4x64x193, .f32⟩
  | 126 => ⟨S1x64x2x4x64x192, .f32⟩
  | 127 => ⟨S1x64x2x4x64x1, .f32⟩
  | _ => ⟨S4096x2816, .f32⟩

abbrev hbmTy0_1 (i : Nat) : BufTy := match i % 128 with
  | 0 => ⟨S_, .f32⟩
  | 1 => ⟨S2x4, .f32⟩
  | 2 => ⟨S1x1x2x4x1x1, .f32⟩
  | 3 => ⟨S1x8, .f32⟩
  | 4 => ⟨S_, .f32⟩
  | 5 => ⟨S1x64x2x4x64x192, .f32⟩
  | 6 => ⟨S1x64x2x4x64x192, .f32⟩
  | 7 => ⟨S_, .f32⟩
  | 8 => ⟨S1x64x2x4x64x192, .f32⟩
  | 9 => ⟨S1x64x2x4x64x192, .f32⟩
  | 10 => ⟨S1x64x2x192x64x4, .f32⟩
  | 11 => ⟨S1x64x2x64x4x64, .f32⟩
  | 12 => ⟨S1x64x64x2x4x64, .f32⟩
  | 13 => ⟨S1x64x2x192x64, .f32⟩
  | 14 => ⟨S1x64x192x2x64, .f32⟩
  | 15 => ⟨S1x64x64x2x64, .f32⟩
  | 16 => ⟨S1x64x64x2x64, .f32⟩
  | 17 => ⟨S1x64x64x2x64, .f32⟩
  | 18 => ⟨S_, .f32⟩
  | 19 => ⟨S1x66x64x2x64, .f32⟩
  | 20 => ⟨S_, .f32⟩
  | 21 => ⟨S1x66x64x2x64, .f32⟩
  | 22 => ⟨S1x66x64x2x64, .f32⟩
  | 23 => ⟨S_, .f32⟩
  | 24 => ⟨S1x66x64x2x64, .f32⟩
  | 25 => ⟨S1x66x64x2x64, .f32⟩
  | 26 => ⟨S1x64x64x2x64, .f32⟩
  | 27 => ⟨S1x64x64x2x64, .f32⟩
  | 28 => ⟨S1x64x64x2x64, .f32⟩
  | 29 => ⟨S_, .f32⟩
  | 30 => ⟨S1x66x64x2x64, .f32⟩
  | 31 => ⟨S_, .f32⟩
  | 32 => ⟨S1x66x64x2x64, .f32⟩
  | 33 => ⟨S1x66x64x2x64, .f32⟩
  | 34 => ⟨S_, .f32⟩
  | 35 => ⟨S1x66x64x2x64, .f32⟩
  | 36 => ⟨S1x66x64x2x64, .f32⟩
  | 37 => ⟨S1x4224x2x64, .f32⟩
  | 38 => ⟨S1x128x2x64, .f32⟩
  | 39 => ⟨S1x4096x2x64, .f32⟩
  | 40 => ⟨S1x4224x2x64, .f32⟩
  | 41 => ⟨S1x128x2x64, .f32⟩
  | 42 => ⟨S1x4096x2x64, .f32⟩
  | 43 => ⟨S1x4096x8x64, .f32⟩
  | 44 => ⟨S4096x128, .f32⟩
  | 45 => ⟨S4096x128, .f32⟩
  | 46 => ⟨S4096x512, .f32⟩
  | 47 => ⟨S_, .f32⟩
  | 48 => ⟨S4096x2816, .f32⟩
  | 49 => ⟨S_, .f32⟩
  | 50 => ⟨S4096x2816, .f32⟩
  | 51 => ⟨S4096x2816, .f32⟩
  | 52 => ⟨S_, .f32⟩
  | 53 => ⟨S4096x2816, .f32⟩
  | 54 => ⟨S4096x2816, .f32⟩
  | 55 => ⟨S4096x256, .f32⟩
  | 56 => ⟨S16x2x128x256, .f32⟩
  | 57 => ⟨S4096x512, .f32⟩
  | 58 => ⟨S4096x512, .bf16⟩
  | 59 => ⟨S16x1x128x256, .f32⟩
  | 60 => ⟨S16x128x256, .f32⟩
  | 61 => ⟨S2048x256, .f32⟩
  | 62 => ⟨S2048x256, .bf16⟩
  | 63 => ⟨S16x1x128x256, .f32⟩
  | 64 => ⟨S16x128x256, .f32⟩
  | 65 => ⟨S2048x256, .f32⟩
  | 66 => ⟨S2048x256, .bf16⟩
  | _ => ⟨S4096x2816, .f32⟩

abbrev hbmTy (i : Nat) : BufTy := match i / 128 with
  | 0 => hbmTy0_0 i
  | 1 => hbmTy0_1 i
  | _ => ⟨S4096x2816, .f32⟩

abbrev bufTy : (tb : Table) → Fin (tcTables nBuf tb) → BufTy
  | .hbm, ⟨i, _⟩ => hbmTy i
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_c : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_c_2 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_cst_3 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_cst_4 : Ref sig .tc := ⟨.hbm, 49, rfl⟩
abbrev main_call0_v0 : Ref sig .tc := ⟨.hbm, 50, rfl⟩
abbrev main_v40_1 : Ref sig .tc := ⟨.hbm, 51, rfl⟩
abbrev main_call0_v2 : Ref sig .tc := ⟨.hbm, 52, rfl⟩
abbrev main_v40_0 : Ref sig .tc := ⟨.hbm, 53, rfl⟩
abbrev main_call0_cst : Ref sig .tc := ⟨.hbm, 54, rfl⟩
abbrev main_v40_2 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_5 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_6 : Ref sig .tc := ⟨.hbm, 65, rfl⟩
abbrev main_v49 : Ref sig .tc := ⟨.hbm, 66, rfl⟩
abbrev main_cst_7 : Ref sig .tc := ⟨.hbm, 67, rfl⟩
abbrev main_v50 : Ref sig .tc := ⟨.hbm, 68, rfl⟩
abbrev main_v51 : Ref sig .tc := ⟨.hbm, 69, rfl⟩
abbrev main_cst_8 : Ref sig .tc := ⟨.hbm, 70, rfl⟩
abbrev main_v52 : Ref sig .tc := ⟨.hbm, 71, rfl⟩
abbrev main_v53 : Ref sig .tc := ⟨.hbm, 72, rfl⟩
abbrev main_cst_9 : Ref sig .tc := ⟨.hbm, 73, rfl⟩
abbrev main_v54 : Ref sig .tc := ⟨.hbm, 74, rfl⟩
abbrev main_v55 : Ref sig .tc := ⟨.hbm, 75, rfl⟩
abbrev main_cst_10 : Ref sig .tc := ⟨.hbm, 76, rfl⟩
abbrev main_v56 : Ref sig .tc := ⟨.hbm, 77, rfl⟩
abbrev main_cst_11 : Ref sig .tc := ⟨.hbm, 78, rfl⟩
abbrev main_v57 : Ref sig .tc := ⟨.hbm, 79, rfl⟩
abbrev main_cst_12 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_cst_13 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_cst_14 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_cst_15 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_cst_16 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_cst_17 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_cst_18 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_call1_cst : Ref sig .tc := ⟨.hbm, 132, rfl⟩
abbrev main_call1_v0 : Ref sig .tc := ⟨.hbm, 133, rfl⟩
abbrev main_v103 : Ref sig .tc := ⟨.hbm, 134, rfl⟩
abbrev main_cst_19 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_cst_20 : Ref sig .tc := ⟨.hbm, 146, rfl⟩
abbrev main_v114 : Ref sig .tc := ⟨.hbm, 147, rfl⟩
abbrev main_cst_21 : Ref sig .tc := ⟨.hbm, 148, rfl⟩
abbrev main_v115 : Ref sig .tc := ⟨.hbm, 149, rfl⟩
abbrev main_v116 : Ref sig .tc := ⟨.hbm, 150, rfl⟩
abbrev main_cst_22 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_cst_23 : Ref sig .tc := ⟨.hbm, 157, rfl⟩
abbrev main_v122 : Ref sig .tc := ⟨.hbm, 158, rfl⟩
abbrev main_cst_24 : Ref sig .tc := ⟨.hbm, 159, rfl⟩
abbrev main_v123 : Ref sig .tc := ⟨.hbm, 160, rfl⟩
abbrev main_v124 : Ref sig .tc := ⟨.hbm, 161, rfl⟩
abbrev main_cst_25 : Ref sig .tc := ⟨.hbm, 162, rfl⟩
abbrev main_v125 : Ref sig .tc := ⟨.hbm, 163, rfl⟩
abbrev main_v126 : Ref sig .tc := ⟨.hbm, 164, rfl⟩
abbrev main_v127 : Ref sig .tc := ⟨.hbm, 165, rfl⟩
abbrev main_v128 : Ref sig .tc := ⟨.hbm, 166, rfl⟩
abbrev main_v129 : Ref sig .tc := ⟨.hbm, 167, rfl⟩
abbrev main_v130 : Ref sig .tc := ⟨.hbm, 168, rfl⟩
abbrev main_v131 : Ref sig .tc := ⟨.hbm, 169, rfl⟩
abbrev main_v132 : Ref sig .tc := ⟨.hbm, 170, rfl⟩
abbrev main_v133 : Ref sig .tc := ⟨.hbm, 171, rfl⟩
abbrev main_v134 : Ref sig .tc := ⟨.hbm, 172, rfl⟩
abbrev main_v135 : Ref sig .tc := ⟨.hbm, 173, rfl⟩
abbrev main_v136 : Ref sig .tc := ⟨.hbm, 174, rfl⟩
abbrev main_cst_26 : Ref sig .tc := ⟨.hbm, 175, rfl⟩
abbrev main_v137 : Ref sig .tc := ⟨.hbm, 176, rfl⟩
abbrev main_cst_27 : Ref sig .tc := ⟨.hbm, 177, rfl⟩
abbrev main_v138 : Ref sig .tc := ⟨.hbm, 178, rfl⟩
abbrev main_v139 : Ref sig .tc := ⟨.hbm, 179, rfl⟩
abbrev main_cst_28 : Ref sig .tc := ⟨.hbm, 180, rfl⟩
abbrev main_v140 : Ref sig .tc := ⟨.hbm, 181, rfl⟩
abbrev main_v141 : Ref sig .tc := ⟨.hbm, 182, rfl⟩
abbrev main_v142 : Ref sig .tc := ⟨.hbm, 183, rfl⟩
abbrev main_v143 : Ref sig .tc := ⟨.hbm, 184, rfl⟩
abbrev main_v144 : Ref sig .tc := ⟨.hbm, 185, rfl⟩
abbrev main_v145 : Ref sig .tc := ⟨.hbm, 186, rfl⟩
abbrev main_v146 : Ref sig .tc := ⟨.hbm, 187, rfl⟩
abbrev main_v147 : Ref sig .tc := ⟨.hbm, 188, rfl⟩
abbrev main_v148 : Ref sig .tc := ⟨.hbm, 189, rfl⟩
abbrev main_v149 : Ref sig .tc := ⟨.hbm, 190, rfl⟩
abbrev main_v150 : Ref sig .tc := ⟨.hbm, 191, rfl⟩
abbrev main_v151 : Ref sig .tc := ⟨.hbm, 192, rfl⟩
abbrev main_v152 : Ref sig .tc := ⟨.hbm, 193, rfl⟩
abbrev main_v153 : Ref sig .tc := ⟨.hbm, 194, rfl⟩

abbrev nD : Nat := 1
abbrev τ : Topo := Topo.v7x

variable {F : FTy → Type} [FloatOps F]
-- ==== Cross.lean ====
abbrev S4096x1024 : Shape := ⟨2, ![4096, 1024]⟩
abbrev S256x1024 : Shape := ⟨2, ![256, 1024]⟩
abbrev S1024x1024 : Shape := ⟨2, ![1024, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S8x1024 : Shape := ⟨2, ![8, 1024]⟩
abbrev S512x1024 : Shape := ⟨2, ![512, 1024]⟩
abbrev S2x3x512x1024 : Shape := ⟨4, ![2, 3, 512, 1024]⟩
abbrev S2x3 : Shape := ⟨2, ![2, 3]⟩
abbrev S1x1 : Shape := ⟨2, ![1, 1]⟩
abbrev S1x1x512x1024 : Shape := ⟨4, ![1, 1, 512, 1024]⟩
abbrev S512x256 : Shape := ⟨2, ![512, 256]⟩
abbrev S256x256 : Shape := ⟨2, ![256, 256]⟩
abbrev S512 : Shape := ⟨1, ![512]⟩
abbrev S512x1 : Shape := ⟨2, ![512, 1]⟩
abbrev S64x8x1024 : Shape := ⟨3, ![64, 8, 1024]⟩
abbrev S1024 : Shape := ⟨1, ![1024]⟩

abbrev nBuf : Space → Nat
  | .hbm => 62
  | .vmem => 25
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S256x1024, .f32⟩
  | .hbm, ⟨3, _⟩ => ⟨S256x1024, .f32⟩
  | .hbm, ⟨4, _⟩ => ⟨S1024x1024, .f32⟩
  | .hbm, ⟨5, _⟩ => ⟨S1024x1024, .f32⟩
  | .hbm, ⟨6, _⟩ => ⟨S1x1024, .f32⟩
  | .hbm, ⟨7, _⟩ => ⟨S1x1024, .f32⟩
  | .hbm, ⟨8, _⟩ => ⟨S4096x1024, .bf16⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S4096, .f32⟩
  | .hbm, ⟨30, _⟩ => ⟨S4096x1, .f32⟩
  | .hbm, ⟨31, _⟩ => ⟨S_, .f32⟩
  | .hbm, ⟨32, _⟩ => ⟨S4096x1, .f32⟩
  | .hbm, ⟨33, _⟩ => ⟨S4096x1, .f32⟩
  | .hbm, ⟨34, _⟩ => ⟨S_, .f32⟩
  | .hbm, ⟨35, _⟩ => ⟨S4096x1, .f32⟩
  | .hbm, ⟨36, _⟩ => ⟨S4096x1, .f32⟩
  | .hbm, ⟨37, _⟩ => ⟨S4096x1, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .bf16⟩
  | .hbm, ⟨44, _⟩ => ⟨S256x1024, .bf16⟩
  | .hbm, ⟨45, _⟩ => ⟨S256x1024, .bf16⟩
  | .hbm, ⟨46, _⟩ => ⟨S1024x1024, .bf16⟩
  | .hbm, ⟨47, _⟩ => ⟨S1024x1024, .bf16⟩
  | .hbm, ⟨48, _⟩ => ⟨S4096x1024, .bf16⟩
  | .hbm, ⟨49, _⟩ => ⟨S256x1024, .f32⟩
  | .hbm, ⟨50, _⟩ => ⟨S256x1024, .f32⟩
  | .hbm, ⟨51, _⟩ => ⟨S4096x1024, .f32⟩
  | .hbm, ⟨52, _⟩ => ⟨S4096x1024, .bf16⟩
  | .hbm, ⟨53, _⟩ => ⟨S4096x1024, .bf16⟩
  | .hbm, ⟨54, _⟩ => ⟨S8x1024, .f32⟩
  | .hbm, ⟨55, _⟩ => ⟨S8x1024, .f32⟩
  | .hbm, ⟨56, _⟩ => ⟨S_, .f32⟩
  | .hbm, ⟨57, _⟩ => ⟨S1024, .f32⟩
  | .hbm, ⟨58, _⟩ => ⟨S1x1024, .f32⟩
  | .hbm, ⟨59, _⟩ => ⟨S_, .f32⟩
  | .hbm, ⟨60, _⟩ => ⟨S1024, .f32⟩
  | .hbm, ⟨61, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S256x1024, .bf16⟩
  | .local _ .vmem, ⟨3, _⟩ => ⟨S256x1024, .bf16⟩
  | .local _ .vmem, ⟨4, _⟩ => ⟨S512x1024, .bf16⟩
  | .local _ .vmem, ⟨5, _⟩ => ⟨S512x1024, .bf16⟩
  | .local _ .vmem, ⟨6, _⟩ => ⟨S1024x1024, .bf16⟩
  | .local _ .vmem, ⟨7, _⟩ => ⟨S1024x1024, .bf16⟩
  | .local _ .vmem, ⟨8, _⟩ => ⟨S512x1024, .bf16⟩
  | .local _ .vmem, ⟨9, _⟩ => ⟨S512x1024, .bf16⟩
  | .local _ .vmem, ⟨10, _⟩ => ⟨S1x1024, .f32⟩
  | .local _ .vmem, ⟨11, _⟩ => ⟨S1x1024, .f32⟩
  | .local _ .vmem, ⟨12, _⟩ => ⟨S512x1024, .bf16⟩
  | .local _ .vmem, ⟨13, _⟩ => ⟨S512x1024, .bf16⟩
  | .local _ .vmem, ⟨14, _⟩ => ⟨S256x1024, .f32⟩
  | .local _ .vmem, ⟨15, _⟩ => ⟨S256x1024, .f32⟩
  | .local _ .vmem, ⟨16, _⟩ => ⟨S512x1024, .f32⟩
  | .local _ .vmem, ⟨17, _⟩ => ⟨S512x1024, .f32⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | .local _ .vmem, ⟨22, _⟩ => ⟨S8x1024, .f32⟩
  | .local _ .vmem, ⟨23, _⟩ => ⟨S8x1024, .f32⟩
  | .local _ .vmem, ⟨24, _⟩ => ⟨S2x3x512x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_cst_1 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_2 : Ref sig .tc := ⟨.hbm, 28, rfl⟩
abbrev main_v15 : Ref sig .tc := ⟨.hbm, 29, rfl⟩
abbrev main_v16 : Ref sig .tc := ⟨.hbm, 30, rfl⟩
abbrev main_cst_3 : Ref sig .tc := ⟨.hbm, 31, rfl⟩
abbrev main_v17 : Ref sig .tc := ⟨.hbm, 32, rfl⟩
abbrev main_v18 : Ref sig .tc := ⟨.hbm, 33, rfl⟩
abbrev main_cst_4 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32_0 : Ref sig .tc := ⟨.hbm, 48, rfl⟩
abbrev main_v32_1 : Ref sig .tc := ⟨.hbm, 49, rfl⟩
abbrev main_v32_2 : Ref sig .tc := ⟨.hbm, 50, rfl⟩
abbrev main_v32_3 : Ref sig .tc := ⟨.hbm, 51, rfl⟩
abbrev main_v32_4 : Ref sig .tc := ⟨.hbm, 52, rfl⟩
abbrev main_v32_5 : Ref sig .tc := ⟨.hbm, 53, rfl⟩
abbrev main_v32_6 : Ref sig .tc := ⟨.hbm, 54, rfl⟩
abbrev main_v32_7 : Ref sig .tc := ⟨.hbm, 55, rfl⟩
abbrev main_cst_5 : Ref sig .tc := ⟨.hbm, 56, rfl⟩
abbrev main_v33 : Ref sig .tc := ⟨.hbm, 57, rfl⟩
abbrev main_v34 : Ref sig .tc := ⟨.hbm, 58, rfl⟩
abbrev main_cst_6 : Ref sig .tc := ⟨.hbm, 59, rfl⟩
abbrev main_v35 : Ref sig .tc := ⟨.hbm, 60, rfl⟩
abbrev main_v36 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg16_0 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem11_0 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem16_0 : DmaSem sig := 23

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c3_i32 : BitVec 32 := 3#32
  let v3 : BitVec 32 := Scalar.addi arg0 c3_i32
  let c1_i32 : BitVec 32 := 1#32
  let v4 : BitVec 32 := Scalar.subi v3 c1_i32
  let c8_i32 : BitVec 32 := 8#32
  let v5 : BitVec 1 := Scalar.cmpi .slt v4 c8_i32
  let v6 : BitVec 32 := Scalar.extui v5
  let c0_i32_1 : BitVec 32 := 0#32
  let v7 : BitVec 1 := Scalar.cmpi .ne v6 c0_i32_1
  v7

def k0_off1 (i : grid0.Coords) : Fin 2 → Nat :=
  let c0_i32_197 : BitVec 32 := 0#32
  let arg0 : BitVec 32 := BitVec.ofNat 32 (i 0).val
  let c3_i32_187 : BitVec 32 := 3#32
  let v312 : BitVec 32 := Scalar.addi arg0 c3_i32_187
  let c1_i32_188 : BitVec 32 := 1#32
  let v313 : BitVec 32 := Scalar.subi v312 c1_i32_188
  let c3_i32_189 : BitVec 32 := 3#32
  let c0_i32_190 : BitVec 32 := 0#32
  let v314 : BitVec 1 := Scalar.cmpi .eq c3_i32_189 c0_i32_190
  let c1_i32_191 : BitVec 32 := 1#32
  let v315 : BitVec 32 := Scalar.select v314 c1_i32_191 c3_i32_189
  let v316 : BitVec 32 := Scalar.remsi v313 v315
  let c0_i32_193 : BitVec 32 := 0#32
  let v318 : BitVec 1 := Scalar.cmpi .slt v316 c0_i32_193
  let c0_i32_194 : BitVec 32 := 0#32
  let v319 : BitVec 1 := Scalar.cmpi .slt v315 c0_i32_194
  let v320 : BitVec 1 := Scalar.xori v318 v319
  let c0_i32_192 : BitVec 32 := 0#32
  let v317 : BitVec 1 := Scalar.cmpi .ne v316 c0_i32_192
  let v321 : BitVec 1 := Scalar.andi v320 v317
  let v322 : BitVec 32 := Scalar.addi v316 v315
  let v323 : BitVec 32 := Scalar.select v321 v322 v316
  ![0, v323.toNat]
def k0_off2 (i : grid0.Coords) : Fin 4 → Nat :=
  let c0_i32_196 : BitVec 32 := 0#32
  let arg0 : BitVec 32 := BitVec.ofNat 32 (i 0).val
  let c3_i32_187 : BitVec 32 := 3#32
  let v312 : BitVec 32 := Scalar.addi arg0 c3_i32_187
  let c1_i32_188 : BitVec 32 := 1#32
  let v313 : BitVec 32 := Scalar.subi v312 c1_i32_188
  let c3_i32_189 : BitVec 32 := 3#32
  let c0_i32_190 : BitVec 32 := 0#32
  let v314 : BitVec 1 := Scalar.cmpi .eq c3_i32_189 c0_i32_190
  let c1_i32_191 : BitVec 32 := 1#32
  let v315 : BitVec 32 := Scalar.select v314 c1_i32_191 c3_i32_189
  let v316 : BitVec 32 := Scalar.remsi v313 v315
  let c0_i32_193 : BitVec 32 := 0#32
  let v318 : BitVec 1 := Scalar.cmpi .slt v316 c0_i32_193
  let c0_i32_194 : BitVec 32 := 0#32
  let v319 : BitVec 1 := Scalar.cmpi .slt v315 c0_i32_194
  let v320 : BitVec 1 := Scalar.xori v318 v319
  let c0_i32_192 : BitVec 32 := 0#32
  let v317 : BitVec 1 := Scalar.cmpi .ne v316 c0_i32_192
  let v321 : BitVec 1 := Scalar.andi v320 v317
  let v322 : BitVec 32 := Scalar.addi v316 v315
  let v323 : BitVec 32 := Scalar.select v321 v322 v316
  let c0_i32_198 : BitVec 32 := 0#32
  let c0_i32_199 : BitVec 32 := 0#32
  ![0, v323.toNat, 0, 0]
def k0_off3 (i : grid0.Coords) : Fin 2 → Nat :=
  let arg0 : BitVec 32 := BitVec.ofNat 32 (i 0).val
  let c3_i32_187 : BitVec 32 := 3#32
  let v312 : BitVec 32 := Scalar.addi arg0 c3_i32_187
  let c1_i32_188 : BitVec 32 := 1#32
  let v313 : BitVec 32 := Scalar.subi v312 c1_i32_188
  let c512_i32_195 : BitVec 32 := 512#32
  let v324 : BitVec 32 := Scalar.muli v313 c512_i32_195
  let c0_i32_200 : BitVec 32 := 0#32
  ![v324.toNat, 0]
def k0_off4 (i : grid0.Coords) : Fin 2 → Nat :=
  let c1_i32_211 : BitVec 32 := 1#32
  let arg0 : BitVec 32 := BitVec.ofNat 32 (i 0).val
  let c3_i32_201 : BitVec 32 := 3#32
  let v330 : BitVec 32 := Scalar.addi arg0 c3_i32_201
  let c1_i32_202 : BitVec 32 := 1#32
  let v331 : BitVec 32 := Scalar.subi v330 c1_i32_202
  let c3_i32_203 : BitVec 32 := 3#32
  let c0_i32_204 : BitVec 32 := 0#32
  let v332 : BitVec 1 := Scalar.cmpi .eq c3_i32_203 c0_i32_204
  let c1_i32_205 : BitVec 32 := 1#32
  let v333 : BitVec 32 := Scalar.select v332 c1_i32_205 c3_i32_203
  let v334 : BitVec 32 := Scalar.remsi v331 v333
  let c0_i32_207 : BitVec 32 := 0#32
  let v336 : BitVec 1 := Scalar.cmpi .slt v334 c0_i32_207
  let c0_i32_208 : BitVec 32 := 0#32
  let v337 : BitVec 1 := Scalar.cmpi .slt v333 c0_i32_208
  let v338 : BitVec 1 := Scalar.xori v336 v337
  let c0_i32_206 : BitVec 32 := 0#32
  let v335 : BitVec 1 := Scalar.cmpi .ne v334 c0_i32_206
  let v339 : BitVec 1 := Scalar.andi v338 v335
  let v340 : BitVec 32 := Scalar.addi v334 v333
  let v341 : BitVec 32 := Scalar.select v339 v340 v334
  ![1, v341.toNat]
def k0_off5 (i : grid0.Coords) : Fin 4 → Nat :=
  let c1_i32_210 : BitVec 32 := 1#32
  let arg0 : BitVec 32 := BitVec.ofNat 32 (i 0).val
  let c3_i32_201 : BitVec 32 := 3#32
  let v330 : BitVec 32 := Scalar.addi arg0 c3_i32_201
  let c1_i32_202 : BitVec 32 := 1#32
  let v331 : BitVec 32 := Scalar.subi v330 c1_i32_202
  let c3_i32_203 : BitVec 32 := 3#32
  let c0_i32_204 : BitVec 32 := 0#32
  let v332 : BitVec 1 := Scalar.cmpi .eq c3_i32_203 c0_i32_204
  let c1_i32_205 : BitVec 32 := 1#32
  let v333 : BitVec 32 := Scalar.select v332 c1_i32_205 c3_i32_203
  let v334 : BitVec 32 := Scalar.remsi v331 v333
  let c0_i32_207 : BitVec 32 := 0#32
  let v336 : BitVec 1 := Scalar.cmpi .slt v334 c0_i32_207
  let c0_i32_208 : BitVec 32 := 0#32
  let v337 : BitVec 1 := Scalar.cmpi .slt v333 c0_i32_208
  let v338 : BitVec 1 := Scalar.xori v336 v337
  let c0_i32_206 : BitVec 32 := 0#32
  let v335 : BitVec 1 := Scalar.cmpi .ne v334 c0_i32_206
  let v339 : BitVec 1 := Scalar.andi v338 v335
  let v340 : BitVec 32 := Scalar.addi v334 v333
  let v341 : BitVec 32 := Scalar.select v339 v340 v334
  let c0_i32_212 : BitVec 32 := 0#32
  let c0_i32_213 : BitVec 32 := 0#32
  ![1, v341.toNat, 0, 0]
def k0_off6 (i : grid0.Coords) : Fin 2 → Nat :=
  let c0_i32_125 : BitVec 32 := 0#32
  let arg0 : BitVec 32 := BitVec.ofNat 32 (i 0).val
  let c3_i32_118 : BitVec 32 := 3#32
  let c0_i32_119 : BitVec 32 := 0#32
  let v193 : BitVec 1 := Scalar.cmpi .eq c3_i32_118 c0_i32_119
  let c1_i32_120 : BitVec 32 := 1#32
  let v194 : BitVec 32 := Scalar.select v193 c1_i32_120 c3_i32_118
  let v195 : BitVec 32 := Scalar.remsi arg0 v194
  let c0_i32_122 : BitVec 32 := 0#32
  let v197 : BitVec 1 := Scalar.cmpi .slt v195 c0_i32_122
  let c0_i32_123 : BitVec 32 := 0#32
  let v198 : BitVec 1 := Scalar.cmpi .slt v194 c0_i32_123
  let v199 : BitVec 1 := Scalar.xori v197 v198
  let c0_i32_121 : BitVec 32 := 0#32
  let v196 : BitVec 1 := Scalar.cmpi .ne v195 c0_i32_121
  let v200 : BitVec 1 := Scalar.andi v199 v196
  let v201 : BitVec 32 := Scalar.addi v195 v194
  let v202 : BitVec 32 := Scalar.select v200 v201 v195
  ![0, v202.toNat]
def k0_off7 (i : grid0.Coords) : Fin 4 → Nat :=
  let c0_i32_124 : BitVec 32 := 0#32
  let arg0 : BitVec 32 := BitVec.ofNat 32 (i 0).val
  let c3_i32_118 : BitVec 32 := 3#32
  let c0_i32_119 : BitVec 32 := 0#32
  let v193 : BitVec 1 := Scalar.cmpi .eq c3_i32_118 c0_i32_119
  let c1_i32_120 : BitVec 32 := 1#32
  let v194 : BitVec 32 := Scalar.select v193 c1_i32_120 c3_i32_118
  let v195 : BitVec 32 := Scalar.remsi arg0 v194
  let c0_i32_122 : BitVec 32 := 0#32
  let v197 : BitVec 1 := Scalar.cmpi .slt v195 c0_i32_122
  let c0_i32_123 : BitVec 32 := 0#32
  let v198 : BitVec 1 := Scalar.cmpi .slt v194 c0_i32_123
  let v199 : BitVec 1 := Scalar.xori v197 v198
  let c0_i32_121 : BitVec 32 := 0#32
  let v196 : BitVec 1 := Scalar.cmpi .ne v195 c0_i32_121
  let v200 : BitVec 1 := Scalar.andi v199 v196
  let v201 : BitVec 32 := Scalar.addi v195 v194
  let v202 : BitVec 32 := Scalar.select v200 v201 v195
  let c0_i32_126 : BitVec 32 := 0#32
  let c0_i32_127 : BitVec 32 := 0#32
  ![0, v202.toNat, 0, 0]
def k0_off8 (i : grid0.Coords) : Fin 2 → Nat :=
  let arg0 : BitVec 32 := BitVec.ofNat 32 (i 0).val
  let c512_i32 : BitVec 32 := 512#32
  let v203 : BitVec 32 := Scalar.muli arg0 c512_i32
  let c0_i32_128 : BitVec 32 := 0#32
  ![v203.toNat, 0]
def k0_off9 (i : grid0.Coords) : Fin 2 → Nat :=
  let c1_i32_137 : BitVec 32 := 1#32
  let arg0 : BitVec 32 := BitVec.ofNat 32 (i 0).val
  let c3_i32_129 : BitVec 32 := 3#32
  let c0_i32_130 : BitVec 32 := 0#32
  let v209 : BitVec 1 := Scalar.cmpi .eq c3_i32_129 c0_i32_130
  let c1_i32_131 : BitVec 32 := 1#32
  let v210 : BitVec 32 := Scalar.select v209 c1_i32_131 c3_i32_129
  let v211 : BitVec 32 := Scalar.remsi arg0 v210
  let c0_i32_133 : BitVec 32 := 0#32
  let v213 : BitVec 1 := Scalar.cmpi .slt v211 c0_i32_133
  let c0_i32_134 : BitVec 32 := 0#32
  let v214 : BitVec 1 := Scalar.cmpi .slt v210 c0_i32_134
  let v215 : BitVec 1 := Scalar.xori v213 v214
  let c0_i32_132 : BitVec 32 := 0#32
  let v212 : BitVec 1 := Scalar.cmpi .ne v211 c0_i32_132
  let v216 : BitVec 1 := Scalar.andi v215 v212
  let v217 : BitVec 32 := Scalar.addi v211 v210
  let v218 : BitVec 32 := Scalar.select v216 v217 v211
  ![1, v218.toNat]
def k0_off10 (i : grid0.Coords) : Fin 4 → Nat :=
  let c1_i32_136 : BitVec 32 := 1#32
  let arg0 : BitVec 32 := BitVec.ofNat 32 (i 0).val
  let c3_i32_129 : BitVec 32 := 3#32
  let c0_i32_130 : BitVec 32 := 0#32
  let v209 : BitVec 1 := Scalar.cmpi .eq c3_i32_129 c0_i32_130
  let c1_i32_131 : BitVec 32 := 1#32
  let v210 : BitVec 32 := Scalar.select v209 c1_i32_131 c3_i32_129
  let v211 : BitVec 32 := Scalar.remsi arg0 v210
  let c0_i32_133 : BitVec 32 := 0#32
  let v213 : BitVec 1 := Scalar.cmpi .slt v211 c0_i32_133
  let c0_i32_134 : BitVec 32 := 0#32
  let v214 : BitVec 1 := Scalar.cmpi .slt v210 c0_i32_134
  let v215 : BitVec 1 := Scalar.xori v213 v214
  let c0_i32_132 : BitVec 32 := 0#32
  let v212 : BitVec 1 := Scalar.cmpi .ne v211 c0_i32_132
  let v216 : BitVec 1 := Scalar.andi v215 v212
  let v217 : BitVec 32 := Scalar.addi v211 v210
  let v218 : BitVec 32 := Scalar.select v216 v217 v211
  let c0_i32_138 : BitVec 32 := 0#32
  let c0_i32_139 : BitVec 32 := 0#32
  ![1, v218.toNat, 0, 0]
def k0_off11 (i : grid0.Coords) : Fin 4 → Nat :=
  let c0_147 : Index := 0#32
  let arg0 : BitVec 32 := BitVec.ofNat 32 (i 0).val
  let c3_i32_141 : BitVec 32 := 3#32
  let c0_i32_142 : BitVec 32 := 0#32
  let v225 : BitVec 1 := Scalar.cmpi .eq c3_i32_141 c0_i32_142
  let c1_i32_143 : BitVec 32 := 1#32
  let v226 : BitVec 32 := Scalar.select v225 c1_i32_143 c3_i32_141
  let v227 : BitVec 32 := Scalar.remsi arg0 v226
  let c0_i32_145 : BitVec 32 := 0#32
  let v229 : BitVec 1 := Scalar.cmpi .slt v227 c0_i32_145
  let c0_i32_146 : BitVec 32 := 0#32
  let v230 : BitVec 1 := Scalar.cmpi .slt v226 c0_i32_146
  let v231 : BitVec 1 := Scalar.xori v229 v230
  let c0_i32_144 : BitVec 32 := 0#32
  let v228 : BitVec 1 := Scalar.cmpi .ne v227 c0_i32_144
  let v232 : BitVec 1 := Scalar.andi v231 v228
  let v233 : BitVec 32 := Scalar.addi v227 v226
  let v234 : BitVec 32 := Scalar.select v232 v233 v227
  let v235 : Index := Scalar.indexCast v234
  let c0_148 : Index := 0#32
  let c0_149 : Index := 0#32
  ![0, v235.toNat, 0, 0]
def k0_off12 (i : grid0.Coords) : Fin 4 → Nat :=
  let c1 : Index := 1#32
  let arg0 : BitVec 32 := BitVec.ofNat 32 (i 0).val
  let c3_i32_141 : BitVec 32 := 3#32
  let c0_i32_142 : BitVec 32 := 0#32
  let v225 : BitVec 1 := Scalar.cmpi .eq c3_i32_141 c0_i32_142
  let c1_i32_143 : BitVec 32 := 1#32
  let v226 : BitVec 32 := Scalar.select v225 c1_i32_143 c3_i32_141
  let v227 : BitVec 32 := Scalar.remsi arg0 v226
  let c0_i32_145 : BitVec 32 := 0#32
  let v229 : BitVec 1 := Scalar.cmpi .slt v227 c0_i32_145
  let c0_i32_146 : BitVec 32 := 0#32
  let v230 : BitVec 1 := Scalar.cmpi .slt v226 c0_i32_146
  let v231 : BitVec 1 := Scalar.xori v229 v230
  let c0_i32_144 : BitVec 32 := 0#32
  let v228 : BitVec 1 := Scalar.cmpi .ne v227 c0_i32_144
  let v232 : BitVec 1 := Scalar.andi v231 v228
  let v233 : BitVec 32 := Scalar.addi v227 v226
  let v234 : BitVec 32 := Scalar.select v232 v233 v227
  let v238 : Index := Scalar.indexCast v234
  let c0_150 : Index := 0#32
  let c0_151 : Index := 0#32
  ![1, v238.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S256x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S8x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S8x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== CrossRefIdeal.lean ====
abbrev S4096x1024 : Shape := ⟨2, ![4096, 1024]⟩
abbrev S256x1024 : Shape := ⟨2, ![256, 1024]⟩
abbrev S1024x1024 : Shape := ⟨2, ![1024, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1x4096x4x256 : Shape := ⟨4, ![1, 4096, 4, 256]⟩
abbrev S1x256x4x256 : Shape := ⟨4, ![1, 256, 4, 256]⟩
abbrev S1x4x4096x256 : Shape := ⟨4, ![1, 4, 4096, 256]⟩
abbrev S1x4x4096 : Shape := ⟨3, ![1, 4, 4096]⟩
abbrev S1x4x4096x1 : Shape := ⟨4, ![1, 4, 4096, 1]⟩
abbrev S1x4x256x4096 : Shape := ⟨4, ![1, 4, 256, 4096]⟩
abbrev S1x4x256x256 : Shape := ⟨4, ![1, 4, 256, 256]⟩
abbrev S4x4096 : Shape := ⟨2, ![4, 4096]⟩
abbrev S1024 : Shape := ⟨1, ![1024]⟩

abbrev nBuf : Space → Nat
  | .hbm => 183
  | .vmem => 0
  | .smem => 0
  | _ => 0

abbrev hbmTy0_0 (i : Nat) : BufTy := match i % 128 with
  | 0 => ⟨S4096x1024, .bf16⟩
  | 1 => ⟨S4096x1024, .f32⟩
  | 2 => ⟨S256x1024, .f32⟩
  | 3 => ⟨S256x1024, .f32⟩
  | 4 => ⟨S1024x1024, .f32⟩
  | 5 => ⟨S1024x1024, .f32⟩
  | 6 => ⟨S1x1024, .f32⟩
  | 7 => ⟨S1x1024, .f32⟩
  | 8 => ⟨S4096x1024, .bf16⟩
  | 9 => ⟨S4096x1024, .f32⟩
  | 10 => ⟨S4096x1024, .f32⟩
  | 11 => ⟨S4096x1024, .f32⟩
  | 12 => ⟨S_, .f32⟩
  | 13 => ⟨S4096, .f32⟩
  | 14 => ⟨S4096x1, .f32⟩
  | 15 => ⟨S_, .f32⟩
  | 16 => ⟨S4096x1, .f32⟩
  | 17 => ⟨S4096x1, .f32⟩
  | 18 => ⟨S_, .f32⟩
  | 19 => ⟨S4096x1, .f32⟩
  | 20 => ⟨S4096x1, .f32⟩
  | 21 => ⟨S4096x1, .f32⟩
  | 22 => ⟨S4096x1, .f32⟩
  | 23 => ⟨S_, .f32⟩
  | 24 => ⟨S4096x1, .f32⟩
  | 25 => ⟨S4096x1, .f32⟩
  | 26 => ⟨S4096x1024, .f32⟩
  | 27 => ⟨S4096x1024, .f32⟩
  | 28 => ⟨S4096x1024, .f32⟩
  | 29 => ⟨S4096x1024, .f32⟩
  | 30 => ⟨S4096x1024, .f32⟩
  | 31 => ⟨S4096x1024, .f32⟩
  | 32 => ⟨S_, .f32⟩
  | 33 => ⟨S4096, .f32⟩
  | 34 => ⟨S4096x1, .f32⟩
  | 35 => ⟨S_, .f32⟩
  | 36 => ⟨S4096x1, .f32⟩
  | 37 => ⟨S4096x1, .f32⟩
  | 38 => ⟨S_, .f32⟩
  | 39 => ⟨S4096x1, .f32⟩
  | 40 => ⟨S4096x1, .f32⟩
  | 41 => ⟨S4096x1, .f32⟩
  | 42 => ⟨S4096x1, .f32⟩
  | 43 => ⟨S_, .f32⟩
  | 44 => ⟨S4096x1, .f32⟩
  | 45 => ⟨S4096x1, .f32⟩
  | 46 => ⟨S4096x1024, .f32⟩
  | 47 => ⟨S4096x1024, .f32⟩
  | 48 => ⟨S4096x1024, .f32⟩
  | 49 => ⟨S4096x1024, .f32⟩
  | 50 => ⟨S4096x1024, .f32⟩
  | 51 => ⟨S1x4096x4x256, .f32⟩
  | 52 => ⟨S1x256x4x256, .f32⟩
  | 53 => ⟨S1x256x4x256, .f32⟩
  | 54 => ⟨S1x4x4096x256, .f32⟩
  | 55 => ⟨S_, .f32⟩
  | 56 => ⟨S1x4x4096x256, .f32⟩
  | 57 => ⟨S1x4x4096x256, .f32⟩
  | 58 => ⟨S_, .f32⟩
  | 59 => ⟨S1x4x4096, .f32⟩
  | 60 => ⟨S1x4x4096x1, .f32⟩
  | 61 => ⟨S1x4x4096x256, .f32⟩
  | 62 => ⟨S1x4x4096x256, .i1⟩
  | 63 => ⟨S1x4x4096x256, .f32⟩
  | 64 => ⟨S_, .f32⟩
  | 65 => ⟨S1x4x4096, .f32⟩
  | 66 => ⟨S_, .f32⟩
  | 67 => ⟨S1x4x4096, .f32⟩
  | 68 => ⟨S1x4x4096, .f32⟩
  | 69 => ⟨S_, .f32⟩
  | 70 => ⟨S1x4x4096, .f32⟩
  | 71 => ⟨S1x4x4096, .i1⟩
  | 72 => ⟨S_, .f32⟩
  | 73 => ⟨S1x4x4096, .f32⟩
  | 74 => ⟨S1x4x4096, .i1⟩
  | 75 => ⟨S_, .f32⟩
  | 76 => ⟨S1x4x4096, .f32⟩
  | 77 => ⟨S_, .f32⟩
  | 78 => ⟨S1x4x4096, .f32⟩
  | 79 => ⟨S_, .f32⟩
  | 80 => ⟨S1x4x4096, .f32⟩
  | 81 => ⟨S1x4x4096, .f32⟩
  | 82 => ⟨S1x4x4096, .f32⟩
  | 83 => ⟨S1x4x4096x1, .f32⟩
  | 84 => ⟨S1x4x4096x256, .f32⟩
  | 85 => ⟨S1x4x4096x256, .f32⟩
  | 86 => ⟨S1x4x4096x256, .f32⟩
  | 87 => ⟨S_, .f32⟩
  | 88 => ⟨S1x4x4096, .f32⟩
  | 89 => ⟨S1x4x4096x1, .f32⟩
  | 90 => ⟨S1x4x4096x256, .f32⟩
  | 91 => ⟨S1x4x4096x256, .f32⟩
  | 92 => ⟨S1x4x4096x1, .f32⟩
  | 93 => ⟨S_, .f32⟩
  | 94 => ⟨S1x4x4096x1, .f32⟩
  | 95 => ⟨S1x4x4096x1, .f32⟩
  | 96 => ⟨S1x4x256x4096, .f32⟩
  | 97 => ⟨S1x4096x4x256, .f32⟩
  | 98 => ⟨S4096x1024, .f32⟩
  | 99 => ⟨S4096x1024, .f32⟩
  | 100 => ⟨S1x4096x4x256, .f32⟩
  | 101 => ⟨S1x4x256x4096, .f32⟩
  | 102 => ⟨S1x4x4096x256, .f32⟩
  | 103 => ⟨S1x4x256x256, .f32⟩
  | 104 => ⟨S1x256x4x256, .f32⟩
  | 105 => ⟨S1x4x4096x256, .f32⟩
  | 106 => ⟨S1x4x4096x256, .f32⟩
  | 107 => ⟨S1x4x4096x256, .f32⟩
  | 108 => ⟨S_, .f32⟩
  | 109 => ⟨S1x4x4096, .f32⟩
  | 110 => ⟨S1x4x4096x1, .f32⟩
  | 111 => ⟨S1x4x4096x1, .f32⟩
  | 112 => ⟨S1x4x4096x256, .f32⟩
  | 113 => ⟨S1x4x4096x256, .f32⟩
  | 114 => ⟨S_, .f32⟩
  | 115 => ⟨S4x4096, .f32⟩
  | 116 => ⟨S1x4x4096, .f32⟩
  | 117 => ⟨S1x4x4096x256, .f32⟩
  | 118 => ⟨S1x4x4096x256, .f32⟩
  | 119 => ⟨S1x4x4096x256, .f32⟩
  | 120 => ⟨S_, .f32⟩
  | 121 => ⟨S1x4x4096x256, .f32⟩
  | 122 => ⟨S1x4x4096x256, .f32⟩
  | 123 => ⟨S1x4x256x256, .f32⟩
  | 124 => ⟨S1x256x4x256, .f32⟩
  | 125 => ⟨S1x4x4096x256, .f32⟩
  | 126 => ⟨S1x4096x4x256, .f32⟩
  | 127 => ⟨S256x1024, .f32⟩
  | _ => ⟨S4096x1024, .bf16⟩

abbrev hbmTy0_1 (i : Nat) : BufTy := match i % 128 with
  | 0 => ⟨S256x1024, .f32⟩
  | 1 => ⟨S4096x1024, .f32⟩
  | 2 => ⟨S4096x1024, .f32⟩
  | 3 => ⟨S4096x1024, .f32⟩
  | 4 => ⟨S_, .f32⟩
  | 5 => ⟨S1024, .f32⟩
  | 6 => ⟨S1x1024, .f32⟩
  | 7 => ⟨S4096x1024, .f32⟩
  | 8 => ⟨S4096x1024, .f32⟩
  | 9 => ⟨S4096x1024, .f32⟩
  | 10 => ⟨S_, .f32⟩
  | 11 => ⟨S4096, .f32⟩
  | 12 => ⟨S4096x1, .f32⟩
  | 13 => ⟨S4096x1024, .f32⟩
  | 14 => ⟨S4096x1024, .f32⟩
  | 15 => ⟨S4096x1, .f32⟩
  | 16 => ⟨S_, .f32⟩
  | 17 => ⟨S4096x1, .f32⟩
  | 18 => ⟨S4096x1, .f32⟩
  | 19 => ⟨S_, .f32⟩
  | 20 => ⟨S4096, .f32⟩
  | 21 => ⟨S4096x1024, .f32⟩
  | 22 => ⟨S4096x1024, .f32⟩
  | 23 => ⟨S4096x1024, .f32⟩
  | 24 => ⟨S4096x1024, .f32⟩
  | 25 => ⟨S4096x1024, .f32⟩
  | 26 => ⟨S4096x1024, .f32⟩
  | 27 => ⟨S4096x1024, .f32⟩
  | 28 => ⟨S_, .f32⟩
  | 29 => ⟨S1024, .f32⟩
  | 30 => ⟨S1x1024, .f32⟩
  | 31 => ⟨S4096x1024, .f32⟩
  | 32 => ⟨S4096x1024, .f32⟩
  | 33 => ⟨S4096x1024, .f32⟩
  | 34 => ⟨S_, .f32⟩
  | 35 => ⟨S4096, .f32⟩
  | 36 => ⟨S4096x1, .f32⟩
  | 37 => ⟨S4096x1024, .f32⟩
  | 38 => ⟨S4096x1024, .f32⟩
  | 39 => ⟨S4096x1, .f32⟩
  | 40 => ⟨S_, .f32⟩
  | 41 => ⟨S4096x1, .f32⟩
  | 42 => ⟨S4096x1, .f32⟩
  | 43 => ⟨S_, .f32⟩
  | 44 => ⟨S4096, .f32⟩
  | 45 => ⟨S4096x1024, .f32⟩
  | 46 => ⟨S4096x1024, .f32⟩
  | 47 => ⟨S4096x1024, .f32⟩
  | 48 => ⟨S4096x1024, .f32⟩
  | 49 => ⟨S4096x1024, .f32⟩
  | 50 => ⟨S4096x1024, .f32⟩
  | 51 => ⟨S4096x1024, .f32⟩
  | 52 => ⟨S4096x1024, .bf16⟩
  | 53 => ⟨S4096x1024, .bf16⟩
  | 54 => ⟨S4096x1024, .bf16⟩
  | _ => ⟨S4096x1024, .bf16⟩

abbrev hbmTy (i : Nat) : BufTy := match i / 128 with
  | 0 => hbmTy0_0 i
  | 1 => hbmTy0_1 i
  | _ => ⟨S4096x1024, .bf16⟩

abbrev bufTy : (tb : Table) → Fin (tcTables nBuf tb) → BufTy
  | .hbm, ⟨i, _⟩ => hbmTy i
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_cst_1 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_3 : Ref sig .tc := ⟨.hbm, 32, rfl⟩
abbrev main_v18 : Ref sig .tc := ⟨.hbm, 33, rfl⟩
abbrev main_v19 : Ref sig .tc := ⟨.hbm, 34, rfl⟩
abbrev main_cst_4 : Ref sig .tc := ⟨.hbm, 35, rfl⟩
abbrev main_v20 : Ref sig .tc := ⟨.hbm, 36, rfl⟩
abbrev main_v21 : Ref sig .tc := ⟨.hbm, 37, rfl⟩
abbrev main_cst_5 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_6 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_7 : Ref sig .tc := ⟨.hbm, 55, rfl⟩
abbrev main_v37 : Ref sig .tc := ⟨.hbm, 56, rfl⟩
abbrev main_v38 : Ref sig .tc := ⟨.hbm, 57, rfl⟩
abbrev main_cst_8 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_9 : Ref sig .tc := ⟨.hbm, 64, rfl⟩
abbrev main_v44 : Ref sig .tc := ⟨.hbm, 65, rfl⟩
abbrev main_cst_10 : Ref sig .tc := ⟨.hbm, 66, rfl⟩
abbrev main_v45 : Ref sig .tc := ⟨.hbm, 67, rfl⟩
abbrev main_v46 : Ref sig .tc := ⟨.hbm, 68, rfl⟩
abbrev main_cst_11 : Ref sig .tc := ⟨.hbm, 69, rfl⟩
abbrev main_v47 : Ref sig .tc := ⟨.hbm, 70, rfl⟩
abbrev main_v48 : Ref sig .tc := ⟨.hbm, 71, rfl⟩
abbrev main_cst_12 : Ref sig .tc := ⟨.hbm, 72, rfl⟩
abbrev main_v49 : Ref sig .tc := ⟨.hbm, 73, rfl⟩
abbrev main_v50 : Ref sig .tc := ⟨.hbm, 74, rfl⟩
abbrev main_cst_13 : Ref sig .tc := ⟨.hbm, 75, rfl⟩
abbrev main_v51 : Ref sig .tc := ⟨.hbm, 76, rfl⟩
abbrev main_cst_14 : Ref sig .tc := ⟨.hbm, 77, rfl⟩
abbrev main_v52 : Ref sig .tc := ⟨.hbm, 78, rfl⟩
abbrev main_cst_15 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_cst_16 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_cst_17 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_cst_18 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_cst_19 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_cst_20 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_cst_21 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_cst_22 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_cst_23 : Ref sig .tc := ⟨.hbm, 144, rfl⟩
abbrev main_v110 : Ref sig .tc := ⟨.hbm, 145, rfl⟩
abbrev main_v111 : Ref sig .tc := ⟨.hbm, 146, rfl⟩
abbrev main_cst_24 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev main_v119 : Ref sig .tc := ⟨.hbm, 155, rfl⟩
abbrev main_cst_25 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_cst_26 : Ref sig .tc := ⟨.hbm, 162, rfl⟩
abbrev main_v125 : Ref sig .tc := ⟨.hbm, 163, rfl⟩
abbrev main_v126 : Ref sig .tc := ⟨.hbm, 164, rfl⟩
abbrev main_v127 : Ref sig .tc := ⟨.hbm, 165, rfl⟩
abbrev main_v128 : Ref sig .tc := ⟨.hbm, 166, rfl⟩
abbrev main_v129 : Ref sig .tc := ⟨.hbm, 167, rfl⟩
abbrev main_cst_27 : Ref sig .tc := ⟨.hbm, 168, rfl⟩
abbrev main_v130 : Ref sig .tc := ⟨.hbm, 169, rfl⟩
abbrev main_v131 : Ref sig .tc := ⟨.hbm, 170, rfl⟩
abbrev main_cst_28 : Ref sig .tc := ⟨.hbm, 171, rfl⟩
abbrev main_v132 : Ref sig .tc := ⟨.hbm, 172, rfl⟩
abbrev main_v133 : Ref sig .tc := ⟨.hbm, 173, rfl⟩
abbrev main_v134 : Ref sig .tc := ⟨.hbm, 174, rfl⟩
abbrev main_v135 : Ref sig .tc := ⟨.hbm, 175, rfl⟩
abbrev main_v136 : Ref sig .tc := ⟨.hbm, 176, rfl⟩
abbrev main_v137 : Ref sig .tc := ⟨.hbm, 177, rfl⟩
abbrev main_v138 : Ref sig .tc := ⟨.hbm, 178, rfl⟩
abbrev main_v139 : Ref sig .tc := ⟨.hbm, 179, rfl⟩
abbrev main_v140 : Ref sig .tc := ⟨.hbm, 180, rfl⟩
abbrev main_v141 : Ref sig .tc := ⟨.hbm, 181, rfl⟩
abbrev main_v142 : Ref sig .tc := ⟨.hbm, 182, rfl⟩

abbrev nD : Nat := 1
abbrev τ : Topo := Topo.v7x

variable {F : FTy → Type} [FloatOps F]
-- ==== Memory.lean ====
abbrev S256x1024 : Shape := ⟨2, ![256, 1024]⟩
abbrev S1x1024 : Shape := ⟨2, ![1, 1024]⟩
abbrev S1024x1024 : Shape := ⟨2, ![1024, 1024]⟩
abbrev S256 : Shape := ⟨1, ![256]⟩
abbrev S256x1 : Shape := ⟨2, ![256, 1]⟩
abbrev S8x1024 : Shape := ⟨2, ![8, 1024]⟩
abbrev S32x8x1024 : Shape := ⟨3, ![32, 8, 1024]⟩
abbrev S_ : Shape := ⟨0, ![]⟩
abbrev S1024 : Shape := ⟨1, ![1024]⟩

abbrev nBuf : Space → Nat
  | .hbm => 17
  | .vmem => 16
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S1024x1024, .f32⟩
  | .hbm, ⟨3, _⟩ => ⟨S1024x1024, .f32⟩
  | .hbm, ⟨4, _⟩ => ⟨S256x1024, .f32⟩
  | .hbm, ⟨5, _⟩ => ⟨S256x1024, .f32⟩
  | .hbm, ⟨6, _⟩ => ⟨S1024x1024, .bf16⟩
  | .hbm, ⟨7, _⟩ => ⟨S1024x1024, .bf16⟩
  | .hbm, ⟨8, _⟩ => ⟨S256x1024, .bf16⟩
  | .hbm, ⟨9, _⟩ => ⟨S256x1024, .bf16⟩
  | .hbm, ⟨10, _⟩ => ⟨S256x1024, .bf16⟩
  | .hbm, ⟨11, _⟩ => ⟨S1024x1024, .bf16⟩
  | .hbm, ⟨12, _⟩ => ⟨S1024x1024, .bf16⟩
  | .hbm, ⟨13, _⟩ => ⟨S8x1024, .f32⟩
  | .hbm, ⟨14, _⟩ => ⟨S_, .f32⟩
  | .hbm, ⟨15, _⟩ => ⟨S1024, .f32⟩
  | .hbm, ⟨16, _⟩ => ⟨S1x1024, .f32⟩
  | .local _ .vmem, ⟨0, _⟩ => ⟨S256x1024, .f32⟩
  | .local _ .vmem, ⟨1, _⟩ => ⟨S1x1024, .f32⟩
  | .local _ .vmem, ⟨2, _⟩ => ⟨S1024x1024, .bf16⟩
  | .local _ .vmem, ⟨3, _⟩ => ⟨S1024x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1024x1024, .bf16⟩
  | .local _ .vmem, ⟨15, _⟩ => ⟨S8x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v3_0 : Ref sig .tc := ⟨.hbm, 11, rfl⟩
abbrev main_v3_1 : Ref sig .tc := ⟨.hbm, 12, rfl⟩
abbrev main_v3_2 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc1_stg0_0 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc1_stg7_0 : Ref sig .tc := ⟨.vmem, 14, rfl⟩
abbrev cc1_stg8_0 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc1_sem0_0 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem7_0 : DmaSem sig := 14
abbrev cc1_sem8_0 : DmaSem sig := 15

abbrev nD : Nat := 1
abbrev τ : Topo := Topo.v7x

variable {F : FTy → Type} [FloatOps F]

abbrev grid0 : Pipeline.Grid := .none

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev grid1 : Pipeline.Grid := .none

abbrev stage1_0 : Fin 1 → Memref sig .tc .vmem S256x1024 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S256x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S256x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S256x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S1024x1024 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S1024x1024 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev stage1_6 : Fin 1 → Memref sig .tc .vmem S1024x1024 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))

abbrev stage1_7 : Fin 1 → Memref sig .tc .vmem S1024x1024 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))

abbrev stage1_8 : Fin 1 → Memref sig .tc .vmem S8x1024 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
-- ==== MemoryRefIdeal.lean ====
abbrev S256x1024 : Shape := ⟨2, ![256, 1024]⟩
abbrev S1x1024 : Shape := ⟨2, ![1, 1024]⟩
abbrev S1024x1024 : Shape := ⟨2, ![1024, 1024]⟩
abbrev S_ : Shape := ⟨0, ![]⟩
abbrev S256 : Shape := ⟨1, ![256]⟩
abbrev S256x1 : Shape := ⟨2, ![256, 1]⟩
abbrev S1024 : Shape := ⟨1, ![1024]⟩

abbrev nBuf : Space → Nat
  | .hbm => 36
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S1024x1024, .f32⟩
  | .hbm, ⟨3, _⟩ => ⟨S1024x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S_, .f32⟩
  | .hbm, ⟨8, _⟩ => ⟨S256, .f32⟩
  | .hbm, ⟨9, _⟩ => ⟨S256x1, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S_, .f32⟩
  | .hbm, ⟨14, _⟩ => ⟨S256x1, .f32⟩
  | .hbm, ⟨15, _⟩ => ⟨S256x1, .f32⟩
  | .hbm, ⟨16, _⟩ => ⟨S256x1, .f32⟩
  | .hbm, ⟨17, _⟩ => ⟨S256x1024, .f32⟩
  | .hbm, ⟨18, _⟩ => ⟨S256x1024, .f32⟩
  | .hbm, ⟨19, _⟩ => ⟨S256x1024, .f32⟩
  | .hbm, ⟨20, _⟩ => ⟨S256x1024, .f32⟩
  | .hbm, ⟨21, _⟩ => ⟨S256x1024, .f32⟩
  | .hbm, ⟨22, _⟩ => ⟨S256x1024, .f32⟩
  | .hbm, ⟨23, _⟩ => ⟨S1024x1024, .f32⟩
  | .hbm, ⟨24, _⟩ => ⟨S1024x1024, .f32⟩
  | .hbm, ⟨25, _⟩ => ⟨S256x1024, .f32⟩
  | .hbm, ⟨26, _⟩ => ⟨S1024x1024, .f32⟩
  | .hbm, ⟨27, _⟩ => ⟨S1024x1024, .f32⟩
  | .hbm, ⟨28, _⟩ => ⟨S256x1024, .f32⟩
  | .hbm, ⟨29, _⟩ => ⟨S256x1024, .f32⟩
  | .hbm, ⟨30, _⟩ => ⟨S256x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S1024x1024, .bf16⟩
  | .hbm, ⟨35, _⟩ => ⟨S1024x1024, .bf16⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_2 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩

abbrev nD : Nat := 1
abbrev τ : Topo := Topo.v7x

variable {F : FTy → Type} [FloatOps F]
-- ==== Ffn.lean ====
abbrev S4096x1024 : Shape := ⟨2, ![4096, 1024]⟩
abbrev S1024x2816 : Shape := ⟨2, ![1024, 2816]⟩
abbrev S2816x1024 : Shape := ⟨2, ![2816, 1024]⟩
abbrev S1024x1024 : Shape := ⟨2, ![1024, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S4096x2816 : Shape := ⟨2, ![4096, 2816]⟩
abbrev S8x1024 : Shape := ⟨2, ![8, 1024]⟩
abbrev S256x1024 : Shape := ⟨2, ![256, 1024]⟩
abbrev S256x2816 : Shape := ⟨2, ![256, 2816]⟩
abbrev S256 : Shape := ⟨1, ![256]⟩
abbrev S256x1 : Shape := ⟨2, ![256, 1]⟩
abbrev S32x8x1024 : Shape := ⟨3, ![32, 8, 1024]⟩
abbrev S1024 : Shape := ⟨1, ![1024]⟩

abbrev nBuf : Space → Nat
  | .hbm => 73
  | .vmem => 33
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S4096x1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S1024x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S4096, .f32⟩
  | .hbm, ⟨30, _⟩ => ⟨S4096x1, .f32⟩
  | .hbm, ⟨31, _⟩ => ⟨S_, .f32⟩
  | .hbm, ⟨32, _⟩ => ⟨S4096x1, .f32⟩
  | .hbm, ⟨33, _⟩ => ⟨S4096x1, .f32⟩
  | .hbm, ⟨34, _⟩ => ⟨S_, .f32⟩
  | .hbm, ⟨35, _⟩ => ⟨S4096x1, .f32⟩
  | .hbm, ⟨36, _⟩ => ⟨S4096x1, .f32⟩
  | .hbm, ⟨37, _⟩ => ⟨S4096x1, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .bf16⟩
  | .hbm, ⟨43, _⟩ => ⟨S2816x1024, .f32⟩
  | .hbm, ⟨44, _⟩ => ⟨S2816x1024, .bf16⟩
  | .hbm, ⟨45, _⟩ => ⟨S2816x1024, .f32⟩
  | .hbm, ⟨46, _⟩ => ⟨S2816x1024, .bf16⟩
  | .hbm, ⟨47, _⟩ => ⟨S2816x1024, .bf16⟩
  | .hbm, ⟨48, _⟩ => ⟨S1024x1024, .bf16⟩
  | .hbm, ⟨49, _⟩ => ⟨S4096x2816, .bf16⟩
  | .hbm, ⟨50, _⟩ => ⟨S4096x1024, .bf16⟩
  | .hbm, ⟨51, _⟩ => ⟨S4096x2816, .bf16⟩
  | .hbm, ⟨52, _⟩ => ⟨S4096x2816, .bf16⟩
  | .hbm, ⟨53, _⟩ => ⟨S4096x1024, .f32⟩
  | .hbm, ⟨54, _⟩ => ⟨S4096x1024, .bf16⟩
  | .hbm, ⟨55, _⟩ => ⟨S4096x1024, .bf16⟩
  | .hbm, ⟨56, _⟩ => ⟨S8x1024, .f32⟩
  | .hbm, ⟨57, _⟩ => ⟨S8x1024, .f32⟩
  | .hbm, ⟨58, _⟩ => ⟨S8x1024, .f32⟩
  | .hbm, ⟨59, _⟩ => ⟨S8x1024, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S1024, .f32⟩
  | .hbm, ⟨66, _⟩ => ⟨S1x1024, .f32⟩
  | .hbm, ⟨67, _⟩ => ⟨S_, .f32⟩
  | .hbm, ⟨68, _⟩ => ⟨S1024, .f32⟩
  | .hbm, ⟨69, _⟩ => ⟨S1x1024, .f32⟩
  | .hbm, ⟨70, _⟩ => ⟨S_, .f32⟩
  | .hbm, ⟨71, _⟩ => ⟨S1024, .f32⟩
  | .hbm, ⟨72, _⟩ => ⟨S1x1024, .f32⟩
  | .local _ .vmem, ⟨0, _⟩ => ⟨S256x1024, .bf16⟩
  | .local _ .vmem, ⟨1, _⟩ => ⟨S256x1024, .bf16⟩
  | .local _ .vmem, ⟨2, _⟩ => ⟨S2816x1024, .bf16⟩
  | .local _ .vmem, ⟨3, _⟩ => ⟨S2816x1024, .bf16⟩
  | .local _ .vmem, ⟨4, _⟩ => ⟨S2816x1024, .bf16⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S1x1024, .f32⟩
  | .local _ .vmem, ⟨10, _⟩ => ⟨S256x1024, .bf16⟩
  | .local _ .vmem, ⟨11, _⟩ => ⟨S256x1024, .bf16⟩
  | .local _ .vmem, ⟨12, _⟩ => ⟨S1x1024, .f32⟩
  | .local _ .vmem, ⟨13, _⟩ => ⟨S1x1024, .f32⟩
  | .local _ .vmem, ⟨14, _⟩ => ⟨S1024x1024, .bf16⟩
  | .local _ .vmem, ⟨15, _⟩ => ⟨S256x2816, .bf16⟩
  | .local _ .vmem, ⟨16, _⟩ => ⟨S256x2816, .bf16⟩
  | .local _ .vmem, ⟨17, _⟩ => ⟨S256x1024, .bf16⟩
  | .local _ .vmem, ⟨18, _⟩ => ⟨S256x1024, .bf16⟩
  | .local _ .vmem, ⟨19, _⟩ => ⟨S256x2816, .bf16⟩
  | .local _ .vmem, ⟨20, _⟩ => ⟨S256x2816, .bf16⟩
  | .local _ .vmem, ⟨21, _⟩ => ⟨S256x2816, .bf16⟩
  | .local _ .vmem, ⟨22, _⟩ => ⟨S256x2816, .bf16⟩
  | .local _ .vmem, ⟨23, _⟩ => ⟨S256x1024, .f32⟩
  | .local _ .vmem, ⟨24, _⟩ => ⟨S256x1024, .f32⟩
  | .local _ .vmem, ⟨25, _⟩ => ⟨S256x1024, .bf16⟩
  | .local _ .vmem, ⟨26, _⟩ => ⟨S256x1024, .bf16⟩
  | .local _ .vmem, ⟨27, _⟩ => ⟨S256x1024, .bf16⟩
  | .local _ .vmem, ⟨28, _⟩ => ⟨S256x1024, .bf16⟩
  | .local _ .vmem, ⟨29, _⟩ => ⟨S8x1024, .f32⟩
  | .local _ .vmem, ⟨30, _⟩ => ⟨S8x1024, .f32⟩
  | .local _ .vmem, ⟨31, _⟩ => ⟨S8x1024, .f32⟩
  | .local _ .vmem, ⟨32, _⟩ => ⟨S8x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_cst_1 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_2 : Ref sig .tc := ⟨.hbm, 28, rfl⟩
abbrev main_v15 : Ref sig .tc := ⟨.hbm, 29, rfl⟩
abbrev main_v16 : Ref sig .tc := ⟨.hbm, 30, rfl⟩
abbrev main_cst_3 : Ref sig .tc := ⟨.hbm, 31, rfl⟩
abbrev main_v17 : Ref sig .tc := ⟨.hbm, 32, rfl⟩
abbrev main_v18 : Ref sig .tc := ⟨.hbm, 33, rfl⟩
abbrev main_cst_4 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33_0 : Ref sig .tc := ⟨.hbm, 49, rfl⟩
abbrev main_v33_1 : Ref sig .tc := ⟨.hbm, 50, rfl⟩
abbrev main_v33_2 : Ref sig .tc := ⟨.hbm, 51, rfl⟩
abbrev main_v33_3 : Ref sig .tc := ⟨.hbm, 52, rfl⟩
abbrev main_v33_4 : Ref sig .tc := ⟨.hbm, 53, rfl⟩
abbrev main_v33_5 : Ref sig .tc := ⟨.hbm, 54, rfl⟩
abbrev main_v33_6 : Ref sig .tc := ⟨.hbm, 55, rfl⟩
abbrev main_v33_7 : Ref sig .tc := ⟨.hbm, 56, rfl⟩
abbrev main_v33_8 : Ref sig .tc := ⟨.hbm, 57, rfl⟩
abbrev main_v33_9 : Ref sig .tc := ⟨.hbm, 58, rfl⟩
abbrev main_v33_10 : Ref sig .tc := ⟨.hbm, 59, rfl⟩
abbrev main_cst_5 : Ref sig .tc := ⟨.hbm, 60, rfl⟩
abbrev main_v34 : Ref sig .tc := ⟨.hbm, 61, rfl⟩
abbrev main_cst_6 : Ref sig .tc := ⟨.hbm, 62, rfl⟩
abbrev main_v35 : Ref sig .tc := ⟨.hbm, 63, rfl⟩
abbrev main_cst_7 : Ref sig .tc := ⟨.hbm, 64, rfl⟩
abbrev main_v36 : Ref sig .tc := ⟨.hbm, 65, rfl⟩
abbrev main_v37 : Ref sig .tc := ⟨.hbm, 66, rfl⟩
abbrev main_cst_8 : Ref sig .tc := ⟨.hbm, 67, rfl⟩
abbrev main_v38 : Ref sig .tc := ⟨.hbm, 68, rfl⟩
abbrev main_v39 : Ref sig .tc := ⟨.hbm, 69, rfl⟩
abbrev main_cst_9 : Ref sig .tc := ⟨.hbm, 70, rfl⟩
abbrev main_v40 : Ref sig .tc := ⟨.hbm, 71, rfl⟩
abbrev main_v41 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_stg17_1 : Ref sig .tc := ⟨.vmem, 28, rfl⟩
abbrev cc0_stg18_0 : Ref sig .tc := ⟨.vmem, 29, rfl⟩
abbrev cc0_stg19_0 : Ref sig .tc := ⟨.vmem, 30, rfl⟩
abbrev cc0_stg20_0 : Ref sig .tc := ⟨.vmem, 31, rfl⟩
abbrev cc0_stg21_0 : Ref sig .tc := ⟨.vmem, 32, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26
abbrev cc0_sem17_0 : DmaSem sig := 27
abbrev cc0_sem17_1 : DmaSem sig := 28
abbrev cc0_sem18_0 : DmaSem sig := 29
abbrev cc0_sem19_0 : DmaSem sig := 30
abbrev cc0_sem20_0 : DmaSem sig := 31
abbrev cc0_sem21_0 : DmaSem sig := 32

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x2816 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x2816 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x2816 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 1 → Memref sig .tc .vmem S8x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S8x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S8x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S8x1024 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]
-- ==== FfnRefIdeal.lean ====
abbrev S4096x1024 : Shape := ⟨2, ![4096, 1024]⟩
abbrev S1024x2816 : Shape := ⟨2, ![1024, 2816]⟩
abbrev S2816x1024 : Shape := ⟨2, ![2816, 1024]⟩
abbrev S1024x1024 : Shape := ⟨2, ![1024, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S4096x2816 : Shape := ⟨2, ![4096, 2816]⟩
abbrev S1024 : Shape := ⟨1, ![1024]⟩

abbrev nBuf : Space → Nat
  | .hbm => 198
  | .vmem => 0
  | .smem => 0
  | _ => 0

abbrev hbmTy0_0 (i : Nat) : BufTy := match i % 128 with
  | 0 => ⟨S4096x1024, .bf16⟩
  | 1 => ⟨S4096x1024, .f32⟩
  | 2 => ⟨S4096x1024, .f32⟩
  | 3 => ⟨S1024x2816, .f32⟩
  | 4 => ⟨S1024x2816, .f32⟩
  | 5 => ⟨S2816x1024, .f32⟩
  | 6 => ⟨S1024x1024, .f32⟩
  | 7 => ⟨S1x1024, .f32⟩
  | 8 => ⟨S1x1024, .f32⟩
  | 9 => ⟨S1x1024, .f32⟩
  | 10 => ⟨S4096x1024, .f32⟩
  | 11 => ⟨S4096x1024, .f32⟩
  | 12 => ⟨S_, .f32⟩
  | 13 => ⟨S4096, .f32⟩
  | 14 => ⟨S4096x1, .f32⟩
  | 15 => ⟨S_, .f32⟩
  | 16 => ⟨S4096x1, .f32⟩
  | 17 => ⟨S4096x1, .f32⟩
  | 18 => ⟨S_, .f32⟩
  | 19 => ⟨S4096x1, .f32⟩
  | 20 => ⟨S4096x1, .f32⟩
  | 21 => ⟨S4096x1, .f32⟩
  | 22 => ⟨S4096x1, .f32⟩
  | 23 => ⟨S_, .f32⟩
  | 24 => ⟨S4096x1, .f32⟩
  | 25 => ⟨S4096x1, .f32⟩
  | 26 => ⟨S4096x1024, .f32⟩
  | 27 => ⟨S4096x1024, .f32⟩
  | 28 => ⟨S4096x1024, .f32⟩
  | 29 => ⟨S4096x1024, .f32⟩
  | 30 => ⟨S4096x1024, .f32⟩
  | 31 => ⟨S4096x1024, .f32⟩
  | 32 => ⟨S_, .f32⟩
  | 33 => ⟨S4096, .f32⟩
  | 34 => ⟨S4096x1, .f32⟩
  | 35 => ⟨S_, .f32⟩
  | 36 => ⟨S4096x1, .f32⟩
  | 37 => ⟨S4096x1, .f32⟩
  | 38 => ⟨S_, .f32⟩
  | 39 => ⟨S4096x1, .f32⟩
  | 40 => ⟨S4096x1, .f32⟩
  | 41 => ⟨S4096x1, .f32⟩
  | 42 => ⟨S4096x1, .f32⟩
  | 43 => ⟨S_, .f32⟩
  | 44 => ⟨S4096x1, .f32⟩
  | 45 => ⟨S4096x1, .f32⟩
  | 46 => ⟨S4096x1024, .f32⟩
  | 47 => ⟨S4096x1024, .f32⟩
  | 48 => ⟨S4096x1024, .f32⟩
  | 49 => ⟨S4096x1024, .f32⟩
  | 50 => ⟨S4096x2816, .f32⟩
  | 51 => ⟨S4096x2816, .f32⟩
  | 52 => ⟨S4096x2816, .f32⟩
  | 53 => ⟨S4096x2816, .f32⟩
  | 54 => ⟨S_, .f32⟩
  | 55 => ⟨S4096x2816, .f32⟩
  | 56 => ⟨S4096x2816, .f32⟩
  | 57 => ⟨S_, .f32⟩
  | 58 => ⟨S4096x2816, .f32⟩
  | 59 => ⟨S4096x2816, .f32⟩
  | 60 => ⟨S_, .f32⟩
  | 61 => ⟨S4096x2816, .f32⟩
  | 62 => ⟨S4096x2816, .f32⟩
  | 63 => ⟨S4096x2816, .f32⟩
  | 64 => ⟨S4096x2816, .f32⟩
  | 65 => ⟨S4096x2816, .f32⟩
  | 66 => ⟨S4096x1024, .f32⟩
  | 67 => ⟨S4096x1024, .f32⟩
  | 68 => ⟨S_, .f32⟩
  | 69 => ⟨S4096, .f32⟩
  | 70 => ⟨S4096x1, .f32⟩
  | 71 => ⟨S_, .f32⟩
  | 72 => ⟨S4096x1, .f32⟩
  | 73 => ⟨S4096x1, .f32⟩
  | 74 => ⟨S_, .f32⟩
  | 75 => ⟨S4096x1, .f32⟩
  | 76 => ⟨S4096x1, .f32⟩
  | 77 => ⟨S4096x1, .f32⟩
  | 78 => ⟨S4096x1, .f32⟩
  | 79 => ⟨S_, .f32⟩
  | 80 => ⟨S4096x1, .f32⟩
  | 81 => ⟨S4096x1, .f32⟩
  | 82 => ⟨S4096x1024, .f32⟩
  | 83 => ⟨S4096x1024, .f32⟩
  | 84 => ⟨S4096x1024, .f32⟩
  | 85 => ⟨S4096x1024, .f32⟩
  | 86 => ⟨S4096x1024, .f32⟩
  | 87 => ⟨S4096x1024, .f32⟩
  | 88 => ⟨S4096x1024, .f32⟩
  | 89 => ⟨S_, .f32⟩
  | 90 => ⟨S4096x1024, .f32⟩
  | 91 => ⟨S4096x1024, .f32⟩
  | 92 => ⟨S_, .f32⟩
  | 93 => ⟨S4096, .f32⟩
  | 94 => ⟨S_, .f32⟩
  | 95 => ⟨S4096, .f32⟩
  | 96 => ⟨S4096, .f32⟩
  | 97 => ⟨S_, .f32⟩
  | 98 => ⟨S_, .f32⟩
  | 99 => ⟨S_, .f32⟩
  | 100 => ⟨S_, .f32⟩
  | 101 => ⟨S_, .f32⟩
  | 102 => ⟨S_, .f32⟩
  | 103 => ⟨S_, .f32⟩
  | 104 => ⟨S4096, .f32⟩
  | 105 => ⟨S_, .f32⟩
  | 106 => ⟨S4096, .f32⟩
  | 107 => ⟨S4096, .f32⟩
  | 108 => ⟨S4096x1024, .f32⟩
  | 109 => ⟨S4096x1024, .f32⟩
  | 110 => ⟨S4096x1024, .f32⟩
  | 111 => ⟨S_, .f32⟩
  | 112 => ⟨S1024, .f32⟩
  | 113 => ⟨S1x1024, .f32⟩
  | 114 => ⟨S4096x1024, .f32⟩
  | 115 => ⟨S4096x1024, .f32⟩
  | 116 => ⟨S4096x1024, .f32⟩
  | 117 => ⟨S_, .f32⟩
  | 118 => ⟨S4096, .f32⟩
  | 119 => ⟨S4096x1, .f32⟩
  | 120 => ⟨S4096x1024, .f32⟩
  | 121 => ⟨S4096x1024, .f32⟩
  | 122 => ⟨S4096x1, .f32⟩
  | 123 => ⟨S_, .f32⟩
  | 124 => ⟨S4096x1, .f32⟩
  | 125 => ⟨S4096x1, .f32⟩
  | 126 => ⟨S_, .f32⟩
  | 127 => ⟨S4096, .f32⟩
  | _ => ⟨S4096x1024, .bf16⟩

abbrev hbmTy0_1 (i : Nat) : BufTy := match i % 128 with
  | 0 => ⟨S4096x1024, .f32⟩
  | 1 => ⟨S4096x1024, .f32⟩
  | 2 => ⟨S4096x1024, .f32⟩
  | 3 => ⟨S4096x1024, .f32⟩
  | 4 => ⟨S4096x1024, .f32⟩
  | 5 => ⟨S4096x2816, .f32⟩
  | 6 => ⟨S4096x2816, .f32⟩
  | 7 => ⟨S4096x2816, .f32⟩
  | 8 => ⟨S4096x2816, .f32⟩
  | 9 => ⟨S4096x2816, .f32⟩
  | 10 => ⟨S4096x2816, .f32⟩
  | 11 => ⟨S4096x2816, .f32⟩
  | 12 => ⟨S4096x1024, .f32⟩
  | 13 => ⟨S4096x1024, .f32⟩
  | 14 => ⟨S4096x1024, .f32⟩
  | 15 => ⟨S4096x1024, .f32⟩
  | 16 => ⟨S_, .f32⟩
  | 17 => ⟨S1024, .f32⟩
  | 18 => ⟨S1x1024, .f32⟩
  | 19 => ⟨S4096x1024, .f32⟩
  | 20 => ⟨S4096x1024, .f32⟩
  | 21 => ⟨S4096x1024, .f32⟩
  | 22 => ⟨S_, .f32⟩
  | 23 => ⟨S4096, .f32⟩
  | 24 => ⟨S4096x1, .f32⟩
  | 25 => ⟨S4096x1024, .f32⟩
  | 26 => ⟨S4096x1024, .f32⟩
  | 27 => ⟨S4096x1, .f32⟩
  | 28 => ⟨S_, .f32⟩
  | 29 => ⟨S4096x1, .f32⟩
  | 30 => ⟨S4096x1, .f32⟩
  | 31 => ⟨S_, .f32⟩
  | 32 => ⟨S4096, .f32⟩
  | 33 => ⟨S4096x1024, .f32⟩
  | 34 => ⟨S4096x1024, .f32⟩
  | 35 => ⟨S4096x1024, .f32⟩
  | 36 => ⟨S4096x1024, .f32⟩
  | 37 => ⟨S4096x1024, .f32⟩
  | 38 => ⟨S4096x1024, .f32⟩
  | 39 => ⟨S4096x1024, .f32⟩
  | 40 => ⟨S_, .f32⟩
  | 41 => ⟨S1024, .f32⟩
  | 42 => ⟨S1x1024, .f32⟩
  | 43 => ⟨S4096x1024, .f32⟩
  | 44 => ⟨S4096x1024, .f32⟩
  | 45 => ⟨S4096x1024, .f32⟩
  | 46 => ⟨S_, .f32⟩
  | 47 => ⟨S4096, .f32⟩
  | 48 => ⟨S4096x1, .f32⟩
  | 49 => ⟨S4096x1024, .f32⟩
  | 50 => ⟨S4096x1024, .f32⟩
  | 51 => ⟨S4096x1, .f32⟩
  | 52 => ⟨S_, .f32⟩
  | 53 => ⟨S4096x1, .f32⟩
  | 54 => ⟨S4096x1, .f32⟩
  | 55 => ⟨S_, .f32⟩
  | 56 => ⟨S4096, .f32⟩
  | 57 => ⟨S4096x1024, .f32⟩
  | 58 => ⟨S4096x1024, .f32⟩
  | 59 => ⟨S4096x1024, .f32⟩
  | 60 => ⟨S4096x1024, .f32⟩
  | 61 => ⟨S4096x1024, .f32⟩
  | 62 => ⟨S4096x1024, .f32⟩
  | 63 => ⟨S4096x1024, .f32⟩
  | 64 => ⟨S4096x2816, .bf16⟩
  | 65 => ⟨S4096x1024, .bf16⟩
  | 66 => ⟨S4096x2816, .bf16⟩
  | 67 => ⟨S4096x2816, .bf16⟩
  | 68 => ⟨S4096x1024, .bf16⟩
  | 69 => ⟨S4096x1024, .bf16⟩
  | _ => ⟨S4096x1024, .bf16⟩

abbrev hbmTy (i : Nat) : BufTy := match i / 128 with
  | 0 => hbmTy0_0 i
  | 1 => hbmTy0_1 i
  | _ => ⟨S4096x1024, .bf16⟩

abbrev bufTy : (tb : Table) → Fin (tcTables nBuf tb) → BufTy
  | .hbm, ⟨i, _⟩ => hbmTy i
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_cst_1 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_3 : Ref sig .tc := ⟨.hbm, 32, rfl⟩
abbrev main_v18 : Ref sig .tc := ⟨.hbm, 33, rfl⟩
abbrev main_v19 : Ref sig .tc := ⟨.hbm, 34, rfl⟩
abbrev main_cst_4 : Ref sig .tc := ⟨.hbm, 35, rfl⟩
abbrev main_v20 : Ref sig .tc := ⟨.hbm, 36, rfl⟩
abbrev main_v21 : Ref sig .tc := ⟨.hbm, 37, rfl⟩
abbrev main_cst_5 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_6 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_call0_v0 : Ref sig .tc := ⟨.hbm, 52, rfl⟩
abbrev main_call0_v1 : Ref sig .tc := ⟨.hbm, 53, rfl⟩
abbrev main_call0_cst : Ref sig .tc := ⟨.hbm, 54, rfl⟩
abbrev main_call0_v2 : Ref sig .tc := ⟨.hbm, 55, rfl⟩
abbrev main_call0_v3 : Ref sig .tc := ⟨.hbm, 56, rfl⟩
abbrev main_call0_cst_0 : Ref sig .tc := ⟨.hbm, 57, rfl⟩
abbrev main_call0_v4 : Ref sig .tc := ⟨.hbm, 58, rfl⟩
abbrev main_v34_2 : Ref sig .tc := ⟨.hbm, 59, rfl⟩
abbrev main_call0_cst_1 : Ref sig .tc := ⟨.hbm, 60, rfl⟩
abbrev main_call0_v6 : Ref sig .tc := ⟨.hbm, 61, rfl⟩
abbrev main_call0_v7 : Ref sig .tc := ⟨.hbm, 62, rfl⟩
abbrev main_v34_1 : Ref sig .tc := ⟨.hbm, 63, rfl⟩
abbrev main_v34_0 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_cst_7 : Ref sig .tc := ⟨.hbm, 68, rfl⟩
abbrev main_v38 : Ref sig .tc := ⟨.hbm, 69, rfl⟩
abbrev main_v39 : Ref sig .tc := ⟨.hbm, 70, rfl⟩
abbrev main_cst_8 : Ref sig .tc := ⟨.hbm, 71, rfl⟩
abbrev main_v40 : Ref sig .tc := ⟨.hbm, 72, rfl⟩
abbrev main_v41 : Ref sig .tc := ⟨.hbm, 73, rfl⟩
abbrev main_cst_9 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_cst_10 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_cst_11 : Ref sig .tc := ⟨.hbm, 89, rfl⟩
abbrev main_v55 : Ref sig .tc := ⟨.hbm, 90, rfl⟩
abbrev main_v56 : Ref sig .tc := ⟨.hbm, 91, rfl⟩
abbrev main_cst_12 : Ref sig .tc := ⟨.hbm, 92, rfl⟩
abbrev main_v57 : Ref sig .tc := ⟨.hbm, 93, rfl⟩
abbrev main_cst_13 : Ref sig .tc := ⟨.hbm, 94, rfl⟩
abbrev main_v58 : Ref sig .tc := ⟨.hbm, 95, rfl⟩
abbrev main_v59 : Ref sig .tc := ⟨.hbm, 96, rfl⟩
abbrev main_cst_14 : Ref sig .tc := ⟨.hbm, 97, rfl⟩
abbrev main_v60 : Ref sig .tc := ⟨.hbm, 98, rfl⟩
abbrev main_cst_15 : Ref sig .tc := ⟨.hbm, 99, rfl⟩
abbrev main_v61 : Ref sig .tc := ⟨.hbm, 100, rfl⟩
abbrev main_cst_16 : Ref sig .tc := ⟨.hbm, 101, rfl⟩
abbrev main_cst_17 : Ref sig .tc := ⟨.hbm, 102, rfl⟩
abbrev main_v62 : Ref sig .tc := ⟨.hbm, 103, rfl⟩
abbrev main_v63 : Ref sig .tc := ⟨.hbm, 104, rfl⟩
abbrev main_cst_18 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_cst_19 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_cst_20 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩
abbrev main_cst_21 : Ref sig .tc := ⟨.hbm, 123, rfl⟩
abbrev main_v79 : Ref sig .tc := ⟨.hbm, 124, rfl⟩
abbrev main_v80 : Ref sig .tc := ⟨.hbm, 125, rfl⟩
abbrev main_cst_22 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_call1_v0 : Ref sig .tc := ⟨.hbm, 136, rfl⟩
abbrev main_call1_v1 : Ref sig .tc := ⟨.hbm, 137, rfl⟩
abbrev main_call1_v2 : Ref sig .tc := ⟨.hbm, 138, rfl⟩
abbrev main_v90 : Ref sig .tc := ⟨.hbm, 139, rfl⟩
abbrev main_v91 : Ref sig .tc := ⟨.hbm, 140, rfl⟩
abbrev main_v92 : Ref sig .tc := ⟨.hbm, 141, rfl⟩
abbrev main_v93 : Ref sig .tc := ⟨.hbm, 142, rfl⟩
abbrev main_v94 : Ref sig .tc := ⟨.hbm, 143, rfl⟩
abbrev main_cst_23 : Ref sig .tc := ⟨.hbm, 144, rfl⟩
abbrev main_v95 : Ref sig .tc := ⟨.hbm, 145, rfl⟩
abbrev main_v96 : Ref sig .tc := ⟨.hbm, 146, rfl⟩
abbrev main_v97 : Ref sig .tc := ⟨.hbm, 147, rfl⟩
abbrev main_v98 : Ref sig .tc := ⟨.hbm, 148, rfl⟩
abbrev main_v99 : Ref sig .tc := ⟨.hbm, 149, rfl⟩
abbrev main_cst_24 : Ref sig .tc := ⟨.hbm, 150, rfl⟩
abbrev main_v100 : Ref sig .tc := ⟨.hbm, 151, rfl⟩
abbrev main_v101 : Ref sig .tc := ⟨.hbm, 152, rfl⟩
abbrev main_v102 : Ref sig .tc := ⟨.hbm, 153, rfl⟩
abbrev main_v103 : Ref sig .tc := ⟨.hbm, 154, rfl⟩
abbrev main_v104 : Ref sig .tc := ⟨.hbm, 155, rfl⟩
abbrev main_cst_25 : Ref sig .tc := ⟨.hbm, 156, rfl⟩
abbrev main_v105 : Ref sig .tc := ⟨.hbm, 157, rfl⟩
abbrev main_v106 : Ref sig .tc := ⟨.hbm, 158, rfl⟩
abbrev main_cst_26 : Ref sig .tc := ⟨.hbm, 159, rfl⟩
abbrev main_v107 : Ref sig .tc := ⟨.hbm, 160, rfl⟩
abbrev main_v108 : Ref sig .tc := ⟨.hbm, 161, rfl⟩
abbrev main_v109 : Ref sig .tc := ⟨.hbm, 162, rfl⟩
abbrev main_v110 : Ref sig .tc := ⟨.hbm, 163, rfl⟩
abbrev main_v111 : Ref sig .tc := ⟨.hbm, 164, rfl⟩
abbrev main_v112 : Ref sig .tc := ⟨.hbm, 165, rfl⟩
abbrev main_v113 : Ref sig .tc := ⟨.hbm, 166, rfl⟩
abbrev main_v114 : Ref sig .tc := ⟨.hbm, 167, rfl⟩
abbrev main_cst_27 : Ref sig .tc := ⟨.hbm, 168, rfl⟩
abbrev main_v115 : Ref sig .tc := ⟨.hbm, 169, rfl⟩
abbrev main_v116 : Ref sig .tc := ⟨.hbm, 170, rfl⟩
abbrev main_v117 : Ref sig .tc := ⟨.hbm, 171, rfl⟩
abbrev main_v118 : Ref sig .tc := ⟨.hbm, 172, rfl⟩
abbrev main_v119 : Ref sig .tc := ⟨.hbm, 173, rfl⟩
abbrev main_cst_28 : Ref sig .tc := ⟨.hbm, 174, rfl⟩
abbrev main_v120 : Ref sig .tc := ⟨.hbm, 175, rfl⟩
abbrev main_v121 : Ref sig .tc := ⟨.hbm, 176, rfl⟩
abbrev main_v122 : Ref sig .tc := ⟨.hbm, 177, rfl⟩
abbrev main_v123 : Ref sig .tc := ⟨.hbm, 178, rfl⟩
abbrev main_v124 : Ref sig .tc := ⟨.hbm, 179, rfl⟩
abbrev main_cst_29 : Ref sig .tc := ⟨.hbm, 180, rfl⟩
abbrev main_v125 : Ref sig .tc := ⟨.hbm, 181, rfl⟩
abbrev main_v126 : Ref sig .tc := ⟨.hbm, 182, rfl⟩
abbrev main_cst_30 : Ref sig .tc := ⟨.hbm, 183, rfl⟩
abbrev main_v127 : Ref sig .tc := ⟨.hbm, 184, rfl⟩
abbrev main_v128 : Ref sig .tc := ⟨.hbm, 185, rfl⟩
abbrev main_v129 : Ref sig .tc := ⟨.hbm, 186, rfl⟩
abbrev main_v130 : Ref sig .tc := ⟨.hbm, 187, rfl⟩
abbrev main_v131 : Ref sig .tc := ⟨.hbm, 188, rfl⟩
abbrev main_v132 : Ref sig .tc := ⟨.hbm, 189, rfl⟩
abbrev main_v133 : Ref sig .tc := ⟨.hbm, 190, rfl⟩
abbrev main_v134 : Ref sig .tc := ⟨.hbm, 191, rfl⟩
abbrev main_v135 : Ref sig .tc := ⟨.hbm, 192, rfl⟩
abbrev main_v136 : Ref sig .tc := ⟨.hbm, 193, rfl⟩
abbrev main_v137 : Ref sig .tc := ⟨.hbm, 194, rfl⟩
abbrev main_v138 : Ref sig .tc := ⟨.hbm, 195, rfl⟩
abbrev main_v139 : Ref sig .tc := ⟨.hbm, 196, rfl⟩
abbrev main_v140 : Ref sig .tc := ⟨.hbm, 197, rfl⟩

abbrev nD : Nat := 1
abbrev τ : Topo := Topo.v7x

variable {F : FTy → Type} [FloatOps F]
-- ==== Proof.Reals.lean ====
/- Extended reals that are real: the operations of the idealized programs on them, and the arrays that a
   finiteness precondition allows. -/
module

public import Idealize.ShloMosaic.Lib.Pointwise
public import Idealize.ShloMosaic.Lib.IdealHost

@[expose] public section

noncomputable section

namespace Cert.Proof

open Idealize.ShloMosaic

/-- A finite sum of reals, as an extended real. -/
theorem coe_sum {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The quotient of two reals. -/
theorem div_real {x y : ℝ} (h : y ≠ 0) : Ideal.div (x : EReal) (y : EReal) = ((x / y : ℝ) : EReal) := by
  rw [Ideal.div_coe h, ← EReal.coe_mul, mul_one_div]

/-- The reciprocal root of a positive real. -/
theorem rsqrt_real {x : ℝ} (h : 0 < x) : Ideal.rsqrt (x : EReal) = (((Real.sqrt x)⁻¹ : ℝ) : EReal) := by
  rw [Ideal.rsqrt_coe, if_neg h.le.not_gt, if_neg h.ne']

/-- The number of columns, as the programs spell it. -/
theorem bits_1024 : Ideal.ofBits .f32 0x44800000#32 = ((1024 : ℝ) : EReal) := by
  simp [Ideal.ofBits, Ideal.ieee, -EReal.coe_mul]; norm_num

/-- The norm's small constant. -/
def eps : ℝ := 8796093 * (2 : ℝ) ^ (-43 : ℤ)

theorem eps_pos : 0 < eps := by unfold eps; positivity

theorem bits_eps : Ideal.ofBits .f32 0x358637BD#32 = ((eps : ℝ) : EReal) := by
  unfold eps
  simp [Ideal.ofBits, Ideal.ieee, -EReal.coe_mul]

theorem bits_neg_half : Ideal.ofBits .f32 0xBF000000#32 = ((-(1 / 2) : ℝ) : EReal) := by
  simp [Ideal.ofBits, Ideal.ieee, -EReal.coe_mul]; norm_num

theorem bits_inf : Ideal.ofBits .f32 0x7F800000#32 = ⊤ := by
  simp [Ideal.ofBits, Ideal.ieee]

/-- What the finiteness precondition says of one element. -/
theorem real_of_lt {x : EReal} (h : Ideal.cmp .olt (max x (-x)) (Ideal.ofBits .f32 0x7F800000#32) = 1#1) :
    x = ((x.toReal : ℝ) : EReal) := by
  rw [bits_inf] at h
  induction x with
  | bot => exact absurd h (by simp [Ideal.cmp])
  | top => exact absurd h (by simp [Ideal.cmp])
  | coe x => simp

/-- An array all of whose elements are below infinity in absolute value is an array of reals. -/
theorem reals_of_finite {ι : Type} {x : ι → EReal} {w : ι → BitVec 1} (h : w = fun _ => 1#1)
    (hw : ∀ i, w i = Ideal.cmp .olt (max (x i) (-x i)) (Ideal.ofBits .f32 0x7F800000#32)) :
    ∃ X : ι → ℝ, x = fun i => ((X i : ℝ) : EReal) :=
  ⟨fun i => (x i).toReal, funext fun i => real_of_lt (by rw [← hw, h])⟩

end Cert.Proof

end
-- ==== Proof.Norm.lean ====
/- The root-mean-square norm of one row and its gradient, over the reals. -/
module

public import proofs.«01_k».proof.Proof.Reals

@[expose] public section

noncomputable section

namespace Cert.Proof

/-- The mean square of a row, plus the norm's small constant. -/
def ms (x : Fin 1024 → ℝ) : ℝ := (∑ k, x k * x k) / 1024 + eps

theorem ms_pos (x : Fin 1024 → ℝ) : 0 < ms x :=
  add_pos_of_nonneg_of_pos (div_nonneg (Finset.sum_nonneg fun k _ => mul_self_nonneg _) (by norm_num)) eps_pos

/-- The reciprocal root of the mean square. -/
def rs (x : Fin 1024 → ℝ) : ℝ := (Real.sqrt (ms x))⁻¹

/-- The gradient that a cotangent `t` of the normalised row `x · rs x` sends back to `x`. -/
def gradNorm (x t : Fin 1024 → ℝ) (l : Fin 1024) : ℝ :=
  rs x * (t l - x l * rs x * ((∑ k, x k * rs x * t k) / 1024))

/-- The same gradient as differentiating the reciprocal root writes it. -/
theorem gradNorm_eq (x t : Fin 1024 → ℝ) (l : Fin 1024) :
    (∑ k, x k * t k) * (-(1 / 2) * (rs x / ms x)) / 1024 * (2 * x l) + t l * rs x = gradNorm x t l := by
  have hr : rs x * rs x = (ms x)⁻¹ := by
    unfold rs
    rw [← mul_inv, Real.mul_self_sqrt (ms_pos x).le]
  have hs : ∑ k, x k * rs x * t k = rs x * ∑ k, x k * t k := by
    rw [Finset.mul_sum]
    exact Finset.sum_congr rfl fun k _ => by ring
  unfold gradNorm
  rw [hs, div_eq_mul_inv (rs x) (ms x), ← hr]
  ring

/-- The cotangent of the normalised rows: a row of `Z` against a column of `W`. -/
def du {n : ℕ} (Z : Fin n → Fin 2816 → ℝ) (W : Fin 2816 → Fin 1024 → ℝ) (r : Fin n) (k : Fin 1024) : ℝ := ∑ q, Z r q * W q k

end Cert.Proof

end
-- ==== Proof.Du.Block.lean ====
/- One block of the gradient through the first norm: what the body stores, read at an element. -/
module

public import proofs.«01_k».proof.Proof.Norm
public import proofs.«01_k».proof.Proof.Gen.DuIdeal.Skeleton

@[expose] public section

set_option maxRecDepth 16384

noncomputable section

namespace Cert.Proof.Du

open Idealize.ShloMosaic
open Cert.DuIdeal Cert.DuIdeal.Gen

/-- The reciprocal root of a row of the block. -/
theorem pay4 (X : Fin 512 → Fin 1024 → ℝ) (x : FVec Ideal S512x1024 .f32) (hx : ∀ r k, x (ix2 r k) = ((X r k : ℝ) : EReal)) (r : Fin 512) :
    k0_pay4 (F := Ideal) x (ix2 r (0 : Fin 1)) = ((rs (X r) : ℝ) : EReal) := by
  pointwise [k0_pay4]
  simp only [hx, ← EReal.coe_mul, coe_sum, bits_1024, bits_eps]
  rw [div_real (by norm_num), ← EReal.coe_add]
  exact rsqrt_real (ms_pos (X r))

/-- The gradient through the norm, at one element of the block. -/
theorem pay6 (Z : Fin 512 → Fin 2816 → ℝ) (W : Fin 2816 → Fin 1024 → ℝ) (X : Fin 512 → Fin 1024 → ℝ) (G : Fin 1024 → ℝ)
    (z : FVec Ideal S512x2816 .bf16) (w : FVec Ideal S2816x1024 .bf16) (dh x : FVec Ideal S512x1024 .f32) (g : FVec Ideal S1x1024 .f32)
    (hz : ∀ r q, z (ix2 r q) = ((Z r q : ℝ) : EReal)) (hw : ∀ q k, w (ix2 q k) = ((W q k : ℝ) : EReal))
    (hx : ∀ r k, x (ix2 r k) = ((X r k : ℝ) : EReal)) (hg : ∀ k, g (ix2 (0 : Fin 1) k) = ((G k : ℝ) : EReal)) (r : Fin 512) (l : Fin 1024) :
    k0_pay6 (F := Ideal) z w dh x g (ix2 r l)
      = dh (ix2 r l) + ((gradNorm (X r) (fun k => du Z W r k * G k) l : ℝ) : EReal) := by
  pointwise [k0_pay6, k0_pay5, k0_pay3]
  simp only [pay4 X x hx, hz, hw, hx, hg, ← EReal.coe_mul, coe_sum, bits_1024]
  rw [div_real (by norm_num), ← EReal.coe_mul, ← EReal.coe_sub, ← EReal.coe_mul]
  rfl

/-- The block's part of the gain's gradient: rows of one residue modulo eight, added up. -/
theorem pay7 (Z : Fin 512 → Fin 2816 → ℝ) (W : Fin 2816 → Fin 1024 → ℝ) (X : Fin 512 → Fin 1024 → ℝ)
    (z : FVec Ideal S512x2816 .bf16) (w : FVec Ideal S2816x1024 .bf16) (x : FVec Ideal S512x1024 .f32)
    (hz : ∀ r q, z (ix2 r q) = ((Z r q : ℝ) : EReal)) (hw : ∀ q k, w (ix2 q k) = ((W q k : ℝ) : EReal))
    (hx : ∀ r k, x (ix2 r k) = ((X r k : ℝ) : EReal)) (j : Fin 8) (l : Fin 1024) :
    k0_pay7 (F := Ideal) z w x (ix2 j l)
      = ((∑ a : Fin 64, (fun r : Fin 512 => du Z W r l * (X r l * rs (X r))) ⟨a.val * 8 + j.val, by omega⟩ : ℝ) : EReal) := by
  pointwise [k0_pay7, k0_pay5, k0_pay3]
  simp only [pay4 X x hx, hz, hw, hx, ← EReal.coe_mul, coe_sum]
  rfl

end Cert.Proof.Du

end
-- ==== Proof.Du.Arrays.lean ====
/- The arrays the kernel's grid leaves: the gradient block by block, the gain's gradient added up over the grid. -/
module

public import proofs.«01_k».proof.Proof.Du.Block
public import proofs.«01_k».proof.Proof.Gen.DuIdeal.Frame
public import Idealize.ShloMosaic.Lib.Pipeline.ValueKit

@[expose] public section

set_option maxRecDepth 16384

noncomputable section

namespace Cert.Proof.Du

open Idealize.ShloMosaic Idealize.ShloMosaic.TcCoe Idealize.SL.Sem
open Cert.DuIdeal Cert.DuIdeal.Gen

/-- The blocks of the windows, point by point. -/
theorem idx : ∀ t : Fin cfg0.N, win0_0.index t = ![t.val, 0] ∧ win0_1.index t = ![0, 0] ∧ win0_2.index t = ![t.val, 0]
    ∧ win0_3.index t = ![t.val, 0] ∧ win0_4.index t = ![0, 0] ∧ win0_5.index t = ![t.val, 0] ∧ win0_6.index t = ![0, 0] :=
  (by decide +kernel : ∀ t : Fin grid0.N, _)

variable (m : (ℓ : Loc nD τ sig) → Buf (Elt Ideal) ℓ) (c : Dev nD)
  (X : Fin 4096 → Fin 1024 → ℝ) (Z : Fin 4096 → Fin 2816 → ℝ) (W : Fin 2816 → Fin 1024 → ℝ) (G : Fin 1024 → ℝ)

/-- The argument arrays are real: what the finiteness precondition gives. -/
structure Real : Prop where
  x : ∀ r k, (m ((c : Thread nD τ).loc main_arg0) : FVec Ideal S4096x1024 .f32) (ix2 r k) = ((X r k : ℝ) : EReal)
  g : ∀ k, (m ((c : Thread nD τ).loc main_arg1) : FVec Ideal S1x1024 .f32) (ix2 (0 : Fin 1) k) = ((G k : ℝ) : EReal)
  w : ∀ q k, (m ((c : Thread nD τ).loc main_arg2) : FVec Ideal S1024x2816 .f32) (ix2 k q) = ((W q k : ℝ) : EReal)
  z : ∀ r q, (m ((c : Thread nD τ).loc main_arg4) : FVec Ideal S4096x2816 .bf16) (ix2 r q) = ((Z r q : ℝ) : EReal)

/-- The cotangent that reaches the input beside the norm. -/
abbrev dh (m : (ℓ : Loc nD τ sig) → Buf (Elt Ideal) ℓ) (c : Dev nD) : S4096x1024.Idx → EReal := m ((c : Thread nD τ).loc main_arg3)

/-- A row of the block at a point, in the array. -/
abbrev row (t : Fin cfg0.N) (r : Fin 512) : Fin 4096 := ⟨t.val * 512 + r.val, by have := t.isLt; have : cfg0.N = 8 := N_0; omega⟩

/-- The weight as the region finds it: transposed by the host. -/
theorem entry1 (q : Fin 2816) (k : Fin 1024) : V m c main_v1 (ix2 q k) = m ((c : Thread nD τ).loc main_arg2) (ix2 k q) := by
  dsimp only [V, V0, hostOps0, List.flatten_cons, List.flatten_nil, List.append_nil, List.cons_append, List.nil_append]
  after_results
  pointwise

variable {m c X Z W G} (h : Real m c X Z W G)
include h

theorem blk0 (t : Fin cfg0.N) (r : Fin 512) (q : Fin 2816) : (iblk m c 0 t : FVec Ideal S512x2816 .bf16) (ix2 r q) = ((Z (row t r) q : ℝ) : EReal) := by
  refine Eq.trans ?_ (h.z (row t r) q)
  blk_point [iblk, V, idx t]

theorem blk1 (t : Fin cfg0.N) (q : Fin 2816) (k : Fin 1024) : (iblk m c 1 t : FVec Ideal S2816x1024 .bf16) (ix2 q k) = ((W q k : ℝ) : EReal) := by
  refine Eq.trans ?_ (h.w q k)
  refine Eq.trans ?_ (entry1 m c q k)
  blk_simp [iblk]
  exact congrArg (V m c main_v1) (by blk_ext [idx t])

omit h in
theorem blk2 (t : Fin cfg0.N) (r : Fin 512) (k : Fin 1024) : (iblk m c 2 t : FVec Ideal S512x1024 .f32) (ix2 r k)
    = dh m c (ix2 (row t r) k) := by
  blk_point [iblk, V, idx t]

theorem blk3 (t : Fin cfg0.N) (r : Fin 512) (k : Fin 1024) : (iblk m c 3 t : FVec Ideal S512x1024 .f32) (ix2 r k) = ((X (row t r) k : ℝ) : EReal) := by
  refine Eq.trans ?_ (h.x (row t r) k)
  blk_point [iblk, V, idx t]

theorem blk4 (t : Fin cfg0.N) (k : Fin 1024) : (iblk m c 4 t : FVec Ideal S1x1024 .f32) (ix2 (0 : Fin 1) k) = ((G k : ℝ) : EReal) := by
  refine Eq.trans ?_ (h.g k)
  blk_point [iblk, V, idx t]

/-- The gradient of the input, as an array. -/
def gradX (D : S4096x1024.Idx → EReal) (X : Fin 4096 → Fin 1024 → ℝ) (Z : Fin 4096 → Fin 2816 → ℝ) (W : Fin 2816 → Fin 1024 → ℝ) (G : Fin 1024 → ℝ) :
    S4096x1024.Idx → EReal :=
  fun i => D i + ((gradNorm (X (i 0)) (fun k => du Z W (i 0) k * G k) (i 1) : ℝ) : EReal)

/-- What the body stores at a point is the point's block of `gradX`. -/
theorem point5 (t : Fin cfg0.N) (r : Fin 512) (l : Fin 1024) :
    k0_pay6 (F := Ideal) (iblk m c 0 t) (iblk m c 1 t) (iblk m c 2 t) (iblk m c 3 t) (iblk m c 4 t) (ix2 r l)
      = gradX (dh m c) X Z W G (ix2 (row t r) l) :=
  (pay6 (fun r => Z (row t r)) W (fun r => X (row t r)) G _ _ _ _ _ (blk0 h t) (blk1 h t) (blk3 h t) (blk4 h t) r l).trans
    (congrArg (· + _) (blk2 t r l))

theorem final5 : (dats m 0 c).arrAt 5 cfg0.N = gradX (dh m c) X Z W G := by
  refine (dats m 0 c).arrAt_eq_of_covers 5 _ (by decide +kernel) fun t _ y => ?_
  blk_simp
  rw [after0_5]
  have e : (outsAt0 m c t.val t.isLt).1 y = k0_pay6 (F := Ideal) (iblk m c 0 t) (iblk m c 1 t) (iblk m c 2 t) (iblk m c 3 t) (iblk m c 4 t) y := by
    by_cases h0 : t.val % 8 = 0
    · rw [outsAt0_A m c t h0]
      frame_out
    · rw [outsAt0_B m c t h0]
      frame_out
  refine e.trans ?_
  idx_vars y
  refine (point5 h t _ _).trans (congrArg (gradX (dh m c) X Z W G) ?_)
  blk_ext [idx t]

/-- The block's part of the gain's gradient. -/
def part (X : Fin 4096 → Fin 1024 → ℝ) (Z : Fin 4096 → Fin 2816 → ℝ) (W : Fin 2816 → Fin 1024 → ℝ) (t : Fin cfg0.N) (j : Fin 8) (l : Fin 1024) : ℝ :=
  ∑ a : Fin 64, du Z W (row t ⟨a.val * 8 + j.val, by omega⟩) l * (X (row t ⟨a.val * 8 + j.val, by omega⟩) l * rs (X (row t ⟨a.val * 8 + j.val, by omega⟩)))

theorem point6 (t : Fin cfg0.N) (j : Fin 8) (l : Fin 1024) :
    k0_pay7 (F := Ideal) (iblk m c 0 t) (iblk m c 1 t) (iblk m c 3 t) (ix2 j l) = ((part X Z W t j l : ℝ) : EReal) :=
  pay7 (fun r => Z (row t r)) W (fun r => X (row t r)) _ _ _ (blk0 h t) (blk1 h t) (blk3 h t) j l

/-- The gain's gradient as the grid leaves it: rows of one residue modulo eight, added up. -/
theorem final6 : (dats m 0 c).arrAt 6 cfg0.N = fun i : S8x1024.Idx => ((∑ t, part X Z W t (i 0) (i 1) : ℝ) : EReal) := by
  refine (dats m 0 c).arrAt_eq_of_after_last 6 t0_7 (by decide +kernel) _ fun i => ?_
  blk_simp
  rw [after0_6, Pipeline.eq_sum_fin_of_reset_step_apply_last (M := EReal) (fun n h => (outsAt0 m c n h).2) 8 (fun _ => 0)
    (fun t i => k0_pay7 (F := Ideal) (iblk m c 0 t) (iblk m c 1 t) (iblk m c 3 t) i)
    (fun t h i => by
      rw [outsAt0_A m c t h]; frame_out; pointwise [k0_pay2, k0_pay1])
    (fun t h i => by
      rw [outsAt0_B m c t h]; frame_out; pointwise [k0_pay2]) (le_of_eq N_0) t0_7 rfl i, zero_add]
  refine Eq.trans ?_ (coe_sum Finset.univ _)
  refine Finset.sum_congr (M := EReal) rfl fun t _ => ?_
  idx_vars i
  exact point6 h t _ _

/-- The eight partial rows of the gain's gradient. -/
abbrev acc (m : (ℓ : Loc nD τ sig) → Buf (Elt Ideal) ℓ) (c : Dev nD) : S8x1024.Idx → EReal := (dats m 0 c).arrAt 6 cfg0.N

omit h in
/-- The host's sum of the eight partial rows. -/
theorem tail (m : (ℓ : Loc nD τ sig) → Buf (Elt Ideal) ℓ) (c : Dev nD) :
    Pipeline.afterTail₀ cfgs (dats m) 0 (V0 m) [hostOps1] c main_v4
      = fun i : S1x1024.Idx => ∑ j : Fin 8, acc m c (ix2 j (i 1)) := by
  unfold Pipeline.afterTail₀
  dsimp only [hostOps1, List.flatten_cons, List.flatten_nil, List.append_nil, List.cons_append, List.nil_append]
  after_results
  rw [show Pipeline.withArrays (cfgs 0).spec c (V0 m c) (fun w => (dats m 0 c).arrAt w (cfgs 0).N) (Proc.tc.devRef main_v2_1) = acc m c from
    Pipeline.withArrays_arr spec0 (by decide) c (V0 m c) _ 6]
  funext i
  idx_vars i
  pointwise

omit h in
/-- The rows of every block and every residue are all the rows. -/
theorem sum_part (X : Fin 4096 → Fin 1024 → ℝ) (Z : Fin 4096 → Fin 2816 → ℝ) (W : Fin 2816 → Fin 1024 → ℝ) (l : Fin 1024) :
    ∑ j : Fin 8, ∑ t : Fin cfg0.N, part X Z W t j l = ∑ r : Fin 4096, du Z W r l * (X r l * rs (X r)) := by
  rw [Fin.sum_univ_tiles 8 512 rfl, Finset.sum_comm]
  refine Finset.sum_congr rfl fun t _ => ?_
  unfold part
  rw [Finset.sum_comm, Fin.sum_univ_tiles 64 8 rfl]

/-- The norm gain's gradient as the host leaves it: the partial sums' sum. -/
def gainK (m : (ℓ : Loc nD τ sig) → Buf (Elt Ideal) ℓ) (c : Dev nD) : S1x1024.Idx → EReal := fun i => ∑ j : Fin 8, acc m c (ix2 j (i 1))

/-- At real arguments it is the sum over all the rows. -/
theorem gainK_apply (o : Fin 1) (l : Fin 1024) : gainK m c (ix2 o l) = ((∑ r : Fin 4096, du Z W r l * (X r l * rs (X r)) : ℝ) : EReal) := by
  refine (Finset.sum_congr (M := EReal) rfl fun j _ => (congrFun (final6 h) (ix2 j l) : acc m c (ix2 j l) = _)).trans ?_
  exact (coe_sum _ _).trans (congrArg _ (sum_part X Z W l))

omit h in
/-- The run: the two results beside what the region's frame says. -/
theorem run (g : Dev nD → PrngReg) : θ_run (defs (F := Ideal)) (onTc (τ := τ) (main (F := Ideal))) ⟨m, fun _ => 0, g⟩ (fun r => ∀ c : Dev nD,
      r.2.mem ((c : Thread nD τ).loc main_v2_0) = (dats m 0 c).arrAt 5 cfg0.N
      ∧ r.2.mem ((c : Thread nD τ).loc main_v4) = gainK m c) :=
  (θ_run _ _ _).mono (fun r h c => ⟨(h c).1 5, ((h c).2 main_v4 (Pipeline.mem_restRefs_of main_v4 (by decide) (by decide))).trans (tail m c)⟩) (run_main m g)

end Cert.Proof.Du

end
-- ==== Proof.Du.Reference.lean ====
/- The reference's two results, read at an element: the gradient of the norm of each row, and of its gain. -/
module

public import proofs.«01_k».proof.Proof.Norm
public import proofs.«01_k».proof.Proof.Gen.DuRefIdeal.Read

@[expose] public section

set_option maxRecDepth 16384

noncomputable section

namespace Cert.Proof.DuRef

open Idealize.ShloMosaic
open Cert.DuRefIdeal Cert.DuRefIdeal.Gen Cert.DuRefIdeal.Value Cert.DuRefIdeal.Read

variable (X : Fin 4096 → Fin 1024 → ℝ) (x : FVec Ideal S4096x1024 .f32)

/-- The mean square of a row. -/
theorem mean (hx : ∀ r k, x (ix2 r k) = ((X r k : ℝ) : EReal)) (r : Fin 4096) :
    val_main_v6 (F := Ideal) x (ix2 r (0 : Fin 1)) = ((ms (X r) : ℝ) : EReal) := by
  pointwise [val_main_v6, val_main_v5, val_main_v4, val_main_v3, val_main_v2, val_main_v1, val_main_v0, val_main_cst, val_main_cst_0, val_main_cst_1]
  simp only [hx, ← EReal.coe_mul, coe_sum, bits_1024, bits_eps]
  rw [div_real (by norm_num), ← EReal.coe_add]
  rfl

/-- The reciprocal root of a row. -/
theorem root (hx : ∀ r k, x (ix2 r k) = ((X r k : ℝ) : EReal)) (r : Fin 4096) :
    val_main_v7 (F := Ideal) x (ix2 r (0 : Fin 1)) = ((rs (X r) : ℝ) : EReal) := by
  pointwise [val_main_v7]
  rw [mean X x hx r]
  exact rsqrt_real (ms_pos (X r))

variable (Z : Fin 4096 → Fin 2816 → ℝ) (W : Fin 2816 → Fin 1024 → ℝ) (G : Fin 1024 → ℝ)
  (g : FVec Ideal S1x1024 .f32) (w : FVec Ideal S1024x2816 .f32) (dh : FVec Ideal S4096x1024 .f32) (z : FVec Ideal S4096x2816 .bf16)

/-- The gradient of the input, at one element. -/
theorem grad (hx : ∀ r k, x (ix2 r k) = ((X r k : ℝ) : EReal)) (hz : ∀ r q, z (ix2 r q) = ((Z r q : ℝ) : EReal))
    (hw : ∀ q k, w (ix2 k q) = ((W q k : ℝ) : EReal)) (hg : ∀ k, g (ix2 (0 : Fin 1) k) = ((G k : ℝ) : EReal))
    (r : Fin 4096) (l : Fin 1024) :
    val_main_v37 (F := Ideal) x g w dh z (ix2 r l)
      = dh (ix2 r l) + ((gradNorm (X r) (fun k => du Z W r k * G k) l : ℝ) : EReal) := by
  pointwise [val_main_v37, val_main_v36, val_main_v35, val_main_v34, val_main_v33, val_main_v32, val_main_v31, val_main_v30,
    val_main_v29, val_main_v28, val_main_v27, val_main_v26, val_main_v25, val_main_v24, val_main_v23, val_main_v22, val_main_v21,
    val_main_v17, val_main_v16, val_main_v10, val_main_v9, val_main_v8, val_main_cst_2, val_main_cst_4, val_main_cst_5, val_main_cst_6]
  simp only [Fin.sum_univ_one]
  simp only [root X x hx, mean X x hx, hz, hw, hx, hg, ← EReal.coe_mul, coe_sum, bits_1024, bits_neg_half, div_real (ms_pos _).ne', div_real (by norm_num : (1024 : ℝ) ≠ 0)]
  rw [add_assoc, add_assoc, ← EReal.coe_add, ← EReal.coe_add, ← gradNorm_eq]
  congr 2
  simp only [du]
  ring

/-- The gradient of the gain, at one element. -/
theorem gain (hx : ∀ r k, x (ix2 r k) = ((X r k : ℝ) : EReal)) (hz : ∀ r q, z (ix2 r q) = ((Z r q : ℝ) : EReal))
    (hw : ∀ q k, w (ix2 k q) = ((W q k : ℝ) : EReal)) (o : Fin 1) (l : Fin 1024) :
    val_main_v20 (F := Ideal) x w z (ix2 o l)
      = ((∑ r : Fin 4096, du Z W r l * (X r l * rs (X r)) : ℝ) : EReal) := by
  pointwise [val_main_v20, val_main_v19, val_main_v18, val_main_v12, val_main_v11, val_main_v17, val_main_v16, val_main_cst_3]
  simp only [root X x hx, hz, hw, hx, ← EReal.coe_mul, coe_sum]
  exact congrArg _ (Finset.sum_congr rfl fun r _ => mul_comm _ _)

end Cert.Proof.DuRef

end
-- ==== Proof.Du.Value.lean ====
/- The gradient through the first norm: the kernel's two results are the reference's. -/
module

public import proofs.«01_k».proof.Defs
public import proofs.«01_k».proof.Proof.Du.Arrays
public import proofs.«01_k».proof.Proof.Du.Reference
public import proofs.«01_k».proof.Proof.Gen.DuRefIdeal.Run
public import Idealize.ShloMosaic.Lib.Claim

@[expose] public section

set_option maxRecDepth 16384

noncomputable section

namespace Cert.Proof.Du

open Idealize.ShloMosaic Idealize.ShloMosaic.TcCoe Idealize.SL.Sem

/-- The finiteness precondition makes the argument arrays real. -/
theorem real_of_pre (hP : Cert.Pre_finite_du.Facts) (m : (ℓ : Loc Cert.DuIdeal.nD Cert.DuIdeal.τ Cert.DuIdeal.sig) → Buf (Elt Ideal) ℓ)
    (h : Cert.Pre_DuIdeal_finite_du (hPre_finite_du := hP) m) (c : Dev Cert.DuIdeal.nD) : ∃ X Z W G, Real m c X Z W G := by
  obtain ⟨h0, h1, h2, h3⟩ := h c
  obtain ⟨X, hX⟩ := reals_of_finite h0 fun _ => rfl
  obtain ⟨G, hG⟩ := reals_of_finite h1 fun _ => rfl
  obtain ⟨W, hW⟩ := reals_of_finite h2 fun _ => rfl
  obtain ⟨Z, hZ⟩ := reals_of_finite h3 fun _ => rfl
  exact ⟨fun r k => X (ix2 r k), fun r q => Z (ix2 r q), fun q k => W (ix2 k q), fun k => G (ix2 0 k),
    ⟨fun r k => congrFun hX _, fun k => congrFun hG _, fun q k => congrFun hW _, fun r q => congrFun hZ _⟩⟩

section
variable {m : (ℓ : Loc Cert.DuIdeal.nD Cert.DuIdeal.τ Cert.DuIdeal.sig) → Buf (Elt Ideal) ℓ} {c : Dev Cert.DuIdeal.nD}
  {X : Fin 4096 → Fin 1024 → ℝ} {Z : Fin 4096 → Fin 2816 → ℝ} {W : Fin 2816 → Fin 1024 → ℝ} {G : Fin 1024 → ℝ}

/-- The reference's gradient of the activations is the kernel's. -/
theorem grad_eq (h : Real m c X Z W G) :
    Cert.DuRefIdeal.Read.val_main_v37 (F := Ideal) (m ((c.tc : Thread Cert.DuIdeal.nD Cert.DuIdeal.τ).loc Cert.DuIdeal.main_arg0)) (m ((c.tc : Thread Cert.DuIdeal.nD Cert.DuIdeal.τ).loc Cert.DuIdeal.main_arg1))
      (m ((c.tc : Thread Cert.DuIdeal.nD Cert.DuIdeal.τ).loc Cert.DuIdeal.main_arg2)) (m ((c.tc : Thread Cert.DuIdeal.nD Cert.DuIdeal.τ).loc Cert.DuIdeal.main_arg3))
      (m ((c.tc : Thread Cert.DuIdeal.nD Cert.DuIdeal.τ).loc Cert.DuIdeal.main_arg4)) = gradX (dh m c) X Z W G := by
  funext i
  idx_vars i
  exact Cert.Proof.DuRef.grad X _ Z W G _ _ _ _ h.x h.z h.w h.g _ _

/-- The reference's gradient of the gain is the kernel's. -/
theorem gain_eq (h : Real m c X Z W G) :
    Cert.DuRefIdeal.Read.val_main_v20 (F := Ideal) (m ((c.tc : Thread Cert.DuIdeal.nD Cert.DuIdeal.τ).loc Cert.DuIdeal.main_arg0))
      (m ((c.tc : Thread Cert.DuIdeal.nD Cert.DuIdeal.τ).loc Cert.DuIdeal.main_arg2)) (m ((c.tc : Thread Cert.DuIdeal.nD Cert.DuIdeal.τ).loc Cert.DuIdeal.main_arg4)) = gainK m c := by
  funext i
  idx_vars i
  exact (Cert.Proof.DuRef.gain X _ Z W _ _ h.x h.z h.w _ _).trans (gainK_apply h _ _).symm

end

/-- The reference runs, keeps its arguments and leaves every counter at zero. -/
theorem frame_ref : Cert.quiescent_DuRefIdeal (hDuRefIdeal := Cert.DuRefIdeal.Gen.facts) := fun m ρ _ =>
  (θ_run Cert.DuRefIdeal.defs _ _).mono (fun r h => ⟨fun c => (h c).2.2, sem_eq_zero_of_no_sems (by decide) r.2⟩) (Cert.DuRefIdeal.Value.run m ρ)

/-- The two programs' results agree. -/
theorem algebraic (hP : Cert.Pre_finite_du.Facts) : Cert.algebraic_DuIdeal_DuRefIdeal_pre_finite_du (hPre_finite_du := hP) (hDuIdeal := Cert.DuIdeal.Gen.facts) (hDuRefIdeal := Cert.DuRefIdeal.Gen.facts) := by
  intro m g m' g' hpre hagree
  refine ⟨fun c => (Cert.DuIdeal.Gen.dats m 0 c).arrAt 5 Cert.DuIdeal.cfg0.N, fun c => gainK m c,
    (θ_run _ _ _).mono (fun r h c => ⟨(h.1 c).1, (h.1 c).2, h.2 c⟩) (θ_run_and (run (m := m) g) (Cert.DuIdeal.Gen.unchanged m g)),
    (θ_run _ _ _).mono (fun r h c => ⟨(h c).1.trans ?_, (h c).2.1.trans ?_, (h c).2.2⟩) (Cert.DuRefIdeal.Value.run m' g')⟩
  · obtain ⟨X, Z, W, G, h⟩ := real_of_pre hP m hpre c
    obtain ⟨h0, h1, h2, h3, h4⟩ := hagree c
    refine (Cert.DuRefIdeal.Read.val_main_v37_eq m' c).trans ?_
    rw [h0, h1, h2, h3, h4]
    exact (grad_eq h).trans (final5 h).symm
  · obtain ⟨X, Z, W, G, h⟩ := real_of_pre hP m hpre c
    obtain ⟨h0, h1, h2, h3, h4⟩ := hagree c
    refine (Cert.DuRefIdeal.Read.val_main_v20_eq _ _ _).trans ?_
    rw [h0, h2, h4]
    exact gain_eq h

end Cert.Proof.Du

end
-- ==== Proof.Swa.Run.lean ====
module

public import proofs.«01_k».proof.Proof.Gen.SwaIdeal.Skeleton
public import proofs.«01_k».proof.Proof.Gen.SwaIdeal.Frame

@[expose] public section

set_option maxRecDepth 16384

noncomputable section

namespace Cert.Proof.Swa

open Cert.SwaIdeal Cert.SwaIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! One run of the body of the attention's backward kernel in each of its three cases: the first block of
queries, a later block, and the closing point after the last block. -/

/-- The body's first condition: the point is the first. -/
abbrev first (i : grid0.Coords) : Prop := (Scalar.cmpi .ne (Scalar.extui (Scalar.cmpi .eq (BitVec.ofNat 32 (i 0).val) 0#32)) 0#32) = 1#1
/-- The body's second condition: the point has a block of queries. -/
abbrev live (i : grid0.Coords) : Prop := k0_cond2 i = 1#1

variable (c : Dev nD) (i : grid0.Coords)
  (arg1 : Memref sig .tc .smem S1x8 .f32) (harg1 : arg1.IsWhole)
  (arg2 : Memref sig .tc .vmem S256x512 .f32) (harg2 : arg2.IsWhole)
  (arg3 : Memref sig .tc .vmem S128x128 .f32) (harg3 : arg3.IsWhole)
  (arg4 : Memref sig .tc .vmem S256x128 .f32) (harg4 : arg4.IsWhole)
  (arg5 : Memref sig .tc .vmem S128x128 .f32) (harg5 : arg5.IsWhole)
  (arg6 : Memref sig .tc .vmem S256x128 .f32) (harg6 : arg6.IsWhole)
  (arg7 : Memref sig .tc .vmem S256x512 .bf16) (harg7 : arg7.IsWhole)
  (arg8 : Memref sig .tc .vmem S256x512 .bf16) (harg8 : arg8.IsWhole)
  (arg9 : Memref sig .tc .vmem S256x128 .f32) (harg9 : arg9.IsWhole)
  (arg10 : Memref sig .tc .vmem S256x512 .bf16) (harg10 : arg10.IsWhole)
  (arg11 : Memref sig .tc .vmem S128x256 .bf16) (harg11 : arg11.IsWhole)
  (arg12 : Memref sig .tc .vmem S128x256 .bf16) (harg12 : arg12.IsWhole)
  (arg13 : Memref sig .tc .vmem S8x128 .f32) (harg13 : arg13.IsWhole)
  (arg14 : Memref sig .tc .vmem S128x256 .f32) (harg14 : arg14.IsWhole)
  (x0 : Vec F S1x8 .f32) (x1 : Vec F S256x512 .f32) (x2 : Vec F S128x128 .f32) (x3 : Vec F S256x128 .f32) (x4 : Vec F S128x128 .f32) (x5 : Vec F S256x128 .f32) (x6 : Vec F S256x512 .bf16) (x7 : Vec F S256x512 .bf16) (x8 : Vec F S256x128 .f32)

/-- The nine inputs' memrefs, each whole at its contents. -/
def ins : sProp 𝕄 :=
  iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8)

-- the run of a body of this size takes more steps than the default allows
set_option maxHeartbeats 4000000 in
/-- The first block: the sinks' gradient and the carried half start from zero. What each buffer holds at the
    end is a list of written pieces, found by the run itself. -/
def runA (h0 : first i) (h1 : live i)  :
    Σ' (L10 : List (View.Piece (Elt F) S256x512 .bf16)), Σ' (L11 : List (View.Piece (Elt F) S128x256 .bf16)), Σ' (L12 : List (View.Piece (Elt F) S128x256 .bf16)), Σ' (L13 : List (View.Piece (Elt F) S8x128 .f32)), { L14 : List (View.Piece (Elt F) S128x256 .f32) //
      ∀ (E : Set ℕ) (K : PUnit → sProp 𝕄),
        iprop(ins c arg1 arg2 arg3 arg4 arg5 arg6 arg7 arg8 arg9 x0 x1 x2 x3 x4 x5 x6 x7 x8
            ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
            ∗ (iprop(ins c arg1 arg2 arg3 arg4 arg5 arg6 arg7 arg8 arg9 x0 x1 x2 x3 x4 x5 x6 x7 x8
              ∗ (∃ f, arg10.view.loc (c : Thread nD τ) ↦[arg10.view.set]{fullShare} arg10.view.writes (Elt F) f L10) ∗ (∃ f, arg11.view.loc (c : Thread nD τ) ↦[arg11.view.set]{fullShare} arg11.view.writes (Elt F) f L11) ∗ (∃ f, arg12.view.loc (c : Thread nD τ) ↦[arg12.view.set]{fullShare} arg12.view.writes (Elt F) f L12) ∗ (∃ f, arg13.view.loc (c : Thread nD τ) ↦[arg13.view.set]{fullShare} arg13.view.writes (Elt F) f L13) ∗ (∃ f, arg14.view.loc (c : Thread nD τ) ↦[arg14.view.set]{fullShare} arg14.view.writes (Elt F) f L14)) -∗ K ⟨⟩))
          ⊢ wp frame (wpE (defs₀ (F := F)) Variants.none c none) E (cc0_swa_bwd i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, ?_, fun E K => ?run⟩
  case run =>
    simp only [cc0_swa_bwd_eq_skeleton]; unfold cc0_swa_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton]
    unfold ins owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩⟩, ⟨%d10, %g10, -, G10⟩, ⟨%d11, %g11, -, G11⟩, ⟨%d12, %g12, -, G12⟩, ⟨%d13, %g13, -, G13⟩, ⟨%d14, %g14, -, G14⟩, Hk⟩
    obtain rfl := harg1.eq_unread hf0
    obtain rfl := harg2.eq_unread hf1
    obtain rfl := harg3.eq_unread hf2
    obtain rfl := harg4.eq_unread hf3
    obtain rfl := harg5.eq_unread hf4
    obtain rfl := harg6.eq_unread hf5
    obtain rfl := harg7.eq_unread hf6
    obtain rfl := harg8.eq_unread hf7
    obtain rfl := harg9.eq_unread hf8
    sl_exec (disch := first | sl_exact h0 | sl_exact h1)
    sl_step
    iapply Hk
    isplitl [H0 H1 H2 H3 H4 H5 H6 H7 H8]
    · isplitl [H0]
      · iexists _; isplitr; · ipureintro; exact harg1.read_unread _
        iexact H0
      isplitl [H1]
      · iexists _; isplitr; · ipureintro; exact harg2.read_unread _
        iexact H1
      isplitl [H2]
      · iexists _; isplitr; · ipureintro; exact harg3.read_unread _
        iexact H2
      isplitl [H3]
      · iexists _; isplitr; · ipureintro; exact harg4.read_unread _
        iexact H3
      isplitl [H4]
      · iexists _; isplitr; · ipureintro; exact harg5.read_unread _
        iexact H4
      isplitl [H5]
      · iexists _; isplitr; · ipureintro; exact harg6.read_unread _
        iexact H5
      isplitl [H6]
      · iexists _; isplitr; · ipureintro; exact harg7.read_unread _
        iexact H6
      isplitl [H7]
      · iexists _; isplitr; · ipureintro; exact harg8.read_unread _
        iexact H7
      iexists _; isplitr; · ipureintro; exact harg9.read_unread _
      iexact H8
    isplitl [G10]; · iexists _; iexact G10
    isplitl [G11]; · iexists _; iexact G11
    isplitl [G12]; · iexists _; iexact G12
    isplitl [G13]; · iexists _; iexact G13
    iexists _; iexact G14

-- the run of a body of this size takes more steps than the default allows
set_option maxHeartbeats 4000000 in
/-- A later block: the sinks' gradient and the carried half are read as the point before left them. -/
def runB (h0 : ¬first i) (h1 : live i) (y13 : Vec F S8x128 .f32) (y14 : Vec F S128x256 .f32) :
    Σ' (L10 : List (View.Piece (Elt F) S256x512 .bf16)), Σ' (L11 : List (View.Piece (Elt F) S128x256 .bf16)), Σ' (L12 : List (View.Piece (Elt F) S128x256 .bf16)), Σ' (L13 : List (View.Piece (Elt F) S8x128 .f32)), { L14 : List (View.Piece (Elt F) S128x256 .f32) //
      ∀ (E : Set ℕ) (K : PUnit → sProp 𝕄),
        iprop(ins c arg1 arg2 arg3 arg4 arg5 arg6 arg7 arg8 arg9 x0 x1 x2 x3 x4 x5 x6 x7 x8
            ∗ (∃ d, owns (c : Thread nD τ) arg10 fullShare d) ∗ (∃ d, owns (c : Thread nD τ) arg11 fullShare d) ∗ (∃ d, owns (c : Thread nD τ) arg12 fullShare d) ∗ owns (c : Thread nD τ) arg13 fullShare y13 ∗ owns (c : Thread nD τ) arg14 fullShare y14
            ∗ (iprop(ins c arg1 arg2 arg3 arg4 arg5 arg6 arg7 arg8 arg9 x0 x1 x2 x3 x4 x5 x6 x7 x8
              ∗ (∃ f, arg10.view.loc (c : Thread nD τ) ↦[arg10.view.set]{fullShare} arg10.view.writes (Elt F) f L10) ∗ (∃ f, arg11.view.loc (c : Thread nD τ) ↦[arg11.view.set]{fullShare} arg11.view.writes (Elt F) f L11) ∗ (∃ f, arg12.view.loc (c : Thread nD τ) ↦[arg12.view.set]{fullShare} arg12.view.writes (Elt F) f L12) ∗ (∃ f, arg13.view.loc (c : Thread nD τ) ↦[arg13.view.set]{fullShare} arg13.view.writes (Elt F) f L13) ∗ (∃ f, arg14.view.loc (c : Thread nD τ) ↦[arg14.view.set]{fullShare} arg14.view.writes (Elt F) f L14)) -∗ K ⟨⟩))
          ⊢ wp frame (wpE (defs₀ (F := F)) Variants.none c none) E (cc0_swa_bwd i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, ?_, fun E K => ?run⟩
  case run =>
    simp only [cc0_swa_bwd_eq_skeleton]; unfold cc0_swa_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton]
    unfold ins owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩⟩, ⟨%d10, %g10, -, G10⟩, ⟨%d11, %g11, -, G11⟩, ⟨%d12, %g12, -, G12⟩, ⟨%g13, %hg13, G13⟩, ⟨%g14, %hg14, G14⟩, Hk⟩
    obtain rfl := harg1.eq_unread hf0
    obtain rfl := harg2.eq_unread hf1
    obtain rfl := harg3.eq_unread hf2
    obtain rfl := harg4.eq_unread hf3
    obtain rfl := harg5.eq_unread hf4
    obtain rfl := harg6.eq_unread hf5
    obtain rfl := harg7.eq_unread hf6
    obtain rfl := harg8.eq_unread hf7
    obtain rfl := harg9.eq_unread hf8
    obtain rfl := harg13.eq_unread hg13
    obtain rfl := harg14.eq_unread hg14
    sl_exec (disch := first | sl_exact h0 | sl_exact h1)
    sl_step
    iapply Hk
    isplitl [H0 H1 H2 H3 H4 H5 H6 H7 H8]
    · isplitl [H0]
      · iexists _; isplitr; · ipureintro; exact harg1.read_unread _
        iexact H0
      isplitl [H1]
      · iexists _; isplitr; · ipureintro; exact harg2.read_unread _
        iexact H1
      isplitl [H2]
      · iexists _; isplitr; · ipureintro; exact harg3.read_unread _
        iexact H2
      isplitl [H3]
      · iexists _; isplitr; · ipureintro; exact harg4.read_unread _
        iexact H3
      isplitl [H4]
      · iexists _; isplitr; · ipureintro; exact harg5.read_unread _
        iexact H4
      isplitl [H5]
      · iexists _; isplitr; · ipureintro; exact harg6.read_unread _
        iexact H5
      isplitl [H6]
      · iexists _; isplitr; · ipureintro; exact harg7.read_unread _
        iexact H6
      isplitl [H7]
      · iexists _; isplitr; · ipureintro; exact harg8.read_unread _
        iexact H7
      iexists _; isplitr; · ipureintro; exact harg9.read_unread _
      iexact H8
    isplitl [G10]; · iexists _; iexact G10
    isplitl [G11]; · iexists _; iexact G11
    isplitl [G12]; · iexists _; iexact G12
    isplitl [G13]; · iexists _; iexact G13
    iexists _; iexact G14

-- the run of a body of this size takes more steps than the default allows
set_option maxHeartbeats 4000000 in
/-- The closing point: no block of queries is left, and the two outputs of a live block are not touched. -/
def runC (h0 : ¬first i) (h1 : ¬live i) (y13 : Vec F S8x128 .f32) (y14 : Vec F S128x256 .f32) :
    Σ' (L12 : List (View.Piece (Elt F) S128x256 .bf16)), Σ' (L13 : List (View.Piece (Elt F) S8x128 .f32)), { L14 : List (View.Piece (Elt F) S128x256 .f32) //
      ∀ (E : Set ℕ) (K : PUnit → sProp 𝕄),
        iprop(ins c arg1 arg2 arg3 arg4 arg5 arg6 arg7 arg8 arg9 x0 x1 x2 x3 x4 x5 x6 x7 x8
            ∗ (∃ d, owns (c : Thread nD τ) arg12 fullShare d) ∗ owns (c : Thread nD τ) arg13 fullShare y13 ∗ owns (c : Thread nD τ) arg14 fullShare y14
            ∗ (iprop(ins c arg1 arg2 arg3 arg4 arg5 arg6 arg7 arg8 arg9 x0 x1 x2 x3 x4 x5 x6 x7 x8
              ∗ (∃ f, arg12.view.loc (c : Thread nD τ) ↦[arg12.view.set]{fullShare} arg12.view.writes (Elt F) f L12) ∗ (∃ f, arg13.view.loc (c : Thread nD τ) ↦[arg13.view.set]{fullShare} arg13.view.writes (Elt F) f L13) ∗ (∃ f, arg14.view.loc (c : Thread nD τ) ↦[arg14.view.set]{fullShare} arg14.view.writes (Elt F) f L14)) -∗ K ⟨⟩))
          ⊢ wp frame (wpE (defs₀ (F := F)) Variants.none c none) E (cc0_swa_bwd i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, fun E K => ?run⟩
  case run =>
    simp only [cc0_swa_bwd_eq_skeleton]; unfold cc0_swa_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton]
    unfold ins owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩⟩, ⟨%d12, %g12, -, G12⟩, ⟨%g13, %hg13, G13⟩, ⟨%g14, %hg14, G14⟩, Hk⟩
    obtain rfl := harg1.eq_unread hf0
    obtain rfl := harg2.eq_unread hf1
    obtain rfl := harg3.eq_unread hf2
    obtain rfl := harg4.eq_unread hf3
    obtain rfl := harg5.eq_unread hf4
    obtain rfl := harg6.eq_unread hf5
    obtain rfl := harg7.eq_unread hf6
    obtain rfl := harg8.eq_unread hf7
    obtain rfl := harg9.eq_unread hf8
    obtain rfl := harg13.eq_unread hg13
    obtain rfl := harg14.eq_unread hg14
    sl_exec (disch := first | sl_exact h0 | sl_exact h1)
    sl_step
    iapply Hk
    isplitl [H0 H1 H2 H3 H4 H5 H6 H7 H8]
    · isplitl [H0]
      · iexists _; isplitr; · ipureintro; exact harg1.read_unread _
        iexact H0
      isplitl [H1]
      · iexists _; isplitr; · ipureintro; exact harg2.read_unread _
        iexact H1
      isplitl [H2]
      · iexists _; isplitr; · ipureintro; exact harg3.read_unread _
        iexact H2
      isplitl [H3]
      · iexists _; isplitr; · ipureintro; exact harg4.read_unread _
        iexact H3
      isplitl [H4]
      · iexists _; isplitr; · ipureintro; exact harg5.read_unread _
        iexact H4
      isplitl [H5]
      · iexists _; isplitr; · ipureintro; exact harg6.read_unread _
        iexact H5
      isplitl [H6]
      · iexists _; isplitr; · ipureintro; exact harg7.read_unread _
        iexact H6
      isplitl [H7]
      · iexists _; isplitr; · ipureintro; exact harg8.read_unread _
        iexact H7
      iexists _; isplitr; · ipureintro; exact harg9.read_unread _
      iexact H8
    isplitl [G12]; · iexists _; iexact G12
    isplitl [G13]; · iexists _; iexact G13
    iexists _; iexact G14

end Cert.Proof.Swa

end
-- ==== Proof.Swa.Frame.lean ====
module

public import proofs.«01_k».proof.Proof.Swa.Run
public import Idealize.ShloMosaic.Lib.Claim

@[expose] public section

set_option maxRecDepth 16384

noncomputable section

namespace Cert.Proof.Swa

open Cert.SwaIdeal Cert.SwaIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The frame of the attention's backward region: what every output and the carried half hold after each point, and
the run of the whole program. The two outputs of a live block are not touched at the closing point, whose write-back
repeats the block before: they still hold what the last live point left. -/

variable (m : (ℓ : Loc nD τ sig) → Buf (Elt F) ℓ) (ρ : Dev nD → PrngReg)

theorem first_iff : ∀ t : Fin cfg0.N, first (grid0.coords t) ↔ t.val = 0 := by
  have h : ∀ t : Fin grid0.N, first (grid0.coords t) ↔ t.val = 0 := by decide +kernel
  exact h

theorem live_iff : ∀ t : Fin cfg0.N, live (grid0.coords t) ↔ t.val < 16 := by
  have h : ∀ t : Fin grid0.N, live (grid0.coords t) ↔ t.val < 16 := by decide +kernel
  exact h

/-- The contents that written pieces leave. -/
def back {sp : Space} {s : Shape} {e : EltTy} (V : View sig .tc sp s e) (L : List (View.Piece (Elt F) s e)) : Vec F s e :=
  V.read (Elt F) (V.writes (Elt F) V.junk L)

abbrev V10 : View sig .tc .vmem S256x512 .bf16 := (Memref.whole cc0_stg9_0 : Memref sig .tc .vmem S256x512 .bf16).view
abbrev V11 : View sig .tc .vmem S128x256 .bf16 := (Memref.whole cc0_stg10_0 : Memref sig .tc .vmem S128x256 .bf16).view
abbrev V12 : View sig .tc .vmem S128x256 .bf16 := (Memref.whole cc0_stg11_0 : Memref sig .tc .vmem S128x256 .bf16).view
abbrev V13 : View sig .tc .vmem S8x128 .f32 := (Memref.whole cc0_stg12_0 : Memref sig .tc .vmem S8x128 .f32).view
abbrev V14 : View sig .tc .vmem S128x256 .f32 := (Memref.whole cc0_scratch0 : Memref sig .tc .vmem S128x256 .f32).view

/-- The run at the first point, -/
abbrev atA (c : Dev nD) (t : Fin cfg0.N) (h0 : first (grid0.coords t)) (h1 : live (grid0.coords t)) :=
  runA c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (st0_12 t) (hstage0_12 ((cfg0.slots t 12).cast nbuf0_12)) (Memref.whole cc0_scratch0) (Memref.isWhole_whole _)
    (iblk m c 0 t) (X0_1 m c t) (iblk m c 2 t) (iblk m c 3 t) (iblk m c 4 t) (iblk m c 5 t) (iblk m c 6 t) (iblk m c 7 t) (iblk m c 8 t) h0 h1
/-- at a later live point, over what the point before left, -/
abbrev atB (c : Dev nD) (t : Fin cfg0.N) (h0 : ¬first (grid0.coords t)) (h1 : live (grid0.coords t)) (y13 : Vec F S8x128 .f32) (y14 : Vec F S128x256 .f32) :=
  runB c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (st0_12 t) (hstage0_12 ((cfg0.slots t 12).cast nbuf0_12)) (Memref.whole cc0_scratch0) (Memref.isWhole_whole _)
    (iblk m c 0 t) (X0_1 m c t) (iblk m c 2 t) (iblk m c 3 t) (iblk m c 4 t) (iblk m c 5 t) (iblk m c 6 t) (iblk m c 7 t) (iblk m c 8 t) h0 h1 y13 y14
/-- and at the closing point. -/
abbrev atC (c : Dev nD) (t : Fin cfg0.N) (h0 : ¬first (grid0.coords t)) (h1 : ¬live (grid0.coords t)) (y13 : Vec F S8x128 .f32) (y14 : Vec F S128x256 .f32) :=
  runC c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (st0_12 t) (hstage0_12 ((cfg0.slots t 12).cast nbuf0_12)) (Memref.whole cc0_scratch0) (Memref.isWhole_whole _)
    (iblk m c 0 t) (X0_1 m c t) (iblk m c 2 t) (iblk m c 3 t) (iblk m c 4 t) (iblk m c 5 t) (iblk m c 6 t) (iblk m c 7 t) (iblk m c 8 t) h0 h1 y13 y14

/-! The pieces cover each buffer. -/

theorem coverA10 (c : Dev nD) (t : Fin cfg0.N) (h0 : first (grid0.coords t)) (h1 : live (grid0.coords t)) (y : S256x512.Idx) :
    ∃ pc ∈ (atA m c t h0 h1).1, y ∈ pc.1.set :=
  View.cover_of_tiledL (atA m c t h0 h1).1 S256x128.size (by sl_kernel_rfl) y

theorem coverA11 (c : Dev nD) (t : Fin cfg0.N) (h0 : first (grid0.coords t)) (h1 : live (grid0.coords t)) (y : S128x256.Idx) :
    ∃ pc ∈ (atA m c t h0 h1).2.1, y ∈ pc.1.set :=
  View.cover_of_tiledL (atA m c t h0 h1).2.1 S128x256.size (by sl_kernel_rfl) y

theorem coverA12 (c : Dev nD) (t : Fin cfg0.N) (h0 : first (grid0.coords t)) (h1 : live (grid0.coords t)) (y : S128x256.Idx) :
    ∃ pc ∈ (atA m c t h0 h1).2.2.1, y ∈ pc.1.set :=
  View.cover_of_tiledL (atA m c t h0 h1).2.2.1 S128x256.size (by sl_kernel_rfl) y

theorem coverA13 (c : Dev nD) (t : Fin cfg0.N) (h0 : first (grid0.coords t)) (h1 : live (grid0.coords t)) (y : S8x128.Idx) :
    ∃ pc ∈ (atA m c t h0 h1).2.2.2.1, y ∈ pc.1.set :=
  View.cover_of_wholeMem (atA m c t h0 h1).2.2.2.1 (by sl_whole_mem) y

theorem coverA14 (c : Dev nD) (t : Fin cfg0.N) (h0 : first (grid0.coords t)) (h1 : live (grid0.coords t)) (y : S128x256.Idx) :
    ∃ pc ∈ (atA m c t h0 h1).2.2.2.2.1, y ∈ pc.1.set :=
  View.cover_of_wholeMem (atA m c t h0 h1).2.2.2.2.1 (by sl_whole_mem) y

theorem coverB10 (c : Dev nD) (t : Fin cfg0.N) (h0 : ¬first (grid0.coords t)) (h1 : live (grid0.coords t)) (y13 : Vec F S8x128 .f32) (y14 : Vec F S128x256 .f32) (y : S256x512.Idx) :
    ∃ pc ∈ (atB m c t h0 h1 y13 y14).1, y ∈ pc.1.set :=
  View.cover_of_tiledL (atB m c t h0 h1 y13 y14).1 S256x128.size (by sl_kernel_rfl) y

theorem coverB11 (c : Dev nD) (t : Fin cfg0.N) (h0 : ¬first (grid0.coords t)) (h1 : live (grid0.coords t)) (y13 : Vec F S8x128 .f32) (y14 : Vec F S128x256 .f32) (y : S128x256.Idx) :
    ∃ pc ∈ (atB m c t h0 h1 y13 y14).2.1, y ∈ pc.1.set :=
  View.cover_of_tiledL (atB m c t h0 h1 y13 y14).2.1 S128x256.size (by sl_kernel_rfl) y

theorem coverB12 (c : Dev nD) (t : Fin cfg0.N) (h0 : ¬first (grid0.coords t)) (h1 : live (grid0.coords t)) (y13 : Vec F S8x128 .f32) (y14 : Vec F S128x256 .f32) (y : S128x256.Idx) :
    ∃ pc ∈ (atB m c t h0 h1 y13 y14).2.2.1, y ∈ pc.1.set :=
  View.cover_of_tiledL (atB m c t h0 h1 y13 y14).2.2.1 S128x256.size (by sl_kernel_rfl) y

theorem coverB13 (c : Dev nD) (t : Fin cfg0.N) (h0 : ¬first (grid0.coords t)) (h1 : live (grid0.coords t)) (y13 : Vec F S8x128 .f32) (y14 : Vec F S128x256 .f32) (y : S8x128.Idx) :
    ∃ pc ∈ (atB m c t h0 h1 y13 y14).2.2.2.1, y ∈ pc.1.set :=
  View.cover_of_tiledL (atB m c t h0 h1 y13 y14).2.2.2.1 S8x128.size (by sl_kernel_rfl) y

theorem coverB14 (c : Dev nD) (t : Fin cfg0.N) (h0 : ¬first (grid0.coords t)) (h1 : live (grid0.coords t)) (y13 : Vec F S8x128 .f32) (y14 : Vec F S128x256 .f32) (y : S128x256.Idx) :
    ∃ pc ∈ (atB m c t h0 h1 y13 y14).2.2.2.2.1, y ∈ pc.1.set :=
  View.cover_of_wholeMem (atB m c t h0 h1 y13 y14).2.2.2.2.1 (by sl_whole_mem) y

theorem coverC12 (c : Dev nD) (t : Fin cfg0.N) (h0 : ¬first (grid0.coords t)) (h1 : ¬live (grid0.coords t)) (y13 : Vec F S8x128 .f32) (y14 : Vec F S128x256 .f32) (y : S128x256.Idx) :
    ∃ pc ∈ (atC m c t h0 h1 y13 y14).1, y ∈ pc.1.set :=
  View.cover_of_tiledL (atC m c t h0 h1 y13 y14).1 S128x256.size (by sl_kernel_rfl) y

theorem coverC13 (c : Dev nD) (t : Fin cfg0.N) (h0 : ¬first (grid0.coords t)) (h1 : ¬live (grid0.coords t)) (y13 : Vec F S8x128 .f32) (y14 : Vec F S128x256 .f32) (y : S8x128.Idx) :
    ∃ pc ∈ (atC m c t h0 h1 y13 y14).2.1, y ∈ pc.1.set :=
  View.cover_of_tiledL (atC m c t h0 h1 y13 y14).2.1 S8x128.size (by sl_kernel_rfl) y

theorem coverC14 (c : Dev nD) (t : Fin cfg0.N) (h0 : ¬first (grid0.coords t)) (h1 : ¬live (grid0.coords t)) (y13 : Vec F S8x128 .f32) (y14 : Vec F S128x256 .f32) (y : S128x256.Idx) :
    ∃ pc ∈ (atC m c t h0 h1 y13 y14).2.2.1, y ∈ pc.1.set :=
  View.cover_of_wholeMem (atC m c t h0 h1 y13 y14).2.2.1 (by sl_whole_mem) y

/-- What the four outputs and the carried half hold. -/
structure Held (F : FTy → Type) [FloatOps F] where
  dq : Vec F S256x512 .bf16
  own : Vec F S128x256 .bf16
  next : Vec F S128x256 .bf16
  sink : Vec F S8x128 .f32
  carry : Vec F S128x256 .f32

/-- What the first point leaves, -/
def stepA (c : Dev nD) (t : Fin cfg0.N) (h : t.val = 0) : Held F :=
  ⟨back V10 (atA m c t ((first_iff t).mpr h) ((live_iff t).mpr (h.trans_lt (Nat.succ_pos 15)))).1, back V11 (atA m c t ((first_iff t).mpr h) ((live_iff t).mpr (h.trans_lt (Nat.succ_pos 15)))).2.1, back V12 (atA m c t ((first_iff t).mpr h) ((live_iff t).mpr (h.trans_lt (Nat.succ_pos 15)))).2.2.1, back V13 (atA m c t ((first_iff t).mpr h) ((live_iff t).mpr (h.trans_lt (Nat.succ_pos 15)))).2.2.2.1, back V14 (atA m c t ((first_iff t).mpr h) ((live_iff t).mpr (h.trans_lt (Nat.succ_pos 15)))).2.2.2.2.1⟩

/-- a later live point over what was held, -/
def stepB (c : Dev nD) (t : Fin cfg0.N) (h : t.val ≠ 0) (h' : t.val < 16) (p : Held F) : Held F :=
  ⟨back V10 (atB m c t (fun e => h ((first_iff t).mp e)) ((live_iff t).mpr h') p.sink p.carry).1, back V11 (atB m c t (fun e => h ((first_iff t).mp e)) ((live_iff t).mpr h') p.sink p.carry).2.1, back V12 (atB m c t (fun e => h ((first_iff t).mp e)) ((live_iff t).mpr h') p.sink p.carry).2.2.1, back V13 (atB m c t (fun e => h ((first_iff t).mp e)) ((live_iff t).mpr h') p.sink p.carry).2.2.2.1, back V14 (atB m c t (fun e => h ((first_iff t).mp e)) ((live_iff t).mpr h') p.sink p.carry).2.2.2.2.1⟩

/-- and the closing point. -/
def stepC (c : Dev nD) (t : Fin cfg0.N) (h : t.val ≠ 0) (h' : ¬t.val < 16) (p : Held F) : Held F :=
  ⟨p.dq, p.own, back V12 (atC m c t (fun e => h ((first_iff t).mp e)) (fun e => h' ((live_iff t).mp e)) p.sink p.carry).1, back V13 (atC m c t (fun e => h ((first_iff t).mp e)) (fun e => h' ((live_iff t).mp e)) p.sink p.carry).2.1, back V14 (atC m c t (fun e => h ((first_iff t).mp e)) (fun e => h' ((live_iff t).mp e)) p.sink p.carry).2.2.1⟩

/-- What they hold after a point. -/
def held (c : Dev nD) : (n : ℕ) → n < cfg0.N → Held F
  | 0, hn => stepA m c ⟨0, hn⟩ rfl
  | n + 1, hn =>
    if h : n + 1 < 16 then stepB m c ⟨n + 1, hn⟩ (Nat.succ_ne_zero n) h (held c n (Nat.lt_of_succ_lt hn))
    else stepC m c ⟨n + 1, hn⟩ (Nat.succ_ne_zero n) h (held c n (Nat.lt_of_succ_lt hn))

/-- What the point before left. -/
abbrev before' (c : Dev nD) (t : Fin cfg0.N) : Held F := held m c (t.val - 1) (Nat.lt_of_le_of_lt (Nat.sub_le _ _) t.isLt)

theorem held_A (c : Dev nD) (t : Fin cfg0.N) (h : t.val = 0) : held m c t.val t.isLt = stepA m c t h := by
  obtain ⟨n, hn⟩ := t
  cases n with
  | zero => exact rfl
  | succ n => exact absurd h (Nat.succ_ne_zero n)

theorem held_B (c : Dev nD) (t : Fin cfg0.N) (h : t.val ≠ 0) (h' : t.val < 16) :
    held m c t.val t.isLt = stepB m c t h h' (before' m c t) := by
  obtain ⟨n, hn⟩ := t
  cases n with
  | zero => exact absurd rfl h
  | succ n => rw [held]; exact dif_pos h'

theorem held_C (c : Dev nD) (t : Fin cfg0.N) (h : t.val ≠ 0) (h' : ¬t.val < 16) :
    held m c t.val t.isLt = stepC m c t h h' (before' m c t) := by
  obtain ⟨n, hn⟩ := t
  cases n with
  | zero => exact absurd rfl h
  | succ n => rw [held]; exact dif_neg h'

/-- What is held beside the windows before a point: the carried half as the point before left it. -/
def Inv (c : Dev nD) : (n : ℕ) → n ≤ cfg0.N → sProp 𝕄
  | 0, _ => Pipeline.ΦA spec0 c
  | n + 1, hn => iprop(owns (c : Thread nD τ) (Memref.whole cc0_scratch0) fullShare (held m c n hn).carry ∗ (∃ r, prngReg c r))

theorem Inv_zero (c : Dev nD) (n : ℕ) (h : n ≤ cfg0.N) (hz : n = 0) : Inv m c n h
    = iprop((∃ d, owns (c : Thread nD τ) (Memref.whole cc0_scratch0) fullShare d) ∗ (∃ r, prngReg c r)) := by
  subst hz
  show Pipeline.ΦA spec0 c = _
  unfold Pipeline.ΦA; rw [scopedRest0_eq]; simp only [owns_whole]; try rfl

theorem Inv_pos (c : Dev nD) (n : ℕ) (h : n ≤ cfg0.N) (hz : n ≠ 0) : Inv m c n h
    = iprop(owns (c : Thread nD τ) (Memref.whole cc0_scratch0) fullShare (held m c (n - 1) (by omega)).carry ∗ (∃ r, prngReg c r)) := by
  cases n with
  | zero => exact absurd rfl hz
  | succ n => rfl

/-- The proof data of the region. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => X0_1 m c t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => (held m c t.val t.isLt).dq
    | ⟨10, _⟩ => (held m c t.val t.isLt).own
    | ⟨11, _⟩ => (held m c t.val t.isLt).next
    | ⟨12, _⟩ => (held m c t.val t.isLt).sink
    | ⟨_ + 13, h⟩ => absurd h (Nat.not_lt.2 (Nat.le_add_left _ _))
  Φ t := Inv m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem Φ_castSucc (c : Dev nD) (t : Fin cfg0.N) : (dats m 0 c).Φ t.castSucc = Inv m c t.val (Nat.le_of_lt t.isLt) := by
  dsimp only [dats]; exact Pipeline.Dat.Φ_castSucc (Inv m c) t

theorem after0 (c : Dev nD) (t : Fin cfg0.N) : (dats m 0 c).after 0 t = iblk m c 0 t := by dsimp only [dats]
theorem after1 (c : Dev nD) (t : Fin cfg0.N) : (dats m 0 c).after 1 t = X0_1 m c t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = (held m c t.val t.isLt).dq := by dsimp only [dats]
theorem after10 (c : Dev nD) (t : Fin cfg0.N) : (dats m 0 c).after 10 t = (held m c t.val t.isLt).own := by dsimp only [dats]
theorem after11 (c : Dev nD) (t : Fin cfg0.N) : (dats m 0 c).after 11 t = (held m c t.val t.isLt).next := by dsimp only [dats]
theorem after12 (c : Dev nD) (t : Fin cfg0.N) : (dats m 0 c).after 12 t = (held m c t.val t.isLt).sink := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = X0_1 m c t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d
theorem before8 (c : Dev nD) (t : Fin cfg0.N) (d) : (dats m 0 c).before 8 t d = iblk m c 8 t :=
  before0_8_of m (dats m 0 c) (A_eq m c 8) (after8 m c) t d

theorem before12 (c : Dev nD) (t : Fin cfg0.N) (h : t.val ≠ 0) (d) : (dats m 0 c).before 12 t d = (before' m c t).sink := by
  have hN : t.val < 17 := lt_of_lt_of_eq t.isLt (show cfg0.N = 17 from N_0)
  rw [Dat.before_out_kept _ 12 rfl t h (Bool.eq_false_iff.mpr fun e => by have := (flush0_12 _).mp e; dsimp only at this; omega)
    (fun _ => rfl) (fun _ _ => rfl)]
  dsimp only [dats]

/-- Where the two outputs of a live block are not written, their block is still written back. -/
theorem idle_flush : ∀ t : Fin cfg0.N, (cfg0.idle 9 (grid0.coords t) = false ∨ (cfg0.win 9).flush t = true)
    ∧ (cfg0.idle 10 (grid0.coords t) = false ∨ (cfg0.win 10).flush t = true) := by
  decide +kernel

theorem unflushed : ∀ t : Fin cfg0.N, t.val = 15 → ((cfg0.win 9).flush t = false ∧ cfg0.idle 9 (grid0.coords t) = false)
    ∧ (cfg0.win 10).flush t = false ∧ cfg0.idle 10 (grid0.coords t) = false := by
  decide +kernel

theorem leaves9 (c : Dev nD) (t : Fin cfg0.N) : (dats m 0 c).leavesExact 9 t = owns (c : Thread nD τ) (st0_9 t) fullShare ((dats m 0 c).after 9 t) := by
  unfold Dat.leavesExact
  rcases (idle_flush t).1 with h | h
  · rw [show cfg0.idle 9 (cfg0.grid.coords t) = false from h]
  · rw [h]; cases cfg0.idle 9 (cfg0.grid.coords t) <;> rfl

theorem leaves10 (c : Dev nD) (t : Fin cfg0.N) : (dats m 0 c).leavesExact 10 t = owns (c : Thread nD τ) (st0_10 t) fullShare ((dats m 0 c).after 10 t) := by
  unfold Dat.leavesExact
  rcases (idle_flush t).2 with h | h
  · rw [show cfg0.idle 10 (cfg0.grid.coords t) = false from h]
  · rw [h]; cases cfg0.idle 10 (cfg0.grid.coords t) <;> rfl

/-- The closing point finds in them what the last live point left. -/
theorem before_closing (c : Dev nD) (w : Fin cfg0.W) (hw : (cfg0.win w).isOut = true) (hc : ∀ (i : cfg0.grid.Coords) a, (cfg0.win w).clip i a = none)
    (t : Fin cfg0.N) (h : t.val ≠ 0) (hf : (cfg0.win w).flush ⟨t.val - 1, Nat.lt_of_le_of_lt (Nat.sub_le _ _) t.isLt⟩ = false)
    (hi : cfg0.idle w (grid0.coords ⟨t.val - 1, Nat.lt_of_le_of_lt (Nat.sub_le _ _) t.isLt⟩) = false) (d) :
    (dats m 0 c).before w t d = (dats m 0 c).after w ⟨t.val - 1, Nat.lt_of_le_of_lt (Nat.sub_le _ _) t.isLt⟩ := by
  rw [(dats m 0 c).before_of_pos w t h ((cfg0.win w).fetch_out hw t), hf, if_neg Bool.false_ne_true]
  unfold Dat.left
  rw [show cfg0.idle w (cfg0.grid.coords ⟨t.val - 1, Nat.lt_of_le_of_lt (Nat.sub_le _ _) t.isLt⟩) = false from hi]
  unfold Dat.kept
  rw [Pipeline.fill_of_clip_none w _ (hc _) d ((dats m 0 c).after w _), Window.fill_cut]

theorem before9 (c : Dev nD) (t : Fin cfg0.N) (h : ¬t.val < 16) (d) : (dats m 0 c).before 9 t d = (before' m c t).dq := by
  have hN : t.val < 17 := lt_of_lt_of_eq t.isLt (show cfg0.N = 17 from N_0)
  have e := unflushed ⟨t.val - 1, Nat.lt_of_le_of_lt (Nat.sub_le _ _) t.isLt⟩ (show t.val - 1 = 15 by omega)
  rw [before_closing m c 9 rfl (fun _ _ => rfl) t (by omega) e.1.1 e.1.2]
  dsimp only [dats]

theorem before10 (c : Dev nD) (t : Fin cfg0.N) (h : ¬t.val < 16) (d) : (dats m 0 c).before 10 t d = (before' m c t).own := by
  have hN : t.val < 17 := lt_of_lt_of_eq t.isLt (show cfg0.N = 17 from N_0)
  have e := unflushed ⟨t.val - 1, Nat.lt_of_le_of_lt (Nat.sub_le _ _) t.isLt⟩ (show t.val - 1 = 15 by omega)
  rw [before_closing m c 10 rfl (fun _ _ => rfl) t (by omega) e.2.1 e.2.2]
  dsimp only [dats]

/-- What the body is given at a point -/
def given (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d)))

/-- and what it leaves. -/
def returned (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ (dats m 0 c).leavesExact 9 t
    ∗ (dats m 0 c).leavesExact 10 t
    ∗ owns (c : Thread nD τ) (st0_11 t) fullShare ((dats m 0 c).after 11 t)
    ∗ owns (c : Thread nD τ) (st0_12 t) fullShare ((dats m 0 c).after 12 t))

set_option maxHeartbeats 8000000 in
theorem body_sound (c : Dev nD) (t : Fin cfg0.N) :
    given m c t ⊢ wp frame (wpE (defs₀ (F := F)) Variants.none c none) Set.univ (bodyAt0 t) (fun _ => returned m c t) := by
  unfold given returned bodyAt0
  simp only [before0, before1, before2, before3, before4, before5, before6, before7, before8, leaves9, leaves10]
  rw [show (dats m 0 c).owesAt () t.succ = (dats m 0 c).owesAt () t.castSucc from rfl,
    after0, after1, after2, after3, after4, after5, after6, after7, after8, after9, after10, after11, after12]
  rw [show (dats m 0 c).Φ t.succ = Inv m c (t.val + 1) t.isLt from rfl, Inv_pos m c (t.val + 1) _ (Nat.succ_ne_zero _), Φ_castSucc]
  simp only [Nat.add_sub_cancel]
  have hN : t.val < 17 := lt_of_lt_of_eq t.isLt (show cfg0.N = 17 from N_0)
  by_cases h : t.val = 0
  · rw [Inv_zero m c _ _ h, held_A m c t h]
    dsimp only [stepA, back]
    iintro ⟨⟨G14, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%e10, G10⟩, ⟨%e11, G11⟩, ⟨%e12, G12⟩, ⟨%e13, G13⟩⟩
    iapply ((atA m c t ((first_iff t).mpr h) ((live_iff t).mpr (h.trans_lt (Nat.succ_pos 15)))).2.2.2.2.2 Set.univ _)
    isplitl [H0 H1 H2 H3 H4 H5 H6 H7 H8]
    · unfold ins
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    isplitl [G10]; · iexists _; iexact G10
    isplitl [G11]; · iexists _; iexact G11
    isplitl [G12]; · iexists _; iexact G12
    isplitl [G13]; · iexists _; iexact G13
    isplitl [G14]; · iexact G14
    iintro ⟨Hins, ⟨%g10, G10⟩, ⟨%g11, G11⟩, ⟨%g12, G12⟩, ⟨%g13, G13⟩, ⟨%g14, G14⟩⟩
    unfold ins
    icases Hins with ⟨H0, H1, H2, H3, H4, H5, H6, H7, H8⟩
    isplitl [G14 Hg]
    · isplitl [G14]
      · unfold owns; iexists _; isplitr
        swap; · iexact G14
        ipureintro; exact View.read_writes_of_cover _ _ _ _ _ (coverA14 m c t _ _)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [G10]
    · unfold owns; iexists _; isplitr
      swap; · iexact G10
      ipureintro; exact View.read_writes_of_cover _ _ _ _ _ (coverA10 m c t _ _)
    isplitl [G11]
    · unfold owns; iexists _; isplitr
      swap; · iexact G11
      ipureintro; exact View.read_writes_of_cover _ _ _ _ _ (coverA11 m c t _ _)
    isplitl [G12]
    · unfold owns; iexists _; isplitr
      swap; · iexact G12
      ipureintro; exact View.read_writes_of_cover _ _ _ _ _ (coverA12 m c t _ _)
    unfold owns; iexists _; isplitr
    swap; · iexact G13
    ipureintro; exact View.read_writes_of_cover _ _ _ _ _ (coverA13 m c t _ _)
  rw [Inv_pos m c _ _ h]
  simp only [before12 m c t h]
  by_cases h' : t.val < 16
  · rw [held_B m c t h h']
    dsimp only [stepB, back]
    iintro ⟨⟨G14, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%e10, G10⟩, ⟨%e11, G11⟩, ⟨%e12, G12⟩, ⟨%e13, G13⟩⟩
    iapply ((atB m c t (fun e => h ((first_iff t).mp e)) ((live_iff t).mpr h') (before' m c t).sink (before' m c t).carry).2.2.2.2.2 Set.univ _)
    isplitl [H0 H1 H2 H3 H4 H5 H6 H7 H8]
    · unfold ins
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    isplitl [G10]; · iexists _; iexact G10
    isplitl [G11]; · iexists _; iexact G11
    isplitl [G12]; · iexists _; iexact G12
    isplitl [G13]; · iexact G13
    isplitl [G14]; · iexact G14
    iintro ⟨Hins, ⟨%g10, G10⟩, ⟨%g11, G11⟩, ⟨%g12, G12⟩, ⟨%g13, G13⟩, ⟨%g14, G14⟩⟩
    unfold ins
    icases Hins with ⟨H0, H1, H2, H3, H4, H5, H6, H7, H8⟩
    isplitl [G14 Hg]
    · isplitl [G14]
      · unfold owns; iexists _; isplitr
        swap; · iexact G14
        ipureintro; exact View.read_writes_of_cover _ _ _ _ _ (coverB14 m c t _ _ _ _)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [G10]
    · unfold owns; iexists _; isplitr
      swap; · iexact G10
      ipureintro; exact View.read_writes_of_cover _ _ _ _ _ (coverB10 m c t _ _ _ _)
    isplitl [G11]
    · unfold owns; iexists _; isplitr
      swap; · iexact G11
      ipureintro; exact View.read_writes_of_cover _ _ _ _ _ (coverB11 m c t _ _ _ _)
    isplitl [G12]
    · unfold owns; iexists _; isplitr
      swap; · iexact G12
      ipureintro; exact View.read_writes_of_cover _ _ _ _ _ (coverB12 m c t _ _ _ _)
    unfold owns; iexists _; isplitr
    swap; · iexact G13
    ipureintro; exact View.read_writes_of_cover _ _ _ _ _ (coverB13 m c t _ _ _ _)
  · rw [held_C m c t h h']
    simp only [before9 m c t h', before10 m c t h']
    dsimp only [stepC, back]
    iintro ⟨⟨G14, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%e10, G10⟩, ⟨%e11, G11⟩, ⟨%e12, G12⟩, ⟨%e13, G13⟩⟩
    iapply ((atC m c t (fun e => h ((first_iff t).mp e)) (fun e => h' ((live_iff t).mp e)) (before' m c t).sink (before' m c t).carry).2.2.2 Set.univ _)
    isplitl [H0 H1 H2 H3 H4 H5 H6 H7 H8]
    · unfold ins
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    isplitl [G12]; · iexists _; iexact G12
    isplitl [G13]; · iexact G13
    isplitl [G14]; · iexact G14
    iintro ⟨Hins, ⟨%g12, G12⟩, ⟨%g13, G13⟩, ⟨%g14, G14⟩⟩
    unfold ins
    icases Hins with ⟨H0, H1, H2, H3, H4, H5, H6, H7, H8⟩
    isplitl [G14 Hg]
    · isplitl [G14]
      · unfold owns; iexists _; isplitr
        swap; · iexact G14
        ipureintro; exact View.read_writes_of_cover _ _ _ _ _ (coverC14 m c t _ _ _ _)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [G10]
    · iexact G10
    isplitl [G11]
    · iexact G11
    isplitl [G12]
    · unfold owns; iexists _; isplitr
      swap; · iexact G12
      ipureintro; exact View.read_writes_of_cover _ _ _ _ _ (coverC12 m c t _ _ _ _)
    unfold owns; iexists _; isplitr
    swap; · iexact G13
    ipureintro; exact View.read_writes_of_cover _ _ _ _ _ (coverC13 m c t _ _ _ _)

theorem row (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, row]
  exact triple_restated (body_sound m c t) rfl .rfl fun _ => .rfl

theorem enter (c : Dev nD) : Pipeline.ΦA spec0 c ⊢ (dats m 0 c).Φ 0 := by
  rw [show (dats m 0 c).Φ 0 = Pipeline.ΦA spec0 c from rfl]

theorem leave (c : Dev nD) : (dats m 0 c).Φ (Fin.last cfg0.N) ⊢ Pipeline.ΦA spec0 c := by
  have hN : cfg0.N = 17 := N_0
  rw [show (dats m 0 c).Φ (Fin.last cfg0.N) = Inv m c cfg0.N (Nat.le_refl _) from rfl, Inv_pos m c _ _ (by omega),
    show Pipeline.ΦA spec0 c = Inv m c 0 (Nat.zero_le _) from rfl, Inv_zero m c 0 _ rfl]
  iintro ⟨H, Hg⟩
  isplitl [H]
  · iexists _; iexact H
  iexact Hg

set_option backward.isDefEq.respectTransparency.types false in
set_option maxHeartbeats 800000 in
/-- The run of the whole program: it ends, every array of the region is what the proof data say, every other buffer is
as the lines after the region leave it, and no semaphore is raised. -/
theorem run_quiescent : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around_track_shared (Q' := _) cfgs (dats m) (0 : Fin 1) launch₀0 defs₀ Variants.none m ρ main
    (hbody := fun c => (obligation m c).loose) (hq := fun _ _ _ => rfl)
    (howed := fun _ _ => rfl) (V₀ := V0 m) (opss := [hostOps1]) (hsub := sfx_sub) (hfresh := sfx_fresh) (hkeep := sfx_keeps)
    (hmain := hmain m Variants.none) (hA := A_eq m) (hin := enter m) (hout := leave m)

theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_quiescent m ρ)

/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_quiescent m ρ))

end Cert.Proof.Swa

end
-- ==== Proof.Swa.Block.lean ====
/- One block of the attention's backward region as whole arrays: a head's weights, its score gradients, and what
they give to the queries, the keys, the values and the sinks. -/
module

public import proofs.«01_k».proof.Proof.Reals
public import proofs.«01_k».proof.Proof.Gen.SwaIdeal.Skeleton
public import Idealize.ShloMosaic.Lib.Pointwise

@[expose] public section

set_option maxRecDepth 16384

noncomputable section

namespace Cert.Proof.Swa

open Idealize.ShloMosaic
open Cert.SwaIdeal Cert.SwaIdeal.Gen

variable {F : FTy → Type} [FloatOps F]

/-- The lanes of half `e` of a tile of two heads. -/
def half (e : BitVec 32) : IVec S256x128 1 :=
  have n : IVec S256x128 32 := iota .tc S256x128 32 [1] iota_S256x128_d1_w32
  have d := divsi n (broadcast S256x128 64#32)
  have s := subi (extui 32 (cmpi .sgt n (broadcast S256x128 0#32)) natLt_1_32) (extui 32 (cmpi .slt n (broadcast S256x128 0#32)) natLt_1_32)
  let u : BitVec 32 := Scalar.subi (Scalar.extui (Scalar.cmpi .sgt 64#32 0#32)) (Scalar.extui (Scalar.cmpi .slt 64#32 0#32))
  have r := andi (cmpi .ne s (broadcast S256x128 u)) (cmpi .ne (remsi n (broadcast S256x128 64#32)) (broadcast S256x128 0#32))
  cmpi .eq (select r (subi d (broadcast S256x128 1#32)) d) (broadcast S256x128 e)

/-- The keys a row of the block may see. -/
def seen (i : Nat) : IVec S256x384 1 :=
  k0_pay24 (BitVec.ofNat 32 i) (Scalar.cmpi .slt (BitVec.ofNat 32 i) 16#32) k0_pay21 (iota .tc S256x384 32 [1] iota_S256x384_d1_w32) 64#32
    k0_pay22 k0_pay23 (Scalar.extui (Scalar.cmpi .sgt 64#32 0#32)) (Scalar.cmpi .slt 64#32 0#32)

/-- What a head of the block works on: its keys and values in their half of the lanes, its queries and the cotangent
masked to that half, the row sums of cotangent times output, and the row log-sums. -/
structure Head (F : FTy → Type) [FloatOps F] where
  K : FVec F S384x128 .bf16
  V : FVec F S384x128 .bf16
  q : FVec F S256x128 .bf16
  g : FVec F S256x128 .bf16
  d : FVec F S256x1 .f32
  l : FVec F S256x1 .f32

/-- The head in half `e` of a tile. -/
def headOf (e : BitVec 32) (K V : FVec F S384x128 .bf16) (q : Vec F S256x128 .f32) (g o : Vec F S256x128 .bf16) (l : FVec F S256x1 .f32) : Head F where
  K := K
  V := V
  q := select (half e) (k0_pay35 q) (broadcast S256x128 (Scalar.ofBits .bf16 0x0000#16 : F .bf16))
  g := select (half e) g (broadcast S256x128 (Scalar.ofBits .bf16 0x0000#16 : F .bf16))
  d := shapeCast S256x1 (multiReduction .add [1] S256 (select (half e) (k0_pay36 g o) (broadcast S256x128 (Scalar.ofBits .f32 0x00000000#32 : F .f32)))
    0x00000000#32 reduces_S256x128_S256 (.inl rfl) rfl) shapeCasts_S256_S256x1
  l := l

namespace Head

variable (H : Head F) (i : Nat)

/-- The weights, -/
def p : FVec F S256x384 .f32 := k0_pay43 H.K (seen i) H.q H.l (constant S256x384 .f32 0x00000000#32)
/-- the gradients of the scores, -/
def ds : FVec F S256x384 .bf16 := k0_pay44 H.K H.V (seen i) H.q H.g H.d H.l (constant S256x384 .f32 0x00000000#32)
/-- and the parts of the gradients: to the queries, -/
def toQ (a : FVec F S256x128 .f32) : FVec F S256x128 .f32 :=
  k0_pay45 H.K H.V (seen i) a H.q H.g H.d H.l (constant S256x384 .f32 0x00000000#32)
/-- to the keys, -/
def toK (a : FVec F S128x384 .f32) : FVec F S128x384 .f32 :=
  k0_pay46 H.K H.V (seen i) a H.q H.g H.d H.l (constant S256x384 .f32 0x00000000#32)
/-- to the values, -/
def toV (a : FVec F S128x384 .f32) : FVec F S128x384 .f32 :=
  k0_pay47 H.K (seen i) a H.q H.g H.l (constant S256x384 .f32 0x00000000#32)
/-- and to the sink `s` of lane `h`. -/
def toS (h : BitVec 32) (s : Elt F .f32) (a : FVec F S8x128 .f32) : FVec F S8x128 .f32 :=
  subf a (select (cmpi .eq (iota .tc S8x128 32 [1] iota_S8x128_d1_w32) (broadcast S8x128 h))
    (multiReduction .add [0] S8x128 (shapeCast S32x8x128 (broadcastTo S256x128 (shapeCast S256x1
      (Scalar.select (Scalar.cmpi .slt (BitVec.ofNat 32 i) 16#32) (mulf (exp (subf (broadcast S256x1 s) H.l)) H.d)
        (broadcast S256x1 (Scalar.ofBits .f32 0x00000000#32 : F .f32))) shapeCasts_S256x1_S256x1) broadcasts_S256x1_S256x128)
      shapeCasts_S256x128_S32x8x128) 0x00000000#32 reduces_S32x8x128_S8x128 (.inl rfl) rfl)
    (broadcast S8x128 (Scalar.ofBits .f32 0x00000000#32 : F .f32)))

end Head

/-- What a block reads. -/
structure Block (F : FTy → Type) [FloatOps F] where
  s : Vec F S1x8 .f32
  q : Vec F S256x512 .f32
  kp : Vec F S128x128 .f32
  kc : Vec F S256x128 .f32
  vp : Vec F S128x128 .f32
  vc : Vec F S256x128 .f32
  o : Vec F S256x512 .bf16
  g : Vec F S256x512 .bf16
  l : Vec F S256x128 .f32

namespace Block

variable (B : Block F) (i : Nat)

def K00 : FVec F S384x128 .bf16 := k0_pay8 B.kp B.kc
def V00 : FVec F S384x128 .bf16 := k0_pay16 B.vp B.vc
def K01 : FVec F S384x128 .bf16 := k0_pay10 (k0_pay6 B.kp B.kc) k0_pay7 k0_pay9
def V01 : FVec F S384x128 .bf16 := k0_pay18 (k0_pay14 B.vp B.vc) k0_pay15 k0_pay17
def K10 : FVec F S384x128 .bf16 := k0_pay11 (k0_pay6 B.kp B.kc) k0_pay7
def V10 : FVec F S384x128 .bf16 := k0_pay19 (k0_pay14 B.vp B.vc) k0_pay15
def K11 : FVec F S384x128 .bf16 := k0_pay12 (k0_pay5 B.kp B.kc) k0_pay7
def V11 : FVec F S384x128 .bf16 := k0_pay20 (k0_pay13 B.vp B.vc) k0_pay15
def h0 : Head F := headOf 0#32 B.K00 B.V00 (View.ld B.q (Rect.unit ![0, 0] ![256, 128] inb_S256x512_S256x128_0_0))
  (View.ld B.g (Rect.unit ![0, 0] ![256, 128] inb_S256x512_S256x128_0_0)) (View.ld B.o (Rect.unit ![0, 0] ![256, 128] inb_S256x512_S256x128_0_0))
  (extractStridedSlice S256x1 ![0, 0] (k0_pay25 B.l) slices_S256x128_o0_0_S256x1)
def h1 : Head F := headOf 1#32 B.K01 B.V01 (View.ld B.q (Rect.unit ![0, 0] ![256, 128] inb_S256x512_S256x128_0_0))
  (View.ld B.g (Rect.unit ![0, 0] ![256, 128] inb_S256x512_S256x128_0_0)) (View.ld B.o (Rect.unit ![0, 0] ![256, 128] inb_S256x512_S256x128_0_0))
  (extractStridedSlice S256x1 ![0, 1] (k0_pay25 B.l) slices_S256x128_o0_1_S256x1)
def h2 : Head F := headOf 0#32 B.K00 B.V00 (View.ld B.q (Rect.unit ![0, 128] ![256, 128] inb_S256x512_S256x128_0_128))
  (View.ld B.g (Rect.unit ![0, 128] ![256, 128] inb_S256x512_S256x128_0_128)) (View.ld B.o (Rect.unit ![0, 128] ![256, 128] inb_S256x512_S256x128_0_128))
  (extractStridedSlice S256x1 ![0, 2] (k0_pay25 B.l) slices_S256x128_o0_2_S256x1)
def h3 : Head F := headOf 1#32 B.K01 B.V01 (View.ld B.q (Rect.unit ![0, 128] ![256, 128] inb_S256x512_S256x128_0_128))
  (View.ld B.g (Rect.unit ![0, 128] ![256, 128] inb_S256x512_S256x128_0_128)) (View.ld B.o (Rect.unit ![0, 128] ![256, 128] inb_S256x512_S256x128_0_128))
  (extractStridedSlice S256x1 ![0, 3] (k0_pay25 B.l) slices_S256x128_o0_3_S256x1)
def h4 : Head F := headOf 0#32 B.K10 B.V10 (View.ld B.q (Rect.unit ![0, 256] ![256, 128] inb_S256x512_S256x128_0_256))
  (View.ld B.g (Rect.unit ![0, 256] ![256, 128] inb_S256x512_S256x128_0_256)) (View.ld B.o (Rect.unit ![0, 256] ![256, 128] inb_S256x512_S256x128_0_256))
  (extractStridedSlice S256x1 ![0, 4] (k0_pay25 B.l) slices_S256x128_o0_4_S256x1)
def h5 : Head F := headOf 1#32 B.K11 B.V11 (View.ld B.q (Rect.unit ![0, 256] ![256, 128] inb_S256x512_S256x128_0_256))
  (View.ld B.g (Rect.unit ![0, 256] ![256, 128] inb_S256x512_S256x128_0_256)) (View.ld B.o (Rect.unit ![0, 256] ![256, 128] inb_S256x512_S256x128_0_256))
  (extractStridedSlice S256x1 ![0, 5] (k0_pay25 B.l) slices_S256x128_o0_5_S256x1)
def h6 : Head F := headOf 0#32 B.K10 B.V10 (View.ld B.q (Rect.unit ![0, 384] ![256, 128] inb_S256x512_S256x128_0_384))
  (View.ld B.g (Rect.unit ![0, 384] ![256, 128] inb_S256x512_S256x128_0_384)) (View.ld B.o (Rect.unit ![0, 384] ![256, 128] inb_S256x512_S256x128_0_384))
  (extractStridedSlice S256x1 ![0, 6] (k0_pay25 B.l) slices_S256x128_o0_6_S256x1)
def h7 : Head F := headOf 1#32 B.K11 B.V11 (View.ld B.q (Rect.unit ![0, 384] ![256, 128] inb_S256x512_S256x128_0_384))
  (View.ld B.g (Rect.unit ![0, 384] ![256, 128] inb_S256x512_S256x128_0_384)) (View.ld B.o (Rect.unit ![0, 384] ![256, 128] inb_S256x512_S256x128_0_384))
  (extractStridedSlice S256x1 ![0, 7] (k0_pay25 B.l) slices_S256x128_o0_7_S256x1)

/-- The gradient of a tile of queries, -/
def dq0 : FVec F S256x128 .bf16 := k0_pay150 (B.h1.toQ i (B.h0.toQ i k0_pay37))
def dq1 : FVec F S256x128 .bf16 := k0_pay150 (B.h3.toQ i (B.h2.toQ i k0_pay37))
def dq2 : FVec F S256x128 .bf16 := k0_pay150 (B.h5.toQ i (B.h4.toQ i k0_pay37))
def dq3 : FVec F S256x128 .bf16 := k0_pay150 (B.h7.toQ i (B.h6.toQ i k0_pay37))
/-- the gradients of the keys and values the block sees, in their first and in their second half of the lanes, -/
def dk00 : FVec F S128x384 .f32 := B.h2.toK i (B.h0.toK i k0_pay27)
def dv00 : FVec F S128x384 .f32 := B.h2.toV i (B.h0.toV i k0_pay27)
def dk01 : FVec F S128x384 .f32 := B.h3.toK i (B.h1.toK i k0_pay27)
def dv01 : FVec F S128x384 .f32 := B.h3.toV i (B.h1.toV i k0_pay27)
def dk10 : FVec F S128x384 .f32 := B.h6.toK i (B.h4.toK i k0_pay27)
def dv10 : FVec F S128x384 .f32 := B.h6.toV i (B.h4.toV i k0_pay27)
def dk11 : FVec F S128x384 .f32 := B.h7.toK i (B.h5.toK i k0_pay27)
def dv11 : FVec F S128x384 .f32 := B.h7.toV i (B.h5.toV i k0_pay27)
/-- together, -/
def dkv : FVec F S384x256 .f32 := k0_pay152 (B.dk00 i) (B.dv00 i) (B.dk01 i) (B.dv01 i) (B.dk10 i) (B.dv10 i) (B.dk11 i) (B.dv11 i)
/-- and of the sinks. -/
def dsink : FVec F S8x128 .f32 :=
  (B.h7.toS i 7#32 (View.ld B.s (Rect.unit ![0, 7] ![1, 1] inb_S1x8_S1x1_0_7) (Shape.Idx.first (by decide)))
    (B.h6.toS i 6#32 (View.ld B.s (Rect.unit ![0, 6] ![1, 1] inb_S1x8_S1x1_0_6) (Shape.Idx.first (by decide)))
    (B.h5.toS i 5#32 (View.ld B.s (Rect.unit ![0, 5] ![1, 1] inb_S1x8_S1x1_0_5) (Shape.Idx.first (by decide)))
    (B.h4.toS i 4#32 (View.ld B.s (Rect.unit ![0, 4] ![1, 1] inb_S1x8_S1x1_0_4) (Shape.Idx.first (by decide)))
    (B.h3.toS i 3#32 (View.ld B.s (Rect.unit ![0, 3] ![1, 1] inb_S1x8_S1x1_0_3) (Shape.Idx.first (by decide)))
    (B.h2.toS i 2#32 (View.ld B.s (Rect.unit ![0, 2] ![1, 1] inb_S1x8_S1x1_0_2) (Shape.Idx.first (by decide)))
    (B.h1.toS i 1#32 (View.ld B.s (Rect.unit ![0, 1] ![1, 1] inb_S1x8_S1x1_0_1) (Shape.Idx.first (by decide)))
    (B.h0.toS i 0#32 (View.ld B.s (Rect.unit ![0, 0] ![1, 1] inb_S1x8_S1x1_0_0) (Shape.Idx.first (by decide)))
    k0_pay26))))))))

end Block

end Cert.Proof.Swa

end

end
-- ==== Proof.Swa.Step.lean ====
/- What the attention's backward region leaves after each point, in the words of `Block`. -/
module

public import proofs.«01_k».proof.Proof.Swa.Frame
public import proofs.«01_k».proof.Proof.Swa.Block
public import Idealize.ShloMosaic.Lib.Pipeline.ValueKit
public import Idealize.ShloMosaic.Lib.Pipeline.ReadBack

@[expose] public section

set_option maxRecDepth 16384

noncomputable section

namespace Cert.Proof.Swa

open Idealize.ShloMosaic
open Cert.SwaIdeal Cert.SwaIdeal.Gen

variable {F : FTy → Type} [FloatOps F]

namespace Block

variable (B : Block F) (i : Nat)

/-- The sinks' gradients on top of what was held, -/
def sinkOver (s : Vec F S8x128 .f32) : FVec F S8x128 .f32 := addf (shapeCast S8x128 s shapeCasts_S8x128_S8x128) (B.dsink i)
/-- the part of the block's own first rows, -/
def own : FVec F S128x256 .bf16 := k0_pay2 (B.dkv i)
/-- the part of the rows before, on top of what was carried, -/
def prev (s : Vec F S128x256 .f32) : FVec F S128x256 .bf16 :=
  k0_pay153 (B.dk00 i) (B.dv00 i) (B.dk01 i) (B.dv01 i) (B.dk10 i) (B.dv10 i) (B.dk11 i) (B.dv11 i) s
/-- and the part of the block's own last rows, which is carried. -/
def carry : FVec F S128x256 .f32 :=
  k0_pay1 (k0_pay154 (B.dk00 i) (B.dv00 i) (B.dk01 i) (B.dv01 i) (B.dk10 i) (B.dv10 i) (B.dk11 i) (B.dv11 i))

end Block

variable (m : (ℓ : Loc nD τ sig) → Buf (Elt F) ℓ) (c : Dev nD) (t : Fin cfg0.N)

/-- What the block of a point reads. -/
def blockOf : Block F :=
  ⟨iblk m c 0 t, X0_1 m c t, iblk m c 2 t, iblk m c 3 t, iblk m c 4 t, iblk m c 5 t, iblk m c 6 t, iblk m c 7 t, iblk m c 8 t⟩

theorem sinkA (h : t.val = 0) : (stepA m c t h).sink = (blockOf m c t).sinkOver (grid0.coords t 0) k0_pay3 := by
  unfold stepA back
  dsimp only [atA]
  unfold runA
  dsimp only
  frame_out
  sl_kernel_rfl

theorem carryA (h : t.val = 0) : (stepA m c t h).carry = (blockOf m c t).carry (grid0.coords t 0) := by
  unfold stepA back
  dsimp only [atA]
  unfold runA
  dsimp only
  frame_out
  sl_kernel_rfl

theorem nextA (h : t.val = 0) : (stepA m c t h).next = (blockOf m c t).prev (grid0.coords t 0) k0_pay4 := by
  unfold stepA back
  dsimp only [atA]
  unfold runA
  dsimp only
  frame_out
  sl_kernel_rfl

theorem ownA (h : t.val = 0) : (stepA m c t h).own = (blockOf m c t).own (grid0.coords t 0) := by
  unfold stepA back
  dsimp only [atA]
  unfold runA
  dsimp only
  frame_out
  sl_kernel_rfl

theorem sinkB (h : t.val ≠ 0) (h' : t.val < 16) (p : Held F) : (stepB m c t h h' p).sink = (blockOf m c t).sinkOver (grid0.coords t 0) p.sink := by
  unfold stepB back
  dsimp only [atB]
  unfold runB
  dsimp only
  frame_out
  sl_kernel_rfl

theorem carryB (h : t.val ≠ 0) (h' : t.val < 16) (p : Held F) : (stepB m c t h h' p).carry = (blockOf m c t).carry (grid0.coords t 0) := by
  unfold stepB back
  dsimp only [atB]
  unfold runB
  dsimp only
  frame_out
  sl_kernel_rfl

theorem nextB (h : t.val ≠ 0) (h' : t.val < 16) (p : Held F) : (stepB m c t h h' p).next = (blockOf m c t).prev (grid0.coords t 0) p.carry := by
  unfold stepB back
  dsimp only [atB]
  unfold runB
  dsimp only
  frame_out
  simp only [read_unread_whole]
  sl_kernel_rfl

theorem ownB (h : t.val ≠ 0) (h' : t.val < 16) (p : Held F) : (stepB m c t h h' p).own = (blockOf m c t).own (grid0.coords t 0) := by
  unfold stepB back
  dsimp only [atB]
  unfold runB
  dsimp only
  frame_out
  sl_kernel_rfl

theorem sinkC (h : t.val ≠ 0) (h' : ¬t.val < 16) (p : Held F) : (stepC m c t h h' p).sink = (blockOf m c t).sinkOver (grid0.coords t 0) p.sink := by
  unfold stepC back
  dsimp only [atC]
  unfold runC
  dsimp only
  frame_out
  sl_kernel_rfl

theorem carryC (h : t.val ≠ 0) (h' : ¬t.val < 16) (p : Held F) : (stepC m c t h h' p).carry = (blockOf m c t).carry (grid0.coords t 0) := by
  unfold stepC back
  dsimp only [atC]
  unfold runC
  dsimp only
  frame_out
  sl_kernel_rfl

theorem nextC (h : t.val ≠ 0) (h' : ¬t.val < 16) (p : Held F) : (stepC m c t h h' p).next = (blockOf m c t).prev (grid0.coords t 0) p.carry := by
  unfold stepC back
  dsimp only [atC]
  unfold runC
  dsimp only
  frame_out
  simp only [read_unread_whole]
  sl_kernel_rfl

end Cert.Proof.Swa

end

end
-- ==== Proof.Swa.Math.lean ====
/- The gradient of the sliding-window attention with sinks in real numbers. Arrays are functions of row and column;
`Z` holds queries, keys and values side by side, `S` the sinks, `D` the cotangent. Head `h` reads the queries' columns
`64 h ..` and the keys' and values' columns `64 (h / 4) ..` of their own. -/
module

public import proofs.«01_k».proof.Proof.Reals

@[expose] public section

noncomputable section

namespace Cert.Proof.Swa

open Finset Idealize.ShloMosaic

/-! ### Sums over ranges -/

theorem sum_tiles (a b : ℕ) (f : ℕ → ℝ) : ∑ r ∈ range (a * b), f r = ∑ n ∈ range a, ∑ q ∈ range b, f (b * n + q) := by
  induction a with
  | zero => simp
  | succ a ih => rw [Nat.succ_mul, sum_range_add, ih, sum_range_succ, Nat.mul_comm a b]

/-- A sum over the rows whose terms vanish off three consecutive chunks. -/
theorem sum_three (f : ℕ → ℝ) (c : ℕ) (hc : c < 64) (h0 : ∀ r, ¬(c ≤ r / 64 ∧ r / 64 ≤ c + 2) → f r = 0) :
    ∑ r ∈ range 4096, f r = (∑ q ∈ range 64, f (64 * c + q)) + (if c + 1 < 64 then ∑ q ∈ range 64, f (64 * (c + 1) + q) else 0)
      + (if c + 2 < 64 then ∑ q ∈ range 64, f (64 * (c + 2) + q) else 0) := by
  rw [show 4096 = 64 * 64 by norm_num, sum_tiles]
  have e : ∀ n ∈ range 64, (∑ q ∈ range 64, f (64 * n + q)) = (if n = c then ∑ q ∈ range 64, f (64 * n + q) else 0)
      + (if n = c + 1 then ∑ q ∈ range 64, f (64 * n + q) else 0) + (if n = c + 2 then ∑ q ∈ range 64, f (64 * n + q) else 0) := fun n _ => by
    by_cases h1 : n = c
    · simp [h1]
    · by_cases h2 : n = c + 1
      · simp [h2]
      · by_cases h3 : n = c + 2
        · simp [h3]
        · simp only [h1, h2, h3, if_false, add_zero]
          refine sum_eq_zero fun q hq => h0 _ ?_
          rw [mem_range] at hq
          omega
  rw [sum_congr rfl e, sum_add_distrib, sum_add_distrib, sum_ite_eq' , sum_ite_eq', sum_ite_eq']
  simp only [mem_range, hc, if_true]

/-- A sum over the rows whose terms vanish off one block, -/
theorem sum_block (f : ℕ → ℝ) (i : ℕ) (hi : i < 16) (h0 : ∀ r, r / 256 ≠ i → f r = 0) :
    ∑ r ∈ range 4096, f r = ∑ a ∈ range 256, f (256 * i + a) := by
  rw [show 4096 = 16 * 256 by norm_num, sum_tiles]
  refine sum_eq_single_of_mem i (mem_range.mpr hi) fun j _ hj => sum_eq_zero fun a ha => h0 _ ?_
  rw [mem_range] at ha
  omega

/-- and off two. -/
theorem sum_two_blocks (f : ℕ → ℝ) (i : ℕ) (hi : i < 16) (h0 : ∀ r, r / 256 ≠ i → r / 256 ≠ i + 1 → f r = 0) :
    ∑ r ∈ range 4096, f r = (∑ a ∈ range 256, f (256 * i + a)) + if i + 1 < 16 then ∑ a ∈ range 256, f (256 * (i + 1) + a) else 0 := by
  have e : ∀ r ∈ range 4096, f r = (if r / 256 = i then f r else 0) + (if r / 256 = i + 1 then f r else 0) := fun r _ => by
    by_cases h1 : r / 256 = i
    · simp [h1]
    · by_cases h2 : r / 256 = i + 1
      · simp [h2]
      · simp [h1, h2, h0 r h1 h2]
  have q : ∀ j a, a ∈ range 256 → (if (256 * j + a) / 256 = j then f (256 * j + a) else 0) = f (256 * j + a) := fun j a ha => by
    rw [mem_range] at ha
    exact if_pos (by omega)
  rw [sum_congr rfl e, sum_add_distrib, sum_block (fun r => if r / 256 = i then f r else 0) i hi fun r hr => if_neg hr, sum_congr rfl (q i)]
  by_cases h : i + 1 < 16
  · rw [sum_block (fun r => if r / 256 = i + 1 then f r else 0) (i + 1) h fun r hr => if_neg hr, sum_congr rfl (q (i + 1)), if_pos h]
  · rw [if_neg h, sum_eq_zero (s := range 4096)]
    intro r hr
    rw [mem_range] at hr
    exact if_neg (by omega)

/-- A sum over a window of keys that begins 128 rows before `b`. -/
theorem sum_window (b w : ℕ) (hw : b + w ≤ 4224) (f : ℕ → ℝ) :
    (∑ κ ∈ range w, if 128 ≤ b + κ then f (b + κ - 128) else 0) = ∑ k ∈ range 4096, if b ≤ k + 128 ∧ k + 128 < b + w then f k else 0 := by
  rw [← sum_filter, ← sum_filter]
  refine sum_nbij' (fun κ => b + κ - 128) (fun k => k + 128 - b) ?_ ?_ ?_ ?_ ?_
  · intro κ h; simp only [mem_filter, mem_range] at h ⊢; omega
  · intro κ h; simp only [mem_filter, mem_range] at h ⊢; omega
  · intro κ h; simp only [mem_filter, mem_range] at h; omega
  · intro κ h; simp only [mem_filter, mem_range] at h; omega
  · intro κ h; rfl

/-- The maximum of reals is real. -/
theorem fold_max_real {ι : Type*} (s : Finset ι) (hs : s.Nonempty) (f : ι → ℝ) : ∃ M : ℝ, s.fold max (⊥ : EReal) (fun i => ((f i : ℝ) : EReal)) = ((M : ℝ) : EReal) := by
  classical
  have h : ∀ s : Finset ι, s.fold max (⊥ : EReal) (fun i => ((f i : ℝ) : EReal)) = ⊥ ∨ ∃ M : ℝ, s.fold max (⊥ : EReal) (fun i => ((f i : ℝ) : EReal)) = ((M : ℝ) : EReal) := by
    intro s
    induction s using Finset.induction_on with
    | empty => exact .inl rfl
    | insert a s ha ih =>
      rw [fold_insert ha]
      right
      rcases ih with ih | ⟨M, ih⟩
      · exact ⟨f a, by rw [ih]; exact max_eq_left bot_le⟩
      · exact ⟨max (f a) M, by rw [ih]; exact (EReal.coe_strictMono.monotone.map_max).symm⟩
  rcases h s with e | e
  · obtain ⟨a, ha⟩ := hs
    have : ((f a : ℝ) : EReal) ≤ s.fold max (⊥ : EReal) (fun i => ((f i : ℝ) : EReal)) := le_fold_max _ |>.mpr (.inr ⟨a, ha, le_rfl⟩)
    rw [e] at this
    exact absurd (le_bot_iff.mp this) (EReal.coe_ne_bot _)
  · exact e

theorem bits_big : Ideal.ofBits .f32 0xF149F2CA#32 = (((Ideal.ofBits .f32 0xF149F2CA#32).toReal : ℝ) : EReal) := by
  rw [EReal.coe_toReal] <;> simp [Ideal.ofBits, Ideal.ieee, -EReal.coe_mul, -EReal.coe_neg]

theorem bits_bot : Ideal.ofBits .f32 0xFF800000#32 = ⊥ := by simp [Ideal.ofBits, Ideal.ieee]

theorem bits_one : Ideal.ofBits .f32 0x3F800000#32 = ((1 : ℝ) : EReal) := by
  simp [Ideal.ofBits, Ideal.ieee, -EReal.coe_mul]; norm_num

theorem bits_zero : Ideal.ofBits .f32 0x00000000#32 = ((0 : ℝ) : EReal) := by simp [Ideal.ofBits, Ideal.ieee]
theorem bits_zero' : Ideal.ofBits .bf16 0x0000#16 = ((0 : ℝ) : EReal) := by simp [Ideal.ofBits, Ideal.ieee]
theorem bits_eighth : Ideal.ofBits .f32 0x3E000000#32 = ((1 / 8 : ℝ) : EReal) := by
  simp [Ideal.ofBits, Ideal.ieee, -EReal.coe_mul]; norm_num

theorem select_ite {α : Type} (p : Prop) [Decidable p] (x y : α) : Scalar.select (if p then 1#1 else 0#1) x y = if p then x else y := by
  split_ifs <;> rfl

theorem coe_ite (p : Prop) [Decidable p] (x : ℝ) : (if p then ((x : ℝ) : EReal) else 0) = ((if p then x else 0 : ℝ) : EReal) := by split_ifs <;> rfl

/-! ### The attention and its gradient -/

variable (Z : ℕ → ℕ → ℝ) (S : ℕ → ℝ) (D : ℕ → ℕ → ℝ)

/-- The score of query row `r` and key row `k`, -/
def score (r h k : ℕ) : ℝ := (∑ d ∈ range 64, Z r (64 * h + d) * Z k (512 + 64 * (h / 4) + d)) * (1 / 8)

/-- the keys row `r` may see, -/
abbrev Band (r k : ℕ) : Prop := 64 * (r / 64) ≤ k + 128 ∧ k + 128 < 64 * (r / 64) + 192

/-- the mask's value, as the programs spell it, -/
def negBig : ℝ := (Ideal.ofBits .f32 0xF149F2CA#32).toReal

/-- a row's logits: its window's scores, the mask's value in front of the first row, last the sink. -/
def logit (r h κ : ℕ) : ℝ :=
  if κ < 192 then (if 128 ≤ 64 * (r / 64) + κ then score Z r h (64 * (r / 64) + κ - 128) else negBig) else S h

/-- The softmax's denominator, -/
def total (r h : ℕ) : ℝ := ∑ κ ∈ range 193, Real.exp (logit Z S r h κ)

theorem total_pos (r h : ℕ) : 0 < total Z S r h :=
  sum_pos (fun _ _ => Real.exp_pos _) ⟨0, by simp⟩

/-- a key's weight, -/
def weight (r h k : ℕ) : ℝ := if Band r k then Real.exp (score Z r h k) / total Z S r h else 0

/-- the output, -/
def out (r c : ℕ) : ℝ := ∑ k ∈ range 4096, weight Z S r (c / 64) k * Z k (640 + 64 * (c / 256) + c % 64)

/-- the weights' gradient, -/
def dweight (r h k : ℕ) : ℝ := ∑ d ∈ range 64, D r (64 * h + d) * Z k (640 + 64 * (h / 4) + d)

/-- its mean under the weights, -/
def mean (r h : ℕ) : ℝ := ∑ k ∈ range 4096, weight Z S r h k * dweight Z D r h k

/-- the scores' gradient, -/
def dscore (r h k : ℕ) : ℝ := weight Z S r h k * (dweight Z D r h k - mean Z S D r h) * (1 / 8)

/-- and the gradients of the queries, -/
def dq (r c : ℕ) : ℝ := ∑ k ∈ range 4096, dscore Z S D r (c / 64) k * Z k (512 + 64 * (c / 256) + c % 64)
/-- the keys, -/
def dk (k c : ℕ) : ℝ := ∑ g ∈ range 4, ∑ r ∈ range 4096, Z r (64 * (4 * (c / 64) + g) + c % 64) * dscore Z S D r (4 * (c / 64) + g) k
/-- the values -/
def dv (k c : ℕ) : ℝ := ∑ g ∈ range 4, ∑ r ∈ range 4096, D r (64 * (4 * (c / 64) + g) + c % 64) * weight Z S r (4 * (c / 64) + g) k
/-- side by side, -/
def dkv (k c : ℕ) : ℝ := if c < 128 then dk Z S D k c else dv Z S D k (c - 128)
/-- and the sinks. -/
def dsink (h : ℕ) : ℝ := -∑ r ∈ range 4096, Real.exp (S h) / total Z S r h * mean Z S D r h

/-- The mean is the row sum of cotangent times output. -/
theorem mean_eq (r h : ℕ) : ∑ d ∈ range 64, D r (64 * h + d) * out Z S r (64 * h + d) = mean Z S D r h := by
  unfold mean dweight
  simp only [mul_sum]
  rw [sum_comm]
  refine sum_congr rfl fun d hd => ?_
  rw [mem_range] at hd
  unfold out
  rw [mul_sum]
  refine sum_congr rfl fun k _ => ?_
  rw [show (64 * h + d) / 64 = h by omega, show (64 * h + d) / 256 = h / 4 by omega, show (64 * h + d) % 64 = d by omega]
  ring

end Cert.Proof.Swa

end

end
-- ==== Proof.RankSix.lean ====
/- Reductions of arrays of rank six, as sums and maxima along the reduced axes. -/
module

public import Idealize.ShloMosaic.Lib.Pointwise
public import Idealize.ShloMosaic.Lib.IdealHost

@[expose] public section

namespace Cert.Proof.RankSix

open Idealize.ShloMosaic

variable {n0 n1 n2 n3 n4 n5 : ℕ}

/-- Along the last axis: the indices that drop to one. -/
theorem last_iff (h : (⟨6, ![n0, n1, n2, n3, n4, n5]⟩ : Shape).ReducesTo [5] ⟨5, ![n0, n1, n2, n3, n4]⟩) (a : Fin n0) (b : Fin n1) (c : Fin n2) (d : Fin n3)
    (e : Fin n4) (i : (⟨6, ![n0, n1, n2, n3, n4, n5]⟩ : Shape).Idx) : h.drop i = ix5 a b c d e ↔ ∃ k : Fin n5, ix6 a b c d e k = i := by
  constructor
  · intro q
    refine ⟨i 5, funext fun x => Fin.ext ?_⟩
    match x with
    | ⟨0, _⟩ => exact (congrArg Fin.val (congrFun q 0)).symm
    | ⟨1, _⟩ => exact (congrArg Fin.val (congrFun q 1)).symm
    | ⟨2, _⟩ => exact (congrArg Fin.val (congrFun q 2)).symm
    | ⟨3, _⟩ => exact (congrArg Fin.val (congrFun q 3)).symm
    | ⟨4, _⟩ => exact (congrArg Fin.val (congrFun q 4)).symm
    | ⟨5, _⟩ => rfl
  · rintro ⟨k, rfl⟩
    refine funext fun x => Fin.ext ?_
    match x with
    | ⟨0, _⟩ => rfl
    | ⟨1, _⟩ => rfl
    | ⟨2, _⟩ => rfl
    | ⟨3, _⟩ => rfl
    | ⟨4, _⟩ => rfl

theorem sum_last (h : (⟨6, ![n0, n1, n2, n3, n4, n5]⟩ : Shape).ReducesTo [5] ⟨5, ![n0, n1, n2, n3, n4]⟩) (x : (⟨6, ![n0, n1, n2, n3, n4, n5]⟩ : Shape).Idx → EReal)
    (y : EReal) (a : Fin n0) (b : Fin n1) (c : Fin n2) (d : Fin n3) (e : Fin n4) :
    Ideal.hostReduceAdd h x y (ix5 a b c d e) = y + ∑ k, x (ix6 a b c d e k) :=
  congrArg (y + ·) (Finset.sum_filter_eq_sum_of_fiber _ (fun k : Fin n5 => ix6 a b c d e k) (fun _ _ q => congrFun q 5) (last_iff h a b c d e) x)

theorem max_last (h : (⟨6, ![n0, n1, n2, n3, n4, n5]⟩ : Shape).ReducesTo [5] ⟨5, ![n0, n1, n2, n3, n4]⟩) (x : (⟨6, ![n0, n1, n2, n3, n4, n5]⟩ : Shape).Idx → EReal)
    (y : EReal) (a : Fin n0) (b : Fin n1) (c : Fin n2) (d : Fin n3) (e : Fin n4) :
    Finset.fold max y x {i | h.drop i = ix5 a b c d e} = (Finset.univ : Finset (Fin n5)).fold max y fun k => x (ix6 a b c d e k) :=
  Finset.fold_filter_eq_fold_of_fiber max _ (fun k : Fin n5 => ix6 a b c d e k) (fun _ _ q => congrFun q 5) (last_iff h a b c d e) y x

/-- Along the first and the last axis. -/
theorem ends_iff (h : (⟨6, ![n0, n1, n2, n3, n4, n5]⟩ : Shape).ReducesTo [0, 5] ⟨4, ![n1, n2, n3, n4]⟩) (b : Fin n1) (c : Fin n2) (d : Fin n3)
    (e : Fin n4) (i : (⟨6, ![n0, n1, n2, n3, n4, n5]⟩ : Shape).Idx) : h.drop i = ix4 b c d e ↔ ∃ k : Fin n0 × Fin n5, ix6 k.1 b c d e k.2 = i := by
  constructor
  · intro q
    refine ⟨(i 0, i 5), funext fun x => Fin.ext ?_⟩
    match x with
    | ⟨0, _⟩ => rfl
    | ⟨1, _⟩ => exact (congrArg Fin.val (congrFun q 0)).symm
    | ⟨2, _⟩ => exact (congrArg Fin.val (congrFun q 1)).symm
    | ⟨3, _⟩ => exact (congrArg Fin.val (congrFun q 2)).symm
    | ⟨4, _⟩ => exact (congrArg Fin.val (congrFun q 3)).symm
    | ⟨5, _⟩ => rfl
  · rintro ⟨k, rfl⟩
    refine funext fun x => Fin.ext ?_
    match x with
    | ⟨0, _⟩ => rfl
    | ⟨1, _⟩ => rfl
    | ⟨2, _⟩ => rfl
    | ⟨3, _⟩ => rfl

theorem sum_ends (h : (⟨6, ![n0, n1, n2, n3, n4, n5]⟩ : Shape).ReducesTo [0, 5] ⟨4, ![n1, n2, n3, n4]⟩) (x : (⟨6, ![n0, n1, n2, n3, n4, n5]⟩ : Shape).Idx → EReal)
    (y : EReal) (b : Fin n1) (c : Fin n2) (d : Fin n3) (e : Fin n4) :
    Ideal.hostReduceAdd h x y (ix4 b c d e) = y + ∑ o, ∑ k, x (ix6 o b c d e k) := by
  rw [← Fintype.sum_prod_type']
  exact congrArg (y + ·) (Finset.sum_filter_eq_sum_of_fiber _ (fun k : Fin n0 × Fin n5 => ix6 k.1 b c d e k.2)
    (fun _ _ q => Prod.ext (congrFun q 0) (congrFun q 5)) (ends_iff h b c d e) x)

/-- Along all but the third and the fourth. -/
theorem inner_iff (h : (⟨6, ![n0, n1, n2, n3, n4, n5]⟩ : Shape).ReducesTo [0, 1, 4, 5] ⟨2, ![n2, n3]⟩) (c : Fin n2) (d : Fin n3)
    (i : (⟨6, ![n0, n1, n2, n3, n4, n5]⟩ : Shape).Idx) :
    h.drop i = ix2 c d ↔ ∃ k : Fin n0 × Fin n1 × Fin n4 × Fin n5, ix6 k.1 k.2.1 c d k.2.2.1 k.2.2.2 = i := by
  constructor
  · intro q
    refine ⟨(i 0, i 1, i 4, i 5), funext fun x => Fin.ext ?_⟩
    match x with
    | ⟨0, _⟩ => rfl
    | ⟨1, _⟩ => rfl
    | ⟨2, _⟩ => exact (congrArg Fin.val (congrFun q 0)).symm
    | ⟨3, _⟩ => exact (congrArg Fin.val (congrFun q 1)).symm
    | ⟨4, _⟩ => rfl
    | ⟨5, _⟩ => rfl
  · rintro ⟨k, rfl⟩
    refine funext fun x => Fin.ext ?_
    match x with
    | ⟨0, _⟩ => rfl
    | ⟨1, _⟩ => rfl

theorem sum_inner (h : (⟨6, ![n0, n1, n2, n3, n4, n5]⟩ : Shape).ReducesTo [0, 1, 4, 5] ⟨2, ![n2, n3]⟩) (x : (⟨6, ![n0, n1, n2, n3, n4, n5]⟩ : Shape).Idx → EReal)
    (y : EReal) (c : Fin n2) (d : Fin n3) :
    Ideal.hostReduceAdd h x y (ix2 c d) = y + ∑ o, ∑ b, ∑ e, ∑ k, x (ix6 o b c d e k) := by
  simp only [← Fintype.sum_prod_type']
  refine (congrArg (y + ·) (Finset.sum_filter_eq_sum_of_fiber _ (fun k : Fin n0 × Fin n1 × Fin n4 × Fin n5 => ix6 k.1 k.2.1 c d k.2.2.1 k.2.2.2)
    (fun _ _ q => Prod.ext (congrFun q 0) (Prod.ext (congrFun q 1) (Prod.ext (congrFun q 4) (congrFun q 5)))) (inner_iff h c d) x)).trans ?_
  rfl

end Cert.Proof.RankSix

end
-- ==== Proof.Swa.Reference.lean ====
/- The stages of the reference's gradient of the attention, read at an index. -/
module

public import proofs.«01_k».proof.Proof.Swa.Math
public import proofs.«01_k».proof.Proof.RankSix
public import proofs.«01_k».proof.Proof.Reals
public import proofs.«01_k».proof.Proof.Gen.SwaRefIdeal.Run

@[expose] public section

set_option maxRecDepth 16384

noncomputable section

namespace Cert.Proof.Swa.Ref

open Idealize.ShloMosaic Idealize.ShloMosaic.StableHlo
open Cert.SwaRefIdeal Cert.SwaRefIdeal.Gen Cert.SwaRefIdeal.Value

/-- The arguments are these reals. -/
structure Args (V : Valuation τ sig (Elt Ideal)) (Z : ℕ → ℕ → ℝ) (S : ℕ → ℝ) (D : ℕ → ℕ → ℝ) : Prop where
  z : ∀ (r : Fin 4096) (c : Fin 2816), (V (Proc.devRef .tc main_arg0) : FVec Ideal S4096x2816 .f32) (ix2 r c) = ((Z r.val c.val : ℝ) : EReal)
  s : ∀ (a : Fin 1) (h : Fin 8), (V (Proc.devRef .tc main_arg1) : FVec Ideal S1x8 .f32) (ix2 a h) = ((S h.val : ℝ) : EReal)
  d : ∀ (r : Fin 4096) (c : Fin 1024), (V (Proc.devRef .tc main_arg2) : FVec Ideal S4096x1024 .bf16) (ix2 r c) = ((D r.val c.val : ℝ) : EReal)

/-- A window's row, zero in front of the first. -/
def pad (x : ℕ → ℕ → ℝ) (b c : ℕ) : ℝ := if 128 ≤ b then x (b - 128) c else 0

theorem valid_word : ∀ (n : Fin 64) (C : Fin 3), IntOp.cmpi .sge (IntOp.addi (IntOp.subi (BitVec.ofNat 32 n.val) 2#32) (BitVec.ofNat 32 C.val)) 0#32
    = if 2 ≤ n.val + C.val then 1#1 else 0#1 := by decide +kernel

section

variable {V : Valuation τ sig (Elt Ideal)} {Z : ℕ → ℕ → ℝ} {S : ℕ → ℝ} {D : ℕ → ℕ → ℝ} (H : Args V Z S D)

include H

theorem v6 (o : Fin 1) (n : Fin 64) (q : Fin 64) (v : Fin 2) (g : Fin 4) (d : Fin 64) :
    (res_main_v6 V : FVec Ideal S1x64x64x2x4x64 .f32) (ix6 o n q v g d) = ((Z (64 * n.val + q.val) (64 * (4 * v.val + g.val) + d.val) : ℝ) : EReal) := by
  pointwise [res_main_v6]
  rw [H.z]
  exact congrArg ((↑) : ℝ → EReal) (congrArg₂ Z (by simp only; omega) (by simp only; omega))

theorem v10 (o : Fin 1) (n : Fin 66) (k : Fin 64) (v : Fin 2) (d : Fin 64) :
    (res_main_v10 V : FVec Ideal S1x66x64x2x64 .f32) (ix5 o n k v d) = ((pad Z (64 * n.val + k.val) (512 + 64 * v.val + d.val) : ℝ) : EReal) := by
  pointwise [res_main_v10, res_main_v7]
  unfold pad
  by_cases c : 128 ≤ 64 * n.val + k.val
  · rw [dif_neg (by omega), H.z, if_pos c]
    exact congrArg ((↑) : ℝ → EReal) (congrArg₂ Z (by simp only; omega) (by simp only; omega))
  · rw [dif_pos (by omega), if_neg c]
    rfl

theorem v17 (o : Fin 1) (n : Fin 64) (k : Fin 192) (v : Fin 2) (d : Fin 64) :
    (res_main_v17 V : FVec Ideal S1x64x192x2x64 .f32) (ix5 o n k v d) = ((pad Z (64 * n.val + k.val) (512 + 64 * v.val + d.val) : ℝ) : EReal) := by
  pointwise [res_main_v17]
  split_ifs with c c'
  all_goals
    refine (v10 H _ _ _ _ _).trans (congrArg ((↑) : ℝ → EReal) (congrArg₂ (pad Z) (show (_ : ℕ) = _ by first | rfl | (simp only; omega)) rfl))

theorem v13 (o : Fin 1) (n : Fin 66) (k : Fin 64) (v : Fin 2) (d : Fin 64) :
    (res_main_v13 V : FVec Ideal S1x66x64x2x64 .f32) (ix5 o n k v d) = ((pad Z (64 * n.val + k.val) (640 + 64 * v.val + d.val) : ℝ) : EReal) := by
  pointwise [res_main_v13, res_main_v7]
  unfold pad
  by_cases c : 128 ≤ 64 * n.val + k.val
  · rw [dif_neg (by omega), H.z, if_pos c]
    exact congrArg ((↑) : ℝ → EReal) (congrArg₂ Z (by simp only; omega) (by simp only; omega))
  · rw [dif_pos (by omega), if_neg c]
    rfl

theorem v21 (o : Fin 1) (n : Fin 64) (k : Fin 192) (v : Fin 2) (d : Fin 64) :
    (res_main_v21 V : FVec Ideal S1x64x192x2x64 .f32) (ix5 o n k v d) = ((pad Z (64 * n.val + k.val) (640 + 64 * v.val + d.val) : ℝ) : EReal) := by
  pointwise [res_main_v21]
  split_ifs with c c'
  all_goals
    refine (v13 H _ _ _ _ _).trans (congrArg ((↑) : ℝ → EReal) (congrArg₂ (pad Z) (show (_ : ℕ) = _ by first | rfl | (simp only; omega)) rfl))

omit H in
theorem v40 (o : Fin 1) (n : Fin 64) (v : Fin 2) (g : Fin 4) (q : Fin 64) (k : Fin 192) :
    (res_main_v40_1 V : IVec S1x64x2x4x64x192 1) (ix6 o n v g q k) = if 128 ≤ 64 * n.val + k.val then 1#1 else 0#1 := by
  pointwise [res_main_v40_1]
  refine (valid_word n ⟨k.val / 64, by omega⟩).trans ?_
  exact if_congr (by simp only; omega) rfl rfl

theorem v43 (o : Fin 1) (n : Fin 64) (v : Fin 2) (g : Fin 4) (q : Fin 64) (k : Fin 193) :
    (res_main_v43 V : FVec Ideal S1x64x2x4x64x193 .f32) (ix6 o n v g q k) = ((logit Z S (64 * n.val + q.val) (4 * v.val + g.val) k.val : ℝ) : EReal) := by
  pointwise [res_main_v43]
  unfold logit
  rw [show (64 * n.val + q.val) / 64 = n.val by omega]
  by_cases c : k.val < 192
  · rw [dif_pos c, if_pos c, v40, select_ite]
    by_cases c' : 128 ≤ 64 * n.val + k.val
    · rw [if_pos c', if_pos c']
      simp only [v17 H, v6 H, bits_eighth, ← EReal.coe_mul, coe_sum]
      unfold score pad
      simp only [Finset.sum_range, if_pos c']
      refine congrArg ((↑) : ℝ → EReal) (congrArg (· * _) (Finset.sum_congr rfl fun d _ => ?_))
      rw [mul_comm]
      exact congrArg (_ * ·) (congrArg₂ Z rfl (by omega))
    · rw [if_neg c', if_neg c']
      exact bits_big
  · rw [dif_neg c, if_neg c, H.s]
    exact congrArg ((↑) : ℝ → EReal) (congrArg S (by simp only; omega))

/-- The maximum of a row's logits. -/
def top (V : Valuation τ sig (Elt Ideal)) (o : Fin 1) (n : Fin 64) (v : Fin 2) (g : Fin 4) (q : Fin 64) : ℝ :=
  ((res_main_v44 V : FVec Ideal S1x64x2x4x64 .f32) (ix5 o n v g q) : EReal).toReal

theorem v44 (o : Fin 1) (n : Fin 64) (v : Fin 2) (g : Fin 4) (q : Fin 64) :
    (res_main_v44 V : FVec Ideal S1x64x2x4x64 .f32) (ix5 o n v g q) = ((top V o n v g q : ℝ) : EReal) := by
  have h : ∃ M : ℝ, (res_main_v44 V : FVec Ideal S1x64x2x4x64 .f32) (ix5 o n v g q) = ((M : ℝ) : EReal) := by
    have hX := v43 H o n v g q
    unfold res_main_v44
    generalize res_main_v43 V = X at hX ⊢
    pointwise
    obtain ⟨M, hM⟩ := fold_max_real (Finset.univ : Finset (Fin 193)) ⟨0, Finset.mem_univ _⟩ (fun k => logit Z S (64 * n.val + q.val) (4 * v.val + g.val) k.val)
    refine ⟨M, ((RankSix.max_last _ _ _ o n v g q).trans ?_).trans hM⟩
    exact Finset.fold_congr (op := max) (b := (⊥ : EReal)) (fun k _ => hX k) |> fun e => (congrArg (fun b => Finset.fold max b _ Finset.univ) bits_bot).trans e
  obtain ⟨M, hM⟩ := h
  unfold top
  rw [hM, EReal.toReal_coe]

omit H in
theorem floor_read (Y : FVec Ideal S1x64x2x4x64 .f32) (o : Fin 1) (n : Fin 64) (v : Fin 2) (g : Fin 4) (q : Fin 64) :
    (maximumf (broadcastInDim S1x64x2x4x64 ![] bcast_S_S1x64x2x4x64 (constant S_ .f32 0xFF800000#32)) Y) (ix5 o n v g q)
      = max (Ideal.ofBits .f32 0xFF800000#32 : EReal) (Y (ix5 o n v g q)) := by rfl

omit H in
theorem exp_read (X : FVec Ideal S1x64x2x4x64x193 .f32) (Y : FVec Ideal S1x64x2x4x64 .f32) (n : Fin 64) (v : Fin 2) (g : Fin 4) (q : Fin 64) (k : Fin 193) :
    (Host.exp (subf X (broadcastInDim S1x64x2x4x64x193 ![0, 1, 2, 3, 4, 5] bcast_S1x64x2x4x64x1_S1x64x2x4x64x193_0_1_2_3_4_5
      (broadcastInDim S1x64x2x4x64x1 ![0, 1, 2, 3, 4] bcast_S1x64x2x4x64_S1x64x2x4x64x1_0_1_2_3_4 Y))) : FVec Ideal S1x64x2x4x64x193 .f32) (ix6 0 n v g q k)
      = (Ideal.exp ((X (ix6 0 n v g q k) : EReal) - (Y (ix5 0 n v g q) : EReal)) : EReal) := by
  pointwise

theorem v64 (o : Fin 1) (n : Fin 64) (v : Fin 2) (g : Fin 4) (q : Fin 64) (k : Fin 193) :
    (res_main_v64 V : FVec Ideal S1x64x2x4x64x193 .f32) (ix6 o n v g q k)
      = ((Real.exp (logit Z S (64 * n.val + q.val) (4 * v.val + g.val) k.val - top V o n v g q) : ℝ) : EReal) := by
  obtain rfl : o = 0 := Subsingleton.elim _ _
  unfold res_main_v64
  refine (exp_read _ _ n v g q k).trans ?_
  rw [floor_read, v43 H, v44 H, bits_bot, max_eq_right bot_le, ← EReal.coe_sub, Ideal.exp_coe]

theorem v66 (o o' : Fin 1) (n : Fin 64) (v : Fin 2) (g : Fin 4) (q : Fin 64) :
    (res_main_v66 V : FVec Ideal S1x64x2x4x64x1 .f32) (ix6 o n v g q o')
      = ((total Z S (64 * n.val + q.val) (4 * v.val + g.val) * Real.exp (-top V o n v g q) : ℝ) : EReal) := by
  have hX := v64 H 0 n v g q
  obtain rfl : o = 0 := Subsingleton.elim _ _
  unfold res_main_v66
  generalize res_main_v64 V = X at hX ⊢
  pointwise
  rw [RankSix.sum_last]
  simp only [hX, bits_zero, coe_sum, ← EReal.coe_add, zero_add]
  unfold total
  rw [Finset.sum_range, Finset.sum_mul]
  refine congrArg ((↑) : ℝ → EReal) (Finset.sum_congr rfl fun k _ => ?_)
  rw [← Real.exp_add, sub_eq_add_neg]

/-- A key's share of a row: its weight, or the sink's. -/
def share (Z : ℕ → ℕ → ℝ) (S : ℕ → ℝ) (r h κ : ℕ) : ℝ := Real.exp (logit Z S r h κ) / total Z S r h

omit H in
theorem shifted (a M T : ℝ) : Real.exp (a - M) / (T * Real.exp (-M)) = Real.exp a / T := by
  rw [sub_eq_add_neg, Real.exp_add, mul_div_mul_right _ _ (Real.exp_pos _).ne']

omit H in
theorem scaled_ne (r h : ℕ) (M : ℝ) : total Z S r h * Real.exp (-M) ≠ 0 := mul_ne_zero (total_pos Z S r h).ne' (Real.exp_pos _).ne'

theorem v72 (o : Fin 1) (n : Fin 64) (v : Fin 2) (g : Fin 4) (q : Fin 64) (k : Fin 192) :
    (res_main_v72 V : FVec Ideal S1x64x2x4x64x192 .f32) (ix6 o n v g q k) = ((share Z S (64 * n.val + q.val) (4 * v.val + g.val) k.val : ℝ) : EReal) := by
  have hX := v64 H o n v g q
  have hY := v66 H 0 0 n v g q
  obtain rfl : o = 0 := Subsingleton.elim _ _
  unfold res_main_v72
  generalize res_main_v64 V = X at hX ⊢
  generalize res_main_v66 V = Y at hY ⊢
  pointwise
  rw [hX, hY, div_real (scaled_ne _ _ _), shifted]
  rfl

theorem v80 (o : Fin 1) (n : Fin 64) (v : Fin 2) (d : Fin 64) (g : Fin 4) (q : Fin 64) :
    (res_main_v80 V : FVec Ideal S1x64x2x64x4x64 .f32) (ix6 o n v d g q) = ((D (64 * n.val + q.val) (64 * (4 * v.val + g.val) + d.val) : ℝ) : EReal) := by
  pointwise [res_main_v80]
  rw [H.d]
  exact congrArg ((↑) : ℝ → EReal) (congrArg₂ D (by simp only; omega) (by simp only; omega))

theorem v83 (o : Fin 1) (n : Fin 64) (k : Fin 192) (v : Fin 2) (d : Fin 64) :
    (res_main_v83 V : FVec Ideal S1x64x192x2x64 .f32) (ix5 o n k v d)
      = ((∑ g : Fin 4, ∑ q : Fin 64, D (64 * n.val + q.val) (64 * (4 * v.val + g.val) + d.val) * share Z S (64 * n.val + q.val) (4 * v.val + g.val) k.val : ℝ) : EReal) := by
  have hX := v80 H 0 n v d
  have hY := v72 H 0 n v
  obtain rfl : o = 0 := Subsingleton.elim _ _
  unfold res_main_v83
  generalize res_main_v80 V = X at hX ⊢
  generalize res_main_v72 V = Y at hY ⊢
  pointwise
  simp only [hX, hY, ← EReal.coe_mul, coe_sum]

/-- What a weight's gradient is, zero for the sink. -/
def dshare (Z D : ℕ → ℕ → ℝ) (n q v g κ : ℕ) : ℝ :=
  if κ < 192 then ∑ d : Fin 64, D (64 * n + q) (64 * (4 * v + g) + d.val) * pad Z (64 * n + κ) (640 + 64 * v + d.val) else 0

theorem v84 (o : Fin 1) (n : Fin 64) (v : Fin 2) (g : Fin 4) (q : Fin 64) (k : Fin 193) :
    (res_main_v84 V : FVec Ideal S1x64x2x4x64x193 .f32) (ix6 o n v g q k) = ((dshare Z D n.val q.val v.val g.val k.val : ℝ) : EReal) := by
  have hX := fun d g q => v80 H 0 n v d g q
  have hY := fun k d => v21 H 0 n k v d
  obtain rfl : o = 0 := Subsingleton.elim _ _
  unfold res_main_v84
  generalize res_main_v80 V = X at hX ⊢
  generalize res_main_v21 V = Y at hY ⊢
  pointwise
  unfold dshare
  by_cases c : k.val < 192
  · rw [dif_pos c, if_pos c]
    simp only [hX, hY, ← EReal.coe_mul, coe_sum]
  · rw [dif_neg c, if_neg c]
    exact EReal.coe_zero.symm

theorem v97 (o : Fin 1) (n : Fin 64) (v : Fin 2) (g : Fin 4) (q : Fin 64) (k : Fin 193) :
    (res_main_v97 V : FVec Ideal S1x64x2x4x64x193 .f32) (ix6 o n v g q k)
      = ((share Z S (64 * n.val + q.val) (4 * v.val + g.val) k.val
          * (dshare Z D n.val q.val v.val g.val k.val
            - ∑ j : Fin 193, dshare Z D n.val q.val v.val g.val j.val * share Z S (64 * n.val + q.val) (4 * v.val + g.val) j.val) : ℝ) : EReal) := by
  have hX := v64 H 0 n v g q
  have hY := v66 H 0 0 n v g q
  have hW := v84 H 0 n v g q
  obtain rfl : o = 0 := Subsingleton.elim _ _
  unfold res_main_v97
  generalize res_main_v64 V = X at hX ⊢
  generalize res_main_v66 V = Y at hY ⊢
  generalize res_main_v84 V = W at hW ⊢
  pointwise
  rw [RankSix.sum_ends]
  pointwise
  simp only [RankSix.sum_last]
  pointwise
  have hT := scaled_ne (Z := Z) (S := S) (64 * n.val + q.val) (4 * v.val + g.val) (top V 0 n v g q)
  have hT' := mul_ne_zero hT hT
  simp only [hX, hY, hW, Fin.sum_univ_one]
  rw [show (1 : EReal) = ((1 : ℝ) : EReal) from rfl]
  simp only [← EReal.coe_mul, div_real hT, div_real hT', coe_sum, ← EReal.coe_neg, ← EReal.coe_add]
  refine congrArg ((↑) : ℝ → EReal) ?_
  unfold share
  simp only [← shifted _ (top V 0 n v g q) (total Z S (64 * n.val + q.val) (4 * v.val + g.val))]
  set T := total Z S (64 * n.val + q.val) (4 * v.val + g.val) * Real.exp (-top V 0 n v g q)
  have e : ∀ j : Fin 193, dshare Z D n.val q.val v.val g.val j.val * (1 / (T * T)) * Real.exp (logit Z S (64 * n.val + q.val) (4 * v.val + g.val) j.val - top V 0 n v g q)
      = (dshare Z D n.val q.val v.val g.val j.val * (Real.exp (logit Z S (64 * n.val + q.val) (4 * v.val + g.val) j.val - top V 0 n v g q) / T)) * (1 / T) := fun j => by
    field_simp
  simp only [e, ← Finset.sum_mul]
  field_simp
  ring

end

end Cert.Proof.Swa.Ref

end

end
-- ==== Proof.Swa.RefGrad.lean ====
/- The reference's four gradients of the attention: its own stages from the scores' gradient on, and their equality with the
gradients written over all rows and all keys. -/
module

public import proofs.«01_k».proof.Proof.Swa.Reference

@[expose] public section

set_option maxRecDepth 16384

noncomputable section

namespace Cert.Proof.Swa.Ref

open Idealize.ShloMosaic Idealize.ShloMosaic.StableHlo
open Cert.SwaRefIdeal Cert.SwaRefIdeal.Gen Cert.SwaRefIdeal.Value

section

variable {V : Valuation τ sig (Elt Ideal)} {Z : ℕ → ℕ → ℝ} {S : ℕ → ℝ} {D : ℕ → ℕ → ℝ} (H : Args V Z S D)

/-- A key's share where the window's row is a row of the sequence, -/
theorem share_key {n q v g κ : ℕ} (hq : q < 64) (hg : g < 4) (hκ : κ < 192) (c : 128 ≤ 64 * n + κ) :
    share Z S (64 * n + q) (4 * v + g) κ = weight Z S (64 * n + q) (4 * v + g) (64 * n + κ - 128) := by
  unfold share weight logit
  have e : (64 * n + q) / 64 = n := by omega
  rw [if_pos hκ, if_pos (show Band (64 * n + q) (64 * n + κ - 128) by unfold Band; omega)]
  simp only [e, if_pos c]

theorem dshare_key {n q v g κ : ℕ} (hq : q < 64) (hg : g < 4) (hκ : κ < 192) (c : 128 ≤ 64 * n + κ) :
    dshare Z D n q v g κ = dweight Z D (64 * n + q) (4 * v + g) (64 * n + κ - 128) := by
  unfold dshare dweight pad
  simp only [if_pos hκ, if_pos c, Finset.sum_range, show (4 * v + g) / 4 = v by omega]

theorem dshare_front {n q v g κ : ℕ} (c : ¬ 128 ≤ 64 * n + κ) : dshare Z D n q v g κ = 0 := by
  unfold dshare pad
  simp only [if_neg c, mul_zero, Finset.sum_const_zero, ite_self]

theorem dshare_sink {n q v g : ℕ} : dshare Z D n q v g 192 = 0 := by
  unfold dshare
  rw [if_neg (by omega)]

/-- A row's weighted mean of the weights' gradients. -/
theorem mean_share {n q v g : ℕ} (hn : n < 64) (hq : q < 64) (hg : g < 4) :
    ∑ j : Fin 193, dshare Z D n q v g j.val * share Z S (64 * n + q) (4 * v + g) j.val = mean Z S D (64 * n + q) (4 * v + g) := by
  rw [← Finset.sum_range (fun j => dshare Z D n q v g j * share Z S (64 * n + q) (4 * v + g) j), Finset.sum_range_succ, dshare_sink, zero_mul, add_zero]
  unfold mean
  refine Eq.trans ?_ ((sum_window (64 * n) 192 (by omega) (fun k => weight Z S (64 * n + q) (4 * v + g) k * dweight Z D (64 * n + q) (4 * v + g) k)).trans ?_)
  · refine Finset.sum_congr rfl fun κ hκ => ?_
    have hκ := Finset.mem_range.mp hκ
    by_cases c : 128 ≤ 64 * n + κ
    · rw [if_pos c, dshare_key hq hg hκ c, share_key hq hg hκ c, mul_comm]
    · rw [if_neg c, dshare_front c, zero_mul]
  · refine Finset.sum_congr rfl fun k _ => ?_
    by_cases c : 64 * n ≤ k + 128 ∧ k + 128 < 64 * n + 192
    · rw [if_pos c]
    · rw [if_neg c]
      unfold weight
      rw [if_neg (by unfold Band; omega), zero_mul]

/-- What the three chunks that see a row leave there, placed at their rows and added, is the sum over all rows. -/
theorem three (X : Fin 64 → Fin 192 → EReal) (f : ℕ → ℝ) (k : ℕ) (hk : k < 4096) (hf : ∀ r, ¬(k / 64 ≤ r / 64 ∧ r / 64 ≤ k / 64 + 2) → f r = 0)
    (hX : ∀ (n : Fin 64) (κ : Fin 192), 64 * n.val + κ.val = k + 128 → X n κ = ((∑ q ∈ Finset.range 64, f (64 * n.val + q) : ℝ) : EReal)) :
    (((if h : (2 ≤ (128 + k) / 64 ∧ (128 + k) / 64 - 2 < 64) ∧ (128 + k) % 64 < 64 then X ⟨(128 + k) / 64 - 2, h.1.2⟩ ⟨128 + (128 + k) % 64, by omega⟩ else 0)
      + (if h : (1 ≤ (128 + k) / 64 ∧ (128 + k) / 64 - 1 < 64) ∧ (128 + k) % 64 < 64 then X ⟨(128 + k) / 64 - 1, h.1.2⟩ ⟨64 + (128 + k) % 64, by omega⟩ else 0))
      + (if h : (128 + k) / 64 < 64 ∧ (128 + k) % 64 < 64 then X ⟨(128 + k) / 64, h.1⟩ ⟨(128 + k) % 64, by omega⟩ else 0))
      = ((∑ r ∈ Finset.range 4096, f r : ℝ) : EReal) := by
  rw [sum_three f (k / 64) (by omega) hf, EReal.coe_add, EReal.coe_add]
  refine congrArg₂ _ (congrArg₂ _ ?_ ?_) ?_
  · rw [dif_pos (by omega), hX _ _ (by simp only; omega)]
    simp only [show (128 + k) / 64 - 2 = k / 64 by omega]
  · by_cases c : k / 64 + 1 < 64
    · rw [dif_pos (by omega), hX _ _ (by simp only; omega), if_pos c]
      simp only [show (128 + k) / 64 - 1 = k / 64 + 1 by omega]
    · rw [dif_neg (by omega), if_neg c, EReal.coe_zero]
  · by_cases c : k / 64 + 2 < 64
    · rw [dif_pos (by omega), hX _ _ (by simp only; omega), if_pos c]
      simp only [show (128 + k) / 64 = k / 64 + 2 by omega]
    · rw [dif_neg (by omega), if_neg c, EReal.coe_zero]

include H

theorem ds_key (n : Fin 64) (v : Fin 2) (g : Fin 4) (q : Fin 64) (k : Fin 193) (o : Fin 1) (hκ : k.val < 192) (c : 128 ≤ 64 * n.val + k.val) :
    (res_main_v97 V : FVec Ideal S1x64x2x4x64x193 .f32) (ix6 o n v g q k)
      = ((weight Z S (64 * n.val + q.val) (4 * v.val + g.val) (64 * n.val + k.val - 128)
          * (dweight Z D (64 * n.val + q.val) (4 * v.val + g.val) (64 * n.val + k.val - 128) - mean Z S D (64 * n.val + q.val) (4 * v.val + g.val)) : ℝ) : EReal) := by
  rw [v97 H, mean_share n.isLt q.isLt g.isLt, share_key q.isLt g.isLt hκ c, dshare_key q.isLt g.isLt hκ c]

theorem v106 (o : Fin 1) (n : Fin 64) (v : Fin 2) (k : Fin 192) (q : Fin 64) (g : Fin 4) :
    (res_main_v106 V : FVec Ideal S1x64x2x192x64x4 .f32) (ix6 o n v k q g)
      = ((if 128 ≤ 64 * n.val + k.val then dscore Z S D (64 * n.val + q.val) (4 * v.val + g.val) (64 * n.val + k.val - 128) else 0 : ℝ) : EReal) := by
  have hW := v40 (V := V) 0 n v g q k
  have hX := ds_key H n v g q ⟨k.val, by omega⟩ 0 k.isLt
  obtain rfl : o = 0 := Subsingleton.elim _ _
  unfold res_main_v106
  generalize res_main_v97 V = X at hX ⊢
  generalize res_main_v40_1 V = W at hW ⊢
  pointwise
  rw [hW, select_ite]
  by_cases c : 128 ≤ 64 * n.val + k.val
  · rw [if_pos c, if_pos c, hX c, bits_eighth, ← EReal.coe_mul]
    unfold dscore
    rfl
  · rw [if_neg c, if_neg c]
    exact EReal.coe_zero.symm

theorem v110 (o : Fin 1) (n : Fin 64) (k : Fin 192) (v : Fin 2) (d : Fin 64) (c : 128 ≤ 64 * n.val + k.val) :
    (res_main_v110 V : FVec Ideal S1x64x192x2x64 .f32) (ix5 o n k v d)
      = ((∑ q : Fin 64, ∑ g : Fin 4, dscore Z S D (64 * n.val + q.val) (4 * v.val + g.val) (64 * n.val + k.val - 128)
          * Z (64 * n.val + q.val) (64 * (4 * v.val + g.val) + d.val) : ℝ) : EReal) := by
  have hX := v106 H 0 n v k
  have hY := fun q g => v6 H 0 n q v g d
  obtain rfl : o = 0 := Subsingleton.elim _ _
  unfold res_main_v110
  generalize res_main_v106 V = X at hX ⊢
  generalize res_main_v6 V = Y at hY ⊢
  pointwise
  simp only [hX, hY, if_pos c, ← EReal.coe_mul, coe_sum]

theorem v83' (o : Fin 1) (n : Fin 64) (k : Fin 192) (v : Fin 2) (d : Fin 64) (c : 128 ≤ 64 * n.val + k.val) :
    (res_main_v83 V : FVec Ideal S1x64x192x2x64 .f32) (ix5 o n k v d)
      = ((∑ g : Fin 4, ∑ q : Fin 64, D (64 * n.val + q.val) (64 * (4 * v.val + g.val) + d.val)
          * weight Z S (64 * n.val + q.val) (4 * v.val + g.val) (64 * n.val + k.val - 128) : ℝ) : EReal) := by
  rw [v83 H]
  refine congrArg ((↑) : ℝ → EReal) (Finset.sum_congr rfl fun g _ => Finset.sum_congr rfl fun q _ => ?_)
  rw [share_key q.isLt g.isLt k.isLt c]

/-- The three chunks that see a key's row. -/
theorem v130 (o : Fin 1) (k : Fin 4096) (v : Fin 2) (d : Fin 64) :
    (res_main_v130 V : FVec Ideal S1x4224x2x64 .f32) (ix4 o ⟨128 + k.val, by omega⟩ v d)
      = ((∑ g : Fin 4, ∑ r ∈ Finset.range 4096, dscore Z S D r (4 * v.val + g.val) k.val * Z r (64 * (4 * v.val + g.val) + d.val) : ℝ) : EReal) := by
  have h0 := v110 H 0
  obtain rfl : o = 0 := Subsingleton.elim _ _
  unfold res_main_v130
  generalize res_main_v110 V = X at h0 ⊢
  pointwise
  refine (three (fun n κ => X (ix5 0 n κ v d)) (fun r => ∑ g : Fin 4, dscore Z S D r (4 * v.val + g.val) k.val * Z r (64 * (4 * v.val + g.val) + d.val)) k.val k.isLt ?_ ?_).trans ?_
  · intro r hr
    have hb : ¬Band r k.val := by unfold Band; omega
    refine Finset.sum_eq_zero fun g _ => ?_
    unfold dscore weight
    rw [if_neg hb, zero_mul, zero_mul, zero_mul]
  · intro n κ hn
    rw [h0 n κ v d (by omega), show 64 * n.val + κ.val - 128 = k.val by omega, Finset.sum_range]
  · rw [Finset.sum_comm]

/-- The three chunks that see a key's row. -/
theorem v127 (o : Fin 1) (k : Fin 4096) (v : Fin 2) (d : Fin 64) :
    (res_main_v127 V : FVec Ideal S1x4224x2x64 .f32) (ix4 o ⟨128 + k.val, by omega⟩ v d)
      = ((∑ g : Fin 4, ∑ r ∈ Finset.range 4096, D r (64 * (4 * v.val + g.val) + d.val) * weight Z S r (4 * v.val + g.val) k.val : ℝ) : EReal) := by
  have h0 := v83' H 0
  obtain rfl : o = 0 := Subsingleton.elim _ _
  unfold res_main_v127
  generalize res_main_v83 V = X at h0 ⊢
  pointwise
  refine (three (fun n κ => X (ix5 0 n κ v d)) (fun r => ∑ g : Fin 4, D r (64 * (4 * v.val + g.val) + d.val) * weight Z S r (4 * v.val + g.val) k.val) k.val k.isLt ?_ ?_).trans ?_
  · intro r hr
    have hb : ¬Band r k.val := by unfold Band; omega
    refine Finset.sum_eq_zero fun g _ => ?_
    unfold weight
    rw [if_neg hb, mul_zero]
  · intro n κ hn
    rw [h0 n κ v d (by omega), show 64 * n.val + κ.val - 128 = k.val by omega, Finset.sum_range]
    rw [Finset.sum_comm]
  · rw [Finset.sum_comm]

/-- The reference's gradient of the attention's columns: the queries', -/
theorem v141_q (r : Fin 4096) (c : Fin 512) :
    (res_main_v141 V : FVec Ideal S4096x2816 .f32) (ix2 r ⟨c.val, by omega⟩) = ((dq Z S D r.val c.val : ℝ) : EReal) := by
  have h6 := v106 H 0
  have h17 := v17 H 0
  unfold res_main_v141
  generalize res_main_v106 V = X at h6 ⊢
  generalize res_main_v17 V = Y at h17 ⊢
  generalize res_main_v127 V = P at ⊢
  generalize res_main_v130 V = Q at ⊢
  pointwise
  rw [dif_neg (by omega), dif_neg (fun h => h.1)]
  simp only [h6, h17, ← EReal.coe_mul, coe_sum]
  rw [show ((0 : EReal) + 0) = 0 from add_zero _]
  refine (zero_add (_ : EReal)).trans ?_
  refine congrArg ((↑) : ℝ → EReal) ?_
  unfold dq
  refine Eq.trans (b := ∑ κ ∈ Finset.range 192, if 128 ≤ 64 * (r.val / 64) + κ then dscore Z S D r.val (c.val / 64) (64 * (r.val / 64) + κ - 128)
      * Z (64 * (r.val / 64) + κ - 128) (512 + 64 * (c.val / 256) + c.val % 64) else 0) ?_ ?_
  · rw [Finset.sum_range]
    refine Finset.sum_congr rfl fun κ _ => ?_
    unfold pad
    by_cases h : 128 ≤ 64 * (r.val / 64) + κ.val
    · simp only [if_pos h]
      exact congrArg₂ (· * ·) (congrArg₂ (fun a b => dscore Z S D a b _) (by omega) (by omega)) rfl
    · simp only [if_neg h, zero_mul]
  · refine (sum_window (64 * (r.val / 64)) 192 (by omega) (fun k => dscore Z S D r.val (c.val / 64) k * Z k (512 + 64 * (c.val / 256) + c.val % 64))).trans ?_
    refine Finset.sum_congr rfl fun k _ => ?_
    by_cases h : 64 * (r.val / 64) ≤ k + 128 ∧ k + 128 < 64 * (r.val / 64) + 192
    · rw [if_pos h]
    · rw [if_neg h]
      unfold dscore weight
      rw [if_neg (by unfold Band; omega), zero_mul, zero_mul, zero_mul]

/-- the keys', -/
theorem v141_k (k : Fin 4096) (c : Fin 128) :
    (res_main_v141 V : FVec Ideal S4096x2816 .f32) (ix2 k ⟨512 + c.val, by omega⟩) = ((dk Z S D k.val c.val : ℝ) : EReal) := by
  have h := v130 H 0 k ⟨c.val / 64, by omega⟩ ⟨c.val % 64, by omega⟩
  unfold res_main_v141
  generalize res_main_v106 V = X at ⊢
  generalize res_main_v17 V = Y at ⊢
  generalize res_main_v127 V = P at ⊢
  generalize res_main_v130 V = Q at h ⊢
  pointwise
  rw [dif_neg (by omega)]
  refine (zero_add (_ : EReal)).trans ?_
  rw [h]
  unfold dk
  rw [Finset.sum_range]
  exact congrArg ((↑) : ℝ → EReal) (Finset.sum_congr rfl fun g _ => Finset.sum_congr rfl fun r _ => mul_comm _ _)

/-- the values', -/
theorem v141_v (k : Fin 4096) (c : Fin 128) :
    (res_main_v141 V : FVec Ideal S4096x2816 .f32) (ix2 k ⟨640 + c.val, by omega⟩) = ((dv Z S D k.val c.val : ℝ) : EReal) := by
  have h := v127 H 0 k ⟨c.val / 64, by omega⟩ ⟨c.val % 64, by omega⟩
  unfold res_main_v141
  generalize res_main_v106 V = X at ⊢
  generalize res_main_v17 V = Y at ⊢
  generalize res_main_v127 V = P at h ⊢
  generalize res_main_v130 V = Q at ⊢
  pointwise
  rw [dif_neg (by omega), dif_neg (by omega)]
  refine (add_zero (_ : EReal)).trans ((add_zero (_ : EReal)).trans ?_)
  rw [h]
  unfold dv
  rw [Finset.sum_range]

/-- and the sinks'. -/
theorem v102 (o : Fin 1) (h : Fin 8) :
    (shapeCast _ (broadcastInDim S1x1x2x4x1x1 ![2, 3] bcast_S2x4_S1x1x2x4x1x1_2_3 (Host.reduceAdd (extractStridedSlice S1x64x2x4x64x1 ![0, 0, 0, 0, 0, 192] (res_main_v97 V) slices_S1x64x2x4x64x193_S1x64x2x4x64x1_0_0_0_0_0_192) (constant S_ .f32 0x00000000#32) reducesTo_S1x64x2x4x64x1_S2x4_d0_1_4_5 h_S_)) shapeCasts_S1x1x2x4x1x1_S1x8 : FVec Ideal S1x8 .f32) (ix2 o h)
      = ((dsink Z S D h.val : ℝ) : EReal) := by
  have hX := fun o n v g q => v97 H o n v g q 192
  generalize res_main_v97 V = X at hX ⊢
  pointwise
  rw [RankSix.sum_inner]
  pointwise
  simp only [hX, coe_sum, Fin.sum_univ_one]
  refine congrArg ((↑) : ℝ → EReal) ?_
  unfold dsink
  rw [show 4096 = 64 * 64 by norm_num, sum_tiles, Finset.sum_range, ← Finset.sum_neg_distrib]
  refine Finset.sum_congr rfl fun n _ => ?_
  rw [Finset.sum_range, ← Finset.sum_neg_distrib]
  refine Finset.sum_congr rfl fun q _ => ?_
  rw [mean_share n.isLt q.isLt (by omega), show 4 * (h.val / 4) + h.val % 4 = h.val by omega]
  rw [show ((192 : Fin 193) : ℕ) = 192 from rfl, dshare_sink, zero_sub, mul_neg]
  unfold share logit
  rw [if_neg (by omega)]

/-- Every second block of rows of the keys' and values' gradient: the blocks' first halves, -/
theorem first (r : Fin 2048) (c : Fin 256) :
    (shapeCast _ (shapeCast _ (extractStridedSlice S16x1x128x256 ![0, 0, 0, 0] (res_main_v143 V) slices_S16x2x128x256_S16x1x128x256_0_0_0_0) shapeCasts_S16x1x128x256_S16x128x256) shapeCasts_S16x128x256_S2048x256 : FVec Ideal S2048x256 .f32) (ix2 r c)
      = ((dkv Z S D (256 * (r.val / 128) + r.val % 128) c.val : ℝ) : EReal) := by
  have hk := v141_k H
  have hv := v141_v H
  unfold res_main_v143
  generalize res_main_v141 V = X at hk hv ⊢
  pointwise
  unfold dkv
  by_cases h : c.val < 128
  · rw [if_pos h]
    refine (congrArg X (congrArg₂ ix2 (Fin.ext ?_) (Fin.ext ?_))).trans ((hk ⟨256 * (r.val / 128) + r.val % 128, by omega⟩ ⟨c.val, h⟩).trans rfl) <;> simp only <;> omega
  · rw [if_neg h]
    refine (congrArg X (congrArg₂ ix2 (Fin.ext ?_) (Fin.ext ?_))).trans ((hv ⟨256 * (r.val / 128) + r.val % 128, by omega⟩ ⟨c.val - 128, by omega⟩).trans rfl) <;> simp only <;> omega

/-- and their second halves. -/
theorem second (r : Fin 2048) (c : Fin 256) :
    (shapeCast _ (shapeCast _ (extractStridedSlice S16x1x128x256 ![0, 1, 0, 0] (res_main_v143 V) slices_S16x2x128x256_S16x1x128x256_0_1_0_0) shapeCasts_S16x1x128x256_S16x128x256) shapeCasts_S16x128x256_S2048x256 : FVec Ideal S2048x256 .f32) (ix2 r c)
      = ((dkv Z S D (256 * (r.val / 128) + 128 + r.val % 128) c.val : ℝ) : EReal) := by
  have hk := v141_k H
  have hv := v141_v H
  unfold res_main_v143
  generalize res_main_v141 V = X at hk hv ⊢
  pointwise
  unfold dkv
  by_cases h : c.val < 128
  · rw [if_pos h]
    refine (congrArg X (congrArg₂ ix2 (Fin.ext ?_) (Fin.ext ?_))).trans ((hk ⟨256 * (r.val / 128) + 128 + r.val % 128, by omega⟩ ⟨c.val, h⟩).trans rfl) <;> simp only <;> omega
  · rw [if_neg h]
    refine (congrArg X (congrArg₂ ix2 (Fin.ext ?_) (Fin.ext ?_))).trans ((hv ⟨256 * (r.val / 128) + 128 + r.val % 128, by omega⟩ ⟨c.val - 128, by omega⟩).trans rfl) <;> simp only <;> omega

end

end Cert.Proof.Swa.Ref

end

end
-- ==== Proof.Swa.Saved.lean ====
/- The values the forward call saves, as the host works them out before the region: output and log-sum of each row. -/
module
public import proofs.«01_k».proof.Proof.Swa.Step
public import proofs.«01_k».proof.Proof.Swa.RefGrad
@[expose] public section
set_option maxRecDepth 16384
noncomputable section
namespace Cert.Proof.Swa
open Idealize.ShloMosaic Idealize.ShloMosaic.StableHlo
open Cert.SwaIdeal Cert.SwaIdeal.Gen
/-- Contents of the kernel program's buffers, -/
abbrev KerV := Valuation τ sig (Elt Ideal)
namespace Saved
/-- The logits beside the sink's. -/
def logits (A : FVec Ideal S1x64x2x4x64x192 .f32) (s : FVec Ideal S1x8 .f32) : FVec Ideal S1x64x2x4x64x193 .f32 :=
  concatenate S1x64x2x4x64x193 5 [⟨S1x64x2x4x64x192, A⟩, ⟨S1x64x2x4x64x1, broadcastInDim S1x64x2x4x64x1 ![0, 1, 2, 3, 4, 5] bcast_S1x1x2x4x1x1_S1x64x2x4x64x1_0_1_2_3_4_5 (shapeCast _ s shapeCasts_S1x8_S1x1x2x4x1x1)⟩] concatenates_S1x64x2x4x64x192_S1x64x2x4x64x1_S1x64x2x4x64x193_d5
/-- The largest logit of a row. -/
def top (X : FVec Ideal S1x64x2x4x64x193 .f32) : FVec Ideal S1x64x2x4x64x1 .f32 :=
  broadcastInDim S1x64x2x4x64x1 ![0, 1, 2, 3, 4] bcast_S1x64x2x4x64_S1x64x2x4x64x1_0_1_2_3_4 (Host.reduce FloatOps.maximumf X (constant S_ .f32 0xFF800000#32) reducesTo_S1x64x2x4x64x193_S1x64x2x4x64_d5 h_S_)
/-- The exponentials over the largest. -/
def grown (X : FVec Ideal S1x64x2x4x64x193 .f32) : FVec Ideal S1x64x2x4x64x193 .f32 :=
  Host.exp (subf X (broadcastInDim S1x64x2x4x64x193 ![0, 1, 2, 3, 4, 5] bcast_S1x64x2x4x64x1_S1x64x2x4x64x193_0_1_2_3_4_5 (top X)))
/-- Their total. -/
def sum (E : FVec Ideal S1x64x2x4x64x193 .f32) : FVec Ideal S1x64x2x4x64x1 .f32 :=
  broadcastInDim S1x64x2x4x64x1 ![0, 1, 2, 3, 4] bcast_S1x64x2x4x64_S1x64x2x4x64x1_0_1_2_3_4 (Host.reduceAdd E (constant S_ .f32 0x00000000#32) reducesTo_S1x64x2x4x64x193_S1x64x2x4x64_d5 h_S_)
/-- The shares of the keys. -/
def shares (E : FVec Ideal S1x64x2x4x64x193 .f32) (T : FVec Ideal S1x64x2x4x64x1 .f32) : FVec Ideal S1x64x2x4x64x192 .f32 :=
  extractStridedSlice S1x64x2x4x64x192 ![0, 0, 0, 0, 0, 0] (Host.divf E (broadcastInDim S1x64x2x4x64x193 ![0, 1, 2, 3, 4, 5] bcast_S1x64x2x4x64x1_S1x64x2x4x64x193_0_1_2_3_4_5 T)) slices_S1x64x2x4x64x193_S1x64x2x4x64x192_0_0_0_0_0_0
/-- The output. -/
def out (Y : FVec Ideal S1x64x192x2x64 .f32) (P : FVec Ideal S1x64x2x4x64x192 .f32) : FVec Ideal S4096x512 .f32 :=
  shapeCast _ (transpose S1x64x64x2x4x64 [0, 1, 5, 2, 4, 3] (Host.dotGeneral dot_S1x64x192x2x64_S1x64x2x4x64x192_S1x64x2x64x4x64_2_5_4_34_013_012 none Y P) transposes_S1x64x2x64x4x64_S1x64x64x2x4x64_0_1_5_2_4_3) shapeCasts_S1x64x64x2x4x64_S4096x512
/-- The log-sums. -/
def lse (M T : FVec Ideal S1x64x2x4x64x1 .f32) : FVec Ideal S4096x8 .f32 :=
  shapeCast _ (transpose S1x64x64x2x4x1 [0, 1, 4, 2, 3, 5] (addf M (Host.log T)) transposes_S1x64x2x4x64x1_S1x64x64x2x4x1_0_1_4_2_3_5) shapeCasts_S1x64x64x2x4x1_S4096x8
end Saved

variable (W : KerV)

theorem stage2_out :
    (after hostOps0_2 W (Proc.devRef .tc main_v60) : FVec Ideal S4096x1024 .bf16)
      = truncf .bf16 (concatenate S4096x1024 1 [⟨S4096x512, Saved.out (W (Proc.devRef .tc main_v18)) (Saved.shares (Saved.grown (Saved.logits (W (Proc.devRef .tc main_v37)) (W (Proc.devRef .tc main_arg1)))) (Saved.sum (Saved.grown (Saved.logits (W (Proc.devRef .tc main_v37)) (W (Proc.devRef .tc main_arg1))))))⟩,
          ⟨S4096x512, broadcastInDim S4096x512 ![] bcast_S_S4096x512 (constant S_ .f32 0x00000000#32)⟩] concatenates_S4096x512_S4096x512_S4096x1024_d1) bitsLt_bf16_f32 := by
  simp only [hostOps0_2]
  after_results
  rfl

theorem stage2_lse :
    (after hostOps0_2 W (Proc.devRef .tc main_v62) : FVec Ideal S4096x128 .f32)
      = concatenate S4096x128 1 [⟨S4096x8, Saved.lse (Saved.top (Saved.logits (W (Proc.devRef .tc main_v37)) (W (Proc.devRef .tc main_arg1)))) (Saved.sum (Saved.grown (Saved.logits (W (Proc.devRef .tc main_v37)) (W (Proc.devRef .tc main_arg1)))))⟩,
          ⟨S4096x120, broadcastInDim S4096x120 ![] bcast_S_S4096x120 (constant S_ .f32 0x00000000#32)⟩] concatenates_S4096x8_S4096x120_S4096x128_d1 := by
  simp only [hostOps0_2]
  after_results
  rfl

theorem stage1_kept :
    (after hostOps0_1 W (Proc.devRef .tc main_v18) : FVec Ideal S1x64x192x2x64 .f32) = W (Proc.devRef .tc main_v18)
    ∧ (after hostOps0_1 W (Proc.devRef .tc main_arg1) : FVec Ideal S1x8 .f32) = W (Proc.devRef .tc main_arg1) := by
  simp only [hostOps0_1, TRef.nullary, TRef.ternary, TRef.unary, TRef.toBuf, TRef.ofBuf, cast_eq]
  constructor <;> after_results_simp

theorem stage1_logits :
    (after hostOps0_1 W (Proc.devRef .tc main_v37) : FVec Ideal S1x64x2x4x64x192 .f32)
      = select (broadcastInDim S1x64x2x4x64x192 ![0, 1, 2, 3, 4, 5] bcast_S1x64x1x1x1x192_S1x64x2x4x64x192_0_1_2_3_4_5 (W (Proc.devRef .tc main_v36))) (W (Proc.devRef .tc main_v35)) (broadcastInDim S1x64x2x4x64x192 ![] bcast_S_S1x64x2x4x64x192 (id (W (Proc.devRef .tc main_cst_2)))) := by
  simp only [hostOps0_1, TRef.nullary, TRef.ternary, TRef.unary, TRef.toBuf, TRef.ofBuf, cast_eq]
  after_results_simp
  try rfl

/-- of the reference's. -/
abbrev RefV := Valuation Cert.SwaRefIdeal.τ Cert.SwaRefIdeal.sig (Elt Ideal)

/-- The host operations of the keys' and values' pieces. -/
abbrev opsA : List (HloOp τ sig (Elt Ideal)) := hostOps0.take 15
/-- The keys' window. -/
abbrev opsB : List (HloOp τ sig (Elt Ideal)) := (hostOps0.drop 15).take 1
/-- The values' pieces. -/
abbrev opsC : List (HloOp τ sig (Elt Ideal)) := (hostOps0.drop 16).take 3
/-- The values' window. -/
abbrev opsD : List (HloOp τ sig (Elt Ideal)) := (hostOps0.drop 19).take 1
/-- The logits. -/
abbrev opsE : List (HloOp τ sig (Elt Ideal)) := hostOps0.drop 20

variable (V' : RefV)

theorem after_split : after hostOps0 W = after opsE (after opsD (after opsC (after opsB (after opsA W)))) := rfl

theorem stageB : (after opsB W (Proc.devRef .tc main_v14) : FVec Ideal S1x64x192x2x64 .f32)
      = concatenate S1x64x192x2x64 2 [⟨S1x64x64x2x64, W (Proc.devRef .tc main_v11)⟩, ⟨S1x64x64x2x64, W (Proc.devRef .tc main_v12)⟩, ⟨S1x64x64x2x64, W (Proc.devRef .tc main_v13)⟩] concatenates_S1x64x64x2x64_S1x64x64x2x64_S1x64x64x2x64_S1x64x192x2x64_d2
    ∧ after opsB W (Proc.devRef .tc main_v10) = W (Proc.devRef .tc main_v10)
    ∧ after opsB W (Proc.devRef .tc main_v1) = W (Proc.devRef .tc main_v1)
    ∧ after opsB W (Proc.devRef .tc main_arg1) = W (Proc.devRef .tc main_arg1) := by
  dsimp only [opsB, hostOps0, List.take, List.drop]
  refine ⟨?_, ?_, ?_, ?_⟩ <;> after_results <;> rfl

theorem stageC : (after opsC W (Proc.devRef .tc main_v15) : FVec Ideal S1x64x64x2x64 .f32) = extractStridedSlice S1x64x64x2x64 ![0, 0, 0, 0, 0] (W (Proc.devRef .tc main_v10)) slices_S1x66x64x2x64_S1x64x64x2x64_0_0_0_0_0
    ∧ (after opsC W (Proc.devRef .tc main_v16) : FVec Ideal S1x64x64x2x64 .f32) = extractStridedSlice S1x64x64x2x64 ![0, 1, 0, 0, 0] (W (Proc.devRef .tc main_v10)) slices_S1x66x64x2x64_S1x64x64x2x64_0_1_0_0_0
    ∧ (after opsC W (Proc.devRef .tc main_v17) : FVec Ideal S1x64x64x2x64 .f32) = extractStridedSlice S1x64x64x2x64 ![0, 2, 0, 0, 0] (W (Proc.devRef .tc main_v10)) slices_S1x66x64x2x64_S1x64x64x2x64_0_2_0_0_0
    ∧ after opsC W (Proc.devRef .tc main_v14) = W (Proc.devRef .tc main_v14)
    ∧ after opsC W (Proc.devRef .tc main_v1) = W (Proc.devRef .tc main_v1)
    ∧ after opsC W (Proc.devRef .tc main_arg1) = W (Proc.devRef .tc main_arg1) := by
  dsimp only [opsC, hostOps0, List.take, List.drop]
  refine ⟨?_, ?_, ?_, ?_, ?_, ?_⟩ <;> after_results <;> rfl

theorem stageD : (after opsD W (Proc.devRef .tc main_v18) : FVec Ideal S1x64x192x2x64 .f32)
      = concatenate S1x64x192x2x64 2 [⟨S1x64x64x2x64, W (Proc.devRef .tc main_v15)⟩, ⟨S1x64x64x2x64, W (Proc.devRef .tc main_v16)⟩, ⟨S1x64x64x2x64, W (Proc.devRef .tc main_v17)⟩] concatenates_S1x64x64x2x64_S1x64x64x2x64_S1x64x64x2x64_S1x64x192x2x64_d2
    ∧ after opsD W (Proc.devRef .tc main_v14) = W (Proc.devRef .tc main_v14)
    ∧ after opsD W (Proc.devRef .tc main_v1) = W (Proc.devRef .tc main_v1)
    ∧ after opsD W (Proc.devRef .tc main_arg1) = W (Proc.devRef .tc main_arg1) := by
  dsimp only [opsD, hostOps0, List.take, List.drop]
  refine ⟨?_, ?_, ?_, ?_⟩ <;> after_results <;> rfl

theorem stageE : after opsE W (Proc.devRef .tc main_v35)
      = (mulf (transpose S1x64x2x4x64x192 [0, 1, 2, 5, 4, 3] (Host.dotGeneral (φ₁ := .f32) (φ₂ := .f32) dot_S1x64x192x2x64_S1x64x64x2x4x64_S1x64x2x192x64x4_4_5_2_24_013_013 none (W (Proc.devRef .tc main_v14)) (W (Proc.devRef .tc main_v1))) transposes_S1x64x2x192x64x4_S1x64x2x4x64x192_0_1_2_5_4_3) (broadcastInDim S1x64x2x4x64x192 ![] bcast_S_S1x64x2x4x64x192 (constant S_ .f32 0x3E000000#32)) : FVec Ideal S1x64x2x4x64x192 .f32)
    ∧ after opsE W (Proc.devRef .tc main_v18) = W (Proc.devRef .tc main_v18)
    ∧ after opsE W (Proc.devRef .tc main_arg1) = W (Proc.devRef .tc main_arg1)
    ∧ after opsE W (Proc.devRef .tc main_cst_2) = (constant S_ .f32 0xF149F2CA#32 : FVec Ideal S_ .f32)
    ∧ broadcastInDim S1x64x2x4x64x192 ![0, 1, 2, 3, 4, 5] bcast_S1x64x1x1x1x192_S1x64x2x4x64x192_0_1_2_3_4_5 (after opsE W (Proc.devRef .tc main_v36)) = Cert.SwaRefIdeal.Value.res_main_v40_1 V' := by
  dsimp only [opsE, hostOps0, List.take, List.drop]
  refine ⟨?_, ?_, ?_, ?_, ?_⟩ <;> after_results <;> rfl

theorem stageA (hz : (V' (Proc.devRef .tc Cert.SwaRefIdeal.main_arg0) : FVec Ideal S4096x2816 .f32) = W (Proc.devRef .tc main_arg0)) :
    (after opsA W (Proc.devRef .tc main_v10) : FVec Ideal S1x66x64x2x64 .f32) = Cert.SwaRefIdeal.Value.res_main_v13 V'
    ∧ (after opsA W (Proc.devRef .tc main_v11) : FVec Ideal S1x64x64x2x64 .f32) = extractStridedSlice S1x64x64x2x64 ![0, 0, 0, 0, 0] (Cert.SwaRefIdeal.Value.res_main_v10 V') slices_S1x66x64x2x64_S1x64x64x2x64_0_0_0_0_0
    ∧ (after opsA W (Proc.devRef .tc main_v12) : FVec Ideal S1x64x64x2x64 .f32) = extractStridedSlice S1x64x64x2x64 ![0, 1, 0, 0, 0] (Cert.SwaRefIdeal.Value.res_main_v10 V') slices_S1x66x64x2x64_S1x64x64x2x64_0_1_0_0_0
    ∧ (after opsA W (Proc.devRef .tc main_v13) : FVec Ideal S1x64x64x2x64 .f32) = extractStridedSlice S1x64x64x2x64 ![0, 2, 0, 0, 0] (Cert.SwaRefIdeal.Value.res_main_v10 V') slices_S1x66x64x2x64_S1x64x64x2x64_0_2_0_0_0
    ∧ after opsA W (Proc.devRef .tc main_arg1) = W (Proc.devRef .tc main_arg1)
    ∧ (after opsA W (Proc.devRef .tc main_v1) : FVec Ideal S1x64x64x2x4x64 .f32) = shapeCast _ (extractStridedSlice S4096x512 ![0, 0] (V' (Proc.devRef .tc Cert.SwaRefIdeal.main_arg0) : FVec Ideal S4096x2816 .f32) slices_S4096x2816_S4096x512_0_0) shapeCasts_S4096x512_S1x64x64x2x4x64 := by
  dsimp only [opsA, hostOps0, List.take]
  refine ⟨?_, ?_, ?_, ?_, ?_, ?_⟩
  · unfold Cert.SwaRefIdeal.Value.res_main_v13
    rw [hz]
    after_results
    rfl
  all_goals
    try unfold Cert.SwaRefIdeal.Value.res_main_v10
    try rw [hz]
    after_results
    try rfl

theorem query_read (X : FVec Ideal S4096x2816 .f32) : (shapeCast _ (extractStridedSlice S4096x512 ![0, 0] X slices_S4096x2816_S4096x512_0_0) shapeCasts_S4096x512_S1x64x64x2x4x64 : FVec Ideal S1x64x64x2x4x64 .f32)
    = shapeCast _ (shapeCast _ (extractStridedSlice S4096x512 ![0, 0] X Cert.SwaRefIdeal.Gen.slices_S4096x2816_S4096x512_0_0) Cert.SwaRefIdeal.Gen.shapeCasts_S4096x512_S1x4096x8x64) Cert.SwaRefIdeal.Gen.shapeCasts_S1x4096x8x64_S1x64x64x2x4x64 := by
  funext i
  idx_vars i
  pointwise

theorem logits_saved (hz : (V' (Proc.devRef .tc Cert.SwaRefIdeal.main_arg0) : FVec Ideal S4096x2816 .f32) = W (Proc.devRef .tc main_arg0))
    (hs : (V' (Proc.devRef .tc Cert.SwaRefIdeal.main_arg1) : FVec Ideal S1x8 .f32) = W (Proc.devRef .tc main_arg1)) :
    Saved.logits (after hostOps0_1 (after hostOps0 W) (Proc.devRef .tc main_v37)) (after hostOps0_1 (after hostOps0 W) (Proc.devRef .tc main_arg1)) = Cert.SwaRefIdeal.Value.res_main_v43 V'
    ∧ (after hostOps0_1 (after hostOps0 W) (Proc.devRef .tc main_v18) : FVec Ideal S1x64x192x2x64 .f32) = Cert.SwaRefIdeal.Value.res_main_v21 V' := by
  obtain ⟨a10, a11, a12, a13, a1, aq⟩ := stageA W V' hz
  rw [stage1_logits, (stage1_kept _).1, (stage1_kept _).2, after_split]
  generalize after opsA W = W1 at *
  obtain ⟨b14, b10, bq, b1⟩ := stageB W1
  generalize after opsB W1 = W2 at *
  obtain ⟨c15, c16, c17, c14, cq, c1⟩ := stageC W2
  generalize after opsC W2 = W3 at *
  obtain ⟨d18, d14, dq, d1⟩ := stageD W3
  generalize after opsD W3 = W4 at *
  obtain ⟨e35, e18, e1, ec, e36⟩ := stageE W4 V'
  rw [e36, e35, e18, e1, ec, d18, d14, dq, d1, c15, c16, c17, c14, cq, c1, b14, b10, bq, b1, a10, a11, a12, a13, a1, aq, ← hs, query_read]
  unfold Cert.SwaRefIdeal.Value.res_main_v43 Saved.logits Cert.SwaRefIdeal.Value.res_main_v17 Cert.SwaRefIdeal.Value.res_main_v6 Cert.SwaRefIdeal.Value.res_main_v21
  exact ⟨rfl, rfl⟩

namespace Saved

section

variable {V' : RefV} {Z : ℕ → ℕ → ℝ} {S : ℕ → ℝ} {D : ℕ → ℕ → ℝ} (H : Ref.Args V' Z S D)

include H

theorem top_read (o o' : Fin 1) (n : Fin 64) (v : Fin 2) (g : Fin 4) (q : Fin 64) :
    top (Cert.SwaRefIdeal.Value.res_main_v43 V') (ix6 o n v g q o') = ((Ref.top V' o n v g q : ℝ) : EReal) := by
  have h : top (Cert.SwaRefIdeal.Value.res_main_v43 V') = broadcastInDim S1x64x2x4x64x1 ![0, 1, 2, 3, 4] bcast_S1x64x2x4x64_S1x64x2x4x64x1_0_1_2_3_4 (Cert.SwaRefIdeal.Value.res_main_v44 V' : FVec Ideal S1x64x2x4x64 .f32) := rfl
  have hM := Ref.v44 H o n v g q
  obtain rfl : o = 0 := Subsingleton.elim _ _
  rw [h]
  generalize (Cert.SwaRefIdeal.Value.res_main_v44 V' : FVec Ideal S1x64x2x4x64 .f32) = Y at hM ⊢
  pointwise
  exact hM

omit H in
theorem grown_apply (X : FVec Ideal S1x64x2x4x64x193 .f32) (M : FVec Ideal S1x64x2x4x64x1 .f32) (n : Fin 64) (v : Fin 2) (g : Fin 4) (q : Fin 64) (k : Fin 193) :
    (Host.exp (subf X (broadcastInDim S1x64x2x4x64x193 ![0, 1, 2, 3, 4, 5] bcast_S1x64x2x4x64x1_S1x64x2x4x64x193_0_1_2_3_4_5 M)) : FVec Ideal S1x64x2x4x64x193 .f32) (ix6 0 n v g q k)
      = (Ideal.exp ((X (ix6 0 n v g q k) : EReal) - (M (ix6 0 n v g q 0) : EReal)) : EReal) := by
  pointwise

theorem grown_read (o : Fin 1) (n : Fin 64) (v : Fin 2) (g : Fin 4) (q : Fin 64) (k : Fin 193) :
    grown (Cert.SwaRefIdeal.Value.res_main_v43 V') (ix6 o n v g q k)
      = ((Real.exp (logit Z S (64 * n.val + q.val) (4 * v.val + g.val) k.val - Ref.top V' o n v g q) : ℝ) : EReal) := by
  obtain rfl : o = 0 := Subsingleton.elim _ _
  refine (grown_apply _ _ n v g q k).trans ?_
  rw [top_read H, Ref.v43 H, ← EReal.coe_sub, Ideal.exp_coe]

theorem sum_read (o o' : Fin 1) (n : Fin 64) (v : Fin 2) (g : Fin 4) (q : Fin 64) :
    sum (grown (Cert.SwaRefIdeal.Value.res_main_v43 V')) (ix6 o n v g q o')
      = ((total Z S (64 * n.val + q.val) (4 * v.val + g.val) * Real.exp (-Ref.top V' o n v g q) : ℝ) : EReal) := by
  have hX := grown_read H 0 n v g q
  obtain rfl : o = 0 := Subsingleton.elim _ _
  unfold sum
  generalize grown (Cert.SwaRefIdeal.Value.res_main_v43 V') = X at hX ⊢
  pointwise
  rw [RankSix.sum_last]
  simp only [hX, bits_zero, coe_sum, ← EReal.coe_add, zero_add]
  unfold total
  rw [Finset.sum_range, Finset.sum_mul]
  refine congrArg ((↑) : ℝ → EReal) (Finset.sum_congr rfl fun k _ => ?_)
  rw [← Real.exp_add, sub_eq_add_neg]

theorem shares_read (o : Fin 1) (n : Fin 64) (v : Fin 2) (g : Fin 4) (q : Fin 64) (k : Fin 192) :
    shares (grown (Cert.SwaRefIdeal.Value.res_main_v43 V')) (sum (grown (Cert.SwaRefIdeal.Value.res_main_v43 V'))) (ix6 o n v g q k)
      = ((Ref.share Z S (64 * n.val + q.val) (4 * v.val + g.val) k.val : ℝ) : EReal) := by
  have hX := grown_read H o n v g q
  have hY := sum_read H 0 0 n v g q
  obtain rfl : o = 0 := Subsingleton.elim _ _
  unfold shares
  generalize sum (grown (Cert.SwaRefIdeal.Value.res_main_v43 V')) = Y at hY ⊢
  generalize grown (Cert.SwaRefIdeal.Value.res_main_v43 V') = X at hX ⊢
  pointwise
  rw [hX, hY, div_real (Ref.scaled_ne _ _ _), Ref.shifted]
  rfl

omit H in
theorem lse_apply (M T : FVec Ideal S1x64x2x4x64x1 .f32) (r : Fin 4096) (h : Fin 8) :
    lse M T (ix2 r h) = ((M (ix6 0 ⟨r.val / 64, by omega⟩ ⟨h.val / 4, by omega⟩ ⟨h.val % 4, by omega⟩ ⟨r.val % 64, by omega⟩ 0) : EReal)
      + Ideal.log (T (ix6 0 ⟨r.val / 64, by omega⟩ ⟨h.val / 4, by omega⟩ ⟨h.val % 4, by omega⟩ ⟨r.val % 64, by omega⟩ 0) : EReal) : EReal) := by
  pointwise [lse]

/-- The log-sum of a row: the largest logit cancels. -/
theorem lse_read (r : Fin 4096) (h : Fin 8) :
    lse (top (Cert.SwaRefIdeal.Value.res_main_v43 V')) (sum (grown (Cert.SwaRefIdeal.Value.res_main_v43 V'))) (ix2 r h)
      = ((Real.log (total Z S r.val h.val) : ℝ) : EReal) := by
  refine (lse_apply _ _ r h).trans ?_
  rw [top_read H, sum_read H]
  simp only [show 64 * (r.val / 64) + r.val % 64 = r.val by omega, show 4 * (h.val / 4) + h.val % 4 = h.val by omega]
  rw [Ideal.log_coe, if_neg (not_le.mpr (mul_pos (total_pos Z S _ _) (Real.exp_pos _))), ← EReal.coe_add, Real.log_mul (total_pos Z S _ _).ne' (Real.exp_pos _).ne', Real.log_exp]
  exact congrArg ((↑) : ℝ → EReal) (by ring)

omit H in
theorem out_apply (Y : FVec Ideal S1x64x192x2x64 .f32) (P : FVec Ideal S1x64x2x4x64x192 .f32) (r : Fin 4096) (c : Fin 512) :
    out Y P (ix2 r c) = ((∑ x : Fin 192, (Y (ix5 0 ⟨r.val / 64, by omega⟩ x ⟨c.val / 256, by omega⟩ ⟨c.val % 64, by omega⟩) : EReal)
      * (P (ix6 0 ⟨r.val / 64, by omega⟩ ⟨c.val / 256, by omega⟩ ⟨c.val / 64 % 4, by omega⟩ ⟨r.val % 64, by omega⟩ x) : EReal)) : EReal) := by
  pointwise [out]

/-- The output of the attention. -/
theorem out_read (r : Fin 4096) (c : Fin 512) :
    out (Cert.SwaRefIdeal.Value.res_main_v21 V') (shares (grown (Cert.SwaRefIdeal.Value.res_main_v43 V')) (sum (grown (Cert.SwaRefIdeal.Value.res_main_v43 V')))) (ix2 r c)
      = ((Swa.out Z S r.val c.val : ℝ) : EReal) := by
  refine (out_apply _ _ r c).trans ?_
  simp only [Ref.v21 H, shares_read H, ← EReal.coe_mul, coe_sum]
  refine congrArg ((↑) : ℝ → EReal) ?_
  rw [← Finset.sum_range (fun x => Ref.pad Z (64 * (r.val / 64) + x) (640 + 64 * (c.val / 256) + c.val % 64) * Ref.share Z S (64 * (r.val / 64) + r.val % 64) (4 * (c.val / 256) + c.val / 64 % 4) x)]
  unfold Swa.out
  refine Eq.trans ?_ ((sum_window (64 * (r.val / 64)) 192 (by omega) (fun k => weight Z S r.val (c.val / 64) k * Z k (640 + 64 * (c.val / 256) + c.val % 64))).trans ?_)
  · refine Finset.sum_congr rfl fun κ hκ => ?_
    have hκ := Finset.mem_range.mp hκ
    unfold Ref.pad
    by_cases e : 128 ≤ 64 * (r.val / 64) + κ
    · rw [if_pos e, if_pos e, Ref.share_key (by omega) (by omega) hκ e, mul_comm, show 64 * (r.val / 64) + r.val % 64 = r.val by omega, show 4 * (c.val / 256) + c.val / 64 % 4 = c.val / 64 by omega]
    · rw [if_neg e, if_neg e, zero_mul]
  · refine Finset.sum_congr rfl fun k _ => ?_
    by_cases e : 64 * (r.val / 64) ≤ k + 128 ∧ k + 128 < 64 * (r.val / 64) + 192
    · rw [if_pos e]
    · rw [if_neg e]
      unfold weight
      rw [if_neg (by unfold Band; omega), zero_mul]

end

/-- What the region finds as the forward call's output, -/
theorem output (m : (ℓ : Loc nD τ sig) → Buf (Elt Ideal) ℓ) (c : Dev nD) {V' : RefV} {Z : ℕ → ℕ → ℝ} {S : ℕ → ℝ} {D : ℕ → ℕ → ℝ} (H : Ref.Args V' Z S D)
    (hz : (V' (Proc.devRef .tc Cert.SwaRefIdeal.main_arg0) : FVec Ideal S4096x2816 .f32) = m (c, Proc.devRef .tc main_arg0))
    (hs : (V' (Proc.devRef .tc Cert.SwaRefIdeal.main_arg1) : FVec Ideal S1x8 .f32) = m (c, Proc.devRef .tc main_arg1)) (r : Fin 4096) (d : Fin 512) :
    (V m c main_v60 : FVec Ideal S4096x1024 .bf16) (ix2 r ⟨d.val, by omega⟩) = ((Swa.out Z S r.val d.val : ℝ) : EReal) := by
  have h := stage2_out (after hostOps0_1 (after hostOps0 (fun b => m (c, b))))
  have hX := logits_saved (fun b => m (c, b)) V' hz hs
  rw [hX.1, hX.2] at h
  refine (congrFun h _).trans (Eq.trans ?_ (out_read H r d))
  generalize out _ _ = X
  pointwise

/-- and as its log-sums. -/
theorem logsum (m : (ℓ : Loc nD τ sig) → Buf (Elt Ideal) ℓ) (c : Dev nD) {V' : RefV} {Z : ℕ → ℕ → ℝ} {S : ℕ → ℝ} {D : ℕ → ℕ → ℝ} (H : Ref.Args V' Z S D)
    (hz : (V' (Proc.devRef .tc Cert.SwaRefIdeal.main_arg0) : FVec Ideal S4096x2816 .f32) = m (c, Proc.devRef .tc main_arg0))
    (hs : (V' (Proc.devRef .tc Cert.SwaRefIdeal.main_arg1) : FVec Ideal S1x8 .f32) = m (c, Proc.devRef .tc main_arg1)) (r : Fin 4096) (h : Fin 8) :
    (V m c main_v62 : FVec Ideal S4096x128 .f32) (ix2 r ⟨h.val, by omega⟩) = ((Real.log (total Z S r.val h.val) : ℝ) : EReal) := by
  have e := stage2_lse (after hostOps0_1 (after hostOps0 (fun b => m (c, b))))
  have hX := logits_saved (fun b => m (c, b)) V' hz hs
  rw [hX.1] at e
  refine (congrFun e _).trans (Eq.trans ?_ (lse_read H r h))
  generalize lse _ _ = X
  pointwise

end Saved

end Cert.Proof.Swa

end

end
-- ==== Proof.Swa.Head.lean ====
/- A head of a block of the attention's backward region in real numbers. -/
module

public import proofs.«01_k».proof.Proof.Swa.Block
public import proofs.«01_k».proof.Proof.Swa.Math

@[expose] public section

set_option maxRecDepth 16384

noncomputable section

namespace Cert.Proof.Swa

open Idealize.ShloMosaic
open Cert.SwaIdeal Cert.SwaIdeal.Gen

/-- The quotient by 64 rounded down, as the program spells it. -/
def floor64 (x : BitVec 32) : BitVec 32 :=
  Scalar.select
    (IntOp.andi
      (IntOp.cmpi .ne (IntOp.subi (BitVec.setWidth 32 (IntOp.cmpi .sgt x 0#32)) (BitVec.setWidth 32 (IntOp.cmpi .slt x 0#32)))
        (Scalar.subi (Scalar.extui (Scalar.cmpi .sgt 64#32 0#32)) (Scalar.extui (Scalar.cmpi .slt 64#32 0#32))))
      (IntOp.cmpi .ne (IntOp.remsi .vector x 64#32) 0#32))
    (IntOp.subi (IntOp.divsi .vector x 64#32) 1#32) (IntOp.divsi .vector x 64#32)

theorem floor64_apply : ∀ n : Fin 384, floor64 (BitVec.ofNat 32 n.val) = BitVec.ofNat 32 (n.val / 64) := by decide +kernel

theorem eq_word (x y : BitVec 32) : IntOp.cmpi .eq x y = if x = y then 1#1 else 0#1 := by
  unfold IntOp.cmpi
  by_cases h : x = y
  · simp [h]
  · rw [if_neg h, beq_eq_false_iff_ne.mpr h]; rfl

theorem half_apply (e : BitVec 32) (a : Fin 256) (l : Fin 128) :
    half e (ix2 a l) = if BitVec.ofNat 32 (l.val / 64) = e then 1#1 else 0#1 := by
  have h : half e (ix2 a l) = IntOp.cmpi .eq (floor64 (BitVec.ofNat 32 l.val)) e := by
    pointwise [half]
    rfl
  rw [h, floor64_apply ⟨l.val, l.isLt.trans (by decide)⟩]
  exact eq_word _ _

/-- Row `a` of block `i` sees key `κ` of the window. -/
abbrev Sees (i a κ : ℕ) : Prop := i < 16 ∧ κ / 64 ≤ a / 64 + 2 ∧ a / 64 ≤ κ / 64 ∧ 2 ≤ 4 * i + κ / 64

/-- The words that decide it. -/
def seesWord (i A C : BitVec 32) : BitVec 1 :=
  IntOp.andi (IntOp.andi (IntOp.andi (IntOp.cmpi .sle (IntOp.subi C 2#32) A) (IntOp.cmpi .sle A (IntOp.addi (IntOp.subi C 2#32) 2#32)))
    (IntOp.cmpi .sge (IntOp.addi (Scalar.muli 4#32 i) (IntOp.subi C 2#32)) 0#32)) (Scalar.cmpi .slt i 16#32)

theorem seesWord_apply : ∀ (i : Fin 17) (A : Fin 4) (C : Fin 6), seesWord (BitVec.ofNat 32 i.val) (BitVec.ofNat 32 A.val) (BitVec.ofNat 32 C.val)
    = if i.val < 16 ∧ C.val ≤ A.val + 2 ∧ A.val ≤ C.val ∧ 2 ≤ 4 * i.val + C.val then 1#1 else 0#1 := by decide +kernel

theorem seen_apply (i : Fin 17) (a : Fin 256) (κ : Fin 384) :
    seen i.val (ix2 a κ) = if Sees i.val a.val κ.val then 1#1 else 0#1 := by
  have h : seen i.val (ix2 a κ) = seesWord (BitVec.ofNat 32 i.val) (floor64 (BitVec.ofNat 32 a.val)) (floor64 (BitVec.ofNat 32 κ.val)) := by
    pointwise [seen, k0_pay21, k0_pay22, k0_pay23, k0_pay24]
    rfl
  rw [h, floor64_apply ⟨a.val, a.isLt.trans (by decide)⟩, floor64_apply κ]
  exact seesWord_apply i ⟨a.val / 64, by omega⟩ ⟨κ.val / 64, by omega⟩

/-- A head of a block in reals: its keys and values in their half of the lanes, its queries and cotangent masked to it,
the row sums of cotangent times output and the row log-sums. -/
structure RHead where
  K : Fin 384 → Fin 128 → ℝ
  V : Fin 384 → Fin 128 → ℝ
  q : Fin 256 → Fin 128 → ℝ
  g : Fin 256 → Fin 128 → ℝ
  d : Fin 256 → ℝ
  l : Fin 256 → ℝ

namespace RHead

variable (R : RHead) (i : ℕ) (a : Fin 256) (κ : Fin 384) (l : Fin 128)

/-- The weights, -/
def p : ℝ := if Sees i a.val κ.val then Real.exp ((∑ x, R.q a x * R.K κ x) * (1 / 8) - R.l a) else 0
/-- the gradients of the scores, -/
def ds : ℝ := R.p i a κ * (∑ x, R.g a x * R.V κ x - R.d a) * (1 / 8)
/-- and the parts of the gradients to the queries, -/
def toQ : ℝ := ∑ κ, R.ds i a κ * R.K κ l
/-- the keys, -/
def toK : ℝ := ∑ a, R.q a l * R.ds i a κ
/-- the values -/
def toV : ℝ := ∑ a, R.g a l * R.p i a κ
/-- and a sink, over the rows that are `r` modulo eight. -/
def toS (s : ℝ) (r : Fin 8) : ℝ := ∑ x : Fin 32, if i < 16 then Real.exp (s - R.l ⟨x.val * 8 + r.val, by omega⟩) * R.d ⟨x.val * 8 + r.val, by omega⟩ else 0

end RHead

/-- The head `H` holds the reals `R`. -/
structure Head.Is (H : Head Ideal) (R : RHead) : Prop where
  K : ∀ κ l, H.K (ix2 κ l) = ((R.K κ l : ℝ) : EReal)
  V : ∀ κ l, H.V (ix2 κ l) = ((R.V κ l : ℝ) : EReal)
  q : ∀ a l, H.q (ix2 a l) = ((R.q a l : ℝ) : EReal)
  g : ∀ a l, H.g (ix2 a l) = ((R.g a l : ℝ) : EReal)
  d : ∀ a o, H.d (ix2 a o) = ((R.d a : ℝ) : EReal)
  l : ∀ a o, H.l (ix2 a o) = ((R.l a : ℝ) : EReal)

section

variable {H : Head Ideal} {R : RHead} (h : H.Is R) (i : Fin 17) (a : Fin 256) (κ : Fin 384) (l : Fin 128)

include h

theorem Head.Is.p_apply : (k0_pay43 H.K (seen i.val) H.q H.l (constant S256x384 .f32 0x00000000#32) (ix2 a κ) : EReal) = ((R.p i.val a κ : ℝ) : EReal) := by
  pointwise [k0_pay43]
  simp only [h.q, h.K, h.l, ← EReal.coe_mul, coe_sum, bits_eighth, ← EReal.coe_sub, Ideal.exp_coe, seen_apply]
  unfold RHead.p Scalar.select
  split_ifs <;> simp_all

theorem Head.Is.ds_apply : (k0_pay44 H.K H.V (seen i.val) H.q H.g H.d H.l (constant S256x384 .f32 0x00000000#32) (ix2 a κ) : EReal) = ((R.ds i.val a κ : ℝ) : EReal) := by
  pointwise [k0_pay44]
  simp only [h.p_apply, h.g, h.V, h.d, ← EReal.coe_mul, coe_sum, bits_eighth, ← EReal.coe_sub]
  rfl

theorem Head.Is.toQ_apply {x : FVec Ideal S256x128 .f32} {X : Fin 256 → Fin 128 → ℝ} (hx : ∀ a l, x (ix2 a l) = ((X a l : ℝ) : EReal)) :
    (H.toQ i.val x (ix2 a l) : EReal) = ((X a l + R.toQ i.val a l : ℝ) : EReal) := by
  pointwise [Head.toQ, k0_pay45]
  simp only [h.ds_apply, h.K, hx, ← EReal.coe_mul, coe_sum, ← EReal.coe_add]
  rfl

theorem Head.Is.toK_apply {x : FVec Ideal S128x384 .f32} {X : Fin 128 → Fin 384 → ℝ} (hx : ∀ l κ, x (ix2 l κ) = ((X l κ : ℝ) : EReal)) :
    (H.toK i.val x (ix2 l κ) : EReal) = ((X l κ + R.toK i.val κ l : ℝ) : EReal) := by
  pointwise [Head.toK, k0_pay46]
  simp only [h.ds_apply, h.q, hx, ← EReal.coe_mul, coe_sum, ← EReal.coe_add]
  rfl

theorem Head.Is.toV_apply {x : FVec Ideal S128x384 .f32} {X : Fin 128 → Fin 384 → ℝ} (hx : ∀ l κ, x (ix2 l κ) = ((X l κ : ℝ) : EReal)) :
    (H.toV i.val x (ix2 l κ) : EReal) = ((X l κ + R.toV i.val κ l : ℝ) : EReal) := by
  pointwise [Head.toV, k0_pay47]
  simp only [h.p_apply, h.g, hx, ← EReal.coe_mul, coe_sum, ← EReal.coe_add]
  rfl

omit h in
theorem live_word : ∀ i : Fin 17, Scalar.cmpi .slt (BitVec.ofNat 32 i.val) 16#32 = if i.val < 16 then 1#1 else 0#1 := by decide +kernel

theorem Head.Is.toS_apply (n : BitVec 32) {s : EReal} {S : ℝ} (hs : s = ((S : ℝ) : EReal)) {x : FVec Ideal S8x128 .f32} {X : Fin 8 → Fin 128 → ℝ}
    (hx : ∀ r l, x (ix2 r l) = ((X r l : ℝ) : EReal)) (r : Fin 8) :
    (H.toS i.val n s x (ix2 r l) : EReal) = ((X r l - (if BitVec.ofNat 32 l.val = n then R.toS i.val S r else 0) : ℝ) : EReal) := by
  pointwise [Head.toS]
  subst hs
  have e : ∀ y : EReal, Scalar.select (Scalar.cmpi .slt (BitVec.ofNat 32 i.val) 16#32) y (0 : EReal) = if i.val < 16 then y else 0 := fun y => by
    rw [live_word]; split_ifs <;> rfl
  have e' : ∀ y : ℝ, (if i.val < 16 then ((y : ℝ) : EReal) else 0) = ((if i.val < 16 then y else 0 : ℝ) : EReal) := fun y => by split_ifs <;> rfl
  simp only [e, h.l, h.d, hx, ← EReal.coe_mul, ← EReal.coe_sub, Ideal.exp_coe, e', coe_sum]
  rw [eq_word, select_ite]
  by_cases hn : BitVec.ofNat 32 l.val = n
  · rw [if_pos hn, if_pos hn, ← EReal.coe_sub]
    rfl
  · rw [if_neg hn, if_neg hn, ← EReal.coe_zero, ← EReal.coe_sub]

end

end Cert.Proof.Swa

end

end
-- ==== Proof.Swa.Real.lean ====
/- A block of the attention's backward region in real numbers. -/
module

public import proofs.«01_k».proof.Proof.Swa.Head
public import proofs.«01_k».proof.Proof.Swa.Step

@[expose] public section

set_option maxRecDepth 16384

noncomputable section

namespace Cert.Proof.Swa

open Idealize.ShloMosaic
open Cert.SwaIdeal Cert.SwaIdeal.Gen

/-- A block in reals: sinks, queries, the window's keys and values, output, cotangent and row log-sums. -/
structure RBlock where
  s : Fin 8 → ℝ
  q : Fin 256 → Fin 512 → ℝ
  k : Fin 384 → Fin 128 → ℝ
  v : Fin 384 → Fin 128 → ℝ
  o : Fin 256 → Fin 512 → ℝ
  g : Fin 256 → Fin 512 → ℝ
  l : Fin 256 → Fin 8 → ℝ

/-- The block `B` holds the reals `R`. -/
structure Block.Is (B : Block Ideal) (R : RBlock) : Prop where
  s : ∀ (o : Fin 1) h, B.s (ix2 o h) = ((R.s h : ℝ) : EReal)
  q : ∀ a l, B.q (ix2 a l) = ((R.q a l : ℝ) : EReal)
  kp : ∀ (r : Fin 128) l, B.kp (ix2 r l) = ((R.k ⟨r.val, by omega⟩ l : ℝ) : EReal)
  kc : ∀ (r : Fin 256) l, B.kc (ix2 r l) = ((R.k ⟨128 + r.val, by omega⟩ l : ℝ) : EReal)
  vp : ∀ (r : Fin 128) l, B.vp (ix2 r l) = ((R.v ⟨r.val, by omega⟩ l : ℝ) : EReal)
  vc : ∀ (r : Fin 256) l, B.vc (ix2 r l) = ((R.v ⟨128 + r.val, by omega⟩ l : ℝ) : EReal)
  o : ∀ a l, B.o (ix2 a l) = ((R.o a l : ℝ) : EReal)
  g : ∀ a l, B.g (ix2 a l) = ((R.g a l : ℝ) : EReal)
  l : ∀ a (h : Fin 8), B.l (ix2 a ⟨h.val, by omega⟩) = ((R.l a h : ℝ) : EReal)

theorem zero_word : ∀ x : Fin 2, IntOp.cmpi .eq (BitVec.ofNat 32 x.val) 0#32 = if x.val = 0 then 1#1 else 0#1 := by decide +kernel

theorem lane_mask (a : Fin 384) (l : Fin 128) : (k0_pay7 (ix2 a l) : BitVec 1) = if l.val / 64 = 0 then 1#1 else 0#1 := by
  have h : (k0_pay7 (ix2 a l) : BitVec 1) = IntOp.cmpi .eq (floor64 (BitVec.ofNat 32 l.val)) 0#32 := by
    pointwise [k0_pay7]
    rfl
  rw [h, floor64_apply ⟨l.val, l.isLt.trans (by decide)⟩]
  exact zero_word ⟨l.val / 64, by omega⟩

theorem lane_mask' (a : Fin 384) (l : Fin 128) : (k0_pay15 (ix2 a l) : BitVec 1) = if l.val / 64 = 0 then 1#1 else 0#1 := by
  have h : (k0_pay15 (ix2 a l) : BitVec 1) = IntOp.cmpi .eq (floor64 (BitVec.ofNat 32 l.val)) 0#32 := by
    pointwise [k0_pay15]
    rfl
  rw [h, floor64_apply ⟨l.val, l.isLt.trans (by decide)⟩]
  exact zero_word ⟨l.val / 64, by omega⟩

/-- The lanes `64 v ..` of an array in half `e` of the lanes. -/
def place (v : Fin 2) (e : ℕ) (x : Fin 384 → Fin 128 → ℝ) (κ : Fin 384) (l : Fin 128) : ℝ :=
  if l.val / 64 = e then x κ ⟨64 * v.val + l.val % 64, by omega⟩ else 0

namespace RBlock

variable (R : RBlock)

/-- Head `h` of the block. -/
def head (h : Fin 8) : RHead where
  K := place ⟨h.val / 4, by omega⟩ (h.val % 2) R.k
  V := place ⟨h.val / 4, by omega⟩ (h.val % 2) R.v
  q a l := if l.val / 64 = h.val % 2 then R.q a ⟨128 * (h.val / 2) + l.val, by omega⟩ else 0
  g a l := if l.val / 64 = h.val % 2 then R.g a ⟨128 * (h.val / 2) + l.val, by omega⟩ else 0
  d a := ∑ l : Fin 128, if l.val / 64 = h.val % 2 then R.g a ⟨128 * (h.val / 2) + l.val, by omega⟩ * R.o a ⟨128 * (h.val / 2) + l.val, by omega⟩ else 0
  l a := R.l a h

/-- The window's keys' gradients of two heads of one half, -/
def dkh (i : ℕ) (h h' : Fin 8) (κ : Fin 384) (l : Fin 128) : ℝ := (R.head h).toK i κ l + (R.head h').toK i κ l
/-- its values' -/
def dvh (i : ℕ) (h h' : Fin 8) (κ : Fin 384) (l : Fin 128) : ℝ := (R.head h).toV i κ l + (R.head h').toV i κ l

/-- The other half's lane. -/
abbrev swap (l : Fin 128) : Fin 128 := ⟨(l.val + 128 - 64) % 128, by omega⟩

/-- The gradients of the window's keys and values. -/
def dkv (i : ℕ) (κ : Fin 384) (c : Fin 256) : ℝ :=
  if h : c.val < 128 then R.dkh i 0 2 κ ⟨c.val, h⟩ + R.dkh i 5 7 κ ⟨c.val, h⟩ + (R.dkh i 1 3 κ (swap ⟨c.val, h⟩) + R.dkh i 4 6 κ (swap ⟨c.val, h⟩))
  else R.dvh i 0 2 κ ⟨c.val - 128, by omega⟩ + R.dvh i 5 7 κ ⟨c.val - 128, by omega⟩
    + (R.dvh i 1 3 κ (swap ⟨c.val - 128, by omega⟩) + R.dvh i 4 6 κ (swap ⟨c.val - 128, by omega⟩))

/-- What the sinks lose over the rows that are `r` modulo eight. -/
def sink (i : ℕ) (r : Fin 8) (h : Fin 8) : ℝ := (R.head h).toS i (R.s h) r

end RBlock

/-- A head put together from its parts. -/
theorem headOf_is {R : RBlock} (h : Fin 8) {e : BitVec 32} (he : e = BitVec.ofNat 32 (h.val % 2)) {K V : FVec Ideal S384x128 .bf16}
    {q : Vec Ideal S256x128 .f32} {g o : Vec Ideal S256x128 .bf16} {L : FVec Ideal S256x1 .f32}
    (hK : ∀ κ l, K (ix2 κ l) = ((place ⟨h.val / 4, by omega⟩ (h.val % 2) R.k κ l : ℝ) : EReal))
    (hV : ∀ κ l, V (ix2 κ l) = ((place ⟨h.val / 4, by omega⟩ (h.val % 2) R.v κ l : ℝ) : EReal))
    (hq : ∀ a (l : Fin 128), q (ix2 a l) = ((R.q a ⟨128 * (h.val / 2) + l.val, by omega⟩ : ℝ) : EReal))
    (hg : ∀ a (l : Fin 128), g (ix2 a l) = ((R.g a ⟨128 * (h.val / 2) + l.val, by omega⟩ : ℝ) : EReal))
    (ho : ∀ a (l : Fin 128), o (ix2 a l) = ((R.o a ⟨128 * (h.val / 2) + l.val, by omega⟩ : ℝ) : EReal))
    (hL : ∀ a (z : Fin 1), L (ix2 a z) = ((R.l a h : ℝ) : EReal)) :
    (headOf e K V q g o L).Is (R.head h) := by
  have hh : ∀ (a : Fin 256) (l : Fin 128), half e (ix2 a l) = if l.val / 64 = h.val % 2 then 1#1 else 0#1 := fun a l => by
    rw [half_apply, he]
    refine if_congr ⟨fun q => ?_, fun q => by rw [q]⟩ rfl rfl
    have := congrArg BitVec.toNat q
    simp only [BitVec.toNat_ofNat] at this
    omega
  have hc : ∀ (p : Prop) [Decidable p] (x : ℝ), (if p then ((x : ℝ) : EReal) else 0) = ((if p then x else 0 : ℝ) : EReal) := fun p _ x => by split_ifs <;> rfl
  refine ⟨hK, hV, fun a l => ?_, fun a l => ?_, fun a z => ?_, hL⟩
  · pointwise [headOf, k0_pay35]
    rw [hh, select_ite, hq, hc]
    rfl
  · pointwise [headOf]
    rw [hh, select_ite, hg, hc]
    rfl
  · pointwise [headOf, k0_pay36]
    simp only [hh, select_ite, hg, ho, ← EReal.coe_mul, hc, coe_sum]
    rfl

section

variable {B : Block Ideal} {R : RBlock} (h : B.Is R)

include h

omit h in
theorem place_of (v : Fin 2) (e : ℕ) (x : Fin 384 → Fin 128 → ℝ) (κ : Fin 384) (l l' : Fin 128) (hl : l.val / 64 = e → l'.val = 64 * v.val + l.val % 64) {y : EReal}
    (hy : y = if l.val / 64 = e then ((x κ l' : ℝ) : EReal) else 0) : y = ((place v e x κ l : ℝ) : EReal) := by
  rw [hy]
  unfold place
  split_ifs with c
  · rw [show l' = ⟨64 * v.val + l.val % 64, by omega⟩ from Fin.ext (hl c)]
  · rfl

theorem Block.Is.keys (κ : Fin 384) (l : Fin 128) : (k0_pay5 B.kp B.kc (ix2 κ l) : EReal) = ((R.k κ l : ℝ) : EReal) := by
  pointwise [k0_pay5]
  by_cases c : κ.val < 128
  · rw [dif_pos c]
    exact h.kp ⟨κ.val, c⟩ l
  · rw [dif_neg c, h.kc]
    congr 2
    exact Fin.ext (by simp only; omega)

theorem Block.Is.keys' (κ : Fin 384) (l : Fin 128) : (k0_pay6 B.kp B.kc (ix2 κ l) : EReal) = ((R.k κ (RBlock.swap l) : ℝ) : EReal) := by
  pointwise [k0_pay6]
  exact h.keys κ (RBlock.swap l)

theorem Block.Is.K00 (κ : Fin 384) (l : Fin 128) : (B.K00 (ix2 κ l) : EReal) = ((place 0 0 R.k κ l : ℝ) : EReal) := by
  pointwise [Block.K00, k0_pay8]
  rw [lane_mask, select_ite, h.keys]
  exact place_of 0 0 R.k κ l l (by simp; omega) (rfl)

theorem Block.Is.K01 (κ : Fin 384) (l : Fin 128) : (B.K01 (ix2 κ l) : EReal) = ((place 0 1 R.k κ l : ℝ) : EReal) := by
  pointwise [Block.K01, k0_pay10, k0_pay9]
  rw [lane_mask, select_ite, h.keys']
  exact place_of 0 1 R.k κ l (RBlock.swap l) (by simp; omega) (by rcases (by omega : l.val / 64 = 0 ∨ l.val / 64 = 1) with c | c <;> simp [c])

theorem Block.Is.K10 (κ : Fin 384) (l : Fin 128) : (B.K10 (ix2 κ l) : EReal) = ((place 1 0 R.k κ l : ℝ) : EReal) := by
  pointwise [Block.K10, k0_pay11]
  rw [lane_mask, select_ite, h.keys']
  exact place_of 1 0 R.k κ l (RBlock.swap l) (by simp; omega) (rfl)

theorem Block.Is.K11 (κ : Fin 384) (l : Fin 128) : (B.K11 (ix2 κ l) : EReal) = ((place 1 1 R.k κ l : ℝ) : EReal) := by
  pointwise [Block.K11, k0_pay12]
  rw [lane_mask, select_ite, h.keys]
  exact place_of 1 1 R.k κ l l (by simp; omega) (by rcases (by omega : l.val / 64 = 0 ∨ l.val / 64 = 1) with c | c <;> simp [c])

theorem Block.Is.vals (κ : Fin 384) (l : Fin 128) : (k0_pay13 B.vp B.vc (ix2 κ l) : EReal) = ((R.v κ l : ℝ) : EReal) := by
  pointwise [k0_pay13]
  by_cases c : κ.val < 128
  · rw [dif_pos c]
    exact h.vp ⟨κ.val, c⟩ l
  · rw [dif_neg c, h.vc]
    congr 2
    exact Fin.ext (by simp only; omega)

theorem Block.Is.vals' (κ : Fin 384) (l : Fin 128) : (k0_pay14 B.vp B.vc (ix2 κ l) : EReal) = ((R.v κ (RBlock.swap l) : ℝ) : EReal) := by
  pointwise [k0_pay14]
  exact h.vals κ (RBlock.swap l)

theorem Block.Is.V00 (κ : Fin 384) (l : Fin 128) : (B.V00 (ix2 κ l) : EReal) = ((place 0 0 R.v κ l : ℝ) : EReal) := by
  pointwise [Block.V00, k0_pay16]
  rw [lane_mask', select_ite, h.vals]
  exact place_of 0 0 R.v κ l l (by simp; omega) (rfl)

theorem Block.Is.V01 (κ : Fin 384) (l : Fin 128) : (B.V01 (ix2 κ l) : EReal) = ((place 0 1 R.v κ l : ℝ) : EReal) := by
  pointwise [Block.V01, k0_pay18, k0_pay17]
  rw [lane_mask', select_ite, h.vals']
  exact place_of 0 1 R.v κ l (RBlock.swap l) (by simp; omega) (by rcases (by omega : l.val / 64 = 0 ∨ l.val / 64 = 1) with c | c <;> simp [c])

theorem Block.Is.V10 (κ : Fin 384) (l : Fin 128) : (B.V10 (ix2 κ l) : EReal) = ((place 1 0 R.v κ l : ℝ) : EReal) := by
  pointwise [Block.V10, k0_pay19]
  rw [lane_mask', select_ite, h.vals']
  exact place_of 1 0 R.v κ l (RBlock.swap l) (by simp; omega) (rfl)

theorem Block.Is.V11 (κ : Fin 384) (l : Fin 128) : (B.V11 (ix2 κ l) : EReal) = ((place 1 1 R.v κ l : ℝ) : EReal) := by
  pointwise [Block.V11, k0_pay20]
  rw [lane_mask', select_ite, h.vals]
  exact place_of 1 1 R.v κ l l (by simp; omega) (by rcases (by omega : l.val / 64 = 0 ∨ l.val / 64 = 1) with c | c <;> simp [c])

theorem Block.Is.h0 : B.h0.Is (R.head 0) :=
  headOf_is 0 rfl h.K00 h.V00 (fun a l => by pointwise; exact h.q a _)
    (fun a l => by pointwise; exact h.g a _)
    (fun a l => by pointwise; exact h.o a _)
    (fun a z => by pointwise [k0_pay25]; exact h.l a 0)

theorem Block.Is.h1 : B.h1.Is (R.head 1) :=
  headOf_is 1 rfl h.K01 h.V01 (fun a l => by pointwise; exact h.q a _)
    (fun a l => by pointwise; exact h.g a _)
    (fun a l => by pointwise; exact h.o a _)
    (fun a z => by pointwise [k0_pay25]; exact h.l a 1)

theorem Block.Is.h2 : B.h2.Is (R.head 2) :=
  headOf_is 2 rfl h.K00 h.V00 (fun a l => by pointwise; exact h.q a _)
    (fun a l => by pointwise; exact h.g a _)
    (fun a l => by pointwise; exact h.o a _)
    (fun a z => by pointwise [k0_pay25]; exact h.l a 2)

theorem Block.Is.h3 : B.h3.Is (R.head 3) :=
  headOf_is 3 rfl h.K01 h.V01 (fun a l => by pointwise; exact h.q a _)
    (fun a l => by pointwise; exact h.g a _)
    (fun a l => by pointwise; exact h.o a _)
    (fun a z => by pointwise [k0_pay25]; exact h.l a 3)

theorem Block.Is.h4 : B.h4.Is (R.head 4) :=
  headOf_is 4 rfl h.K10 h.V10 (fun a l => by pointwise; exact h.q a _)
    (fun a l => by pointwise; exact h.g a _)
    (fun a l => by pointwise; exact h.o a _)
    (fun a z => by pointwise [k0_pay25]; exact h.l a 4)

theorem Block.Is.h5 : B.h5.Is (R.head 5) :=
  headOf_is 5 rfl h.K11 h.V11 (fun a l => by pointwise; exact h.q a _)
    (fun a l => by pointwise; exact h.g a _)
    (fun a l => by pointwise; exact h.o a _)
    (fun a z => by pointwise [k0_pay25]; exact h.l a 5)

theorem Block.Is.h6 : B.h6.Is (R.head 6) :=
  headOf_is 6 rfl h.K10 h.V10 (fun a l => by pointwise; exact h.q a _)
    (fun a l => by pointwise; exact h.g a _)
    (fun a l => by pointwise; exact h.o a _)
    (fun a z => by pointwise [k0_pay25]; exact h.l a 6)

theorem Block.Is.h7 : B.h7.Is (R.head 7) :=
  headOf_is 7 rfl h.K11 h.V11 (fun a l => by pointwise; exact h.q a _)
    (fun a l => by pointwise; exact h.g a _)
    (fun a l => by pointwise; exact h.o a _)
    (fun a z => by pointwise [k0_pay25]; exact h.l a 7)

theorem Block.Is.dq0 (i : Fin 17) (a : Fin 256) (l : Fin 128) :
    (B.dq0 i.val (ix2 a l) : EReal) = (((R.head 0).toQ i.val a l + (R.head 1).toQ i.val a l : ℝ) : EReal) := by
  pointwise [Block.dq0, k0_pay150]
  refine (h.h1.toQ_apply i a l (h.h0.toQ_apply i · · (X := fun _ _ => 0) (fun a l => by pointwise [k0_pay37]; exact EReal.coe_zero.symm))).trans ?_
  rw [zero_add]

theorem Block.Is.dq1 (i : Fin 17) (a : Fin 256) (l : Fin 128) :
    (B.dq1 i.val (ix2 a l) : EReal) = (((R.head 2).toQ i.val a l + (R.head 3).toQ i.val a l : ℝ) : EReal) := by
  pointwise [Block.dq1, k0_pay150]
  refine (h.h3.toQ_apply i a l (h.h2.toQ_apply i · · (X := fun _ _ => 0) (fun a l => by pointwise [k0_pay37]; exact EReal.coe_zero.symm))).trans ?_
  rw [zero_add]

theorem Block.Is.dq2 (i : Fin 17) (a : Fin 256) (l : Fin 128) :
    (B.dq2 i.val (ix2 a l) : EReal) = (((R.head 4).toQ i.val a l + (R.head 5).toQ i.val a l : ℝ) : EReal) := by
  pointwise [Block.dq2, k0_pay150]
  refine (h.h5.toQ_apply i a l (h.h4.toQ_apply i · · (X := fun _ _ => 0) (fun a l => by pointwise [k0_pay37]; exact EReal.coe_zero.symm))).trans ?_
  rw [zero_add]

theorem Block.Is.dq3 (i : Fin 17) (a : Fin 256) (l : Fin 128) :
    (B.dq3 i.val (ix2 a l) : EReal) = (((R.head 6).toQ i.val a l + (R.head 7).toQ i.val a l : ℝ) : EReal) := by
  pointwise [Block.dq3, k0_pay150]
  refine (h.h7.toQ_apply i a l (h.h6.toQ_apply i · · (X := fun _ _ => 0) (fun a l => by pointwise [k0_pay37]; exact EReal.coe_zero.symm))).trans ?_
  rw [zero_add]

theorem Block.Is.dk00 (i : Fin 17) (κ : Fin 384) (l : Fin 128) : (B.dk00 i.val (ix2 l κ) : EReal) = ((R.dkh i.val 0 2 κ l : ℝ) : EReal) := by
  unfold Block.dk00
  refine (h.h2.toK_apply i κ l (fun l κ => h.h0.toK_apply i κ l (X := fun _ _ => 0) (fun l κ => by pointwise [k0_pay27]; exact EReal.coe_zero.symm))).trans ?_
  rw [zero_add]
  rfl

theorem Block.Is.dv00 (i : Fin 17) (κ : Fin 384) (l : Fin 128) : (B.dv00 i.val (ix2 l κ) : EReal) = ((R.dvh i.val 0 2 κ l : ℝ) : EReal) := by
  unfold Block.dv00
  refine (h.h2.toV_apply i κ l (fun l κ => h.h0.toV_apply i κ l (X := fun _ _ => 0) (fun l κ => by pointwise [k0_pay27]; exact EReal.coe_zero.symm))).trans ?_
  rw [zero_add]
  rfl

theorem Block.Is.dk01 (i : Fin 17) (κ : Fin 384) (l : Fin 128) : (B.dk01 i.val (ix2 l κ) : EReal) = ((R.dkh i.val 1 3 κ l : ℝ) : EReal) := by
  unfold Block.dk01
  refine (h.h3.toK_apply i κ l (fun l κ => h.h1.toK_apply i κ l (X := fun _ _ => 0) (fun l κ => by pointwise [k0_pay27]; exact EReal.coe_zero.symm))).trans ?_
  rw [zero_add]
  rfl

theorem Block.Is.dv01 (i : Fin 17) (κ : Fin 384) (l : Fin 128) : (B.dv01 i.val (ix2 l κ) : EReal) = ((R.dvh i.val 1 3 κ l : ℝ) : EReal) := by
  unfold Block.dv01
  refine (h.h3.toV_apply i κ l (fun l κ => h.h1.toV_apply i κ l (X := fun _ _ => 0) (fun l κ => by pointwise [k0_pay27]; exact EReal.coe_zero.symm))).trans ?_
  rw [zero_add]
  rfl

theorem Block.Is.dk10 (i : Fin 17) (κ : Fin 384) (l : Fin 128) : (B.dk10 i.val (ix2 l κ) : EReal) = ((R.dkh i.val 4 6 κ l : ℝ) : EReal) := by
  unfold Block.dk10
  refine (h.h6.toK_apply i κ l (fun l κ => h.h4.toK_apply i κ l (X := fun _ _ => 0) (fun l κ => by pointwise [k0_pay27]; exact EReal.coe_zero.symm))).trans ?_
  rw [zero_add]
  rfl

theorem Block.Is.dv10 (i : Fin 17) (κ : Fin 384) (l : Fin 128) : (B.dv10 i.val (ix2 l κ) : EReal) = ((R.dvh i.val 4 6 κ l : ℝ) : EReal) := by
  unfold Block.dv10
  refine (h.h6.toV_apply i κ l (fun l κ => h.h4.toV_apply i κ l (X := fun _ _ => 0) (fun l κ => by pointwise [k0_pay27]; exact EReal.coe_zero.symm))).trans ?_
  rw [zero_add]
  rfl

theorem Block.Is.dk11 (i : Fin 17) (κ : Fin 384) (l : Fin 128) : (B.dk11 i.val (ix2 l κ) : EReal) = ((R.dkh i.val 5 7 κ l : ℝ) : EReal) := by
  unfold Block.dk11
  refine (h.h7.toK_apply i κ l (fun l κ => h.h5.toK_apply i κ l (X := fun _ _ => 0) (fun l κ => by pointwise [k0_pay27]; exact EReal.coe_zero.symm))).trans ?_
  rw [zero_add]
  rfl

theorem Block.Is.dv11 (i : Fin 17) (κ : Fin 384) (l : Fin 128) : (B.dv11 i.val (ix2 l κ) : EReal) = ((R.dvh i.val 5 7 κ l : ℝ) : EReal) := by
  unfold Block.dv11
  refine (h.h7.toV_apply i κ l (fun l κ => h.h5.toV_apply i κ l (X := fun _ _ => 0) (fun l κ => by pointwise [k0_pay27]; exact EReal.coe_zero.symm))).trans ?_
  rw [zero_add]
  rfl

theorem Block.Is.dkv (i : Fin 17) (κ : Fin 384) (c : Fin 256) : (B.dkv i.val (ix2 κ c) : EReal) = ((R.dkv i.val κ c : ℝ) : EReal) := by
  pointwise [Block.dkv, k0_pay152]
  simp only [h.dk00, h.dk01, h.dk10, h.dk11, h.dv00, h.dv01, h.dv10, h.dv11, ← EReal.coe_add]
  unfold RBlock.dkv
  split_ifs <;> rfl

theorem Block.Is.own (i : Fin 17) (r : Fin 128) (c : Fin 256) :
    (B.own i.val (ix2 r c) : EReal) = ((R.dkv i.val ⟨128 + r.val, by omega⟩ c : ℝ) : EReal) := by
  pointwise [Block.own, k0_pay2]
  exact h.dkv i _ c

theorem Block.Is.prev (i : Fin 17) {s : Vec Ideal S128x256 .f32} {S : Fin 128 → Fin 256 → ℝ} (hs : ∀ r c, s (ix2 r c) = ((S r c : ℝ) : EReal)) (r : Fin 128)
    (c : Fin 256) : (B.prev i.val s (ix2 r c) : EReal) = ((S r c + R.dkv i.val ⟨r.val, by omega⟩ c : ℝ) : EReal) := by
  pointwise [Block.prev, k0_pay153]
  rw [hs, EReal.coe_add]
  exact congrArg (_ + ·) (h.dkv i _ c)

theorem Block.Is.carry (i : Fin 17) (r : Fin 128) (c : Fin 256) :
    (B.carry i.val (ix2 r c) : EReal) = ((R.dkv i.val ⟨256 + r.val, by omega⟩ c : ℝ) : EReal) := by
  pointwise [Block.carry, k0_pay1, k0_pay154]
  exact h.dkv i _ c

omit h in
/-- A sink's loss in its lane. -/
theorem lane_sink (s : Fin 8 → ℝ) (l : Fin 8) : 0 - (if BitVec.ofNat 32 l.val = 0#32 then s 0 else 0) - (if BitVec.ofNat 32 l.val = 1#32 then s 1 else 0)
    - (if BitVec.ofNat 32 l.val = 2#32 then s 2 else 0) - (if BitVec.ofNat 32 l.val = 3#32 then s 3 else 0) - (if BitVec.ofNat 32 l.val = 4#32 then s 4 else 0) - (if BitVec.ofNat 32 l.val = 5#32 then s 5 else 0)
    - (if BitVec.ofNat 32 l.val = 6#32 then s 6 else 0) - (if BitVec.ofNat 32 l.val = 7#32 then s 7 else 0) = -s l := by
  fin_cases l <;> simp

theorem Block.Is.dsink (i : Fin 17) (r : Fin 8) (l : Fin 8) :
    (B.dsink i.val (ix2 r ⟨l.val, by omega⟩) : EReal) = ((-R.sink i.val r l : ℝ) : EReal) := by
  unfold Block.dsink
  refine (h.h7.toS_apply i _ 7#32 (S := R.s 7) (by pointwise; exact h.s 0 7)
    (fun r l => h.h6.toS_apply i l 6#32 (S := R.s 6) (by pointwise; exact h.s 0 6)
    (fun r l => h.h5.toS_apply i l 5#32 (S := R.s 5) (by pointwise; exact h.s 0 5)
    (fun r l => h.h4.toS_apply i l 4#32 (S := R.s 4) (by pointwise; exact h.s 0 4)
    (fun r l => h.h3.toS_apply i l 3#32 (S := R.s 3) (by pointwise; exact h.s 0 3)
    (fun r l => h.h2.toS_apply i l 2#32 (S := R.s 2) (by pointwise; exact h.s 0 2)
    (fun r l => h.h1.toS_apply i l 1#32 (S := R.s 1) (by pointwise; exact h.s 0 1)
    (fun r l => h.h0.toS_apply i l 0#32 (S := R.s 0) (by pointwise; exact h.s 0 0) (X := fun _ _ => 0)
    (fun r l => by pointwise [k0_pay26]; exact EReal.coe_zero.symm) r) r) r) r) r) r) r) r).trans ?_
  rw [← lane_sink (R.sink i.val r) l]
  rfl

end

end Cert.Proof.Swa

end

end
-- ==== Proof.Swa.Clean.lean ====
/- A block's gradients as sums over the rows and keys of the whole sequence. -/
module

public import proofs.«01_k».proof.Proof.Swa.Real

@[expose] public section

set_option maxRecDepth 16384

noncomputable section

namespace Cert.Proof.Swa

open Idealize.ShloMosaic

/-- A sum over the lanes of one half. -/
theorem lane_sum (f : ℕ → ℝ) (e : ℕ) (he : e < 2) : (∑ l : Fin 128, if l.val / 64 = e then f l.val else 0) = ∑ d ∈ Finset.range 64, f (64 * e + d) := by
  rw [← Finset.sum_range (fun l => if l / 64 = e then f l else 0), show 128 = 2 * 64 by norm_num, sum_tiles]
  rw [Finset.sum_eq_single_of_mem e (Finset.mem_range.mpr he)]
  · refine Finset.sum_congr rfl fun d hd => ?_
    rw [Finset.mem_range] at hd
    exact if_pos (by omega)
  · intro b _ hb
    refine Finset.sum_eq_zero fun d hd => ?_
    rw [Finset.mem_range] at hd
    exact if_neg (by omega)

/-- Eight heads' parts, each in its half of the lanes, gathered by key head. -/
theorem halves (t : Fin 8 → Fin 128 → ℝ) (T : ℕ → ℕ → ℝ) (hT : ∀ h l, t h l = if l.val / 64 = h.val % 2 then T h.val (l.val % 64) else 0) (c : Fin 128) :
    t 0 c + t 2 c + (t 5 c + t 7 c) + (t 1 (RBlock.swap c) + t 3 (RBlock.swap c) + (t 4 (RBlock.swap c) + t 6 (RBlock.swap c)))
      = ∑ g ∈ Finset.range 4, T (4 * (c.val / 64) + g) (c.val % 64) := by
  simp only [hT, Finset.sum_range_succ, Finset.sum_range_zero]
  rw [show (RBlock.swap c).val % 64 = c.val % 64 by simp only [RBlock.swap]; omega]
  have e : c.val / 64 = 0 ∧ (RBlock.swap c).val / 64 = 1 ∨ c.val / 64 = 1 ∧ (RBlock.swap c).val / 64 = 0 := by simp only [RBlock.swap]; omega
  rcases e with ⟨e, e'⟩ | ⟨e, e'⟩
  all_goals
    simp only [e, e']
    simp
    try ring

/-- `R` is block `i` of the arrays. -/
structure RBlock.At (R : RBlock) (i : ℕ) (Z : ℕ → ℕ → ℝ) (S : ℕ → ℝ) (D : ℕ → ℕ → ℝ) : Prop where
  s : ∀ h, R.s h = S h.val
  q : ∀ a l, R.q a l = Z (256 * i + a.val) l.val
  k : ∀ κ l, 128 ≤ 256 * i + κ.val → R.k κ l = Z (256 * i + κ.val - 128) (512 + l.val)
  v : ∀ κ l, 128 ≤ 256 * i + κ.val → R.v κ l = Z (256 * i + κ.val - 128) (640 + l.val)
  o : ∀ a l, R.o a l = out Z S (256 * i + a.val) l.val
  g : ∀ a l, R.g a l = D (256 * i + a.val) l.val
  l : ∀ a h, R.l a h = Real.log (total Z S (256 * i + a.val) h.val)

theorem sees_iff {i a κ : ℕ} (hi : i < 16) : Sees i a κ ↔ 128 ≤ 256 * i + κ ∧ Band (256 * i + a) (256 * i + κ - 128) := by
  unfold Sees Band
  omega

/-- Block `i`'s part of the gradients of row `k`'s key and value. -/
def partKV (Z : ℕ → ℕ → ℝ) (S : ℕ → ℝ) (D : ℕ → ℕ → ℝ) (i k c : ℕ) : ℝ :=
  if c < 128 then ∑ g ∈ Finset.range 4, ∑ a ∈ Finset.range 256, Z (256 * i + a) (64 * (4 * (c / 64) + g) + c % 64) * dscore Z S D (256 * i + a) (4 * (c / 64) + g) k
  else ∑ g ∈ Finset.range 4, ∑ a ∈ Finset.range 256, D (256 * i + a) (64 * (4 * ((c - 128) / 64) + g) + (c - 128) % 64) * weight Z S (256 * i + a) (4 * ((c - 128) / 64) + g) k

section

variable {R : RBlock} {i : ℕ} {Z : ℕ → ℕ → ℝ} {S : ℕ → ℝ} {D : ℕ → ℕ → ℝ} (H : R.At i Z S D) (hi : i < 16) (h : Fin 8)

include H

theorem score_at (a : Fin 256) (κ : Fin 384) (c : 128 ≤ 256 * i + κ.val) :
    (∑ x, (R.head h).q a x * (R.head h).K κ x) * (1 / 8) = score Z (256 * i + a.val) h.val (256 * i + κ.val - 128) := by
  have e : ∀ x : Fin 128, (R.head h).q a x * (R.head h).K κ x = if x.val / 64 = h.val % 2 then
      Z (256 * i + a.val) (128 * (h.val / 2) + x.val) * Z (256 * i + κ.val - 128) (512 + (64 * (h.val / 4) + x.val % 64)) else 0 := fun x => by
    simp only [RBlock.head, place]
    split_ifs
    · rw [H.q, H.k _ _ c]
    · rw [zero_mul]
  simp only [e]
  rw [lane_sum (fun x => Z (256 * i + a.val) (128 * (h.val / 2) + x) * Z (256 * i + κ.val - 128) (512 + (64 * (h.val / 4) + x % 64))) _ (by omega)]
  unfold score
  refine congrArg (· * _) (Finset.sum_congr rfl fun d hd => ?_)
  rw [Finset.mem_range] at hd
  exact congrArg₂ (· * ·) (congrArg _ (by omega)) (congrArg _ (by omega))

theorem dweight_at (a : Fin 256) (κ : Fin 384) (c : 128 ≤ 256 * i + κ.val) :
    ∑ x, (R.head h).g a x * (R.head h).V κ x = dweight Z D (256 * i + a.val) h.val (256 * i + κ.val - 128) := by
  have e : ∀ x : Fin 128, (R.head h).g a x * (R.head h).V κ x = if x.val / 64 = h.val % 2 then
      D (256 * i + a.val) (128 * (h.val / 2) + x.val) * Z (256 * i + κ.val - 128) (640 + (64 * (h.val / 4) + x.val % 64)) else 0 := fun x => by
    simp only [RBlock.head, place]
    split_ifs
    · rw [H.g, H.v _ _ c]
    · rw [zero_mul]
  simp only [e]
  rw [lane_sum (fun x => D (256 * i + a.val) (128 * (h.val / 2) + x) * Z (256 * i + κ.val - 128) (640 + (64 * (h.val / 4) + x % 64))) _ (by omega)]
  unfold dweight
  refine Finset.sum_congr rfl fun d hd => ?_
  rw [Finset.mem_range] at hd
  exact congrArg₂ (· * ·) (congrArg _ (by omega)) (congrArg _ (by omega))

theorem mean_at (a : Fin 256) : (R.head h).d a = mean Z S D (256 * i + a.val) h.val := by
  simp only [RBlock.head, H.g, H.o]
  rw [lane_sum (fun x => D (256 * i + a.val) (128 * (h.val / 2) + x) * out Z S (256 * i + a.val) (128 * (h.val / 2) + x)) _ (by omega), ← mean_eq]
  refine Finset.sum_congr rfl fun d hd => ?_
  rw [show 128 * (h.val / 2) + (64 * (h.val % 2) + d) = 64 * h.val + d by omega]

include hi

theorem p_at (a : Fin 256) (κ : Fin 384) :
    (R.head h).p i a κ = if 128 ≤ 256 * i + κ.val then weight Z S (256 * i + a.val) h.val (256 * i + κ.val - 128) else 0 := by
  unfold RHead.p
  by_cases c : 128 ≤ 256 * i + κ.val
  · rw [if_pos c, score_at H h a κ c]
    unfold weight
    refine if_congr ((sees_iff hi).trans ⟨fun q => q.2, fun q => ⟨c, q⟩⟩) ?_ rfl
    rw [show (R.head h).l a = R.l a h from rfl, H.l, Real.exp_sub, Real.exp_log (total_pos _ _ _ _)]
  · rw [if_neg c, if_neg fun q => c ((sees_iff hi).mp q).1]

theorem ds_at (a : Fin 256) (κ : Fin 384) :
    (R.head h).ds i a κ = if 128 ≤ 256 * i + κ.val then dscore Z S D (256 * i + a.val) h.val (256 * i + κ.val - 128) else 0 := by
  unfold RHead.ds
  rw [p_at H hi, mean_at H]
  by_cases c : 128 ≤ 256 * i + κ.val
  · rw [if_pos c, if_pos c, dweight_at H h a κ c]
    rfl
  · rw [if_neg c, if_neg c, zero_mul, zero_mul]

theorem toQ_at (a : Fin 256) (l : Fin 128) :
    (R.head h).toQ i a l = if l.val / 64 = h.val % 2 then dq Z S D (256 * i + a.val) (64 * h.val + l.val % 64) else 0 := by
  unfold RHead.toQ
  by_cases e : l.val / 64 = h.val % 2
  · rw [if_pos e]
    unfold dq
    refine Eq.trans (b := ∑ κ ∈ Finset.range 384, if 128 ≤ 256 * i + κ then dscore Z S D (256 * i + a.val) h.val (256 * i + κ - 128)
      * Z (256 * i + κ - 128) (512 + 64 * (h.val / 4) + l.val % 64) else 0) ?_ ?_
    · rw [Finset.sum_range]
      refine Finset.sum_congr rfl fun κ _ => ?_
      rw [ds_at H hi]
      by_cases c : 128 ≤ 256 * i + κ.val
      · rw [if_pos c, if_pos c, show (R.head h).K κ l = R.k κ ⟨64 * (h.val / 4) + l.val % 64, by omega⟩ from if_pos e, H.k _ _ c]
        refine congrArg₂ (· * ·) rfl (congrArg (Z _) ?_)
        simp only
        omega
      · rw [if_neg c, if_neg c, zero_mul]
    · refine (sum_window (256 * i) 384 (by omega) (fun k => dscore Z S D (256 * i + a.val) h.val k * Z k (512 + 64 * (h.val / 4) + l.val % 64))).trans ?_
      refine Finset.sum_congr rfl fun k _ => ?_
      rw [show (64 * h.val + l.val % 64) / 64 = h.val by omega, show (64 * h.val + l.val % 64) / 256 = h.val / 4 by omega,
        show (64 * h.val + l.val % 64) % 64 = l.val % 64 by omega]
      by_cases c : 256 * i ≤ k + 128 ∧ k + 128 < 256 * i + 384
      · rw [if_pos c]
      · rw [if_neg c]
        unfold dscore weight
        rw [if_neg (by unfold Band; omega), zero_mul, zero_mul, zero_mul]
  · rw [if_neg e]
    refine Finset.sum_eq_zero fun κ _ => ?_
    rw [show (R.head h).K κ l = 0 from if_neg e, mul_zero]

omit h in
/-- The queries' gradient in a tile of two heads. -/
theorem toQ_pair (j : Fin 4) (a : Fin 256) (l : Fin 128) :
    (R.head ⟨2 * j.val, by omega⟩).toQ i a l + (R.head ⟨2 * j.val + 1, by omega⟩).toQ i a l = dq Z S D (256 * i + a.val) (128 * j.val + l.val) := by
  rw [toQ_at H hi, toQ_at H hi]
  by_cases c : l.val < 64
  · rw [if_pos (by simp only; omega), if_neg (by simp only; omega), add_zero]
    exact congrArg _ (by simp only; omega)
  · rw [if_neg (by simp only; omega), if_pos (by simp only; omega), zero_add]
    exact congrArg _ (by simp only; omega)

theorem toK_at (κ : Fin 384) (l : Fin 128) (c : 128 ≤ 256 * i + κ.val) :
    (R.head h).toK i κ l = if l.val / 64 = h.val % 2 then
      ∑ a ∈ Finset.range 256, Z (256 * i + a) (64 * h.val + l.val % 64) * dscore Z S D (256 * i + a) h.val (256 * i + κ.val - 128) else 0 := by
  unfold RHead.toK
  by_cases e : l.val / 64 = h.val % 2
  · rw [if_pos e, Finset.sum_range]
    refine Finset.sum_congr rfl fun a _ => ?_
    rw [ds_at H hi, if_pos c, show (R.head h).q a l = R.q a ⟨128 * (h.val / 2) + l.val, by omega⟩ from if_pos e, H.q]
    exact congrArg (· * _) (congrArg _ (by first | omega | (simp only; omega)))
  · rw [if_neg e]
    refine Finset.sum_eq_zero fun a _ => ?_
    rw [show (R.head h).q a l = 0 from if_neg e, zero_mul]

theorem toV_at (κ : Fin 384) (l : Fin 128) (c : 128 ≤ 256 * i + κ.val) :
    (R.head h).toV i κ l = if l.val / 64 = h.val % 2 then
      ∑ a ∈ Finset.range 256, D (256 * i + a) (64 * h.val + l.val % 64) * weight Z S (256 * i + a) h.val (256 * i + κ.val - 128) else 0 := by
  unfold RHead.toV
  by_cases e : l.val / 64 = h.val % 2
  · rw [if_pos e, Finset.sum_range]
    refine Finset.sum_congr rfl fun a _ => ?_
    rw [p_at H hi, if_pos c, show (R.head h).g a l = R.g a ⟨128 * (h.val / 2) + l.val, by omega⟩ from if_pos e, H.g]
    exact congrArg (· * _) (congrArg _ (by first | omega | (simp only; omega)))
  · rw [if_neg e]
    refine Finset.sum_eq_zero fun a _ => ?_
    rw [show (R.head h).g a l = 0 from if_neg e, zero_mul]

omit h in
/-- The part of a block in the gradients of a row of its window. -/
theorem dkv_at (κ : Fin 384) (c : Fin 256) (hκ : 128 ≤ 256 * i + κ.val) : R.dkv i κ c = partKV Z S D i (256 * i + κ.val - 128) c.val := by
  have hK := fun h l => toK_at H hi h κ l hκ
  have hV := fun h l => toV_at H hi h κ l hκ
  unfold RBlock.dkv partKV RBlock.dkh RBlock.dvh
  split_ifs with hc
  · exact halves (fun h l => (R.head h).toK i κ l) (fun h x => ∑ a ∈ Finset.range 256, Z (256 * i + a) (64 * h + x) * dscore Z S D (256 * i + a) h (256 * i + κ.val - 128)) hK _
  · exact halves (fun h l => (R.head h).toV i κ l) (fun h x => ∑ a ∈ Finset.range 256, D (256 * i + a) (64 * h + x) * weight Z S (256 * i + a) h (256 * i + κ.val - 128)) hV _

/-- The sink's loss over the block's rows that are `r` modulo eight. -/
theorem sink_at (r : Fin 8) :
    R.sink i r h = ∑ x ∈ Finset.range 32, Real.exp (S h.val) / total Z S (256 * i + (x * 8 + r.val)) h.val * mean Z S D (256 * i + (x * 8 + r.val)) h.val := by
  unfold RBlock.sink RHead.toS
  rw [Finset.sum_range]
  refine Finset.sum_congr rfl fun x _ => ?_
  rw [if_pos hi, mean_at H, show (R.head h).l ⟨x.val * 8 + r.val, by omega⟩ = R.l ⟨x.val * 8 + r.val, by omega⟩ h from rfl, H.l, H.s, Real.exp_sub, Real.exp_log (total_pos _ _ _ _)]

end

/-- After the last block a step adds nothing. -/
theorem dkv_last (R : RBlock) (κ : Fin 384) (c : Fin 256) : R.dkv 16 κ c = 0 := by
  have e : ∀ (H : RHead) (a : Fin 256) (κ : Fin 384), H.p 16 a κ = 0 := fun H a κ => if_neg fun q => absurd q.1 (by omega)
  unfold RBlock.dkv RBlock.dkh RBlock.dvh RHead.toK RHead.toV RHead.ds
  simp only [e, zero_mul, mul_zero, Finset.sum_const_zero, add_zero, dite_eq_ite, ite_self]

theorem sink_last (R : RBlock) (r h : Fin 8) : R.sink 16 r h = 0 := by
  unfold RBlock.sink RHead.toS
  exact Finset.sum_eq_zero fun x _ => if_neg (by omega)

section

variable (Z : ℕ → ℕ → ℝ) (S : ℕ → ℝ) (D : ℕ → ℕ → ℝ)

/-- A block's first half of rows is seen by the block alone, -/
theorem dkv_first (i r c : ℕ) (hi : i < 16) (hr : r < 128) : partKV Z S D i (256 * i + r) c = dkv Z S D (256 * i + r) c := by
  unfold partKV dkv dk dv
  split_ifs with hc
  · refine Finset.sum_congr rfl fun g _ => (sum_block (fun r' => Z r' (64 * (4 * (c / 64) + g) + c % 64) * dscore Z S D r' (4 * (c / 64) + g) (256 * i + r)) i hi fun r' hr' => ?_).symm
    simp only [dscore, weight]
    rw [if_neg (by unfold Band; omega)]
    simp only [zero_mul, mul_zero]
  · refine Finset.sum_congr rfl fun g _ => (sum_block (fun r' => D r' (64 * (4 * ((c - 128) / 64) + g) + (c - 128) % 64) * weight Z S r' (4 * ((c - 128) / 64) + g) (256 * i + r)) i hi fun r' hr' => ?_).symm
    simp only [dscore, weight]
    rw [if_neg (by unfold Band; omega)]
    simp only [zero_mul, mul_zero]

/-- and its second by the block and the next. -/
theorem dkv_second (i r c : ℕ) (hi : i < 16) (hr : r < 128) :
    partKV Z S D i (256 * i + 128 + r) c + (if i + 1 < 16 then partKV Z S D (i + 1) (256 * i + 128 + r) c else 0) = dkv Z S D (256 * i + 128 + r) c := by
  have e : ∀ (x y : ℕ → ℝ), (∑ g ∈ Finset.range 4, x g) + (if i + 1 < 16 then ∑ g ∈ Finset.range 4, y g else 0) = ∑ g ∈ Finset.range 4, (x g + if i + 1 < 16 then y g else 0) := fun x y => by
    split_ifs
    · rw [Finset.sum_add_distrib]
    · simp only [add_zero]
  unfold partKV dkv dk dv
  by_cases hc : c < 128
  · simp only [hc, if_true, if_false]
    rw [e]
    refine Finset.sum_congr rfl fun g _ => (sum_two_blocks (fun r' => Z r' (64 * (4 * (c / 64) + g) + c % 64) * dscore Z S D r' (4 * (c / 64) + g) (256 * i + 128 + r)) i hi fun r' hr' hr'' => ?_).symm
    simp only [dscore, weight]
    rw [if_neg (by unfold Band; omega)]
    simp only [zero_mul, mul_zero]
  · simp only [hc, if_true, if_false]
    rw [e]
    refine Finset.sum_congr rfl fun g _ => (sum_two_blocks (fun r' => D r' (64 * (4 * ((c - 128) / 64) + g) + (c - 128) % 64) * weight Z S r' (4 * ((c - 128) / 64) + g) (256 * i + 128 + r)) i hi fun r' hr' hr'' => ?_).symm
    simp only [dscore, weight]
    rw [if_neg (by unfold Band; omega)]
    simp only [zero_mul, mul_zero]

/-- The sinks' gradient, gathered by blocks and residues. -/
theorem dsink_blocks (h : ℕ) :
    ∑ r ∈ Finset.range 8, ∑ i ∈ Finset.range 16, -(∑ x ∈ Finset.range 32, Real.exp (S h) / total Z S (256 * i + (x * 8 + r)) h * mean Z S D (256 * i + (x * 8 + r)) h) = dsink Z S D h := by
  unfold dsink
  rw [show 4096 = 16 * 256 by norm_num, sum_tiles, ← Finset.sum_neg_distrib, Finset.sum_comm]
  refine Finset.sum_congr rfl fun i _ => ?_
  rw [Finset.sum_neg_distrib, Finset.sum_comm, show 256 = 32 * 8 by norm_num, sum_tiles]
  refine congrArg Neg.neg (Finset.sum_congr rfl fun x _ => Finset.sum_congr rfl fun r _ => ?_)
  rw [Nat.mul_comm x 8]

end

end Cert.Proof.Swa

end

end
-- ==== Proof.Swa.Tile.lean ====
/- The queries' gradient that the attention's backward region leaves after a point: four tiles of two heads each. -/
module

public import proofs.«01_k».proof.Proof.Swa.Step

@[expose] public section

set_option maxRecDepth 16384

noncomputable section

namespace Cert.Proof.Swa

open Idealize.ShloMosaic
open Cert.SwaIdeal Cert.SwaIdeal.Gen

variable {F : FTy → Type} [FloatOps F]

/-- The queries' gradient of a block at an element. -/
def Block.dqAt (B : Block F) (i : Nat) (a : Fin 256) (x : Fin 512) : F .bf16 :=
  if x.val < 128 then B.dq0 i (ix2 a ⟨x.val % 128, by omega⟩) else if x.val < 256 then B.dq1 i (ix2 a ⟨x.val % 128, by omega⟩)
  else if x.val < 384 then B.dq2 i (ix2 a ⟨x.val % 128, by omega⟩) else B.dq3 i (ix2 a ⟨x.val % 128, by omega⟩)

section

variable (B : Block F) (i : Nat) {a : Fin 256} {x : Fin 512} {y : S256x128.Idx} (h0 : a.val = (y 0).val)

include h0

theorem at_index (h1 : x.val % 128 = (y 1).val) : y = ix2 a ⟨x.val % 128, by omega⟩ := by
  idx_vars y
  exact congrArg₂ ix2 (Fin.ext h0.symm) (Fin.ext h1.symm)

theorem tile0 (h1 : x.val = (y 1).val) (hl : (y 1).val < 128) : B.dq0 i y = B.dqAt i a x := by
  rw [at_index (x := x) h0 (by omega)]
  unfold Block.dqAt
  rw [if_pos (by omega)]

theorem tile1 (h1 : x.val = 128 + (y 1).val) (hl : (y 1).val < 128) : B.dq1 i y = B.dqAt i a x := by
  rw [at_index (x := x) h0 (by omega)]
  unfold Block.dqAt
  rw [if_neg (by omega), if_pos (by omega)]

theorem tile2 (h1 : x.val = 256 + (y 1).val) (hl : (y 1).val < 128) : B.dq2 i y = B.dqAt i a x := by
  rw [at_index (x := x) h0 (by omega)]
  unfold Block.dqAt
  rw [if_neg (by omega), if_neg (by omega), if_pos (by omega)]

theorem tile3 (h1 : x.val = 384 + (y 1).val) (hl : (y 1).val < 128) : B.dq3 i y = B.dqAt i a x := by
  rw [at_index (x := x) h0 (by omega)]
  unfold Block.dqAt
  rw [if_neg (by omega), if_neg (by omega), if_neg (by omega)]

end

variable (m : (ℓ : Loc nD τ sig) → Buf (Elt F) ℓ) (c : Dev nD) (t : Fin cfg0.N)

theorem dqA (h : t.val = 0) (a : Fin 256) (x : Fin 512) : (stepA m c t h).dq (ix2 a x) = (blockOf m c t).dqAt (grid0.coords t 0) a x := by
  unfold stepA back
  dsimp only [atA]
  unfold runA
  dsimp only
  frame_out
  canon_tiles y h
  · exact Eq.trans (b := (blockOf m c t).dq3 (grid0.coords t 0) y) (by sl_kernel_rfl) (tile3 _ _ h0 h1 y1_lt)
  · exact Eq.trans (b := (blockOf m c t).dq2 (grid0.coords t 0) y) (by sl_kernel_rfl) (tile2 _ _ h0 h1 y1_lt)
  · exact Eq.trans (b := (blockOf m c t).dq1 (grid0.coords t 0) y) (by sl_kernel_rfl) (tile1 _ _ h0 h1 y1_lt)
  · exact Eq.trans (b := (blockOf m c t).dq0 (grid0.coords t 0) y) (by sl_kernel_rfl) (tile0 _ _ h0 h1 y1_lt)

theorem dqB (h : t.val ≠ 0) (h' : t.val < 16) (p : Held F) (a : Fin 256) (x : Fin 512) : (stepB m c t h h' p).dq (ix2 a x) = (blockOf m c t).dqAt (grid0.coords t 0) a x := by
  unfold stepB back
  dsimp only [atB]
  unfold runB
  dsimp only
  frame_out
  canon_tiles y h
  · exact Eq.trans (b := (blockOf m c t).dq3 (grid0.coords t 0) y) (by sl_kernel_rfl) (tile3 _ _ h0 h1 y1_lt)
  · exact Eq.trans (b := (blockOf m c t).dq2 (grid0.coords t 0) y) (by sl_kernel_rfl) (tile2 _ _ h0 h1 y1_lt)
  · exact Eq.trans (b := (blockOf m c t).dq1 (grid0.coords t 0) y) (by sl_kernel_rfl) (tile1 _ _ h0 h1 y1_lt)
  · exact Eq.trans (b := (blockOf m c t).dq0 (grid0.coords t 0) y) (by sl_kernel_rfl) (tile0 _ _ h0 h1 y1_lt)

end Cert.Proof.Swa

end

end
-- ==== Proof.Swa.Windows.lean ====
/- The blocks the attention's backward region works on: what each window holds, as reals. -/
module

public import proofs.«01_k».proof.Proof.Swa.Saved
public import proofs.«01_k».proof.Proof.Swa.Clean
public import proofs.«01_k».proof.Proof.Swa.Tile
public import proofs.«01_k».proof.Proof.Swa.RefGrad

@[expose] public section

set_option maxRecDepth 16384

noncomputable section

namespace Cert.Proof.Swa

open Idealize.ShloMosaic Idealize.ShloMosaic.TcCoe Idealize.SL.Sem
open Cert.SwaIdeal Cert.SwaIdeal.Gen

/-- The block of rows a point works on: the closing point keeps the last one. -/
def blkAt (t : Fin cfg0.N) : ℕ := min t.val 15

/-- The blocks of the windows, point by point. -/
theorem idx : ∀ t : Fin cfg0.N, win0_0.index t = ![0, 0] ∧ win0_1.index t = ![blkAt t, 0] ∧ win0_2.index t = ![2 * blkAt t - 1, 4] ∧ win0_3.index t = ![blkAt t, 4]
    ∧ win0_4.index t = ![2 * blkAt t - 1, 5] ∧ win0_5.index t = ![blkAt t, 5] ∧ win0_6.index t = ![blkAt t, 0] ∧ win0_7.index t = ![blkAt t, 0]
    ∧ win0_8.index t = ![blkAt t, 0] ∧ win0_9.index t = ![blkAt t, 0] ∧ win0_10.index t = ![blkAt t, 0] ∧ win0_11.index t = ![t.val - 1, 0] ∧ win0_12.index t = ![0, 0] :=
  (by decide +kernel : ∀ t : Fin grid0.N, _)

theorem blkAt_le (t : Fin cfg0.N) : blkAt t ≤ 15 := Nat.min_le_right _ _

theorem coord : ∀ t : Fin cfg0.N, (grid0.coords t 0).val = t.val := (by decide +kernel : ∀ t : Fin grid0.N, _)

/-- The arguments are real: what the finiteness precondition gives, beside the reference's arguments. -/
structure Given (m : (ℓ : Loc nD τ sig) → Buf (Elt Ideal) ℓ) (c : Dev nD) (V' : RefV) (Z : ℕ → ℕ → ℝ) (S : ℕ → ℝ) (D : ℕ → ℕ → ℝ) : Prop where
  args : Ref.Args V' Z S D
  hz : (V' (Proc.devRef .tc Cert.SwaRefIdeal.main_arg0) : FVec Ideal S4096x2816 .f32) = m (c, Proc.devRef .tc main_arg0)
  hs : (V' (Proc.devRef .tc Cert.SwaRefIdeal.main_arg1) : FVec Ideal S1x8 .f32) = m (c, Proc.devRef .tc main_arg1)
  hd : (V' (Proc.devRef .tc Cert.SwaRefIdeal.main_arg2) : FVec Ideal S4096x1024 .bf16) = m (c, Proc.devRef .tc main_arg2)

/-- The row of the sequence in row `κ` of a block's keys. -/
def rowOf (b κ : ℕ) : ℕ := if κ < 128 then 128 * (2 * b - 1) + κ else 256 * b + κ - 128

/-- The reals of a block. -/
def rblock (Z : ℕ → ℕ → ℝ) (S : ℕ → ℝ) (D : ℕ → ℕ → ℝ) (b : ℕ) : RBlock where
  s h := S h.val
  q a l := Z (256 * b + a.val) l.val
  k κ l := Z (rowOf b κ.val) (512 + l.val)
  v κ l := Z (rowOf b κ.val) (640 + l.val)
  o a l := out Z S (256 * b + a.val) l.val
  g a l := D (256 * b + a.val) l.val
  l a h := Real.log (total Z S (256 * b + a.val) h.val)

theorem rblock_at (Z : ℕ → ℕ → ℝ) (S : ℕ → ℝ) (D : ℕ → ℕ → ℝ) (b : ℕ) (hb : b < 16) : (rblock Z S D b).At b Z S D where
  s _ := rfl
  q _ _ := rfl
  k κ l h := congrArg₂ Z (by simp only [rowOf]; split_ifs <;> omega) rfl
  v κ l h := congrArg₂ Z (by simp only [rowOf]; split_ifs <;> omega) rfl
  o _ _ := rfl
  g _ _ := rfl
  l _ _ := rfl

variable {m : (ℓ : Loc nD τ sig) → Buf (Elt Ideal) ℓ} {c : Dev nD} {V' : RefV} {Z : ℕ → ℕ → ℝ} {S : ℕ → ℝ} {D : ℕ → ℕ → ℝ} (H : Given m c V' Z S D)

include H

theorem arg0 (r : Fin 4096) (l : Fin 2816) : (m ((c : Thread nD τ).loc main_arg0) : FVec Ideal S4096x2816 .f32) (ix2 r l) = ((Z r.val l.val : ℝ) : EReal) :=
  (congrFun H.hz.symm _).trans (H.args.z r l)
theorem arg1 (o : Fin 1) (h : Fin 8) : (m ((c : Thread nD τ).loc main_arg1) : FVec Ideal S1x8 .f32) (ix2 o h) = ((S h.val : ℝ) : EReal) :=
  (congrFun H.hs.symm _).trans (H.args.s o h)
theorem arg2 (r : Fin 4096) (l : Fin 1024) : (m ((c : Thread nD τ).loc main_arg2) : FVec Ideal S4096x1024 .bf16) (ix2 r l) = ((D r.val l.val : ℝ) : EReal) :=
  (congrFun H.hd.symm _).trans (H.args.d r l)

theorem blk0 (t : Fin cfg0.N) (o : Fin 1) (h : Fin 8) : (iblk m c 0 t : FVec Ideal S1x8 .f32) (ix2 o h) = ((S h.val : ℝ) : EReal) := by
  refine Eq.trans ?_ (arg1 H o h)
  blk_point [iblk, V, idx t]

theorem blk1 (t : Fin cfg0.N) (a : Fin 256) (l : Fin 512) : (X0_1 m c t : FVec Ideal S256x512 .f32) (ix2 a l) = ((Z (256 * blkAt t + a.val) l.val : ℝ) : EReal) := by
  have hb := blkAt_le t
  refine Eq.trans ?_ (arg0 H ⟨256 * blkAt t + a.val, by omega⟩ ⟨l.val, by omega⟩)
  unfold X0_1 Pipeline.Window.fill
  rw [dif_pos (moved0_1 t _)]
  blk_point [iblk, V, idx t]

theorem blk2 (t : Fin cfg0.N) (r : Fin 128) (l : Fin 128) : (iblk m c 2 t : FVec Ideal S128x128 .f32) (ix2 r l) = ((Z (128 * (2 * blkAt t - 1) + r.val) (512 + l.val) : ℝ) : EReal) := by
  have hb := blkAt_le t
  refine Eq.trans ?_ (arg0 H ⟨128 * (2 * blkAt t - 1) + r.val, by omega⟩ ⟨512 + l.val, by omega⟩)
  blk_point [iblk, V, idx t]

theorem blk3 (t : Fin cfg0.N) (r : Fin 256) (l : Fin 128) : (iblk m c 3 t : FVec Ideal S256x128 .f32) (ix2 r l) = ((Z (256 * blkAt t + r.val) (512 + l.val) : ℝ) : EReal) := by
  have hb := blkAt_le t
  refine Eq.trans ?_ (arg0 H ⟨256 * blkAt t + r.val, by omega⟩ ⟨512 + l.val, by omega⟩)
  blk_point [iblk, V, idx t]

theorem blk4 (t : Fin cfg0.N) (r : Fin 128) (l : Fin 128) : (iblk m c 4 t : FVec Ideal S128x128 .f32) (ix2 r l) = ((Z (128 * (2 * blkAt t - 1) + r.val) (640 + l.val) : ℝ) : EReal) := by
  have hb := blkAt_le t
  refine Eq.trans ?_ (arg0 H ⟨128 * (2 * blkAt t - 1) + r.val, by omega⟩ ⟨640 + l.val, by omega⟩)
  blk_point [iblk, V, idx t]

theorem blk5 (t : Fin cfg0.N) (r : Fin 256) (l : Fin 128) : (iblk m c 5 t : FVec Ideal S256x128 .f32) (ix2 r l) = ((Z (256 * blkAt t + r.val) (640 + l.val) : ℝ) : EReal) := by
  have hb := blkAt_le t
  refine Eq.trans ?_ (arg0 H ⟨256 * blkAt t + r.val, by omega⟩ ⟨640 + l.val, by omega⟩)
  blk_point [iblk, V, idx t]

theorem blk6 (t : Fin cfg0.N) (a : Fin 256) (l : Fin 512) : (iblk m c 6 t : FVec Ideal S256x512 .bf16) (ix2 a l) = ((out Z S (256 * blkAt t + a.val) l.val : ℝ) : EReal) := by
  have hb := blkAt_le t
  refine Eq.trans ?_ (Saved.output m c H.args H.hz H.hs ⟨256 * blkAt t + a.val, by omega⟩ l)
  blk_simp [iblk]
  exact congrArg (V m c main_v60) (by blk_ext [idx t])

theorem blk7 (t : Fin cfg0.N) (a : Fin 256) (l : Fin 512) : (iblk m c 7 t : FVec Ideal S256x512 .bf16) (ix2 a l) = ((D (256 * blkAt t + a.val) l.val : ℝ) : EReal) := by
  have hb := blkAt_le t
  refine Eq.trans ?_ (arg2 H ⟨256 * blkAt t + a.val, by omega⟩ ⟨l.val, by omega⟩)
  blk_point [iblk, V, idx t]

theorem blk8 (t : Fin cfg0.N) (a : Fin 256) (h : Fin 8) : (iblk m c 8 t : FVec Ideal S256x128 .f32) (ix2 a ⟨h.val, by omega⟩) = ((Real.log (total Z S (256 * blkAt t + a.val) h.val) : ℝ) : EReal) := by
  have hb := blkAt_le t
  refine Eq.trans ?_ (Saved.logsum m c H.args H.hz H.hs ⟨256 * blkAt t + a.val, by omega⟩ h)
  blk_simp [iblk]
  exact congrArg (V m c main_v62) (by blk_ext [idx t])

omit H in
theorem rowOf_front (b r : ℕ) (h : r < 128) : rowOf b r = 128 * (2 * b - 1) + r := if_pos h
omit H in
theorem rowOf_back (b r : ℕ) : rowOf b (128 + r) = 256 * b + r := by
  unfold rowOf
  rw [if_neg (by omega)]
  omega

omit H in
/-- A block whose windows hold these reals. -/
theorem mk_is (b : ℕ) (w0 : FVec Ideal S1x8 .f32) (w1 : FVec Ideal S256x512 .f32) (w2 : FVec Ideal S128x128 .f32) (w3 : FVec Ideal S256x128 .f32)
    (w4 : FVec Ideal S128x128 .f32) (w5 : FVec Ideal S256x128 .f32) (w6 w7 : FVec Ideal S256x512 .bf16) (w8 : FVec Ideal S256x128 .f32)
    (h0 : ∀ (o : Fin 1) (h : Fin 8), w0 (ix2 o h) = ((S h.val : ℝ) : EReal))
    (h1 : ∀ (a : Fin 256) (l : Fin 512), w1 (ix2 a l) = ((Z (256 * b + a.val) l.val : ℝ) : EReal))
    (h2 : ∀ (r l : Fin 128), w2 (ix2 r l) = ((Z (128 * (2 * b - 1) + r.val) (512 + l.val) : ℝ) : EReal))
    (h3 : ∀ (r : Fin 256) (l : Fin 128), w3 (ix2 r l) = ((Z (256 * b + r.val) (512 + l.val) : ℝ) : EReal))
    (h4 : ∀ (r l : Fin 128), w4 (ix2 r l) = ((Z (128 * (2 * b - 1) + r.val) (640 + l.val) : ℝ) : EReal))
    (h5 : ∀ (r : Fin 256) (l : Fin 128), w5 (ix2 r l) = ((Z (256 * b + r.val) (640 + l.val) : ℝ) : EReal))
    (h6 : ∀ (a : Fin 256) (l : Fin 512), w6 (ix2 a l) = ((out Z S (256 * b + a.val) l.val : ℝ) : EReal))
    (h7 : ∀ (a : Fin 256) (l : Fin 512), w7 (ix2 a l) = ((D (256 * b + a.val) l.val : ℝ) : EReal))
    (h8 : ∀ (a : Fin 256) (h : Fin 8), w8 (ix2 a ⟨h.val, by omega⟩) = ((Real.log (total Z S (256 * b + a.val) h.val) : ℝ) : EReal)) :
    (⟨w0, w1, w2, w3, w4, w5, w6, w7, w8⟩ : Block Ideal).Is (rblock Z S D b) where
  s := h0
  q := h1
  kp r l := (h2 r l).trans (congrArg (fun x => ((Z x (512 + l.val) : ℝ) : EReal)) (rowOf_front _ _ r.isLt).symm)
  kc r l := (h3 r l).trans (congrArg (fun x => ((Z x (512 + l.val) : ℝ) : EReal)) (rowOf_back _ _).symm)
  vp r l := (h4 r l).trans (congrArg (fun x => ((Z x (640 + l.val) : ℝ) : EReal)) (rowOf_front _ _ r.isLt).symm)
  vc r l := (h5 r l).trans (congrArg (fun x => ((Z x (640 + l.val) : ℝ) : EReal)) (rowOf_back _ _).symm)
  o := h6
  g := h7
  l := h8

theorem block_is (t : Fin cfg0.N) : (blockOf m c t).Is (rblock Z S D (blkAt t)) :=
  mk_is (blkAt t) _ _ _ _ _ _ _ _ _ (blk0 H t) (blk1 H t) (blk2 H t) (blk3 H t) (blk4 H t) (blk5 H t) (blk6 H t) (blk7 H t) (blk8 H t)

end Cert.Proof.Swa
end
end
-- ==== Proof.Swa.Points.lean ====
/- What the scratch and the output windows hold after each point. -/
module

public import proofs.«01_k».proof.Proof.Swa.Windows

@[expose] public section

set_option maxRecDepth 16384

noncomputable section

namespace Cert.Proof.Swa

open Idealize.ShloMosaic Idealize.ShloMosaic.TcCoe Idealize.SL.Sem
open Cert.SwaIdeal Cert.SwaIdeal.Gen

section

variable {B : Block Ideal} {R : RBlock} {Z : ℕ → ℕ → ℝ} {S : ℕ → ℝ} {D : ℕ → ℕ → ℝ} (hB : B.Is R)

include hB

/-- The queries' gradient of a block, tile by tile. -/
theorem dqAt_eq {i : ℕ} (hR : R.At i Z S D) (hi : i < 16) (a : Fin 256) (x : Fin 512) :
    (B.dqAt i a x : EReal) = ((dq Z S D (256 * i + a.val) x.val : ℝ) : EReal) := by
  have e := fun (j : Fin 4) (l : Fin 128) => toQ_pair hR hi j a l
  unfold Block.dqAt
  split_ifs with h1 h2 h3
  · refine (hB.dq0 ⟨i, by omega⟩ a _).trans (congrArg ((↑) : ℝ → EReal) ((e 0 ⟨x.val % 128, by omega⟩).trans (congrArg _ ?_)))
    show 128 * 0 + x.val % 128 = x.val
    omega
  · refine (hB.dq1 ⟨i, by omega⟩ a _).trans (congrArg ((↑) : ℝ → EReal) ((e 1 ⟨x.val % 128, by omega⟩).trans (congrArg _ ?_)))
    show 128 * 1 + x.val % 128 = x.val
    omega
  · refine (hB.dq2 ⟨i, by omega⟩ a _).trans (congrArg ((↑) : ℝ → EReal) ((e 2 ⟨x.val % 128, by omega⟩).trans (congrArg _ ?_)))
    show 128 * 2 + x.val % 128 = x.val
    omega
  · refine (hB.dq3 ⟨i, by omega⟩ a _).trans (congrArg ((↑) : ℝ → EReal) ((e 3 ⟨x.val % 128, by omega⟩).trans (congrArg _ ?_)))
    show 128 * 3 + x.val % 128 = x.val
    omega

theorem own_eq {i : ℕ} (hR : R.At i Z S D) (hi : i < 16) (r : Fin 128) (x : Fin 256) :
    (B.own i (ix2 r x) : EReal) = ((dkv Z S D (256 * i + r.val) x.val : ℝ) : EReal) := by
  refine (hB.own ⟨i, by omega⟩ r x).trans (congrArg ((↑) : ℝ → EReal) ?_)
  refine (dkv_at hR hi _ x (by simp only; omega)).trans ?_
  refine (congrArg (fun k => partKV Z S D i k x.val) (by simp only; omega)).trans (dkv_first Z S D i r.val x.val hi r.isLt)

theorem carry_eq {i : ℕ} (hR : R.At i Z S D) (hi : i < 16) (r : Fin 128) (x : Fin 256) :
    (B.carry i (ix2 r x) : EReal) = ((partKV Z S D i (256 * i + 128 + r.val) x.val : ℝ) : EReal) := by
  refine (hB.carry ⟨i, by omega⟩ r x).trans (congrArg ((↑) : ℝ → EReal) ?_)
  refine (dkv_at hR hi _ x (by simp only; omega)).trans ?_
  exact congrArg (fun k => partKV Z S D i k x.val) (by simp only; omega)

/-- The rows before, completed by the next block's part, -/
theorem prev_eq {i : ℕ} (hR : R.At (i + 1) Z S D) (hi : i + 1 < 16) {s : Vec Ideal S128x256 .f32}
    (hs : ∀ (r : Fin 128) (x : Fin 256), s (ix2 r x) = ((partKV Z S D i (256 * i + 128 + r.val) x.val : ℝ) : EReal)) (r : Fin 128) (x : Fin 256) :
    (B.prev (i + 1) s (ix2 r x) : EReal) = ((dkv Z S D (256 * i + 128 + r.val) x.val : ℝ) : EReal) := by
  refine (hB.prev ⟨i + 1, by omega⟩ hs r x).trans (congrArg ((↑) : ℝ → EReal) ?_)
  rw [← dkv_second Z S D i r.val x.val (by omega) r.isLt, if_pos hi]
  refine congrArg (_ + ·) ((dkv_at hR hi _ x (by simp only; omega)).trans ?_)
  exact congrArg (fun k => partKV Z S D (i + 1) k x.val) (by simp only; omega)

/-- and the last rows at the closing point. -/
theorem prev_last {s : Vec Ideal S128x256 .f32}
    (hs : ∀ (r : Fin 128) (x : Fin 256), s (ix2 r x) = ((partKV Z S D 15 (256 * 15 + 128 + r.val) x.val : ℝ) : EReal)) (r : Fin 128) (x : Fin 256) :
    (B.prev 16 s (ix2 r x) : EReal) = ((dkv Z S D (256 * 15 + 128 + r.val) x.val : ℝ) : EReal) := by
  refine (hB.prev ⟨16, by omega⟩ hs r x).trans (congrArg ((↑) : ℝ → EReal) ?_)
  rw [← dkv_second Z S D 15 r.val x.val (by omega) r.isLt, if_neg (by omega)]
  exact congrArg (_ + ·) (dkv_last R _ x)

end

variable (m : (ℓ : Loc nD τ sig) → Buf (Elt Ideal) ℓ) (c : Dev nD)

theorem kept (t : Fin cfg0.N) (h : t.val ≠ 0) (h' : ¬t.val < 16) (p : Held Ideal) : (stepC m c t h h' p).dq = p.dq ∧ (stepC m c t h h' p).own = p.own := by
  unfold stepC back
  exact ⟨rfl, rfl⟩

variable {m c} {V' : RefV} {Z : ℕ → ℕ → ℝ} {S : ℕ → ℝ} {D : ℕ → ℕ → ℝ} (H : Given m c V' Z S D)

include H

theorem at_is (t : Fin cfg0.N) (h : t.val < 16) : (rblock Z S D (blkAt t)).At t.val Z S D := by
  have e : blkAt t = t.val := Nat.min_eq_left (by omega)
  rw [e]
  exact rblock_at Z S D t.val h

theorem carry_held (t : Fin cfg0.N) (h : t.val < 16) (r : Fin 128) (x : Fin 256) :
    ((held m c t.val t.isLt).carry (ix2 r x) : EReal) = ((partKV Z S D t.val (256 * t.val + 128 + r.val) x.val : ℝ) : EReal) := by
  by_cases h0 : t.val = 0
  · rw [held_A m c t h0, carryA, coord]
    exact carry_eq (block_is H t) (at_is H t h) h r x
  · rw [held_B m c t h0 h, carryB, coord]
    exact carry_eq (block_is H t) (at_is H t h) h r x

theorem own_held (t : Fin cfg0.N) (h : t.val < 16) (r : Fin 128) (x : Fin 256) :
    ((held m c t.val t.isLt).own (ix2 r x) : EReal) = ((dkv Z S D (256 * t.val + r.val) x.val : ℝ) : EReal) := by
  by_cases h0 : t.val = 0
  · rw [held_A m c t h0, ownA, coord]
    exact own_eq (block_is H t) (at_is H t h) h r x
  · rw [held_B m c t h0 h, ownB, coord]
    exact own_eq (block_is H t) (at_is H t h) h r x

theorem dq_held (t : Fin cfg0.N) (h : t.val < 16) (a : Fin 256) (x : Fin 512) :
    ((held m c t.val t.isLt).dq (ix2 a x) : EReal) = ((dq Z S D (256 * t.val + a.val) x.val : ℝ) : EReal) := by
  by_cases h0 : t.val = 0
  · rw [held_A m c t h0]
    refine (dqA m c t h0 a x).trans ?_
    rw [coord]
    exact dqAt_eq (block_is H t) (at_is H t h) h a x
  · rw [held_B m c t h0 h]
    refine (dqB m c t h0 h _ a x).trans ?_
    rw [coord]
    exact dqAt_eq (block_is H t) (at_is H t h) h a x

theorem dq_all (t : Fin cfg0.N) (a : Fin 256) (x : Fin 512) :
    ((held m c t.val t.isLt).dq (ix2 a x) : EReal) = ((dq Z S D (256 * blkAt t + a.val) x.val : ℝ) : EReal) := by
  have hN : t.val < 17 := lt_of_lt_of_eq t.isLt (show cfg0.N = 17 from N_0)
  unfold blkAt
  by_cases h : t.val < 16
  · rw [Nat.min_eq_left (by omega)]
    exact dq_held H t h a x
  · rw [Nat.min_eq_right (by omega), held_C m c t (by omega) h, (kept m c t _ h _).1]
    refine (dq_held H ⟨t.val - 1, Nat.lt_of_le_of_lt (Nat.sub_le _ _) t.isLt⟩ (by simp only; omega) a x).trans (congrArg (fun k => ((dq Z S D (256 * k + a.val) x.val : ℝ) : EReal)) ?_)
    simp only; omega

theorem own_all (t : Fin cfg0.N) (r : Fin 128) (x : Fin 256) :
    ((held m c t.val t.isLt).own (ix2 r x) : EReal) = ((dkv Z S D (256 * blkAt t + r.val) x.val : ℝ) : EReal) := by
  have hN : t.val < 17 := lt_of_lt_of_eq t.isLt (show cfg0.N = 17 from N_0)
  unfold blkAt
  by_cases h : t.val < 16
  · rw [Nat.min_eq_left (by omega)]
    exact own_held H t h r x
  · rw [Nat.min_eq_right (by omega), held_C m c t (by omega) h, (kept m c t _ h _).2]
    refine (own_held H ⟨t.val - 1, Nat.lt_of_le_of_lt (Nat.sub_le _ _) t.isLt⟩ (by simp only; omega) r x).trans (congrArg (fun k => ((dkv Z S D (256 * k + r.val) x.val : ℝ) : EReal)) ?_)
    simp only; omega

theorem next_held (t : Fin cfg0.N) (h0 : t.val ≠ 0) (r : Fin 128) (x : Fin 256) :
    ((held m c t.val t.isLt).next (ix2 r x) : EReal) = ((dkv Z S D (256 * (t.val - 1) + 128 + r.val) x.val : ℝ) : EReal) := by
  have hN : t.val < 17 := lt_of_lt_of_eq t.isLt (show cfg0.N = 17 from N_0)
  have hc := carry_held H ⟨t.val - 1, Nat.lt_of_le_of_lt (Nat.sub_le _ _) t.isLt⟩ (by simp only; omega)
  by_cases h : t.val < 16
  · rw [held_B m c t h0 h, nextB, coord]
    have hR := at_is H t h
    have e : t.val = t.val - 1 + 1 := by omega
    rw [e] at hR
    refine Eq.trans ?_ (prev_eq (block_is H t) hR (by omega) hc r x)
    rw [← e]
  · rw [held_C m c t h0 h, nextC, coord]
    have e : t.val = 16 := by omega
    have hc' : ∀ (r : Fin 128) (x : Fin 256), ((before' m c t).carry (ix2 r x) : EReal) = ((partKV Z S D 15 (256 * 15 + 128 + r.val) x.val : ℝ) : EReal) := by
      have e' : t.val - 1 = 15 := by omega
      intro r x
      refine (hc r x).trans ?_
      simp only [e']
    have e' : t.val - 1 = 15 := by omega
    refine Eq.trans ?_ ((prev_last (block_is H t) hc' r x).trans ?_)
    · rw [e]
    · rw [e']

end Cert.Proof.Swa

end

end
-- ==== Proof.Swa.Arrays.lean ====
/- The arrays the attention's backward region leaves. -/
module

public import proofs.«01_k».proof.Proof.Swa.Points
public import Idealize.ShloMosaic.Lib.Pipeline.ValueKit

@[expose] public section

set_option maxRecDepth 16384

noncomputable section

namespace Cert.Proof.Swa

open Idealize.ShloMosaic Idealize.ShloMosaic.TcCoe Idealize.SL.Sem
open Cert.SwaIdeal Cert.SwaIdeal.Gen

section

variable (Z : ℕ → ℕ → ℝ) (S : ℕ → ℝ) (D : ℕ → ℕ → ℝ)

/-- The queries' gradient, -/
def arrQ : S4096x512.Idx → EReal := fun i => ((dq Z S D (i 0).val (i 1).val : ℝ) : EReal)
/-- the gradient of the keys and values in the first half of every block, -/
def arrFirst : S2048x256.Idx → EReal := fun i => ((dkv Z S D (256 * ((i 0).val / 128) + (i 0).val % 128) (i 1).val : ℝ) : EReal)
/-- and in the second. -/
def arrSecond : S2048x256.Idx → EReal := fun i => ((dkv Z S D (256 * ((i 0).val / 128) + 128 + (i 0).val % 128) (i 1).val : ℝ) : EReal)

end

variable {m : (ℓ : Loc nD τ sig) → Buf (Elt Ideal) ℓ} {c : Dev nD} {V' : RefV} {Z : ℕ → ℕ → ℝ} {S : ℕ → ℝ} {D : ℕ → ℕ → ℝ} (H : Given m c V' Z S D)

include H

theorem final9 : (dats m 0 c).arrAt 9 cfg0.N = arrQ Z S D := by
  refine (dats m 0 c).arrAt_eq_of_covers 9 _ (by decide +kernel) fun t _ y => ?_
  have hb := blkAt_le t
  blk_simp
  rw [after9]
  idx_vars y
  refine (dq_all H t y0 y1).trans (congrArg (arrQ Z S D) (a₁ := ix2 (⟨256 * blkAt t + y0.val, by omega⟩ : Fin 4096) y1) ?_)
  blk_ext [idx t]

theorem final10 : (dats m 0 c).arrAt 10 cfg0.N = arrFirst Z S D := by
  refine (dats m 0 c).arrAt_eq_of_covers 10 _ (by decide +kernel) fun t _ y => ?_
  have hb := blkAt_le t
  blk_simp
  rw [after10]
  idx_vars y
  refine (own_all H t y0 y1).trans (Eq.trans ?_ (congrArg (arrFirst Z S D) (a₁ := ix2 (⟨128 * blkAt t + y0.val, by omega⟩ : Fin 2048) y1) ?_))
  · exact congrArg (fun k => ((dkv Z S D k y1.val : ℝ) : EReal)) (show 256 * blkAt t + y0.val = 256 * ((128 * blkAt t + y0.val) / 128) + (128 * blkAt t + y0.val) % 128 by omega)
  · blk_ext [idx t]

omit H in
theorem flushed11 : ∀ t : Fin cfg0.N, (cfg0.win 11).flush t = true → t.val ≠ 0 := by decide +kernel

theorem final11 : (dats m 0 c).arrAt 11 cfg0.N = arrSecond Z S D := by
  refine (dats m 0 c).arrAt_eq_of_covers 11 _ (by decide +kernel) fun t hf y => ?_
  have h0 := flushed11 t hf
  have hN : t.val < 17 := lt_of_lt_of_eq t.isLt (show cfg0.N = 17 from N_0)
  blk_simp
  rw [after11]
  idx_vars y
  refine (next_held H t h0 y0 y1).trans (Eq.trans ?_ (congrArg (arrSecond Z S D) (a₁ := ix2 (⟨128 * (t.val - 1) + y0.val, by omega⟩ : Fin 2048) y1) ?_))
  · exact congrArg (fun k => ((dkv Z S D k y1.val : ℝ) : EReal)) (show 256 * (t.val - 1) + 128 + y0.val = 256 * ((128 * (t.val - 1) + y0.val) / 128) + 128 + (128 * (t.val - 1) + y0.val) % 128 by omega)
  · blk_ext [idx t]

omit H

/-- The closing point. -/
abbrev closing : Fin cfg0.N := ⟨16, by decide⟩

variable (m c) in
/-- The sinks' gradient added up over the grid. -/
theorem final12 : (dats m 0 c).arrAt 12 cfg0.N = fun i : S8x128.Idx => (∑ t, (blockOf m c t).dsink (grid0.coords t 0) i : EReal) := by
  refine (dats m 0 c).arrAt_eq_of_after_last 12 closing (by decide +kernel) _ fun i => ?_
  blk_simp
  rw [after12, Pipeline.eq_sum_fin_of_reset_step_apply_last (M := EReal) (fun n h => (held m c n h).sink) 17 (fun _ => 0)
    (fun t i => (blockOf m c t).dsink (grid0.coords t 0) i)
    (fun t h i => by
      have hN : t.val < 17 := lt_of_lt_of_eq t.isLt (show cfg0.N = 17 from N_0)
      rw [held_A m c t (by omega), sinkA]; pointwise [Block.sinkOver, k0_pay3])
    (fun t h i => by
      have hN : t.val < 17 := lt_of_lt_of_eq t.isLt (show cfg0.N = 17 from N_0)
      by_cases h' : t.val < 16
      · rw [held_B m c t (by omega) h', sinkB]; pointwise [Block.sinkOver]
      · rw [held_C m c t (by omega) h', sinkC]; pointwise [Block.sinkOver]) (le_of_eq N_0) closing rfl i, zero_add]

variable (m c) in
/-- The eight partial rows of the sinks' gradient. -/
abbrev acc : S8x128.Idx → EReal := (dats m 0 c).arrAt 12 cfg0.N

variable (m c) in
/-- The sinks' gradient as the host leaves it. -/
def sinkK : S1x8.Idx → EReal := fun i => ∑ j : Fin 8, acc m c (ix2 j ⟨(i 1).val, (i 1).isLt.trans (by decide)⟩)

variable (m c) in
theorem tail : Pipeline.afterTail₀ cfgs (dats m) 0 (V0 m) [hostOps1] c main_v66 = sinkK m c := by
  unfold Pipeline.afterTail₀
  dsimp only [hostOps1, List.flatten_cons, List.flatten_nil, List.append_nil, List.cons_append, List.nil_append]
  after_results
  rw [show Pipeline.withArrays (cfgs 0).spec c (V0 m c) (fun w => (dats m 0 c).arrAt w (cfgs 0).N) (Proc.tc.devRef main_v63_3) = acc m c from
    (dats m 0 c).withArrays_arrAt launch₀0.sharedIn (V0 m c) (A_eq m c) 12]
  funext i
  idx_vars i
  pointwise [sinkK]

include H

/-- At real arguments it is the sum over all the rows. -/
theorem sinkK_apply (o : Fin 1) (h : Fin 8) : sinkK m c (ix2 o h) = ((dsink Z S D h.val : ℝ) : EReal) := by
  have hp : ∀ (j : Fin 8) (t : Fin cfg0.N), ((blockOf m c t).dsink (grid0.coords t 0) (ix2 j ⟨h.val, by omega⟩) : EReal)
      = ((if t.val < 16 then -(∑ x ∈ Finset.range 32, Real.exp (S h.val) / total Z S (256 * t.val + (x * 8 + j.val)) h.val * mean Z S D (256 * t.val + (x * 8 + j.val)) h.val) else 0 : ℝ) : EReal) := by
    intro j t
    have hN : t.val < 17 := lt_of_lt_of_eq t.isLt (show cfg0.N = 17 from N_0)
    rw [coord]
    refine ((block_is H t).dsink ⟨t.val, hN⟩ j h).trans (congrArg ((↑) : ℝ → EReal) ?_)
    by_cases c : t.val < 16
    · rw [if_pos c, ← sink_at (at_is H t c) c h j]
    · rw [if_neg c]
      have e : t.val = 16 := by omega
      simp only [e, sink_last, neg_zero]
  unfold sinkK
  refine (Finset.sum_congr (M := EReal) rfl fun j _ => (congrFun (final12 m c) (ix2 j _) : acc m c (ix2 j _) = _)).trans ?_
  refine (Finset.sum_congr (M := EReal) rfl fun j _ => (Finset.sum_congr (M := EReal) rfl fun t _ => hp j t).trans (coe_sum _ _)).trans ?_
  refine (coe_sum _ _).trans (congrArg ((↑) : ℝ → EReal) ?_)
  rw [← dsink_blocks, ← Finset.sum_range (fun j => ∑ t : Fin cfg0.N, if t.val < 16 then -(∑ x ∈ Finset.range 32, Real.exp (S h.val) / total Z S (256 * t.val + (x * 8 + j)) h.val * mean Z S D (256 * t.val + (x * 8 + j)) h.val) else 0)]
  refine Finset.sum_congr rfl fun j _ => ?_
  rw [← Finset.sum_range (fun t => if t < 16 then -(∑ x ∈ Finset.range 32, Real.exp (S h.val) / total Z S (256 * t + (x * 8 + j)) h.val * mean Z S D (256 * t + (x * 8 + j)) h.val) else 0),
    show cfg0.N = 17 from N_0, Finset.sum_range_succ, if_neg (by omega), add_zero]
  exact Finset.sum_congr rfl fun t ht => if_pos (Finset.mem_range.mp ht)

omit H

variable (m) in
/-- The run: the results beside what the region's frame says. -/
theorem run (g : Dev nD → PrngReg) : θ_run (defs (F := Ideal)) (onTc (τ := τ) (main (F := Ideal))) ⟨m, fun _ => 0, g⟩ (fun r => ∀ c : Dev nD,
      r.2.mem ((c : Thread nD τ).loc main_v63_0) = (dats m 0 c).arrAt 9 cfg0.N
      ∧ r.2.mem ((c : Thread nD τ).loc main_v63_1) = (dats m 0 c).arrAt 10 cfg0.N
      ∧ r.2.mem ((c : Thread nD τ).loc main_v63_2) = (dats m 0 c).arrAt 11 cfg0.N
      ∧ r.2.mem ((c : Thread nD τ).loc main_v66) = sinkK m c) :=
  (θ_run _ _ _).mono (fun r h c => ⟨(h c).1 9, (h c).1 10, (h c).1 11, ((h c).2 main_v66 (Pipeline.mem_restRefs_of main_v66 (by decide) (by decide))).trans (tail m c)⟩) (run_main m g)

end Cert.Proof.Swa

end

end
-- ==== Proof.Swa.Value.lean ====
/- The attention's gradient: the kernel's four results are the reference's. -/
module

public import proofs.«01_k».proof.Defs
public import proofs.«01_k».proof.Proof.Swa.Arrays
public import proofs.«01_k».proof.Proof.Gen.Swa
public import proofs.«01_k».proof.Proof.Gen.Pre_finite_swa

@[expose] public section

set_option maxRecDepth 16384

noncomputable section

namespace Cert.Proof.Swa

open Idealize.ShloMosaic Idealize.ShloMosaic.TcCoe Idealize.SL.Sem

section

open Cert.SwaRefIdeal Cert.SwaRefIdeal.Gen Cert.SwaRefIdeal.Value

variable {W : Valuation τ sig (Elt Ideal)} {Z : ℕ → ℕ → ℝ} {S : ℕ → ℝ} {D : ℕ → ℕ → ℝ} (H : Ref.Args W Z S D)

include H

/-- The reference's four results: the queries' gradient, -/
theorem ref0 : (truncf .bf16 (extractStridedSlice S4096x512 ![0, 0] (res_main_v141 W) slices_S4096x2816_S4096x512_0_0) bitsLt_bf16_f32 : FVec Ideal S4096x512 .bf16) = arrQ Z S D := by
  funext i
  idx_vars i
  have h := Ref.v141_q H i0 i1
  generalize res_main_v141 W = X at h ⊢
  refine Eq.trans ?_ h
  pointwise

/-- the keys' and values' in the first half of every block, -/
theorem ref1 : (truncf .bf16 (shapeCast _ (shapeCast _ (extractStridedSlice S16x1x128x256 ![0, 0, 0, 0] (res_main_v143 W) slices_S16x2x128x256_S16x1x128x256_0_0_0_0) shapeCasts_S16x1x128x256_S16x128x256) shapeCasts_S16x128x256_S2048x256) bitsLt_bf16_f32 : FVec Ideal S2048x256 .bf16) = arrFirst Z S D := by
  funext i
  idx_vars i
  exact Ref.first H i0 i1

/-- in the second, -/
theorem ref2 : (truncf .bf16 (shapeCast _ (shapeCast _ (extractStridedSlice S16x1x128x256 ![0, 1, 0, 0] (res_main_v143 W) slices_S16x2x128x256_S16x1x128x256_0_1_0_0) shapeCasts_S16x1x128x256_S16x128x256) shapeCasts_S16x128x256_S2048x256) bitsLt_bf16_f32 : FVec Ideal S2048x256 .bf16) = arrSecond Z S D := by
  funext i
  idx_vars i
  exact Ref.second H i0 i1

end

/-- The finiteness precondition makes the argument arrays real. -/
theorem given_of_pre (hP : Cert.Pre_finite_swa.Facts) (m : (ℓ : Loc Cert.SwaIdeal.nD Cert.SwaIdeal.τ Cert.SwaIdeal.sig) → Buf (Elt Ideal) ℓ)
    (h : Cert.Pre_SwaIdeal_finite_swa (hPre_finite_swa := hP) m) (c : Dev Cert.SwaIdeal.nD) (V' : RefV)
    (h0 : V' (Proc.devRef .tc Cert.SwaRefIdeal.main_arg0) = m (c, Proc.devRef .tc Cert.SwaIdeal.main_arg0))
    (h1 : V' (Proc.devRef .tc Cert.SwaRefIdeal.main_arg1) = m (c, Proc.devRef .tc Cert.SwaIdeal.main_arg1))
    (h2 : V' (Proc.devRef .tc Cert.SwaRefIdeal.main_arg2) = m (c, Proc.devRef .tc Cert.SwaIdeal.main_arg2)) :
    ∃ Z S D, Given m c V' Z S D := by
  obtain ⟨e0, e1, e2⟩ := h c
  obtain ⟨X, hX⟩ := reals_of_finite e0 fun _ => rfl
  obtain ⟨Y, hY⟩ := reals_of_finite e1 fun _ => rfl
  obtain ⟨W, hW⟩ := reals_of_finite e2 fun _ => rfl
  refine ⟨fun r k => if h : r < 4096 ∧ k < 2816 then X (ix2 ⟨r, h.1⟩ ⟨k, h.2⟩) else 0, fun k => if h : k < 8 then Y (ix2 0 ⟨k, h⟩) else 0,
    fun r k => if h : r < 4096 ∧ k < 1024 then W (ix2 ⟨r, h.1⟩ ⟨k, h.2⟩) else 0, ⟨⟨fun r k => ?_, fun o k => ?_, fun r k => ?_⟩, h0, h1, h2⟩⟩
  · refine (congrFun h0 _).trans ((congrFun hX _).trans ?_)
    rw [dif_pos ⟨r.isLt, k.isLt⟩]
  · obtain rfl : o = 0 := Subsingleton.elim _ _
    refine (congrFun h1 _).trans ((congrFun hY _).trans ?_)
    rw [dif_pos k.isLt]
  · refine (congrFun h2 _).trans ((congrFun hW _).trans ?_)
    rw [dif_pos ⟨r.isLt, k.isLt⟩]

/-- The reference runs, keeps its arguments and leaves every counter at zero. -/
theorem frame_ref : Cert.quiescent_SwaRefIdeal (hSwaRefIdeal := Cert.SwaRefIdeal.Gen.facts) := fun m ρ _ =>
  (θ_run Cert.SwaRefIdeal.defs _ _).mono (fun r h => ⟨fun c => (h c).2.2.2.2, sem_eq_zero_of_no_sems (by decide) r.2⟩) (Cert.SwaRefIdeal.Value.run m ρ)

section
open Cert.SwaIdeal
/-- What the kernel's frame says, at any reading of the numbers. -/
def Framed (F : FTy → Type) [FloatOps F] (h : Cert.SwaIdeal.Facts) : Prop :=
  ∀ (m : (ℓ : Loc nD τ sig) → Buf (Elt F) ℓ) (ρ : Dev nD → PrngReg), True → θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0)
end

/-- The kernel as printed and its idealization are one program here. -/
theorem same : Framed Bits Cert.SwaIdeal.Gen.facts = Cert.quiescent_Swa (hSwa := Cert.Swa.Gen.facts) := by sl_kernel_rfl

theorem frame_swa : Cert.quiescent_Swa (hSwa := Cert.Swa.Gen.facts) := same.mp fun m ρ _ => Cert.Proof.Swa.frame (F := Bits) m ρ

/-- The two programs' results agree. -/
theorem algebraic (hP : Cert.Pre_finite_swa.Facts) : Cert.algebraic_SwaIdeal_SwaRefIdeal_pre_finite_swa (hPre_finite_swa := hP) (hSwaIdeal := Cert.SwaIdeal.Gen.facts) (hSwaRefIdeal := Cert.SwaRefIdeal.Gen.facts) := by
  intro m g m' g' hpre hagree
  have hG : ∀ c, ∃ Z S D, Given m c (StableHlo.launchContents m' c) Z S D := fun c =>
    given_of_pre hP m hpre c _ (hagree c).1 (hagree c).2.1 (hagree c).2.2
  refine ⟨fun c => (dats m 0 c).arrAt 9 Cert.SwaIdeal.cfg0.N, fun c => (dats m 0 c).arrAt 10 Cert.SwaIdeal.cfg0.N, fun c => (dats m 0 c).arrAt 11 Cert.SwaIdeal.cfg0.N, fun c => sinkK m c,
    (θ_run _ _ _).mono (fun r h c => ⟨(h.1 c).1, (h.1 c).2.1, (h.1 c).2.2.1, (h.1 c).2.2.2, h.2 c⟩) (θ_run_and (run m g) (unchanged m g)),
    (θ_run _ _ _).mono (fun r h c => ⟨(h c).1.trans ?_, (h c).2.1.trans ?_, (h c).2.2.1.trans ?_, (h c).2.2.2.1.trans ?_, (h c).2.2.2.2⟩) (Cert.SwaRefIdeal.Value.run m' g')⟩
  · obtain ⟨Z, S, D, h⟩ := hG c
    exact (ref0 h.args).trans (final9 h).symm
  · obtain ⟨Z, S, D, h⟩ := hG c
    exact (ref1 h.args).trans (final10 h).symm
  · obtain ⟨Z, S, D, h⟩ := hG c
    exact (ref2 h.args).trans (final11 h).symm
  · obtain ⟨Z, S, D, h⟩ := hG c
    funext i
    idx_vars i
    exact (Ref.v102 h.args _ _).trans (sinkK_apply h _ _).symm

end Cert.Proof.Swa

end

end
-- ==== Proof.Attention.lean ====
/- Attention of one row over 256 keys in four heads of 256 columns, and its gradients, over the reals. -/
module

public import proofs.«01_k».proof.Proof.Reals
public import proofs.«01_k».proof.Proof.Norm

@[expose] public section

noncomputable section

namespace Cert.Proof.Att

open Idealize.ShloMosaic

/-- A column of a head, a column's head, and its place there. -/
abbrev col (h : Fin 4) (d : Fin 256) : Fin 1024 := ⟨256 * h.val + d.val, by omega⟩
abbrev hd (x : Fin 1024) : Fin 4 := ⟨x.val / 256, by omega⟩
abbrev pl (x : Fin 1024) : Fin 256 := ⟨x.val % 256, by omega⟩

theorem col_hd (x : Fin 1024) : col (hd x) (pl x) = x := Fin.ext (by show 256 * (x.val / 256) + x.val % 256 = x.val; omega)

variable (q g : Fin 1024 → ℝ) (K V : Fin 256 → Fin 1024 → ℝ) (h : Fin 4) (κ : Fin 256)

/-- A row's scores against the keys, -/
def score : ℝ := (∑ d, q (col h d) * K κ (col h d)) * (1 / 16)
/-- their exponentials' sum, -/
def total : ℝ := ∑ κ, Real.exp (score q K h κ)
/-- the weights, -/
def weight : ℝ := Real.exp (score q K h κ) / total q K h
/-- what the cotangent sends back to them, -/
def back : ℝ := ∑ d, g (col h d) * V κ (col h d)
/-- the scores' gradient before the scale, -/
def pre : ℝ := weight q K h κ * (back g V h κ - ∑ κ, weight q K h κ * back g V h κ)
/-- and after it; -/
def dscore : ℝ := pre q g K V h κ * (1 / 16)
/-- the queries' gradient. -/
def dq (x : Fin 1024) : ℝ := ∑ κ, dscore q g K V (hd x) κ * K κ x

theorem total_pos : 0 < total q K h := Finset.sum_pos (fun _ _ => Real.exp_pos _) ⟨0, Finset.mem_univ _⟩

/-- The weights do not see a common shift of the scores. -/
theorem shifted_sum (M : ℝ) : ∑ κ, Real.exp (score q K h κ - M) = total q K h * Real.exp (-M) := by
  unfold total
  rw [Finset.sum_mul]
  exact Finset.sum_congr rfl fun κ _ => by rw [sub_eq_add_neg, Real.exp_add]

theorem shifted (M : ℝ) : Real.exp (score q K h κ - M) / ∑ κ, Real.exp (score q K h κ - M) = weight q K h κ := by
  rw [shifted_sum, sub_eq_add_neg, Real.exp_add]
  exact mul_div_mul_right _ _ (Real.exp_ne_zero _)

theorem shifted_pos (M : ℝ) : 0 < ∑ κ, Real.exp (score q K h κ - M) := Finset.sum_pos (fun _ _ => Real.exp_pos _) ⟨0, Finset.mem_univ _⟩

theorem bits_sixteenth : Ideal.ofBits .f32 0x3D800000#32 = ((1 / 16 : ℝ) : EReal) := by
  simp [Ideal.ofBits, Ideal.ieee, -EReal.coe_mul]; norm_num

/-- The rows of a step: queries, keys, values, cotangent, the two weights, the mixer's output, the two gains, the cotangent beside the
norm, and the hidden state. -/
structure Rows (n : ℕ) where
  q : Fin n → Fin 1024 → ℝ
  k : Fin 256 → Fin 1024 → ℝ
  v : Fin 256 → Fin 1024 → ℝ
  g : Fin n → Fin 1024 → ℝ
  wq : Fin 1024 → Fin 1024 → ℝ
  wo : Fin 1024 → Fin 1024 → ℝ
  y : Fin n → Fin 1024 → ℝ
  gpost : Fin 1024 → ℝ
  gpre : Fin 1024 → ℝ
  d : Fin n → Fin 1024 → ℝ
  x : Fin n → Fin 1024 → ℝ

namespace Rows

variable {n : ℕ} (R : Rows n) (a : Fin n) (l : Fin 1024)

/-- The gradient of a row's queries, -/
def dq : ℝ := Att.dq (R.q a) (R.g a) R.k R.v l
/-- a row's part of the keys' gradient, and of the values', -/
def dk (κ : Fin 256) : ℝ := dscore (R.q a) (R.g a) R.k R.v (hd l) κ * R.q a l
def dv (κ : Fin 256) : ℝ := weight (R.q a) R.k (hd l) κ * R.g a l
/-- the cotangent of the row the query projection reads, -/
def duq : ℝ := ∑ c, R.dq a c * R.wq l c
/-- the hidden state's gradient, -/
def dh : ℝ := R.d a l + gradNorm (R.x a) (fun k => R.duq a k * R.gpre k) l
/-- the mixer's output's, -/
def dy : ℝ := gradNorm (R.y a) (fun k => R.dh a k * R.gpost k) l
/-- what its projection sends back, -/
def dym : ℝ := ∑ c, R.dy a c * R.wo l c
/-- and a row's parts of the two gains' gradients. -/
def gn : ℝ := R.duq a l * (R.x a l * rs (R.x a))
def gp : ℝ := R.dh a l * (R.y a l * rs (R.y a))

end Rows

/-- A block of 512 of the 4096 rows. -/
abbrev at512 (t : Fin 8) (a : Fin 512) : Fin 4096 := ⟨512 * t.val + a.val, by omega⟩
def Rows.block (R : Rows 4096) (t : Fin 8) : Rows 512 :=
  ⟨fun a => R.q (at512 t a), R.k, R.v, fun a => R.g (at512 t a), R.wq, R.wo, fun a => R.y (at512 t a), R.gpost, R.gpre,
    fun a => R.d (at512 t a), fun a => R.x (at512 t a)⟩

/-- The arguments both programs take. -/
structure Args where
  y : Fin 4096 → Fin 1024 → ℝ
  x : Fin 4096 → Fin 1024 → ℝ
  k : Fin 256 → Fin 1024 → ℝ
  v : Fin 256 → Fin 1024 → ℝ
  wq : Fin 1024 → Fin 1024 → ℝ
  wo : Fin 1024 → Fin 1024 → ℝ
  gpost : Fin 1024 → ℝ
  gpre : Fin 1024 → ℝ
  g : Fin 4096 → Fin 1024 → ℝ
  d : Fin 4096 → Fin 1024 → ℝ

/-- The hidden state, -/
def Args.hid (A : Args) (r : Fin 4096) (l : Fin 1024) : ℝ := A.x r l + A.y r l * rs (A.y r) * A.gpost l
/-- the queries, -/
def Args.qry (A : Args) (r : Fin 4096) (c : Fin 1024) : ℝ := ∑ l, A.hid r l * rs (A.hid r) * A.gpre l * A.wq l c
/-- and the step's rows. -/
def Args.rows (A : Args) : Rows 4096 := ⟨A.qry, A.k, A.v, A.g, A.wq, A.wo, A.y, A.gpost, A.gpre, A.d, A.hid⟩

end Cert.Proof.Att

end
-- ==== Proof.Cross.Block.lean ====
/- One block of the cross attention's backward pass: what the body computes from what it loads, head by head. -/
module

public import proofs.«01_k».proof.Proof.Gen.CrossIdeal.Skeleton
public import Idealize.ShloMosaic.Lib.Pipeline.ValueKit
public import Idealize.ShloMosaic.Lib.Pipeline.ReadBack
public import Idealize.ShloMosaic.Lib.Ring

@[expose] public section

set_option maxRecDepth 16384

noncomputable section

namespace Cert.Proof.Cross

open Idealize.ShloMosaic
open Cert.CrossIdeal Cert.CrossIdeal.Gen

variable {F : FTy → Type} [FloatOps F]

/-- The 256 columns of one head of a block of 512 rows. -/
abbrev cols (h : Fin 4) : Rect S512x1024 := Rect.unit ![0, 256 * h.val] ![512, 256] (by intro a; fin_cases a <;> simp [S512x1024] <;> omega)
/-- The same columns of the keys or values. -/
abbrev kcols (h : Fin 4) : Rect S256x1024 := Rect.unit ![0, 256 * h.val] ![256, 256] (by intro a; fin_cases a <;> simp [S256x1024] <;> omega)

/-- What a point loads: queries, keys, values, cotangent, the two weights, the mixer's output, the two gains, and from the ring the
cotangent beside the norm and the hidden state. -/
structure Block (F : FTy → Type) [FloatOps F] where
  q : Vec F S512x1024 .bf16
  k : Vec F S256x1024 .bf16
  v : Vec F S256x1024 .bf16
  g : Vec F S512x1024 .bf16
  wq : Vec F S1024x1024 .bf16
  wo : Vec F S1024x1024 .bf16
  y : Vec F S512x1024 .bf16
  gpost : Vec F S1x1024 .f32
  gpre : Vec F S1x1024 .f32
  d : Vec F S1x1x512x1024 .f32
  x : Vec F S1x1x512x1024 .f32

namespace Block

variable (B : Block F) (h : Fin 4)

/-- One head's columns. -/
def qh : Vec F S512x256 .bf16 := View.ld B.q (cols h)
def kh : Vec F S256x256 .bf16 := View.ld B.k (kcols h)
def vh : Vec F S256x256 .bf16 := View.ld B.v (kcols h)
def gh : Vec F S512x256 .bf16 := View.ld B.g (cols h)

/-- The weights of a head, -/
def p : FVec F S512x256 .f32 := k0_pay7 (B.qh h) (B.kh h)
/-- the weights times what the cotangent sends back to them, less its mean, -/
def e : FVec F S512x256 .f32 := k0_pay8 (B.qh h) (B.kh h) (B.vh h) (B.gh h)
/-- a head's gradient of the queries, -/
def dqh : FVec F S512x256 .bf16 := k0_pay10 (k0_pay6 (B.kh h)) (B.e h)
/-- of the keys, on top of what was held, -/
def dkh (s : Vec F S256x1024 .f32) : FVec F S256x256 .f32 := k0_pay11 (k0_pay5 (B.qh h)) (B.e h) (View.ld s (kcols h))
/-- and of the values. -/
def dvh (s : Vec F S256x1024 .f32) : FVec F S256x256 .f32 := k0_pay12 (B.gh h) (B.p h) (View.ld s (kcols h))

/-- A column's head and its place there. -/
abbrev hd (x : Fin 1024) : Fin 4 := ⟨x.val / 256, by omega⟩
abbrev pl (x : Fin 1024) : Fin 256 := ⟨x.val % 256, by omega⟩

/-- The gradients of all the heads side by side. -/
def dq : Vec F S512x1024 .bf16 := fun i => B.dqh (hd (i 1)) (ix2 (i 0) (pl (i 1)))
def dk (s : Vec F S256x1024 .f32) : Vec F S256x1024 .f32 := fun i => B.dkh (hd (i 1)) s (ix2 (i 0) (pl (i 1)))
def dv (s : Vec F S256x1024 .f32) : Vec F S256x1024 .f32 := fun i => B.dvh (hd (i 1)) s (ix2 (i 0) (pl (i 1)))

variable (u : FVec F S512x1024 .f32)

/-- From the cotangent `u` of the normalised rows: the hidden state's gradient, -/
def dhOf : FVec F S512x1024 .f32 := k0_pay42 u (k0_pay38 B.d) B.x B.gpre
/-- the mixer's output's, -/
def dypOf : FVec F S512x1024 .bf16 :=
  k0_pay49 (k0_pay44 B.y) (k0_pay45 B.y) (k0_pay46 u (k0_pay38 B.d) B.x B.gpost B.gpre)
    (k0_pay47 u (k0_pay38 B.d) B.x B.y B.gpost B.gpre) k0_pay48
/-- what the output projection sends back, -/
def dymOf : FVec F S512x1024 .bf16 :=
  k0_pay50 (k0_pay44 B.y) (k0_pay45 B.y) (k0_pay46 u (k0_pay38 B.d) B.x B.gpost B.gpre)
    (k0_pay47 u (k0_pay38 B.d) B.x B.y B.gpost B.gpre) k0_pay48 B.wo
/-- and the two gains', on top of what was held. -/
def gnOf (s : Vec F S8x1024 .f32) : FVec F S8x1024 .f32 := k0_pay51 u (k0_pay41 B.x) s
def gpOf (s : Vec F S8x1024 .f32) : FVec F S8x1024 .f32 := k0_pay52 (B.dhOf u) (k0_pay45 B.y) s

/-- What the query projection sends back. -/
def duq : FVec F S512x1024 .f32 := k0_pay37 B.dq B.wq
theorem dq_emb (x : (cols h).shape.Idx) : B.dqh h x = B.dq ((cols h).emb x) := by
  idx_vars x
  unfold dq
  have e0 : ((cols h).emb (ix2 x0 x1) 0).val = x0.val := by
    rw [ValueKit.rect_emb_unit_val]
    simp
  have e1 : ((cols h).emb (ix2 x0 x1) 1).val = 256 * h.val + x1.val := by
    rw [ValueKit.rect_emb_unit_val]
    simp
  refine congrArg₂ (fun h i => B.dqh h i) (Fin.ext ?_) (congrArg₂ ix2 (Fin.ext ?_) (Fin.ext ?_)) <;> simp only [e0, e1] <;> omega

theorem dk_emb (s : Vec F S256x1024 .f32) (x : (kcols h).shape.Idx) : B.dkh h s x = B.dk s ((kcols h).emb x) := by
  idx_vars x
  unfold dk
  have e0 : ((kcols h).emb (ix2 x0 x1) 0).val = x0.val := by
    rw [ValueKit.rect_emb_unit_val]
    simp
  have e1 : ((kcols h).emb (ix2 x0 x1) 1).val = 256 * h.val + x1.val := by
    rw [ValueKit.rect_emb_unit_val]
    simp
  refine congrArg₂ (fun h i => B.dkh h s i) (Fin.ext ?_) (congrArg₂ ix2 (Fin.ext ?_) (Fin.ext ?_)) <;> simp only [e0, e1] <;> omega

theorem dv_emb (s : Vec F S256x1024 .f32) (x : (kcols h).shape.Idx) : B.dvh h s x = B.dv s ((kcols h).emb x) := by
  idx_vars x
  unfold dv
  have e0 : ((kcols h).emb (ix2 x0 x1) 0).val = x0.val := by
    rw [ValueKit.rect_emb_unit_val]
    simp
  have e1 : ((kcols h).emb (ix2 x0 x1) 1).val = 256 * h.val + x1.val := by
    rw [ValueKit.rect_emb_unit_val]
    simp
  refine congrArg₂ (fun h i => B.dvh h s i) (Fin.ext ?_) (congrArg₂ ix2 (Fin.ext ?_) (Fin.ext ?_)) <;> simp only [e0, e1] <;> omega

/-- The tiles as the body stores them, last first, cover the whole. -/
def dqTiles : List (View.Piece (Elt F) S512x1024 .bf16) := [⟨cols 3, B.dqh 3⟩, ⟨cols 2, B.dqh 2⟩, ⟨cols 1, B.dqh 1⟩, ⟨cols 0, B.dqh 0⟩]
def dkTiles (s : Vec F S256x1024 .f32) : List (View.Piece (Elt F) S256x1024 .f32) := [⟨kcols 3, B.dkh 3 s⟩, ⟨kcols 2, B.dkh 2 s⟩, ⟨kcols 1, B.dkh 1 s⟩, ⟨kcols 0, B.dkh 0 s⟩]
def dvTiles (s : Vec F S256x1024 .f32) : List (View.Piece (Elt F) S256x1024 .f32) := [⟨kcols 3, B.dvh 3 s⟩, ⟨kcols 2, B.dvh 2 s⟩, ⟨kcols 1, B.dvh 1 s⟩, ⟨kcols 0, B.dvh 0 s⟩]

theorem dq_tiles (L : List (View.Piece (Elt F) S512x1024 .bf16)) : View.canon (B.dqTiles ++ L) = B.dq := by
  funext y
  exact View.canon_append_of_piecesOf B.dq L B.dqTiles ⟨B.dq_emb 3, B.dq_emb 2, B.dq_emb 1, B.dq_emb 0, trivial⟩ y
    (View.cover_of_tiledL B.dqTiles S512x256.size (by sl_kernel_rfl) y)

theorem dk_tiles (s : Vec F S256x1024 .f32) (L : List (View.Piece (Elt F) S256x1024 .f32)) : View.canon (B.dkTiles s ++ L) = B.dk s := by
  funext y
  exact View.canon_append_of_piecesOf (B.dk s) L (B.dkTiles s) ⟨B.dk_emb 3 s, B.dk_emb 2 s, B.dk_emb 1 s, B.dk_emb 0 s, trivial⟩ y
    (View.cover_of_tiledL (B.dkTiles s) S256x256.size (by sl_kernel_rfl) y)

theorem dv_tiles (s : Vec F S256x1024 .f32) (L : List (View.Piece (Elt F) S256x1024 .f32)) : View.canon (B.dvTiles s ++ L) = B.dv s := by
  funext y
  exact View.canon_append_of_piecesOf (B.dv s) L (B.dvTiles s) ⟨B.dv_emb 3 s, B.dv_emb 2 s, B.dv_emb 1 s, B.dv_emb 0 s, trivial⟩ y
    (View.cover_of_tiledL (B.dvTiles s) S256x256.size (by sl_kernel_rfl) y)

/-- The queries' gradient loaded back whole. -/
theorem dq_back {sp : Space} (v : View sig .tc sp S512x1024 .bf16) : v.readCov B.dqTiles (Rect.unit ![0, 0] ![512, 1024] inb_S512x1024_S512x1024_0_0).toLoadRect = B.dq := by
  rw [View.readCov_eq_canon', ← List.append_nil B.dqTiles, dq_tiles]
  funext j
  refine congrArg B.dq (funext fun a => Fin.ext ?_)
  fin_cases a <;> simp

end Block

end Cert.Proof.Cross

end
-- ==== Proof.Cross.Real.lean ====
/- One block of the cross attention's backward pass at real arguments. -/
module

public import proofs.«01_k».proof.Proof.Attention
public import proofs.«01_k».proof.Proof.Swa.Math
public import proofs.«01_k».proof.Proof.Cross.Block

@[expose] public section

set_option maxRecDepth 16384

noncomputable section

namespace Cert.Proof.Cross

open Idealize.ShloMosaic
open Cert.CrossIdeal Cert.CrossIdeal.Gen

/-- The block holds these reals. -/
structure Block.Is (B : Block Ideal) (R : Att.Rows 512) : Prop where
  q : ∀ a x, (B.q (ix2 a x) : EReal) = ((R.q a x : ℝ) : EReal)
  k : ∀ a x, (B.k (ix2 a x) : EReal) = ((R.k a x : ℝ) : EReal)
  v : ∀ a x, (B.v (ix2 a x) : EReal) = ((R.v a x : ℝ) : EReal)
  g : ∀ a x, (B.g (ix2 a x) : EReal) = ((R.g a x : ℝ) : EReal)
  wq : ∀ a x, (B.wq (ix2 a x) : EReal) = ((R.wq a x : ℝ) : EReal)
  wo : ∀ a x, (B.wo (ix2 a x) : EReal) = ((R.wo a x : ℝ) : EReal)
  y : ∀ a x, (B.y (ix2 a x) : EReal) = ((R.y a x : ℝ) : EReal)
  gpost : ∀ x, (B.gpost (ix2 (0 : Fin 1) x) : EReal) = ((R.gpost x : ℝ) : EReal)
  gpre : ∀ x, (B.gpre (ix2 (0 : Fin 1) x) : EReal) = ((R.gpre x : ℝ) : EReal)
  d : ∀ a x, (B.d (ix4 (0 : Fin 1) (0 : Fin 1) a x) : EReal) = ((R.d a x : ℝ) : EReal)
  x : ∀ a x, (B.x (ix4 (0 : Fin 1) (0 : Fin 1) a x) : EReal) = ((R.x a x : ℝ) : EReal)

section Heads

variable (Q G : Fin 512 → Fin 1024 → ℝ) (K V : Fin 256 → Fin 1024 → ℝ) (h : Fin 4)
  (q g : FVec Ideal S512x256 .bf16) (k v : FVec Ideal S256x256 .bf16)

/-- The weights of a head. -/
theorem pay7 (hq : ∀ a d, (q (ix2 a d) : EReal) = ((Q a (Att.col h d) : ℝ) : EReal)) (hk : ∀ κ d, (k (ix2 κ d) : EReal) = ((K κ (Att.col h d) : ℝ) : EReal))
    (a : Fin 512) (κ : Fin 256) : (k0_pay7 (F := Ideal) q k (ix2 a κ) : EReal) = ((Att.weight (Q a) K h κ : ℝ) : EReal) := by
  pointwise [k0_pay7, k0_pay5, k0_pay6]
  simp only [hq, hk, ← EReal.coe_mul, coe_sum, Att.bits_sixteenth, Swa.bits_bot]
  obtain ⟨M, hM⟩ := Swa.fold_max_real (Finset.univ : Finset (Fin 256)) ⟨0, Finset.mem_univ _⟩ fun κ => Att.score (Q a) K h κ
  unfold Att.score at hM
  rw [hM]
  have hp := Att.shifted_pos (Q a) K h M
  have hs := Att.shifted (Q a) K h κ M
  unfold Att.score at hp hs
  simp only [← EReal.coe_sub, Ideal.exp_coe, coe_sum]
  rw [← EReal.coe_one, div_real hp.ne', ← EReal.coe_mul, mul_one_div, hs]

/-- The scores' gradient of a head, before the scale. -/
theorem pay8 (hq : ∀ a d, (q (ix2 a d) : EReal) = ((Q a (Att.col h d) : ℝ) : EReal)) (hk : ∀ κ d, (k (ix2 κ d) : EReal) = ((K κ (Att.col h d) : ℝ) : EReal))
    (hg : ∀ a d, (g (ix2 a d) : EReal) = ((G a (Att.col h d) : ℝ) : EReal)) (hv : ∀ κ d, (v (ix2 κ d) : EReal) = ((V κ (Att.col h d) : ℝ) : EReal))
    (a : Fin 512) (κ : Fin 256) : (k0_pay8 (F := Ideal) q k v g (ix2 a κ) : EReal) = ((Att.pre (Q a) (G a) K V h κ : ℝ) : EReal) := by
  pointwise [k0_pay8]
  simp only [pay7 Q K h q k hq hk, hg, hv, ← EReal.coe_mul, coe_sum, ← EReal.coe_sub]
  rfl

variable (E : Fin 512 → Fin 256 → ℝ) (e p : FVec Ideal S512x256 .f32)

/-- A head's gradient of the queries, -/
theorem pay10 (hk : ∀ κ d, (k (ix2 κ d) : EReal) = ((K κ (Att.col h d) : ℝ) : EReal)) (he : ∀ a κ, (e (ix2 a κ) : EReal) = ((E a κ : ℝ) : EReal))
    (a : Fin 512) (d : Fin 256) : (k0_pay10 (F := Ideal) (k0_pay6 k) e (ix2 a d) : EReal) = ((∑ κ, E a κ * (1 / 16) * K κ (Att.col h d) : ℝ) : EReal) := by
  pointwise [k0_pay10, k0_pay9, k0_pay6]
  simp only [hk, he, ← EReal.coe_mul, coe_sum, Att.bits_sixteenth]

/-- its part of the keys', -/
theorem pay11 (hq : ∀ a d, (q (ix2 a d) : EReal) = ((Q a (Att.col h d) : ℝ) : EReal)) (he : ∀ a κ, (e (ix2 a κ) : EReal) = ((E a κ : ℝ) : EReal))
    (s : FVec Ideal S256x256 .f32) (κ d : Fin 256) :
    (k0_pay11 (F := Ideal) (k0_pay5 q) e s (ix2 κ d) : EReal) = s (ix2 κ d) + ((∑ a, E a κ * (1 / 16) * Q a (Att.col h d) : ℝ) : EReal) := by
  pointwise [k0_pay11, k0_pay9, k0_pay5]
  simp only [hq, he, ← EReal.coe_mul, coe_sum, Att.bits_sixteenth]

/-- and of the values'. -/
theorem pay12 (hg : ∀ a d, (g (ix2 a d) : EReal) = ((G a (Att.col h d) : ℝ) : EReal)) (hp : ∀ a κ, (p (ix2 a κ) : EReal) = ((E a κ : ℝ) : EReal))
    (s : FVec Ideal S256x256 .f32) (κ d : Fin 256) :
    (k0_pay12 (F := Ideal) g p s (ix2 κ d) : EReal) = s (ix2 κ d) + ((∑ a, E a κ * G a (Att.col h d) : ℝ) : EReal) := by
  pointwise [k0_pay12]
  simp only [hg, hp, ← EReal.coe_mul, coe_sum]

end Heads

theorem cols_emb (h : Fin 4) (a : Fin 512) (d : Fin 256) : (cols h).emb (ix2 a d) = ix2 a (Att.col h d) := by
  have e0 : ((cols h).emb (ix2 a d) 0).val = a.val := by
    rw [ValueKit.rect_emb_unit_val]
    simp
  have e1 : ((cols h).emb (ix2 a d) 1).val = 256 * h.val + d.val := by
    rw [ValueKit.rect_emb_unit_val]
    simp
  funext k
  refine Fin.ext ?_
  fin_cases k
  · exact e0
  · exact e1

theorem kcols_emb (h : Fin 4) (a d : Fin 256) : (kcols h).emb (ix2 a d) = ix2 a (Att.col h d) := by
  have e0 : ((kcols h).emb (ix2 a d) 0).val = a.val := by
    rw [ValueKit.rect_emb_unit_val]
    simp
  have e1 : ((kcols h).emb (ix2 a d) 1).val = 256 * h.val + d.val := by
    rw [ValueKit.rect_emb_unit_val]
    simp
  funext k
  refine Fin.ext ?_
  fin_cases k
  · exact e0
  · exact e1

variable {B : Block Ideal} {R : Att.Rows 512} (H : B.Is R)
include H

theorem qh_is (h : Fin 4) (a : Fin 512) (d : Fin 256) : (B.qh h (ix2 a d) : EReal) = ((R.q a (Att.col h d) : ℝ) : EReal) :=
  (congrArg B.q (cols_emb h a d)).trans (H.q a (Att.col h d))
theorem gh_is (h : Fin 4) (a : Fin 512) (d : Fin 256) : (B.gh h (ix2 a d) : EReal) = ((R.g a (Att.col h d) : ℝ) : EReal) :=
  (congrArg B.g (cols_emb h a d)).trans (H.g a (Att.col h d))
theorem kh_is (h : Fin 4) (a d : Fin 256) : (B.kh h (ix2 a d) : EReal) = ((R.k a (Att.col h d) : ℝ) : EReal) :=
  (congrArg B.k (kcols_emb h a d)).trans (H.k a (Att.col h d))
theorem vh_is (h : Fin 4) (a d : Fin 256) : (B.vh h (ix2 a d) : EReal) = ((R.v a (Att.col h d) : ℝ) : EReal) :=
  (congrArg B.v (kcols_emb h a d)).trans (H.v a (Att.col h d))

theorem p_is (h : Fin 4) (a : Fin 512) (κ : Fin 256) : (B.p h (ix2 a κ) : EReal) = ((Att.weight (R.q a) R.k h κ : ℝ) : EReal) :=
  pay7 R.q R.k h _ _ (qh_is H h) (kh_is H h) a κ
theorem e_is (h : Fin 4) (a : Fin 512) (κ : Fin 256) : (B.e h (ix2 a κ) : EReal) = ((Att.pre (R.q a) (R.g a) R.k R.v h κ : ℝ) : EReal) :=
  pay8 R.q R.g R.k R.v h _ _ _ _ (qh_is H h) (kh_is H h) (gh_is H h) (vh_is H h) a κ

/-- The block's gradient of the queries, -/
theorem dq_is (a : Fin 512) (x : Fin 1024) : (B.dq (ix2 a x) : EReal) = ((R.dq a x : ℝ) : EReal) := by
  refine (pay10 R.k (Att.hd x) _ (fun a κ => Att.pre (R.q a) (R.g a) R.k R.v (Att.hd x) κ) _ (kh_is H _) (e_is H _) a (Att.pl x)).trans ?_
  rw [Att.col_hd]
  rfl

/-- its parts of the keys' and of the values', -/
theorem dk_is (s : Vec Ideal S256x1024 .f32) (κ : Fin 256) (x : Fin 1024) : (B.dk s (ix2 κ x) : EReal) = s (ix2 κ x) + ((∑ a, R.dk a x κ : ℝ) : EReal) := by
  refine (pay11 R.q (Att.hd x) _ (fun a κ => Att.pre (R.q a) (R.g a) R.k R.v (Att.hd x) κ) _ (qh_is H _) (e_is H _) _ κ (Att.pl x)).trans ?_
  refine congrArg₂ (fun x y : EReal => x + y) (congrArg s ((kcols_emb (Att.hd x) κ (Att.pl x)).trans (congrArg (ix2 κ) (Att.col_hd x)))) ?_
  rw [Att.col_hd]
  rfl

theorem dv_is (s : Vec Ideal S256x1024 .f32) (κ : Fin 256) (x : Fin 1024) : (B.dv s (ix2 κ x) : EReal) = s (ix2 κ x) + ((∑ a, R.dv a x κ : ℝ) : EReal) := by
  refine (pay12 R.g (Att.hd x) _ (fun a κ => Att.weight (R.q a) R.k (Att.hd x) κ) _ (gh_is H _) (p_is H _) _ κ (Att.pl x)).trans ?_
  refine congrArg₂ (fun x y : EReal => x + y) (congrArg s ((kcols_emb (Att.hd x) κ (Att.pl x)).trans (congrArg (ix2 κ) (Att.col_hd x)))) ?_
  rw [Att.col_hd]
  rfl

/-- what the query projection sends back, -/
theorem duq_is (a : Fin 512) (l : Fin 1024) : (B.duq (ix2 a l) : EReal) = ((R.duq a l : ℝ) : EReal) := by
  pointwise [Block.duq, k0_pay37]
  simp only [dq_is H, H.wq, ← EReal.coe_mul, coe_sum]
  rfl

/-- the two reciprocal roots, -/
theorem pay40_is (a : Fin 512) : (k0_pay40 (F := Ideal) B.x (ix2 a (0 : Fin 1)) : EReal) = ((rs (R.x a) : ℝ) : EReal) := by
  pointwise [k0_pay40, k0_pay39]
  simp only [H.x, ← EReal.coe_mul, coe_sum, bits_1024, bits_eps]
  rw [div_real (by norm_num), ← EReal.coe_add]
  exact rsqrt_real (ms_pos (R.x a))

theorem pay44_is (a : Fin 512) : (k0_pay44 (F := Ideal) B.y (ix2 a (0 : Fin 1)) : EReal) = ((rs (R.y a) : ℝ) : EReal) := by
  pointwise [k0_pay44, k0_pay43]
  simp only [H.y, ← EReal.coe_mul, coe_sum, bits_1024, bits_eps]
  rw [div_real (by norm_num), ← EReal.coe_add]
  exact rsqrt_real (ms_pos (R.y a))

/-- the hidden state's gradient, -/
theorem dh_is (a : Fin 512) (l : Fin 1024) : (B.dhOf B.duq (ix2 a l) : EReal) = ((R.dh a l : ℝ) : EReal) := by
  pointwise [Block.dhOf, k0_pay42, k0_pay38, k0_pay39, k0_pay41]
  simp only [duq_is H, pay40_is H, H.x, H.d, H.gpre, ← EReal.coe_mul, coe_sum, bits_1024]
  rw [div_real (by norm_num), ← EReal.coe_mul, ← EReal.coe_sub, ← EReal.coe_mul, ← EReal.coe_add]
  rfl

theorem pay46_is (a : Fin 512) (l : Fin 1024) : (k0_pay46 (F := Ideal) B.duq (k0_pay38 B.d) B.x B.gpost B.gpre (ix2 a l) : EReal) = ((R.dh a l * R.gpost l : ℝ) : EReal) := by
  have h := dh_is H a l
  unfold Block.dhOf at h
  pointwise [k0_pay46]
  rw [h, H.gpost, ← EReal.coe_mul]

theorem pay47_is (a : Fin 512) : (k0_pay47 (F := Ideal) B.duq (k0_pay38 B.d) B.x B.y B.gpost B.gpre (ix2 a (0 : Fin 1)) : EReal)
    = ((∑ k, R.y a k * rs (R.y a) * (R.dh a k * R.gpost k) : ℝ) : EReal) := by
  pointwise [k0_pay47, k0_pay45, k0_pay43]
  simp only [pay46_is H, pay44_is H, H.y, ← EReal.coe_mul, coe_sum]

/-- the mixer's output's, -/
theorem dyp_is (a : Fin 512) (l : Fin 1024) : (B.dypOf B.duq (ix2 a l) : EReal) = ((R.dy a l : ℝ) : EReal) := by
  pointwise [Block.dypOf, k0_pay49, k0_pay48, k0_pay45, k0_pay43]
  simp only [pay46_is H, pay47_is H, pay44_is H, H.y, ← EReal.coe_mul, bits_1024]
  rw [div_real (by norm_num), ← EReal.coe_mul, ← EReal.coe_sub, ← EReal.coe_mul]
  rfl

/-- what the output projection sends back, -/
theorem dym_is (a : Fin 512) (l : Fin 1024) : (B.dymOf B.duq (ix2 a l) : EReal) = ((R.dym a l : ℝ) : EReal) := by
  have h := dyp_is H a
  unfold Block.dypOf at h
  pointwise [Block.dymOf, k0_pay50]
  simp only [h, H.wo, ← EReal.coe_mul, coe_sum]
  rfl

/-- and its parts of the two gains' gradients: rows of one residue modulo eight, added up. -/
theorem gn_is (s : Vec Ideal S8x1024 .f32) (j : Fin 8) (l : Fin 1024) : (B.gnOf B.duq s (ix2 j l) : EReal)
    = s (ix2 j l) + ((∑ a : Fin 64, (fun r : Fin 512 => R.gn r l) ⟨a.val * 8 + j.val, by omega⟩ : ℝ) : EReal) := by
  pointwise [Block.gnOf, k0_pay51, k0_pay41, k0_pay39]
  simp only [duq_is H, pay40_is H, H.x, ← EReal.coe_mul, coe_sum]
  rfl

theorem gp_is (s : Vec Ideal S8x1024 .f32) (j : Fin 8) (l : Fin 1024) : (B.gpOf B.duq s (ix2 j l) : EReal)
    = s (ix2 j l) + ((∑ a : Fin 64, (fun r : Fin 512 => R.gp r l) ⟨a.val * 8 + j.val, by omega⟩ : ℝ) : EReal) := by
  pointwise [Block.gpOf, k0_pay52, k0_pay45, k0_pay43]
  simp only [dh_is H, pay44_is H, H.y, ← EReal.coe_mul, coe_sum]
  rfl

end Cert.Proof.Cross

end
-- ==== Proof.Cross.Ring.lean ====
module

public import proofs.«01_k».proof.Proof.Gen.CrossIdeal.Skeleton
public import proofs.«01_k».proof.Proof.Gen.CrossIdeal.Frame
public import Idealize.ShloMosaic.Lib.Ring
public import Idealize.ShloMosaic.Lib.Ring.WriteBehind

@[expose] public section

set_option maxRecDepth 16384

noncomputable section

namespace Cert.Proof.Cross

open Cert.CrossIdeal Cert.CrossIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! The ring of the cross attention's backward kernel: two arrays in HBM, the cotangent from above and the saved residual
stream, are copied block by block into three slots of a scratch buffer, two blocks ahead. A slot has two parts, one per
array, each filled by a transfer counted on a semaphore of its own. -/

/-- The scratch buffer with the slots, and the two arrays streamed through it. -/
abbrev buf : Memref sig .tc .vmem S2x3x512x1024 .f32 := Memref.whole cc0_scratch0
abbrev arrA : Memref sig .tc .hbm S4096x1024 .f32 := Memref.whole main_arg9
abbrev arrB : Memref sig .tc .hbm S4096x1024 .f32 := Memref.whole main_v13

/-- What an array in HBM holds, and the array whole at it. -/
abbrev Big (c : Dev nD) (M : Memref sig .tc .hbm S4096x1024 .f32) : Type := Buf (Elt F) (M.view.loc (c : Thread nD τ))
abbrev big (c : Dev nD) (M : Memref sig .tc .hbm S4096x1024 .f32) (f : Big (F := F) c M) : sProp 𝕄 :=
  M.view.loc (c : Thread nD τ) ↦{fullShare} f
abbrev Slots (c : Dev nD) : Type := Buf (Elt F) (buf.view.loc (c : Thread nD τ))

/-- The kernel's six semaphores, in the order of the pool. -/
abbrev sems : Fin 6 → SemLoc sig := fun j => (![SemLoc.dma 24, SemLoc.dma 25, SemLoc.dma 26, SemLoc.dma 27, SemLoc.dma 28, SemLoc.dma 29] : Fin 6 → SemLoc sig) j
theorem sems_own : Pipeline.OwnSemFacts spec0 sems := by decide

/-- A semaphore at zero. -/
abbrev zero (c : Dev nD) (s : SemLoc sig) : sProp 𝕄 := semVal ((c : Thread nD τ), s) 0

theorem sems_zero (c : Dev nD) :
    (Pipeline.ownSems0 (Ix := Unit) (Name := ℕ) (U := Pipeline.UD sig nD τ) (Lvl := ℕ) (Val := Elt F) (τ := τ) sems c : sProp 𝕄)
      = iprop(zero c (SemLoc.dma 24) ∗ zero c (SemLoc.dma 25) ∗ zero c (SemLoc.dma 26) ∗ zero c (SemLoc.dma 27) ∗ zero c (SemLoc.dma 28) ∗ zero c (SemLoc.dma 29)) := by
  rw [Pipeline.ownSems0_eq_of_list c sems [0, 1, 2, 3, 4, 5] (by decide) (by decide)]; rfl

/-- The two arrays, as references: no window's. -/
def streamed : Finset (Ref sig .tc) := {main_arg9, main_v13}
theorem streamed_rest : streamed ⊆ Pipeline.restRefs sig spec0 := by decide

/-- The lines after the region touch neither. -/
theorem tail_avoids : ∀ ops ∈ ([hostOps1] : List (List (HloOp τ sig (Elt F)))), ∀ op ∈ ops,
    op.bufs ⊆ Pipeline.tailRefsBut sig Pipeline.Prefetch.none spec0 streamed := by
  intro ops hops op hop
  simp only [List.mem_cons, List.mem_nil_iff, or_false] at hops
  subst hops
  refine Pipeline.sub_tailRefsBut Pipeline.Prefetch.none spec0 streamed op ((List.forall_iff_forall_mem.mp hostOps1_sub) op hop) (fun j => j.elim0) ?_
  simp only [hostOps1, List.mem_cons, List.mem_nil_iff, or_false] at hop
  rcases hop with rfl | rfl | rfl | rfl | rfl | rfl
  all_goals
    intro b hb
    simp only [streamed, Finset.mem_insert, Finset.mem_singleton] at hb
    rcases hb with rfl | rfl <;>
      simp only [StableHlo.nullary_bufs, StableHlo.unary_bufs, StableHlo.binary_bufs, StableHlo.ternary_bufs, StableHlo.quaternary_bufs, StableHlo.reshape_bufs, Finset.mem_insert, Finset.mem_singleton, not_or] <;>
      and_intros <;> exact StableHlo.devRef_ne_of_ne (by decide)

theorem streamed_held (c : Dev nD) :
    (bigSep streamed (fun b => ((c : Thread nD τ).loc b) ↦{fullShare} V m c b) : sProp 𝕄)
      = iprop(big c arrA (V m c main_arg9) ∗ big c arrB (V m c main_v13)) := by
  rw [BI.bigSep_eq_bigSepL_of_eq [main_arg9, main_v13] (by decide) (by decide)]; rfl

/-- What the launch hands the region beside the windows: the scratch, the generator's register, the semaphores at zero and
    the two arrays. -/
theorem handed_eq (c : Dev nD) :
    (Pipeline.ΦD sems spec0 streamed (V m) c : sProp 𝕄)
      = iprop((∃ d, owns (c : Thread nD τ) buf fullShare d) ∗ (∃ r, prngReg c r)
        ∗ (zero c (SemLoc.dma 24) ∗ zero c (SemLoc.dma 25) ∗ zero c (SemLoc.dma 26) ∗ zero c (SemLoc.dma 27) ∗ zero c (SemLoc.dma 28) ∗ zero c (SemLoc.dma 29))
        ∗ (big c arrA (V m c main_arg9) ∗ big c arrB (V m c main_v13))) := by
  rw [Pipeline.ΦD_eq, scopedRest0_eq, sems_zero, streamed_held]; simp only [owns_whole]; try rfl

/-! The parts, the blocks and the semaphores, named by slot, array and step. -/

instance : NeZero grid0.N := ⟨by rw [N_0]; decide⟩

theorem part_inb (w : Fin 2) (s : Fin 3) : ∀ a, (![w.val, s.val, 0, 0] : Fin 4 → Nat) a + S1x1x512x1024.size a ≤ S2x3x512x1024.size a := by
  have := s.isLt; have := w.isLt; intro a; fin_cases a <;> simp <;> omega
theorem cell_inb (w : Fin 2) (s : Fin 3) : ∀ a, (![w.val, s.val] : Fin 2 → Nat) a + S1x1.size a ≤ S2x3.size a := by
  have := s.isLt; have := w.isLt; intro a; fin_cases a <;> simp <;> omega
theorem rows_inb (b : Fin 8) : ∀ a, (![512 * b.val, 0] : Fin 2 → Nat) a + S512x1024.size a ≤ S4096x1024.size a := by
  have := b.isLt; intro a; fin_cases a <;> simp <;> omega

/-- Part `w` of slot `s`, -/
def part (w : Fin 2) (s : Fin 3) : Memref sig .tc .vmem S512x1024 .f32 :=
  (buf.slice (Rect.unit (s := S2x3x512x1024) ![w.val, s.val, 0, 0] S1x1x512x1024.size (part_inb w s)) (fun _ => rfl)).squeeze S512x1024 squeezes_S1x1x512x1024_S512x1024
/-- block `b` of an array, -/
def rows (M : Memref sig .tc .hbm S4096x1024 .f32) (b : Fin 8) : Memref sig .tc .hbm S512x1024 .f32 :=
  M.slice (Rect.unit (s := S4096x1024) ![512 * b.val, 0] S512x1024.size (rows_inb b)) (fun _ => rfl)
/-- and the semaphore of a part. -/
def cell (w : Fin 2) (s : Fin 3) : DmaSems sig S_ :=
  (cc0_scratch1.slice (Rect.unit (s := S2x3) ![w.val, s.val] S1x1.size (cell_inb w s))).squeeze S_ squeezes_S1x1_S_
abbrev cellAt (w : Fin 2) (s : Fin 3) : SemLoc sig := SemLoc.dma (cell w s).sem

theorem cellAt_eq : ∀ (w : Fin 2) (s : Fin 3), cellAt w s = SemLoc.dma (![![24, 25, 26], ![27, 28, 29]] w s) := by decide

section Families

variable (c : Dev nD) (M : Memref sig .tc .hbm S4096x1024 .f32) (D : Big (F := F) c M) (A : Big (F := F) c arrA) (B : Big (F := F) c arrB)

/-- Each slot borrows from an array by a read share of its own. -/
abbrev share (s : Fin 3) : PosShare TreeShare :=
  if s.val = 0 then fullShare.left else if s.val = 1 then fullShare.right.left else fullShare.right.right

/-- A part held at some contents; a slot as its two parts; the two semaphores of a slot at zero. -/
abbrev partP (w : Fin 2) (s : Fin 3) (e : Slots (F := F) c) : sProp 𝕄 := (part w s).view.loc (c : Thread nD τ) ↦[(part w s).view.set]{fullShare} e
abbrev slotP (s : Fin 3) (f : Fin 2 → Slots (F := F) c) : sProp 𝕄 := iprop(partP c 0 s (f 0) ∗ partP c 1 s (f 1))
abbrev cellP (s : Fin 3) : sProp 𝕄 := iprop(zero (F := F) c (cellAt 0 s) ∗ zero c (cellAt 1 s))
/-- A block of an array by a slot's share, the rest of the array by it, and the whole. -/
abbrev rowsP (s : Fin 3) (b : Fin 8) : sProp 𝕄 := (rows M b).view.loc (c : Thread nD τ) ↦[(rows M b).view.set]{share s} D
def restP (s : Fin 3) (b : Fin 8) : sProp 𝕄 := (M.view.loc (c : Thread nD τ)) ↦[Finset.univ \ (rows M b).view.set]{share s} D
abbrev wholeP (s : Fin 3) : sProp 𝕄 := (M.view.loc (c : Thread nD τ)) ↦[Finset.univ]{share s} D
/-- A part once a block has landed in it, and the flight that brings it there. -/
abbrev landed (w : Fin 2) (s : Fin 3) (b : Fin 8) (f : Slots (F := F) c) : Slots (F := F) c :=
  (part w s).view.writes (Elt F) f [⟨Rect.whole S512x1024, ReadAs.same.apply ((rows M b).view.read (Elt F) D)⟩]
abbrev flightP (w : Fin 2) (s : Fin 3) (b : Fin 8) (f : Slots (F := F) c) : sProp 𝕄 :=
  Transfers.Flight countersEmb (c : Thread nD τ) (cellAt w s) default ((part w s).view.amount (cellAt w s))
    iprop(partP c w s (landed c M D w s b f) ∗ rowsP c M D s b)

/-- The ring's families: a free slot carries its shares of both arrays; a flight, the rests of what it borrowed from. -/
abbrev slotW (s : Fin 3) (f : Fin 2 → Slots (F := F) c) : sProp 𝕄 := iprop(slotP c s f ∗ wholeP c arrA A s ∗ wholeP c arrB B s)
abbrev flightW (s : Fin 3) (b : Fin 8) (f : Fin 2 → Slots (F := F) c) : sProp 𝕄 :=
  iprop((flightP c arrA A 0 s b (f 0) ∗ flightP c arrB B 1 s b (f 1)) ∗ restP c arrA A s b ∗ restP c arrB B s b)
abbrev home (b : Fin 8) : sProp 𝕄 := iprop(emp)
/-- The ring before step `k`: blocks `k` and `k + 1` in flight, the third slot free. -/
def ringAt (k : ℕ) : sProp 𝕄 :=
  if k = 0 then Ring.At₀ (cellP c) (slotW c A B) home else Ring.At 2 (cellP c) (slotW c A B) home (flightW c A B) k
/-- The two parts of a slot after the blocks of a step landed. -/
abbrev landedBoth (s : Fin 3) (b : Fin 8) : Fin 2 → Slots (F := F) c :=
  ![landed c arrA A 0 s b (part 0 s).view.junk, landed c arrB B 1 s b (part 1 s).view.junk]

theorem slotP_pair (s : Fin 3) (a b : Slots (F := F) c) : slotP (F := F) c s ![a, b] = iprop(partP c 0 s a ∗ partP c 1 s b) := rfl
theorem slotP_landed (s : Fin 3) (b : Fin 8) :
    iprop(partP c 0 s (landed c arrA A 0 s b (part 0 s).view.junk) ∗ partP c 1 s (landed c arrB B 1 s b (part 1 s).view.junk))
      ⊢ slotP (F := F) c s (landedBoth c A B s b) :=
  Entails.of_eq (slotP_pair c s (landed c arrA A 0 s b (part 0 s).view.junk) (landed c arrB B 1 s b (part 1 s).view.junk)).symm

end Families

section Share

variable (c : Dev nD)

theorem rowsA_split (D : Big (F := F) c arrA) (s : Fin 3) (b : Fin 8) :
    wholeP (F := F) c arrA D s ⊣⊢ iprop(rowsP c arrA D s b ∗ restP c arrA D s b) := by
  unfold restP; exact pointsTo_split_subset (Finset.subset_univ _)
theorem rowsB_split (D : Big (F := F) c arrB) (s : Fin 3) (b : Fin 8) :
    wholeP (F := F) c arrB D s ⊣⊢ iprop(rowsP c arrB D s b ∗ restP c arrB D s b) := by
  unfold restP; exact pointsTo_split_subset (Finset.subset_univ _)

/-- An array whole is its three shares. -/
theorem shares (M : Memref sig .tc .hbm S4096x1024 .f32) (D : Big (F := F) c M) :
    (big c M D : sProp 𝕄) ⊣⊢ iprop(wholeP c M D 0 ∗ wholeP c M D 1 ∗ wholeP c M D 2) := by
  refine ⟨?_, ?_⟩
  · iintro H
    ihave G := (pointsTo_share (PosShare.mem_left_op_right fullShare)).1 $$ H
    icases G with ⟨H0, R⟩
    ihave G' := (pointsTo_share (PosShare.mem_left_op_right fullShare.right)).1 $$ R
    icases G' with ⟨H1, H2⟩
    isplitl [H0]; · iexact H0
    isplitl [H1]; · iexact H1
    iexact H2
  · iintro ⟨H0, H1, H2⟩
    iapply (pointsTo_share (PosShare.mem_left_op_right fullShare)).2
    isplitl [H0]; · iexact H0
    iapply (pointsTo_share (PosShare.mem_left_op_right fullShare.right)).2
    isplitl [H1]; · iexact H1
    iexact H2

/-! The parts tile the scratch. -/

abbrev boxOff (i : Fin 3 × Fin 2) : Fin 4 → Nat := ![i.2.val, i.1.val, 0, 0]
theorem box_inb (i : Fin 3 × Fin 2) : ∀ a, boxOff i a + S1x1x512x1024.size a ≤ S2x3x512x1024.size a := part_inb i.2 i.1
abbrev box (i : Fin 3 × Fin 2) : Finset S2x3x512x1024.Idx := (Rect.unit (s := S2x3x512x1024) (boxOff i) S1x1x512x1024.size (box_inb i)).set
theorem part_set (w : Fin 2) (s : Fin 3) : (part w s).view.set = box (s, w) := by
  simp only [part, Memref.view_squeeze, View.set_reshape]; exact View.set_slice_whole _ _
def boxOf (v : Fin 4 → ℕ) : Fin 3 × Fin 2 := (Fin.ofNat 3 (v 1), Fin.ofNat 2 (v 0))
theorem boxOf_off : ∀ i : Fin 3 × Fin 2, boxOf (boxOff i) = i := by decide +kernel
theorem boxes_apart (i i' : Fin 3 × Fin 2) (h : i ≠ i') : Disjoint (box i) (box i') :=
  Ring.boxes_disjoint (s := S2x3x512x1024) S1x1x512x1024.size boxOff box_inb boxOff
    (fun i a => by fin_cases a <;> simp [boxOff]) boxOf boxOf_off i i' h
/-- What of the scratch lies outside the parts, at some contents. -/
abbrev spare : sProp 𝕄 := iprop(∃ f : Slots (F := F) c, ((c : Thread nD τ).loc cc0_scratch0) ↦[Finset.univ \ Finset.univ.biUnion box]{fullShare} f)

abbrev piece (i : Fin 3 × Fin 2) (e : Slots (F := F) c) : sProp 𝕄 := (![partP c 0 i.1 e, partP c 1 i.1 e] : Fin 2 → sProp 𝕄) i.2

theorem piece_eq (i : Fin 3 × Fin 2) (e : Slots (F := F) c) : piece c i e = (((c : Thread nD τ).loc cc0_scratch0) ↦[box i]{fullShare} e : sProp 𝕄) := by
  obtain ⟨s, w⟩ := i
  fin_cases w
  · show partP (F := F) c 0 s e = _; unfold partP; rw [part_set]; rfl
  · show partP (F := F) c 1 s e = _; unfold partP; rw [part_set]; rfl

abbrev threeSlots : sProp 𝕄 := iprop((∃ f, slotP (F := F) c 0 f) ∗ (∃ f, slotP (F := F) c 1 f) ∗ ∃ f, slotP (F := F) c 2 f)

theorem pieces_eq : (bigSep Finset.univ (fun i : Fin 3 × Fin 2 => iprop(∃ e, piece (F := F) c i e)) : sProp 𝕄) = threeSlots c := by
  rw [BI.bigSep_univ_prod, Ring.bigSep_fin3]
  have e : ∀ j : Fin 3, (bigSep Finset.univ (fun w : Fin 2 => iprop(∃ e, piece (F := F) c (j, w) e)) : sProp 𝕄) = iprop(∃ f, slotP (F := F) c j f) := fun j => by
    rw [← Ring.bigSep_exists_pi_eq]; unfold slotP
    refine congrArg _ (funext fun f => ?_)
    rw [BI.bigSep_eq_bigSepL_of_eq [0, 1] (by decide) (by decide)]; rfl
  rw [e 0, e 1, e 2]

set_option maxHeartbeats 1000000 in
theorem slots_in : iprop(∃ d, owns (c : Thread nD τ) buf fullShare d) ⊢ (iprop(threeSlots (F := F) c ∗ spare c) : sProp 𝕄) := by
  simp only [owns_whole]
  rw [← pieces_eq c]
  exact Ring.pieces_split_spare (U := Pipeline.UD sig nD τ) (ℓ := (c : Thread nD τ).loc cc0_scratch0) (q := fullShare) box boxes_apart (piece c) (piece_eq c)
set_option maxHeartbeats 1000000 in
theorem slots_out : (iprop(threeSlots (F := F) c ∗ spare c) : sProp 𝕄) ⊢ iprop(∃ d, owns (c : Thread nD τ) buf fullShare d) := by
  simp only [owns_whole]
  rw [← pieces_eq c]
  exact Ring.pieces_join_spare (U := Pipeline.UD sig nD τ) (ℓ := (c : Thread nD τ).loc cc0_scratch0) (q := fullShare) box boxes_apart (piece c) (piece_eq c)

end Share

theorem cellP_eq (c : Dev nD) : cellP (F := F) c 0 = iprop(zero c (SemLoc.dma 24) ∗ zero c (SemLoc.dma 27))
    ∧ cellP (F := F) c 1 = iprop(zero c (SemLoc.dma 25) ∗ zero c (SemLoc.dma 28))
    ∧ cellP (F := F) c 2 = iprop(zero c (SemLoc.dma 26) ∗ zero c (SemLoc.dma 29)) := by
  refine ⟨?_, ?_, ?_⟩ <;> simp only [cellP, cellAt_eq] <;> rfl

abbrev pieces (c : Dev nD) : sProp 𝕄 :=
  iprop((∃ d, owns (c : Thread nD τ) buf fullShare d)
    ∗ (zero c (SemLoc.dma 24) ∗ zero c (SemLoc.dma 25) ∗ zero c (SemLoc.dma 26) ∗ zero c (SemLoc.dma 27) ∗ zero c (SemLoc.dma 28) ∗ zero c (SemLoc.dma 29))
    ∗ (big c arrA (V m c main_arg9) ∗ big c arrB (V m c main_v13)))

/-- What the launch hands is the ring before its first step, -/
theorem ring_in (c : Dev nD) : pieces m c ⊢ iprop(ringAt c (V m c main_arg9) (V m c main_v13) 0 ∗ spare c) := by
  unfold ringAt; rw [if_pos rfl]; unfold Ring.At₀
  rw [Ring.bigSep_fin3]
  simp only [Ring.free, (cellP_eq c).1, (cellP_eq c).2.1, (cellP_eq c).2.2]
  iintro ⟨HS, ⟨Q0, Q1, Q2, Q3, Q4, Q5⟩, HA, HB⟩
  ihave HS' := (slots_in (F := F) c) $$ HS
  icases HS' with ⟨⟨⟨%d0, S0⟩, ⟨%d1, S1⟩, ⟨%d2, S2⟩⟩, HSp⟩
  ihave HA' := (shares (F := F) c arrA (V m c main_arg9)).1 $$ HA
  icases HA' with ⟨A0, A1, A2⟩
  ihave HB' := (shares (F := F) c arrB (V m c main_v13)).1 $$ HB
  icases HB' with ⟨B0, B1, B2⟩
  isplitr [HSp]
  · iapply Ring.with_homes₀
    isplitl [Q0 Q3 S0 A0 B0]
    · isplitl [Q0 Q3]
      · isplitl [Q0]; · iexact Q0
        iexact Q3
      iexists d0; isplitl [S0]; · iexact S0
      isplitl [A0]; · iexact A0
      iexact B0
    isplitl [Q1 Q4 S1 A1 B1]
    · isplitl [Q1 Q4]
      · isplitl [Q1]; · iexact Q1
        iexact Q4
      iexists d1; isplitl [S1]; · iexact S1
      isplitl [A1]; · iexact A1
      iexact B1
    · isplitl [Q2 Q5]
      · isplitl [Q2]; · iexact Q2
        iexact Q5
      iexists d2; isplitl [S2]; · iexact S2
      isplitl [A2]; · iexact A2
      iexact B2
  iexact HSp

/-- and the ring after its last step is that again. -/
theorem ring_out (c : Dev nD) : iprop(ringAt c (V m c main_arg9) (V m c main_v13) 8 ∗ spare c) ⊢ pieces m c := by
  unfold ringAt; rw [if_neg (by decide)]
  iintro ⟨H, HSp⟩
  ihave H' := (Ring.free3_of_At_last _ _ _ _) $$ H
  simp only [Ring.free, (cellP_eq c).1, (cellP_eq c).2.1, (cellP_eq c).2.2]
  icases H' with ⟨-, ⟨⟨Q0, Q3⟩, ⟨%f0, S0, A0, B0⟩⟩, ⟨⟨Q1, Q4⟩, ⟨%f1, S1, A1, B1⟩⟩, ⟨⟨Q2, Q5⟩, ⟨%f2, S2, A2, B2⟩⟩⟩
  isplitl [S0 S1 S2 HSp]
  · iapply (slots_out (F := F) c); isplitl [S0 S1 S2]
    · isplitl [S0]; · iexists f0; iexact S0
      isplitl [S1]; · iexists f1; iexact S1
      iexists f2; iexact S2
    iexact HSp
  isplitl [Q0 Q1 Q2 Q3 Q4 Q5]
  · isplitl [Q0]; · iexact Q0
    isplitl [Q1]; · iexact Q1
    isplitl [Q2]; · iexact Q2
    isplitl [Q3]; · iexact Q3
    isplitl [Q4]; · iexact Q4
    iexact Q5
  isplitl [A0 A1 A2]
  · iapply (shares (F := F) c arrA (V m c main_arg9)).2
    isplitl [A0]; · iexact A0
    isplitl [A1]; · iexact A1
    iexact A2
  · iapply (shares (F := F) c arrB (V m c main_v13)).2
    isplitl [B0]; · iexact B0
    isplitl [B1]; · iexact B1
    iexact B2

/-! The names the body gives its parts, blocks and semaphores, brought to the ring's. -/

/-- The body's first condition: the point is the first. -/
abbrev first (i : grid0.Coords) : Prop := (Scalar.cmpi .ne (Scalar.extui (Scalar.cmpi .eq (BitVec.ofNat 32 (i 0).val) 0#32)) 0#32) = 1#1
/-- The body's second condition: there is a block two steps ahead. -/
abbrev more (i : grid0.Coords) : Prop := k0_cond2 i = 1#1

section Names

omit [FloatOps F]

theorem first_iff : ∀ t : Fin grid0.N, first (grid0.coords t) ↔ t.val = 0 := by decide +kernel
theorem more_iff : ∀ t : Fin grid0.N, more (grid0.coords t) ↔ t.val < 6 := by decide +kernel

theorem part_of {o : Fin 4 → Nat} {w : Fin 2} {s : Fin 3} (h : o = ![w.val, s.val, 0, 0]) (hin : ∀ a, o a + S1x1x512x1024.size a ≤ S2x3x512x1024.size a) :
    (buf.slice (Rect.unit (s := S2x3x512x1024) o S1x1x512x1024.size hin) (fun _ => rfl)).squeeze S512x1024 squeezes_S1x1x512x1024_S512x1024 = part w s :=
  congrArg (fun M : Memref sig .tc .vmem S1x1x512x1024 .f32 => M.squeeze S512x1024 squeezes_S1x1x512x1024_S512x1024) (Memref.slice_unit_congr _ h _ _ (fun _ => rfl) (fun _ => rfl))
theorem cell_of {o : Fin 2 → Nat} {w : Fin 2} {s : Fin 3} (h : o = ![w.val, s.val]) (hin : ∀ a, o a + S1x1.size a ≤ S2x3.size a) :
    (cc0_scratch1.slice (Rect.unit (s := S2x3) o S1x1.size hin)).squeeze S_ squeezes_S1x1_S_ = cell w s :=
  congrArg (fun A : DmaSems sig S1x1 => A.squeeze S_ squeezes_S1x1_S_) (SemArray.slice_unit_congr _ h _ _)
theorem rows_of (M : Memref sig .tc .hbm S4096x1024 .f32) {o : Fin 2 → Nat} {b : Fin 8} (h : o = ![512 * b.val, 0]) (hin : ∀ a, o a + S512x1024.size a ≤ S4096x1024.size a) :
    M.slice (Rect.unit (s := S4096x1024) o S512x1024.size hin) (fun _ => rfl) = rows M b :=
  congrArg (fun M : Memref sig .tc .hbm S512x1024 .f32 => M) (Memref.slice_unit_congr _ h _ _ (fun _ => rfl) (fun _ => rfl))

set_option synthInstance.maxSize 4096

/-! At the first point, the blocks started by number. -/

theorem first_rows0 : ∀ t : Fin grid0.N, first (grid0.coords t) → (![0, 0] : Fin 2 → Nat) = ![512 * (Ring.bk 8 t.val).val, 0] := by decide +kernel
theorem first_part00 : ∀ t : Fin grid0.N, first (grid0.coords t) → (![0, 0, 0, 0] : Fin 4 → Nat) = ![(0 : Fin 2).val, (Ring.sl 3 t.val).val, 0, 0] := by decide +kernel
@[sl_canon] theorem name_part00 (t : Fin grid0.N) (h0 : first (grid0.coords t)) :
    (buf.slice (Rect.unit (s := S2x3x512x1024) ![0, 0, 0, 0] S1x1x512x1024.size inb_S2x3x512x1024_S1x1x512x1024_0_0_0_0) (fun _ => rfl)).squeeze S512x1024 squeezes_S1x1x512x1024_S512x1024 = part 0 (Ring.sl 3 t.val) := part_of (first_part00 t h0) _
@[sl_canon] theorem name_part00' (t : Fin grid0.N) (h0 : first (grid0.coords t)) :
    (buf.slice (Rect.unit (s := S2x3x512x1024) ![0, 0, 0, 0] ![1, 1, 512, 1024] inb_S2x3x512x1024_S1x1x512x1024_0_0_0_0) (fun _ => rfl)).squeeze S512x1024 squeezes_S1x1x512x1024_S512x1024 = part 0 (Ring.sl 3 t.val) := part_of (first_part00 t h0) _
theorem first_cell00 : ∀ t : Fin grid0.N, first (grid0.coords t) → (![0, 0] : Fin 2 → Nat) = ![(0 : Fin 2).val, (Ring.sl 3 t.val).val] := by decide +kernel
@[sl_canon] theorem name_cell00 (t : Fin grid0.N) (h0 : first (grid0.coords t)) :
    (cc0_scratch1.slice (Rect.unit (s := S2x3) ![0, 0] S1x1.size inb_S2x3_S1x1_0_0)).squeeze S_ squeezes_S1x1_S_ = cell 0 (Ring.sl 3 t.val) := cell_of (first_cell00 t h0) _
@[sl_canon] theorem name_cell00' (t : Fin grid0.N) (h0 : first (grid0.coords t)) :
    (cc0_scratch1.slice (Rect.unit (s := S2x3) ![0, 0] ![1, 1] inb_S2x3_S1x1_0_0)).squeeze S_ squeezes_S1x1_S_ = cell 0 (Ring.sl 3 t.val) := cell_of (first_cell00 t h0) _
@[sl_canon] theorem name_rows00 (t : Fin grid0.N) (h0 : first (grid0.coords t)) :
    arrA.slice (Rect.unit (s := S4096x1024) ![0, 0] S512x1024.size inb_S4096x1024_S512x1024_0_0) (fun _ => rfl) = rows arrA (Ring.bk 8 t.val) := rows_of arrA (first_rows0 t h0) _
@[sl_canon] theorem name_rows00' (t : Fin grid0.N) (h0 : first (grid0.coords t)) :
    arrA.slice (Rect.unit (s := S4096x1024) ![0, 0] ![512, 1024] inb_S4096x1024_S512x1024_0_0) (fun _ => rfl) = rows arrA (Ring.bk 8 t.val) := rows_of arrA (first_rows0 t h0) _
theorem first_part10 : ∀ t : Fin grid0.N, first (grid0.coords t) → (![1, 0, 0, 0] : Fin 4 → Nat) = ![(1 : Fin 2).val, (Ring.sl 3 t.val).val, 0, 0] := by decide +kernel
@[sl_canon] theorem name_part10 (t : Fin grid0.N) (h0 : first (grid0.coords t)) :
    (buf.slice (Rect.unit (s := S2x3x512x1024) ![1, 0, 0, 0] S1x1x512x1024.size inb_S2x3x512x1024_S1x1x512x1024_1_0_0_0) (fun _ => rfl)).squeeze S512x1024 squeezes_S1x1x512x1024_S512x1024 = part 1 (Ring.sl 3 t.val) := part_of (first_part10 t h0) _
@[sl_canon] theorem name_part10' (t : Fin grid0.N) (h0 : first (grid0.coords t)) :
    (buf.slice (Rect.unit (s := S2x3x512x1024) ![1, 0, 0, 0] ![1, 1, 512, 1024] inb_S2x3x512x1024_S1x1x512x1024_1_0_0_0) (fun _ => rfl)).squeeze S512x1024 squeezes_S1x1x512x1024_S512x1024 = part 1 (Ring.sl 3 t.val) := part_of (first_part10 t h0) _
theorem first_cell10 : ∀ t : Fin grid0.N, first (grid0.coords t) → (![1, 0] : Fin 2 → Nat) = ![(1 : Fin 2).val, (Ring.sl 3 t.val).val] := by decide +kernel
@[sl_canon] theorem name_cell10 (t : Fin grid0.N) (h0 : first (grid0.coords t)) :
    (cc0_scratch1.slice (Rect.unit (s := S2x3) ![1, 0] S1x1.size inb_S2x3_S1x1_1_0)).squeeze S_ squeezes_S1x1_S_ = cell 1 (Ring.sl 3 t.val) := cell_of (first_cell10 t h0) _
@[sl_canon] theorem name_cell10' (t : Fin grid0.N) (h0 : first (grid0.coords t)) :
    (cc0_scratch1.slice (Rect.unit (s := S2x3) ![1, 0] ![1, 1] inb_S2x3_S1x1_1_0)).squeeze S_ squeezes_S1x1_S_ = cell 1 (Ring.sl 3 t.val) := cell_of (first_cell10 t h0) _
@[sl_canon] theorem name_rows10 (t : Fin grid0.N) (h0 : first (grid0.coords t)) :
    arrB.slice (Rect.unit (s := S4096x1024) ![0, 0] S512x1024.size inb_S4096x1024_S512x1024_0_0) (fun _ => rfl) = rows arrB (Ring.bk 8 t.val) := rows_of arrB (first_rows0 t h0) _
@[sl_canon] theorem name_rows10' (t : Fin grid0.N) (h0 : first (grid0.coords t)) :
    arrB.slice (Rect.unit (s := S4096x1024) ![0, 0] ![512, 1024] inb_S4096x1024_S512x1024_0_0) (fun _ => rfl) = rows arrB (Ring.bk 8 t.val) := rows_of arrB (first_rows0 t h0) _
theorem first_rows1 : ∀ t : Fin grid0.N, first (grid0.coords t) → (![512, 0] : Fin 2 → Nat) = ![512 * (Ring.bk 8 (t.val + 1)).val, 0] := by decide +kernel
theorem first_part01 : ∀ t : Fin grid0.N, first (grid0.coords t) → (![0, 1, 0, 0] : Fin 4 → Nat) = ![(0 : Fin 2).val, (Ring.sl 3 (t.val + 1)).val, 0, 0] := by decide +kernel
@[sl_canon] theorem name_part01 (t : Fin grid0.N) (h0 : first (grid0.coords t)) :
    (buf.slice (Rect.unit (s := S2x3x512x1024) ![0, 1, 0, 0] S1x1x512x1024.size inb_S2x3x512x1024_S1x1x512x1024_0_1_0_0) (fun _ => rfl)).squeeze S512x1024 squeezes_S1x1x512x1024_S512x1024 = part 0 (Ring.sl 3 (t.val + 1)) := part_of (first_part01 t h0) _
@[sl_canon] theorem name_part01' (t : Fin grid0.N) (h0 : first (grid0.coords t)) :
    (buf.slice (Rect.unit (s := S2x3x512x1024) ![0, 1, 0, 0] ![1, 1, 512, 1024] inb_S2x3x512x1024_S1x1x512x1024_0_1_0_0) (fun _ => rfl)).squeeze S512x1024 squeezes_S1x1x512x1024_S512x1024 = part 0 (Ring.sl 3 (t.val + 1)) := part_of (first_part01 t h0) _
theorem first_cell01 : ∀ t : Fin grid0.N, first (grid0.coords t) → (![0, 1] : Fin 2 → Nat) = ![(0 : Fin 2).val, (Ring.sl 3 (t.val + 1)).val] := by decide +kernel
@[sl_canon] theorem name_cell01 (t : Fin grid0.N) (h0 : first (grid0.coords t)) :
    (cc0_scratch1.slice (Rect.unit (s := S2x3) ![0, 1] S1x1.size inb_S2x3_S1x1_0_1)).squeeze S_ squeezes_S1x1_S_ = cell 0 (Ring.sl 3 (t.val + 1)) := cell_of (first_cell01 t h0) _
@[sl_canon] theorem name_cell01' (t : Fin grid0.N) (h0 : first (grid0.coords t)) :
    (cc0_scratch1.slice (Rect.unit (s := S2x3) ![0, 1] ![1, 1] inb_S2x3_S1x1_0_1)).squeeze S_ squeezes_S1x1_S_ = cell 0 (Ring.sl 3 (t.val + 1)) := cell_of (first_cell01 t h0) _
@[sl_canon] theorem name_rows01 (t : Fin grid0.N) (h0 : first (grid0.coords t)) :
    arrA.slice (Rect.unit (s := S4096x1024) ![512, 0] S512x1024.size inb_S4096x1024_S512x1024_512_0) (fun _ => rfl) = rows arrA (Ring.bk 8 (t.val + 1)) := rows_of arrA (first_rows1 t h0) _
@[sl_canon] theorem name_rows01' (t : Fin grid0.N) (h0 : first (grid0.coords t)) :
    arrA.slice (Rect.unit (s := S4096x1024) ![512, 0] ![512, 1024] inb_S4096x1024_S512x1024_512_0) (fun _ => rfl) = rows arrA (Ring.bk 8 (t.val + 1)) := rows_of arrA (first_rows1 t h0) _
theorem first_part11 : ∀ t : Fin grid0.N, first (grid0.coords t) → (![1, 1, 0, 0] : Fin 4 → Nat) = ![(1 : Fin 2).val, (Ring.sl 3 (t.val + 1)).val, 0, 0] := by decide +kernel
@[sl_canon] theorem name_part11 (t : Fin grid0.N) (h0 : first (grid0.coords t)) :
    (buf.slice (Rect.unit (s := S2x3x512x1024) ![1, 1, 0, 0] S1x1x512x1024.size inb_S2x3x512x1024_S1x1x512x1024_1_1_0_0) (fun _ => rfl)).squeeze S512x1024 squeezes_S1x1x512x1024_S512x1024 = part 1 (Ring.sl 3 (t.val + 1)) := part_of (first_part11 t h0) _
@[sl_canon] theorem name_part11' (t : Fin grid0.N) (h0 : first (grid0.coords t)) :
    (buf.slice (Rect.unit (s := S2x3x512x1024) ![1, 1, 0, 0] ![1, 1, 512, 1024] inb_S2x3x512x1024_S1x1x512x1024_1_1_0_0) (fun _ => rfl)).squeeze S512x1024 squeezes_S1x1x512x1024_S512x1024 = part 1 (Ring.sl 3 (t.val + 1)) := part_of (first_part11 t h0) _
theorem first_cell11 : ∀ t : Fin grid0.N, first (grid0.coords t) → (![1, 1] : Fin 2 → Nat) = ![(1 : Fin 2).val, (Ring.sl 3 (t.val + 1)).val] := by decide +kernel
@[sl_canon] theorem name_cell11 (t : Fin grid0.N) (h0 : first (grid0.coords t)) :
    (cc0_scratch1.slice (Rect.unit (s := S2x3) ![1, 1] S1x1.size inb_S2x3_S1x1_1_1)).squeeze S_ squeezes_S1x1_S_ = cell 1 (Ring.sl 3 (t.val + 1)) := cell_of (first_cell11 t h0) _
@[sl_canon] theorem name_cell11' (t : Fin grid0.N) (h0 : first (grid0.coords t)) :
    (cc0_scratch1.slice (Rect.unit (s := S2x3) ![1, 1] ![1, 1] inb_S2x3_S1x1_1_1)).squeeze S_ squeezes_S1x1_S_ = cell 1 (Ring.sl 3 (t.val + 1)) := cell_of (first_cell11 t h0) _
@[sl_canon] theorem name_rows11 (t : Fin grid0.N) (h0 : first (grid0.coords t)) :
    arrB.slice (Rect.unit (s := S4096x1024) ![512, 0] S512x1024.size inb_S4096x1024_S512x1024_512_0) (fun _ => rfl) = rows arrB (Ring.bk 8 (t.val + 1)) := rows_of arrB (first_rows1 t h0) _
@[sl_canon] theorem name_rows11' (t : Fin grid0.N) (h0 : first (grid0.coords t)) :
    arrB.slice (Rect.unit (s := S4096x1024) ![512, 0] ![512, 1024] inb_S4096x1024_S512x1024_512_0) (fun _ => rfl) = rows arrB (Ring.bk 8 (t.val + 1)) := rows_of arrB (first_rows1 t h0) _

/-! The block two steps ahead. -/

theorem ahead_rows : ∀ t : Fin grid0.N, more (grid0.coords t) → k0_off3 (grid0.coords t) = ![512 * (Ring.bk 8 (t.val + 2)).val, 0] := by decide +kernel
theorem ahead_part0 : ∀ t : Fin grid0.N, k0_off2 (grid0.coords t) = ![(0 : Fin 2).val, (Ring.sl 3 (t.val + 2)).val, 0, 0] := by decide +kernel
@[sl_canon] theorem name_ahead_part0 (t : Fin grid0.N) (h1 : more (grid0.coords t)) :
    (buf.slice (Rect.unit (s := S2x3x512x1024) (k0_off2 (grid0.coords t)) S1x1x512x1024.size (k0_off2_inb (grid0.coords t) h1)) (fun _ => rfl)).squeeze S512x1024 squeezes_S1x1x512x1024_S512x1024 = part 0 (Ring.sl 3 (t.val + 2)) := part_of (ahead_part0 t) _
@[sl_canon] theorem name_ahead_part0' (t : Fin grid0.N) (h1 : more (grid0.coords t)) :
    (buf.slice (Rect.unit (s := S2x3x512x1024) (k0_off2 (grid0.coords t)) ![1, 1, 512, 1024] (k0_off2_inb (grid0.coords t) h1)) (fun _ => rfl)).squeeze S512x1024 squeezes_S1x1x512x1024_S512x1024 = part 0 (Ring.sl 3 (t.val + 2)) := part_of (ahead_part0 t) _
theorem ahead_cell0 : ∀ t : Fin grid0.N, k0_off1 (grid0.coords t) = ![(0 : Fin 2).val, (Ring.sl 3 (t.val + 2)).val] := by decide +kernel
@[sl_canon] theorem name_ahead_cell0 (t : Fin grid0.N) (h1 : more (grid0.coords t)) :
    (cc0_scratch1.slice (Rect.unit (s := S2x3) (k0_off1 (grid0.coords t)) S1x1.size (k0_off1_inb (grid0.coords t) h1))).squeeze S_ squeezes_S1x1_S_ = cell 0 (Ring.sl 3 (t.val + 2)) := cell_of (ahead_cell0 t) _
@[sl_canon] theorem name_ahead_cell0' (t : Fin grid0.N) (h1 : more (grid0.coords t)) :
    (cc0_scratch1.slice (Rect.unit (s := S2x3) (k0_off1 (grid0.coords t)) ![1, 1] (k0_off1_inb (grid0.coords t) h1))).squeeze S_ squeezes_S1x1_S_ = cell 0 (Ring.sl 3 (t.val + 2)) := cell_of (ahead_cell0 t) _
@[sl_canon] theorem name_ahead_rows0 (t : Fin grid0.N) (h1 : more (grid0.coords t)) :
    arrA.slice (Rect.unit (s := S4096x1024) (k0_off3 (grid0.coords t)) S512x1024.size (k0_off3_inb (grid0.coords t) h1)) (fun _ => rfl) = rows arrA (Ring.bk 8 (t.val + 2)) := rows_of arrA (ahead_rows t h1) _
@[sl_canon] theorem name_ahead_rows0' (t : Fin grid0.N) (h1 : more (grid0.coords t)) :
    arrA.slice (Rect.unit (s := S4096x1024) (k0_off3 (grid0.coords t)) ![512, 1024] (k0_off3_inb (grid0.coords t) h1)) (fun _ => rfl) = rows arrA (Ring.bk 8 (t.val + 2)) := rows_of arrA (ahead_rows t h1) _
theorem ahead_part1 : ∀ t : Fin grid0.N, k0_off5 (grid0.coords t) = ![(1 : Fin 2).val, (Ring.sl 3 (t.val + 2)).val, 0, 0] := by decide +kernel
@[sl_canon] theorem name_ahead_part1 (t : Fin grid0.N) (h1 : more (grid0.coords t)) :
    (buf.slice (Rect.unit (s := S2x3x512x1024) (k0_off5 (grid0.coords t)) S1x1x512x1024.size (k0_off5_inb (grid0.coords t) h1)) (fun _ => rfl)).squeeze S512x1024 squeezes_S1x1x512x1024_S512x1024 = part 1 (Ring.sl 3 (t.val + 2)) := part_of (ahead_part1 t) _
@[sl_canon] theorem name_ahead_part1' (t : Fin grid0.N) (h1 : more (grid0.coords t)) :
    (buf.slice (Rect.unit (s := S2x3x512x1024) (k0_off5 (grid0.coords t)) ![1, 1, 512, 1024] (k0_off5_inb (grid0.coords t) h1)) (fun _ => rfl)).squeeze S512x1024 squeezes_S1x1x512x1024_S512x1024 = part 1 (Ring.sl 3 (t.val + 2)) := part_of (ahead_part1 t) _
theorem ahead_cell1 : ∀ t : Fin grid0.N, k0_off4 (grid0.coords t) = ![(1 : Fin 2).val, (Ring.sl 3 (t.val + 2)).val] := by decide +kernel
@[sl_canon] theorem name_ahead_cell1 (t : Fin grid0.N) (h1 : more (grid0.coords t)) :
    (cc0_scratch1.slice (Rect.unit (s := S2x3) (k0_off4 (grid0.coords t)) S1x1.size (k0_off4_inb (grid0.coords t) h1))).squeeze S_ squeezes_S1x1_S_ = cell 1 (Ring.sl 3 (t.val + 2)) := cell_of (ahead_cell1 t) _
@[sl_canon] theorem name_ahead_cell1' (t : Fin grid0.N) (h1 : more (grid0.coords t)) :
    (cc0_scratch1.slice (Rect.unit (s := S2x3) (k0_off4 (grid0.coords t)) ![1, 1] (k0_off4_inb (grid0.coords t) h1))).squeeze S_ squeezes_S1x1_S_ = cell 1 (Ring.sl 3 (t.val + 2)) := cell_of (ahead_cell1 t) _
@[sl_canon] theorem name_ahead_rows1 (t : Fin grid0.N) (h1 : more (grid0.coords t)) :
    arrB.slice (Rect.unit (s := S4096x1024) (k0_off3 (grid0.coords t)) S512x1024.size (k0_off3_inb (grid0.coords t) h1)) (fun _ => rfl) = rows arrB (Ring.bk 8 (t.val + 2)) := rows_of arrB (ahead_rows t h1) _
@[sl_canon] theorem name_ahead_rows1' (t : Fin grid0.N) (h1 : more (grid0.coords t)) :
    arrB.slice (Rect.unit (s := S4096x1024) (k0_off3 (grid0.coords t)) ![512, 1024] (k0_off3_inb (grid0.coords t) h1)) (fun _ => rfl) = rows arrB (Ring.bk 8 (t.val + 2)) := rows_of arrB (ahead_rows t h1) _

/-! The block waited for. -/

theorem here_rows : ∀ t : Fin grid0.N, k0_off8 (grid0.coords t) = ![512 * (Ring.bk 8 t.val).val, 0] := by decide +kernel
theorem here_part0 : ∀ t : Fin grid0.N, k0_off7 (grid0.coords t) = ![(0 : Fin 2).val, (Ring.sl 3 t.val).val, 0, 0] := by decide +kernel
@[sl_canon] theorem name_here_part0 (t : Fin grid0.N) :
    (buf.slice (Rect.unit (s := S2x3x512x1024) (k0_off7 (grid0.coords t)) S1x1x512x1024.size (k0_off7_inb (grid0.coords t))) (fun _ => rfl)).squeeze S512x1024 squeezes_S1x1x512x1024_S512x1024 = part 0 (Ring.sl 3 t.val) := part_of (here_part0 t) _
@[sl_canon] theorem name_here_part0' (t : Fin grid0.N) :
    (buf.slice (Rect.unit (s := S2x3x512x1024) (k0_off7 (grid0.coords t)) ![1, 1, 512, 1024] (k0_off7_inb (grid0.coords t))) (fun _ => rfl)).squeeze S512x1024 squeezes_S1x1x512x1024_S512x1024 = part 0 (Ring.sl 3 t.val) := part_of (here_part0 t) _
theorem here_cell0 : ∀ t : Fin grid0.N, k0_off6 (grid0.coords t) = ![(0 : Fin 2).val, (Ring.sl 3 t.val).val] := by decide +kernel
@[sl_canon] theorem name_here_cell0 (t : Fin grid0.N) :
    (cc0_scratch1.slice (Rect.unit (s := S2x3) (k0_off6 (grid0.coords t)) S1x1.size (k0_off6_inb (grid0.coords t)))).squeeze S_ squeezes_S1x1_S_ = cell 0 (Ring.sl 3 t.val) := cell_of (here_cell0 t) _
@[sl_canon] theorem name_here_cell0' (t : Fin grid0.N) :
    (cc0_scratch1.slice (Rect.unit (s := S2x3) (k0_off6 (grid0.coords t)) ![1, 1] (k0_off6_inb (grid0.coords t)))).squeeze S_ squeezes_S1x1_S_ = cell 0 (Ring.sl 3 t.val) := cell_of (here_cell0 t) _
@[sl_canon] theorem name_here_rows0 (t : Fin grid0.N) :
    arrA.slice (Rect.unit (s := S4096x1024) (k0_off8 (grid0.coords t)) S512x1024.size (k0_off8_inb (grid0.coords t))) (fun _ => rfl) = rows arrA (Ring.bk 8 t.val) := rows_of arrA (here_rows t) _
@[sl_canon] theorem name_here_rows0' (t : Fin grid0.N) :
    arrA.slice (Rect.unit (s := S4096x1024) (k0_off8 (grid0.coords t)) ![512, 1024] (k0_off8_inb (grid0.coords t))) (fun _ => rfl) = rows arrA (Ring.bk 8 t.val) := rows_of arrA (here_rows t) _
theorem here_part1 : ∀ t : Fin grid0.N, k0_off10 (grid0.coords t) = ![(1 : Fin 2).val, (Ring.sl 3 t.val).val, 0, 0] := by decide +kernel
@[sl_canon] theorem name_here_part1 (t : Fin grid0.N) :
    (buf.slice (Rect.unit (s := S2x3x512x1024) (k0_off10 (grid0.coords t)) S1x1x512x1024.size (k0_off10_inb (grid0.coords t))) (fun _ => rfl)).squeeze S512x1024 squeezes_S1x1x512x1024_S512x1024 = part 1 (Ring.sl 3 t.val) := part_of (here_part1 t) _
@[sl_canon] theorem name_here_part1' (t : Fin grid0.N) :
    (buf.slice (Rect.unit (s := S2x3x512x1024) (k0_off10 (grid0.coords t)) ![1, 1, 512, 1024] (k0_off10_inb (grid0.coords t))) (fun _ => rfl)).squeeze S512x1024 squeezes_S1x1x512x1024_S512x1024 = part 1 (Ring.sl 3 t.val) := part_of (here_part1 t) _
theorem here_cell1 : ∀ t : Fin grid0.N, k0_off9 (grid0.coords t) = ![(1 : Fin 2).val, (Ring.sl 3 t.val).val] := by decide +kernel
@[sl_canon] theorem name_here_cell1 (t : Fin grid0.N) :
    (cc0_scratch1.slice (Rect.unit (s := S2x3) (k0_off9 (grid0.coords t)) S1x1.size (k0_off9_inb (grid0.coords t)))).squeeze S_ squeezes_S1x1_S_ = cell 1 (Ring.sl 3 t.val) := cell_of (here_cell1 t) _
@[sl_canon] theorem name_here_cell1' (t : Fin grid0.N) :
    (cc0_scratch1.slice (Rect.unit (s := S2x3) (k0_off9 (grid0.coords t)) ![1, 1] (k0_off9_inb (grid0.coords t)))).squeeze S_ squeezes_S1x1_S_ = cell 1 (Ring.sl 3 t.val) := cell_of (here_cell1 t) _
@[sl_canon] theorem name_here_rows1 (t : Fin grid0.N) :
    arrB.slice (Rect.unit (s := S4096x1024) (k0_off8 (grid0.coords t)) S512x1024.size (k0_off8_inb (grid0.coords t))) (fun _ => rfl) = rows arrB (Ring.bk 8 t.val) := rows_of arrB (here_rows t) _
@[sl_canon] theorem name_here_rows1' (t : Fin grid0.N) :
    arrB.slice (Rect.unit (s := S4096x1024) (k0_off8 (grid0.coords t)) ![512, 1024] (k0_off8_inb (grid0.coords t))) (fun _ => rfl) = rows arrB (Ring.bk 8 t.val) := rows_of arrB (here_rows t) _

/-! The boxes the body reads its blocks from. -/

theorem read_part0 : ∀ t : Fin grid0.N, k0_off11 (grid0.coords t) = ![(0 : Fin 2).val, (Ring.sl 3 t.val).val, 0, 0] := by decide +kernel
instance (priority := high) closed0 (t : Fin grid0.N) : ClosedOff (k0_off11 (grid0.coords t)) := ⟨![(0 : Fin 2).val, (Ring.sl 3 t.val).val, 0, 0], read_part0 t⟩
theorem read_part1 : ∀ t : Fin grid0.N, k0_off12 (grid0.coords t) = ![(1 : Fin 2).val, (Ring.sl 3 t.val).val, 0, 0] := by decide +kernel
instance (priority := high) closed1 (t : Fin grid0.N) : ClosedOff (k0_off12 (grid0.coords t)) := ⟨![(1 : Fin 2).val, (Ring.sl 3 t.val).val, 0, 0], read_part1 t⟩

end Names

end Cert.Proof.Cross

end
-- ==== Proof.Cross.Run.lean ====
module

public import proofs.«01_k».proof.Proof.Cross.Ring

@[expose] public section

set_option maxRecDepth 16384

noncomputable section

namespace Cert.Proof.Cross

open Cert.CrossIdeal Cert.CrossIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! One run of the body of the cross attention's backward kernel in each of its three cases: the first block of rows, a
later block with one more two steps ahead, and the last two blocks, ahead of which there is none. -/

variable (c : Dev nD) (t : Fin cfg0.N)
  (arg1 : Memref sig .tc .vmem S512x1024 .bf16) (harg1 : arg1.IsWhole)
  (arg2 : Memref sig .tc .vmem S256x1024 .bf16) (harg2 : arg2.IsWhole)
  (arg3 : Memref sig .tc .vmem S256x1024 .bf16) (harg3 : arg3.IsWhole)
  (arg4 : Memref sig .tc .vmem S512x1024 .bf16) (harg4 : arg4.IsWhole)
  (arg5 : Memref sig .tc .vmem S1024x1024 .bf16) (harg5 : arg5.IsWhole)
  (arg6 : Memref sig .tc .vmem S1024x1024 .bf16) (harg6 : arg6.IsWhole)
  (arg9 : Memref sig .tc .vmem S512x1024 .bf16) (harg9 : arg9.IsWhole)
  (arg10 : Memref sig .tc .vmem S1x1024 .f32) (harg10 : arg10.IsWhole)
  (arg11 : Memref sig .tc .vmem S1x1024 .f32) (harg11 : arg11.IsWhole)
  (arg12 : Memref sig .tc .vmem S512x1024 .bf16) (harg12 : arg12.IsWhole)
  (arg13 : Memref sig .tc .vmem S256x1024 .f32) (harg13 : arg13.IsWhole)
  (arg14 : Memref sig .tc .vmem S256x1024 .f32) (harg14 : arg14.IsWhole)
  (arg15 : Memref sig .tc .vmem S512x1024 .f32) (harg15 : arg15.IsWhole)
  (arg16 : Memref sig .tc .vmem S512x1024 .bf16) (harg16 : arg16.IsWhole)
  (arg17 : Memref sig .tc .vmem S512x1024 .bf16) (harg17 : arg17.IsWhole)
  (arg18 : Memref sig .tc .vmem S8x1024 .f32) (harg18 : arg18.IsWhole)
  (arg19 : Memref sig .tc .vmem S8x1024 .f32) (harg19 : arg19.IsWhole)
  (x0 : Vec F S512x1024 .bf16) (x1 : Vec F S256x1024 .bf16) (x2 : Vec F S256x1024 .bf16) (x3 : Vec F S512x1024 .bf16) (x4 : Vec F S1024x1024 .bf16) (x5 : Vec F S1024x1024 .bf16) (x6 : Vec F S512x1024 .bf16) (x7 : Vec F S1x1024 .f32) (x8 : Vec F S1x1024 .f32)
  (A : Big (F := F) c arrA) (B : Big (F := F) c arrB)

/-- The nine inputs' memrefs, each whole at its contents. -/
def ins : sProp 𝕄 :=
  iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg9 fullShare x6 ∗ owns (c : Thread nD τ) arg10 fullShare x7 ∗ owns (c : Thread nD τ) arg11 fullShare x8)

/-- A memref after written pieces, over anything. -/
abbrev wrote {s : Shape} {e : EltTy} (M : Memref sig .tc .vmem s e) (L : List (View.Piece (Elt F) s e)) : sProp 𝕄 :=
  iprop(∃ f, M.view.loc (c : Thread nD τ) ↦[M.view.set]{fullShare} M.view.writes (Elt F) f L)

-- the run of a body of this size takes more steps than the default allows
set_option maxHeartbeats 4000000 in
/-- The first block: the two accumulated gradients and the two sums start from zero, and the copies of the first three
blocks are started. What each buffer holds at the end is a list of written pieces, found by the run itself. -/
def runA (h0 : first (grid0.coords t)) (h1 : more (grid0.coords t))  :
    Σ' (L12 : List (View.Piece (Elt F) S512x1024 .bf16)), Σ' (L13 : List (View.Piece (Elt F) S256x1024 .f32)), Σ' (L14 : List (View.Piece (Elt F) S256x1024 .f32)), Σ' (L15 : List (View.Piece (Elt F) S512x1024 .f32)), Σ' (L16 : List (View.Piece (Elt F) S512x1024 .bf16)), Σ' (L17 : List (View.Piece (Elt F) S512x1024 .bf16)), Σ' (L18 : List (View.Piece (Elt F) S8x1024 .f32)), { L19 : List (View.Piece (Elt F) S8x1024 .f32) //
      ∀ (W : Waits sig Unit) (K : PUnit → sProp 𝕄),
        iprop(ins c arg1 arg2 arg3 arg4 arg5 arg6 arg9 arg10 arg11 x0 x1 x2 x3 x4 x5 x6 x7 x8
            ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)
            ∗ Ring.free (cellP c) (slotW c A B) (Ring.sl 3 t.val) ∗ Ring.free (cellP c) (slotW c A B) (Ring.sl 3 (t.val + 1)) ∗ Ring.free (cellP c) (slotW c A B) (Ring.sl 3 (t.val + 2)) ∗ owes (c : Thread nD τ) 0 W
            ∗ (iprop(ins c arg1 arg2 arg3 arg4 arg5 arg6 arg9 arg10 arg11 x0 x1 x2 x3 x4 x5 x6 x7 x8
              ∗ wrote c arg12 L12 ∗ wrote c arg13 L13 ∗ wrote c arg14 L14 ∗ wrote c arg15 L15 ∗ wrote c arg16 L16 ∗ wrote c arg17 L17 ∗ wrote c arg18 L18 ∗ wrote c arg19 L19
              ∗ Ring.inflight (flightW c A B) (Ring.sl 3 (t.val + 1)) (Ring.bk 8 (t.val + 1)) ∗ Ring.inflight (flightW c A B) (Ring.sl 3 (t.val + 2)) (Ring.bk 8 (t.val + 2)) ∗ Ring.free (cellP c) (slotW c A B) (Ring.sl 3 t.val) ∗ (∃ W', owes (c : Thread nD τ) 0 W')) -∗ K ⟨⟩))
          ⊢ wp frame (wpE (defs₀ (F := F)) Variants.none c none) Set.univ (cc0_xattn_bwd (grid0.coords t) arg1 harg1 arg2 harg2 arg3 harg3 arg4 harg4 arg5 harg5 arg6 harg6 arrA (Memref.isWhole_whole _) arrB (Memref.isWhole_whole _) arg9 harg9 arg10 harg10 arg11 harg11 arg12 harg12 arg13 harg13 arg14 harg14 arg15 harg15 arg16 harg16 arg17 harg17 arg18 harg18 arg19 harg19 buf (Memref.isWhole_whole _) cc0_scratch1) K } := by
  refine ⟨?_, ?_, ?_, ?_, ?_, ?_, ?_, ?_, fun W K => ?run⟩
  case run =>
    haveI : Fact (first (grid0.coords t)) := ⟨h0⟩
    haveI : Fact (more (grid0.coords t)) := ⟨h1⟩
    simp only [cc0_xattn_bwd_eq_skeleton]; unfold cc0_xattn_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
    unfold ins owns Ring.free
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩⟩, ⟨%d12, %g12, -, G12⟩, ⟨%d13, %g13, -, G13⟩, ⟨%d14, %g14, -, G14⟩, ⟨%d15, %g15, -, G15⟩, ⟨%d16, %g16, -, G16⟩, ⟨%d17, %g17, -, G17⟩, ⟨%d18, %g18, -, G18⟩, ⟨%d19, %g19, -, G19⟩, ⟨⟨P0, Q0⟩, ⟨%e0, ⟨S0, T0⟩, U0, V0⟩⟩, ⟨⟨P1, Q1⟩, ⟨%e1, ⟨S1, T1⟩, U1, V1⟩⟩, ⟨⟨P2, Q2⟩, ⟨%e2, ⟨S2, T2⟩, U2, V2⟩⟩, HW, Hk⟩
    ihave ZU0 := (rowsA_split c A (Ring.sl 3 t.val) (Ring.bk 8 t.val)).1 $$ U0
    icases ZU0 with ⟨YU0, R0⟩
    ihave ZV0 := (rowsB_split c B (Ring.sl 3 t.val) (Ring.bk 8 t.val)).1 $$ V0
    icases ZV0 with ⟨YV0, X0⟩
    ihave ZU1 := (rowsA_split c A (Ring.sl 3 (t.val + 1)) (Ring.bk 8 (t.val + 1))).1 $$ U1
    icases ZU1 with ⟨YU1, R1⟩
    ihave ZV1 := (rowsB_split c B (Ring.sl 3 (t.val + 1)) (Ring.bk 8 (t.val + 1))).1 $$ V1
    icases ZV1 with ⟨YV1, X1⟩
    ihave ZU2 := (rowsA_split c A (Ring.sl 3 (t.val + 2)) (Ring.bk 8 (t.val + 2))).1 $$ U2
    icases ZU2 with ⟨YU2, R2⟩
    ihave ZV2 := (rowsB_split c B (Ring.sl 3 (t.val + 2)) (Ring.bk 8 (t.val + 2))).1 $$ V2
    icases ZV2 with ⟨YV2, X2⟩
    obtain rfl := harg1.eq_unread hf0
    obtain rfl := harg2.eq_unread hf1
    obtain rfl := harg3.eq_unread hf2
    obtain rfl := harg4.eq_unread hf3
    obtain rfl := harg5.eq_unread hf4
    obtain rfl := harg6.eq_unread hf5
    obtain rfl := harg9.eq_unread hf6
    obtain rfl := harg10.eq_unread hf7
    obtain rfl := harg11.eq_unread hf8
    sl_exec (disch := first | sl_exact h0 | sl_exact h1)
    sl_step
    iapply Hk
    isplitl [H0 H1 H2 H3 H4 H5 H6 H7 H8]
    · isplitl [H0]
      · iexists _; isplitr; · ipureintro; exact harg1.read_unread _
        iexact H0
      isplitl [H1]
      · iexists _; isplitr; · ipureintro; exact harg2.read_unread _
        iexact H1
      isplitl [H2]
      · iexists _; isplitr; · ipureintro; exact harg3.read_unread _
        iexact H2
      isplitl [H3]
      · iexists _; isplitr; · ipureintro; exact harg4.read_unread _
        iexact H3
      isplitl [H4]
      · iexists _; isplitr; · ipureintro; exact harg5.read_unread _
        iexact H4
      isplitl [H5]
      · iexists _; isplitr; · ipureintro; exact harg6.read_unread _
        iexact H5
      isplitl [H6]
      · iexists _; isplitr; · ipureintro; exact harg9.read_unread _
        iexact H6
      isplitl [H7]
      · iexists _; isplitr; · ipureintro; exact harg10.read_unread _
        iexact H7
      iexists _; isplitr; · ipureintro; exact harg11.read_unread _
      iexact H8
    isplitl [G12]; · iexists _; iexact G12
    isplitl [G13]; · iexists _; iexact G13
    isplitl [G14]; · iexists _; iexact G14
    isplitl [G15]; · iexists _; iexact G15
    isplitl [G16]; · iexists _; iexact G16
    isplitl [G17]; · iexists _; iexact G17
    isplitl [G18]; · iexists _; iexact G18
    isplitl [G19]; · iexists _; iexact G19
    isplitl [P1 Q1 R1 X1]
    · iexists e1; isplitl [P1 Q1]
      · isplitl [P1]; · iexact P1
        iexact Q1
      isplitl [R1]; · iexact R1
      iexact X1
    isplitl [P2 Q2 R2 X2]
    · iexists e2; isplitl [P2 Q2]
      · isplitl [P2]; · iexact P2
        iexact Q2
      isplitl [R2]; · iexact R2
      iexact X2
    isplitl [P0 Q0 S0 T0 YU0 YV0 R0 X0]
    · isplitl [P0 Q0]
      · isplitl [P0]; · iexact P0
        iexact Q0
      iexists (landedBoth c A B (Ring.sl 3 t.val) (Ring.bk 8 t.val)); isplitl [S0 T0]
      · iapply (slotP_landed c A B (Ring.sl 3 t.val) (Ring.bk 8 t.val))
        isplitl [S0]; · iexact S0
        iexact T0
      isplitl [YU0 R0]
      · iapply (rowsA_split c A (Ring.sl 3 t.val) (Ring.bk 8 t.val)).2; isplitl [YU0]; · iexact YU0
        iexact R0
      iapply (rowsB_split c B (Ring.sl 3 t.val) (Ring.bk 8 t.val)).2; isplitl [YV0]; · iexact YV0
      iexact X0
    iexists _; iexact HW

-- the run of a body of this size takes more steps than the default allows
set_option maxHeartbeats 4000000 in
/-- A later block: the accumulated buffers are read as the point before left them, and the copy two steps ahead is started. -/
def runB (h0 : ¬first (grid0.coords t)) (h1 : more (grid0.coords t)) (y13 : Vec F S256x1024 .f32) (y14 : Vec F S256x1024 .f32) (y18 : Vec F S8x1024 .f32) (y19 : Vec F S8x1024 .f32) :
    Σ' (L12 : List (View.Piece (Elt F) S512x1024 .bf16)), Σ' (L13 : List (View.Piece (Elt F) S256x1024 .f32)), Σ' (L14 : List (View.Piece (Elt F) S256x1024 .f32)), Σ' (L15 : List (View.Piece (Elt F) S512x1024 .f32)), Σ' (L16 : List (View.Piece (Elt F) S512x1024 .bf16)), Σ' (L17 : List (View.Piece (Elt F) S512x1024 .bf16)), Σ' (L18 : List (View.Piece (Elt F) S8x1024 .f32)), { L19 : List (View.Piece (Elt F) S8x1024 .f32) //
      ∀ (W : Waits sig Unit) (K : PUnit → sProp 𝕄),
        iprop(ins c arg1 arg2 arg3 arg4 arg5 arg6 arg9 arg10 arg11 x0 x1 x2 x3 x4 x5 x6 x7 x8
            ∗ (∃ d, owns (c : Thread nD τ) arg12 fullShare d) ∗ owns (c : Thread nD τ) arg13 fullShare y13 ∗ owns (c : Thread nD τ) arg14 fullShare y14 ∗ (∃ d, owns (c : Thread nD τ) arg15 fullShare d) ∗ (∃ d, owns (c : Thread nD τ) arg16 fullShare d) ∗ (∃ d, owns (c : Thread nD τ) arg17 fullShare d) ∗ owns (c : Thread nD τ) arg18 fullShare y18 ∗ owns (c : Thread nD τ) arg19 fullShare y19
            ∗ Ring.inflight (flightW c A B) (Ring.sl 3 t.val) (Ring.bk 8 t.val) ∗ Ring.inflight (flightW c A B) (Ring.sl 3 (t.val + 1)) (Ring.bk 8 (t.val + 1)) ∗ Ring.free (cellP c) (slotW c A B) (Ring.sl 3 (t.val + 2)) ∗ owes (c : Thread nD τ) 0 W
            ∗ (iprop(ins c arg1 arg2 arg3 arg4 arg5 arg6 arg9 arg10 arg11 x0 x1 x2 x3 x4 x5 x6 x7 x8
              ∗ wrote c arg12 L12 ∗ wrote c arg13 L13 ∗ wrote c arg14 L14 ∗ wrote c arg15 L15 ∗ wrote c arg16 L16 ∗ wrote c arg17 L17 ∗ wrote c arg18 L18 ∗ wrote c arg19 L19
              ∗ Ring.inflight (flightW c A B) (Ring.sl 3 (t.val + 1)) (Ring.bk 8 (t.val + 1)) ∗ Ring.inflight (flightW c A B) (Ring.sl 3 (t.val + 2)) (Ring.bk 8 (t.val + 2)) ∗ Ring.free (cellP c) (slotW c A B) (Ring.sl 3 t.val) ∗ (∃ W', owes (c : Thread nD τ) 0 W')) -∗ K ⟨⟩))
          ⊢ wp frame (wpE (defs₀ (F := F)) Variants.none c none) Set.univ (cc0_xattn_bwd (grid0.coords t) arg1 harg1 arg2 harg2 arg3 harg3 arg4 harg4 arg5 harg5 arg6 harg6 arrA (Memref.isWhole_whole _) arrB (Memref.isWhole_whole _) arg9 harg9 arg10 harg10 arg11 harg11 arg12 harg12 arg13 harg13 arg14 harg14 arg15 harg15 arg16 harg16 arg17 harg17 arg18 harg18 arg19 harg19 buf (Memref.isWhole_whole _) cc0_scratch1) K } := by
  refine ⟨?_, ?_, ?_, ?_, ?_, ?_, ?_, ?_, fun W K => ?run⟩
  case run =>
    haveI : Fact (¬first (grid0.coords t)) := ⟨h0⟩
    haveI : Fact (more (grid0.coords t)) := ⟨h1⟩
    simp only [cc0_xattn_bwd_eq_skeleton]; unfold cc0_xattn_bwd_skel
    simp only [k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
    unfold ins owns Ring.free Ring.inflight
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩⟩, ⟨%d12, %g12, -, G12⟩, ⟨%g13, %hg13, G13⟩, ⟨%g14, %hg14, G14⟩, ⟨%d15, %g15, -, G15⟩, ⟨%d16, %g16, -, G16⟩, ⟨%d17, %g17, -, G17⟩, ⟨%g18, %hg18, G18⟩, ⟨%g19, %hg19, G19⟩, ⟨%e0, ⟨P0, Q0⟩, R0, X0⟩, ⟨%e1, ⟨P1, Q1⟩, R1, X1⟩, ⟨⟨P2, Q2⟩, ⟨%e2, ⟨S2, T2⟩, U2, V2⟩⟩, HW, Hk⟩
    ihave ZU2 := (rowsA_split c A (Ring.sl 3 (t.val + 2)) (Ring.bk 8 (t.val + 2))).1 $$ U2
    icases ZU2 with ⟨YU2, R2⟩
    ihave ZV2 := (rowsB_split c B (Ring.sl 3 (t.val + 2)) (Ring.bk 8 (t.val + 2))).1 $$ V2
    icases ZV2 with ⟨YV2, X2⟩
    obtain rfl := harg1.eq_unread hf0
    obtain rfl := harg2.eq_unread hf1
    obtain rfl := harg3.eq_unread hf2
    obtain rfl := harg4.eq_unread hf3
    obtain rfl := harg5.eq_unread hf4
    obtain rfl := harg6.eq_unread hf5
    obtain rfl := harg9.eq_unread hf6
    obtain rfl := harg10.eq_unread hf7
    obtain rfl := harg11.eq_unread hf8
    obtain rfl := harg13.eq_unread hg13
    obtain rfl := harg14.eq_unread hg14
    obtain rfl := harg18.eq_unread hg18
    obtain rfl := harg19.eq_unread hg19
    sl_exec (disch := first | sl_exact h0 | sl_exact h1)
    sl_step
    iapply Hk
    isplitl [H0 H1 H2 H3 H4 H5 H6 H7 H8]
    · isplitl [H0]
      · iexists _; isplitr; · ipureintro; exact harg1.read_unread _
        iexact H0
      isplitl [H1]
      · iexists _; isplitr; · ipureintro; exact harg2.read_unread _
        iexact H1
      isplitl [H2]
      · iexists _; isplitr; · ipureintro; exact harg3.read_unread _
        iexact H2
      isplitl [H3]
      · iexists _; isplitr; · ipureintro; exact harg4.read_unread _
        iexact H3
      isplitl [H4]
      · iexists _; isplitr; · ipureintro; exact harg5.read_unread _
        iexact H4
      isplitl [H5]
      · iexists _; isplitr; · ipureintro; exact harg6.read_unread _
        iexact H5
      isplitl [H6]
      · iexists _; isplitr; · ipureintro; exact harg9.read_unread _
        iexact H6
      isplitl [H7]
      · iexists _; isplitr; · ipureintro; exact harg10.read_unread _
        iexact H7
      iexists _; isplitr; · ipureintro; exact harg11.read_unread _
      iexact H8
    isplitl [G12]; · iexists _; iexact G12
    isplitl [G13]; · iexists _; iexact G13
    isplitl [G14]; · iexists _; iexact G14
    isplitl [G15]; · iexists _; iexact G15
    isplitl [G16]; · iexists _; iexact G16
    isplitl [G17]; · iexists _; iexact G17
    isplitl [G18]; · iexists _; iexact G18
    isplitl [G19]; · iexists _; iexact G19
    isplitl [P1 Q1 R1 X1]
    · iexists e1; isplitl [P1 Q1]
      · isplitl [P1]; · iexact P1
        iexact Q1
      isplitl [R1]; · iexact R1
      iexact X1
    isplitl [P2 Q2 R2 X2]
    · iexists e2; isplitl [P2 Q2]
      · isplitl [P2]; · iexact P2
        iexact Q2
      isplitl [R2]; · iexact R2
      iexact X2
    isplitl [P0 Q0 P0_dst Q0_dst P0_src Q0_src R0 X0]
    · isplitl [P0 Q0]
      · isplitl [P0]; · iexact P0
        iexact Q0
      iexists (landedBoth c A B (Ring.sl 3 t.val) (Ring.bk 8 t.val)); isplitl [P0_dst Q0_dst]
      · iapply (slotP_landed c A B (Ring.sl 3 t.val) (Ring.bk 8 t.val))
        isplitl [P0_dst]; · iexact P0_dst
        iexact Q0_dst
      isplitl [P0_src R0]
      · iapply (rowsA_split c A (Ring.sl 3 t.val) (Ring.bk 8 t.val)).2; isplitl [P0_src]; · iexact P0_src
        iexact R0
      iapply (rowsB_split c B (Ring.sl 3 t.val) (Ring.bk 8 t.val)).2; isplitl [Q0_src]; · iexact Q0_src
      iexact X0
    iexists _; iexact HW

-- the run of a body of this size takes more steps than the default allows
set_option maxHeartbeats 4000000 in
/-- The last two blocks: no copy is started. -/
def runC (h0 : ¬first (grid0.coords t)) (h1 : ¬more (grid0.coords t)) (y13 : Vec F S256x1024 .f32) (y14 : Vec F S256x1024 .f32) (y18 : Vec F S8x1024 .f32) (y19 : Vec F S8x1024 .f32) :
    Σ' (L12 : List (View.Piece (Elt F) S512x1024 .bf16)), Σ' (L13 : List (View.Piece (Elt F) S256x1024 .f32)), Σ' (L14 : List (View.Piece (Elt F) S256x1024 .f32)), Σ' (L15 : List (View.Piece (Elt F) S512x1024 .f32)), Σ' (L16 : List (View.Piece (Elt F) S512x1024 .bf16)), Σ' (L17 : List (View.Piece (Elt F) S512x1024 .bf16)), Σ' (L18 : List (View.Piece (Elt F) S8x1024 .f32)), { L19 : List (View.Piece (Elt F) S8x1024 .f32) //
      ∀ (W : Waits sig Unit) (K : PUnit → sProp 𝕄),
        iprop(ins c arg1 arg2 arg3 arg4 arg5 arg6 arg9 arg10 arg11 x0 x1 x2 x3 x4 x5 x6 x7 x8
            ∗ (∃ d, owns (c : Thread nD τ) arg12 fullShare d) ∗ owns (c : Thread nD τ) arg13 fullShare y13 ∗ owns (c : Thread nD τ) arg14 fullShare y14 ∗ (∃ d, owns (c : Thread nD τ) arg15 fullShare d) ∗ (∃ d, owns (c : Thread nD τ) arg16 fullShare d) ∗ (∃ d, owns (c : Thread nD τ) arg17 fullShare d) ∗ owns (c : Thread nD τ) arg18 fullShare y18 ∗ owns (c : Thread nD τ) arg19 fullShare y19
            ∗ Ring.inflight (flightW c A B) (Ring.sl 3 t.val) (Ring.bk 8 t.val) ∗ Ring.free (cellP c) (slotW c A B) (Ring.sl 3 (t.val + 2)) ∗ owes (c : Thread nD τ) 0 W
            ∗ (iprop(ins c arg1 arg2 arg3 arg4 arg5 arg6 arg9 arg10 arg11 x0 x1 x2 x3 x4 x5 x6 x7 x8
              ∗ wrote c arg12 L12 ∗ wrote c arg13 L13 ∗ wrote c arg14 L14 ∗ wrote c arg15 L15 ∗ wrote c arg16 L16 ∗ wrote c arg17 L17 ∗ wrote c arg18 L18 ∗ wrote c arg19 L19
              ∗ Ring.free (cellP c) (slotW c A B) (Ring.sl 3 (t.val + 2)) ∗ Ring.free (cellP c) (slotW c A B) (Ring.sl 3 t.val) ∗ (∃ W', owes (c : Thread nD τ) 0 W')) -∗ K ⟨⟩))
          ⊢ wp frame (wpE (defs₀ (F := F)) Variants.none c none) Set.univ (cc0_xattn_bwd (grid0.coords t) arg1 harg1 arg2 harg2 arg3 harg3 arg4 harg4 arg5 harg5 arg6 harg6 arrA (Memref.isWhole_whole _) arrB (Memref.isWhole_whole _) arg9 harg9 arg10 harg10 arg11 harg11 arg12 harg12 arg13 harg13 arg14 harg14 arg15 harg15 arg16 harg16 arg17 harg17 arg18 harg18 arg19 harg19 buf (Memref.isWhole_whole _) cc0_scratch1) K } := by
  refine ⟨?_, ?_, ?_, ?_, ?_, ?_, ?_, ?_, fun W K => ?run⟩
  case run =>
    haveI : Fact (¬first (grid0.coords t)) := ⟨h0⟩
    haveI : Fact (¬more (grid0.coords t)) := ⟨h1⟩
    simp only [cc0_xattn_bwd_eq_skeleton]; unfold cc0_xattn_bwd_skel
    simp only [k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
    unfold ins owns Ring.free Ring.inflight
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩⟩, ⟨%d12, %g12, -, G12⟩, ⟨%g13, %hg13, G13⟩, ⟨%g14, %hg14, G14⟩, ⟨%d15, %g15, -, G15⟩, ⟨%d16, %g16, -, G16⟩, ⟨%d17, %g17, -, G17⟩, ⟨%g18, %hg18, G18⟩, ⟨%g19, %hg19, G19⟩, ⟨%e0, ⟨P0, Q0⟩, R0, X0⟩, ⟨⟨P2, Q2⟩, ⟨%e2, ⟨S2, T2⟩, U2, V2⟩⟩, HW, Hk⟩
    obtain rfl := harg1.eq_unread hf0
    obtain rfl := harg2.eq_unread hf1
    obtain rfl := harg3.eq_unread hf2
    obtain rfl := harg4.eq_unread hf3
    obtain rfl := harg5.eq_unread hf4
    obtain rfl := harg6.eq_unread hf5
    obtain rfl := harg9.eq_unread hf6
    obtain rfl := harg10.eq_unread hf7
    obtain rfl := harg11.eq_unread hf8
    obtain rfl := harg13.eq_unread hg13
    obtain rfl := harg14.eq_unread hg14
    obtain rfl := harg18.eq_unread hg18
    obtain rfl := harg19.eq_unread hg19
    sl_exec (disch := first | sl_exact h0 | sl_exact h1)
    sl_step
    iapply Hk
    isplitl [H0 H1 H2 H3 H4 H5 H6 H7 H8]
    · isplitl [H0]
      · iexists _; isplitr; · ipureintro; exact harg1.read_unread _
        iexact H0
      isplitl [H1]
      · iexists _; isplitr; · ipureintro; exact harg2.read_unread _
        iexact H1
      isplitl [H2]
      · iexists _; isplitr; · ipureintro; exact harg3.read_unread _
        iexact H2
      isplitl [H3]
      · iexists _; isplitr; · ipureintro; exact harg4.read_unread _
        iexact H3
      isplitl [H4]
      · iexists _; isplitr; · ipureintro; exact harg5.read_unread _
        iexact H4
      isplitl [H5]
      · iexists _; isplitr; · ipureintro; exact harg6.read_unread _
        iexact H5
      isplitl [H6]
      · iexists _; isplitr; · ipureintro; exact harg9.read_unread _
        iexact H6
      isplitl [H7]
      · iexists _; isplitr; · ipureintro; exact harg10.read_unread _
        iexact H7
      iexists _; isplitr; · ipureintro; exact harg11.read_unread _
      iexact H8
    isplitl [G12]; · iexists _; iexact G12
    isplitl [G13]; · iexists _; iexact G13
    isplitl [G14]; · iexists _; iexact G14
    isplitl [G15]; · iexists _; iexact G15
    isplitl [G16]; · iexists _; iexact G16
    isplitl [G17]; · iexists _; iexact G17
    isplitl [G18]; · iexists _; iexact G18
    isplitl [G19]; · iexists _; iexact G19
    isplitl [P2 Q2 S2 T2 U2 V2]
    · isplitl [P2 Q2]
      · isplitl [P2]; · iexact P2
        iexact Q2
      iexists e2; isplitl [S2 T2]
      · isplitl [S2]; · iexact S2
        iexact T2
      isplitl [U2]; · iexact U2
      iexact V2
    isplitl [P0 Q0 P0_dst Q0_dst P0_src Q0_src R0 X0]
    · isplitl [P0 Q0]
      · isplitl [P0]; · iexact P0
        iexact Q0
      iexists (landedBoth c A B (Ring.sl 3 t.val) (Ring.bk 8 t.val)); isplitl [P0_dst Q0_dst]
      · iapply (slotP_landed c A B (Ring.sl 3 t.val) (Ring.bk 8 t.val))
        isplitl [P0_dst]; · iexact P0_dst
        iexact Q0_dst
      isplitl [P0_src R0]
      · iapply (rowsA_split c A (Ring.sl 3 t.val) (Ring.bk 8 t.val)).2; isplitl [P0_src]; · iexact P0_src
        iexact R0
      iapply (rowsB_split c B (Ring.sl 3 t.val) (Ring.bk 8 t.val)).2; isplitl [Q0_src]; · iexact Q0_src
      iexact X0
    iexists _; iexact HW

end Cert.Proof.Cross

end
-- ==== Proof.Cross.Frame.lean ====
module

public import proofs.«01_k».proof.Proof.Cross.Run
public import Idealize.ShloMosaic.Lib.Claim

@[expose] public section

set_option maxRecDepth 16384

noncomputable section

namespace Cert.Proof.Cross

open Cert.CrossIdeal Cert.CrossIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! The frame of the cross attention's backward region: what every output holds after each point, and the run of the whole
program. Beside the windows the region carries the ring: which block is in flight into which slot. -/

/-- The contents that written pieces leave. -/
def back {sp : Space} {s : Shape} {e : EltTy} (V : View sig .tc sp s e) (L : List (View.Piece (Elt F) s e)) : Vec F s e :=
  V.read (Elt F) (V.writes (Elt F) V.junk L)

/-- Pieces that cover a memref leave it whole at those contents. -/
theorem settled (c : Dev nD) {s : Shape} {e : EltTy} (M : Memref sig .tc .vmem s e) {sp : Space} (V : View sig .tc sp s e) (L : List (View.Piece (Elt F) s e))
    (h : ∀ y, ∃ pc ∈ L, y ∈ pc.1.set) : wrote c M L ⊢ (owns (c : Thread nD τ) M fullShare (back V L) : sProp 𝕄) := by
  unfold wrote back owns
  iintro ⟨%f, H⟩
  iexists _; isplitr
  swap; · iexact H
  ipureintro; exact View.read_writes_of_cover _ _ _ _ _ h

section Steps

variable (c : Dev nD) (A : Big (F := F) c arrA) (B : Big (F := F) c arrB) (k : ℕ)

/-- The ring before the first step is its three free slots, -/
theorem open_first (h : k = 0) : ringAt c A B k ⊢ (iprop(Ring.free (cellP c) (slotW c A B) (Ring.sl 3 k) ∗ Ring.free (cellP c) (slotW c A B) (Ring.sl 3 (k + 1))
    ∗ Ring.free (cellP c) (slotW c A B) (Ring.sl 3 (k + 2))) : sProp 𝕄) := by
  unfold ringAt
  rw [if_pos h, Ring.At₀_eq3' _ _ _ k h (by decide : 3 ≤ 8)]
  iintro ⟨-, R⟩
  iexact R
/-- after it two flights and a free slot; -/
theorem close_first (h : k = 0) : (iprop(Ring.inflight (flightW c A B) (Ring.sl 3 (k + 1)) (Ring.bk 8 (k + 1)) ∗ Ring.inflight (flightW c A B) (Ring.sl 3 (k + 2)) (Ring.bk 8 (k + 2))
    ∗ Ring.free (cellP c) (slotW c A B) (Ring.sl 3 k)) : sProp 𝕄) ⊢ ringAt c A B (k + 1) := by
  unfold ringAt
  rw [if_neg (Nat.succ_ne_zero k), Ring.At3_one' _ _ _ _ k h (by decide : 3 ≤ 8)]
  exact Ring.with_homes (Idealize.SL.BI.Entails.refl _)
/-- before a middle step two flights and a free slot, -/
theorem open_later (h : k ≠ 0) (h' : k < 6) : ringAt c A B k ⊢ (iprop(Ring.inflight (flightW c A B) (Ring.sl 3 k) (Ring.bk 8 k) ∗ Ring.inflight (flightW c A B) (Ring.sl 3 (k + 1)) (Ring.bk 8 (k + 1))
    ∗ Ring.free (cellP c) (slotW c A B) (Ring.sl 3 (k + 2))) : sProp 𝕄) := by
  unfold ringAt
  rw [if_neg h, Ring.At3_here _ _ _ _ k (by omega)]
  iintro ⟨-, R⟩
  iexact R
theorem close_later (h' : k < 6) : (iprop(Ring.inflight (flightW c A B) (Ring.sl 3 (k + 1)) (Ring.bk 8 (k + 1)) ∗ Ring.inflight (flightW c A B) (Ring.sl 3 (k + 2)) (Ring.bk 8 (k + 2))
    ∗ Ring.free (cellP c) (slotW c A B) (Ring.sl 3 k)) : sProp 𝕄) ⊢ ringAt c A B (k + 1) := by
  unfold ringAt
  rw [if_neg (Nat.succ_ne_zero k), Ring.At3_next _ _ _ _ k (by omega), Ring.slotAt3_next0 _ _ _ k (by omega), Ring.slotAt3_next1 _ _ _ k (by omega)]
  exact Ring.with_homes (Idealize.SL.BI.Entails.refl _)
/-- and at the last two steps one flight, the next slot as it is, and a free slot. -/
theorem open_last (h : k ≠ 0) (h' : k < 8) : ringAt c A B k ⊢ (iprop(Ring.inflight (flightW c A B) (Ring.sl 3 k) (Ring.bk 8 k)
    ∗ Ring.slotAt 2 (cellP c) (slotW c A B) (flightW c A B) k 1 ∗ Ring.free (cellP c) (slotW c A B) (Ring.sl 3 (k + 2))) : sProp 𝕄) := by
  unfold ringAt
  rw [if_neg h, Ring.At3_here_tail _ _ _ _ k (by omega)]
  iintro ⟨-, R⟩
  iexact R
theorem close_last (h : ¬k < 6) (h' : k < 8) : (iprop(Ring.slotAt 2 (cellP c) (slotW c A B) (flightW c A B) k 1
    ∗ Ring.free (cellP c) (slotW c A B) (Ring.sl 3 (k + 2)) ∗ Ring.free (cellP c) (slotW c A B) (Ring.sl 3 k)) : sProp 𝕄) ⊢ ringAt c A B (k + 1) := by
  unfold ringAt
  rw [if_neg (Nat.succ_ne_zero k), Ring.At3_next_tail _ _ _ _ k (by omega) (by omega), Ring.slotAt3_tail_role _ _ _ k]
  exact Ring.with_homes (Idealize.SL.BI.Entails.refl _)

end Steps

abbrev V9 : View sig .tc .vmem S512x1024 .bf16 := (Memref.whole cc0_stg9_0 : Memref sig .tc .vmem S512x1024 .bf16).view
abbrev V10 : View sig .tc .vmem S256x1024 .f32 := (Memref.whole cc0_stg10_0 : Memref sig .tc .vmem S256x1024 .f32).view
abbrev V11 : View sig .tc .vmem S256x1024 .f32 := (Memref.whole cc0_stg11_0 : Memref sig .tc .vmem S256x1024 .f32).view
abbrev V12 : View sig .tc .vmem S512x1024 .f32 := (Memref.whole cc0_stg12_0 : Memref sig .tc .vmem S512x1024 .f32).view
abbrev V13 : View sig .tc .vmem S512x1024 .bf16 := (Memref.whole cc0_stg13_0 : Memref sig .tc .vmem S512x1024 .bf16).view
abbrev V14 : View sig .tc .vmem S512x1024 .bf16 := (Memref.whole cc0_stg14_0 : Memref sig .tc .vmem S512x1024 .bf16).view
abbrev V15 : View sig .tc .vmem S8x1024 .f32 := (Memref.whole cc0_stg15_0 : Memref sig .tc .vmem S8x1024 .f32).view
abbrev V16 : View sig .tc .vmem S8x1024 .f32 := (Memref.whole cc0_stg16_0 : Memref sig .tc .vmem S8x1024 .f32).view
/-- The run at the first point, -/
abbrev atA (c : Dev nD) (t : Fin cfg0.N) (h0 : first (grid0.coords t)) (h1 : more (grid0.coords t))  :=
  runA c t (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (st0_12 t) (hstage0_12 ((cfg0.slots t 12).cast nbuf0_12)) (st0_13 t) (hstage0_13 ((cfg0.slots t 13).cast nbuf0_13)) (st0_14 t) (hstage0_14 ((cfg0.slots t 14).cast nbuf0_14)) (st0_15 t) (hstage0_15 ((cfg0.slots t 15).cast nbuf0_15)) (st0_16 t) (hstage0_16 ((cfg0.slots t 16).cast nbuf0_16))
    (iblk m c 0 t) (iblk m c 1 t) (iblk m c 2 t) (iblk m c 3 t) (iblk m c 4 t) (iblk m c 5 t) (iblk m c 6 t) (iblk m c 7 t) (iblk m c 8 t) (V m c main_arg9) (V m c main_v13) h0 h1
/-- at a later point, over what the point before left, -/
abbrev atB (c : Dev nD) (t : Fin cfg0.N) (h0 : ¬first (grid0.coords t)) (h1 : more (grid0.coords t)) (y10 : Vec F S256x1024 .f32) (y11 : Vec F S256x1024 .f32) (y15 : Vec F S8x1024 .f32) (y16 : Vec F S8x1024 .f32) :=
  runB c t (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (st0_12 t) (hstage0_12 ((cfg0.slots t 12).cast nbuf0_12)) (st0_13 t) (hstage0_13 ((cfg0.slots t 13).cast nbuf0_13)) (st0_14 t) (hstage0_14 ((cfg0.slots t 14).cast nbuf0_14)) (st0_15 t) (hstage0_15 ((cfg0.slots t 15).cast nbuf0_15)) (st0_16 t) (hstage0_16 ((cfg0.slots t 16).cast nbuf0_16))
    (iblk m c 0 t) (iblk m c 1 t) (iblk m c 2 t) (iblk m c 3 t) (iblk m c 4 t) (iblk m c 5 t) (iblk m c 6 t) (iblk m c 7 t) (iblk m c 8 t) (V m c main_arg9) (V m c main_v13) h0 h1 y10 y11 y15 y16
/-- and at the last two. -/
abbrev atC (c : Dev nD) (t : Fin cfg0.N) (h0 : ¬first (grid0.coords t)) (h1 : ¬more (grid0.coords t)) (y10 : Vec F S256x1024 .f32) (y11 : Vec F S256x1024 .f32) (y15 : Vec F S8x1024 .f32) (y16 : Vec F S8x1024 .f32) :=
  runC c t (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (st0_12 t) (hstage0_12 ((cfg0.slots t 12).cast nbuf0_12)) (st0_13 t) (hstage0_13 ((cfg0.slots t 13).cast nbuf0_13)) (st0_14 t) (hstage0_14 ((cfg0.slots t 14).cast nbuf0_14)) (st0_15 t) (hstage0_15 ((cfg0.slots t 15).cast nbuf0_15)) (st0_16 t) (hstage0_16 ((cfg0.slots t 16).cast nbuf0_16))
    (iblk m c 0 t) (iblk m c 1 t) (iblk m c 2 t) (iblk m c 3 t) (iblk m c 4 t) (iblk m c 5 t) (iblk m c 6 t) (iblk m c 7 t) (iblk m c 8 t) (V m c main_arg9) (V m c main_v13) h0 h1 y10 y11 y15 y16

/-! The pieces cover each buffer. -/

theorem coverA9 (c : Dev nD) (t : Fin cfg0.N) (h0 : first (grid0.coords t)) (h1 : more (grid0.coords t))  (y : S512x1024.Idx) :
    ∃ pc ∈ (atA m c t h0 h1 ).1, y ∈ pc.1.set :=
  View.cover_of_tiledL (atA m c t h0 h1 ).1 S512x256.size (by sl_kernel_rfl) y
theorem coverA10 (c : Dev nD) (t : Fin cfg0.N) (h0 : first (grid0.coords t)) (h1 : more (grid0.coords t))  (y : S256x1024.Idx) :
    ∃ pc ∈ (atA m c t h0 h1 ).2.1, y ∈ pc.1.set :=
  View.cover_of_wholeMem (atA m c t h0 h1 ).2.1 (by sl_whole_mem) y
theorem coverA11 (c : Dev nD) (t : Fin cfg0.N) (h0 : first (grid0.coords t)) (h1 : more (grid0.coords t))  (y : S256x1024.Idx) :
    ∃ pc ∈ (atA m c t h0 h1 ).2.2.1, y ∈ pc.1.set :=
  View.cover_of_wholeMem (atA m c t h0 h1 ).2.2.1 (by sl_whole_mem) y
theorem coverA12 (c : Dev nD) (t : Fin cfg0.N) (h0 : first (grid0.coords t)) (h1 : more (grid0.coords t))  (y : S512x1024.Idx) :
    ∃ pc ∈ (atA m c t h0 h1 ).2.2.2.1, y ∈ pc.1.set :=
  View.cover_of_tiledL (atA m c t h0 h1 ).2.2.2.1 S512x1024.size (by sl_kernel_rfl) y
theorem coverA13 (c : Dev nD) (t : Fin cfg0.N) (h0 : first (grid0.coords t)) (h1 : more (grid0.coords t))  (y : S512x1024.Idx) :
    ∃ pc ∈ (atA m c t h0 h1 ).2.2.2.2.1, y ∈ pc.1.set :=
  View.cover_of_tiledL (atA m c t h0 h1 ).2.2.2.2.1 S512x1024.size (by sl_kernel_rfl) y
theorem coverA14 (c : Dev nD) (t : Fin cfg0.N) (h0 : first (grid0.coords t)) (h1 : more (grid0.coords t))  (y : S512x1024.Idx) :
    ∃ pc ∈ (atA m c t h0 h1 ).2.2.2.2.2.1, y ∈ pc.1.set :=
  View.cover_of_tiledL (atA m c t h0 h1 ).2.2.2.2.2.1 S512x1024.size (by sl_kernel_rfl) y
theorem coverA15 (c : Dev nD) (t : Fin cfg0.N) (h0 : first (grid0.coords t)) (h1 : more (grid0.coords t))  (y : S8x1024.Idx) :
    ∃ pc ∈ (atA m c t h0 h1 ).2.2.2.2.2.2.1, y ∈ pc.1.set :=
  View.cover_of_wholeMem (atA m c t h0 h1 ).2.2.2.2.2.2.1 (by sl_whole_mem) y
theorem coverA16 (c : Dev nD) (t : Fin cfg0.N) (h0 : first (grid0.coords t)) (h1 : more (grid0.coords t))  (y : S8x1024.Idx) :
    ∃ pc ∈ (atA m c t h0 h1 ).2.2.2.2.2.2.2.1, y ∈ pc.1.set :=
  View.cover_of_wholeMem (atA m c t h0 h1 ).2.2.2.2.2.2.2.1 (by sl_whole_mem) y
theorem coverB9 (c : Dev nD) (t : Fin cfg0.N) (h0 : ¬first (grid0.coords t)) (h1 : more (grid0.coords t)) (y10 : Vec F S256x1024 .f32) (y11 : Vec F S256x1024 .f32) (y15 : Vec F S8x1024 .f32) (y16 : Vec F S8x1024 .f32) (y : S512x1024.Idx) :
    ∃ pc ∈ (atB m c t h0 h1 y10 y11 y15 y16).1, y ∈ pc.1.set :=
  View.cover_of_tiledL (atB m c t h0 h1 y10 y11 y15 y16).1 S512x256.size (by sl_kernel_rfl) y
theorem coverB10 (c : Dev nD) (t : Fin cfg0.N) (h0 : ¬first (grid0.coords t)) (h1 : more (grid0.coords t)) (y10 : Vec F S256x1024 .f32) (y11 : Vec F S256x1024 .f32) (y15 : Vec F S8x1024 .f32) (y16 : Vec F S8x1024 .f32) (y : S256x1024.Idx) :
    ∃ pc ∈ (atB m c t h0 h1 y10 y11 y15 y16).2.1, y ∈ pc.1.set :=
  View.cover_of_tiledL (atB m c t h0 h1 y10 y11 y15 y16).2.1 S256x256.size (by sl_kernel_rfl) y
theorem coverB11 (c : Dev nD) (t : Fin cfg0.N) (h0 : ¬first (grid0.coords t)) (h1 : more (grid0.coords t)) (y10 : Vec F S256x1024 .f32) (y11 : Vec F S256x1024 .f32) (y15 : Vec F S8x1024 .f32) (y16 : Vec F S8x1024 .f32) (y : S256x1024.Idx) :
    ∃ pc ∈ (atB m c t h0 h1 y10 y11 y15 y16).2.2.1, y ∈ pc.1.set :=
  View.cover_of_tiledL (atB m c t h0 h1 y10 y11 y15 y16).2.2.1 S256x256.size (by sl_kernel_rfl) y
theorem coverB12 (c : Dev nD) (t : Fin cfg0.N) (h0 : ¬first (grid0.coords t)) (h1 : more (grid0.coords t)) (y10 : Vec F S256x1024 .f32) (y11 : Vec F S256x1024 .f32) (y15 : Vec F S8x1024 .f32) (y16 : Vec F S8x1024 .f32) (y : S512x1024.Idx) :
    ∃ pc ∈ (atB m c t h0 h1 y10 y11 y15 y16).2.2.2.1, y ∈ pc.1.set :=
  View.cover_of_tiledL (atB m c t h0 h1 y10 y11 y15 y16).2.2.2.1 S512x1024.size (by sl_kernel_rfl) y
theorem coverB13 (c : Dev nD) (t : Fin cfg0.N) (h0 : ¬first (grid0.coords t)) (h1 : more (grid0.coords t)) (y10 : Vec F S256x1024 .f32) (y11 : Vec F S256x1024 .f32) (y15 : Vec F S8x1024 .f32) (y16 : Vec F S8x1024 .f32) (y : S512x1024.Idx) :
    ∃ pc ∈ (atB m c t h0 h1 y10 y11 y15 y16).2.2.2.2.1, y ∈ pc.1.set :=
  View.cover_of_tiledL (atB m c t h0 h1 y10 y11 y15 y16).2.2.2.2.1 S512x1024.size (by sl_kernel_rfl) y
theorem coverB14 (c : Dev nD) (t : Fin cfg0.N) (h0 : ¬first (grid0.coords t)) (h1 : more (grid0.coords t)) (y10 : Vec F S256x1024 .f32) (y11 : Vec F S256x1024 .f32) (y15 : Vec F S8x1024 .f32) (y16 : Vec F S8x1024 .f32) (y : S512x1024.Idx) :
    ∃ pc ∈ (atB m c t h0 h1 y10 y11 y15 y16).2.2.2.2.2.1, y ∈ pc.1.set :=
  View.cover_of_tiledL (atB m c t h0 h1 y10 y11 y15 y16).2.2.2.2.2.1 S512x1024.size (by sl_kernel_rfl) y
theorem coverB15 (c : Dev nD) (t : Fin cfg0.N) (h0 : ¬first (grid0.coords t)) (h1 : more (grid0.coords t)) (y10 : Vec F S256x1024 .f32) (y11 : Vec F S256x1024 .f32) (y15 : Vec F S8x1024 .f32) (y16 : Vec F S8x1024 .f32) (y : S8x1024.Idx) :
    ∃ pc ∈ (atB m c t h0 h1 y10 y11 y15 y16).2.2.2.2.2.2.1, y ∈ pc.1.set :=
  View.cover_of_tiledL (atB m c t h0 h1 y10 y11 y15 y16).2.2.2.2.2.2.1 S8x1024.size (by sl_kernel_rfl) y
theorem coverB16 (c : Dev nD) (t : Fin cfg0.N) (h0 : ¬first (grid0.coords t)) (h1 : more (grid0.coords t)) (y10 : Vec F S256x1024 .f32) (y11 : Vec F S256x1024 .f32) (y15 : Vec F S8x1024 .f32) (y16 : Vec F S8x1024 .f32) (y : S8x1024.Idx) :
    ∃ pc ∈ (atB m c t h0 h1 y10 y11 y15 y16).2.2.2.2.2.2.2.1, y ∈ pc.1.set :=
  View.cover_of_tiledL (atB m c t h0 h1 y10 y11 y15 y16).2.2.2.2.2.2.2.1 S8x1024.size (by sl_kernel_rfl) y
theorem coverC9 (c : Dev nD) (t : Fin cfg0.N) (h0 : ¬first (grid0.coords t)) (h1 : ¬more (grid0.coords t)) (y10 : Vec F S256x1024 .f32) (y11 : Vec F S256x1024 .f32) (y15 : Vec F S8x1024 .f32) (y16 : Vec F S8x1024 .f32) (y : S512x1024.Idx) :
    ∃ pc ∈ (atC m c t h0 h1 y10 y11 y15 y16).1, y ∈ pc.1.set :=
  View.cover_of_tiledL (atC m c t h0 h1 y10 y11 y15 y16).1 S512x256.size (by sl_kernel_rfl) y
theorem coverC10 (c : Dev nD) (t : Fin cfg0.N) (h0 : ¬first (grid0.coords t)) (h1 : ¬more (grid0.coords t)) (y10 : Vec F S256x1024 .f32) (y11 : Vec F S256x1024 .f32) (y15 : Vec F S8x1024 .f32) (y16 : Vec F S8x1024 .f32) (y : S256x1024.Idx) :
    ∃ pc ∈ (atC m c t h0 h1 y10 y11 y15 y16).2.1, y ∈ pc.1.set :=
  View.cover_of_tiledL (atC m c t h0 h1 y10 y11 y15 y16).2.1 S256x256.size (by sl_kernel_rfl) y
theorem coverC11 (c : Dev nD) (t : Fin cfg0.N) (h0 : ¬first (grid0.coords t)) (h1 : ¬more (grid0.coords t)) (y10 : Vec F S256x1024 .f32) (y11 : Vec F S256x1024 .f32) (y15 : Vec F S8x1024 .f32) (y16 : Vec F S8x1024 .f32) (y : S256x1024.Idx) :
    ∃ pc ∈ (atC m c t h0 h1 y10 y11 y15 y16).2.2.1, y ∈ pc.1.set :=
  View.cover_of_tiledL (atC m c t h0 h1 y10 y11 y15 y16).2.2.1 S256x256.size (by sl_kernel_rfl) y
theorem coverC12 (c : Dev nD) (t : Fin cfg0.N) (h0 : ¬first (grid0.coords t)) (h1 : ¬more (grid0.coords t)) (y10 : Vec F S256x1024 .f32) (y11 : Vec F S256x1024 .f32) (y15 : Vec F S8x1024 .f32) (y16 : Vec F S8x1024 .f32) (y : S512x1024.Idx) :
    ∃ pc ∈ (atC m c t h0 h1 y10 y11 y15 y16).2.2.2.1, y ∈ pc.1.set :=
  View.cover_of_tiledL (atC m c t h0 h1 y10 y11 y15 y16).2.2.2.1 S512x1024.size (by sl_kernel_rfl) y
theorem coverC13 (c : Dev nD) (t : Fin cfg0.N) (h0 : ¬first (grid0.coords t)) (h1 : ¬more (grid0.coords t)) (y10 : Vec F S256x1024 .f32) (y11 : Vec F S256x1024 .f32) (y15 : Vec F S8x1024 .f32) (y16 : Vec F S8x1024 .f32) (y : S512x1024.Idx) :
    ∃ pc ∈ (atC m c t h0 h1 y10 y11 y15 y16).2.2.2.2.1, y ∈ pc.1.set :=
  View.cover_of_tiledL (atC m c t h0 h1 y10 y11 y15 y16).2.2.2.2.1 S512x1024.size (by sl_kernel_rfl) y
theorem coverC14 (c : Dev nD) (t : Fin cfg0.N) (h0 : ¬first (grid0.coords t)) (h1 : ¬more (grid0.coords t)) (y10 : Vec F S256x1024 .f32) (y11 : Vec F S256x1024 .f32) (y15 : Vec F S8x1024 .f32) (y16 : Vec F S8x1024 .f32) (y : S512x1024.Idx) :
    ∃ pc ∈ (atC m c t h0 h1 y10 y11 y15 y16).2.2.2.2.2.1, y ∈ pc.1.set :=
  View.cover_of_tiledL (atC m c t h0 h1 y10 y11 y15 y16).2.2.2.2.2.1 S512x1024.size (by sl_kernel_rfl) y
theorem coverC15 (c : Dev nD) (t : Fin cfg0.N) (h0 : ¬first (grid0.coords t)) (h1 : ¬more (grid0.coords t)) (y10 : Vec F S256x1024 .f32) (y11 : Vec F S256x1024 .f32) (y15 : Vec F S8x1024 .f32) (y16 : Vec F S8x1024 .f32) (y : S8x1024.Idx) :
    ∃ pc ∈ (atC m c t h0 h1 y10 y11 y15 y16).2.2.2.2.2.2.1, y ∈ pc.1.set :=
  View.cover_of_tiledL (atC m c t h0 h1 y10 y11 y15 y16).2.2.2.2.2.2.1 S8x1024.size (by sl_kernel_rfl) y
theorem coverC16 (c : Dev nD) (t : Fin cfg0.N) (h0 : ¬first (grid0.coords t)) (h1 : ¬more (grid0.coords t)) (y10 : Vec F S256x1024 .f32) (y11 : Vec F S256x1024 .f32) (y15 : Vec F S8x1024 .f32) (y16 : Vec F S8x1024 .f32) (y : S8x1024.Idx) :
    ∃ pc ∈ (atC m c t h0 h1 y10 y11 y15 y16).2.2.2.2.2.2.2.1, y ∈ pc.1.set :=
  View.cover_of_tiledL (atC m c t h0 h1 y10 y11 y15 y16).2.2.2.2.2.2.2.1 S8x1024.size (by sl_kernel_rfl) y

/-- What the eight outputs hold. -/
structure Held (F : FTy → Type) [FloatOps F] where
  dq : Vec F S512x1024 .bf16
  dk : Vec F S256x1024 .f32
  dv : Vec F S256x1024 .f32
  dh : Vec F S512x1024 .f32
  dyp : Vec F S512x1024 .bf16
  dym : Vec F S512x1024 .bf16
  gn : Vec F S8x1024 .f32
  gp : Vec F S8x1024 .f32

/-- What the first point leaves, -/
def stepA (c : Dev nD) (t : Fin cfg0.N) (h : t.val = 0) : Held F :=
  ⟨back V9 (atA m c t ((first_iff t).mpr h) ((more_iff t).mpr (h.trans_lt (Nat.succ_pos 5)))).1,
   back V10 (atA m c t ((first_iff t).mpr h) ((more_iff t).mpr (h.trans_lt (Nat.succ_pos 5)))).2.1,
   back V11 (atA m c t ((first_iff t).mpr h) ((more_iff t).mpr (h.trans_lt (Nat.succ_pos 5)))).2.2.1,
   back V12 (atA m c t ((first_iff t).mpr h) ((more_iff t).mpr (h.trans_lt (Nat.succ_pos 5)))).2.2.2.1,
   back V13 (atA m c t ((first_iff t).mpr h) ((more_iff t).mpr (h.trans_lt (Nat.succ_pos 5)))).2.2.2.2.1,
   back V14 (atA m c t ((first_iff t).mpr h) ((more_iff t).mpr (h.trans_lt (Nat.succ_pos 5)))).2.2.2.2.2.1,
   back V15 (atA m c t ((first_iff t).mpr h) ((more_iff t).mpr (h.trans_lt (Nat.succ_pos 5)))).2.2.2.2.2.2.1,
   back V16 (atA m c t ((first_iff t).mpr h) ((more_iff t).mpr (h.trans_lt (Nat.succ_pos 5)))).2.2.2.2.2.2.2.1⟩

/-- a later point over what was held, -/
def stepB (c : Dev nD) (t : Fin cfg0.N) (h : t.val ≠ 0) (h' : t.val < 6) (p : Held F) : Held F :=
  ⟨back V9 (atB m c t (fun e => h ((first_iff t).mp e)) ((more_iff t).mpr h') p.dk p.dv p.gn p.gp).1,
   back V10 (atB m c t (fun e => h ((first_iff t).mp e)) ((more_iff t).mpr h') p.dk p.dv p.gn p.gp).2.1,
   back V11 (atB m c t (fun e => h ((first_iff t).mp e)) ((more_iff t).mpr h') p.dk p.dv p.gn p.gp).2.2.1,
   back V12 (atB m c t (fun e => h ((first_iff t).mp e)) ((more_iff t).mpr h') p.dk p.dv p.gn p.gp).2.2.2.1,
   back V13 (atB m c t (fun e => h ((first_iff t).mp e)) ((more_iff t).mpr h') p.dk p.dv p.gn p.gp).2.2.2.2.1,
   back V14 (atB m c t (fun e => h ((first_iff t).mp e)) ((more_iff t).mpr h') p.dk p.dv p.gn p.gp).2.2.2.2.2.1,
   back V15 (atB m c t (fun e => h ((first_iff t).mp e)) ((more_iff t).mpr h') p.dk p.dv p.gn p.gp).2.2.2.2.2.2.1,
   back V16 (atB m c t (fun e => h ((first_iff t).mp e)) ((more_iff t).mpr h') p.dk p.dv p.gn p.gp).2.2.2.2.2.2.2.1⟩

/-- and the last two. -/
def stepC (c : Dev nD) (t : Fin cfg0.N) (h : t.val ≠ 0) (h' : ¬t.val < 6) (p : Held F) : Held F :=
  ⟨back V9 (atC m c t (fun e => h ((first_iff t).mp e)) (fun e => h' ((more_iff t).mp e)) p.dk p.dv p.gn p.gp).1,
   back V10 (atC m c t (fun e => h ((first_iff t).mp e)) (fun e => h' ((more_iff t).mp e)) p.dk p.dv p.gn p.gp).2.1,
   back V11 (atC m c t (fun e => h ((first_iff t).mp e)) (fun e => h' ((more_iff t).mp e)) p.dk p.dv p.gn p.gp).2.2.1,
   back V12 (atC m c t (fun e => h ((first_iff t).mp e)) (fun e => h' ((more_iff t).mp e)) p.dk p.dv p.gn p.gp).2.2.2.1,
   back V13 (atC m c t (fun e => h ((first_iff t).mp e)) (fun e => h' ((more_iff t).mp e)) p.dk p.dv p.gn p.gp).2.2.2.2.1,
   back V14 (atC m c t (fun e => h ((first_iff t).mp e)) (fun e => h' ((more_iff t).mp e)) p.dk p.dv p.gn p.gp).2.2.2.2.2.1,
   back V15 (atC m c t (fun e => h ((first_iff t).mp e)) (fun e => h' ((more_iff t).mp e)) p.dk p.dv p.gn p.gp).2.2.2.2.2.2.1,
   back V16 (atC m c t (fun e => h ((first_iff t).mp e)) (fun e => h' ((more_iff t).mp e)) p.dk p.dv p.gn p.gp).2.2.2.2.2.2.2.1⟩

/-- What they hold after a point. -/
def held (c : Dev nD) : (n : ℕ) → n < cfg0.N → Held F
  | 0, hn => stepA m c ⟨0, hn⟩ rfl
  | n + 1, hn =>
    if h : n + 1 < 6 then stepB m c ⟨n + 1, hn⟩ (Nat.succ_ne_zero n) h (held c n (Nat.lt_of_succ_lt hn))
    else stepC m c ⟨n + 1, hn⟩ (Nat.succ_ne_zero n) h (held c n (Nat.lt_of_succ_lt hn))

/-- What the point before left. -/
abbrev before' (c : Dev nD) (t : Fin cfg0.N) : Held F := held m c (t.val - 1) (Nat.lt_of_le_of_lt (Nat.sub_le _ _) t.isLt)

theorem held_A (c : Dev nD) (t : Fin cfg0.N) (h : t.val = 0) : held m c t.val t.isLt = stepA m c t h := by
  obtain ⟨n, hn⟩ := t
  cases n with
  | zero => exact rfl
  | succ n => exact absurd h (Nat.succ_ne_zero n)

theorem held_B (c : Dev nD) (t : Fin cfg0.N) (h : t.val ≠ 0) (h' : t.val < 6) :
    held m c t.val t.isLt = stepB m c t h h' (before' m c t) := by
  obtain ⟨n, hn⟩ := t
  cases n with
  | zero => exact absurd rfl h
  | succ n => rw [held]; exact dif_pos h'

theorem held_C (c : Dev nD) (t : Fin cfg0.N) (h : t.val ≠ 0) (h' : ¬t.val < 6) :
    held m c t.val t.isLt = stepC m c t h h' (before' m c t) := by
  obtain ⟨n, hn⟩ := t
  cases n with
  | zero => exact absurd rfl h
  | succ n => rw [held]; exact dif_neg h'

/-- What is held beside the windows before a point. -/
def Inv (c : Dev nD) (n : ℕ) : sProp 𝕄 := iprop((∃ r, prngReg c r) ∗ ringAt c (V m c main_arg9) (V m c main_v13) n ∗ spare c)

/-- The proof data of the region. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => (held m c t.val t.isLt).dq
    | ⟨10, _⟩ => (held m c t.val t.isLt).dk
    | ⟨11, _⟩ => (held m c t.val t.isLt).dv
    | ⟨12, _⟩ => (held m c t.val t.isLt).dh
    | ⟨13, _⟩ => (held m c t.val t.isLt).dyp
    | ⟨14, _⟩ => (held m c t.val t.isLt).dym
    | ⟨15, _⟩ => (held m c t.val t.isLt).gn
    | ⟨16, _⟩ => (held m c t.val t.isLt).gp
    | ⟨_ + 17, h⟩ => absurd h (Nat.not_lt.2 (Nat.le_add_left _ _))
  Φ t := Inv m c t.val
  q _ := fullShare
  owed _ := 0

theorem A_eq (c : Dev nD) (w : Fin cfg0.W) : (dats m 0 c).A w = V m c (Pipeline.arrRef spec0 w) := by
  dsimp only [dats]

theorem Φ_castSucc (c : Dev nD) (t : Fin cfg0.N) : (dats m 0 c).Φ t.castSucc = Inv m c t.val := by
  dsimp only [dats]; simp only [Fin.val_castSucc]
theorem Φ_succ (c : Dev nD) (t : Fin cfg0.N) : (dats m 0 c).Φ t.succ = Inv m c (t.val + 1) := by
  dsimp only [dats]; simp only [Fin.val_succ]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = (held m c t.val t.isLt).dq := by dsimp only [dats]
theorem after10 (c : Dev nD) (t : Fin cfg0.N) : (dats m 0 c).after 10 t = (held m c t.val t.isLt).dk := by dsimp only [dats]
theorem after11 (c : Dev nD) (t : Fin cfg0.N) : (dats m 0 c).after 11 t = (held m c t.val t.isLt).dv := by dsimp only [dats]
theorem after12 (c : Dev nD) (t : Fin cfg0.N) : (dats m 0 c).after 12 t = (held m c t.val t.isLt).dh := by dsimp only [dats]
theorem after13 (c : Dev nD) (t : Fin cfg0.N) : (dats m 0 c).after 13 t = (held m c t.val t.isLt).dyp := by dsimp only [dats]
theorem after14 (c : Dev nD) (t : Fin cfg0.N) : (dats m 0 c).after 14 t = (held m c t.val t.isLt).dym := by dsimp only [dats]
theorem after15 (c : Dev nD) (t : Fin cfg0.N) : (dats m 0 c).after 15 t = (held m c t.val t.isLt).gn := by dsimp only [dats]
theorem after16 (c : Dev nD) (t : Fin cfg0.N) : (dats m 0 c).after 16 t = (held m c t.val t.isLt).gp := by dsimp only [dats]

theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)
theorem before4 (c : Dev nD) (t : Fin cfg0.N) (d) : (dats m 0 c).before 4 t d = iblk m c 4 t :=
  ((dats m 0 c).before_in_eq_fetched 4 rfl (fun _ => rfl) (fun _ _ _ => rfl) (fun t => by rw [after4]; unfold Dat.blockOf iblk; rw [A_eq]; try rfl) t d).trans
    (by unfold Dat.fetched Dat.blockOf iblk; rw [A_eq]; try rfl)
theorem before5 (c : Dev nD) (t : Fin cfg0.N) (d) : (dats m 0 c).before 5 t d = iblk m c 5 t :=
  ((dats m 0 c).before_in_eq_fetched 5 rfl (fun _ => rfl) (fun _ _ _ => rfl) (fun t => by rw [after5]; unfold Dat.blockOf iblk; rw [A_eq]; try rfl) t d).trans
    (by unfold Dat.fetched Dat.blockOf iblk; rw [A_eq]; try rfl)
theorem before6 (c : Dev nD) (t : Fin cfg0.N) (d) : (dats m 0 c).before 6 t d = iblk m c 6 t :=
  ((dats m 0 c).before_in_eq_fetched 6 rfl (fun _ => rfl) (fun _ _ _ => rfl) (fun t => by rw [after6]; unfold Dat.blockOf iblk; rw [A_eq]; try rfl) t d).trans
    (by unfold Dat.fetched Dat.blockOf iblk; rw [A_eq]; try rfl)
theorem before7 (c : Dev nD) (t : Fin cfg0.N) (d) : (dats m 0 c).before 7 t d = iblk m c 7 t :=
  ((dats m 0 c).before_in_eq_fetched 7 rfl (fun _ => rfl) (fun _ _ _ => rfl) (fun t => by rw [after7]; unfold Dat.blockOf iblk; rw [A_eq]; try rfl) t d).trans
    (by unfold Dat.fetched Dat.blockOf iblk; rw [A_eq]; try rfl)
theorem before8 (c : Dev nD) (t : Fin cfg0.N) (d) : (dats m 0 c).before 8 t d = iblk m c 8 t :=
  ((dats m 0 c).before_in_eq_fetched 8 rfl (fun _ => rfl) (fun _ _ _ => rfl) (fun t => by rw [after8]; unfold Dat.blockOf iblk; rw [A_eq]; try rfl) t d).trans
    (by unfold Dat.fetched Dat.blockOf iblk; rw [A_eq]; try rfl)

theorem before10 (c : Dev nD) (t : Fin cfg0.N) (h : t.val ≠ 0) (d) : (dats m 0 c).before 10 t d = (before' m c t).dk := by
  have hN : t.val < 8 := lt_of_lt_of_eq t.isLt (show cfg0.N = 8 from N_0)
  rw [Dat.before_out_kept _ 10 rfl t h (Bool.eq_false_iff.mpr fun e => by have := (flush0_10 _).mp e; dsimp only at this; omega)
    (fun _ => rfl) (fun _ _ => rfl)]
  dsimp only [dats]
theorem before11 (c : Dev nD) (t : Fin cfg0.N) (h : t.val ≠ 0) (d) : (dats m 0 c).before 11 t d = (before' m c t).dv := by
  have hN : t.val < 8 := lt_of_lt_of_eq t.isLt (show cfg0.N = 8 from N_0)
  rw [Dat.before_out_kept _ 11 rfl t h (Bool.eq_false_iff.mpr fun e => by have := (flush0_11 _).mp e; dsimp only at this; omega)
    (fun _ => rfl) (fun _ _ => rfl)]
  dsimp only [dats]
theorem before15 (c : Dev nD) (t : Fin cfg0.N) (h : t.val ≠ 0) (d) : (dats m 0 c).before 15 t d = (before' m c t).gn := by
  have hN : t.val < 8 := lt_of_lt_of_eq t.isLt (show cfg0.N = 8 from N_0)
  rw [Dat.before_out_kept _ 15 rfl t h (Bool.eq_false_iff.mpr fun e => by have := (flush0_15 _).mp e; dsimp only at this; omega)
    (fun _ => rfl) (fun _ _ => rfl)]
  dsimp only [dats]
theorem before16 (c : Dev nD) (t : Fin cfg0.N) (h : t.val ≠ 0) (d) : (dats m 0 c).before 16 t d = (before' m c t).gp := by
  have hN : t.val < 8 := lt_of_lt_of_eq t.isLt (show cfg0.N = 8 from N_0)
  rw [Dat.before_out_kept _ 16 rfl t h (Bool.eq_false_iff.mpr fun e => by have := (flush0_16 _).mp e; dsimp only at this; omega)
    (fun _ => rfl) (fun _ _ => rfl)]
  dsimp only [dats]

/-- What the body is given at a point -/
def given (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d)))

/-- and what it leaves. -/
def returned (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t))

set_option maxHeartbeats 8000000 in
theorem body_sound (c : Dev nD) (t : Fin cfg0.N) :
    given m c t ⊢ wp frame (wpE (defs₀ (F := F)) Variants.none c none) Set.univ (bodyAt0 t) (fun _ => returned m c t) := by
  unfold given returned bodyAt0
  simp only [before0, before1, before2, before3, before4, before5, before6, before7, before8]
  rw [after0, after1, after2, after3, after4, after5, after6, after7, after8, after9, after10, after11, after12, after13, after14, after15, after16]
  rw [Φ_castSucc, Φ_succ]
  unfold Dat.owesAt Pipeline.owesWithin
  rw [show (dats m 0 c).owed t.castSucc = 0 from rfl, show (dats m 0 c).owed t.succ = 0 from rfl]
  unfold Inv
  have hN : t.val < 8 := lt_of_lt_of_eq t.isLt (show cfg0.N = 8 from N_0)
  by_cases h : t.val = 0
  · rw [held_A m c t h]
    dsimp only [stepA]
    iintro ⟨⟨Hg, HR, HSp⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
    ihave HR2 := (open_first c (V m c main_arg9) (V m c main_v13) t.val h) $$ HR
    icases HR2 with ⟨R0, R1, R2⟩
    iapply ((atA m c t ((first_iff t).mpr h) ((more_iff t).mpr (h.trans_lt (Nat.succ_pos 5)))).2.2.2.2.2.2.2.2 W _)
    isplitl [H0 H1 H2 H3 H4 H5 H6 H7 H8]
    · unfold ins
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [R0]; · iexact R0
    isplitl [R1]; · iexact R1
    isplitl [R2]; · iexact R2
    isplitl [HW]; · iexact HW
    iintro ⟨Hins, H9, H10, H11, H12, H13, H14, H15, H16, N0, N1, N2, ⟨%W', HW'⟩⟩
    unfold ins
    icases Hins with ⟨H0, H1, H2, H3, H4, H5, H6, H7, H8⟩
    isplitl [Hg HSp N0 N1 N2]
    · isplitl [Hg]; · iexact Hg
      isplitl [N0 N1 N2]
      · iapply (close_first c (V m c main_arg9) (V m c main_v13) t.val h)
        isplitl [N0]; · iexact N0
        isplitl [N1]; · iexact N1
        iexact N2
      iexact HSp
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iapply (settled c _ V9 _ (coverA9 m c t _ _)); iexact H9
    isplitl [H10]; · iapply (settled c _ V10 _ (coverA10 m c t _ _)); iexact H10
    isplitl [H11]; · iapply (settled c _ V11 _ (coverA11 m c t _ _)); iexact H11
    isplitl [H12]; · iapply (settled c _ V12 _ (coverA12 m c t _ _)); iexact H12
    isplitl [H13]; · iapply (settled c _ V13 _ (coverA13 m c t _ _)); iexact H13
    isplitl [H14]; · iapply (settled c _ V14 _ (coverA14 m c t _ _)); iexact H14
    isplitl [H15]; · iapply (settled c _ V15 _ (coverA15 m c t _ _)); iexact H15
    iapply (settled c _ V16 _ (coverA16 m c t _ _)); iexact H16
  simp only [before10 m c t h, before11 m c t h, before15 m c t h, before16 m c t h]
  by_cases h' : t.val < 6
  · rw [held_B m c t h h']
    dsimp only [stepB]
    iintro ⟨⟨Hg, HR, HSp⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
    ihave HR2 := (open_later c (V m c main_arg9) (V m c main_v13) t.val h h') $$ HR
    icases HR2 with ⟨R0, R1, R2⟩
    iapply ((atB m c t (fun e => h ((first_iff t).mp e)) ((more_iff t).mpr h') (before' m c t).dk (before' m c t).dv (before' m c t).gn (before' m c t).gp).2.2.2.2.2.2.2.2 W _)
    isplitl [H0 H1 H2 H3 H4 H5 H6 H7 H8]
    · unfold ins
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    isplitl [H9]; · iexists _; iexact H9
    isplitl [H10]; · iexact H10
    isplitl [H11]; · iexact H11
    isplitl [H12]; · iexists _; iexact H12
    isplitl [H13]; · iexists _; iexact H13
    isplitl [H14]; · iexists _; iexact H14
    isplitl [H15]; · iexact H15
    isplitl [H16]; · iexact H16
    isplitl [R0]; · iexact R0
    isplitl [R1]; · iexact R1
    isplitl [R2]; · iexact R2
    isplitl [HW]; · iexact HW
    iintro ⟨Hins, H9, H10, H11, H12, H13, H14, H15, H16, N0, N1, N2, ⟨%W', HW'⟩⟩
    unfold ins
    icases Hins with ⟨H0, H1, H2, H3, H4, H5, H6, H7, H8⟩
    isplitl [Hg HSp N0 N1 N2]
    · isplitl [Hg]; · iexact Hg
      isplitl [N0 N1 N2]
      · iapply (close_later c (V m c main_arg9) (V m c main_v13) t.val h')
        isplitl [N0]; · iexact N0
        isplitl [N1]; · iexact N1
        iexact N2
      iexact HSp
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iapply (settled c _ V9 _ (coverB9 m c t _ _ _ _ _ _)); iexact H9
    isplitl [H10]; · iapply (settled c _ V10 _ (coverB10 m c t _ _ _ _ _ _)); iexact H10
    isplitl [H11]; · iapply (settled c _ V11 _ (coverB11 m c t _ _ _ _ _ _)); iexact H11
    isplitl [H12]; · iapply (settled c _ V12 _ (coverB12 m c t _ _ _ _ _ _)); iexact H12
    isplitl [H13]; · iapply (settled c _ V13 _ (coverB13 m c t _ _ _ _ _ _)); iexact H13
    isplitl [H14]; · iapply (settled c _ V14 _ (coverB14 m c t _ _ _ _ _ _)); iexact H14
    isplitl [H15]; · iapply (settled c _ V15 _ (coverB15 m c t _ _ _ _ _ _)); iexact H15
    iapply (settled c _ V16 _ (coverB16 m c t _ _ _ _ _ _)); iexact H16
  · rw [held_C m c t h h']
    dsimp only [stepC]
    iintro ⟨⟨Hg, HR, HSp⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
    ihave HR2 := (open_last c (V m c main_arg9) (V m c main_v13) t.val h hN) $$ HR
    icases HR2 with ⟨R0, R1, R2⟩
    iapply ((atC m c t (fun e => h ((first_iff t).mp e)) (fun e => h' ((more_iff t).mp e)) (before' m c t).dk (before' m c t).dv (before' m c t).gn (before' m c t).gp).2.2.2.2.2.2.2.2 W _)
    isplitl [H0 H1 H2 H3 H4 H5 H6 H7 H8]
    · unfold ins
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    isplitl [H9]; · iexists _; iexact H9
    isplitl [H10]; · iexact H10
    isplitl [H11]; · iexact H11
    isplitl [H12]; · iexists _; iexact H12
    isplitl [H13]; · iexists _; iexact H13
    isplitl [H14]; · iexists _; iexact H14
    isplitl [H15]; · iexact H15
    isplitl [H16]; · iexact H16
    isplitl [R0]; · iexact R0
    isplitl [R2]; · iexact R2
    isplitl [HW]; · iexact HW
    iintro ⟨Hins, H9, H10, H11, H12, H13, H14, H15, H16, N1, N2, ⟨%W', HW'⟩⟩
    unfold ins
    icases Hins with ⟨H0, H1, H2, H3, H4, H5, H6, H7, H8⟩
    isplitl [Hg HSp R1 N1 N2]
    · isplitl [Hg]; · iexact Hg
      isplitl [R1 N1 N2]
      · iapply (close_last c (V m c main_arg9) (V m c main_v13) t.val h' hN)
        isplitl [R1]; · iexact R1
        isplitl [N1]; · iexact N1
        iexact N2
      iexact HSp
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iapply (settled c _ V9 _ (coverC9 m c t _ _ _ _ _ _)); iexact H9
    isplitl [H10]; · iapply (settled c _ V10 _ (coverC10 m c t _ _ _ _ _ _)); iexact H10
    isplitl [H11]; · iapply (settled c _ V11 _ (coverC11 m c t _ _ _ _ _ _)); iexact H11
    isplitl [H12]; · iapply (settled c _ V12 _ (coverC12 m c t _ _ _ _ _ _)); iexact H12
    isplitl [H13]; · iapply (settled c _ V13 _ (coverC13 m c t _ _ _ _ _ _)); iexact H13
    isplitl [H14]; · iapply (settled c _ V14 _ (coverC14 m c t _ _ _ _ _ _)); iexact H14
    isplitl [H15]; · iapply (settled c _ V15 _ (coverC15 m c t _ _ _ _ _ _)); iexact H15
    iapply (settled c _ V16 _ (coverC16 m c t _ _ _ _ _ _)); iexact H16

theorem row (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, row]
  exact triple_restated (body_sound m c t) rfl .rfl fun _ => .rfl

theorem enter (c : Dev nD) : Pipeline.ΦD sems spec0 streamed (V m) c ⊢ (dats m 0 c).Φ 0 := by
  rw [handed_eq, show (dats m 0 c).Φ 0 = Inv m c 0 from rfl]
  unfold Inv
  iintro ⟨HS, Hg, HQ, HB⟩
  isplitl [Hg]; · iexact Hg
  iapply (ring_in (F := F) m c)
  isplitl [HS]; · iexact HS
  isplitl [HQ]; · iexact HQ
  iexact HB

theorem leave (c : Dev nD) : (dats m 0 c).Φ (Fin.last cfg0.N) ⊢ Pipeline.ΦD sems spec0 streamed (V m) c := by
  rw [handed_eq, show (dats m 0 c).Φ (Fin.last cfg0.N) = Inv m c grid0.N from rfl]
  unfold Inv
  rw [show grid0.N = 8 by rw [N_0]]
  iintro ⟨Hg, HR⟩
  ihave HX := (ring_out (F := F) m c) $$ HR
  icases HX with ⟨HS, HQ, HB⟩
  isplitl [HS]; · iexact HS
  isplitl [Hg]; · iexact Hg
  isplitl [HQ]; · iexact HQ
  iexact HB

/-- The lines before the region reach it with the arrays as they leave them. -/
theorem reach (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

set_option backward.isDefEq.respectTransparency.types false in
set_option maxHeartbeats 800000 in
/-- The run of the whole program: it ends, every array of the region is what the proof data say, every other buffer is
as the lines after the region leave it, and no semaphore is raised. -/
theorem run_quiescent : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_dma_around (Q' := _) cfgs (dats m) (0 : Fin 1) launch0 sems defs₀ Variants.none sems_own streamed streamed_rest m ρ main
    (hbody := fun c => (obligation m c).loose) (hshare := fun c => (dats m 0 c).share_full fun _ => rfl)
    (howed := fun _ _ => rfl) (V₀ := V0 m) (opss := [hostOps1]) (hsub := tail_avoids) (hfresh := sfx_fresh) (hkeep := sfx_keeps)
    (hmain := reach m Variants.none) (hA := A_eq m) (hin := enter m) (hout := leave m)

theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_quiescent m ρ)

/-- The lines after the region leave alone what they do not write. -/
theorem tail_keeps (c : Dev nD) (b : Ref sig .tc) (hb : ∀ op ∈ (hostOps1 : List (HloOp τ sig (Elt F))), Proc.devRef .tc b ∉ op.writes)
    (hw : ∀ w, Pipeline.arrRef spec0 w ≠ b) : Pipeline.afterTail₀ cfgs (dats m) 0 (V0 m) [hostOps1] c b = V m c b := by
  unfold Pipeline.afterTail₀
  rw [StableHlo.after_of_forall_not_mem (b := Proc.devRef .tc b) _ _ (by simpa only [List.flatten_cons, List.flatten_nil, List.append_nil] using hb),
    Pipeline.withArrays_of_ne _ c (V0 m c) _ b hw]

/-- The lines after the region write no argument. -/
theorem tail_writes (b : Ref sig .tc) (hb : b ∈ ([main_arg1, main_arg2, main_arg3, main_arg4, main_arg5, main_arg9] : List (Ref sig .tc))) :
    ∀ op ∈ (hostOps1 : List (HloOp τ sig (Elt F))), Proc.devRef .tc b ∉ op.writes := by
  simp only [List.mem_cons, List.mem_nil_iff, or_false] at hb
  refine List.forall_iff_forall_mem.mp ?_
  rcases hb with rfl | rfl | rfl | rfl | rfl | rfl
  all_goals
    simp only [hostOps1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)

/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨((h c).1 6).trans (((dats m 0 c).arrAt_in 6 rfl _).trans ((A_eq m c 6).trans (V_main_arg0 m c))),
    ((h c).2 main_arg1 (Pipeline.mem_restRefs_of main_arg1 (by decide) (by decide))).trans ((tail_keeps m c main_arg1 (tail_writes _ (by decide)) (by exact (by decide : ∀ w, Pipeline.arrRef spec0 w ≠ main_arg1))).trans (V_main_arg1 m c)),
    ((h c).2 main_arg2 (Pipeline.mem_restRefs_of main_arg2 (by decide) (by decide))).trans ((tail_keeps m c main_arg2 (tail_writes _ (by decide)) (by exact (by decide : ∀ w, Pipeline.arrRef spec0 w ≠ main_arg2))).trans (V_main_arg2 m c)),
    ((h c).2 main_arg3 (Pipeline.mem_restRefs_of main_arg3 (by decide) (by decide))).trans ((tail_keeps m c main_arg3 (tail_writes _ (by decide)) (by exact (by decide : ∀ w, Pipeline.arrRef spec0 w ≠ main_arg3))).trans (V_main_arg3 m c)),
    ((h c).2 main_arg4 (Pipeline.mem_restRefs_of main_arg4 (by decide) (by decide))).trans ((tail_keeps m c main_arg4 (tail_writes _ (by decide)) (by exact (by decide : ∀ w, Pipeline.arrRef spec0 w ≠ main_arg4))).trans (V_main_arg4 m c)),
    ((h c).2 main_arg5 (Pipeline.mem_restRefs_of main_arg5 (by decide) (by decide))).trans ((tail_keeps m c main_arg5 (tail_writes _ (by decide)) (by exact (by decide : ∀ w, Pipeline.arrRef spec0 w ≠ main_arg5))).trans (V_main_arg5 m c)),
    ((h c).1 7).trans (((dats m 0 c).arrAt_in 7 rfl _).trans ((A_eq m c 7).trans (V_main_arg6 m c))),
    ((h c).1 8).trans (((dats m 0 c).arrAt_in 8 rfl _).trans ((A_eq m c 8).trans (V_main_arg7 m c))),
    ((h c).1 3).trans (((dats m 0 c).arrAt_in 3 rfl _).trans ((A_eq m c 3).trans (V_main_arg8 m c))),
    ((h c).2 main_arg9 (Pipeline.mem_restRefs_of main_arg9 (by decide) (by decide))).trans ((tail_keeps m c main_arg9 (tail_writes _ (by decide)) (by exact (by decide : ∀ w, Pipeline.arrRef spec0 w ≠ main_arg9))).trans (V_main_arg9 m c))⟩) (run_main m ρ)

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (unchanged m ρ) ((θ_run defs _ _).mono (fun _ h => h.2) (run_quiescent m ρ))

end Cert.Proof.Cross

end
-- ==== Proof.Cross.Step.lean ====
/- What the cross attention's backward region leaves after each point, in the words of `Block`. -/
module

public import proofs.«01_k».proof.Proof.Cross.Frame
public import proofs.«01_k».proof.Proof.Cross.Block
public import Idealize.ShloMosaic.Lib.Pipeline.ValueKit
public import Idealize.ShloMosaic.Lib.Pipeline.ReadBack

@[expose] public section

set_option maxRecDepth 16384

noncomputable section

namespace Cert.Proof.Cross

open Idealize.ShloMosaic
open Cert.CrossIdeal Cert.CrossIdeal.Gen

variable {F : FTy → Type} [FloatOps F]

variable (m : (ℓ : Loc nD τ sig) → Buf (Elt F) ℓ) (c : Dev nD) (t : Fin cfg0.N)

/-- What a point loads from the ring: its block of an array, in the ring's slot. -/
def ring (w : Fin 2) (M : Memref sig .tc .hbm S4096x1024 .f32) (D : Big (F := F) c M) (off : Fin 4 → ℕ)
    (inb : ∀ a, off a + (![1, 1, 512, 1024] : Fin 4 → ℕ) a ≤ S2x3x512x1024.size a) : Vec F S1x1x512x1024 .f32 :=
  View.readAt (Elt F) (View.whole cc0_scratch0) (Rect.unit (s := S2x3x512x1024) off ![1, 1, 512, 1024] inb).toLoadRect
    (landed c M D w (Ring.sl 3 t.val) (Ring.bk 8 t.val) (part w (Ring.sl 3 t.val)).view.junk)

/-- What the block of a point loads. -/
def blockOf : Block F :=
  ⟨iblk m c 0 t, iblk m c 1 t, iblk m c 2 t, iblk m c 3 t, iblk m c 4 t, iblk m c 5 t, iblk m c 6 t, iblk m c 7 t, iblk m c 8 t,
   ring c t 0 arrA (V m c main_arg9) (k0_off11 (grid0.coords t)) (k0_off11_inb (grid0.coords t)),
   ring c t 1 arrB (V m c main_v13) (k0_off12 (grid0.coords t)) (k0_off12_inb (grid0.coords t))⟩

/-- The whole block's columns. -/
abbrev whole : LoadRect S512x1024 := (Rect.unit (s := S512x1024) ![0, 0] ![512, 1024] inb_S512x1024_S512x1024_0_0).toLoadRect

theorem dqA (h : t.val = 0) : (stepA m c t h).dq = (blockOf m c t).dq := by
  unfold stepA back
  dsimp only [atA]
  unfold runA
  dsimp only
  frame_out
  exact Eq.trans (b := View.canon ((blockOf m c t).dqTiles ++ [])) (by sl_kernel_rfl) ((blockOf m c t).dq_tiles [])

theorem dkA (h : t.val = 0) : (stepA m c t h).dk = (blockOf m c t).dk k0_pay1 := by
  unfold stepA back
  dsimp only [atA]
  unfold runA
  dsimp only
  frame_out
  simp (disch := first | (intro a; fin_cases a <;> rfl) | rfl | decide) only [↓View.readCov_skip, ↓View.readCov_fill]
  exact Eq.trans (b := View.canon ((blockOf m c t).dkTiles k0_pay1 ++ [⟨Rect.unit ![0, 0] ![256, 1024] inb_S256x1024_S256x1024_0_0, k0_pay1⟩])) (by sl_kernel_rfl) ((blockOf m c t).dk_tiles k0_pay1 [⟨Rect.unit ![0, 0] ![256, 1024] inb_S256x1024_S256x1024_0_0, k0_pay1⟩])

theorem dvA (h : t.val = 0) : (stepA m c t h).dv = (blockOf m c t).dv k0_pay2 := by
  unfold stepA back
  dsimp only [atA]
  unfold runA
  dsimp only
  frame_out
  simp (disch := first | (intro a; fin_cases a <;> rfl) | rfl | decide) only [↓View.readCov_skip, ↓View.readCov_fill]
  exact Eq.trans (b := View.canon ((blockOf m c t).dvTiles k0_pay2 ++ [⟨Rect.unit ![0, 0] ![256, 1024] inb_S256x1024_S256x1024_0_0, k0_pay2⟩])) (by sl_kernel_rfl) ((blockOf m c t).dv_tiles k0_pay2 [⟨Rect.unit ![0, 0] ![256, 1024] inb_S256x1024_S256x1024_0_0, k0_pay2⟩])

theorem dhA (h : t.val = 0) : (stepA m c t h).dh = (blockOf m c t).dhOf (blockOf m c t).duq := by
  unfold stepA back
  dsimp only [atA]
  unfold runA
  dsimp only
  frame_out
  exact Eq.trans (b := (blockOf m c t).dhOf (k0_pay37 ((st0_9 t).view.readCov (blockOf m c t).dqTiles whole) (blockOf m c t).wq)) (by sl_kernel_rfl)
    (congrArg (fun z => (blockOf m c t).dhOf (k0_pay37 z (blockOf m c t).wq)) ((blockOf m c t).dq_back (st0_9 t).view))

theorem dypA (h : t.val = 0) : (stepA m c t h).dyp = (blockOf m c t).dypOf (blockOf m c t).duq := by
  unfold stepA back
  dsimp only [atA]
  unfold runA
  dsimp only
  frame_out
  exact Eq.trans (b := (blockOf m c t).dypOf (k0_pay37 ((st0_9 t).view.readCov (blockOf m c t).dqTiles whole) (blockOf m c t).wq)) (by sl_kernel_rfl)
    (congrArg (fun z => (blockOf m c t).dypOf (k0_pay37 z (blockOf m c t).wq)) ((blockOf m c t).dq_back (st0_9 t).view))

theorem dymA (h : t.val = 0) : (stepA m c t h).dym = (blockOf m c t).dymOf (blockOf m c t).duq := by
  unfold stepA back
  dsimp only [atA]
  unfold runA
  dsimp only
  frame_out
  exact Eq.trans (b := (blockOf m c t).dymOf (k0_pay37 ((st0_9 t).view.readCov (blockOf m c t).dqTiles whole) (blockOf m c t).wq)) (by sl_kernel_rfl)
    (congrArg (fun z => (blockOf m c t).dymOf (k0_pay37 z (blockOf m c t).wq)) ((blockOf m c t).dq_back (st0_9 t).view))

theorem gnA (h : t.val = 0) : (stepA m c t h).gn = (blockOf m c t).gnOf (blockOf m c t).duq k0_pay3 := by
  unfold stepA back
  dsimp only [atA]
  unfold runA
  dsimp only
  frame_out
  exact Eq.trans (b := (blockOf m c t).gnOf (k0_pay37 ((st0_9 t).view.readCov (blockOf m c t).dqTiles whole) (blockOf m c t).wq) k0_pay3) (by sl_kernel_rfl)
    (congrArg (fun z => (blockOf m c t).gnOf (k0_pay37 z (blockOf m c t).wq) k0_pay3) ((blockOf m c t).dq_back (st0_9 t).view))

theorem gpA (h : t.val = 0) : (stepA m c t h).gp = (blockOf m c t).gpOf (blockOf m c t).duq k0_pay4 := by
  unfold stepA back
  dsimp only [atA]
  unfold runA
  dsimp only
  frame_out
  exact Eq.trans (b := (blockOf m c t).gpOf (k0_pay37 ((st0_9 t).view.readCov (blockOf m c t).dqTiles whole) (blockOf m c t).wq) k0_pay4) (by sl_kernel_rfl)
    (congrArg (fun z => (blockOf m c t).gpOf (k0_pay37 z (blockOf m c t).wq) k0_pay4) ((blockOf m c t).dq_back (st0_9 t).view))

theorem dqB (h : t.val ≠ 0) (h' : t.val < 6) (p : Held F) : (stepB m c t h h' p).dq = (blockOf m c t).dq := by
  unfold stepB back
  dsimp only [atB]
  unfold runB
  dsimp only
  frame_out
  exact Eq.trans (b := View.canon ((blockOf m c t).dqTiles ++ [])) (by sl_kernel_rfl) ((blockOf m c t).dq_tiles [])

theorem dkB (h : t.val ≠ 0) (h' : t.val < 6) (p : Held F) : (stepB m c t h h' p).dk = (blockOf m c t).dk p.dk := by
  unfold stepB back
  dsimp only [atB]
  unfold runB
  dsimp only
  frame_out
  exact Eq.trans (b := View.canon ((blockOf m c t).dkTiles p.dk ++ [])) (by sl_kernel_rfl) ((blockOf m c t).dk_tiles p.dk [])

theorem dvB (h : t.val ≠ 0) (h' : t.val < 6) (p : Held F) : (stepB m c t h h' p).dv = (blockOf m c t).dv p.dv := by
  unfold stepB back
  dsimp only [atB]
  unfold runB
  dsimp only
  frame_out
  exact Eq.trans (b := View.canon ((blockOf m c t).dvTiles p.dv ++ [])) (by sl_kernel_rfl) ((blockOf m c t).dv_tiles p.dv [])

theorem dhB (h : t.val ≠ 0) (h' : t.val < 6) (p : Held F) : (stepB m c t h h' p).dh = (blockOf m c t).dhOf (blockOf m c t).duq := by
  unfold stepB back
  dsimp only [atB]
  unfold runB
  dsimp only
  frame_out
  exact Eq.trans (b := (blockOf m c t).dhOf (k0_pay37 ((st0_9 t).view.readCov (blockOf m c t).dqTiles whole) (blockOf m c t).wq)) (by sl_kernel_rfl)
    (congrArg (fun z => (blockOf m c t).dhOf (k0_pay37 z (blockOf m c t).wq)) ((blockOf m c t).dq_back (st0_9 t).view))

theorem dypB (h : t.val ≠ 0) (h' : t.val < 6) (p : Held F) : (stepB m c t h h' p).dyp = (blockOf m c t).dypOf (blockOf m c t).duq := by
  unfold stepB back
  dsimp only [atB]
  unfold runB
  dsimp only
  frame_out
  exact Eq.trans (b := (blockOf m c t).dypOf (k0_pay37 ((st0_9 t).view.readCov (blockOf m c t).dqTiles whole) (blockOf m c t).wq)) (by sl_kernel_rfl)
    (congrArg (fun z => (blockOf m c t).dypOf (k0_pay37 z (blockOf m c t).wq)) ((blockOf m c t).dq_back (st0_9 t).view))

theorem dymB (h : t.val ≠ 0) (h' : t.val < 6) (p : Held F) : (stepB m c t h h' p).dym = (blockOf m c t).dymOf (blockOf m c t).duq := by
  unfold stepB back
  dsimp only [atB]
  unfold runB
  dsimp only
  frame_out
  exact Eq.trans (b := (blockOf m c t).dymOf (k0_pay37 ((st0_9 t).view.readCov (blockOf m c t).dqTiles whole) (blockOf m c t).wq)) (by sl_kernel_rfl)
    (congrArg (fun z => (blockOf m c t).dymOf (k0_pay37 z (blockOf m c t).wq)) ((blockOf m c t).dq_back (st0_9 t).view))

theorem gnB (h : t.val ≠ 0) (h' : t.val < 6) (p : Held F) : (stepB m c t h h' p).gn = (blockOf m c t).gnOf (blockOf m c t).duq p.gn := by
  unfold stepB back
  dsimp only [atB]
  unfold runB
  dsimp only
  frame_out
  exact Eq.trans (b := (blockOf m c t).gnOf (k0_pay37 ((st0_9 t).view.readCov (blockOf m c t).dqTiles whole) (blockOf m c t).wq) p.gn) (by sl_kernel_rfl)
    (congrArg (fun z => (blockOf m c t).gnOf (k0_pay37 z (blockOf m c t).wq) p.gn) ((blockOf m c t).dq_back (st0_9 t).view))

theorem gpB (h : t.val ≠ 0) (h' : t.val < 6) (p : Held F) : (stepB m c t h h' p).gp = (blockOf m c t).gpOf (blockOf m c t).duq p.gp := by
  unfold stepB back
  dsimp only [atB]
  unfold runB
  dsimp only
  frame_out
  exact Eq.trans (b := (blockOf m c t).gpOf (k0_pay37 ((st0_9 t).view.readCov (blockOf m c t).dqTiles whole) (blockOf m c t).wq) p.gp) (by sl_kernel_rfl)
    (congrArg (fun z => (blockOf m c t).gpOf (k0_pay37 z (blockOf m c t).wq) p.gp) ((blockOf m c t).dq_back (st0_9 t).view))

theorem dqC (h : t.val ≠ 0) (h' : ¬t.val < 6) (p : Held F) : (stepC m c t h h' p).dq = (blockOf m c t).dq := by
  unfold stepC back
  dsimp only [atC]
  unfold runC
  dsimp only
  frame_out
  exact Eq.trans (b := View.canon ((blockOf m c t).dqTiles ++ [])) (by sl_kernel_rfl) ((blockOf m c t).dq_tiles [])

theorem dkC (h : t.val ≠ 0) (h' : ¬t.val < 6) (p : Held F) : (stepC m c t h h' p).dk = (blockOf m c t).dk p.dk := by
  unfold stepC back
  dsimp only [atC]
  unfold runC
  dsimp only
  frame_out
  exact Eq.trans (b := View.canon ((blockOf m c t).dkTiles p.dk ++ [])) (by sl_kernel_rfl) ((blockOf m c t).dk_tiles p.dk [])

theorem dvC (h : t.val ≠ 0) (h' : ¬t.val < 6) (p : Held F) : (stepC m c t h h' p).dv = (blockOf m c t).dv p.dv := by
  unfold stepC back
  dsimp only [atC]
  unfold runC
  dsimp only
  frame_out
  exact Eq.trans (b := View.canon ((blockOf m c t).dvTiles p.dv ++ [])) (by sl_kernel_rfl) ((blockOf m c t).dv_tiles p.dv [])

theorem dhC (h : t.val ≠ 0) (h' : ¬t.val < 6) (p : Held F) : (stepC m c t h h' p).dh = (blockOf m c t).dhOf (blockOf m c t).duq := by
  unfold stepC back
  dsimp only [atC]
  unfold runC
  dsimp only
  frame_out
  exact Eq.trans (b := (blockOf m c t).dhOf (k0_pay37 ((st0_9 t).view.readCov (blockOf m c t).dqTiles whole) (blockOf m c t).wq)) (by sl_kernel_rfl)
    (congrArg (fun z => (blockOf m c t).dhOf (k0_pay37 z (blockOf m c t).wq)) ((blockOf m c t).dq_back (st0_9 t).view))

theorem dypC (h : t.val ≠ 0) (h' : ¬t.val < 6) (p : Held F) : (stepC m c t h h' p).dyp = (blockOf m c t).dypOf (blockOf m c t).duq := by
  unfold stepC back
  dsimp only [atC]
  unfold runC
  dsimp only
  frame_out
  exact Eq.trans (b := (blockOf m c t).dypOf (k0_pay37 ((st0_9 t).view.readCov (blockOf m c t).dqTiles whole) (blockOf m c t).wq)) (by sl_kernel_rfl)
    (congrArg (fun z => (blockOf m c t).dypOf (k0_pay37 z (blockOf m c t).wq)) ((blockOf m c t).dq_back (st0_9 t).view))

theorem dymC (h : t.val ≠ 0) (h' : ¬t.val < 6) (p : Held F) : (stepC m c t h h' p).dym = (blockOf m c t).dymOf (blockOf m c t).duq := by
  unfold stepC back
  dsimp only [atC]
  unfold runC
  dsimp only
  frame_out
  exact Eq.trans (b := (blockOf m c t).dymOf (k0_pay37 ((st0_9 t).view.readCov (blockOf m c t).dqTiles whole) (blockOf m c t).wq)) (by sl_kernel_rfl)
    (congrArg (fun z => (blockOf m c t).dymOf (k0_pay37 z (blockOf m c t).wq)) ((blockOf m c t).dq_back (st0_9 t).view))

theorem gnC (h : t.val ≠ 0) (h' : ¬t.val < 6) (p : Held F) : (stepC m c t h h' p).gn = (blockOf m c t).gnOf (blockOf m c t).duq p.gn := by
  unfold stepC back
  dsimp only [atC]
  unfold runC
  dsimp only
  frame_out
  exact Eq.trans (b := (blockOf m c t).gnOf (k0_pay37 ((st0_9 t).view.readCov (blockOf m c t).dqTiles whole) (blockOf m c t).wq) p.gn) (by sl_kernel_rfl)
    (congrArg (fun z => (blockOf m c t).gnOf (k0_pay37 z (blockOf m c t).wq) p.gn) ((blockOf m c t).dq_back (st0_9 t).view))

theorem gpC (h : t.val ≠ 0) (h' : ¬t.val < 6) (p : Held F) : (stepC m c t h h' p).gp = (blockOf m c t).gpOf (blockOf m c t).duq p.gp := by
  unfold stepC back
  dsimp only [atC]
  unfold runC
  dsimp only
  frame_out
  exact Eq.trans (b := (blockOf m c t).gpOf (k0_pay37 ((st0_9 t).view.readCov (blockOf m c t).dqTiles whole) (blockOf m c t).wq) p.gp) (by sl_kernel_rfl)
    (congrArg (fun z => (blockOf m c t).gpOf (k0_pay37 z (blockOf m c t).wq) p.gp) ((blockOf m c t).dq_back (st0_9 t).view))

end Cert.Proof.Cross

end
-- ==== Proof.Cross.Windows.lean ====
/- What a point of the grid loads: the rows of the host's arrays. -/
module

public import proofs.«01_k».proof.Proof.Cross.Real
public import proofs.«01_k».proof.Proof.Cross.Step
public import Idealize.ShloMosaic.Lib.ValueLayout

@[expose] public section

set_option maxRecDepth 16384

noncomputable section

namespace Cert.Proof.Cross

open Idealize.ShloMosaic Idealize.ShloMosaic.TcCoe Idealize.SL.Sem
open Cert.CrossIdeal Cert.CrossIdeal.Gen

/-- The blocks of the windows, point by point. -/
theorem idx : ∀ t : Fin cfg0.N, win0_0.index t = ![t.val, 0] ∧ win0_1.index t = ![0, 0] ∧ win0_2.index t = ![0, 0] ∧ win0_3.index t = ![t.val, 0]
    ∧ win0_4.index t = ![0, 0] ∧ win0_5.index t = ![0, 0] ∧ win0_6.index t = ![t.val, 0] ∧ win0_7.index t = ![0, 0] ∧ win0_8.index t = ![0, 0]
    ∧ win0_9.index t = ![t.val, 0] ∧ win0_10.index t = ![0, 0] ∧ win0_11.index t = ![0, 0] ∧ win0_12.index t = ![t.val, 0]
    ∧ win0_13.index t = ![t.val, 0] ∧ win0_14.index t = ![t.val, 0] ∧ win0_15.index t = ![0, 0] ∧ win0_16.index t = ![0, 0] :=
  (by decide +kernel : ∀ t : Fin grid0.N, _)

/-- A point's number among the eight blocks. -/
abbrev pt (t : Fin cfg0.N) : Fin 8 := ⟨t.val, by have := t.isLt; have : cfg0.N = 8 := N_0; omega⟩

section Ring

variable {F : FTy → Type} [FloatOps F] (c : Dev nD)

/-- A part of the ring as the load names it. -/
theorem part_read (w : Fin 2) (s : Fin 3) (g : Slots (F := F) c)
    (a : Fin 512) (x : Fin 1024) (inb : ∀ a, (![w.val, s.val, 0, 0] : Fin 4 → ℕ) a + (![1, 1, 512, 1024] : Fin 4 → ℕ) a ≤ S2x3x512x1024.size a) :
    View.readAt (Elt F) (View.whole cc0_scratch0) (Rect.unit (s := S2x3x512x1024) ![w.val, s.val, 0, 0] ![1, 1, 512, 1024] inb).toLoadRect g
      (ix4 (0 : Fin 1) (0 : Fin 1) a x) = (part w s).view.read (Elt F) g (ix2 a x) := by
  refine congrArg (fun i => (View.whole cc0_scratch0).read (Elt F) g ((Rect.unit (s := S2x3x512x1024) ![w.val, s.val, 0, 0] ![1, 1, 512, 1024] inb).toLoadRect.idx i)) ?_
  exact (ValueIdx.reshapeEquiv_ix2_11ab squeezes_S1x1x512x1024_S512x1024.numel_eq a x).symm

/-- A part of the ring, once a block has landed in it, reads as the block's rows. -/
theorem landed_read (M : Memref sig .tc .hbm S4096x1024 .f32) (D : Big (F := F) c M) (w : Fin 2) (s : Fin 3) (b : Fin 8) (f : Slots (F := F) c)
    (a : Fin 512) (x : Fin 1024) (o : Fin 4 → ℕ) (ho : o = ![w.val, s.val, 0, 0]) (inb : ∀ a, o a + (![1, 1, 512, 1024] : Fin 4 → ℕ) a ≤ S2x3x512x1024.size a) :
    View.readAt (Elt F) (View.whole cc0_scratch0) (Rect.unit (s := S2x3x512x1024) o ![1, 1, 512, 1024] inb).toLoadRect (landed c M D w s b f)
      (ix4 (0 : Fin 1) (0 : Fin 1) a x) = (rows M b).view.read (Elt F) D (ix2 a x) := by
  subst ho
  exact (part_read c w s _ a x _).trans (congrFun (View.read_writes_whole (part w s).view f ((rows M b).view.read (Elt F) D)) (ix2 a x))

/-- The rows of an array's block. -/
theorem rowsA_read (D : Big (F := F) c arrA) (b : Fin 8) (a : Fin 512) (x : Fin 1024) :
    (rows arrA b).view.read (Elt F) D (ix2 a x) = D (ix2 (Att.at512 b a) x) := by
  refine congrArg D ?_
  funext k
  refine Fin.ext ?_
  fin_cases k
  · exact (ValueKit.rect_emb_unit_val ..).trans (by simp)
  · exact (ValueKit.rect_emb_unit_val ..).trans (by simp)

theorem rowsB_read (D : Big (F := F) c arrB) (b : Fin 8) (a : Fin 512) (x : Fin 1024) :
    (rows arrB b).view.read (Elt F) D (ix2 a x) = D (ix2 (Att.at512 b a) x) := by
  refine congrArg D ?_
  funext k
  refine Fin.ext ?_
  fin_cases k
  · exact (ValueKit.rect_emb_unit_val ..).trans (by simp)
  · exact (ValueKit.rect_emb_unit_val ..).trans (by simp)

variable (m : (ℓ : Loc nD τ sig) → Buf (Elt F) ℓ) (t : Fin cfg0.N)

theorem pt_eq : (Ring.bk 8 t.val : Fin 8) = pt t := Fin.ext (Ring.bk_val (by have := t.isLt; have : cfg0.N = 8 := N_0; omega))

theorem ring_read (M : Memref sig .tc .hbm S4096x1024 .f32) (D : Big (F := F) c M) (w : Fin 2) (o : Fin 4 → ℕ)
    (ho : o = ![w.val, (Ring.sl 3 t.val : Fin 3).val, 0, 0]) (inb : ∀ a, o a + (![1, 1, 512, 1024] : Fin 4 → ℕ) a ≤ S2x3x512x1024.size a)
    (a : Fin 512) (x : Fin 1024) : ring c t w M D o inb (ix4 (0 : Fin 1) (0 : Fin 1) a x) = (rows M (pt t)).view.read (Elt F) D (ix2 a x) := by
  unfold ring
  rw [pt_eq]
  exact landed_read c M D w (Ring.sl 3 t.val) (pt t) _ a x o ho inb

/-- What a point reads of the ring: the two streamed arrays' rows. -/
theorem ring_d (a : Fin 512) (x : Fin 1024) : (blockOf m c t).d (ix4 (0 : Fin 1) (0 : Fin 1) a x) = V m c main_arg9 (ix2 (Att.at512 (pt t) a) x) := by
  unfold blockOf
  dsimp only
  rw [ring_read c t arrA _ 0 _ (read_part0 t)]
  exact rowsA_read c _ (pt t) a x
theorem ring_x (a : Fin 512) (x : Fin 1024) : (blockOf m c t).x (ix4 (0 : Fin 1) (0 : Fin 1) a x) = V m c main_v13 (ix2 (Att.at512 (pt t) a) x) := by
  unfold blockOf
  dsimp only
  rw [ring_read c t arrB _ 1 _ (read_part1 t)]
  exact rowsB_read c _ (pt t) a x

end Ring

/-- The host's reciprocal root of each row's mean square, -/
def root (x : FVec Ideal S4096x1024 .f32) : FVec Ideal S4096x1 .f32 :=
  Host.rsqrt (addf (Host.divf (broadcastInDim S4096x1 ![0] bcast_S4096_S4096x1_0
    (Host.reduceAdd (mulf x x) (constant S_ .f32 0x00000000#32) reducesTo_S4096x1024_S4096_d1 h_S_))
    (broadcastInDim S4096x1 ![] bcast_S_S4096x1 (constant S_ .f32 0x44800000#32)))
    (broadcastInDim S4096x1 ![] bcast_S_S4096x1 (constant S_ .f32 0x358637BD#32)))
/-- its normalised rows times a gain, -/
def normed (x : FVec Ideal S4096x1024 .f32) (g : FVec Ideal S1x1024 .f32) : FVec Ideal S4096x1024 .f32 :=
  mulf (mulf x (broadcastInDim S4096x1024 ![0, 1] bcast_S4096x1_S4096x1024_0_1 (root x)))
    (broadcastInDim S4096x1024 ![0, 1] bcast_S1x1024_S4096x1024_0_1 g)
/-- and its product with a weight. -/
def product (x : FVec Ideal S4096x1024 .f32) (w : FVec Ideal S1024x1024 .f32) : FVec Ideal S4096x1024 .bf16 :=
  truncf .bf16 (Host.dotGeneral dot_S4096x1024_S1024x1024_S4096x1024_1_0_0_1_n_n none x w : FVec Ideal S4096x1024 .f32) bitsLt_bf16_f32

theorem root_apply {X : Fin 4096 → Fin 1024 → ℝ} {x : FVec Ideal S4096x1024 .f32} (hx : ∀ r l, (x (ix2 r l) : EReal) = ((X r l : ℝ) : EReal)) (r : Fin 4096) :
    (root x (ix2 r (0 : Fin 1)) : EReal) = ((rs (X r) : ℝ) : EReal) := by
  pointwise [root]
  simp only [hx, ← EReal.coe_mul, coe_sum, bits_1024, bits_eps, zero_add]
  rw [div_real (by norm_num), ← EReal.coe_add]
  exact rsqrt_real (ms_pos (X r))

theorem normed_apply {X : Fin 4096 → Fin 1024 → ℝ} {G : Fin 1024 → ℝ} {x : FVec Ideal S4096x1024 .f32} {g : FVec Ideal S1x1024 .f32}
    (hx : ∀ r l, (x (ix2 r l) : EReal) = ((X r l : ℝ) : EReal)) (hg : ∀ l, (g (ix2 (0 : Fin 1) l) : EReal) = ((G l : ℝ) : EReal)) (r : Fin 4096) (l : Fin 1024) :
    (normed x g (ix2 r l) : EReal) = ((X r l * rs (X r) * G l : ℝ) : EReal) := by
  pointwise [normed]
  simp only [hx, hg, root_apply hx, ← EReal.coe_mul]

theorem product_apply {X : Fin 4096 → Fin 1024 → ℝ} {W : Fin 1024 → Fin 1024 → ℝ} {x : FVec Ideal S4096x1024 .f32} {w : FVec Ideal S1024x1024 .f32}
    (hx : ∀ r l, (x (ix2 r l) : EReal) = ((X r l : ℝ) : EReal)) (hw : ∀ r l, (w (ix2 r l) : EReal) = ((W r l : ℝ) : EReal)) (r : Fin 4096) (l : Fin 1024) :
    (product x w (ix2 r l) : EReal) = ((∑ k, X r k * W k l : ℝ) : EReal) := by
  pointwise [product]
  simp only [hx, hw, ← EReal.coe_mul, coe_sum]

variable (m : (ℓ : Loc nD τ sig) → Buf (Elt Ideal) ℓ) (c : Dev nD) (A : Att.Args)

/-- The argument arrays are real: what the finiteness precondition gives. -/
structure Real : Prop where
  y : ∀ r l, (m ((c : Thread nD τ).loc main_arg0) : FVec Ideal S4096x1024 .bf16) (ix2 r l) = ((A.y r l : ℝ) : EReal)
  x : ∀ r l, (m ((c : Thread nD τ).loc main_arg1) : FVec Ideal S4096x1024 .f32) (ix2 r l) = ((A.x r l : ℝ) : EReal)
  k : ∀ r l, (m ((c : Thread nD τ).loc main_arg2) : FVec Ideal S256x1024 .f32) (ix2 r l) = ((A.k r l : ℝ) : EReal)
  v : ∀ r l, (m ((c : Thread nD τ).loc main_arg3) : FVec Ideal S256x1024 .f32) (ix2 r l) = ((A.v r l : ℝ) : EReal)
  wq : ∀ r l, (m ((c : Thread nD τ).loc main_arg4) : FVec Ideal S1024x1024 .f32) (ix2 r l) = ((A.wq r l : ℝ) : EReal)
  wo : ∀ r l, (m ((c : Thread nD τ).loc main_arg5) : FVec Ideal S1024x1024 .f32) (ix2 r l) = ((A.wo r l : ℝ) : EReal)
  gpost : ∀ l, (m ((c : Thread nD τ).loc main_arg6) : FVec Ideal S1x1024 .f32) (ix2 (0 : Fin 1) l) = ((A.gpost l : ℝ) : EReal)
  gpre : ∀ l, (m ((c : Thread nD τ).loc main_arg7) : FVec Ideal S1x1024 .f32) (ix2 (0 : Fin 1) l) = ((A.gpre l : ℝ) : EReal)
  g : ∀ r l, (m ((c : Thread nD τ).loc main_arg8) : FVec Ideal S4096x1024 .bf16) (ix2 r l) = ((A.g r l : ℝ) : EReal)
  d : ∀ r l, (m ((c : Thread nD τ).loc main_arg9) : FVec Ideal S4096x1024 .f32) (ix2 r l) = ((A.d r l : ℝ) : EReal)

variable {m c A} (h : Real m c A)
include h

omit h in
theorem V_13 (m : (ℓ : Loc nD τ sig) → Buf (Elt Ideal) ℓ) (c : Dev nD) :
    V m c main_v13 = addf (m ((c : Thread nD τ).loc main_arg1)) (normed (extf .f32 (m ((c : Thread nD τ).loc main_arg0)) bitsLt_bf16_f32) (m ((c : Thread nD τ).loc main_arg6))) := by
  dsimp only [V, V0, hostOps0, List.flatten_cons, List.flatten_nil, List.append_nil, List.cons_append, List.nil_append]
  after_results
  rfl
omit h in
theorem V_27 (m : (ℓ : Loc nD τ sig) → Buf (Elt Ideal) ℓ) (c : Dev nD) :
    V m c main_v27 = product (normed (V m c main_v13) (m ((c : Thread nD τ).loc main_arg7))) (m ((c : Thread nD τ).loc main_arg4)) := by
  rw [V_13]
  dsimp only [V, V0, hostOps0, List.flatten_cons, List.flatten_nil, List.append_nil, List.cons_append, List.nil_append]
  after_results
  rfl
omit h in
theorem V_arg9 (m : (ℓ : Loc nD τ sig) → Buf (Elt Ideal) ℓ) (c : Dev nD) : V m c main_arg9 = m ((c : Thread nD τ).loc main_arg9) := by
  dsimp only [V, V0, hostOps0, List.flatten_cons, List.flatten_nil, List.append_nil, List.cons_append, List.nil_append]
  after_results
omit h in
theorem V_28 (m : (ℓ : Loc nD τ sig) → Buf (Elt Ideal) ℓ) (c : Dev nD) (i : S256x1024.Idx) : V m c main_v28 i = m ((c : Thread nD τ).loc main_arg2) i := by
  dsimp only [V, V0, hostOps0, List.flatten_cons, List.flatten_nil, List.append_nil, List.cons_append, List.nil_append]
  after_results
  rfl
omit h in
theorem V_29 (m : (ℓ : Loc nD τ sig) → Buf (Elt Ideal) ℓ) (c : Dev nD) (i : S256x1024.Idx) : V m c main_v29 i = m ((c : Thread nD τ).loc main_arg3) i := by
  dsimp only [V, V0, hostOps0, List.flatten_cons, List.flatten_nil, List.append_nil, List.cons_append, List.nil_append]
  after_results
  rfl
omit h in
theorem V_30 (m : (ℓ : Loc nD τ sig) → Buf (Elt Ideal) ℓ) (c : Dev nD) (i : S1024x1024.Idx) : V m c main_v30 i = m ((c : Thread nD τ).loc main_arg4) i := by
  dsimp only [V, V0, hostOps0, List.flatten_cons, List.flatten_nil, List.append_nil, List.cons_append, List.nil_append]
  after_results
  rfl
omit h in
theorem V_31 (m : (ℓ : Loc nD τ sig) → Buf (Elt Ideal) ℓ) (c : Dev nD) (i : S1024x1024.Idx) : V m c main_v31 i = m ((c : Thread nD τ).loc main_arg5) i := by
  dsimp only [V, V0, hostOps0, List.flatten_cons, List.flatten_nil, List.append_nil, List.cons_append, List.nil_append]
  after_results
  rfl

/-- The host's hidden state, -/
theorem entry13 (r : Fin 4096) (l : Fin 1024) : (V m c main_v13 (ix2 r l) : EReal) = ((A.hid r l : ℝ) : EReal) := by
  rw [V_13]
  refine (congrArg₂ (fun a b : EReal => a + b) (h.x r l) (normed_apply (X := A.y) (G := A.gpost) (fun r l => ?_) h.gpost r l)).trans ?_
  · exact h.y r l
  · exact (EReal.coe_add _ _).symm
/-- and its queries. -/
theorem entry27 (r : Fin 4096) (l : Fin 1024) : (V m c main_v27 (ix2 r l) : EReal) = ((A.qry r l : ℝ) : EReal) := by
  rw [V_27]
  exact product_apply (normed_apply (entry13 h) h.gpre) h.wq r l

variable (t : Fin cfg0.N)

theorem blk0 (a : Fin 512) (x : Fin 1024) : ((iblk m c 0 t : FVec Ideal S512x1024 .bf16) (ix2 a x) : EReal) = ((A.qry (Att.at512 (pt t) a) x : ℝ) : EReal) := by
  refine Eq.trans ?_ (entry27 h (Att.at512 (pt t) a) x)
  blk_simp [iblk]
  exact congrArg (V m c main_v27) (by blk_ext [idx t])
theorem blk1 (a : Fin 256) (x : Fin 1024) : ((iblk m c 1 t : FVec Ideal S256x1024 .bf16) (ix2 a x) : EReal) = ((A.k a x : ℝ) : EReal) := by
  refine Eq.trans ?_ ((V_28 m c (ix2 a x)).trans (h.k a x))
  blk_simp [iblk]
  exact congrArg (V m c main_v28) (by blk_ext [idx t])
theorem blk2 (a : Fin 256) (x : Fin 1024) : ((iblk m c 2 t : FVec Ideal S256x1024 .bf16) (ix2 a x) : EReal) = ((A.v a x : ℝ) : EReal) := by
  refine Eq.trans ?_ ((V_29 m c (ix2 a x)).trans (h.v a x))
  blk_simp [iblk]
  exact congrArg (V m c main_v29) (by blk_ext [idx t])
theorem blk3 (a : Fin 512) (x : Fin 1024) : ((iblk m c 3 t : FVec Ideal S512x1024 .bf16) (ix2 a x) : EReal) = ((A.g (Att.at512 (pt t) a) x : ℝ) : EReal) := by
  refine Eq.trans ?_ (h.g (Att.at512 (pt t) a) x)
  blk_point [iblk, V, idx t]
theorem blk4 (a x : Fin 1024) : ((iblk m c 4 t : FVec Ideal S1024x1024 .bf16) (ix2 a x) : EReal) = ((A.wq a x : ℝ) : EReal) := by
  refine Eq.trans ?_ ((V_30 m c (ix2 a x)).trans (h.wq a x))
  blk_simp [iblk]
  exact congrArg (V m c main_v30) (by blk_ext [idx t])
theorem blk5 (a x : Fin 1024) : ((iblk m c 5 t : FVec Ideal S1024x1024 .bf16) (ix2 a x) : EReal) = ((A.wo a x : ℝ) : EReal) := by
  refine Eq.trans ?_ ((V_31 m c (ix2 a x)).trans (h.wo a x))
  blk_simp [iblk]
  exact congrArg (V m c main_v31) (by blk_ext [idx t])
theorem blk6 (a : Fin 512) (x : Fin 1024) : ((iblk m c 6 t : FVec Ideal S512x1024 .bf16) (ix2 a x) : EReal) = ((A.y (Att.at512 (pt t) a) x : ℝ) : EReal) := by
  refine Eq.trans ?_ (h.y (Att.at512 (pt t) a) x)
  blk_point [iblk, V, idx t]
theorem blk7 (x : Fin 1024) : ((iblk m c 7 t : FVec Ideal S1x1024 .f32) (ix2 (0 : Fin 1) x) : EReal) = ((A.gpost x : ℝ) : EReal) := by
  refine Eq.trans ?_ (h.gpost x)
  blk_point [iblk, V, idx t]
theorem blk8 (x : Fin 1024) : ((iblk m c 8 t : FVec Ideal S1x1024 .f32) (ix2 (0 : Fin 1) x) : EReal) = ((A.gpre x : ℝ) : EReal) := by
  refine Eq.trans ?_ (h.gpre x)
  blk_point [iblk, V, idx t]

theorem blk9 (a : Fin 512) (x : Fin 1024) : ((blockOf m c t).d (ix4 (0 : Fin 1) (0 : Fin 1) a x) : EReal) = ((A.d (Att.at512 (pt t) a) x : ℝ) : EReal) :=
  (ring_d c m t a x).trans ((congrFun (V_arg9 m c) _).trans (h.d (Att.at512 (pt t) a) x))
theorem blk10 (a : Fin 512) (x : Fin 1024) : ((blockOf m c t).x (ix4 (0 : Fin 1) (0 : Fin 1) a x) : EReal) = ((A.hid (Att.at512 (pt t) a) x : ℝ) : EReal) :=
  (ring_x c m t a x).trans (entry13 h (Att.at512 (pt t) a) x)

omit h in
theorem mk_is {R : Att.Rows 4096} {q : Vec Ideal S512x1024 .bf16} {k v : Vec Ideal S256x1024 .bf16} {g : Vec Ideal S512x1024 .bf16}
    {wq wo : Vec Ideal S1024x1024 .bf16} {y : Vec Ideal S512x1024 .bf16} {gpost gpre : Vec Ideal S1x1024 .f32} {d x : Vec Ideal S1x1x512x1024 .f32} (b : Fin 8)
    (hq : ∀ a x, (q (ix2 a x) : EReal) = ((R.q (Att.at512 b a) x : ℝ) : EReal)) (hk : ∀ a x, (k (ix2 a x) : EReal) = ((R.k a x : ℝ) : EReal))
    (hv : ∀ a x, (v (ix2 a x) : EReal) = ((R.v a x : ℝ) : EReal)) (hg : ∀ a x, (g (ix2 a x) : EReal) = ((R.g (Att.at512 b a) x : ℝ) : EReal))
    (hwq : ∀ a x, (wq (ix2 a x) : EReal) = ((R.wq a x : ℝ) : EReal)) (hwo : ∀ a x, (wo (ix2 a x) : EReal) = ((R.wo a x : ℝ) : EReal))
    (hy : ∀ a x, (y (ix2 a x) : EReal) = ((R.y (Att.at512 b a) x : ℝ) : EReal))
    (hpost : ∀ x, (gpost (ix2 (0 : Fin 1) x) : EReal) = ((R.gpost x : ℝ) : EReal)) (hpre : ∀ x, (gpre (ix2 (0 : Fin 1) x) : EReal) = ((R.gpre x : ℝ) : EReal))
    (hd : ∀ a z, (d (ix4 (0 : Fin 1) (0 : Fin 1) a z) : EReal) = ((R.d (Att.at512 b a) z : ℝ) : EReal))
    (hx : ∀ a z, (x (ix4 (0 : Fin 1) (0 : Fin 1) a z) : EReal) = ((R.x (Att.at512 b a) z : ℝ) : EReal)) :
    (⟨q, k, v, g, wq, wo, y, gpost, gpre, d, x⟩ : Block Ideal).Is (R.block b) :=
  ⟨hq, hk, hv, hg, hwq, hwo, hy, hpost, hpre, hd, hx⟩

/-- What a point loads is the step's rows of the point's block. -/
theorem block_is : (blockOf m c t).Is (A.rows.block (pt t)) := by
  have hd := blk9 h t
  have hx := blk10 h t
  unfold blockOf at hd hx ⊢
  dsimp only at hd hx
  generalize ring c t 0 arrA (V m c main_arg9) (k0_off11 (grid0.coords t)) (k0_off11_inb (grid0.coords t)) = d at hd ⊢
  generalize ring c t 1 arrB (V m c main_v13) (k0_off12 (grid0.coords t)) (k0_off12_inb (grid0.coords t)) = x at hx ⊢
  exact mk_is (R := A.rows) (pt t) (blk0 h t) (blk1 h t) (blk2 h t) (blk3 h t) (blk4 h t) (blk5 h t) (blk6 h t) (blk7 h t) (blk8 h t) hd hx

end Cert.Proof.Cross

end
-- ==== Proof.Cross.Arrays.lean ====
/- The arrays the grid of the cross attention's backward pass leaves, at real arguments. -/
module

public import proofs.«01_k».proof.Proof.Cross.Windows
public import Idealize.ShloMosaic.Lib.Pipeline.ValueKit

@[expose] public section

set_option maxRecDepth 16384

noncomputable section

namespace Cert.Proof.Cross

open Idealize.ShloMosaic Idealize.ShloMosaic.TcCoe Idealize.SL.Sem
open Cert.CrossIdeal Cert.CrossIdeal.Gen

variable {m : (ℓ : Loc nD τ sig) → Buf (Elt Ideal) ℓ} {c : Dev nD} {A : Att.Args} (h : Real m c A)

/-- The 4096 rows are eight blocks of 512. -/
theorem sum_rows (f : Fin 4096 → ℝ) : ∑ t : Fin cfg0.N, ∑ a : Fin 512, f (Att.at512 (pt t) a) = ∑ r, f r := by
  rw [Fin.sum_univ_tiles 8 512 rfl]
  exact Finset.sum_congr rfl fun t _ => Finset.sum_congr rfl fun a _ => congrArg f (Fin.ext (congrArg (· + a.val) (Nat.mul_comm 512 t.val)))

/-- And each block is its rows by residue modulo eight. -/
theorem sum_residues (f : Fin 4096 → ℝ) :
    ∑ j : Fin 8, ∑ t : Fin cfg0.N, ∑ a : Fin 64, (fun r : Fin 512 => f (Att.at512 (pt t) r)) ⟨a.val * 8 + j.val, by omega⟩ = ∑ r, f r := by
  rw [← sum_rows, Finset.sum_comm]
  refine Finset.sum_congr rfl fun t _ => ?_
  rw [Finset.sum_comm, Fin.sum_univ_tiles 64 8 rfl]

section Points

variable (t : Fin cfg0.N)

theorem held_dq : (held m c t.val t.isLt).dq = (blockOf m c t).dq := by
  by_cases h0 : t.val = 0
  · rw [held_A m c t h0, dqA]
  by_cases h6 : t.val < 6
  · rw [held_B m c t h0 h6, dqB]
  · rw [held_C m c t h0 h6, dqC]
theorem held_dh : (held m c t.val t.isLt).dh = (blockOf m c t).dhOf (blockOf m c t).duq := by
  by_cases h0 : t.val = 0
  · rw [held_A m c t h0, dhA]
  by_cases h6 : t.val < 6
  · rw [held_B m c t h0 h6, dhB]
  · rw [held_C m c t h0 h6, dhC]
theorem held_dyp : (held m c t.val t.isLt).dyp = (blockOf m c t).dypOf (blockOf m c t).duq := by
  by_cases h0 : t.val = 0
  · rw [held_A m c t h0, dypA]
  by_cases h6 : t.val < 6
  · rw [held_B m c t h0 h6, dypB]
  · rw [held_C m c t h0 h6, dypC]
theorem held_dym : (held m c t.val t.isLt).dym = (blockOf m c t).dymOf (blockOf m c t).duq := by
  by_cases h0 : t.val = 0
  · rw [held_A m c t h0, dymA]
  by_cases h6 : t.val < 6
  · rw [held_B m c t h0 h6, dymB]
  · rw [held_C m c t h0 h6, dymC]
theorem first_dk (h0 : t.val = 0) : (held m c t.val t.isLt).dk = (blockOf m c t).dk (k0_pay1 (F := Ideal)) := by
  rw [held_A m c t h0, dkA]
theorem later_dk (h0 : t.val ≠ 0) : (held m c t.val t.isLt).dk = (blockOf m c t).dk (before' m c t).dk := by
  by_cases h6 : t.val < 6
  · rw [held_B m c t h0 h6, dkB]
  · rw [held_C m c t h0 h6, dkC]
theorem first_dv (h0 : t.val = 0) : (held m c t.val t.isLt).dv = (blockOf m c t).dv (k0_pay2 (F := Ideal)) := by
  rw [held_A m c t h0, dvA]
theorem later_dv (h0 : t.val ≠ 0) : (held m c t.val t.isLt).dv = (blockOf m c t).dv (before' m c t).dv := by
  by_cases h6 : t.val < 6
  · rw [held_B m c t h0 h6, dvB]
  · rw [held_C m c t h0 h6, dvC]
theorem first_gn (h0 : t.val = 0) : (held m c t.val t.isLt).gn = (blockOf m c t).gnOf (blockOf m c t).duq (k0_pay3 (F := Ideal)) := by
  rw [held_A m c t h0, gnA]
theorem later_gn (h0 : t.val ≠ 0) : (held m c t.val t.isLt).gn = (blockOf m c t).gnOf (blockOf m c t).duq (before' m c t).gn := by
  by_cases h6 : t.val < 6
  · rw [held_B m c t h0 h6, gnB]
  · rw [held_C m c t h0 h6, gnC]
theorem first_gp (h0 : t.val = 0) : (held m c t.val t.isLt).gp = (blockOf m c t).gpOf (blockOf m c t).duq (k0_pay4 (F := Ideal)) := by
  rw [held_A m c t h0, gpA]
theorem later_gp (h0 : t.val ≠ 0) : (held m c t.val t.isLt).gp = (blockOf m c t).gpOf (blockOf m c t).duq (before' m c t).gp := by
  by_cases h6 : t.val < 6
  · rw [held_B m c t h0 h6, gpB]
  · rw [held_C m c t h0 h6, gpC]

end Points

/-- An array of the 4096 rows. -/
def arr (f : Fin 4096 → Fin 1024 → ℝ) : S4096x1024.Idx → EReal := fun i => ((f (i 0) (i 1) : ℝ) : EReal)

include h

/-- As the grid leaves it: the queries' gradient. -/
theorem final_dq : (dats m 0 c).arrAt 9 cfg0.N = arr A.rows.dq := by
  refine (dats m 0 c).arrAt_eq_of_covers 9 _ (by decide +kernel) fun t _ y => ?_
  blk_simp
  rw [after9, held_dq]
  idx_vars y
  refine (dq_is (block_is h t) _ _).trans ((show _ = arr A.rows.dq (ix2 (Att.at512 (pt t) _) _) from rfl).trans (congrArg (arr A.rows.dq) ?_))
  blk_ext [idx t]

/-- As the grid leaves it: the hidden state's. -/
theorem final_dh : (dats m 0 c).arrAt 12 cfg0.N = arr A.rows.dh := by
  refine (dats m 0 c).arrAt_eq_of_covers 12 _ (by decide +kernel) fun t _ y => ?_
  blk_simp
  rw [after12, held_dh]
  idx_vars y
  refine (dh_is (block_is h t) _ _).trans ((show _ = arr A.rows.dh (ix2 (Att.at512 (pt t) _) _) from rfl).trans (congrArg (arr A.rows.dh) ?_))
  blk_ext [idx t]

/-- As the grid leaves it: the mixer's output's. -/
theorem final_dyp : (dats m 0 c).arrAt 13 cfg0.N = arr A.rows.dy := by
  refine (dats m 0 c).arrAt_eq_of_covers 13 _ (by decide +kernel) fun t _ y => ?_
  blk_simp
  rw [after13, held_dyp]
  idx_vars y
  refine (dyp_is (block_is h t) _ _).trans ((show _ = arr A.rows.dy (ix2 (Att.at512 (pt t) _) _) from rfl).trans (congrArg (arr A.rows.dy) ?_))
  blk_ext [idx t]

/-- As the grid leaves it: what its projection sends back. -/
theorem final_dym : (dats m 0 c).arrAt 14 cfg0.N = arr A.rows.dym := by
  refine (dats m 0 c).arrAt_eq_of_covers 14 _ (by decide +kernel) fun t _ y => ?_
  blk_simp
  rw [after14, held_dym]
  idx_vars y
  refine (dym_is (block_is h t) _ _).trans ((show _ = arr A.rows.dym (ix2 (Att.at512 (pt t) _) _) from rfl).trans (congrArg (arr A.rows.dym) ?_))
  blk_ext [idx t]

/-- The keys' gradient, added up over the grid. -/
theorem final_dk : (dats m 0 c).arrAt 10 cfg0.N = fun i : S256x1024.Idx => ((∑ r, A.rows.dk r (i 1) (i 0) : ℝ) : EReal) := by
  refine (dats m 0 c).arrAt_eq_of_after_last 10 t0_7 (by decide +kernel) _ fun i => ?_
  blk_simp
  rw [after10, Pipeline.eq_sum_fin_of_reset_step_apply_last (M := EReal) (fun n h => (held m c n h).dk) 8 (fun _ => 0)
    (fun t i => ((∑ a : Fin 512, A.rows.dk (Att.at512 (pt t) a) (i 1) (i 0) : ℝ) : EReal))
    (fun t h0 i => by
      have h0 : t.val = 0 := by have := t.isLt; have : cfg0.N = 8 := N_0; omega
      rw [first_dk t h0]; idx_vars i
      refine (dk_is (block_is h t) _ _ _).trans (congrArg₂ (fun a b : EReal => a + b) ?_ rfl)
      pointwise [k0_pay1])
    (fun t h0 i => by
      have h0 : t.val ≠ 0 := fun e => h0 (by rw [e])
      rw [later_dk t h0]; idx_vars i
      exact dk_is (block_is h t) _ _ _) (le_of_eq N_0) t0_7 rfl i, zero_add]
  refine Eq.trans (coe_sum Finset.univ _) (congrArg _ ?_)
  idx_vars i
  exact sum_rows fun r => A.rows.dk r _ _

/-- The values' gradient, added up over the grid. -/
theorem final_dv : (dats m 0 c).arrAt 11 cfg0.N = fun i : S256x1024.Idx => ((∑ r, A.rows.dv r (i 1) (i 0) : ℝ) : EReal) := by
  refine (dats m 0 c).arrAt_eq_of_after_last 11 t0_7 (by decide +kernel) _ fun i => ?_
  blk_simp
  rw [after11, Pipeline.eq_sum_fin_of_reset_step_apply_last (M := EReal) (fun n h => (held m c n h).dv) 8 (fun _ => 0)
    (fun t i => ((∑ a : Fin 512, A.rows.dv (Att.at512 (pt t) a) (i 1) (i 0) : ℝ) : EReal))
    (fun t h0 i => by
      have h0 : t.val = 0 := by have := t.isLt; have : cfg0.N = 8 := N_0; omega
      rw [first_dv t h0]; idx_vars i
      refine (dv_is (block_is h t) _ _ _).trans (congrArg₂ (fun a b : EReal => a + b) ?_ rfl)
      pointwise [k0_pay2])
    (fun t h0 i => by
      have h0 : t.val ≠ 0 := fun e => h0 (by rw [e])
      rw [later_dv t h0]; idx_vars i
      exact dv_is (block_is h t) _ _ _) (le_of_eq N_0) t0_7 rfl i, zero_add]
  refine Eq.trans (coe_sum Finset.univ _) (congrArg _ ?_)
  idx_vars i
  exact sum_rows fun r => A.rows.dv r _ _

/-- A gain's gradient as the grid leaves it: rows of one residue modulo eight, added up. -/
theorem final_gn : (dats m 0 c).arrAt 15 cfg0.N = fun i : S8x1024.Idx =>
    ((∑ t : Fin cfg0.N, ∑ a : Fin 64, (fun r : Fin 512 => A.rows.gn (Att.at512 (pt t) r) (i 1)) ⟨a.val * 8 + (i 0).val, by have := (i 0).isLt; change _ < 8 at this; omega⟩ : ℝ) : EReal) := by
  refine (dats m 0 c).arrAt_eq_of_after_last 15 t0_7 (by decide +kernel) _ fun i => ?_
  blk_simp
  rw [after15, Pipeline.eq_sum_fin_of_reset_step_apply_last (M := EReal) (fun n h => (held m c n h).gn) 8 (fun _ => 0)
    (fun t i => ((∑ a : Fin 64, (fun r : Fin 512 => A.rows.gn (Att.at512 (pt t) r) (i 1)) ⟨a.val * 8 + (i 0).val, by have := (i 0).isLt; change _ < 8 at this; omega⟩ : ℝ) : EReal))
    (fun t h0 i => by
      have h0 : t.val = 0 := by have := t.isLt; have : cfg0.N = 8 := N_0; omega
      rw [first_gn t h0]; idx_vars i
      refine (gn_is (block_is h t) _ _ _).trans (congrArg₂ (fun a b : EReal => a + b) ?_ rfl)
      pointwise [k0_pay3])
    (fun t h0 i => by
      have h0 : t.val ≠ 0 := fun e => h0 (by rw [e])
      rw [later_gn t h0]; idx_vars i
      exact gn_is (block_is h t) _ _ _) (le_of_eq N_0) t0_7 rfl i, zero_add]
  exact coe_sum Finset.univ _

/-- A gain's gradient as the grid leaves it: rows of one residue modulo eight, added up. -/
theorem final_gp : (dats m 0 c).arrAt 16 cfg0.N = fun i : S8x1024.Idx =>
    ((∑ t : Fin cfg0.N, ∑ a : Fin 64, (fun r : Fin 512 => A.rows.gp (Att.at512 (pt t) r) (i 1)) ⟨a.val * 8 + (i 0).val, by have := (i 0).isLt; change _ < 8 at this; omega⟩ : ℝ) : EReal) := by
  refine (dats m 0 c).arrAt_eq_of_after_last 16 t0_7 (by decide +kernel) _ fun i => ?_
  blk_simp
  rw [after16, Pipeline.eq_sum_fin_of_reset_step_apply_last (M := EReal) (fun n h => (held m c n h).gp) 8 (fun _ => 0)
    (fun t i => ((∑ a : Fin 64, (fun r : Fin 512 => A.rows.gp (Att.at512 (pt t) r) (i 1)) ⟨a.val * 8 + (i 0).val, by have := (i 0).isLt; change _ < 8 at this; omega⟩ : ℝ) : EReal))
    (fun t h0 i => by
      have h0 : t.val = 0 := by have := t.isLt; have : cfg0.N = 8 := N_0; omega
      rw [first_gp t h0]; idx_vars i
      refine (gp_is (block_is h t) _ _ _).trans (congrArg₂ (fun a b : EReal => a + b) ?_ rfl)
      pointwise [k0_pay4])
    (fun t h0 i => by
      have h0 : t.val ≠ 0 := fun e => h0 (by rw [e])
      rw [later_gp t h0]; idx_vars i
      exact gp_is (block_is h t) _ _ _) (le_of_eq N_0) t0_7 rfl i, zero_add]
  exact coe_sum Finset.univ _

end Cert.Proof.Cross

end
-- ==== Proof.RankFour.lean ====
/- Reductions of arrays of rank four, as sums and maxima along the reduced axes. -/
module

public import Idealize.ShloMosaic.Lib.Pointwise
public import Idealize.ShloMosaic.Lib.IdealHost

@[expose] public section

namespace Cert.Proof.RankFour

open Idealize.ShloMosaic

variable {n0 n1 n2 n3 : ℕ}

/-- Along the last axis. -/
theorem last_iff (h : (⟨4, ![n0, n1, n2, n3]⟩ : Shape).ReducesTo [3] ⟨3, ![n0, n1, n2]⟩) (a : Fin n0) (b : Fin n1) (c : Fin n2)
    (i : (⟨4, ![n0, n1, n2, n3]⟩ : Shape).Idx) : h.drop i = ix3 a b c ↔ ∃ k : Fin n3, ix4 a b c k = i := by
  constructor
  · intro q
    refine ⟨i 3, funext fun x => Fin.ext ?_⟩
    match x with
    | ⟨0, _⟩ => exact (congrArg Fin.val (congrFun q 0)).symm
    | ⟨1, _⟩ => exact (congrArg Fin.val (congrFun q 1)).symm
    | ⟨2, _⟩ => exact (congrArg Fin.val (congrFun q 2)).symm
    | ⟨3, _⟩ => rfl
  · rintro ⟨k, rfl⟩
    refine funext fun x => Fin.ext ?_
    match x with
    | ⟨0, _⟩ => rfl
    | ⟨1, _⟩ => rfl
    | ⟨2, _⟩ => rfl

theorem max_last (h : (⟨4, ![n0, n1, n2, n3]⟩ : Shape).ReducesTo [3] ⟨3, ![n0, n1, n2]⟩) (x : (⟨4, ![n0, n1, n2, n3]⟩ : Shape).Idx → EReal)
    (y : EReal) (a : Fin n0) (b : Fin n1) (c : Fin n2) :
    Finset.fold max y x {i | h.drop i = ix3 a b c} = (Finset.univ : Finset (Fin n3)).fold max y fun k => x (ix4 a b c k) :=
  Finset.fold_filter_eq_fold_of_fiber max _ (fun k : Fin n3 => ix4 a b c k) (fun _ _ q => congrFun q 3) (last_iff h a b c) y x

/-- Along the first and the last axis. -/
theorem ends_iff (h : (⟨4, ![n0, n1, n2, n3]⟩ : Shape).ReducesTo [0, 3] ⟨2, ![n1, n2]⟩) (b : Fin n1) (c : Fin n2)
    (i : (⟨4, ![n0, n1, n2, n3]⟩ : Shape).Idx) : h.drop i = ix2 b c ↔ ∃ k : Fin n0 × Fin n3, ix4 k.1 b c k.2 = i := by
  constructor
  · intro q
    refine ⟨(i 0, i 3), funext fun x => Fin.ext ?_⟩
    match x with
    | ⟨0, _⟩ => rfl
    | ⟨1, _⟩ => exact (congrArg Fin.val (congrFun q 0)).symm
    | ⟨2, _⟩ => exact (congrArg Fin.val (congrFun q 1)).symm
    | ⟨3, _⟩ => rfl
  · rintro ⟨k, rfl⟩
    refine funext fun x => Fin.ext ?_
    match x with
    | ⟨0, _⟩ => rfl
    | ⟨1, _⟩ => rfl

theorem sum_ends (h : (⟨4, ![n0, n1, n2, n3]⟩ : Shape).ReducesTo [0, 3] ⟨2, ![n1, n2]⟩) (x : (⟨4, ![n0, n1, n2, n3]⟩ : Shape).Idx → EReal)
    (y : EReal) (b : Fin n1) (c : Fin n2) : Ideal.hostReduceAdd h x y (ix2 b c) = y + ∑ o, ∑ k, x (ix4 o b c k) := by
  rw [← Fintype.sum_prod_type']
  exact congrArg (y + ·) (Finset.sum_filter_eq_sum_of_fiber _ (fun k : Fin n0 × Fin n3 => ix4 k.1 b c k.2)
    (fun _ _ q => Prod.ext (congrFun q 0) (congrFun q 3)) (ends_iff h b c) x)

end Cert.Proof.RankFour
-- ==== Proof.Cross.Reference.lean ====
/- The reference's gradients of the cross attention, stage by stage, at real arguments. -/
module

public import proofs.«01_k».proof.Proof.Attention
public import proofs.«01_k».proof.Proof.RankFour
public import proofs.«01_k».proof.Proof.Swa.Math
public import proofs.«01_k».proof.Proof.Gen.CrossRefIdeal.Run

@[expose] public section

set_option maxRecDepth 16384

noncomputable section

namespace Cert.Proof.Cross.Ref

open Idealize.ShloMosaic Idealize.ShloMosaic.StableHlo
open Cert.CrossRefIdeal Cert.CrossRefIdeal.Gen Cert.CrossRefIdeal.Value

/-- The arguments are these reals. -/
structure Real (V : Valuation τ sig (Elt Ideal)) (A : Att.Args) : Prop where
  y : ∀ r l, (V (Proc.devRef .tc main_arg0) : FVec Ideal S4096x1024 .bf16) (ix2 r l) = ((A.y r l : ℝ) : EReal)
  x : ∀ r l, (V (Proc.devRef .tc main_arg1) : FVec Ideal S4096x1024 .f32) (ix2 r l) = ((A.x r l : ℝ) : EReal)
  k : ∀ r l, (V (Proc.devRef .tc main_arg2) : FVec Ideal S256x1024 .f32) (ix2 r l) = ((A.k r l : ℝ) : EReal)
  v : ∀ r l, (V (Proc.devRef .tc main_arg3) : FVec Ideal S256x1024 .f32) (ix2 r l) = ((A.v r l : ℝ) : EReal)
  wq : ∀ r l, (V (Proc.devRef .tc main_arg4) : FVec Ideal S1024x1024 .f32) (ix2 r l) = ((A.wq r l : ℝ) : EReal)
  wo : ∀ r l, (V (Proc.devRef .tc main_arg5) : FVec Ideal S1024x1024 .f32) (ix2 r l) = ((A.wo r l : ℝ) : EReal)
  gpost : ∀ l, (V (Proc.devRef .tc main_arg6) : FVec Ideal S1x1024 .f32) (ix2 (0 : Fin 1) l) = ((A.gpost l : ℝ) : EReal)
  gpre : ∀ l, (V (Proc.devRef .tc main_arg7) : FVec Ideal S1x1024 .f32) (ix2 (0 : Fin 1) l) = ((A.gpre l : ℝ) : EReal)
  g : ∀ r l, (V (Proc.devRef .tc main_arg8) : FVec Ideal S4096x1024 .bf16) (ix2 r l) = ((A.g r l : ℝ) : EReal)
  d : ∀ r l, (V (Proc.devRef .tc main_arg9) : FVec Ideal S4096x1024 .f32) (ix2 r l) = ((A.d r l : ℝ) : EReal)

variable {V : Valuation τ sig (Elt Ideal)} {A : Att.Args} (H : Real V A)
include H

theorem v0 (r : Fin 4096) (l : Fin 1024) : (res_main_v0 V (ix2 r l) : EReal) = ((A.y r l : ℝ) : EReal) := H.y r l

theorem v7 (r : Fin 4096) (o : Fin 1) : (res_main_v7 V (ix2 r o) : EReal) = ((ms (A.y r) : ℝ) : EReal) := by
  pointwise [res_main_v7]
  simp only [v0 H, ← EReal.coe_mul, coe_sum, bits_1024, bits_eps, zero_add]
  rw [div_real (by norm_num), ← EReal.coe_add]
  rfl

theorem v8 (r : Fin 4096) (o : Fin 1) : (res_main_v8 V (ix2 r o) : EReal) = ((rs (A.y r) : ℝ) : EReal) :=
  (congrArg Ideal.rsqrt (v7 H r o)).trans (rsqrt_real (ms_pos (A.y r)))

theorem v13 (r : Fin 4096) (l : Fin 1024) : (res_main_v13 V (ix2 r l) : EReal) = ((A.y r l * rs (A.y r) : ℝ) : EReal) := by
  pointwise [res_main_v13]
  simp only [v0 H, v8 H, ← EReal.coe_mul]

/-- The hidden state, -/
theorem v16 (r : Fin 4096) (l : Fin 1024) : (res_main_v16 V (ix2 r l) : EReal) = ((A.hid r l : ℝ) : EReal) := by
  pointwise [res_main_v16]
  simp only [v13 H, H.x, H.gpost, ← EReal.coe_mul, ← EReal.coe_add]
  rfl

theorem v23 (r : Fin 4096) (o : Fin 1) : (res_main_v23 V (ix2 r o) : EReal) = ((ms (A.hid r) : ℝ) : EReal) := by
  pointwise [res_main_v23]
  simp only [v16 H, ← EReal.coe_mul, coe_sum, bits_1024, bits_eps, zero_add]
  rw [div_real (by norm_num), ← EReal.coe_add]
  rfl

theorem v24 (r : Fin 4096) (o : Fin 1) : (res_main_v24 V (ix2 r o) : EReal) = ((rs (A.hid r) : ℝ) : EReal) :=
  (congrArg Ideal.rsqrt (v23 H r o)).trans (rsqrt_real (ms_pos (A.hid r)))

theorem v29 (r : Fin 4096) (l : Fin 1024) : (res_main_v29 V (ix2 r l) : EReal) = ((A.hid r l * rs (A.hid r) : ℝ) : EReal) := by
  pointwise [res_main_v29]
  simp only [v16 H, v24 H, ← EReal.coe_mul]

omit H in
theorem col_eq (h : Fin 4) (d : Fin 256) (hp : h.val * 256 + d.val < 1024) : (⟨h.val * 256 + d.val, hp⟩ : Fin 1024) = Att.col h d :=
  Fin.ext (congrArg (· + d.val) (Nat.mul_comm h.val 256))

/-- the queries, keys, values and cotangent by head, -/
theorem v33 (o : Fin 1) (r : Fin 4096) (h : Fin 4) (d : Fin 256) : (res_main_v33 V (ix4 o r h d) : EReal) = ((A.qry r (Att.col h d) : ℝ) : EReal) := by
  pointwise [res_main_v33]
  simp only [v29 H, H.gpre, H.wq, ← EReal.coe_mul, coe_sum, col_eq]
  rfl

theorem v34 (o : Fin 1) (r : Fin 256) (h : Fin 4) (d : Fin 256) : (res_main_v34 V (ix4 o r h d) : EReal) = ((A.k r (Att.col h d) : ℝ) : EReal) := by
  pointwise [res_main_v34]
  rw [col_eq]
  exact H.k r _

theorem v35 (o : Fin 1) (r : Fin 256) (h : Fin 4) (d : Fin 256) : (res_main_v35 V (ix4 o r h d) : EReal) = ((A.v r (Att.col h d) : ℝ) : EReal) := by
  pointwise [res_main_v35]
  rw [col_eq]
  exact H.v r _

theorem v72 (o : Fin 1) (h : Fin 4) (d : Fin 256) (r : Fin 4096) : (res_main_v72 V (ix4 o h d r) : EReal) = ((A.g r (Att.col h d) : ℝ) : EReal) := by
  pointwise [res_main_v72]
  rw [col_eq]
  exact H.g r _

/-- the scores, -/
theorem v38 (o : Fin 1) (h : Fin 4) (r : Fin 4096) (κ : Fin 256) : (res_main_v38 V (ix4 o h r κ) : EReal) = ((Att.score (A.qry r) A.k h κ : ℝ) : EReal) := by
  pointwise [res_main_v38]
  simp only [v33 H, v34 H, ← EReal.coe_mul, coe_sum, Att.bits_sixteenth]
  rfl

omit H in
/-- their greatest, a real, -/
def top (V : Valuation τ sig (Elt Ideal)) (h : Fin 4) (r : Fin 4096) : ℝ := (res_main_v39 V (ix3 (0 : Fin 1) h r) : EReal).toReal

theorem v39 (o : Fin 1) (h : Fin 4) (r : Fin 4096) : (res_main_v39 V (ix3 o h r) : EReal) = ((top V h r : ℝ) : EReal) := by
  obtain rfl : o = 0 := Subsingleton.elim _ _
  have h : ∃ M : ℝ, (res_main_v39 V (ix3 (0 : Fin 1) h r) : EReal) = ((M : ℝ) : EReal) := by
    obtain ⟨M, hM⟩ := Swa.fold_max_real (Finset.univ : Finset (Fin 256)) ⟨0, Finset.mem_univ _⟩ (fun κ => Att.score (A.qry r) A.k h κ)
    have hX := v38 H 0 h r
    unfold res_main_v39
    generalize (res_main_v38 V : FVec Ideal S1x4x4096x256 .f32) = X at hX ⊢
    pointwise
    refine ⟨M, ((RankFour.max_last _ _ _ (0 : Fin 1) h r).trans ?_).trans hM⟩
    exact Finset.fold_congr (op := max) (b := (⊥ : EReal)) (fun k _ => hX k) |> fun e => (congrArg (fun b => Finset.fold max b _ Finset.univ) Swa.bits_bot).trans e
  obtain ⟨M, hM⟩ := h
  unfold top
  rw [hM, EReal.toReal_coe]

omit H in
theorem floor_read (Y : FVec Ideal S1x4x4096 .f32) (o : Fin 1) (h : Fin 4) (r : Fin 4096) :
    (maximumf (broadcastInDim S1x4x4096 ![] bcast_S_S1x4x4096 (constant S_ .f32 0xFF800000#32)) Y) (ix3 o h r)
      = max (Ideal.ofBits .f32 0xFF800000#32 : EReal) (Y (ix3 o h r)) := by rfl

omit H in
theorem exp_read (X : FVec Ideal S1x4x4096x256 .f32) (Y : FVec Ideal S1x4x4096 .f32) (h : Fin 4) (r : Fin 4096) (κ : Fin 256) :
    (Host.exp (subf X (broadcastInDim S1x4x4096x256 ![0, 1, 2, 3] bcast_S1x4x4096x1_S1x4x4096x256_0_1_2_3
      (broadcastInDim S1x4x4096x1 ![0, 1, 2] bcast_S1x4x4096_S1x4x4096x1_0_1_2 Y))) : FVec Ideal S1x4x4096x256 .f32) (ix4 0 h r κ)
      = (Ideal.exp ((X (ix4 0 h r κ) : EReal) - (Y (ix3 0 h r) : EReal)) : EReal) := by
  pointwise

/-- the shifted exponentials and their sum, -/
theorem v59 (o : Fin 1) (h : Fin 4) (r : Fin 4096) (κ : Fin 256) :
    (res_main_v59 V (ix4 o h r κ) : EReal) = ((Real.exp (Att.score (A.qry r) A.k h κ - top V h r) : ℝ) : EReal) := by
  obtain rfl : o = 0 := Subsingleton.elim _ _
  unfold res_main_v59
  refine (exp_read _ _ h r κ).trans ?_
  rw [floor_read, v38 H, v39 H, Swa.bits_bot, max_eq_right bot_le, ← EReal.coe_sub, Ideal.exp_coe]

theorem v61 (o : Fin 1) (h : Fin 4) (r : Fin 4096) (o' : Fin 1) :
    (res_main_v61 V (ix4 o h r o') : EReal) = ((∑ κ, Real.exp (Att.score (A.qry r) A.k h κ - top V h r) : ℝ) : EReal) := by
  pointwise [res_main_v61]
  simp only [v59 H, coe_sum, zero_add]

/-- the weights, -/
theorem v63 (o : Fin 1) (h : Fin 4) (r : Fin 4096) (κ : Fin 256) : (res_main_v63 V (ix4 o h r κ) : EReal) = ((Att.weight (A.qry r) A.k h κ : ℝ) : EReal) := by
  pointwise [res_main_v63]
  rw [v59 H, v61 H, div_real (Att.shifted_pos (A.qry r) A.k h (top V h r)).ne', Att.shifted]

/-- what the cotangent sends back to them, -/
theorem v73 (o : Fin 1) (h : Fin 4) (r : Fin 4096) (κ : Fin 256) : (res_main_v73 V (ix4 o h r κ) : EReal) = ((Att.back (A.g r) A.v h κ : ℝ) : EReal) := by
  pointwise [res_main_v73]
  simp only [v72 H, v35 H, ← EReal.coe_mul, coe_sum]
  rfl

/-- the scores' gradient, -/
theorem v90 (o : Fin 1) (h : Fin 4) (r : Fin 4096) (κ : Fin 256) :
    (res_main_v90 V (ix4 o h r κ) : EReal) = ((Att.dscore (A.qry r) (A.g r) A.k A.v h κ : ℝ) : EReal) := by
  have hp := Att.shifted_pos (A.qry r) A.k h (top V h r)
  have hw := fun κ => Att.shifted (A.qry r) A.k h κ (top V h r)
  pointwise [res_main_v90]
  simp only [v73 H, v59 H, v61 H, Att.bits_sixteenth, Swa.bits_one, ← EReal.coe_mul, div_real hp.ne', div_real (mul_pos hp hp).ne', coe_sum, zero_add, ← EReal.coe_neg, ← EReal.coe_add]
  rw [RankFour.sum_ends]
  simp only [Fin.sum_univ_one, zero_add]
  pointwise
  simp only [v73 H, v59 H, v61 H, show (1 : EReal) = ((1 : ℝ) : EReal) from rfl, ← EReal.coe_mul, div_real (mul_pos hp hp).ne', coe_sum, zero_add, ← EReal.coe_neg, ← EReal.coe_add]
  refine congrArg _ ?_
  unfold Att.dscore Att.pre
  simp only [← hw]
  generalize ∑ κ, Real.exp (Att.score (A.qry r) A.k h κ - top V h r) = Z at hp ⊢
  have e : ∑ i, Att.back (A.g r) A.v h i * (1 / (Z * Z)) * Real.exp (Att.score (A.qry r) A.k h i - top V h r)
      = (∑ i, Real.exp (Att.score (A.qry r) A.k h i - top V h r) / Z * Att.back (A.g r) A.v h i) / Z := by
    rw [Finset.sum_div]
    refine Finset.sum_congr rfl fun i _ => ?_
    field_simp
  rw [e]
  field_simp
  ring

/-- the queries' gradient, -/
theorem v97 (r : Fin 4096) (x : Fin 1024) : (res_main_v97 V (ix2 r x) : EReal) = ((A.rows.dq r x : ℝ) : EReal) := by
  pointwise [res_main_v97]
  simp only [v90 H, v34 H, ← EReal.coe_mul, coe_sum, Att.col_hd]
  rfl

theorem v98 (r : Fin 4096) (x : Fin 1024) : (res_main_v98 V (ix2 r x) : EReal) = ((A.rows.duq r x : ℝ) : EReal) := by
  pointwise [res_main_v98]
  simp only [v97 H, H.wq, ← EReal.coe_mul, coe_sum]
  rfl

theorem v103 (r : Fin 4096) (x : Fin 1024) : (res_main_v103 V (ix2 r x) : EReal) = ((A.rows.duq r x * A.gpre x : ℝ) : EReal) := by
  pointwise [res_main_v103]
  simp only [v98 H, H.gpre, ← EReal.coe_mul]

theorem v113 (r : Fin 4096) (x : Fin 1024) : (res_main_v113 V (ix2 r x) : EReal)
    = (((∑ k, A.hid r k * (A.rows.duq r k * A.gpre k)) * (-(1 / 2) * (rs (A.hid r) / ms (A.hid r))) / 1024 : ℝ) : EReal) := by
  pointwise [res_main_v113]
  simp only [v16 H, v103 H, v24 H, v23 H, bits_1024, bits_neg_half, ← EReal.coe_mul, coe_sum, zero_add, div_real (ms_pos (A.hid r)).ne', div_real (show (1024 : ℝ) ≠ 0 by norm_num), Fin.sum_univ_one]

/-- the hidden state's, -/
theorem v118 (r : Fin 4096) (x : Fin 1024) : (res_main_v118 V (ix2 r x) : EReal) = ((A.rows.dh r x : ℝ) : EReal) := by
  pointwise [res_main_v118]
  simp only [v103 H, v24 H, v16 H, v113 H, H.d, ← EReal.coe_mul, ← EReal.coe_add]
  refine congrArg _ ?_
  unfold Att.Rows.dh
  show _ = A.d r x + gradNorm (A.hid r) (fun k => A.rows.duq r k * A.gpre k) x
  rw [← gradNorm_eq]
  ring

theorem v123 (r : Fin 4096) (x : Fin 1024) : (res_main_v123 V (ix2 r x) : EReal) = ((A.rows.dh r x * A.gpost x : ℝ) : EReal) := by
  pointwise [res_main_v123]
  simp only [v118 H, H.gpost, ← EReal.coe_mul]

theorem v133 (r : Fin 4096) (x : Fin 1024) : (res_main_v133 V (ix2 r x) : EReal)
    = (((∑ k, A.y r k * (A.rows.dh r k * A.gpost k)) * (-(1 / 2) * (rs (A.y r) / ms (A.y r))) / 1024 : ℝ) : EReal) := by
  pointwise [res_main_v133]
  simp only [v0 H, v123 H, v8 H, v7 H, bits_1024, bits_neg_half, ← EReal.coe_mul, coe_sum, zero_add, div_real (ms_pos (A.y r)).ne', div_real (show (1024 : ℝ) ≠ 0 by norm_num), Fin.sum_univ_one]

/-- the mixer's output's, -/
theorem v137 (r : Fin 4096) (x : Fin 1024) : (res_main_v137 V (ix2 r x) : EReal) = ((A.rows.dy r x : ℝ) : EReal) := by
  pointwise [res_main_v137]
  simp only [v123 H, v8 H, v0 H, v133 H, ← EReal.coe_mul, ← EReal.coe_add]
  refine congrArg _ ?_
  unfold Att.Rows.dy
  show _ = gradNorm (A.y r) (fun k => A.rows.dh r k * A.gpost k) x
  rw [← gradNorm_eq]
  ring

/-- what its projection sends back, -/
theorem v142 (r : Fin 4096) (x : Fin 1024) : ((Host.dotGeneral (φ₁ := .f32) (φ₂ := .f32) dot_S4096x1024_S1024x1024_S4096x1024_1_1_0_0_n_n none (res_main_v137 V) (V (Proc.devRef .tc main_arg5)) : FVec Ideal S4096x1024 .f32) (ix2 r x) : EReal)
    = ((A.rows.dym r x : ℝ) : EReal) := by
  pointwise
  simp only [v137 H, H.wo, ← EReal.coe_mul, coe_sum]
  rfl

/-- the keys', the values' -/
theorem v96 (κ : Fin 256) (x : Fin 1024) : ((shapeCast S256x1024 (transpose S1x256x4x256 [0, 2, 1, 3] (Host.dotGeneral (φ₁ := .f32) (φ₂ := .f32) dot_S1x4x4096x256_S1x4096x4x256_S1x4x256x256_2_1_3_3_01_02 none (res_main_v90 V) (res_main_v33 V) : FVec Ideal S1x4x256x256 .f32) transposes_S1x4x256x256_S1x256x4x256_0_2_1_3) shapeCasts_S1x256x4x256_S256x1024 : FVec Ideal S256x1024 .f32) (ix2 κ x) : EReal)
    = ((∑ r, A.rows.dk r x κ : ℝ) : EReal) := by
  pointwise
  simp only [v90 H, v33 H, ← EReal.coe_mul, coe_sum, Att.col_hd]
  rfl

theorem v95 (κ : Fin 256) (x : Fin 1024) : ((shapeCast S256x1024 (transpose S1x256x4x256 [0, 3, 1, 2] (Host.dotGeneral (φ₁ := .f32) (φ₂ := .f32) dot_S1x4x256x4096_S1x4x4096x256_S1x4x256x256_3_2_2_3_01_01 none (res_main_v72 V) (res_main_v63 V) : FVec Ideal S1x4x256x256 .f32) transposes_S1x4x256x256_S1x256x4x256_0_3_1_2) shapeCasts_S1x256x4x256_S256x1024 : FVec Ideal S256x1024 .f32) (ix2 κ x) : EReal)
    = ((∑ r, A.rows.dv r x κ : ℝ) : EReal) := by
  pointwise
  simp only [v72 H, v63 H, ← EReal.coe_mul, coe_sum, Att.col_hd]
  exact congrArg _ (Finset.sum_congr rfl fun r _ => mul_comm _ _)

/-- and the two gains'. -/
theorem v101 (o : Fin 1) (l : Fin 1024) : ((shapeCast S1x1024 (Host.reduceAdd (mulf (res_main_v29 V) (res_main_v98 V)) (constant S_ .f32 0x00000000#32) reducesTo_S4096x1024_S1024_d0 h_S_ : FVec Ideal S1024 .f32) shapeCasts_S1024_S1x1024 : FVec Ideal S1x1024 .f32) (ix2 o l) : EReal)
    = ((∑ r, A.rows.gn r l : ℝ) : EReal) := by
  pointwise
  simp only [v29 H, v98 H, ← EReal.coe_mul, coe_sum, zero_add]
  exact congrArg _ (Finset.sum_congr rfl fun r _ => mul_comm _ _)

theorem v121 (o : Fin 1) (l : Fin 1024) : ((shapeCast S1x1024 (Host.reduceAdd (mulf (res_main_v13 V) (res_main_v118 V)) (constant S_ .f32 0x00000000#32) reducesTo_S4096x1024_S1024_d0 h_S_ : FVec Ideal S1024 .f32) shapeCasts_S1024_S1x1024 : FVec Ideal S1x1024 .f32) (ix2 o l) : EReal)
    = ((∑ r, A.rows.gp r l : ℝ) : EReal) := by
  pointwise
  simp only [v13 H, v118 H, ← EReal.coe_mul, coe_sum, zero_add]
  exact congrArg _ (Finset.sum_congr rfl fun r _ => mul_comm _ _)

omit H in
/-- The rounding of a result changes no real. -/
theorem cut (X : FVec Ideal S4096x1024 .f32) (r : Fin 4096) (x : Fin 1024) :
    ((truncf .bf16 X bitsLt_bf16_f32 : FVec Ideal S4096x1024 .bf16) (ix2 r x) : EReal) = X (ix2 r x) := by
  pointwise

end Cert.Proof.Cross.Ref

end
-- ==== Proof.Cross.Value.lean ====
/- The cross attention's gradient: the kernel's eight results are the reference's. -/
module

public import proofs.«01_k».proof.Defs
public import proofs.«01_k».proof.Proof.Cross.Arrays
public import proofs.«01_k».proof.Proof.Cross.Reference
public import proofs.«01_k».proof.Proof.Gen.Cross
public import proofs.«01_k».proof.Proof.Gen.Pre_finite_x

@[expose] public section

set_option maxRecDepth 16384

noncomputable section

namespace Cert.Proof.Cross

open Idealize.ShloMosaic Idealize.ShloMosaic.TcCoe Idealize.SL.Sem

section

open Cert.CrossIdeal Cert.CrossIdeal.Gen

variable (m : (ℓ : Loc nD τ sig) → Buf (Elt Ideal) ℓ) (c : Dev nD)

/-- What the region leaves in the accumulators of the norms' gains. -/
def accN : FVec Ideal S8x1024 .f32 := (dats m 0 c).arrAt 15 cfg0.N
def accP : FVec Ideal S8x1024 .f32 := (dats m 0 c).arrAt 16 cfg0.N

/-- The host adds an accumulator's eight rows. -/
def rowsAdded (X : FVec Ideal S8x1024 .f32) : FVec Ideal S1x1024 .f32 := fun i => ∑ j : Fin 8, X (ix2 j (i 1))

theorem tail34 : Pipeline.afterTail₀ cfgs (dats m) 0 (V0 m) [hostOps1] c main_v34 = rowsAdded (accN m c) := by
  unfold Pipeline.afterTail₀
  dsimp only [hostOps1, List.flatten_cons, List.flatten_nil, List.append_nil, List.cons_append, List.nil_append]
  after_results
  rw [show Pipeline.withArrays (cfgs 0).spec c (V0 m c) (fun w => (dats m 0 c).arrAt w (cfgs 0).N) (Proc.tc.devRef main_v32_6) = accN m c from
    Pipeline.withArrays_arr spec0 (by decide) c (V0 m c) _ 15]
  funext i
  idx_vars i
  pointwise [rowsAdded]

theorem tail36 : Pipeline.afterTail₀ cfgs (dats m) 0 (V0 m) [hostOps1] c main_v36 = rowsAdded (accP m c) := by
  unfold Pipeline.afterTail₀
  dsimp only [hostOps1, List.flatten_cons, List.flatten_nil, List.append_nil, List.cons_append, List.nil_append]
  after_results
  rw [show Pipeline.withArrays (cfgs 0).spec c (V0 m c) (fun w => (dats m 0 c).arrAt w (cfgs 0).N) (Proc.tc.devRef main_v32_7) = accP m c from
    Pipeline.withArrays_arr spec0 (by decide) c (V0 m c) _ 16]
  funext i
  idx_vars i
  pointwise [rowsAdded]

/-- The run: the results beside what the region's frame says. -/
theorem run (g : Dev nD → PrngReg) : θ_run (defs (F := Ideal)) (onTc (τ := τ) (main (F := Ideal))) ⟨m, fun _ => 0, g⟩ (fun r => ∀ c : Dev nD,
      r.2.mem ((c : Thread nD τ).loc main_v32_0) = (dats m 0 c).arrAt 9 cfg0.N
      ∧ r.2.mem ((c : Thread nD τ).loc main_v32_1) = (dats m 0 c).arrAt 10 cfg0.N
      ∧ r.2.mem ((c : Thread nD τ).loc main_v32_2) = (dats m 0 c).arrAt 11 cfg0.N
      ∧ r.2.mem ((c : Thread nD τ).loc main_v32_3) = (dats m 0 c).arrAt 12 cfg0.N
      ∧ r.2.mem ((c : Thread nD τ).loc main_v32_4) = (dats m 0 c).arrAt 13 cfg0.N
      ∧ r.2.mem ((c : Thread nD τ).loc main_v32_5) = (dats m 0 c).arrAt 14 cfg0.N
      ∧ r.2.mem ((c : Thread nD τ).loc main_v34) = rowsAdded (accN m c)
      ∧ r.2.mem ((c : Thread nD τ).loc main_v36) = rowsAdded (accP m c)) :=
  (θ_run _ _ _).mono (fun r h c => ⟨(h c).1 9, (h c).1 10, (h c).1 11, (h c).1 12, (h c).1 13, (h c).1 14,
    ((h c).2 main_v34 (Pipeline.mem_restRefs_of main_v34 (by decide) (by decide))).trans (tail34 m c),
    ((h c).2 main_v36 (Pipeline.mem_restRefs_of main_v36 (by decide) (by decide))).trans (tail36 m c)⟩) (run_main m g)

variable {m c} {A : Att.Args} (h : Real m c A)
include h

/-- Its value: the sum over all the rows. -/
theorem gain_n (o : Fin 1) (l : Fin 1024) : rowsAdded (accN m c) (ix2 o l) = ((∑ r, A.rows.gn r l : ℝ) : EReal) := by
  unfold rowsAdded
  refine (Finset.sum_congr (M := EReal) rfl fun j _ => (congrFun (final_gn h) (ix2 j l) : accN m c (ix2 j l) = _)).trans ?_
  refine (coe_sum _ _).trans (congrArg ((↑) : ℝ → EReal) ?_)
  exact sum_residues fun r => A.rows.gn r l

/-- The same of the other gain: the sum over all the rows. -/
theorem gain_p (o : Fin 1) (l : Fin 1024) : rowsAdded (accP m c) (ix2 o l) = ((∑ r, A.rows.gp r l : ℝ) : EReal) := by
  unfold rowsAdded
  refine (Finset.sum_congr (M := EReal) rfl fun j _ => (congrFun (final_gp h) (ix2 j l) : accP m c (ix2 j l) = _)).trans ?_
  refine (coe_sum _ _).trans (congrArg ((↑) : ℝ → EReal) ?_)
  exact sum_residues fun r => A.rows.gp r l

end

section
open Cert.CrossIdeal
/-- What the kernel's frame says, at any reading of the numbers. -/
def Framed (F : FTy → Type) [FloatOps F] (h : Cert.CrossIdeal.Facts) : Prop :=
  ∀ (m : (ℓ : Loc nD τ sig) → Buf (Elt F) ℓ) (ρ : Dev nD → PrngReg), True → θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) ∧ r.2.sem = fun _ => 0)
end

/-- The kernel as printed and its idealization are one program here. -/
theorem same : Framed Bits Cert.CrossIdeal.Gen.facts = Cert.quiescent_Cross (hCross := Cert.Cross.Gen.facts) := by sl_kernel_rfl

theorem frame_cross : Cert.quiescent_Cross (hCross := Cert.Cross.Gen.facts) := same.mp fun m ρ _ => Cert.Proof.Cross.frame (F := Bits) m ρ

/-- The reference runs, keeps its arguments and leaves every counter at zero. -/
theorem frame_ref : Cert.quiescent_CrossRefIdeal (hCrossRefIdeal := Cert.CrossRefIdeal.Gen.facts) := fun m ρ _ =>
  (θ_run Cert.CrossRefIdeal.defs _ _).mono (fun r h => ⟨fun c => (h c).2.2.2.2.2.2.2.2, sem_eq_zero_of_no_sems (by decide) r.2⟩) (Cert.CrossRefIdeal.Value.run m ρ)

/-- The finiteness precondition makes the argument arrays real, in both programs. -/
theorem real_of_pre (hP : Cert.Pre_finite_x.Facts) (m : (ℓ : Loc Cert.CrossIdeal.nD Cert.CrossIdeal.τ Cert.CrossIdeal.sig) → Buf (Elt Ideal) ℓ)
    (h : Cert.Pre_CrossIdeal_finite_x (hPre_finite_x := hP) m) (c : Dev Cert.CrossIdeal.nD) (V : Valuation Cert.CrossRefIdeal.τ Cert.CrossRefIdeal.sig (Elt Ideal))
    (h0 : V (Proc.devRef .tc Cert.CrossRefIdeal.main_arg0) = m (c, Proc.devRef .tc Cert.CrossIdeal.main_arg0))
    (h1 : V (Proc.devRef .tc Cert.CrossRefIdeal.main_arg1) = m (c, Proc.devRef .tc Cert.CrossIdeal.main_arg1))
    (h2 : V (Proc.devRef .tc Cert.CrossRefIdeal.main_arg2) = m (c, Proc.devRef .tc Cert.CrossIdeal.main_arg2))
    (h3 : V (Proc.devRef .tc Cert.CrossRefIdeal.main_arg3) = m (c, Proc.devRef .tc Cert.CrossIdeal.main_arg3))
    (h4 : V (Proc.devRef .tc Cert.CrossRefIdeal.main_arg4) = m (c, Proc.devRef .tc Cert.CrossIdeal.main_arg4))
    (h5 : V (Proc.devRef .tc Cert.CrossRefIdeal.main_arg5) = m (c, Proc.devRef .tc Cert.CrossIdeal.main_arg5))
    (h6 : V (Proc.devRef .tc Cert.CrossRefIdeal.main_arg6) = m (c, Proc.devRef .tc Cert.CrossIdeal.main_arg6))
    (h7 : V (Proc.devRef .tc Cert.CrossRefIdeal.main_arg7) = m (c, Proc.devRef .tc Cert.CrossIdeal.main_arg7))
    (h8 : V (Proc.devRef .tc Cert.CrossRefIdeal.main_arg8) = m (c, Proc.devRef .tc Cert.CrossIdeal.main_arg8))
    (h9 : V (Proc.devRef .tc Cert.CrossRefIdeal.main_arg9) = m (c, Proc.devRef .tc Cert.CrossIdeal.main_arg9)) :
    ∃ A, Real m c A ∧ Ref.Real V A := by
  obtain ⟨e0, e1, e2, e3, e4, e5, e6, e7, e8, e9⟩ := h c
  obtain ⟨X0, hX0⟩ := reals_of_finite e0 fun _ => rfl
  obtain ⟨X1, hX1⟩ := reals_of_finite e1 fun _ => rfl
  obtain ⟨X2, hX2⟩ := reals_of_finite e2 fun _ => rfl
  obtain ⟨X3, hX3⟩ := reals_of_finite e3 fun _ => rfl
  obtain ⟨X4, hX4⟩ := reals_of_finite e4 fun _ => rfl
  obtain ⟨X5, hX5⟩ := reals_of_finite e5 fun _ => rfl
  obtain ⟨X6, hX6⟩ := reals_of_finite e6 fun _ => rfl
  obtain ⟨X7, hX7⟩ := reals_of_finite e7 fun _ => rfl
  obtain ⟨X8, hX8⟩ := reals_of_finite e8 fun _ => rfl
  obtain ⟨X9, hX9⟩ := reals_of_finite e9 fun _ => rfl
  exact ⟨⟨fun r l => X0 (ix2 r l), fun r l => X1 (ix2 r l), fun r l => X2 (ix2 r l), fun r l => X3 (ix2 r l), fun r l => X4 (ix2 r l), fun r l => X5 (ix2 r l), fun l => X6 (ix2 0 l), fun l => X7 (ix2 0 l), fun r l => X8 (ix2 r l), fun r l => X9 (ix2 r l)⟩,
    ⟨fun _ _ => congrFun hX0 _, fun _ _ => congrFun hX1 _, fun _ _ => congrFun hX2 _, fun _ _ => congrFun hX3 _, fun _ _ => congrFun hX4 _, fun _ _ => congrFun hX5 _, fun _ => congrFun hX6 _, fun _ => congrFun hX7 _, fun _ _ => congrFun hX8 _, fun _ _ => congrFun hX9 _⟩,
    ⟨fun _ _ => (congrFun h0 _).trans (congrFun hX0 _), fun _ _ => (congrFun h1 _).trans (congrFun hX1 _), fun _ _ => (congrFun h2 _).trans (congrFun hX2 _), fun _ _ => (congrFun h3 _).trans (congrFun hX3 _), fun _ _ => (congrFun h4 _).trans (congrFun hX4 _), fun _ _ => (congrFun h5 _).trans (congrFun hX5 _), fun _ => (congrFun h6 _).trans (congrFun hX6 _), fun _ => (congrFun h7 _).trans (congrFun hX7 _), fun _ _ => (congrFun h8 _).trans (congrFun hX8 _), fun _ _ => (congrFun h9 _).trans (congrFun hX9 _)⟩⟩

/-- The two programs' results agree. -/
theorem algebraic (hP : Cert.Pre_finite_x.Facts) : Cert.algebraic_CrossIdeal_CrossRefIdeal_pre_finite_x (hPre_finite_x := hP) (hCrossIdeal := Cert.CrossIdeal.Gen.facts) (hCrossRefIdeal := Cert.CrossRefIdeal.Gen.facts) := by
  intro m g m' g' hpre hagree
  have hG : ∀ c, ∃ A, Real m c A ∧ Ref.Real (StableHlo.launchContents m' c) A := fun c => by
    obtain ⟨e0, e1, e2, e3, e4, e5, e6, e7, e8, e9⟩ := hagree c
    exact real_of_pre hP m hpre c _ e0 e1 e2 e3 e4 e5 e6 e7 e8 e9
  refine ⟨fun c => (dats m 0 c).arrAt 9 Cert.CrossIdeal.cfg0.N, fun c => (dats m 0 c).arrAt 10 Cert.CrossIdeal.cfg0.N, fun c => (dats m 0 c).arrAt 11 Cert.CrossIdeal.cfg0.N, fun c => (dats m 0 c).arrAt 12 Cert.CrossIdeal.cfg0.N, fun c => (dats m 0 c).arrAt 13 Cert.CrossIdeal.cfg0.N, fun c => (dats m 0 c).arrAt 14 Cert.CrossIdeal.cfg0.N, fun c => rowsAdded (accN m c), fun c => rowsAdded (accP m c),
    (θ_run _ _ _).mono (fun r h c => ⟨(h.1 c).1, (h.1 c).2.1, (h.1 c).2.2.1, (h.1 c).2.2.2.1, (h.1 c).2.2.2.2.1, (h.1 c).2.2.2.2.2.1, (h.1 c).2.2.2.2.2.2.1, (h.1 c).2.2.2.2.2.2.2, h.2 c⟩) (θ_run_and (run m g) (unchanged m g)),
    (θ_run _ _ _).mono (fun r h c => ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2.1.trans ?_, (h c).2.2.2.2.2.2.2.2⟩) (Cert.CrossRefIdeal.Value.run m' g')⟩
  · obtain ⟨A, hA, hR⟩ := hG c
    refine Eq.trans ?_ (final_dq hA).symm
    funext i
    idx_vars i
    exact (Ref.cut _ _ _).trans (Ref.v97 hR _ _)
  · obtain ⟨A, hA, hR⟩ := hG c
    refine Eq.trans ?_ (final_dk hA).symm
    funext i
    idx_vars i
    exact Ref.v96 hR _ _
  · obtain ⟨A, hA, hR⟩ := hG c
    refine Eq.trans ?_ (final_dv hA).symm
    funext i
    idx_vars i
    exact Ref.v95 hR _ _
  · obtain ⟨A, hA, hR⟩ := hG c
    refine Eq.trans ?_ (final_dh hA).symm
    funext i
    idx_vars i
    exact Ref.v118 hR _ _
  · obtain ⟨A, hA, hR⟩ := hG c
    refine Eq.trans ?_ (final_dyp hA).symm
    funext i
    idx_vars i
    exact (Ref.cut _ _ _).trans (Ref.v137 hR _ _)
  · obtain ⟨A, hA, hR⟩ := hG c
    refine Eq.trans ?_ (final_dym hA).symm
    funext i
    idx_vars i
    exact (Ref.cut _ _ _).trans (Ref.v142 hR _ _)
  · obtain ⟨A, hA, hR⟩ := hG c
    funext i
    idx_vars i
    exact (Ref.v101 hR _ _).trans (gain_n hA _ _).symm
  · obtain ⟨A, hA, hR⟩ := hG c
    funext i
    idx_vars i
    exact (Ref.v121 hR _ _).trans (gain_p hA _ _).symm

end Cert.Proof.Cross

end

end
-- ==== Proof.Memory.Run.lean ====
/- The memory's two calls run: every buffer ends at what the two regions and the host's last sum leave. -/
module

public import proofs.«01_k».proof.Proof.Gen.MemoryIdeal.Frame

@[expose] public section

set_option maxRecDepth 16384

noncomputable section

namespace Cert.Proof.Memory

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds
open Cert.MemoryIdeal Cert.MemoryIdeal.Gen

variable {F : FTy → Type} [FloatOps F]
variable (m : (ℓ : Loc nD τ sig) → Buf (Elt F) ℓ) (ρ : Dev nD → PrngReg)

local notation "𝕄" => MT nD τ sig Unit (Elt F) ℕ (UR sig nD τ) ℕ

set_option backward.isDefEq.respectTransparency.types false in
/-- The run, read at every buffer that no region scopes. -/
theorem run_all : θ_run (defs (F := F)) (onTc (τ := τ) (main (F := F))) ⟨m, fun _ => 0, ρ⟩
    (fun r => ∀ c : Dev nD, ∀ b ∈ Pipeline.ucRefs τ sig, r.2.mem (((c : Thread nD τ)).1, b) = W4 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      · iapply (show (BI.emp : sProp 𝕄) ⊢ bigSep Finset.univ (fun _ : Dev nD => (BI.emp : sProp 𝕄)) from by rw [BI.bigSep_emp_const])
        iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh] <;> iassumption
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => h)

end Cert.Proof.Memory

end
-- ==== Proof.Memory.Arrays.lean ====
/- The memory's two calls: what each leaves in its arrays, and what the program's results hold. -/
module

public import proofs.«01_k».proof.Proof.Memory.Run
public import Idealize.ShloMosaic.Lib.Pipeline.ValueKit
public import proofs.«01_k».proof.Proof.Reals

@[expose] public section

set_option maxRecDepth 16384

noncomputable section

namespace Cert.Proof.Memory

open Idealize.ShloMosaic Idealize.ShloMosaic.TcCoe Idealize.SL.Sem
open Cert.MemoryIdeal Cert.MemoryIdeal.Gen

/-- Every window's one block starts at the origin. -/
theorem idx0 : ∀ t : Fin cfg0.N, win0_0.index t = ![0, 0] ∧ win0_1.index t = ![0, 0] ∧ win0_4.index t = ![0, 0] :=
  (by decide +kernel : ∀ t : Fin grid0.N, _)

theorem idx1 : ∀ t : Fin cfg1.N, win1_0.index t = ![0, 0] ∧ win1_1.index t = ![0, 0] ∧ win1_2.index t = ![0, 0] ∧ win1_3.index t = ![0, 0]
    ∧ win1_4.index t = ![0, 0] ∧ win1_5.index t = ![0, 0] ∧ win1_6.index t = ![0, 0] ∧ win1_7.index t = ![0, 0] ∧ win1_8.index t = ![0, 0] :=
  (by decide +kernel : ∀ t : Fin grid1.N, _)

section

variable (V : (c : Dev nD) → (b : Ref sig .tc) → Buf (Elt Ideal) ((c : Thread nD τ).loc b)) (c : Dev nD)

/-- Every window of the forward call is its whole array, -/
theorem whole0 (t : Fin cfg0.N) : iblk0 V c 0 t = V c main_arg0 ∧ iblk0 V c 1 t = V c main_arg1 := by
  refine ⟨?_, ?_⟩ <;> · funext i; idx_vars i; blk_point [iblk0, idx0 t]

/-- and every window of the backward call. -/
theorem whole1 (t : Fin cfg1.N) : iblk1 V c 0 t = V c main_v2_0 ∧ iblk1 V c 1 t = V c main_arg0 ∧ iblk1 V c 2 t = V c main_arg4
    ∧ iblk1 V c 3 t = V c main_arg5 ∧ iblk1 V c 4 t = V c main_v0 ∧ iblk1 V c 5 t = V c main_v1 := by
  refine ⟨?_, ?_, ?_, ?_, ?_, ?_⟩ <;> · funext i; idx_vars i; blk_point [iblk1, idx1 t]

/-- The normed memory, as the forward call leaves it. -/
theorem normed_arr : (dat0 V c).arrAt 4 cfg0.N = k0_pay1 (F := Ideal) (V c main_arg0) (V c main_arg1) := by
  refine (dat0 V c).arrAt_eq_of_covers 4 _ (by decide +kernel) fun t _ y => ?_
  blk_simp
  rw [after0_4, (whole0 V c t).1, (whole0 V c t).2]
  unfold out0_4
  frame_out
  exact congrArg (k0_pay1 (F := Ideal) (V c main_arg0) (V c main_arg1)) (by blk_ext [idx0 t])

/-- The gradients of the two weights, -/
theorem gradK_arr : (dat1 V c).arrAt 6 cfg1.N = k1_pay4 (F := Ideal) (V c main_v2_0) (V c main_arg4) := by
  refine (dat1 V c).arrAt_eq_of_covers 6 _ (by decide +kernel) fun t _ y => ?_
  blk_simp
  rw [after1_6, (whole1 V c t).1, (whole1 V c t).2.2.1]
  unfold out1_6
  frame_out
  exact congrArg (k1_pay4 (F := Ideal) (V c main_v2_0) (V c main_arg4)) (by blk_ext [idx1 t])

theorem gradV_arr : (dat1 V c).arrAt 7 cfg1.N = k1_pay5 (F := Ideal) (V c main_v2_0) (V c main_arg5) := by
  refine (dat1 V c).arrAt_eq_of_covers 7 _ (by decide +kernel) fun t _ y => ?_
  blk_simp
  rw [after1_7, (whole1 V c t).1, (whole1 V c t).2.2.2.1]
  unfold out1_7
  frame_out
  exact congrArg (k1_pay5 (F := Ideal) (V c main_v2_0) (V c main_arg5)) (by blk_ext [idx1 t])

/-- and the eight partial rows of the gain's. -/
theorem gain_arr : (dat1 V c).arrAt 8 cfg1.N
    = k1_pay6 (F := Ideal) (V c main_arg4) (V c main_arg5) (V c main_v0) (V c main_v1) (V c main_arg0) := by
  refine (dat1 V c).arrAt_eq_of_covers 8 _ (by decide +kernel) fun t _ y => ?_
  blk_simp
  obtain ⟨e0, e1, e2, e3, e4, e5⟩ := whole1 V c t
  rw [after1_8, e1, e2, e3, e4, e5]
  unfold out1_8
  frame_out
  exact congrArg (k1_pay6 (F := Ideal) (V c main_arg4) (V c main_arg5) (V c main_v0) (V c main_v1) (V c main_arg0)) (by blk_ext [idx1 t])

end

variable (m : (ℓ : Loc nD τ sig) → Buf (Elt Ideal) ℓ) (ρ : Dev nD → PrngReg) (c : Dev nD)

/-- An argument array. -/
abbrev arg (b : Ref sig .tc) : Buf (Elt Ideal) ((c : Thread nD τ).loc b) := m ((c : Thread nD τ).loc b)

/-- The two weights as the host casts them. -/
theorem cast0 : W1 m ρ c (Proc.devRef .tc main_v0) = truncf (F := Ideal) .bf16 (m ((c : Thread nD τ).loc main_arg2)) bitsLt_bf16_f32 := by
  dsimp only [W1, hostOps0, List.flatten_cons, List.flatten_nil, List.append_nil, List.cons_append, List.nil_append]
  after_results

theorem cast1 : W1 m ρ c (Proc.devRef .tc main_v1) = truncf (F := Ideal) .bf16 (m ((c : Thread nD τ).loc main_arg3)) bitsLt_bf16_f32 := by
  dsimp only [W1, hostOps0, List.flatten_cons, List.flatten_nil, List.append_nil, List.cons_append, List.nil_append]
  after_results

/-- What the backward call finds. -/
theorem find_norm : V2 m ρ c main_v2_0 = k0_pay1 (F := Ideal) (arg m c main_arg0) (arg m c main_arg1) := by
  refine (W2_arr m ρ c 4).trans ((normed_arr (V1 m ρ) c).trans ?_)
  rw [show V1 m ρ c main_arg0 = m ((c : Thread nD τ).loc main_arg0) from W1_args m ρ c main_arg0 (by decide),
    show V1 m ρ c main_arg1 = m ((c : Thread nD τ).loc main_arg1) from W1_args m ρ c main_arg1 (by decide)]

theorem find_arg (a : Ref sig .tc) (h : a ∈ argRefs) : V2 m ρ c a = arg m c a := W2_args m ρ c a h

theorem find0 : V2 m ρ c main_v0 = truncf (F := Ideal) .bf16 (arg m c main_arg2) bitsLt_bf16_f32 :=
  (W2_of m ρ c main_v0 (by decide)).trans (cast0 m ρ c)

theorem find1 : V2 m ρ c main_v1 = truncf (F := Ideal) .bf16 (arg m c main_arg3) bitsLt_bf16_f32 :=
  (W2_of m ρ c main_v1 (by decide)).trans (cast1 m ρ c)

/-- The two weights' gradients as the program leaves them, -/
def gradK : FVec Ideal S1024x1024 .bf16 := k1_pay4 (F := Ideal) (k0_pay1 (arg m c main_arg0) (arg m c main_arg1)) (arg m c main_arg4)
def gradV : FVec Ideal S1024x1024 .bf16 := k1_pay5 (F := Ideal) (k0_pay1 (arg m c main_arg0) (arg m c main_arg1)) (arg m c main_arg5)
/-- the partial rows of the gain's, -/
def gainPart : FVec Ideal S8x1024 .f32 :=
  k1_pay6 (F := Ideal) (arg m c main_arg4) (arg m c main_arg5) (truncf (F := Ideal) .bf16 (arg m c main_arg2) bitsLt_bf16_f32)
    (truncf (F := Ideal) .bf16 (arg m c main_arg3) bitsLt_bf16_f32) (arg m c main_arg0)
/-- and their sum. -/
def gain : FVec Ideal S1x1024 .f32 := fun i => ∑ j : Fin 8, (gainPart m c (ix2 j (i 1)) : EReal)

theorem last_k : W4 m ρ c (Proc.devRef .tc main_v3_0) = gradK m c := by
  refine (W4_of m ρ c main_v3_0 (by decide)).trans ((W3_arr m ρ c 6).trans ((gradK_arr (V2 m ρ) c).trans ?_))
  rw [find_norm, find_arg m ρ c main_arg4 (by decide)]
  rfl

theorem last_v : W4 m ρ c (Proc.devRef .tc main_v3_1) = gradV m c := by
  refine (W4_of m ρ c main_v3_1 (by decide)).trans ((W3_arr m ρ c 7).trans ((gradV_arr (V2 m ρ) c).trans ?_))
  rw [find_norm, find_arg m ρ c main_arg5 (by decide)]
  rfl

theorem last_part : W3 m ρ c (Proc.devRef .tc main_v3_2) = gainPart m c := by
  refine (W3_arr m ρ c 8).trans ((gain_arr (V2 m ρ) c).trans ?_)
  rw [find0, find1, find_arg m ρ c main_arg0 (by decide), find_arg m ρ c main_arg4 (by decide), find_arg m ρ c main_arg5 (by decide)]
  rfl

theorem last_gain : W4 m ρ c (Proc.devRef .tc main_v5) = gain m c := by
  dsimp only [W4, hostOps2, List.flatten_cons, List.flatten_nil, List.append_nil, List.cons_append, List.nil_append]
  after_results
  rw [last_part]
  funext i
  idx_vars i
  unfold gain
  generalize gainPart m c = P
  pointwise

/-- The run: the three results. -/
theorem run : θ_run (defs (F := Ideal)) (onTc (τ := τ) (main (F := Ideal))) ⟨m, fun _ => 0, ρ⟩ (fun r => ∀ c : Dev nD,
      r.2.mem ((c : Thread nD τ).loc main_v3_0) = gradK m c
      ∧ r.2.mem ((c : Thread nD τ).loc main_v3_1) = gradV m c
      ∧ r.2.mem ((c : Thread nD τ).loc main_v5) = gain m c) :=
  (θ_run _ _ _).mono (fun r h c => ⟨(h c _ (mem_uc main_v3_0 (by decide))).trans (last_k m ρ c),
    (h c _ (mem_uc main_v3_1 (by decide))).trans (last_v m ρ c), (h c _ (mem_uc main_v5 (by decide))).trans (last_gain m ρ c)⟩) (run_all m ρ)

end Cert.Proof.Memory

end
-- ==== Proof.Memory.Spec.lean ====
/- The memory's gradients, entry by entry. -/
module

public import proofs.«01_k».proof.Proof.Reals

@[expose] public section

noncomputable section

namespace Cert.Proof.Memory

open Idealize.ShloMosaic

variable (X D D' : Fin 256 → Fin 1024 → EReal) (G : Fin 1024 → EReal) (W W' : Fin 1024 → Fin 1024 → EReal)

/-- The reciprocal root of a row's mean square, -/
def root (r : Fin 256) : EReal :=
  Ideal.rsqrt (Ideal.div (∑ k, X r k * X r k) (Ideal.ofBits .f32 0x44800000#32) + Ideal.ofBits .f32 0x358637BD#32)
/-- the normed memory, -/
def normed (r : Fin 256) (l : Fin 1024) : EReal := X r l * root X r * G l
/-- a weight's gradient, -/
def weight (r l : Fin 1024) : EReal := ∑ k, normed X G k r * D k l
/-- the cotangent of the normed memory, -/
def back (r : Fin 256) (l : Fin 1024) : EReal := ∑ k, D r k * W l k + ∑ k, D' r k * W' l k
/-- and the gain's gradient. -/
def gainAt (l : Fin 1024) : EReal := ∑ r, back D D' W W' r l * (X r l * root X r)

end Cert.Proof.Memory

end
-- ==== Proof.Memory.Kernel.lean ====
/- The memory's two calls: the program's results, entry by entry. -/
module

public import proofs.«01_k».proof.Proof.Memory.Arrays
public import proofs.«01_k».proof.Proof.Memory.Spec

@[expose] public section

set_option maxRecDepth 16384

noncomputable section

namespace Cert.Proof.Memory

open Idealize.ShloMosaic Idealize.ShloMosaic.TcCoe
open Cert.MemoryIdeal Cert.MemoryIdeal.Gen

theorem normed_at (x : FVec Ideal S256x1024 .f32) (g : FVec Ideal S1x1024 .f32) (r : Fin 256) (l : Fin 1024) :
    (k0_pay1 (F := Ideal) x g (ix2 r l) : EReal) = normed (fun r k => x (ix2 r k)) (fun k => g (ix2 (0 : Fin 1) k)) r l := by
  pointwise [k0_pay1]
  rfl

theorem weightK_at (x d : FVec Ideal S256x1024 .f32) (g : FVec Ideal S1x1024 .f32) (r l : Fin 1024) :
    (k1_pay4 (F := Ideal) (k0_pay1 (F := Ideal) x g) d (ix2 r l) : EReal)
      = weight (fun r k => x (ix2 r k)) (fun r k => d (ix2 r k)) (fun k => g (ix2 (0 : Fin 1) k)) r l := by
  have e := normed_at x g
  generalize k0_pay1 (F := Ideal) x g = n at e
  pointwise [k1_pay4, k1_pay1, k1_pay2]
  simp only [e]
  rfl

theorem weightV_at (x d : FVec Ideal S256x1024 .f32) (g : FVec Ideal S1x1024 .f32) (r l : Fin 1024) :
    (k1_pay5 (F := Ideal) (k0_pay1 (F := Ideal) x g) d (ix2 r l) : EReal)
      = weight (fun r k => x (ix2 r k)) (fun r k => d (ix2 r k)) (fun k => g (ix2 (0 : Fin 1) k)) r l := by
  have e := normed_at x g
  generalize k0_pay1 (F := Ideal) x g = n at e
  pointwise [k1_pay5, k1_pay1, k1_pay3]
  simp only [e]
  rfl

theorem part_at (dk dv x : FVec Ideal S256x1024 .f32) (wk wv : FVec Ideal S1024x1024 .bf16) (j : Fin 8) (l : Fin 1024) :
    (k1_pay6 (F := Ideal) dk dv wk wv x (ix2 j l) : EReal)
      = ∑ a : Fin 32, (fun r : Fin 256 => back (fun r k => dk (ix2 r k)) (fun r k => dv (ix2 r k)) (fun r k => wk (ix2 r k)) (fun r k => wv (ix2 r k)) r l
          * (x (ix2 r l) * root (fun r k => x (ix2 r k)) r)) ⟨a.val * 8 + j.val, by omega⟩ := by
  pointwise [k1_pay6, k1_pay2, k1_pay3]
  rfl

variable (m : (ℓ : Loc nD τ sig) → Buf (Elt Ideal) ℓ) (c : Dev nD)

/-- The host's sum of the eight partial rows is the sum over all the rows. -/
theorem gain_at (o : Fin 1) (l : Fin 1024) : (gain m c (ix2 o l) : EReal)
    = gainAt (fun r k => (arg m c main_arg0 : FVec Ideal S256x1024 .f32) (ix2 r k)) (fun r k => (arg m c main_arg4 : FVec Ideal S256x1024 .f32) (ix2 r k))
        (fun r k => (arg m c main_arg5 : FVec Ideal S256x1024 .f32) (ix2 r k)) (fun r k => (arg m c main_arg2 : FVec Ideal S1024x1024 .f32) (ix2 r k))
        (fun r k => (arg m c main_arg3 : FVec Ideal S1024x1024 .f32) (ix2 r k)) l := by
  refine (Finset.sum_congr (M := EReal) rfl fun j _ => part_at _ _ _ _ _ j l).trans ?_
  unfold gainAt
  rw [Finset.sum_comm, Fin.sum_univ_tiles 32 8 rfl]
  rfl

end Cert.Proof.Memory

end
-- ==== Proof.Memory.Reference.lean ====
/- The reference's gradients of the memory's two weights and its norm, entry by entry. -/
module

public import proofs.«01_k».proof.Proof.Memory.Spec
public import proofs.«01_k».proof.Proof.Gen.MemoryRefIdeal
public import Idealize.ShloMosaic.Lib.ValueLayout

@[expose] public section

set_option maxRecDepth 16384

noncomputable section

namespace Cert.Proof.Memory.Ref

open Idealize.ShloMosaic Idealize.ShloMosaic.StableHlo
open Cert.MemoryRefIdeal Cert.MemoryRefIdeal.Gen

variable (x dk dv d : FVec Ideal S256x1024 .f32) (g : FVec Ideal S1x1024 .f32) (wk wv : FVec Ideal S1024x1024 .f32)

/-- The host's reciprocal roots, -/
def hostRoot : FVec Ideal S256x1 .f32 :=
  Host.rsqrt (addf (Host.divf (broadcastInDim S256x1 ![0] bcast_S256_S256x1_0 (Host.reduceAdd (mulf x x) (constant S_ .f32 0x00000000#32) reducesTo_S256x1024_S256_d1 h_S_)) (broadcastInDim S256x1 ![] bcast_S_S256x1 (constant S_ .f32 0x44800000#32))) (broadcastInDim S256x1 ![] bcast_S_S256x1 (constant S_ .f32 0x358637BD#32)))
/-- and its normed memory. -/
def hostNormed : FVec Ideal S256x1024 .f32 :=
  mulf (mulf x (broadcastInDim S256x1024 ![0, 1] bcast_S256x1_S256x1024_0_1 (hostRoot x))) (broadcastInDim S256x1024 ![0, 1] bcast_S1x1024_S256x1024_0_1 g)

theorem root_at (r : Fin 256) (o : Fin 1) : (hostRoot x (ix2 r o) : EReal) = root (fun r k => x (ix2 r k)) r := by
  pointwise [hostRoot]
  rfl

theorem normed_at (r : Fin 256) (l : Fin 1024) :
    (hostNormed x g (ix2 r l) : EReal) = normed (fun r k => x (ix2 r k)) (fun k => g (ix2 (0 : Fin 1) k)) r l := by
  pointwise [hostNormed]
  rw [root_at]
  rfl

/-- A weight's gradient, -/
def hostWeight : FVec Ideal S1024x1024 .bf16 :=
  truncf .bf16 (transpose S1024x1024 [1, 0] (Host.dotGeneral (φ₁ := .f32) (φ₂ := .f32) dot_S256x1024_S256x1024_S1024x1024_0_0_1_1_n_n none d (hostNormed x g)) transposes_S1024x1024_S1024x1024_1_0) bitsLt_bf16_f32

theorem weight_at (r l : Fin 1024) : (hostWeight x d g (ix2 r l) : EReal)
    = weight (fun r k => x (ix2 r k)) (fun r k => d (ix2 r k)) (fun k => g (ix2 (0 : Fin 1) k)) r l := by
  have e := normed_at x g
  unfold hostWeight
  generalize hostNormed x g = n at e
  pointwise
  simp only [e]
  exact Finset.sum_congr (M := EReal) rfl fun k _ => mul_comm _ _

/-- and the gain's. -/
def hostGain : FVec Ideal S1x1024 .f32 :=
  shapeCast S1x1024 (Host.reduceAdd (mulf (mulf x (broadcastInDim S256x1024 ![0, 1] bcast_S256x1_S256x1024_0_1 (hostRoot x))) (addf (Host.dotGeneral (φ₁ := .f32) (φ₂ := .f32) dot_S256x1024_S1024x1024_S256x1024_1_1_0_0_n_n none dv wv) (Host.dotGeneral (φ₁ := .f32) (φ₂ := .f32) dot_S256x1024_S1024x1024_S256x1024_1_1_0_0_n_n none dk wk))) (constant S_ .f32 0x00000000#32) reducesTo_S256x1024_S1024_d0 h_S_) shapeCasts_S1024_S1x1024

theorem gain_at (o : Fin 1) (l : Fin 1024) : (hostGain x dk dv wk wv (ix2 o l) : EReal)
    = gainAt (fun r k => x (ix2 r k)) (fun r k => dk (ix2 r k)) (fun r k => dv (ix2 r k)) (fun r k => wk (ix2 r k)) (fun r k => wv (ix2 r k)) l := by
  pointwise [hostGain]
  simp only [root_at, zero_add]
  refine Finset.sum_congr (M := EReal) rfl fun r _ => (mul_comm _ _).trans ?_
  rw [add_comm]
  rfl

end Cert.Proof.Memory.Ref

end
-- ==== Proof.Memory.Value.lean ====
/- The memory's gradients: the program's three results are the reference's. -/
module

public import proofs.«01_k».proof.Defs
public import proofs.«01_k».proof.Proof.Memory.Kernel
public import proofs.«01_k».proof.Proof.Memory.Reference
public import proofs.«01_k».proof.Proof.Gen.MemoryRefIdeal.Run
public import Idealize.ShloMosaic.Lib.Claim

@[expose] public section

set_option maxRecDepth 16384

noncomputable section

namespace Cert.Proof.Memory

open Idealize.ShloMosaic Idealize.ShloMosaic.TcCoe Idealize.SL.Sem

/-- The reference runs, keeps its arguments and leaves every counter at zero. -/
theorem frame_ref : Cert.quiescent_MemoryRefIdeal (hMemoryRefIdeal := Cert.MemoryRefIdeal.Gen.facts) := fun m ρ _ =>
  (θ_run Cert.MemoryRefIdeal.defs _ _).mono (fun r h => ⟨fun c => (h c).2.2.2, sem_eq_zero_of_no_sems (by decide) r.2⟩) (Cert.MemoryRefIdeal.Value.run m ρ)

section

open Cert.MemoryIdeal

variable (m : (ℓ : Loc nD τ sig) → Buf (Elt Ideal) ℓ) (c : Dev nD)

theorem weightK_eq (x d : FVec Ideal S256x1024 .f32) (g : FVec Ideal S1x1024 .f32) (hx : x = arg m c main_arg0) (hg : g = arg m c main_arg1)
    (hd : d = arg m c main_arg4) : Ref.hostWeight x d g = gradK m c := by
  subst hx hg hd
  funext i
  idx_vars i
  exact (Ref.weight_at _ _ _ _ _).trans (weightK_at _ _ _ _ _).symm

theorem weightV_eq (x d : FVec Ideal S256x1024 .f32) (g : FVec Ideal S1x1024 .f32) (hx : x = arg m c main_arg0) (hg : g = arg m c main_arg1)
    (hd : d = arg m c main_arg5) : Ref.hostWeight x d g = gradV m c := by
  subst hx hg hd
  funext i
  idx_vars i
  exact (Ref.weight_at _ _ _ _ _).trans (weightV_at _ _ _ _ _).symm

theorem gain_eq (x dk dv : FVec Ideal S256x1024 .f32) (wk wv : FVec Ideal S1024x1024 .f32) (hx : x = arg m c main_arg0) (hwk : wk = arg m c main_arg2)
    (hwv : wv = arg m c main_arg3) (hdk : dk = arg m c main_arg4) (hdv : dv = arg m c main_arg5) : Ref.hostGain x dk dv wk wv = gain m c := by
  subst hx hwk hwv hdk hdv
  funext i
  idx_vars i
  exact (Ref.gain_at _ _ _ _ _ _ _).trans (gain_at m c _ _).symm

end

/-- The two programs' results agree. -/
theorem algebraic : Cert.algebraic_MemoryIdeal_MemoryRefIdeal (hMemoryIdeal := Cert.MemoryIdeal.Gen.facts) (hMemoryRefIdeal := Cert.MemoryRefIdeal.Gen.facts) := by
  intro m g m' g' _ hagree
  refine ⟨gradK m, gradV m, gain m,
    (θ_run _ _ _).mono (fun r h c => ⟨(h.1 c).1, (h.1 c).2.1, (h.1 c).2.2, h.2 c⟩) (θ_run_and (run m g) (Cert.MemoryIdeal.Gen.unchanged m g)),
    (θ_run _ _ _).mono (fun r h c => ⟨(h c).1.trans ?_, (h c).2.1.trans ?_, (h c).2.2.1.trans ?_, (h c).2.2.2⟩) (Cert.MemoryRefIdeal.Value.run m' g')⟩
  · obtain ⟨e0, e1, e2, e3, e4, e5⟩ := hagree c
    exact weightK_eq m c _ _ _ e0 e1 e4
  · obtain ⟨e0, e1, e2, e3, e4, e5⟩ := hagree c
    exact weightV_eq m c _ _ _ e0 e1 e5
  · obtain ⟨e0, e1, e2, e3, e4, e5⟩ := hagree c
    exact gain_eq m c _ _ _ _ _ e0 e2 e3 e4 e5

end Cert.Proof.Memory

end
-- ==== Proof.Ffn.Math.lean ====
/- The gated layer, its norms and the loss, forward and backward, row by row over the reals. -/
module

public import proofs.«01_k».proof.Proof.Norm

@[expose] public section

noncomputable section

namespace Cert.Proof.Ffn

open Idealize.ShloMosaic

/-- The layer's arguments, for `n` rows. -/
structure Args (n : ℕ) where
  y : Fin n → Fin 1024 → ℝ
  x : Fin n → Fin 1024 → ℝ
  t : Fin n → Fin 1024 → ℝ
  wg : Fin 1024 → Fin 2816 → ℝ
  wu : Fin 1024 → Fin 2816 → ℝ
  wd : Fin 2816 → Fin 1024 → ℝ
  wo : Fin 1024 → Fin 1024 → ℝ
  gx : Fin 1024 → ℝ
  gp : Fin 1024 → ℝ
  gl : Fin 1024 → ℝ

/-- The logistic function. -/
def sg (z : ℝ) : ℝ := 1 / (1 + Real.exp (-z))

theorem sg_pos (z : ℝ) : 0 < 1 + Real.exp (-z) := by positivity

namespace Args

variable {n : ℕ} (A : Args n)

/-- Some of the rows. -/
def rows {k : ℕ} (f : Fin k → Fin n) : Args k := { A with y := fun r => A.y (f r), x := fun r => A.x (f r), t := fun r => A.t (f r) }

/-- The hidden state that enters the layer, -/
def hid (r : Fin n) (l : Fin 1024) : ℝ := A.x r l + A.y r l * rs (A.y r) * A.gx l
/-- its norm, -/
def un (r : Fin n) (l : Fin 1024) : ℝ := A.hid r l * rs (A.hid r) * A.gp l
/-- the gate's argument, -/
def gate (r : Fin n) (q : Fin 2816) : ℝ := ∑ k, A.un r k * A.wg k q
/-- what it gates, -/
def up (r : Fin n) (q : Fin 2816) : ℝ := ∑ k, A.un r k * A.wu k q
/-- the gated activation, -/
def act (r : Fin n) (q : Fin 2816) : ℝ := A.gate r q * sg (A.gate r q) * A.up r q
/-- the layer's output, -/
def out (r : Fin n) (l : Fin 1024) : ℝ := ∑ q, A.act r q * A.wd q l
/-- and the distance from the target. -/
def err (r : Fin n) (l : Fin 1024) : ℝ := A.hid r l + A.out r l * rs (A.out r) * A.gl l - A.t r l
/-- The loss's gradient, -/
def dh3 (r : Fin n) (l : Fin 1024) : ℝ := A.err r l * (1 / 1024)
/-- through the last norm, -/
def dout (r : Fin n) (l : Fin 1024) : ℝ := gradNorm (A.out r) (fun k => A.dh3 r k * A.gl k) l
/-- through the last product, -/
def dact (r : Fin n) (q : Fin 2816) : ℝ := ∑ l, A.dout r l * A.wd q l
/-- through the gate, to both its arguments, -/
def dup (r : Fin n) (q : Fin 2816) : ℝ := A.dact r q * A.gate r q * sg (A.gate r q)
def dgate (r : Fin n) (q : Fin 2816) : ℝ :=
  A.dact r q * A.up r q * (sg (A.gate r q) * (1 + A.gate r q * (1 - sg (A.gate r q))))
/-- through the two products, -/
def du (r : Fin n) (k : Fin 1024) : ℝ := ∑ q, A.dgate r q * A.wg k q + ∑ q, A.dup r q * A.wu k q
/-- through the norm before them, with what goes past it, -/
def dh (r : Fin n) (l : Fin 1024) : ℝ := A.dh3 r l + gradNorm (A.hid r) (fun k => A.du r k * A.gp k) l
/-- through the norm of the block before, -/
def dy (r : Fin n) (l : Fin 1024) : ℝ := gradNorm (A.y r) (fun k => A.dh r k * A.gx k) l
/-- and through that block's last product. -/
def dox (r : Fin n) (j : Fin 1024) : ℝ := ∑ l, A.dy r l * A.wo j l

/-- One row's part of the loss, -/
def sq (r : Fin n) (l : Fin 1024) : ℝ := A.err r l * A.err r l
/-- and of the three gains' gradients. -/
def rowL (r : Fin n) (l : Fin 1024) : ℝ := A.dh3 r l * (A.out r l * rs (A.out r))
def rowP (r : Fin n) (l : Fin 1024) : ℝ := A.du r l * (A.hid r l * rs (A.hid r))
def rowX (r : Fin n) (l : Fin 1024) : ℝ := A.dh r l * (A.y r l * rs (A.y r))

end Args

theorem bits_one : Ideal.ofBits .f32 0x3F800000#32 = ((1 : ℝ) : EReal) := by
  simp [Ideal.ofBits, Ideal.ieee, -EReal.coe_mul]; norm_num
theorem bits_two : Ideal.ofBits .f32 0x40000000#32 = ((2 : ℝ) : EReal) := by
  simp [Ideal.ofBits, Ideal.ieee, -EReal.coe_mul]; norm_num
theorem bits_half : Ideal.ofBits .f32 0x3F000000#32 = ((1 / 2 : ℝ) : EReal) := by
  simp [Ideal.ofBits, Ideal.ieee, -EReal.coe_mul]; norm_num
theorem bits_mean : Ideal.ofBits .f32 0x3A800000#32 = ((1 / 1024 : ℝ) : EReal) := by
  simp [Ideal.ofBits, Ideal.ieee, -EReal.coe_mul]; norm_num
theorem bits_half_mean : Ideal.ofBits .f32 0x3A000000#32 = ((1 / 2048 : ℝ) : EReal) := by
  simp [Ideal.ofBits, Ideal.ieee, -EReal.coe_mul]; norm_num

end Cert.Proof.Ffn

end
-- ==== Proof.Ffn.Block.lean ====
/- One block of the gated layer: what the body computes and stores, read at an element. -/
module

public import proofs.«01_k».proof.Proof.Ffn.Math
public import proofs.«01_k».proof.Proof.Gen.FfnIdeal.Skeleton

@[expose] public section

set_option maxRecDepth 16384

noncomputable section

namespace Cert.Proof.Ffn

open Idealize.ShloMosaic
open Cert.FfnIdeal Cert.FfnIdeal.Gen

/-- The blocks that a point of the grid loads. -/
structure Blk where
  u : FVec Ideal S256x1024 .bf16
  wg : FVec Ideal S2816x1024 .bf16
  wu : FVec Ideal S2816x1024 .bf16
  wd : FVec Ideal S2816x1024 .bf16
  h : FVec Ideal S256x1024 .f32
  t : FVec Ideal S256x1024 .f32
  gl : FVec Ideal S1x1024 .f32
  y : FVec Ideal S256x1024 .bf16
  gx : FVec Ideal S1x1024 .f32
  gp : FVec Ideal S1x1024 .f32
  wo : FVec Ideal S1024x1024 .bf16

/-- They hold these reals. -/
structure Holds (B : Blk) (A : Args 256) : Prop where
  u : ∀ r l, (B.u (ix2 r l) : EReal) = ((A.un r l : ℝ) : EReal)
  wg : ∀ q k, (B.wg (ix2 q k) : EReal) = ((A.wg k q : ℝ) : EReal)
  wu : ∀ q k, (B.wu (ix2 q k) : EReal) = ((A.wu k q : ℝ) : EReal)
  wd : ∀ q k, (B.wd (ix2 q k) : EReal) = ((A.wd q k : ℝ) : EReal)
  h : ∀ r l, (B.h (ix2 r l) : EReal) = ((A.hid r l : ℝ) : EReal)
  t : ∀ r l, (B.t (ix2 r l) : EReal) = ((A.t r l : ℝ) : EReal)
  gl : ∀ l, (B.gl (ix2 (0 : Fin 1) l) : EReal) = ((A.gl l : ℝ) : EReal)
  y : ∀ r l, (B.y (ix2 r l) : EReal) = ((A.y r l : ℝ) : EReal)
  gx : ∀ l, (B.gx (ix2 (0 : Fin 1) l) : EReal) = ((A.gx l : ℝ) : EReal)
  gp : ∀ l, (B.gp (ix2 (0 : Fin 1) l) : EReal) = ((A.gp l : ℝ) : EReal)
  wo : ∀ j l, (B.wo (ix2 j l) : EReal) = ((A.wo j l : ℝ) : EReal)

namespace Blk

variable (B : Blk)

def gate : FVec Ideal S256x2816 .f32 := k0_pay9 B.u B.wg
def up : FVec Ideal S256x2816 .f32 := k0_pay10 B.u B.wu
def sig : FVec Ideal S256x2816 .f32 := k0_pay11 B.u B.wg
def act : FVec Ideal S256x2816 .bf16 := k0_pay12 B.u B.wg B.wu
def hid : FVec Ideal S256x1024 .f32 := k0_pay13 B.h
def out : FVec Ideal S256x1024 .f32 := k0_pay14 B.u B.wg B.wu B.wd
def outSq : FVec Ideal S256x1 .f32 := k0_pay15 B.u B.wg B.wu B.wd
def dh3 : FVec Ideal S256x1024 .f32 := k0_pay19 B.hid B.out B.t B.gl B.outSq
def dout : FVec Ideal S256x1024 .bf16 := k0_pay22 B.hid B.out B.t B.gl B.outSq
def dup : FVec Ideal S256x2816 .bf16 := k0_pay24 B.gate B.sig B.dout B.wd
def dgate : FVec Ideal S256x2816 .bf16 := k0_pay25 B.gate B.up B.sig B.dout B.wd
def du : FVec Ideal S256x1024 .f32 := k0_pay26 B.gate B.up B.sig B.dout B.wd B.wg B.wu
def hidSq : FVec Ideal S256x1 .f32 := k0_pay27 B.hid
def dh : FVec Ideal S256x1024 .f32 := k0_pay31 B.hid B.dh3 B.du B.gp B.hidSq k0_pay28
def dy : FVec Ideal S256x1024 .bf16 := k0_pay37 B.hid B.dh3 B.du B.y B.gx B.gp B.hidSq k0_pay28
def dox : FVec Ideal S256x1024 .bf16 := k0_pay1 B.dy B.wo
def partP : FVec Ideal S8x1024 .f32 := k0_pay35 B.hid B.du B.hidSq k0_pay28
def partX : FVec Ideal S8x1024 .f32 := k0_pay36 B.hid B.dh3 B.du B.y B.gp B.hidSq k0_pay28

end Blk

variable {B : Blk} {A : Args 256} (H : Holds B A)
include H

theorem gate_at (r : Fin 256) (q : Fin 2816) : (B.gate (ix2 r q) : EReal) = ((A.gate r q : ℝ) : EReal) := by
  unfold Blk.gate
  pointwise [k0_pay9, k0_pay8]
  simp only [H.u, H.wg, ← EReal.coe_mul, coe_sum]
  rfl

theorem up_at (r : Fin 256) (q : Fin 2816) : (B.up (ix2 r q) : EReal) = ((A.up r q : ℝ) : EReal) := by
  unfold Blk.up
  pointwise [k0_pay10, k0_pay8]
  simp only [H.u, H.wu, ← EReal.coe_mul, coe_sum]
  rfl

theorem sig_at (r : Fin 256) (q : Fin 2816) : (B.sig (ix2 r q) : EReal) = ((sg (A.gate r q) : ℝ) : EReal) := by
  have e := gate_at H r q
  unfold Blk.gate at e
  unfold Blk.sig
  pointwise [k0_pay11]
  rw [e, zero_sub, show (1 : EReal) = ((1 : ℝ) : EReal) from rfl, ← EReal.coe_neg, Ideal.exp_coe, ← EReal.coe_add, div_real (sg_pos _).ne']
  rfl

theorem act_at (r : Fin 256) (q : Fin 2816) : (B.act (ix2 r q) : EReal) = ((A.act r q : ℝ) : EReal) := by
  have e := gate_at H r q
  have e' := up_at H r q
  have e'' := sig_at H r q
  unfold Blk.gate at e
  unfold Blk.up at e'
  unfold Blk.sig at e''
  unfold Blk.act
  pointwise [k0_pay12]
  rw [e, e', e'', ← EReal.coe_mul, ← EReal.coe_mul]
  rfl

theorem hid_at (r : Fin 256) (l : Fin 1024) : (B.hid (ix2 r l) : EReal) = ((A.hid r l : ℝ) : EReal) := by
  unfold Blk.hid
  pointwise [k0_pay13]
  exact H.h r l

theorem out_at (r : Fin 256) (l : Fin 1024) : (B.out (ix2 r l) : EReal) = ((A.out r l : ℝ) : EReal) := by
  have e := act_at H
  unfold Blk.act at e
  unfold Blk.out
  pointwise [k0_pay14]
  simp only [e, H.wd, ← EReal.coe_mul, coe_sum]
  rfl

theorem outSq_at (r : Fin 256) (o : Fin 1) : (B.outSq (ix2 r o) : EReal) = ((∑ k, A.out r k * A.out r k : ℝ) : EReal) := by
  have e := out_at H
  unfold Blk.out at e
  unfold Blk.outSq
  pointwise [k0_pay15]
  simp only [e, ← EReal.coe_mul, coe_sum]

theorem root_at (r : Fin 256) (o : Fin 1) : (k0_pay16 (F := Ideal) B.outSq (ix2 r o) : EReal) = ((rs (A.out r) : ℝ) : EReal) := by
  obtain rfl : o = 0 := Subsingleton.elim _ _
  pointwise [k0_pay16]
  rw [outSq_at H, bits_1024, bits_eps, div_real (by norm_num), ← EReal.coe_add]
  exact rsqrt_real (ms_pos (A.out r))

theorem normed_at (r : Fin 256) (l : Fin 1024) : (k0_pay17 (F := Ideal) B.out B.outSq (ix2 r l) : EReal) = ((A.out r l * rs (A.out r) : ℝ) : EReal) := by
  pointwise [k0_pay17]
  rw [out_at H, root_at H, ← EReal.coe_mul]

theorem err_at (r : Fin 256) (l : Fin 1024) : (k0_pay18 (F := Ideal) B.hid B.out B.t B.gl B.outSq (ix2 r l) : EReal) = ((A.err r l : ℝ) : EReal) := by
  pointwise [k0_pay18]
  rw [normed_at H, hid_at H, H.t, H.gl, ← EReal.coe_mul, ← EReal.coe_add, ← EReal.coe_sub]
  rfl

theorem dh3_at (r : Fin 256) (l : Fin 1024) : (B.dh3 (ix2 r l) : EReal) = ((A.dh3 r l : ℝ) : EReal) := by
  unfold Blk.dh3
  pointwise [k0_pay19]
  rw [err_at H, bits_mean, ← EReal.coe_mul]
  rfl

theorem dout_at (r : Fin 256) (l : Fin 1024) : (B.dout (ix2 r l) : EReal) = ((A.dout r l : ℝ) : EReal) := by
  have e := dh3_at H
  unfold Blk.dh3 at e
  unfold Blk.dout
  pointwise [k0_pay22]
  simp only [root_at H, normed_at H, e, H.gl, ← EReal.coe_mul, coe_sum, bits_1024]
  rw [div_real (by norm_num), ← EReal.coe_mul, ← EReal.coe_sub, ← EReal.coe_mul]
  rfl

theorem dact_at (r : Fin 256) (q : Fin 2816) : (k0_pay23 (F := Ideal) B.dout B.wd (ix2 r q) : EReal) = ((A.dact r q : ℝ) : EReal) := by
  pointwise [k0_pay23]
  simp only [dout_at H, H.wd, ← EReal.coe_mul, coe_sum]
  rfl

theorem dup_at (r : Fin 256) (q : Fin 2816) : (B.dup (ix2 r q) : EReal) = ((A.dup r q : ℝ) : EReal) := by
  unfold Blk.dup
  pointwise [k0_pay24]
  rw [dact_at H, gate_at H, sig_at H, ← EReal.coe_mul, ← EReal.coe_mul]
  rfl

theorem dgate_at (r : Fin 256) (q : Fin 2816) : (B.dgate (ix2 r q) : EReal) = ((A.dgate r q : ℝ) : EReal) := by
  unfold Blk.dgate
  pointwise [k0_pay25]
  rw [dact_at H, up_at H, gate_at H, sig_at H, show (1 : EReal) = ((1 : ℝ) : EReal) from rfl]
  simp only [← EReal.coe_mul, ← EReal.coe_add, ← EReal.coe_sub]
  rfl

theorem du_at (r : Fin 256) (l : Fin 1024) : (B.du (ix2 r l) : EReal) = ((A.du r l : ℝ) : EReal) := by
  have e := dgate_at H
  have e' := dup_at H
  unfold Blk.dgate at e
  unfold Blk.dup at e'
  unfold Blk.du
  pointwise [k0_pay26]
  simp only [e, e', H.wg, H.wu, ← EReal.coe_mul, coe_sum, ← EReal.coe_add]
  rfl

theorem root2_at (r : Fin 256) (o : Fin 1) : (k0_pay29 (F := Ideal) B.hidSq k0_pay28 (ix2 r o) : EReal) = ((rs (A.hid r) : ℝ) : EReal) := by
  obtain rfl : o = 0 := Subsingleton.elim _ _
  unfold Blk.hidSq
  pointwise [k0_pay29, k0_pay27, k0_pay28]
  simp only [hid_at H, ← EReal.coe_mul, coe_sum, bits_1024, bits_eps]
  rw [div_real (by norm_num), ← EReal.coe_add]
  exact rsqrt_real (ms_pos (A.hid r))

theorem normed2_at (r : Fin 256) (l : Fin 1024) : (k0_pay30 (F := Ideal) B.hid B.hidSq k0_pay28 (ix2 r l) : EReal) = ((A.hid r l * rs (A.hid r) : ℝ) : EReal) := by
  pointwise [k0_pay30]
  rw [hid_at H, root2_at H, ← EReal.coe_mul]

theorem dh_at (r : Fin 256) (l : Fin 1024) : (B.dh (ix2 r l) : EReal) = ((A.dh r l : ℝ) : EReal) := by
  unfold Blk.dh
  pointwise [k0_pay31]
  simp only [root2_at H, normed2_at H, du_at H, dh3_at H, H.gp, ← EReal.coe_mul, coe_sum, bits_1024]
  rw [div_real (by norm_num), ← EReal.coe_mul, ← EReal.coe_sub, ← EReal.coe_mul, ← EReal.coe_add]
  rfl

theorem root3_at (r : Fin 256) (o : Fin 1) : (k0_pay33 (F := Ideal) B.y (ix2 r o) : EReal) = ((rs (A.y r) : ℝ) : EReal) := by
  obtain rfl : o = 0 := Subsingleton.elim _ _
  pointwise [k0_pay33, k0_pay32]
  simp only [H.y, ← EReal.coe_mul, coe_sum, bits_1024, bits_eps]
  rw [div_real (by norm_num), ← EReal.coe_add]
  exact rsqrt_real (ms_pos (A.y r))

theorem normed3_at (r : Fin 256) (l : Fin 1024) : (k0_pay34 (F := Ideal) B.y (ix2 r l) : EReal) = ((A.y r l * rs (A.y r) : ℝ) : EReal) := by
  pointwise [k0_pay34, k0_pay32]
  rw [H.y, root3_at H, ← EReal.coe_mul]

theorem dy_at (r : Fin 256) (l : Fin 1024) : (B.dy (ix2 r l) : EReal) = ((A.dy r l : ℝ) : EReal) := by
  have e := dh_at H
  unfold Blk.dh at e
  unfold Blk.dy
  pointwise [k0_pay37]
  simp only [root3_at H, normed3_at H, e, H.gx, ← EReal.coe_mul, coe_sum, bits_1024]
  rw [div_real (by norm_num), ← EReal.coe_mul, ← EReal.coe_sub, ← EReal.coe_mul]
  rfl

theorem dox_at (r : Fin 256) (j : Fin 1024) : (B.dox (ix2 r j) : EReal) = ((A.dox r j : ℝ) : EReal) := by
  unfold Blk.dox
  pointwise [k0_pay1]
  simp only [dy_at H, H.wo, ← EReal.coe_mul, coe_sum]
  rfl

omit H in
/-- The rows of one residue modulo eight, added up. -/
def residue (f : Fin 256 → Fin 1024 → ℝ) (j : Fin 8) (l : Fin 1024) : ℝ := ∑ a : Fin 32, f ⟨a.val * 8 + j.val, by omega⟩ l

/-- The block's part of the loss, -/
theorem sq_at (p : FVec Ideal S8x1024 .f32) (j : Fin 8) (l : Fin 1024) :
    (k0_pay20 (F := Ideal) B.hid B.out B.t B.gl B.outSq p (ix2 j l) : EReal) = p (ix2 j l) + ((residue A.sq j l : ℝ) : EReal) := by
  pointwise [k0_pay20]
  simp only [err_at H, ← EReal.coe_mul, coe_sum]
  rfl

/-- and of the gains' gradients. -/
theorem rowL_at (p : FVec Ideal S8x1024 .f32) (j : Fin 8) (l : Fin 1024) :
    (k0_pay21 (F := Ideal) B.hid B.out B.t B.gl B.outSq p (ix2 j l) : EReal) = p (ix2 j l) + ((residue A.rowL j l : ℝ) : EReal) := by
  have e := dh3_at H
  unfold Blk.dh3 at e
  pointwise [k0_pay21]
  simp only [e, normed_at H, ← EReal.coe_mul, coe_sum]
  rfl

theorem rowP_at (j : Fin 8) (l : Fin 1024) : (B.partP (ix2 j l) : EReal) = ((residue A.rowP j l : ℝ) : EReal) := by
  unfold Blk.partP
  pointwise [k0_pay35]
  simp only [du_at H, normed2_at H, ← EReal.coe_mul, coe_sum]
  rfl

theorem rowX_at (j : Fin 8) (l : Fin 1024) : (B.partX (ix2 j l) : EReal) = ((residue A.rowX j l : ℝ) : EReal) := by
  have e := dh_at H
  unfold Blk.dh at e
  unfold Blk.partX
  pointwise [k0_pay36]
  simp only [e, normed3_at H, ← EReal.coe_mul, coe_sum]
  rfl

end Cert.Proof.Ffn

end
-- ==== Proof.Ffn.Windows.lean ====
/- What a point of the gated layer's grid loads: the rows of the host's arrays. -/
module

public import proofs.«01_k».proof.Proof.Ffn.Block
public import proofs.«01_k».proof.Proof.Gen.FfnIdeal.Frame
public import Idealize.ShloMosaic.Lib.Pipeline.ValueKit
public import Idealize.ShloMosaic.Lib.ValueLayout

@[expose] public section

set_option maxRecDepth 16384

noncomputable section

namespace Cert.Proof.Ffn

open Idealize.ShloMosaic Idealize.ShloMosaic.TcCoe Idealize.SL.Sem
open Cert.FfnIdeal Cert.FfnIdeal.Gen

/-- The blocks of the windows, point by point. -/
theorem idx : ∀ t : Fin cfg0.N, win0_0.index t = ![t.val, 0] ∧ win0_1.index t = ![0, 0] ∧ win0_2.index t = ![0, 0] ∧ win0_3.index t = ![0, 0] ∧ win0_4.index t = ![t.val, 0] ∧ win0_5.index t = ![t.val, 0]
    ∧ win0_6.index t = ![0, 0] ∧ win0_7.index t = ![t.val, 0] ∧ win0_8.index t = ![0, 0] ∧ win0_9.index t = ![0, 0] ∧ win0_10.index t = ![0, 0] ∧ win0_11.index t = ![t.val, 0]
    ∧ win0_12.index t = ![t.val, 0] ∧ win0_13.index t = ![t.val, 0] ∧ win0_14.index t = ![t.val, 0] ∧ win0_15.index t = ![t.val, 0] ∧ win0_16.index t = ![t.val, 0] ∧ win0_17.index t = ![t.val, 0]
    ∧ win0_18.index t = ![0, 0] ∧ win0_19.index t = ![0, 0] ∧ win0_20.index t = ![0, 0] ∧ win0_21.index t = ![0, 0] :=
  (by decide +kernel : ∀ t : Fin grid0.N, _)

/-- A row of the block at a point, in the array. -/
abbrev row (t : Fin cfg0.N) (r : Fin 256) : Fin 4096 := ⟨t.val * 256 + r.val, by have := t.isLt; have : cfg0.N = 16 := N_0; omega⟩

/-- The host's reciprocal root of each row's mean square, -/
def root (x : FVec Ideal S4096x1024 .f32) : FVec Ideal S4096x1 .f32 :=
  Host.rsqrt (addf (Host.divf (broadcastInDim S4096x1 ![0] bcast_S4096_S4096x1_0
    (Host.reduceAdd (mulf x x) (constant S_ .f32 0x00000000#32) reducesTo_S4096x1024_S4096_d1 h_S_))
    (broadcastInDim S4096x1 ![] bcast_S_S4096x1 (constant S_ .f32 0x44800000#32)))
    (broadcastInDim S4096x1 ![] bcast_S_S4096x1 (constant S_ .f32 0x358637BD#32)))
/-- and its normalised rows times a gain. -/
def normed (x : FVec Ideal S4096x1024 .f32) (g : FVec Ideal S1x1024 .f32) : FVec Ideal S4096x1024 .f32 :=
  mulf (mulf x (broadcastInDim S4096x1024 ![0, 1] bcast_S4096x1_S4096x1024_0_1 (root x)))
    (broadcastInDim S4096x1024 ![0, 1] bcast_S1x1024_S4096x1024_0_1 g)

theorem normed_apply {X : Fin 4096 → Fin 1024 → ℝ} {G : Fin 1024 → ℝ} {x : FVec Ideal S4096x1024 .f32} {g : FVec Ideal S1x1024 .f32}
    (hx : ∀ r l, (x (ix2 r l) : EReal) = ((X r l : ℝ) : EReal)) (hg : ∀ l, (g (ix2 (0 : Fin 1) l) : EReal) = ((G l : ℝ) : EReal)) (r : Fin 4096) (l : Fin 1024) :
    (normed x g (ix2 r l) : EReal) = ((X r l * rs (X r) * G l : ℝ) : EReal) := by
  have e : (root x (ix2 r (0 : Fin 1)) : EReal) = ((rs (X r) : ℝ) : EReal) := by
    pointwise [root]
    simp only [hx, ← EReal.coe_mul, coe_sum, bits_1024, bits_eps, zero_add]
    rw [div_real (by norm_num), ← EReal.coe_add]
    exact rsqrt_real (ms_pos (X r))
  pointwise [normed]
  simp only [hx, hg, e, ← EReal.coe_mul]

variable (m : (ℓ : Loc nD τ sig) → Buf (Elt Ideal) ℓ) (c : Dev nD) (A : Args 4096)

/-- The argument arrays are real: what the finiteness precondition gives. -/
structure Real : Prop where
  y : ∀ r l, (m ((c : Thread nD τ).loc main_arg0) : FVec Ideal S4096x1024 .bf16) (ix2 r l) = ((A.y r l : ℝ) : EReal)
  x : ∀ r l, (m ((c : Thread nD τ).loc main_arg1) : FVec Ideal S4096x1024 .f32) (ix2 r l) = ((A.x r l : ℝ) : EReal)
  t : ∀ r l, (m ((c : Thread nD τ).loc main_arg2) : FVec Ideal S4096x1024 .f32) (ix2 r l) = ((A.t r l : ℝ) : EReal)
  wg : ∀ r l, (m ((c : Thread nD τ).loc main_arg3) : FVec Ideal S1024x2816 .f32) (ix2 r l) = ((A.wg r l : ℝ) : EReal)
  wu : ∀ r l, (m ((c : Thread nD τ).loc main_arg4) : FVec Ideal S1024x2816 .f32) (ix2 r l) = ((A.wu r l : ℝ) : EReal)
  wd : ∀ r l, (m ((c : Thread nD τ).loc main_arg5) : FVec Ideal S2816x1024 .f32) (ix2 r l) = ((A.wd r l : ℝ) : EReal)
  wo : ∀ r l, (m ((c : Thread nD τ).loc main_arg6) : FVec Ideal S1024x1024 .f32) (ix2 r l) = ((A.wo r l : ℝ) : EReal)
  gx : ∀ l, (m ((c : Thread nD τ).loc main_arg7) : FVec Ideal S1x1024 .f32) (ix2 (0 : Fin 1) l) = ((A.gx l : ℝ) : EReal)
  gp : ∀ l, (m ((c : Thread nD τ).loc main_arg8) : FVec Ideal S1x1024 .f32) (ix2 (0 : Fin 1) l) = ((A.gp l : ℝ) : EReal)
  gl : ∀ l, (m ((c : Thread nD τ).loc main_arg9) : FVec Ideal S1x1024 .f32) (ix2 (0 : Fin 1) l) = ((A.gl l : ℝ) : EReal)

variable {m c A} (h : Real m c A)
include h

omit h in
theorem V_13 (m : (ℓ : Loc nD τ sig) → Buf (Elt Ideal) ℓ) (c : Dev nD) :
    V m c main_v13 = addf (m ((c : Thread nD τ).loc main_arg1)) (normed (extf .f32 (m ((c : Thread nD τ).loc main_arg0)) bitsLt_bf16_f32) (m ((c : Thread nD τ).loc main_arg7))) := by
  dsimp only [V, V0, hostOps0, List.flatten_cons, List.flatten_nil, List.append_nil, List.cons_append, List.nil_append]
  after_results
  rfl

omit h in
theorem V_26 (m : (ℓ : Loc nD τ sig) → Buf (Elt Ideal) ℓ) (c : Dev nD) :
    V m c main_v26 = truncf (F := Ideal) .bf16 (normed (V m c main_v13) (m ((c : Thread nD τ).loc main_arg8))) bitsLt_bf16_f32 := by
  rw [V_13]
  dsimp only [V, V0, hostOps0, List.flatten_cons, List.flatten_nil, List.append_nil, List.cons_append, List.nil_append]
  after_results
  rfl

omit h in
theorem V_28 (m : (ℓ : Loc nD τ sig) → Buf (Elt Ideal) ℓ) (c : Dev nD) (q : Fin 2816) (k : Fin 1024) : (V m c main_v28 (ix2 q k) : EReal) = m ((c : Thread nD τ).loc main_arg3) (ix2 k q) := by
  dsimp only [V, V0, hostOps0, List.flatten_cons, List.flatten_nil, List.append_nil, List.cons_append, List.nil_append]
  after_results
  pointwise

omit h in
theorem V_30 (m : (ℓ : Loc nD τ sig) → Buf (Elt Ideal) ℓ) (c : Dev nD) (q : Fin 2816) (k : Fin 1024) : (V m c main_v30 (ix2 q k) : EReal) = m ((c : Thread nD τ).loc main_arg4) (ix2 k q) := by
  dsimp only [V, V0, hostOps0, List.flatten_cons, List.flatten_nil, List.append_nil, List.cons_append, List.nil_append]
  after_results
  pointwise

omit h in
theorem V_31 (m : (ℓ : Loc nD τ sig) → Buf (Elt Ideal) ℓ) (c : Dev nD) (q : Fin 2816) (k : Fin 1024) : (V m c main_v31 (ix2 q k) : EReal) = m ((c : Thread nD τ).loc main_arg5) (ix2 q k) := by
  dsimp only [V, V0, hostOps0, List.flatten_cons, List.flatten_nil, List.append_nil, List.cons_append, List.nil_append]
  after_results
  pointwise

omit h in
theorem V_32 (m : (ℓ : Loc nD τ sig) → Buf (Elt Ideal) ℓ) (c : Dev nD) (q : Fin 1024) (k : Fin 1024) : (V m c main_v32 (ix2 q k) : EReal) = m ((c : Thread nD τ).loc main_arg6) (ix2 q k) := by
  dsimp only [V, V0, hostOps0, List.flatten_cons, List.flatten_nil, List.append_nil, List.cons_append, List.nil_append]
  after_results
  pointwise

/-- The host's hidden state, -/
theorem entry13 (r : Fin 4096) (l : Fin 1024) : (V m c main_v13 (ix2 r l) : EReal) = ((A.hid r l : ℝ) : EReal) := by
  rw [V_13]
  refine (congrArg₂ (fun a b : EReal => a + b) (h.x r l) (normed_apply (X := A.y) (G := A.gx) (fun r l => ?_) h.gx r l)).trans ?_
  · exact h.y r l
  · exact (EReal.coe_add _ _).symm

/-- and its norm. -/
theorem entry26 (r : Fin 4096) (l : Fin 1024) : (V m c main_v26 (ix2 r l) : EReal) = ((A.un r l : ℝ) : EReal) := by
  rw [V_26]
  exact normed_apply (entry13 h) h.gp r l

/-! What each block holds. -/

theorem blk0 (t : Fin cfg0.N) (r : Fin 256) (l : Fin 1024) : ((iblk m c 0 t : FVec Ideal S256x1024 .bf16) (ix2 r l) : EReal) = ((A.un (row t r) l : ℝ) : EReal) := by
  refine Eq.trans ?_ (entry26 h (row t r) l)
  blk_simp [iblk]
  exact congrArg (V m c main_v26) (by blk_ext [idx t])

theorem blk1 (t : Fin cfg0.N) (q : Fin 2816) (k : Fin 1024) : ((iblk m c 1 t : FVec Ideal S2816x1024 .bf16) (ix2 q k) : EReal) = ((A.wg k q : ℝ) : EReal) := by
  refine Eq.trans ?_ ((V_28 m c q k).trans (h.wg k q))
  blk_simp [iblk]
  exact congrArg (V m c main_v28) (by blk_ext [idx t])

theorem blk2 (t : Fin cfg0.N) (q : Fin 2816) (k : Fin 1024) : ((iblk m c 2 t : FVec Ideal S2816x1024 .bf16) (ix2 q k) : EReal) = ((A.wu k q : ℝ) : EReal) := by
  refine Eq.trans ?_ ((V_30 m c q k).trans (h.wu k q))
  blk_simp [iblk]
  exact congrArg (V m c main_v30) (by blk_ext [idx t])

theorem blk3 (t : Fin cfg0.N) (q : Fin 2816) (k : Fin 1024) : ((iblk m c 3 t : FVec Ideal S2816x1024 .bf16) (ix2 q k) : EReal) = ((A.wd q k : ℝ) : EReal) := by
  refine Eq.trans ?_ ((V_31 m c q k).trans (h.wd q k))
  blk_simp [iblk]
  exact congrArg (V m c main_v31) (by blk_ext [idx t])

theorem blk4 (t : Fin cfg0.N) (r : Fin 256) (l : Fin 1024) : ((iblk m c 4 t : FVec Ideal S256x1024 .f32) (ix2 r l) : EReal) = ((A.hid (row t r) l : ℝ) : EReal) := by
  refine Eq.trans ?_ (entry13 h (row t r) l)
  blk_simp [iblk]
  exact congrArg (V m c main_v13) (by blk_ext [idx t])

theorem blk5 (t : Fin cfg0.N) (r : Fin 256) (l : Fin 1024) : ((iblk m c 5 t : FVec Ideal S256x1024 .f32) (ix2 r l) : EReal) = ((A.t (row t r) l : ℝ) : EReal) := by
  refine Eq.trans ?_ (h.t (row t r) l)
  blk_point [iblk, V, idx t]

theorem blk6 (t : Fin cfg0.N) (l : Fin 1024) : ((iblk m c 6 t : FVec Ideal S1x1024 .f32) (ix2 (0 : Fin 1) l) : EReal) = ((A.gl l : ℝ) : EReal) := by
  refine Eq.trans ?_ (h.gl l)
  blk_point [iblk, V, idx t]

theorem blk7 (t : Fin cfg0.N) (r : Fin 256) (l : Fin 1024) : ((iblk m c 7 t : FVec Ideal S256x1024 .bf16) (ix2 r l) : EReal) = ((A.y (row t r) l : ℝ) : EReal) := by
  refine Eq.trans ?_ (h.y (row t r) l)
  blk_point [iblk, V, idx t]

theorem blk8 (t : Fin cfg0.N) (l : Fin 1024) : ((iblk m c 8 t : FVec Ideal S1x1024 .f32) (ix2 (0 : Fin 1) l) : EReal) = ((A.gx l : ℝ) : EReal) := by
  refine Eq.trans ?_ (h.gx l)
  blk_point [iblk, V, idx t]

theorem blk9 (t : Fin cfg0.N) (l : Fin 1024) : ((iblk m c 9 t : FVec Ideal S1x1024 .f32) (ix2 (0 : Fin 1) l) : EReal) = ((A.gp l : ℝ) : EReal) := by
  refine Eq.trans ?_ (h.gp l)
  blk_point [iblk, V, idx t]

theorem blk10 (t : Fin cfg0.N) (q : Fin 1024) (k : Fin 1024) : ((iblk m c 10 t : FVec Ideal S1024x1024 .bf16) (ix2 q k) : EReal) = ((A.wo q k : ℝ) : EReal) := by
  refine Eq.trans ?_ ((V_32 m c q k).trans (h.wo q k))
  blk_simp [iblk]
  exact congrArg (V m c main_v32) (by blk_ext [idx t])

/-- The blocks that a point loads. -/
def blk (m : (ℓ : Loc nD τ sig) → Buf (Elt Ideal) ℓ) (c : Dev nD) (t : Fin cfg0.N) : Blk :=
  ⟨iblk m c 0 t, iblk m c 1 t, iblk m c 2 t, iblk m c 3 t, iblk m c 4 t, iblk m c 5 t, iblk m c 6 t, iblk m c 7 t, iblk m c 8 t, iblk m c 9 t, iblk m c 10 t⟩

set_option maxHeartbeats 4000000 in
/-- They hold the point's rows. -/
theorem blk_holds (t : Fin cfg0.N) : Holds (blk m c t) (A.rows (row t)) where
  u := blk0 h t
  wg := blk1 h t
  wu := blk2 h t
  wd := blk3 h t
  h := blk4 h t
  t := blk5 h t
  gl := blk6 h t
  y := blk7 h t
  gx := blk8 h t
  gp := blk9 h t
  wo := blk10 h t

end Cert.Proof.Ffn

end
-- ==== Proof.Ffn.Stored.lean ====
/- What a point of the gated layer's grid leaves in its blocks of rows. -/
module

public import proofs.«01_k».proof.Proof.Ffn.Windows

@[expose] public section

set_option maxRecDepth 16384
set_option maxHeartbeats 8000000

noncomputable section

namespace Cert.Proof.Ffn

open Idealize.ShloMosaic Idealize.ShloMosaic.TcCoe Idealize.SL.Sem
open Cert.FfnIdeal Cert.FfnIdeal.Gen

variable (m : (ℓ : Loc nD τ sig) → Buf (Elt Ideal) ℓ) (c : Dev nD) (t : Fin cfg0.N)

/-! What a point leaves in each block of rows. -/

theorem stored11 (i : S256x2816.Idx) : (outsAt0 m c t.val t.isLt).1 i = (blk m c t).act i := by
  by_cases h0 : t.val % 16 = 0
  · rw [outsAt0_A m c t h0]
    frame_out
    rfl
  · rw [outsAt0_B m c t h0]
    frame_out
    rfl

theorem stored12 (i : S256x1024.Idx) : (outsAt0 m c t.val t.isLt).2.1 i = (blk m c t).dout i := by
  by_cases h0 : t.val % 16 = 0
  · rw [outsAt0_A m c t h0]
    frame_out
    rfl
  · rw [outsAt0_B m c t h0]
    frame_out
    rfl

theorem stored13 (i : S256x2816.Idx) : (outsAt0 m c t.val t.isLt).2.2.1 i = (blk m c t).dgate i := by
  by_cases h0 : t.val % 16 = 0
  · rw [outsAt0_A m c t h0]
    frame_out
    rfl
  · rw [outsAt0_B m c t h0]
    frame_out
    rfl

theorem stored14 (i : S256x2816.Idx) : (outsAt0 m c t.val t.isLt).2.2.2.1 i = (blk m c t).dup i := by
  by_cases h0 : t.val % 16 = 0
  · rw [outsAt0_A m c t h0]
    frame_out
    rfl
  · rw [outsAt0_B m c t h0]
    frame_out
    rfl

theorem stored15 (i : S256x1024.Idx) : (outsAt0 m c t.val t.isLt).2.2.2.2.1 i = (blk m c t).dh i := by
  by_cases h0 : t.val % 16 = 0
  · rw [outsAt0_A m c t h0]
    frame_out
    rfl
  · rw [outsAt0_B m c t h0]
    frame_out
    rfl

theorem stored16 (i : S256x1024.Idx) : (outsAt0 m c t.val t.isLt).2.2.2.2.2.1 i = (blk m c t).dy i := by
  by_cases h0 : t.val % 16 = 0
  · rw [outsAt0_A m c t h0]
    frame_out
    rfl
  · rw [outsAt0_B m c t h0]
    frame_out
    rfl

theorem stored17 (i : S256x1024.Idx) : (outsAt0 m c t.val t.isLt).2.2.2.2.2.2.1 i = (blk m c t).dox i := by
  by_cases h0 : t.val % 16 = 0
  · rw [outsAt0_A m c t h0]
    frame_out
    rfl
  · rw [outsAt0_B m c t h0]
    frame_out
    rfl

end Cert.Proof.Ffn

end
-- ==== Proof.Ffn.Arrays.lean ====
/- The arrays the gated layer's grid leaves, block by block. -/
module

public import proofs.«01_k».proof.Proof.Ffn.Stored

@[expose] public section

set_option maxRecDepth 16384
set_option maxHeartbeats 8000000

noncomputable section

namespace Cert.Proof.Ffn

open Idealize.ShloMosaic Idealize.ShloMosaic.TcCoe Idealize.SL.Sem
open Cert.FfnIdeal Cert.FfnIdeal.Gen

/-- Reals as an array. -/
def arr {k : ℕ} (f : Fin 4096 → Fin k → ℝ) : (⟨2, ![4096, k]⟩ : Shape).Idx → EReal := fun i => ((f (i 0) (i 1) : ℝ) : EReal)

variable {m : (ℓ : Loc nD τ sig) → Buf (Elt Ideal) ℓ} {c : Dev nD} {A : Args 4096} (h : Real m c A)
include h

theorem point11 (t : Fin cfg0.N) (r : Fin 256) (l : Fin 2816) : ((blk m c t).act (ix2 r l) : EReal) = arr A.act (ix2 (row t r) l) :=
  act_at (blk_holds h t) r l

theorem final11 : (dats m 0 c).arrAt 11 cfg0.N = arr A.act := by
  refine (dats m 0 c).arrAt_eq_of_covers 11 _ (by decide +kernel) fun t _ y => ?_
  blk_simp
  rw [after0_11]
  refine (stored11 m c t y).trans ?_
  idx_vars y
  refine (point11 h t _ _).trans (congrArg (arr A.act) ?_)
  blk_ext [idx t]

theorem point12 (t : Fin cfg0.N) (r : Fin 256) (l : Fin 1024) : ((blk m c t).dout (ix2 r l) : EReal) = arr A.dout (ix2 (row t r) l) :=
  dout_at (blk_holds h t) r l

theorem final12 : (dats m 0 c).arrAt 12 cfg0.N = arr A.dout := by
  refine (dats m 0 c).arrAt_eq_of_covers 12 _ (by decide +kernel) fun t _ y => ?_
  blk_simp
  rw [after0_12]
  refine (stored12 m c t y).trans ?_
  idx_vars y
  refine (point12 h t _ _).trans (congrArg (arr A.dout) ?_)
  blk_ext [idx t]

theorem point13 (t : Fin cfg0.N) (r : Fin 256) (l : Fin 2816) : ((blk m c t).dgate (ix2 r l) : EReal) = arr A.dgate (ix2 (row t r) l) :=
  dgate_at (blk_holds h t) r l

theorem final13 : (dats m 0 c).arrAt 13 cfg0.N = arr A.dgate := by
  refine (dats m 0 c).arrAt_eq_of_covers 13 _ (by decide +kernel) fun t _ y => ?_
  blk_simp
  rw [after0_13]
  refine (stored13 m c t y).trans ?_
  idx_vars y
  refine (point13 h t _ _).trans (congrArg (arr A.dgate) ?_)
  blk_ext [idx t]

theorem point14 (t : Fin cfg0.N) (r : Fin 256) (l : Fin 2816) : ((blk m c t).dup (ix2 r l) : EReal) = arr A.dup (ix2 (row t r) l) :=
  dup_at (blk_holds h t) r l

theorem final14 : (dats m 0 c).arrAt 14 cfg0.N = arr A.dup := by
  refine (dats m 0 c).arrAt_eq_of_covers 14 _ (by decide +kernel) fun t _ y => ?_
  blk_simp
  rw [after0_14]
  refine (stored14 m c t y).trans ?_
  idx_vars y
  refine (point14 h t _ _).trans (congrArg (arr A.dup) ?_)
  blk_ext [idx t]

theorem point15 (t : Fin cfg0.N) (r : Fin 256) (l : Fin 1024) : ((blk m c t).dh (ix2 r l) : EReal) = arr A.dh (ix2 (row t r) l) :=
  dh_at (blk_holds h t) r l

theorem final15 : (dats m 0 c).arrAt 15 cfg0.N = arr A.dh := by
  refine (dats m 0 c).arrAt_eq_of_covers 15 _ (by decide +kernel) fun t _ y => ?_
  blk_simp
  rw [after0_15]
  refine (stored15 m c t y).trans ?_
  idx_vars y
  refine (point15 h t _ _).trans (congrArg (arr A.dh) ?_)
  blk_ext [idx t]

theorem point16 (t : Fin cfg0.N) (r : Fin 256) (l : Fin 1024) : ((blk m c t).dy (ix2 r l) : EReal) = arr A.dy (ix2 (row t r) l) :=
  dy_at (blk_holds h t) r l

theorem final16 : (dats m 0 c).arrAt 16 cfg0.N = arr A.dy := by
  refine (dats m 0 c).arrAt_eq_of_covers 16 _ (by decide +kernel) fun t _ y => ?_
  blk_simp
  rw [after0_16]
  refine (stored16 m c t y).trans ?_
  idx_vars y
  refine (point16 h t _ _).trans (congrArg (arr A.dy) ?_)
  blk_ext [idx t]

theorem point17 (t : Fin cfg0.N) (r : Fin 256) (l : Fin 1024) : ((blk m c t).dox (ix2 r l) : EReal) = arr A.dox (ix2 (row t r) l) :=
  dox_at (blk_holds h t) r l

theorem final17 : (dats m 0 c).arrAt 17 cfg0.N = arr A.dox := by
  refine (dats m 0 c).arrAt_eq_of_covers 17 _ (by decide +kernel) fun t _ y => ?_
  blk_simp
  rw [after0_17]
  refine (stored17 m c t y).trans ?_
  idx_vars y
  refine (point17 h t _ _).trans (congrArg (arr A.dox) ?_)
  blk_ext [idx t]

end Cert.Proof.Ffn

end
-- ==== Proof.Ffn.Sums.lean ====
/- The four arrays to which every point of the gated layer's grid adds. -/
module

public import proofs.«01_k».proof.Proof.Ffn.Windows

@[expose] public section

set_option maxRecDepth 16384
set_option maxHeartbeats 8000000

noncomputable section

namespace Cert.Proof.Ffn

open Idealize.ShloMosaic Idealize.ShloMosaic.TcCoe Idealize.SL.Sem
open Cert.FfnIdeal Cert.FfnIdeal.Gen

variable {m : (ℓ : Loc nD τ sig) → Buf (Elt Ideal) ℓ} {c : Dev nD} {A : Args 4096} (h : Real m c A)
include h

omit h in
/-- A sum of parts, block by block, of rows of one residue modulo eight. -/
def parts (f : Fin 4096 → Fin 1024 → ℝ) (j : Fin 8) (l : Fin 1024) : ℝ := ∑ t : Fin cfg0.N, residue (fun r : Fin 256 => f (row t r)) j l

/-- The squares of the distance from the target. -/
theorem final18 : (dats m 0 c).arrAt 18 cfg0.N = fun i : S8x1024.Idx => ((parts A.sq (i 0) (i 1) : ℝ) : EReal) := by
  refine (dats m 0 c).arrAt_eq_of_after_last 18 t0_15 (by decide +kernel) _ fun i => ?_
  blk_simp
  rw [after0_18, Pipeline.eq_sum_fin_of_reset_step_apply_last (M := EReal) (fun n h => (outsAt0 m c n h).2.2.2.2.2.2.2.1) 16 (fun _ => 0)
    (fun t i => ((residue (A.rows (row t)).sq (i 0) (i 1) : ℝ) : EReal))
    (fun t h0 i => by
      rw [outsAt0_A m c t h0]; frame_out; idx_vars i
      refine (sq_at (blk_holds h t) _ _ _).trans ?_
      pointwise [k0_pay4])
    (fun t h0 i => by
      rw [outsAt0_B m c t h0]; frame_out; idx_vars i
      exact sq_at (blk_holds h t) _ _ _) (le_of_eq N_0) t0_15 rfl i, zero_add]
  exact coe_sum Finset.univ _

/-- The last gain's gradient. -/
theorem final19 : (dats m 0 c).arrAt 19 cfg0.N = fun i : S8x1024.Idx => ((parts A.rowL (i 0) (i 1) : ℝ) : EReal) := by
  refine (dats m 0 c).arrAt_eq_of_after_last 19 t0_15 (by decide +kernel) _ fun i => ?_
  blk_simp
  rw [after0_19, Pipeline.eq_sum_fin_of_reset_step_apply_last (M := EReal) (fun n h => (outsAt0 m c n h).2.2.2.2.2.2.2.2.1) 16 (fun _ => 0)
    (fun t i => ((residue (A.rows (row t)).rowL (i 0) (i 1) : ℝ) : EReal))
    (fun t h0 i => by
      rw [outsAt0_A m c t h0]; frame_out; idx_vars i
      refine (rowL_at (blk_holds h t) _ _ _).trans ?_
      pointwise [k0_pay5])
    (fun t h0 i => by
      rw [outsAt0_B m c t h0]; frame_out; idx_vars i
      exact rowL_at (blk_holds h t) _ _ _) (le_of_eq N_0) t0_15 rfl i, zero_add]
  exact coe_sum Finset.univ _

/-- The layer gain's gradient. -/
theorem final20 : (dats m 0 c).arrAt 20 cfg0.N = fun i : S8x1024.Idx => ((parts A.rowP (i 0) (i 1) : ℝ) : EReal) := by
  refine (dats m 0 c).arrAt_eq_of_after_last 20 t0_15 (by decide +kernel) _ fun i => ?_
  blk_simp
  rw [after0_20, Pipeline.eq_sum_fin_of_reset_step_apply_last (M := EReal) (fun n h => (outsAt0 m c n h).2.2.2.2.2.2.2.2.2.1) 16 (fun _ => 0)
    (fun t i => ((residue (A.rows (row t)).rowP (i 0) (i 1) : ℝ) : EReal))
    (fun t h0 i => by
      rw [outsAt0_A m c t h0]; frame_out; idx_vars i
      refine Eq.trans ?_ (congrArg (fun b : EReal => 0 + b) (rowP_at (blk_holds h t) _ _))
      pointwise [k0_pay6, k0_pay2]
      rfl)
    (fun t h0 i => by
      rw [outsAt0_B m c t h0]; frame_out; idx_vars i
      refine Eq.trans ?_ (congrArg (fun b : EReal => _ + b) (rowP_at (blk_holds h t) _ _))
      pointwise [k0_pay2]
      rfl) (le_of_eq N_0) t0_15 rfl i, zero_add]
  exact coe_sum Finset.univ _

/-- The earlier gain's gradient. -/
theorem final21 : (dats m 0 c).arrAt 21 cfg0.N = fun i : S8x1024.Idx => ((parts A.rowX (i 0) (i 1) : ℝ) : EReal) := by
  refine (dats m 0 c).arrAt_eq_of_after_last 21 t0_15 (by decide +kernel) _ fun i => ?_
  blk_simp
  rw [after0_21, Pipeline.eq_sum_fin_of_reset_step_apply_last (M := EReal) (fun n h => (outsAt0 m c n h).2.2.2.2.2.2.2.2.2.2) 16 (fun _ => 0)
    (fun t i => ((residue (A.rows (row t)).rowX (i 0) (i 1) : ℝ) : EReal))
    (fun t h0 i => by
      rw [outsAt0_A m c t h0]; frame_out; idx_vars i
      refine Eq.trans ?_ (congrArg (fun b : EReal => 0 + b) (rowX_at (blk_holds h t) _ _))
      pointwise [k0_pay7, k0_pay3]
      rfl)
    (fun t h0 i => by
      rw [outsAt0_B m c t h0]; frame_out; idx_vars i
      refine Eq.trans ?_ (congrArg (fun b : EReal => _ + b) (rowX_at (blk_holds h t) _ _))
      pointwise [k0_pay3]
      rfl) (le_of_eq N_0) t0_15 rfl i, zero_add]
  exact coe_sum Finset.univ _

end Cert.Proof.Ffn

end
-- ==== Proof.Ffn.Tail.lean ====
/- The gated layer's results: the region's arrays, and what the host adds up after it. -/
module

public import proofs.«01_k».proof.Proof.Ffn.Arrays
public import proofs.«01_k».proof.Proof.Ffn.Sums

@[expose] public section

set_option maxRecDepth 16384

noncomputable section

namespace Cert.Proof.Ffn

open Idealize.ShloMosaic Idealize.ShloMosaic.TcCoe Idealize.SL.Sem
open Cert.FfnIdeal Cert.FfnIdeal.Gen

variable (m : (ℓ : Loc nD τ sig) → Buf (Elt Ideal) ℓ) (c : Dev nD)

/-- What the region leaves in the accumulators of the loss and of the norms' gains. -/
def accS : FVec Ideal S8x1024 .f32 := (dats m 0 c).arrAt 18 cfg0.N
def accL : FVec Ideal S8x1024 .f32 := (dats m 0 c).arrAt 19 cfg0.N
def accP : FVec Ideal S8x1024 .f32 := (dats m 0 c).arrAt 20 cfg0.N
def accX : FVec Ideal S8x1024 .f32 := (dats m 0 c).arrAt 21 cfg0.N

/-- The host adds an accumulator's eight rows, -/
def rowsAdded (X : FVec Ideal S8x1024 .f32) : FVec Ideal S1x1024 .f32 := fun i => ∑ j : Fin 8, X (ix2 j (i 1))
/-- or everything in it, scaled. -/
def lossOf (X : FVec Ideal S8x1024 .f32) : FVec Ideal S_ .f32 :=
  mulf (Host.reduceAdd X (constant S_ .f32 0x00000000#32) reducesTo_S8x1024_S_d0_1 h_S_) (constant S_ .f32 0x3A000000#32)

theorem tail35 : Pipeline.afterTail₀ cfgs (dats m) 0 (V0 m) [hostOps1] c main_v35 = lossOf (accS m c) := by
  unfold Pipeline.afterTail₀
  dsimp only [hostOps1, List.flatten_cons, List.flatten_nil, List.append_nil, List.cons_append, List.nil_append]
  after_results
  rw [show Pipeline.withArrays (cfgs 0).spec c (V0 m c) (fun w => (dats m 0 c).arrAt w (cfgs 0).N) (Proc.tc.devRef main_v33_7) = accS m c from
    Pipeline.withArrays_arr spec0 (by decide) c (V0 m c) _ 18]
  rfl

theorem tail37 : Pipeline.afterTail₀ cfgs (dats m) 0 (V0 m) [hostOps1] c main_v37 = rowsAdded (accL m c) := by
  unfold Pipeline.afterTail₀
  dsimp only [hostOps1, List.flatten_cons, List.flatten_nil, List.append_nil, List.cons_append, List.nil_append]
  after_results
  rw [show Pipeline.withArrays (cfgs 0).spec c (V0 m c) (fun w => (dats m 0 c).arrAt w (cfgs 0).N) (Proc.tc.devRef main_v33_8) = accL m c from
    Pipeline.withArrays_arr spec0 (by decide) c (V0 m c) _ 19]
  funext i
  idx_vars i
  pointwise [rowsAdded]

theorem tail39 : Pipeline.afterTail₀ cfgs (dats m) 0 (V0 m) [hostOps1] c main_v39 = rowsAdded (accP m c) := by
  unfold Pipeline.afterTail₀
  dsimp only [hostOps1, List.flatten_cons, List.flatten_nil, List.append_nil, List.cons_append, List.nil_append]
  after_results
  rw [show Pipeline.withArrays (cfgs 0).spec c (V0 m c) (fun w => (dats m 0 c).arrAt w (cfgs 0).N) (Proc.tc.devRef main_v33_9) = accP m c from
    Pipeline.withArrays_arr spec0 (by decide) c (V0 m c) _ 20]
  funext i
  idx_vars i
  pointwise [rowsAdded]

theorem tail41 : Pipeline.afterTail₀ cfgs (dats m) 0 (V0 m) [hostOps1] c main_v41 = rowsAdded (accX m c) := by
  unfold Pipeline.afterTail₀
  dsimp only [hostOps1, List.flatten_cons, List.flatten_nil, List.append_nil, List.cons_append, List.nil_append]
  after_results
  rw [show Pipeline.withArrays (cfgs 0).spec c (V0 m c) (fun w => (dats m 0 c).arrAt w (cfgs 0).N) (Proc.tc.devRef main_v33_10) = accX m c from
    Pipeline.withArrays_arr spec0 (by decide) c (V0 m c) _ 21]
  funext i
  idx_vars i
  pointwise [rowsAdded]

/-- The run: the results beside what the region's frame says. -/
theorem run (g : Dev nD → PrngReg) : θ_run (defs (F := Ideal)) (onTc (τ := τ) (main (F := Ideal))) ⟨m, fun _ => 0, g⟩ (fun r => ∀ c : Dev nD,
      r.2.mem ((c : Thread nD τ).loc main_v33_0) = (dats m 0 c).arrAt 11 cfg0.N
      ∧ r.2.mem ((c : Thread nD τ).loc main_v33_1) = (dats m 0 c).arrAt 12 cfg0.N
      ∧ r.2.mem ((c : Thread nD τ).loc main_v33_2) = (dats m 0 c).arrAt 13 cfg0.N
      ∧ r.2.mem ((c : Thread nD τ).loc main_v33_3) = (dats m 0 c).arrAt 14 cfg0.N
      ∧ r.2.mem ((c : Thread nD τ).loc main_v33_4) = (dats m 0 c).arrAt 15 cfg0.N
      ∧ r.2.mem ((c : Thread nD τ).loc main_v33_5) = (dats m 0 c).arrAt 16 cfg0.N
      ∧ r.2.mem ((c : Thread nD τ).loc main_v33_6) = (dats m 0 c).arrAt 17 cfg0.N
      ∧ r.2.mem ((c : Thread nD τ).loc main_v35) = lossOf (accS m c)
      ∧ r.2.mem ((c : Thread nD τ).loc main_v37) = rowsAdded (accL m c)
      ∧ r.2.mem ((c : Thread nD τ).loc main_v39) = rowsAdded (accP m c)
      ∧ r.2.mem ((c : Thread nD τ).loc main_v41) = rowsAdded (accX m c)) :=
  (θ_run _ _ _).mono (fun r h c => ⟨(h c).1 11, (h c).1 12, (h c).1 13, (h c).1 14, (h c).1 15, (h c).1 16, (h c).1 17,
    ((h c).2 main_v35 (Pipeline.mem_restRefs_of main_v35 (by decide) (by decide))).trans (tail35 m c),
    ((h c).2 main_v37 (Pipeline.mem_restRefs_of main_v37 (by decide) (by decide))).trans (tail37 m c),
    ((h c).2 main_v39 (Pipeline.mem_restRefs_of main_v39 (by decide) (by decide))).trans (tail39 m c),
    ((h c).2 main_v41 (Pipeline.mem_restRefs_of main_v41 (by decide) (by decide))).trans (tail41 m c)⟩) (run_main m g)

/-- The rows of every block and every residue are all the rows. -/
theorem sum_parts (f : Fin 4096 → Fin 1024 → ℝ) (l : Fin 1024) : ∑ j : Fin 8, parts f j l = ∑ r : Fin 4096, f r l := by
  unfold parts residue
  rw [Fin.sum_univ_tiles 16 256 rfl, Finset.sum_comm]
  refine Finset.sum_congr rfl fun t _ => ?_
  rw [Finset.sum_comm, Fin.sum_univ_tiles 32 8 rfl]

variable {m c} {A : Args 4096} (h : Real m c A)
include h

/-- The loss: over all the rows. -/
theorem loss_at (i : S_.Idx) : (lossOf (accS m c) i : EReal) = (((∑ r, ∑ l, A.sq r l) * (1 / 2048) : ℝ) : EReal) := by
  have e : ∀ j l, (accS m c (ix2 j l) : EReal) = ((parts A.sq j l : ℝ) : EReal) := fun j l => congrFun (final18 h) (ix2 j l)
  pointwise [lossOf]
  simp only [e, coe_sum, bits_half_mean, ← EReal.coe_mul, zero_add]
  refine congrArg (fun x : ℝ => ((x * (1 / 2048) : ℝ) : EReal)) ?_
  rw [Finset.sum_comm, Finset.sum_comm (s := (Finset.univ : Finset (Fin 4096)))]
  exact Finset.sum_congr rfl fun l _ => sum_parts A.sq l

/-! The gains' gradients: the sums over all the rows. -/

theorem gainL (o : Fin 1) (l : Fin 1024) : rowsAdded (accL m c) (ix2 o l) = ((∑ r, A.rowL r l : ℝ) : EReal) := by
  unfold rowsAdded
  refine (Finset.sum_congr (M := EReal) rfl fun j _ => (congrFun (final19 h) (ix2 j l) : accL m c (ix2 j l) = _)).trans ?_
  exact (coe_sum _ _).trans (congrArg ((↑) : ℝ → EReal) (sum_parts A.rowL l))

theorem gainP (o : Fin 1) (l : Fin 1024) : rowsAdded (accP m c) (ix2 o l) = ((∑ r, A.rowP r l : ℝ) : EReal) := by
  unfold rowsAdded
  refine (Finset.sum_congr (M := EReal) rfl fun j _ => (congrFun (final20 h) (ix2 j l) : accP m c (ix2 j l) = _)).trans ?_
  exact (coe_sum _ _).trans (congrArg ((↑) : ℝ → EReal) (sum_parts A.rowP l))

theorem gainX (o : Fin 1) (l : Fin 1024) : rowsAdded (accX m c) (ix2 o l) = ((∑ r, A.rowX r l : ℝ) : EReal) := by
  unfold rowsAdded
  refine (Finset.sum_congr (M := EReal) rfl fun j _ => (congrFun (final21 h) (ix2 j l) : accX m c (ix2 j l) = _)).trans ?_
  exact (coe_sum _ _).trans (congrArg ((↑) : ℝ → EReal) (sum_parts A.rowX l))

end Cert.Proof.Ffn

end
-- ==== Proof.Ffn.Reference.lean ====
/- The reference's gradients of the gated layer, stage by stage, at real arguments. -/
module

public import proofs.«01_k».proof.Proof.Ffn.Math
public import proofs.«01_k».proof.Proof.Gen.FfnRefIdeal.Run

@[expose] public section

set_option maxRecDepth 16384

noncomputable section

namespace Cert.Proof.Ffn.Ref

open Idealize.ShloMosaic Idealize.ShloMosaic.StableHlo
open Cert.FfnRefIdeal Cert.FfnRefIdeal.Gen Cert.FfnRefIdeal.Value

/-- The arguments are these reals. -/
structure Real (V : Valuation τ sig (Elt Ideal)) (A : Args 4096) : Prop where
  y : ∀ r l, (V (Proc.devRef .tc main_arg0) : FVec Ideal S4096x1024 .bf16) (ix2 r l) = ((A.y r l : ℝ) : EReal)
  x : ∀ r l, (V (Proc.devRef .tc main_arg1) : FVec Ideal S4096x1024 .f32) (ix2 r l) = ((A.x r l : ℝ) : EReal)
  t : ∀ r l, (V (Proc.devRef .tc main_arg2) : FVec Ideal S4096x1024 .f32) (ix2 r l) = ((A.t r l : ℝ) : EReal)
  wg : ∀ r l, (V (Proc.devRef .tc main_arg3) : FVec Ideal S1024x2816 .f32) (ix2 r l) = ((A.wg r l : ℝ) : EReal)
  wu : ∀ r l, (V (Proc.devRef .tc main_arg4) : FVec Ideal S1024x2816 .f32) (ix2 r l) = ((A.wu r l : ℝ) : EReal)
  wd : ∀ r l, (V (Proc.devRef .tc main_arg5) : FVec Ideal S2816x1024 .f32) (ix2 r l) = ((A.wd r l : ℝ) : EReal)
  wo : ∀ r l, (V (Proc.devRef .tc main_arg6) : FVec Ideal S1024x1024 .f32) (ix2 r l) = ((A.wo r l : ℝ) : EReal)
  gx : ∀ l, (V (Proc.devRef .tc main_arg7) : FVec Ideal S1x1024 .f32) (ix2 (0 : Fin 1) l) = ((A.gx l : ℝ) : EReal)
  gp : ∀ l, (V (Proc.devRef .tc main_arg8) : FVec Ideal S1x1024 .f32) (ix2 (0 : Fin 1) l) = ((A.gp l : ℝ) : EReal)
  gl : ∀ l, (V (Proc.devRef .tc main_arg9) : FVec Ideal S1x1024 .f32) (ix2 (0 : Fin 1) l) = ((A.gl l : ℝ) : EReal)

variable {V : Valuation τ sig (Elt Ideal)} {A : Args 4096} (H : Real V A)
include H

theorem v0 (r : Fin 4096) (l : Fin 1024) : (res_main_v0 V (ix2 r l) : EReal) = ((A.y r l : ℝ) : EReal) := H.y r l

theorem v7 (r : Fin 4096) (o : Fin 1) : (res_main_v7 V (ix2 r o) : EReal) = ((ms (A.y r) : ℝ) : EReal) := by
  pointwise [res_main_v7]
  simp only [v0 H, ← EReal.coe_mul, coe_sum, bits_1024, bits_eps, zero_add]
  rw [div_real (by norm_num), ← EReal.coe_add]
  rfl

theorem v8 (r : Fin 4096) (o : Fin 1) : (res_main_v8 V (ix2 r o) : EReal) = ((rs (A.y r) : ℝ) : EReal) :=
  (congrArg Ideal.rsqrt (v7 H r o)).trans (rsqrt_real (ms_pos (A.y r)))

theorem v13 (r : Fin 4096) (l : Fin 1024) : (res_main_v13 V (ix2 r l) : EReal) = ((A.y r l * rs (A.y r) : ℝ) : EReal) := by
  pointwise [res_main_v13]
  simp only [v0 H, v8 H, ← EReal.coe_mul]

/-- The hidden state, its norm, -/
theorem v16 (r : Fin 4096) (l : Fin 1024) : (res_main_v16 V (ix2 r l) : EReal) = ((A.hid r l : ℝ) : EReal) := by
  pointwise [res_main_v16]
  simp only [v13 H, H.x, H.gx, ← EReal.coe_mul, ← EReal.coe_add]
  rfl

theorem v23 (r : Fin 4096) (o : Fin 1) : (res_main_v23 V (ix2 r o) : EReal) = ((ms (A.hid r) : ℝ) : EReal) := by
  pointwise [res_main_v23]
  simp only [v16 H, ← EReal.coe_mul, coe_sum, bits_1024, bits_eps, zero_add]
  rw [div_real (by norm_num), ← EReal.coe_add]
  rfl

theorem v24 (r : Fin 4096) (o : Fin 1) : (res_main_v24 V (ix2 r o) : EReal) = ((rs (A.hid r) : ℝ) : EReal) :=
  (congrArg Ideal.rsqrt (v23 H r o)).trans (rsqrt_real (ms_pos (A.hid r)))

theorem v29 (r : Fin 4096) (l : Fin 1024) : (res_main_v29 V (ix2 r l) : EReal) = ((A.hid r l * rs (A.hid r) : ℝ) : EReal) := by
  pointwise [res_main_v29]
  simp only [v16 H, v24 H, ← EReal.coe_mul]

theorem v31 (r : Fin 4096) (l : Fin 1024) : (res_main_v31 V (ix2 r l) : EReal) = ((A.un r l : ℝ) : EReal) := by
  pointwise [res_main_v31]
  simp only [v29 H, H.gp, ← EReal.coe_mul]
  rfl

/-- the gate's argument and what it gates, -/
theorem v32 (r : Fin 4096) (l : Fin 2816) : (res_main_v32 V (ix2 r l) : EReal) = ((A.gate r l : ℝ) : EReal) := by
  pointwise [res_main_v32]
  simp only [v31 H, H.wg, ← EReal.coe_mul, coe_sum]
  rfl

theorem v33 (r : Fin 4096) (l : Fin 2816) : (res_main_v33 V (ix2 r l) : EReal) = ((A.up r l : ℝ) : EReal) := by
  pointwise [res_main_v33]
  simp only [v31 H, H.wu, ← EReal.coe_mul, coe_sum]
  rfl

/-- the logistic function, -/
theorem v34_2 (r : Fin 4096) (q : Fin 2816) : (res_main_v34_2 V (ix2 r q) : EReal) = ((sg (A.gate r q) : ℝ) : EReal) := by
  pointwise [res_main_v34_2]
  simp only [v32 H, ← EReal.coe_neg, Ideal.exp_coe, show (1 : EReal) = ((1 : ℝ) : EReal) from rfl, ← EReal.coe_add]
  exact div_real (sg_pos _).ne'

theorem v34_0 (r : Fin 4096) (l : Fin 2816) : (res_main_v34_0 V (ix2 r l) : EReal) = ((A.gate r l * sg (A.gate r l) : ℝ) : EReal) := by
  pointwise [res_main_v34_0]
  simp only [v32 H, v34_2 H, ← EReal.coe_mul]

/-- the gated activation, the output, -/
theorem v35 (r : Fin 4096) (l : Fin 2816) : (res_main_v35 V (ix2 r l) : EReal) = ((A.act r l : ℝ) : EReal) := by
  pointwise [res_main_v35]
  simp only [v34_0 H, v33 H, ← EReal.coe_mul]
  rfl

theorem v36 (r : Fin 4096) (l : Fin 1024) : (res_main_v36 V (ix2 r l) : EReal) = ((A.out r l : ℝ) : EReal) := by
  pointwise [res_main_v36]
  simp only [v35 H, H.wd, ← EReal.coe_mul, coe_sum]
  rfl

theorem v43 (r : Fin 4096) (o : Fin 1) : (res_main_v43 V (ix2 r o) : EReal) = ((ms (A.out r) : ℝ) : EReal) := by
  pointwise [res_main_v43]
  simp only [v36 H, ← EReal.coe_mul, coe_sum, bits_1024, bits_eps, zero_add]
  rw [div_real (by norm_num), ← EReal.coe_add]
  rfl

theorem v44 (r : Fin 4096) (o : Fin 1) : (res_main_v44 V (ix2 r o) : EReal) = ((rs (A.out r) : ℝ) : EReal) :=
  (congrArg Ideal.rsqrt (v43 H r o)).trans (rsqrt_real (ms_pos (A.out r)))

theorem v49 (r : Fin 4096) (l : Fin 1024) : (res_main_v49 V (ix2 r l) : EReal) = ((A.out r l * rs (A.out r) : ℝ) : EReal) := by
  pointwise [res_main_v49]
  simp only [v36 H, v44 H, ← EReal.coe_mul]

/-- the distance from the target, -/
theorem v53 (r : Fin 4096) (l : Fin 1024) : (res_main_v53 V (ix2 r l) : EReal) = ((A.err r l : ℝ) : EReal) := by
  pointwise [res_main_v53]
  simp only [v16 H, v49 H, H.gl, H.t, ← EReal.coe_mul, ← EReal.coe_add, ← EReal.coe_sub]
  rfl

/-- the loss's gradient, -/
theorem v67 (r : Fin 4096) (l : Fin 1024) : (res_main_v67 V (ix2 r l) : EReal) = ((A.dh3 r l : ℝ) : EReal) := by
  pointwise [res_main_v67]
  simp only [v53 H, bits_half, bits_two, bits_1024, show (1 : EReal) = ((1 : ℝ) : EReal) from rfl, ← EReal.coe_mul, div_real (show (1024 : ℝ) ≠ 0 by norm_num)]
  refine congrArg _ ?_
  unfold Args.dh3
  ring

theorem v72 (r : Fin 4096) (l : Fin 1024) : (res_main_v72 V (ix2 r l) : EReal) = ((A.dh3 r l * A.gl l : ℝ) : EReal) := by
  pointwise [res_main_v72]
  simp only [v67 H, H.gl, ← EReal.coe_mul]

theorem v82 (r : Fin 4096) (l : Fin 1024) : (res_main_v82 V (ix2 r l) : EReal)
    = (((∑ k, A.out r k * (A.dh3 r k * A.gl k)) * (-(1 / 2) * (rs (A.out r) / ms (A.out r))) / 1024 : ℝ) : EReal) := by
  pointwise [res_main_v82]
  simp only [v36 H, v72 H, v44 H, v43 H, bits_1024, bits_neg_half, ← EReal.coe_mul, coe_sum, zero_add, div_real (ms_pos (A.out r)).ne', div_real (show (1024 : ℝ) ≠ 0 by norm_num), Fin.sum_univ_one]

/-- through the last norm and product, -/
theorem v86 (r : Fin 4096) (l : Fin 1024) : (res_main_v86 V (ix2 r l) : EReal) = ((A.dout r l : ℝ) : EReal) := by
  pointwise [res_main_v86]
  simp only [v72 H, v44 H, v36 H, v82 H, ← EReal.coe_mul, ← EReal.coe_add]
  refine congrArg _ ?_
  unfold Args.dout
  rw [← gradNorm_eq]
  ring

theorem v87 (r : Fin 4096) (l : Fin 2816) : (res_main_v87 V (ix2 r l) : EReal) = ((A.dact r l : ℝ) : EReal) := by
  pointwise [res_main_v87]
  simp only [v86 H, H.wd, ← EReal.coe_mul, coe_sum]
  rfl

/-- through the gate, -/
theorem v88 (r : Fin 4096) (l : Fin 2816) : (res_main_v88 V (ix2 r l) : EReal) = ((A.dup r l : ℝ) : EReal) := by
  pointwise [res_main_v88]
  simp only [v34_0 H, v87 H, ← EReal.coe_mul]
  refine congrArg _ ?_
  unfold Args.dup
  ring

theorem v89 (r : Fin 4096) (l : Fin 2816) : (res_main_v89 V (ix2 r l) : EReal) = ((A.dact r l * A.up r l : ℝ) : EReal) := by
  pointwise [res_main_v89]
  simp only [v87 H, v33 H, ← EReal.coe_mul]

theorem v90 (r : Fin 4096) (l : Fin 2816) : (res_main_v90 V (ix2 r l) : EReal) = ((A.dgate r l : ℝ) : EReal) := by
  pointwise [res_main_v90]
  simp only [v89 H, v34_2 H, v32 H, show (1 : EReal) = ((1 : ℝ) : EReal) from rfl, ← EReal.coe_mul, ← EReal.coe_sub, ← EReal.coe_add]
  refine congrArg _ ?_
  unfold Args.dgate
  ring

/-- through the two products, -/
theorem v93 (r : Fin 4096) (l : Fin 1024) : (res_main_v93 V (ix2 r l) : EReal) = ((A.du r l : ℝ) : EReal) := by
  pointwise [res_main_v93]
  simp only [v88 H, v90 H, H.wg, H.wu, ← EReal.coe_mul, coe_sum, ← EReal.coe_add]
  exact congrArg _ (add_comm _ _)

theorem v98 (r : Fin 4096) (l : Fin 1024) : (res_main_v98 V (ix2 r l) : EReal) = ((A.du r l * A.gp l : ℝ) : EReal) := by
  pointwise [res_main_v98]
  simp only [v93 H, H.gp, ← EReal.coe_mul]

theorem v108 (r : Fin 4096) (l : Fin 1024) : (res_main_v108 V (ix2 r l) : EReal)
    = (((∑ k, A.hid r k * (A.du r k * A.gp k)) * (-(1 / 2) * (rs (A.hid r) / ms (A.hid r))) / 1024 : ℝ) : EReal) := by
  pointwise [res_main_v108]
  simp only [v16 H, v98 H, v24 H, v23 H, bits_1024, bits_neg_half, ← EReal.coe_mul, coe_sum, zero_add, div_real (ms_pos (A.hid r)).ne', div_real (show (1024 : ℝ) ≠ 0 by norm_num), Fin.sum_univ_one]

/-- through the norm before them, -/
theorem v113 (r : Fin 4096) (l : Fin 1024) : (res_main_v113 V (ix2 r l) : EReal) = ((A.dh r l : ℝ) : EReal) := by
  pointwise [res_main_v113]
  simp only [v67 H, v98 H, v24 H, v16 H, v108 H, ← EReal.coe_mul, ← EReal.coe_add]
  refine congrArg _ ?_
  unfold Args.dh
  rw [← gradNorm_eq]
  ring

theorem v118 (r : Fin 4096) (l : Fin 1024) : (res_main_v118 V (ix2 r l) : EReal) = ((A.dh r l * A.gx l : ℝ) : EReal) := by
  pointwise [res_main_v118]
  simp only [v113 H, H.gx, ← EReal.coe_mul]

theorem v128 (r : Fin 4096) (l : Fin 1024) : (res_main_v128 V (ix2 r l) : EReal)
    = (((∑ k, A.y r k * (A.dh r k * A.gx k)) * (-(1 / 2) * (rs (A.y r) / ms (A.y r))) / 1024 : ℝ) : EReal) := by
  pointwise [res_main_v128]
  simp only [v0 H, v118 H, v8 H, v7 H, bits_1024, bits_neg_half, ← EReal.coe_mul, coe_sum, zero_add, div_real (ms_pos (A.y r)).ne', div_real (show (1024 : ℝ) ≠ 0 by norm_num), Fin.sum_univ_one]

/-- through the norm of the block before, -/
theorem v132 (r : Fin 4096) (l : Fin 1024) : (res_main_v132 V (ix2 r l) : EReal) = ((A.dy r l : ℝ) : EReal) := by
  pointwise [res_main_v132]
  simp only [v118 H, v8 H, v0 H, v128 H, ← EReal.coe_mul, ← EReal.coe_add]
  refine congrArg _ ?_
  unfold Args.dy
  rw [← gradNorm_eq]
  ring

/-- and through its last product. -/
theorem v134 (r : Fin 4096) (j : Fin 1024) : ((Host.dotGeneral (φ₁ := .f32) (φ₂ := .f32) dot_S4096x1024_S1024x1024_S4096x1024_1_1_0_0_n_n none (res_main_v132 V) (V (Proc.devRef .tc main_arg6)) : FVec Ideal S4096x1024 .f32) (ix2 r j) : EReal)
    = ((A.dox r j : ℝ) : EReal) := by
  pointwise
  simp only [v132 H, H.wo, ← EReal.coe_mul, coe_sum]
  rfl

/-- The loss. -/
theorem v61 (i : S_.Idx) : ((mulf (constant S_ .f32 0x3F000000#32) (Host.reduceAdd (Host.divf (Host.reduceAdd (mulf (res_main_v53 V) (res_main_v53 V)) (constant S_ .f32 0x00000000#32) reducesTo_S4096x1024_S4096_d1 h_S_) (broadcastInDim S4096 ![] bcast_S_S4096 (constant S_ .f32 0x44800000#32))) (constant S_ .f32 0x00000000#32) reducesTo_S4096_S_d0 h_S_) : FVec Ideal S_ .f32) i : EReal)
    = (((∑ r, ∑ l, A.sq r l) * (1 / 2048) : ℝ) : EReal) := by
  pointwise
  simp only [v53 H, bits_half, bits_1024, ← EReal.coe_mul, coe_sum, zero_add, div_real (show (1024 : ℝ) ≠ 0 by norm_num)]
  refine congrArg _ ?_
  rw [← Finset.sum_div]
  unfold Args.sq
  ring

/-! The three gains' gradients. -/

theorem v70 (o : Fin 1) (l : Fin 1024) : ((shapeCast S1x1024 (Host.reduceAdd (mulf (res_main_v49 V) (res_main_v67 V)) (constant S_ .f32 0x00000000#32) reducesTo_S4096x1024_S1024_d0 h_S_ : FVec Ideal S1024 .f32) shapeCasts_S1024_S1x1024 : FVec Ideal S1x1024 .f32) (ix2 o l) : EReal)
    = ((∑ r, A.rowL r l : ℝ) : EReal) := by
  pointwise
  simp only [v49 H, v67 H, ← EReal.coe_mul, coe_sum, zero_add]
  exact congrArg _ (Finset.sum_congr rfl fun r _ => mul_comm _ _)

theorem v96 (o : Fin 1) (l : Fin 1024) : ((shapeCast S1x1024 (Host.reduceAdd (mulf (res_main_v29 V) (res_main_v93 V)) (constant S_ .f32 0x00000000#32) reducesTo_S4096x1024_S1024_d0 h_S_ : FVec Ideal S1024 .f32) shapeCasts_S1024_S1x1024 : FVec Ideal S1x1024 .f32) (ix2 o l) : EReal)
    = ((∑ r, A.rowP r l : ℝ) : EReal) := by
  pointwise
  simp only [v29 H, v93 H, ← EReal.coe_mul, coe_sum, zero_add]
  exact congrArg _ (Finset.sum_congr rfl fun r _ => mul_comm _ _)

theorem v116 (o : Fin 1) (l : Fin 1024) : ((shapeCast S1x1024 (Host.reduceAdd (mulf (res_main_v13 V) (res_main_v113 V)) (constant S_ .f32 0x00000000#32) reducesTo_S4096x1024_S1024_d0 h_S_ : FVec Ideal S1024 .f32) shapeCasts_S1024_S1x1024 : FVec Ideal S1x1024 .f32) (ix2 o l) : EReal)
    = ((∑ r, A.rowX r l : ℝ) : EReal) := by
  pointwise
  simp only [v13 H, v113 H, ← EReal.coe_mul, coe_sum, zero_add]
  exact congrArg _ (Finset.sum_congr rfl fun r _ => mul_comm _ _)

omit H in
/-- The rounding of a result changes no real. -/
theorem cut1024 (X : FVec Ideal S4096x1024 .f32) (r : Fin 4096) (x : Fin 1024) :
    ((truncf .bf16 X bitsLt_bf16_f32 : FVec Ideal S4096x1024 .bf16) (ix2 r x) : EReal) = X (ix2 r x) := by
  pointwise

omit H in
/-- The rounding of a result changes no real. -/
theorem cut2816 (X : FVec Ideal S4096x2816 .f32) (r : Fin 4096) (x : Fin 2816) :
    ((truncf .bf16 X bitsLt_bf16_f32 : FVec Ideal S4096x2816 .bf16) (ix2 r x) : EReal) = X (ix2 r x) := by
  pointwise

end Cert.Proof.Ffn.Ref

end
-- ==== Proof.Ffn.Value.lean ====
/- The gated layer, its norms and the loss: the kernel's eleven results are the reference's. -/
module

public import proofs.«01_k».proof.Defs
public import proofs.«01_k».proof.Proof.Ffn.Tail
public import proofs.«01_k».proof.Proof.Ffn.Reference
public import proofs.«01_k».proof.Proof.Gen.Pre_finite_ffn

@[expose] public section

set_option maxRecDepth 16384

noncomputable section

namespace Cert.Proof.Ffn

open Idealize.ShloMosaic Idealize.ShloMosaic.TcCoe Idealize.SL.Sem
open Cert.FfnIdeal.Gen

/-- The reference runs, keeps its arguments and leaves every counter at zero. -/
theorem frame_ref : Cert.quiescent_FfnRefIdeal (hFfnRefIdeal := Cert.FfnRefIdeal.Gen.facts) := fun m ρ _ =>
  (θ_run Cert.FfnRefIdeal.defs _ _).mono (fun r h => ⟨fun c => (h c).2.2.2.2.2.2.2.2.2.2.2, sem_eq_zero_of_no_sems (by decide) r.2⟩) (Cert.FfnRefIdeal.Value.run m ρ)

/-- The finiteness precondition makes the argument arrays real, in both programs. -/
theorem real_of_pre (hP : Cert.Pre_finite_ffn.Facts) (m : (ℓ : Loc Cert.FfnIdeal.nD Cert.FfnIdeal.τ Cert.FfnIdeal.sig) → Buf (Elt Ideal) ℓ)
    (h : Cert.Pre_FfnIdeal_finite_ffn (hPre_finite_ffn := hP) m) (c : Dev Cert.FfnIdeal.nD) (V : Valuation Cert.FfnRefIdeal.τ Cert.FfnRefIdeal.sig (Elt Ideal))
    (h0 : V (Proc.devRef .tc Cert.FfnRefIdeal.main_arg0) = m (c, Proc.devRef .tc Cert.FfnIdeal.main_arg0))
    (h1 : V (Proc.devRef .tc Cert.FfnRefIdeal.main_arg1) = m (c, Proc.devRef .tc Cert.FfnIdeal.main_arg1))
    (h2 : V (Proc.devRef .tc Cert.FfnRefIdeal.main_arg2) = m (c, Proc.devRef .tc Cert.FfnIdeal.main_arg2))
    (h3 : V (Proc.devRef .tc Cert.FfnRefIdeal.main_arg3) = m (c, Proc.devRef .tc Cert.FfnIdeal.main_arg3))
    (h4 : V (Proc.devRef .tc Cert.FfnRefIdeal.main_arg4) = m (c, Proc.devRef .tc Cert.FfnIdeal.main_arg4))
    (h5 : V (Proc.devRef .tc Cert.FfnRefIdeal.main_arg5) = m (c, Proc.devRef .tc Cert.FfnIdeal.main_arg5))
    (h6 : V (Proc.devRef .tc Cert.FfnRefIdeal.main_arg6) = m (c, Proc.devRef .tc Cert.FfnIdeal.main_arg6))
    (h7 : V (Proc.devRef .tc Cert.FfnRefIdeal.main_arg7) = m (c, Proc.devRef .tc Cert.FfnIdeal.main_arg7))
    (h8 : V (Proc.devRef .tc Cert.FfnRefIdeal.main_arg8) = m (c, Proc.devRef .tc Cert.FfnIdeal.main_arg8))
    (h9 : V (Proc.devRef .tc Cert.FfnRefIdeal.main_arg9) = m (c, Proc.devRef .tc Cert.FfnIdeal.main_arg9)) :
    ∃ A, Real m c A ∧ Ref.Real V A := by
  obtain ⟨e0, e1, e2, e3, e4, e5, e6, e7, e8, e9⟩ := h c
  obtain ⟨X0, hX0⟩ := reals_of_finite e0 fun _ => rfl
  obtain ⟨X1, hX1⟩ := reals_of_finite e1 fun _ => rfl
  obtain ⟨X2, hX2⟩ := reals_of_finite e2 fun _ => rfl
  obtain ⟨X3, hX3⟩ := reals_of_finite e3 fun _ => rfl
  obtain ⟨X4, hX4⟩ := reals_of_finite e4 fun _ => rfl
  obtain ⟨X5, hX5⟩ := reals_of_finite e5 fun _ => rfl
  obtain ⟨X6, hX6⟩ := reals_of_finite e6 fun _ => rfl
  obtain ⟨X7, hX7⟩ := reals_of_finite e7 fun _ => rfl
  obtain ⟨X8, hX8⟩ := reals_of_finite e8 fun _ => rfl
  obtain ⟨X9, hX9⟩ := reals_of_finite e9 fun _ => rfl
  exact ⟨⟨fun r l => X0 (ix2 r l), fun r l => X1 (ix2 r l), fun r l => X2 (ix2 r l), fun r l => X3 (ix2 r l), fun r l => X4 (ix2 r l), fun r l => X5 (ix2 r l), fun r l => X6 (ix2 r l), fun l => X7 (ix2 0 l), fun l => X8 (ix2 0 l), fun l => X9 (ix2 0 l)⟩,
    ⟨fun _ _ => congrFun hX0 _, fun _ _ => congrFun hX1 _, fun _ _ => congrFun hX2 _, fun _ _ => congrFun hX3 _, fun _ _ => congrFun hX4 _, fun _ _ => congrFun hX5 _, fun _ _ => congrFun hX6 _, fun _ => congrFun hX7 _, fun _ => congrFun hX8 _, fun _ => congrFun hX9 _⟩,
    ⟨fun _ _ => (congrFun h0 _).trans (congrFun hX0 _), fun _ _ => (congrFun h1 _).trans (congrFun hX1 _), fun _ _ => (congrFun h2 _).trans (congrFun hX2 _), fun _ _ => (congrFun h3 _).trans (congrFun hX3 _), fun _ _ => (congrFun h4 _).trans (congrFun hX4 _), fun _ _ => (congrFun h5 _).trans (congrFun hX5 _), fun _ _ => (congrFun h6 _).trans (congrFun hX6 _), fun _ => (congrFun h7 _).trans (congrFun hX7 _), fun _ => (congrFun h8 _).trans (congrFun hX8 _), fun _ => (congrFun h9 _).trans (congrFun hX9 _)⟩⟩

set_option maxHeartbeats 8000000 in
/-- The two programs' results agree. -/
theorem algebraic (hP : Cert.Pre_finite_ffn.Facts) : Cert.algebraic_FfnIdeal_FfnRefIdeal_pre_finite_ffn (hPre_finite_ffn := hP) (hFfnIdeal := Cert.FfnIdeal.Gen.facts) (hFfnRefIdeal := Cert.FfnRefIdeal.Gen.facts) := by
  intro m g m' g' hpre hagree
  have hG : ∀ c, ∃ A, Real m c A ∧ Ref.Real (StableHlo.launchContents m' c) A := fun c => by
    obtain ⟨e0, e1, e2, e3, e4, e5, e6, e7, e8, e9⟩ := hagree c
    exact real_of_pre hP m hpre c _ e0 e1 e2 e3 e4 e5 e6 e7 e8 e9
  refine ⟨fun c => (dats m 0 c).arrAt 11 Cert.FfnIdeal.cfg0.N, fun c => (dats m 0 c).arrAt 12 Cert.FfnIdeal.cfg0.N, fun c => (dats m 0 c).arrAt 13 Cert.FfnIdeal.cfg0.N, fun c => (dats m 0 c).arrAt 14 Cert.FfnIdeal.cfg0.N, fun c => (dats m 0 c).arrAt 15 Cert.FfnIdeal.cfg0.N, fun c => (dats m 0 c).arrAt 16 Cert.FfnIdeal.cfg0.N, fun c => (dats m 0 c).arrAt 17 Cert.FfnIdeal.cfg0.N, fun c => lossOf (accS m c), fun c => rowsAdded (accL m c), fun c => rowsAdded (accP m c), fun c => rowsAdded (accX m c),
    (θ_run _ _ _).mono (fun r h c => ⟨(h.1 c).1, (h.1 c).2.1, (h.1 c).2.2.1, (h.1 c).2.2.2.1, (h.1 c).2.2.2.2.1, (h.1 c).2.2.2.2.2.1, (h.1 c).2.2.2.2.2.2.1, (h.1 c).2.2.2.2.2.2.2.1, (h.1 c).2.2.2.2.2.2.2.2.1, (h.1 c).2.2.2.2.2.2.2.2.2.1, (h.1 c).2.2.2.2.2.2.2.2.2.2, h.2 c⟩) (θ_run_and (run m g) (unchanged m g)),
    (θ_run _ _ _).mono (fun r h c => ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2.1.trans ?_, (h c).2.2.2.2.2.2.2.2.1.trans ?_, (h c).2.2.2.2.2.2.2.2.2.1.trans ?_, (h c).2.2.2.2.2.2.2.2.2.2.1.trans ?_, (h c).2.2.2.2.2.2.2.2.2.2.2⟩) (Cert.FfnRefIdeal.Value.run m' g')⟩
  · obtain ⟨A, hA, hR⟩ := hG c
    refine Eq.trans ?_ (final11 hA).symm
    funext i
    idx_vars i
    exact (Ref.cut2816 _ _ _).trans (Ref.v35 hR _ _)
  · obtain ⟨A, hA, hR⟩ := hG c
    refine Eq.trans ?_ (final12 hA).symm
    funext i
    idx_vars i
    exact (Ref.cut1024 _ _ _).trans (Ref.v86 hR _ _)
  · obtain ⟨A, hA, hR⟩ := hG c
    refine Eq.trans ?_ (final13 hA).symm
    funext i
    idx_vars i
    exact (Ref.cut2816 _ _ _).trans (Ref.v90 hR _ _)
  · obtain ⟨A, hA, hR⟩ := hG c
    refine Eq.trans ?_ (final14 hA).symm
    funext i
    idx_vars i
    exact (Ref.cut2816 _ _ _).trans (Ref.v88 hR _ _)
  · obtain ⟨A, hA, hR⟩ := hG c
    refine Eq.trans ?_ (final15 hA).symm
    funext i
    idx_vars i
    exact Ref.v113 hR _ _
  · obtain ⟨A, hA, hR⟩ := hG c
    refine Eq.trans ?_ (final16 hA).symm
    funext i
    idx_vars i
    exact (Ref.cut1024 _ _ _).trans (Ref.v132 hR _ _)
  · obtain ⟨A, hA, hR⟩ := hG c
    refine Eq.trans ?_ (final17 hA).symm
    funext i
    idx_vars i
    exact (Ref.cut1024 _ _ _).trans (Ref.v134 hR _ _)
  · obtain ⟨A, hA, hR⟩ := hG c
    funext i
    exact (Ref.v61 hR i).trans (loss_at hA i).symm
  · obtain ⟨A, hA, hR⟩ := hG c
    funext i
    idx_vars i
    exact (Ref.v70 hR _ _).trans (gainL hA _ _).symm
  · obtain ⟨A, hA, hR⟩ := hG c
    funext i
    idx_vars i
    exact (Ref.v96 hR _ _).trans (gainP hA _ _).symm
  · obtain ⟨A, hA, hR⟩ := hG c
    funext i
    idx_vars i
    exact (Ref.v116 hR _ _).trans (gainX hA _ _).symm

end Cert.Proof.Ffn

end
-- ==== Proof.lean ====
/- The certificate: the frames, and each value claim as the modules of `Proof/` assemble it. -/
module

public import proofs.«01_k».proof.Defs
public import proofs.«01_k».proof.Proof.Gen.Du
public import proofs.«01_k».proof.Proof.Gen.Du.Skeleton
public import proofs.«01_k».proof.Proof.Gen.Du.Launch
public import proofs.«01_k».proof.Proof.Gen.Du.Points
public import proofs.«01_k».proof.Proof.Gen.Du.Frame
public import proofs.«01_k».proof.Proof.Gen.DuIdeal
public import proofs.«01_k».proof.Proof.Gen.DuIdeal.Skeleton
public import proofs.«01_k».proof.Proof.Gen.DuIdeal.Launch
public import proofs.«01_k».proof.Proof.Gen.DuIdeal.Points
public import proofs.«01_k».proof.Proof.Gen.DuIdeal.Frame
public import proofs.«01_k».proof.Proof.Gen.DuRefIdeal.Run
public import proofs.«01_k».proof.Proof.Gen.DuRefIdeal.Read
public import proofs.«01_k».proof.Proof.Gen.DuRefIdeal
public import proofs.«01_k».proof.Proof.Gen.Pre_finite_du
public import proofs.«01_k».proof.Proof.Gen.Swa
public import proofs.«01_k».proof.Proof.Gen.SwaIdeal
public import proofs.«01_k».proof.Proof.Gen.SwaIdeal.Skeleton
public import proofs.«01_k».proof.Proof.Gen.SwaIdeal.Launch
public import proofs.«01_k».proof.Proof.Gen.SwaIdeal.Points
public import proofs.«01_k».proof.Proof.Gen.SwaIdeal.Frame
public import proofs.«01_k».proof.Proof.Gen.SwaRefIdeal
public import proofs.«01_k».proof.Proof.Gen.SwaRefIdeal.Run
public import proofs.«01_k».proof.Proof.Gen.Pre_finite_swa
public import proofs.«01_k».proof.Proof.Gen.Cross
public import proofs.«01_k».proof.Proof.Gen.CrossIdeal
public import proofs.«01_k».proof.Proof.Gen.CrossIdeal.Skeleton
public import proofs.«01_k».proof.Proof.Gen.CrossIdeal.Launch
public import proofs.«01_k».proof.Proof.Gen.CrossIdeal.Points
public import proofs.«01_k».proof.Proof.Gen.CrossIdeal.Frame
public import proofs.«01_k».proof.Proof.Gen.CrossRefIdeal
public import proofs.«01_k».proof.Proof.Gen.CrossRefIdeal.Run
public import proofs.«01_k».proof.Proof.Gen.Pre_finite_x
public import proofs.«01_k».proof.Proof.Gen.Memory
public import proofs.«01_k».proof.Proof.Gen.Memory.Skeleton
public import proofs.«01_k».proof.Proof.Gen.Memory.Launch
public import proofs.«01_k».proof.Proof.Gen.Memory.Points
public import proofs.«01_k».proof.Proof.Gen.Memory.Frame
public import proofs.«01_k».proof.Proof.Gen.MemoryIdeal
public import proofs.«01_k».proof.Proof.Gen.MemoryIdeal.Skeleton
public import proofs.«01_k».proof.Proof.Gen.MemoryIdeal.Launch
public import proofs.«01_k».proof.Proof.Gen.MemoryIdeal.Points
public import proofs.«01_k».proof.Proof.Gen.MemoryIdeal.Frame
public import proofs.«01_k».proof.Proof.Gen.MemoryRefIdeal
public import proofs.«01_k».proof.Proof.Gen.MemoryRefIdeal.Run
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnRefIdeal
public import proofs.«01_k».proof.Proof.Gen.FfnRefIdeal.Run
public import proofs.«01_k».proof.Proof.Gen.Pre_finite_ffn
public import proofs.«01_k».proof.Proof.Du.Value
public import proofs.«01_k».proof.Proof.Swa.Value
public import proofs.«01_k».proof.Proof.Cross.Value
public import Idealize.ShloMosaic.Adequacy
public import Idealize.ShloMosaic.Init
public import proofs.«01_k».proof.Proof.Memory.Value
public import proofs.«01_k».proof.Proof.Ffn.Value

@[expose] public section

noncomputable section

namespace Cert.Proof

open Idealize.ShloMosaic Idealize.SL.Sem Cert.Du

theorem claim : Cert.Claim := ⟨Cert.Du.Gen.facts, Cert.DuIdeal.Gen.facts, Cert.DuRefIdeal.Gen.facts,
  Cert.Swa.Gen.facts, Cert.SwaIdeal.Gen.facts, Cert.SwaRefIdeal.Gen.facts,
  Cert.Cross.Gen.facts, Cert.CrossIdeal.Gen.facts, Cert.CrossRefIdeal.Gen.facts,
  Cert.Memory.Gen.facts, Cert.MemoryIdeal.Gen.facts, Cert.MemoryRefIdeal.Gen.facts,
  Cert.Ffn.Gen.facts, Cert.FfnIdeal.Gen.facts, Cert.FfnRefIdeal.Gen.facts,
  Cert.Pre_finite_du.Gen.facts, Cert.Pre_finite_swa.Gen.facts, Cert.Pre_finite_x.Gen.facts, Cert.Pre_finite_ffn.Gen.facts,
  fun m ρ _ => Cert.Du.Gen.frame m ρ,
  fun m ρ _ => Cert.DuIdeal.Gen.frame m ρ,
  fun m ρ _ => Cert.DuIdeal.Gen.frame m ρ,
  Cert.Proof.Du.frame_ref,
  fun m ρ _ => Cert.Proof.Du.frame_ref m ρ trivial,
  Cert.Proof.Swa.frame_swa,
  fun m ρ _ => Cert.Proof.Swa.frame m ρ,
  fun m ρ _ => Cert.Proof.Swa.frame m ρ,
  Cert.Proof.Swa.frame_ref,
  fun m ρ _ => Cert.Proof.Swa.frame_ref m ρ trivial,
  Cert.Proof.Cross.frame_cross,
  fun m ρ _ => Cert.Proof.Cross.frame m ρ,
  fun m ρ _ => Cert.Proof.Cross.frame m ρ,
  Cert.Proof.Cross.frame_ref,
  fun m ρ _ => Cert.Proof.Cross.frame_ref m ρ trivial,
  fun m ρ _ => Cert.Memory.Gen.frame m ρ,
  fun m ρ _ => Cert.MemoryIdeal.Gen.frame m ρ,
  Cert.Proof.Memory.frame_ref,
  fun m ρ _ => Cert.Ffn.Gen.frame m ρ,
  fun m ρ _ => Cert.FfnIdeal.Gen.frame m ρ,
  fun m ρ _ => Cert.FfnIdeal.Gen.frame m ρ,
  Cert.Proof.Ffn.frame_ref,
  fun m ρ _ => Cert.Proof.Ffn.frame_ref m ρ trivial,
  trivial,
  Cert.Proof.Du.algebraic Cert.Pre_finite_du.Gen.facts,
  trivial,
  Cert.Proof.Swa.algebraic Cert.Pre_finite_swa.Gen.facts,
  trivial,
  Cert.Proof.Cross.algebraic Cert.Pre_finite_x.Gen.facts,
  trivial,
  Cert.Proof.Memory.algebraic,
  trivial,
  Cert.Proof.Ffn.algebraic Cert.Pre_finite_ffn.Gen.facts⟩

end Cert.Proof

end
